-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_with_ones_lane [hPre_finite_with_ones_lane : Cert.Pre_finite_with_ones_lane.Facts] (m : (ℓ : Loc Cert.KernelIdeal.nD Cert.KernelIdeal.τ Cert.KernelIdeal.sig) → Buf (Elt Ideal) ℓ) : Prop :=
  ∀ c : Dev Cert.KernelIdeal.nD,
    (Cert.Pre_finite_with_ones_lane.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_with_ones_lane [hPre_finite_with_ones_lane : Cert.Pre_finite_with_ones_lane.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_with_ones_lane.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 [hPre_rows_then_blanks : Cert.Pre_rows_then_blanks.Facts] (m : (ℓ : Loc Cert.Kernel2.nD Cert.Kernel2.τ Cert.Kernel2.sig) → Buf (Elt Bits) ℓ) : Prop :=
  ∀ c : Dev Cert.Kernel2.nD,
    (Cert.Pre_rows_then_blanks.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))) = (fun _ => 1#1)

def Pre_Kernel2Ideal [hPre_rows_then_blanks : Cert.Pre_rows_then_blanks.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_rows_then_blanks.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_rows_then_blanks [hPre_rows_then_blanks : Cert.Pre_rows_then_blanks.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_rows_then_blanks.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_norm_and_router [hPre_finite_norm_and_router : Cert.Pre_finite_norm_and_router.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_norm_and_router.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_norm_and_router [hPre_finite_norm_and_router : Cert.Pre_finite_norm_and_router.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_norm_and_router.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_with_ones_lane [hKernelIdeal : Cert.KernelIdeal.Facts] [hPre_finite_with_ones_lane : Cert.Pre_finite_with_ones_lane.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_with_ones_lane m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_with_ones_lane [hReferenceIdeal : Cert.ReferenceIdeal.Facts] [hPre_finite_with_ones_lane : Cert.Pre_finite_with_ones_lane.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_with_ones_lane m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] [hPre_rows_then_blanks : Cert.Pre_rows_then_blanks.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_rows_then_blanks : Cert.Pre_rows_then_blanks.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_rows_then_blanks [hReference2Ideal : Cert.Reference2Ideal.Facts] [hPre_rows_then_blanks : Cert.Pre_rows_then_blanks.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_rows_then_blanks m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Kernel4Ideal_pre_finite_norm_and_router [hKernel4Ideal : Cert.Kernel4Ideal.Facts] [hPre_finite_norm_and_router : Cert.Pre_finite_norm_and_router.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_norm_and_router m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Reference4Ideal_pre_finite_norm_and_router [hReference4Ideal : Cert.Reference4Ideal.Facts] [hPre_finite_norm_and_router : Cert.Pre_finite_norm_and_router.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_norm_and_router m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def preserves_Kernel_KernelIdeal : Prop :=
  True

def algebraic_KernelIdeal_ReferenceIdeal_pre_finite_with_ones_lane [hKernelIdeal : Cert.KernelIdeal.Facts] [hReferenceIdeal : Cert.ReferenceIdeal.Facts] [hPre_finite_with_ones_lane : Cert.Pre_finite_with_ones_lane.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_with_ones_lane m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] [hPre_rows_then_blanks : Cert.Pre_rows_then_blanks.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_v45) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  IdealRules.named_const.Statement Cert.Kernel3Ideal.κ "one96th" .f32 0x3C2AAAAB#32 ((1 / 96 : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)) (v3 : (c : Dev Cert.Kernel3Ideal.nD) → Buf (Elt Ideal) ((c.tc : Thread Cert.Kernel3Ideal.nD Cert.Kernel3Ideal.τ).loc Cert.Kernel3Ideal.main_v0_3)) (v4 : (c : Dev Cert.Kernel3Ideal.nD) → Buf (Elt Ideal) ((c.tc : Thread Cert.Kernel3Ideal.nD Cert.Kernel3Ideal.τ).loc Cert.Kernel3Ideal.main_v0_4)) (v5 : (c : Dev Cert.Kernel3Ideal.nD) → Buf (Elt Ideal) ((c.tc : Thread Cert.Kernel3Ideal.nD Cert.Kernel3Ideal.τ).loc Cert.Kernel3Ideal.main_v0_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_v0_3) = v3 c
          ∧ r.2.mem ((c.tc : Thread Cert.Kernel3Ideal.nD Cert.Kernel3Ideal.τ).loc Cert.Kernel3Ideal.main_v0_4) = v4 c
          ∧ r.2.mem ((c.tc : Thread Cert.Kernel3Ideal.nD Cert.Kernel3Ideal.τ).loc Cert.Kernel3Ideal.main_v0_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v67) = v0 c
          ∧ r.2.mem ((c.tc : Thread Cert.Reference3Ideal.nD Cert.Reference3Ideal.τ).loc Cert.Reference3Ideal.main_v104) = v1 c
          ∧ r.2.mem ((c.tc : Thread Cert.Reference3Ideal.nD Cert.Reference3Ideal.τ).loc Cert.Reference3Ideal.main_v107) = v2 c
          ∧ r.2.mem ((c.tc : Thread Cert.Reference3Ideal.nD Cert.Reference3Ideal.τ).loc Cert.Reference3Ideal.main_v131) = v3 c
          ∧ r.2.mem ((c.tc : Thread Cert.Reference3Ideal.nD Cert.Reference3Ideal.τ).loc Cert.Reference3Ideal.main_v81) = v4 c
          ∧ r.2.mem ((c.tc : Thread Cert.Reference3Ideal.nD Cert.Reference3Ideal.τ).loc Cert.Reference3Ideal.main_v30) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def preserves_Kernel4_Kernel4Ideal : Prop :=
  True

def algebraic_Kernel4Ideal_Reference4Ideal_pre_finite_norm_and_router [hKernel4Ideal : Cert.Kernel4Ideal.Facts] [hReference4Ideal : Cert.Reference4Ideal.Facts] [hPre_finite_norm_and_router : Cert.Pre_finite_norm_and_router.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_norm_and_router m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_v55) = v1 c
          ∧ r.2.mem ((c.tc : Thread Cert.Reference4Ideal.nD Cert.Reference4Ideal.τ).loc Cert.Reference4Ideal.main_v57) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_with_ones_lane : Cert.Pre_finite_with_ones_lane.Facts) (hPre_rows_then_blanks : Cert.Pre_rows_then_blanks.Facts) (hPre_finite_norm_and_router : Cert.Pre_finite_norm_and_router.Facts),
    quiescent_Kernel (hKernel := hKernel)
    ∧ quiescent_KernelIdeal (hKernelIdeal := hKernelIdeal)
    ∧ quiescent_KernelIdeal_pre_finite_with_ones_lane (hKernelIdeal := hKernelIdeal) (hPre_finite_with_ones_lane := hPre_finite_with_ones_lane)
    ∧ quiescent_ReferenceIdeal (hReferenceIdeal := hReferenceIdeal)
    ∧ quiescent_ReferenceIdeal_pre_finite_with_ones_lane (hReferenceIdeal := hReferenceIdeal) (hPre_finite_with_ones_lane := hPre_finite_with_ones_lane)
    ∧ quiescent_Kernel2 (hKernel2 := hKernel2) (hPre_rows_then_blanks := hPre_rows_then_blanks)
    ∧ quiescent_Kernel2Ideal (hKernel2Ideal := hKernel2Ideal) (hPre_rows_then_blanks := hPre_rows_then_blanks)
    ∧ quiescent_Reference2Ideal (hReference2Ideal := hReference2Ideal)
    ∧ quiescent_Reference2Ideal_pre_rows_then_blanks (hReference2Ideal := hReference2Ideal) (hPre_rows_then_blanks := hPre_rows_then_blanks)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_norm_and_router (hKernel4Ideal := hKernel4Ideal) (hPre_finite_norm_and_router := hPre_finite_norm_and_router)
    ∧ quiescent_Reference4Ideal (hReference4Ideal := hReference4Ideal)
    ∧ quiescent_Reference4Ideal_pre_finite_norm_and_router (hReference4Ideal := hReference4Ideal) (hPre_finite_norm_and_router := hPre_finite_norm_and_router)
    ∧ preserves_Kernel_KernelIdeal
    ∧ algebraic_KernelIdeal_ReferenceIdeal_pre_finite_with_ones_lane (hKernelIdeal := hKernelIdeal) (hReferenceIdeal := hReferenceIdeal) (hPre_finite_with_ones_lane := hPre_finite_with_ones_lane)
    ∧ preserves_Kernel2_Kernel2Ideal
    ∧ algebraic_Kernel2Ideal_Reference2Ideal (hKernel2Ideal := hKernel2Ideal) (hReference2Ideal := hReference2Ideal) (hPre_rows_then_blanks := hPre_rows_then_blanks)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_norm_and_router (hKernel4Ideal := hKernel4Ideal) (hReference4Ideal := hReference4Ideal) (hPre_finite_norm_and_router := hPre_finite_norm_and_router)
-- ==== Pre_finite_norm_and_router.lean ====
abbrev S4096x1024 : Shape := ⟨2, ![4096, 1024]⟩
abbrev S4096x512 : Shape := ⟨2, ![4096, 512]⟩
abbrev S1024x1024 : Shape := ⟨2, ![1024, 1024]⟩
abbrev S1x6x1024 : Shape := ⟨3, ![1, 6, 1024]⟩
abbrev S1x1024 : Shape := ⟨2, ![1, 1024]⟩
abbrev S1024x128 : Shape := ⟨2, ![1024, 128]⟩
abbrev S_ : Shape := ⟨0, ![]⟩
abbrev S1x2x1024 : Shape := ⟨3, ![1, 2, 1024]⟩
abbrev S2x1024 : Shape := ⟨2, ![2, 1024]⟩
abbrev S1024x16 : Shape := ⟨2, ![1024, 16]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  slices_S1x6x1024_S1x2x1024_0_3_0 : S1x6x1024.Slices ![0, 3, 0] S1x2x1024
  shapeCasts_S1x2x1024_S2x1024 : S1x2x1024.ShapeCasts S2x1024
  bcast_S_S2x1024 : S_.BroadcastsInDim S2x1024 (![] : Fin 0 → Fin S2x1024.rank)
  reducesTo_S2x1024_S_d0_1 : S2x1024.ReducesTo [0, 1] S_
  slices_S1024x128_S1024x16_0_0 : S1024x128.Slices ![0, 0] S1024x16
  bitsLt_bf16_f32 : FTy.bits .bf16 < FTy.bits .f32
  bcast_S_S1024x16 : S_.BroadcastsInDim S1024x16 (![] : Fin 0 → Fin S1024x16.rank)
  reducesTo_S1024x16_S_d0_1 : S1024x16.ReducesTo [0, 1] S_

variable [Facts]

def fn_part1 {F : FTy → Type} [FloatOps F] (main_arg7 : FVec F S1024x128 .bf16) (main_v17 : IVec S_ 1) : IVec S_ 1 :=
  let main_v18 : FVec F S1024x16 .bf16 := (extractStridedSlice S1024x16 ![0, 0] · slices_S1024x128_S1024x16_0_0) main_arg7
  let main_v19 : FVec F S1024x16 .f32 := (extf .f32 · bitsLt_bf16_f32) main_v18
  let main_v20 : FVec F S1024x16 .f32 := Host.absf main_v19
  let main_cst_4 : FVec F S_ .f32 := constant S_ .f32 0x7F800000#32
  let main_v21 : FVec F S1024x16 .f32 := broadcastInDim S1024x16 ![] bcast_S_S1024x16 main_cst_4
  let main_v22 : IVec S1024x16 1 := cmpf .olt main_v20 main_v21
  let main_c_5 : IVec S_ 1 := constantI S_ 1 1#1
  let main_v23 : IVec S_ 1 := (fun x v => Host.reduce IntOp.andi x v reducesTo_S1024x16_S_d0_1 h_S_) main_v22 main_c_5
  let main_v24 : IVec S_ 1 := andi main_v17 main_v23
  main_v24

def fn {F : FTy → Type} [FloatOps F] (main_arg0 : FVec F S4096x1024 .f32) (main_arg1 : FVec F S4096x512 .bf16) (main_arg2 : FVec F S4096x512 .bf16) (main_arg3 : FVec F S1024x1024 .bf16) (main_arg4 : FVec F S1x6x1024 .f32) (main_arg5 : FVec F S1x1024 .f32) (main_arg6 : FVec F S1024x128 .bf16) (main_arg7 : FVec F S1024x128 .bf16) : IVec S_ 1 :=
  let main_v0 : FVec F S1x1024 .f32 := Host.absf main_arg5
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S1x2x1024 .f32 := (extractStridedSlice S1x2x1024 ![0, 3, 0] · slices_S1x6x1024_S1x2x1024_0_3_0) main_arg4
  let main_v5 : FVec F S2x1024 .f32 := shapeCast S2x1024 main_v4 shapeCasts_S1x2x1024_S2x1024
  let main_v6 : FVec F S2x1024 .f32 := Host.absf main_v5
  let main_cst_0 : FVec F S_ .f32 := constant S_ .f32 0x7F800000#32
  let main_v7 : FVec F S2x1024 .f32 := broadcastInDim S2x1024 ![] bcast_S_S2x1024 main_cst_0
  let main_v8 : IVec S2x1024 1 := cmpf .olt main_v6 main_v7
  let main_c_1 : IVec S_ 1 := constantI S_ 1 1#1
  let main_v9 : IVec S_ 1 := (fun x v => Host.reduce IntOp.andi x v reducesTo_S2x1024_S_d0_1 h_S_) main_v8 main_c_1
  let main_v10 : IVec S_ 1 := andi main_v3 main_v9
  let main_v11 : FVec F S1024x16 .bf16 := (extractStridedSlice S1024x16 ![0, 0] · slices_S1024x128_S1024x16_0_0) main_arg6
  let main_v12 : FVec F S1024x16 .f32 := (extf .f32 · bitsLt_bf16_f32) main_v11
  let main_v13 : FVec F S1024x16 .f32 := Host.absf main_v12
  let main_cst_2 : FVec F S_ .f32 := constant S_ .f32 0x7F800000#32
  let main_v14 : FVec F S1024x16 .f32 := broadcastInDim S1024x16 ![] bcast_S_S1024x16 main_cst_2
  let main_v15 : IVec S1024x16 1 := cmpf .olt main_v13 main_v14
  let main_c_3 : IVec S_ 1 := constantI S_ 1 1#1
  let main_v16 : IVec S_ 1 := (fun x v => Host.reduce IntOp.andi x v reducesTo_S1024x16_S_d0_1 h_S_) main_v15 main_c_3
  let main_v17 : IVec S_ 1 := andi main_v10 main_v16
  fn_part1 (F := F) main_arg7 main_v17
-- ==== Pre_finite_with_ones_lane.lean ====
abbrev S8x1024x1024 : Shape := ⟨3, ![8, 1024, 1024]⟩
abbrev S8x256x1024 : Shape := ⟨3, ![8, 256, 1024]⟩
abbrev S_ : Shape := ⟨0, ![]⟩
abbrev S8x1024x8x128 : Shape := ⟨4, ![8, 1024, 8, 128]⟩
abbrev S8x1024x8x1 : Shape := ⟨4, ![8, 1024, 8, 1]⟩
abbrev S8x1024x8 : Shape := ⟨3, ![8, 1024, 8]⟩
abbrev S8x256x8x128 : Shape := ⟨4, ![8, 256, 8, 128]⟩
abbrev S8x256x8x1 : Shape := ⟨4, ![8, 256, 8, 1]⟩
abbrev S8x256x8 : Shape := ⟨3, ![8, 256, 8]⟩

class Facts : Prop where
  bitsLt_bf16_f32 : FTy.bits .bf16 < FTy.bits .f32
  bcast_S_S8x1024x1024 : S_.BroadcastsInDim S8x1024x1024 (![] : Fin 0 → Fin S8x1024x1024.rank)
  reducesTo_S8x1024x1024_S_d0_1_2 : S8x1024x1024.ReducesTo [0, 1, 2] S_
  h_S_ : 0 < S_.numel
  bcast_S_S8x256x1024 : S_.BroadcastsInDim S8x256x1024 (![] : Fin 0 → Fin S8x256x1024.rank)
  reducesTo_S8x256x1024_S_d0_1_2 : S8x256x1024.ReducesTo [0, 1, 2] S_
  shapeCasts_S8x1024x1024_S8x1024x8x128 : S8x1024x1024.ShapeCasts S8x1024x8x128
  slices_S8x1024x8x128_S8x1024x8x1_0_0_0_64 : S8x1024x8x128.Slices ![0, 0, 0, 64] S8x1024x8x1
  shapeCasts_S8x1024x8x1_S8x1024x8 : S8x1024x8x1.ShapeCasts S8x1024x8
  bcast_S_S8x1024x8 : S_.BroadcastsInDim S8x1024x8 (![] : Fin 0 → Fin S8x1024x8.rank)
  reducesTo_S8x1024x8_S_d0_1_2 : S8x1024x8.ReducesTo [0, 1, 2] S_
  shapeCasts_S8x256x1024_S8x256x8x128 : S8x256x1024.ShapeCasts S8x256x8x128
  slices_S8x256x8x128_S8x256x8x1_0_0_0_64 : S8x256x8x128.Slices ![0, 0, 0, 64] S8x256x8x1
  shapeCasts_S8x256x8x1_S8x256x8 : S8x256x8x1.ShapeCasts S8x256x8
  bcast_S_S8x256x8 : S_.BroadcastsInDim S8x256x8 (![] : Fin 0 → Fin S8x256x8.rank)
  reducesTo_S8x256x8_S_d0_1_2 : S8x256x8.ReducesTo [0, 1, 2] S_

variable [Facts]

def fn_part1 {F : FTy → Type} [FloatOps F] (main_arg4 : FVec F S8x256x1024 .bf16) (main_v16 : IVec S_ 1) (main_v17 : FVec F S8x1024x1024 .f32) : IVec S_ 1 :=
  let main_v18 : FVec F S8x1024x8x128 .f32 := shapeCast S8x1024x8x128 main_v17 shapeCasts_S8x1024x1024_S8x1024x8x128
  let main_v19 : FVec F S8x1024x8x1 .f32 := (extractStridedSlice S8x1024x8x1 ![0, 0, 0, 64] · slices_S8x1024x8x128_S8x1024x8x1_0_0_0_64) main_v18
  let main_v20 : FVec F S8x1024x8 .f32 := shapeCast S8x1024x8 main_v19 shapeCasts_S8x1024x8x1_S8x1024x8
  let main_cst_4 : FVec F S_ .f32 := constant S_ .f32 0x3F800000#32
  let main_v21 : FVec F S8x1024x8 .f32 := broadcastInDim S8x1024x8 ![] bcast_S_S8x1024x8 main_cst_4
  let main_v22 : IVec S8x1024x8 1 := cmpf .oeq main_v20 main_v21
  let main_c_5 : IVec S_ 1 := constantI S_ 1 1#1
  let main_v23 : IVec S_ 1 := (fun x v => Host.reduce IntOp.andi x v reducesTo_S8x1024x8_S_d0_1_2 h_S_) main_v22 main_c_5
  let main_v24 : IVec S_ 1 := andi main_v16 main_v23
  let main_v25 : FVec F S8x256x1024 .f32 := (extf .f32 · bitsLt_bf16_f32) main_arg4
  let main_v26 : FVec F S8x256x8x128 .f32 := shapeCast S8x256x8x128 main_v25 shapeCasts_S8x256x1024_S8x256x8x128
  let main_v27 : FVec F S8x256x8x1 .f32 := (extractStridedSlice S8x256x8x1 ![0, 0, 0, 64] · slices_S8x256x8x128_S8x256x8x1_0_0_0_64) main_v26
  let main_v28 : FVec F S8x256x8 .f32 := shapeCast S8x256x8 main_v27 shapeCasts_S8x256x8x1_S8x256x8
  let main_cst_6 : FVec F S_ .f32 := constant S_ .f32 0x3F800000#32
  let main_v29 : FVec F S8x256x8 .f32 := broadcastInDim S8x256x8 ![] bcast_S_S8x256x8 main_cst_6
  let main_v30 : IVec S8x256x8 1 := cmpf .oeq main_v28 main_v29
  let main_c_7 : IVec S_ 1 := constantI S_ 1 1#1
  let main_v31 : IVec S_ 1 := (fun x v => Host.reduce IntOp.andi x v reducesTo_S8x256x8_S_d0_1_2 h_S_) main_v30 main_c_7
  let main_v32 : IVec S_ 1 := andi main_v24 main_v31
  main_v32

def fn {F : FTy → Type} [FloatOps F] (main_arg0 : FVec F S8x1024x1024 .bf16) (main_arg1 : FVec F S8x1024x1024 .bf16) (main_arg2 : FVec F S8x1024x1024 .bf16) (main_arg3 : FVec F S8x256x1024 .bf16) (main_arg4 : FVec F S8x256x1024 .bf16) : IVec S_ 1 :=
  let main_v0 : FVec F S8x1024x1024 .f32 := (extf .f32 · bitsLt_bf16_f32) main_arg0
  let main_v1 : FVec F S8x1024x1024 .f32 := Host.absf main_v0
  let main_cst : FVec F S_ .f32 := constant S_ .f32 0x7F800000#32
  let main_v2 : FVec F S8x1024x1024 .f32 := broadcastInDim S8x1024x1024 ![] bcast_S_S8x1024x1024 main_cst
  let main_v3 : IVec S8x1024x1024 1 := cmpf .olt main_v1 main_v2
  let main_c : IVec S_ 1 := constantI S_ 1 1#1
  let main_v4 : IVec S_ 1 := (fun x v => Host.reduce IntOp.andi x v reducesTo_S8x1024x1024_S_d0_1_2 h_S_) main_v3 main_c
  let main_v5 : FVec F S8x1024x1024 .f32 := (extf .f32 · bitsLt_bf16_f32) main_arg1
  let main_v6 : FVec F S8x1024x1024 .f32 := Host.absf main_v5
  let main_cst_0 : FVec F S_ .f32 := constant S_ .f32 0x7F800000#32
  let main_v7 : FVec F S8x1024x1024 .f32 := broadcastInDim S8x1024x1024 ![] bcast_S_S8x1024x1024 main_cst_0
  let main_v8 : IVec S8x1024x1024 1 := cmpf .olt main_v6 main_v7
  let main_c_1 : IVec S_ 1 := constantI S_ 1 1#1
  let main_v9 : IVec S_ 1 := (fun x v => Host.reduce IntOp.andi x v reducesTo_S8x1024x1024_S_d0_1_2 h_S_) main_v8 main_c_1
  let main_v10 : IVec S_ 1 := andi main_v4 main_v9
  let main_v11 : FVec F S8x256x1024 .f32 := (extf .f32 · bitsLt_bf16_f32) main_arg3
  let main_v12 : FVec F S8x256x1024 .f32 := Host.absf main_v11
  let main_cst_2 : FVec F S_ .f32 := constant S_ .f32 0x7F800000#32
  let main_v13 : FVec F S8x256x1024 .f32 := broadcastInDim S8x256x1024 ![] bcast_S_S8x256x1024 main_cst_2
  let main_v14 : IVec S8x256x1024 1 := cmpf .olt main_v12 main_v13
  let main_c_3 : IVec S_ 1 := constantI S_ 1 1#1
  let main_v15 : IVec S_ 1 := (fun x v => Host.reduce IntOp.andi x v reducesTo_S8x256x1024_S_d0_1_2 h_S_) main_v14 main_c_3
  let main_v16 : IVec S_ 1 := andi main_v10 main_v15
  let main_v17 : FVec F S8x1024x1024 .f32 := (extf .f32 · bitsLt_bf16_f32) main_arg2
  fn_part1 (F := F) main_arg4 main_v16 main_v17
-- ==== Pre_rows_then_blanks.lean ====
abbrev S16x17 : Shape := ⟨2, ![16, 17]⟩
abbrev S16x33 : Shape := ⟨2, ![16, 33]⟩
abbrev S16x768x1152 : Shape := ⟨3, ![16, 768, 1152]⟩
abbrev S16x1536x1152 : Shape := ⟨3, ![16, 1536, 1152]⟩
abbrev S16x1024x512 : Shape := ⟨3, ![16, 1024, 512]⟩
abbrev S16x512x1024 : Shape := ⟨3, ![16, 512, 1024]⟩
abbrev S16x1 : Shape := ⟨2, ![16, 1]⟩
abbrev S16 : Shape := ⟨1, ![16]⟩
abbrev S16x768 : Shape := ⟨2, ![16, 768]⟩
abbrev S_ : Shape := ⟨0, ![]⟩
abbrev S16x768x48 : Shape := ⟨3, ![16, 768, 48]⟩
abbrev S16x768x3x16 : Shape := ⟨4, ![16, 768, 3, 16]⟩
abbrev S16x768x16 : Shape := ⟨3, ![16, 768, 16]⟩
abbrev S16x16 : Shape := ⟨2, ![16, 16]⟩
abbrev S768x16 : Shape := ⟨2, ![768, 16]⟩
abbrev S16x1536 : Shape := ⟨2, ![16, 1536]⟩
abbrev S16x1536x48 : Shape := ⟨3, ![16, 1536, 48]⟩
abbrev S16x1536x3x16 : Shape := ⟨4, ![16, 1536, 3, 16]⟩
abbrev S16x1536x16 : Shape := ⟨3, ![16, 1536, 16]⟩
abbrev S1536x16 : Shape := ⟨2, ![1536, 16]⟩

class Facts : Prop where
  slices_S16x17_S16x1_0_16 : S16x17.Slices ![0, 16] S16x1
  shapeCasts_S16x1_S16 : S16x1.ShapeCasts S16
  bitsLt_bf16_f32 : FTy.bits .bf16 < FTy.bits .f32
  bcast_S_S16x768x1152 : S_.BroadcastsInDim S16x768x1152 (![] : Fin 0 → Fin S16x768x1152.rank)
  reducesTo_S16x768x1152_S16x768_d2 : S16x768x1152.ReducesTo [2] S16x768
  h_S_ : 0 < S_.numel
  bcast_S_S16 : S_.BroadcastsInDim S16 (![] : Fin 0 → Fin S16.rank)
  reducesTo_S16_S_d0 : S16.ReducesTo [0] S_
  slices_S16x768x1152_S16x768x48_0_0_1024 : S16x768x1152.Slices ![0, 0, 1024] S16x768x48
  shapeCasts_S16x768x48_S16x768x3x16 : S16x768x48.ShapeCasts S16x768x3x16
  reducesTo_S16x768x3x16_S16x768x16_d2 : S16x768x3x16.ReducesTo [2] S16x768x16
  bcast_S16x16_S16x768x16_0_2 : S16x16.BroadcastsInDim S16x768x16 (![0, 2] : Fin 2 → Fin S16x768x16.rank)
  bcast_S_S16x768x16 : S_.BroadcastsInDim S16x768x16 (![] : Fin 0 → Fin S16x768x16.rank)
  reducesTo_S16x768x16_S768x16_d0 : S16x768x16.ReducesTo [0] S768x16
  transposes_S768x16_S16x768_1_0 : S768x16.Transposes [1, 0] S16x768
  bcast_S16_S16x1_0 : S16.BroadcastsInDim S16x1 (![0] : Fin 1 → Fin S16x1.rank)
  bcast_S16x1_S16x768_0_1 : S16x1.BroadcastsInDim S16x768 (![0, 1] : Fin 2 → Fin S16x768.rank)
  reducesTo_S16x768_S_d0_1 : S16x768.ReducesTo [0, 1] S_
  bcast_S_S16x768 : S_.BroadcastsInDim S16x768 (![] : Fin 0 → Fin S16x768.rank)
  slices_S16x33_S16x1_0_32 : S16x33.Slices ![0, 32] S16x1
  bcast_S_S16x1536x1152 : S_.BroadcastsInDim S16x1536x1152 (![] : Fin 0 → Fin S16x1536x1152.rank)
  reducesTo_S16x1536x1152_S16x1536_d2 : S16x1536x1152.ReducesTo [2] S16x1536
  slices_S16x1536x1152_S16x1536x48_0_0_1024 : S16x1536x1152.Slices ![0, 0, 1024] S16x1536x48
  shapeCasts_S16x1536x48_S16x1536x3x16 : S16x1536x48.ShapeCasts S16x1536x3x16
  reducesTo_S16x1536x3x16_S16x1536x16_d2 : S16x1536x3x16.ReducesTo [2] S16x1536x16
  bcast_S16x16_S16x1536x16_0_2 : S16x16.BroadcastsInDim S16x1536x16 (![0, 2] : Fin 2 → Fin S16x1536x16.rank)
  bcast_S_S16x1536x16 : S_.BroadcastsInDim S16x1536x16 (![] : Fin 0 → Fin S16x1536x16.rank)
  reducesTo_S16x1536x16_S1536x16_d0 : S16x1536x16.ReducesTo [0] S1536x16
  transposes_S1536x16_S16x1536_1_0 : S1536x16.Transposes [1, 0] S16x1536
  bcast_S16x1_S16x1536_0_1 : S16x1.BroadcastsInDim S16x1536 (![0, 1] : Fin 2 → Fin S16x1536.rank)
  reducesTo_S16x1536_S_d0_1 : S16x1536.ReducesTo [0, 1] S_
  bcast_S_S16x1536 : S_.BroadcastsInDim S16x1536 (![] : Fin 0 → Fin S16x1536.rank)

variable [Facts]

def fn_part4 {F : FTy → Type} [FloatOps F] (main_v37 : IVec S_ 1) (main_v68 : IVec S_ 1) (main_v70 : IVec S16x1536 1) (main_v72 : IVec S16x1536 1) : IVec S_ 1 :=
  let main_v73 : IVec S16x1536 1 := andi main_v70 main_v72
  let main_c_21 : IVec S_ 1 := constantI S_ 1 1#1
  let main_v74 : IVec S_ 1 := (fun x v => Host.reduce IntOp.andi x v reducesTo_S16x1536_S_d0_1 h_S_) main_v73 main_c_21
  let main_v75 : IVec S_ 1 := andi main_v68 main_v74
  let main_v76 : IVec S_ 1 := andi main_v37 main_v75
  main_v76

def fn_part3 {F : FTy → Type} [FloatOps F] (main_v37 : IVec S_ 1) (main_v39 : IVec S16 32) (main_v40 : IVec S16x1536 32) (main_v44 : IVec S16x1536 1) (main_v50 : IVec S_ 1) (main_v53 : FVec F S16x1536x3x16 .f32) (main_cst_15 : FVec F S_ .f32) : IVec S_ 1 :=
  let main_v54 : FVec F S16x1536x16 .f32 := (fun x v => Host.reduceAdd x v reducesTo_S16x1536x3x16_S16x1536x16_d2 h_S_) main_v53 main_cst_15
  let main_v55 : IVec S16x16 32 := iotaInDim S16x16 32 0
  let main_v56 : IVec S16x16 32 := iotaInDim S16x16 32 1
  let main_v57 : IVec S16x16 1 := cmpi .eq main_v55 main_v56
  let main_v58 : IVec S16x1536x16 1 := broadcastInDim S16x1536x16 ![0, 2] bcast_S16x16_S16x1536x16_0_2 main_v57
  let main_cst_16 : FVec F S_ .f32 := constant S_ .f32 0x00000000#32
  let main_v59 : FVec F S16x1536x16 .f32 := broadcastInDim S16x1536x16 ![] bcast_S_S16x1536x16 main_cst_16
  let main_v60 : FVec F S16x1536x16 .f32 := select main_v58 main_v54 main_v59
  let main_cst_17 : FVec F S_ .f32 := constant S_ .f32 0x00000000#32
  let main_v61 : FVec F S1536x16 .f32 := (fun x v => Host.reduceAdd x v reducesTo_S16x1536x16_S1536x16_d0 h_S_) main_v60 main_cst_17
  let main_v62 : FVec F S16x1536 .f32 := (transpose S16x1536 [1, 0] · transposes_S1536x16_S16x1536_1_0) main_v61
  let main_v63 : IVec S16x1 32 := broadcastInDim S16x1 ![0] bcast_S16_S16x1_0 main_v39
  let main_v64 : IVec S16x1536 32 := broadcastInDim S16x1536 ![0, 1] bcast_S16x1_S16x1536_0_1 main_v63
  let main_v65 : IVec S16x1536 1 := cmpi .slt main_v40 main_v64
  let main_v66 : IVec S16x1536 1 := ori main_v44 main_v65
  let main_c_18 : IVec S_ 1 := constantI S_ 1 1#1
  let main_v67 : IVec S_ 1 := (fun x v => Host.reduce IntOp.andi x v reducesTo_S16x1536_S_d0_1 h_S_) main_v66 main_c_18
  let main_v68 : IVec S_ 1 := andi main_v50 main_v67
  let main_cst_19 : FVec F S_ .f32 := constant S_ .f32 0x00000000#32
  let main_v69 : FVec F S16x1536 .f32 := broadcastInDim S16x1536 ![] bcast_S_S16x1536 main_cst_19
  let main_v70 : IVec S16x1536 1 := cmpf .oge main_v62 main_v69
  let main_cst_20 : FVec F S_ .f32 := constant S_ .f32 0x7F800000#32
  let main_v71 : FVec F S16x1536 .f32 := broadcastInDim S16x1536 ![] bcast_S_S16x1536 main_cst_20
  let main_v72 : IVec S16x1536 1 := cmpf .olt main_v62 main_v71
  fn_part4 (F := F) main_v37 main_v68 main_v70 main_v72

def fn_part2 {F : FTy → Type} [FloatOps F] (main_arg1 : IVec S16x33 32) (main_arg3 : FVec F S16x1536x1152 .bf16) (main_v30 : IVec S_ 1) (main_v35 : IVec S16x768 1) (main_c_9 : IVec S_ 1) : IVec S_ 1 :=
  let main_v36 : IVec S_ 1 := (fun x v => Host.reduce IntOp.andi x v reducesTo_S16x768_S_d0_1 h_S_) main_v35 main_c_9
  let main_v37 : IVec S_ 1 := andi main_v30 main_v36
  let main_v38 : IVec S16x1 32 := (extractStridedSlice S16x1 ![0, 32] · slices_S16x33_S16x1_0_32) main_arg1
  let main_v39 : IVec S16 32 := shapeCast S16 main_v38 shapeCasts_S16x1_S16
  let main_v40 : IVec S16x1536 32 := iotaInDim S16x1536 32 1
  let main_v41 : FVec F S16x1536x1152 .f32 := (extf .f32 · bitsLt_bf16_f32) main_arg3
  let main_cst_10 : FVec F S_ .f32 := constant S_ .f32 0x00000000#32
  let main_v42 : FVec F S16x1536x1152 .f32 := broadcastInDim S16x1536x1152 ![] bcast_S_S16x1536x1152 main_cst_10
  let main_v43 : IVec S16x1536x1152 1 := cmpf .oeq main_v41 main_v42
  let main_c_11 : IVec S_ 1 := constantI S_ 1 1#1
  let main_v44 : IVec S16x1536 1 := (fun x v => Host.reduce IntOp.andi x v reducesTo_S16x1536x1152_S16x1536_d2 h_S_) main_v43 main_c_11
  let main_c_12 : IVec S_ 32 := constantI S_ 32 0#32
  let main_v45 : IVec S16 32 := broadcastInDim S16 ![] bcast_S_S16 main_c_12
  let main_v46 : IVec S16 1 := cmpi .sge main_v39 main_v45
  let main_c_13 : IVec S_ 32 := constantI S_ 32 1536#32
  let main_v47 : IVec S16 32 := broadcastInDim S16 ![] bcast_S_S16 main_c_13
  let main_v48 : IVec S16 1 := cmpi .sle main_v39 main_v47
  let main_v49 : IVec S16 1 := andi main_v46 main_v48
  let main_c_14 : IVec S_ 1 := constantI S_ 1 1#1
  let main_v50 : IVec S_ 1 := (fun x v => Host.reduce IntOp.andi x v reducesTo_S16_S_d0 h_S_) main_v49 main_c_14
  let main_v51 : FVec F S16x1536x48 .bf16 := (extractStridedSlice S16x1536x48 ![0, 0, 1024] · slices_S16x1536x1152_S16x1536x48_0_0_1024) main_arg3
  let main_v52 : FVec F S16x1536x48 .f32 := (extf .f32 · bitsLt_bf16_f32) main_v51
  let main_v53 : FVec F S16x1536x3x16 .f32 := shapeCast S16x1536x3x16 main_v52 shapeCasts_S16x1536x48_S16x1536x3x16
  let main_cst_15 : FVec F S_ .f32 := constant S_ .f32 0x00000000#32
  fn_part3 (F := F) main_v37 main_v39 main_v40 main_v44 main_v50 main_v53 main_cst_15

def fn_part1 {F : FTy → Type} [FloatOps F] (main_arg1 : IVec S16x33 32) (main_arg3 : FVec F S16x1536x1152 .bf16) (main_v1 : IVec S16 32) (main_v2 : IVec S16x768 32) (main_v6 : IVec S16x768 1) (main_v12 : IVec S_ 1) (main_v16 : FVec F S16x768x16 .f32) (main_v17 : IVec S16x16 32) : IVec S_ 1 :=
  let main_v18 : IVec S16x16 32 := iotaInDim S16x16 32 1
  let main_v19 : IVec S16x16 1 := cmpi .eq main_v17 main_v18
  let main_v20 : IVec S16x768x16 1 := broadcastInDim S16x768x16 ![0, 2] bcast_S16x16_S16x768x16_0_2 main_v19
  let main_cst_4 : FVec F S_ .f32 := constant S_ .f32 0x00000000#32
  let main_v21 : FVec F S16x768x16 .f32 := broadcastInDim S16x768x16 ![] bcast_S_S16x768x16 main_cst_4
  let main_v22 : FVec F S16x768x16 .f32 := select main_v20 main_v16 main_v21
  let main_cst_5 : FVec F S_ .f32 := constant S_ .f32 0x00000000#32
  let main_v23 : FVec F S768x16 .f32 := (fun x v => Host.reduceAdd x v reducesTo_S16x768x16_S768x16_d0 h_S_) main_v22 main_cst_5
  let main_v24 : FVec F S16x768 .f32 := (transpose S16x768 [1, 0] · transposes_S768x16_S16x768_1_0) main_v23
  let main_v25 : IVec S16x1 32 := broadcastInDim S16x1 ![0] bcast_S16_S16x1_0 main_v1
  let main_v26 : IVec S16x768 32 := broadcastInDim S16x768 ![0, 1] bcast_S16x1_S16x768_0_1 main_v25
  let main_v27 : IVec S16x768 1 := cmpi .slt main_v2 main_v26
  let main_v28 : IVec S16x768 1 := ori main_v6 main_v27
  let main_c_6 : IVec S_ 1 := constantI S_ 1 1#1
  let main_v29 : IVec S_ 1 := (fun x v => Host.reduce IntOp.andi x v reducesTo_S16x768_S_d0_1 h_S_) main_v28 main_c_6
  let main_v30 : IVec S_ 1 := andi main_v12 main_v29
  let main_cst_7 : FVec F S_ .f32 := constant S_ .f32 0x00000000#32
  let main_v31 : FVec F S16x768 .f32 := broadcastInDim S16x768 ![] bcast_S_S16x768 main_cst_7
  let main_v32 : IVec S16x768 1 := cmpf .oge main_v24 main_v31
  let main_cst_8 : FVec F S_ .f32 := constant S_ .f32 0x7F800000#32
  let main_v33 : FVec F S16x768 .f32 := broadcastInDim S16x768 ![] bcast_S_S16x768 main_cst_8
  let main_v34 : IVec S16x768 1 := cmpf .olt main_v24 main_v33
  let main_v35 : IVec S16x768 1 := andi main_v32 main_v34
  let main_c_9 : IVec S_ 1 := constantI S_ 1 1#1
  fn_part2 (F := F) main_arg1 main_arg3 main_v30 main_v35 main_c_9

def fn {F : FTy → Type} [FloatOps F] (main_arg0 : IVec S16x17 32) (main_arg1 : IVec S16x33 32) (main_arg2 : FVec F S16x768x1152 .bf16) (main_arg3 : FVec F S16x1536x1152 .bf16) (main_arg4 : FVec F S16x1024x512 .f32) (main_arg5 : FVec F S16x1024x512 .f32) (main_arg6 : FVec F S16x512x1024 .f32) : IVec S_ 1 :=
  let main_v0 : IVec S16x1 32 := (extractStridedSlice S16x1 ![0, 16] · slices_S16x17_S16x1_0_16) main_arg0
  let main_v1 : IVec S16 32 := shapeCast S16 main_v0 shapeCasts_S16x1_S16
  let main_v2 : IVec S16x768 32 := iotaInDim S16x768 32 1
  let main_v3 : FVec F S16x768x1152 .f32 := (extf .f32 · bitsLt_bf16_f32) main_arg2
  let main_cst : FVec F S_ .f32 := constant S_ .f32 0x00000000#32
  let main_v4 : FVec F S16x768x1152 .f32 := broadcastInDim S16x768x1152 ![] bcast_S_S16x768x1152 main_cst
  let main_v5 : IVec S16x768x1152 1 := cmpf .oeq main_v3 main_v4
  let main_c : IVec S_ 1 := constantI S_ 1 1#1
  let main_v6 : IVec S16x768 1 := (fun x v => Host.reduce IntOp.andi x v reducesTo_S16x768x1152_S16x768_d2 h_S_) main_v5 main_c
  let main_c_0 : IVec S_ 32 := constantI S_ 32 0#32
  let main_v7 : IVec S16 32 := broadcastInDim S16 ![] bcast_S_S16 main_c_0
  let main_v8 : IVec S16 1 := cmpi .sge main_v1 main_v7
  let main_c_1 : IVec S_ 32 := constantI S_ 32 768#32
  let main_v9 : IVec S16 32 := broadcastInDim S16 ![] bcast_S_S16 main_c_1
  let main_v10 : IVec S16 1 := cmpi .sle main_v1 main_v9
  let main_v11 : IVec S16 1 := andi main_v8 main_v10
  let main_c_2 : IVec S_ 1 := constantI S_ 1 1#1
  let main_v12 : IVec S_ 1 := (fun x v => Host.reduce IntOp.andi x v reducesTo_S16_S_d0 h_S_) main_v11 main_c_2
  let main_v13 : FVec F S16x768x48 .bf16 := (extractStridedSlice S16x768x48 ![0, 0, 1024] · slices_S16x768x1152_S16x768x48_0_0_1024) main_arg2
  let main_v14 : FVec F S16x768x48 .f32 := (extf .f32 · bitsLt_bf16_f32) main_v13
  let main_v15 : FVec F S16x768x3x16 .f32 := shapeCast S16x768x3x16 main_v14 shapeCasts_S16x768x48_S16x768x3x16
  let main_cst_3 : FVec F S_ .f32 := constant S_ .f32 0x00000000#32
  let main_v16 : FVec F S16x768x16 .f32 := (fun x v => Host.reduceAdd x v reducesTo_S16x768x3x16_S16x768x16_d2 h_S_) main_v15 main_cst_3
  let main_v17 : IVec S16x16 32 := iotaInDim S16x16 32 0
  fn_part1 (F := F) main_arg1 main_arg3 main_v1 main_v2 main_v6 main_v12 main_v16 main_v17
-- ==== Kernel.lean ====
abbrev S8x1024x1024 : Shape := ⟨3, ![8, 1024, 1024]⟩
abbrev S8x256x1024 : Shape := ⟨3, ![8, 256, 1024]⟩
abbrev S8x1024x512 : Shape := ⟨3, ![8, 1024, 512]⟩
abbrev S1x1024x1024 : Shape := ⟨3, ![1, 1024, 1024]⟩
abbrev S1x256x1024 : Shape := ⟨3, ![1, 256, 1024]⟩
abbrev S1x1024x512 : Shape := ⟨3, ![1, 1024, 512]⟩
abbrev S1024x128 : Shape := ⟨2, ![1024, 128]⟩
abbrev S1x1024x128 : Shape := ⟨3, ![1, 1024, 128]⟩
abbrev S1024x1024 : Shape := ⟨2, ![1024, 1024]⟩
abbrev S1024 : Shape := ⟨1, ![1024]⟩
abbrev S1024x1 : Shape := ⟨2, ![1024, 1]⟩
abbrev S1x256x128 : Shape := ⟨3, ![1, 256, 128]⟩
abbrev S256x128 : Shape := ⟨2, ![256, 128]⟩
abbrev S1024x256 : Shape := ⟨2, ![1024, 256]⟩

abbrev nBuf : Space → Nat
  | .hbm => 6
  | .vmem => 12
  | .smem => 0
  | _ => 0

abbrev bufTy : (tb : Table) → Fin (tcTables nBuf tb) → BufTy
  | .hbm, ⟨0, _⟩ => ⟨S8x1024x1024, .bf16⟩
  | .hbm, ⟨1, _⟩ => ⟨S8x1024x1024, .bf16⟩
  | .hbm, ⟨2, _⟩ => ⟨S8x1024x1024, .bf16⟩
  | .hbm, ⟨3, _⟩ => ⟨S8x256x1024, .bf16⟩
  | .hbm, ⟨4, _⟩ => ⟨S8x256x1024, .bf16⟩
  | .hbm, ⟨5, _⟩ => ⟨S8x1024x512, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .bf16⟩
  | .local _ .vmem, ⟨9, _⟩ => ⟨S1x256x1024, .bf16⟩
  | .local _ .vmem, ⟨10, _⟩ => ⟨S1x1024x512, .bf16⟩
  | .local _ .vmem, ⟨11, _⟩ => ⟨S1x1024x512, .bf16⟩
  | _, _ => ⟨S8x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S8x1024x1024 : Shape := ⟨3, ![8, 1024, 1024]⟩
abbrev S8x256x1024 : Shape := ⟨3, ![8, 256, 1024]⟩
abbrev S8x1024x8x128 : Shape := ⟨4, ![8, 1024, 8, 128]⟩
abbrev S8x256x8x128 : Shape := ⟨4, ![8, 256, 8, 128]⟩
abbrev S8x1280x8x128 : Shape := ⟨4, ![8, 1280, 8, 128]⟩
abbrev S8x1280x8x64 : Shape := ⟨4, ![8, 1280, 8, 64]⟩
abbrev S8x8x1024x1280 : Shape := ⟨4, ![8, 8, 1024, 1280]⟩
abbrev S_ : Shape := ⟨0, ![]⟩
abbrev S8x8x1024 : Shape := ⟨3, ![8, 8, 1024]⟩
abbrev S8x8x1024x1 : Shape := ⟨4, ![8, 8, 1024, 1]⟩
abbrev S8x8x64x1024 : Shape := ⟨4, ![8, 8, 64, 1024]⟩
abbrev S8x1024x8x64 : Shape := ⟨4, ![8, 1024, 8, 64]⟩
abbrev S8x1024x512 : Shape := ⟨3, ![8, 1024, 512]⟩

abbrev nBuf : Space → Nat
  | .hbm => 37
  | .vmem => 0
  | .smem => 0
  | _ => 0

abbrev bufTy : (tb : Table) → Fin (tcTables nBuf tb) → BufTy
  | .hbm, ⟨0, _⟩ => ⟨S8x1024x1024, .bf16⟩
  | .hbm, ⟨1, _⟩ => ⟨S8x1024x1024, .bf16⟩
  | .hbm, ⟨2, _⟩ => ⟨S8x1024x1024, .bf16⟩
  | .hbm, ⟨3, _⟩ => ⟨S8x256x1024, .bf16⟩
  | .hbm, ⟨4, _⟩ => ⟨S8x256x1024, .bf16⟩
  | .hbm, ⟨5, _⟩ => ⟨S8x1024x1024, .f32⟩
  | .hbm, ⟨6, _⟩ => ⟨S8x1024x8x128, .f32⟩
  | .hbm, ⟨7, _⟩ => ⟨S8x256x1024, .f32⟩
  | .hbm, ⟨8, _⟩ => ⟨S8x256x8x128, .f32⟩
  | .hbm, ⟨9, _⟩ => ⟨S8x1024x1024, .f32⟩
  | .hbm, ⟨10, _⟩ => ⟨S8x1024x8x128, .f32⟩
  | .hbm, ⟨11, _⟩ => ⟨S8x1280x8x128, .f32⟩
  | .hbm, ⟨12, _⟩ => ⟨S8x256x1024, .f32⟩
  | .hbm, ⟨13, _⟩ => ⟨S8x256x8x128, .f32⟩
  | .hbm, ⟨14, _⟩ => ⟨S8x1024x1024, .f32⟩
  | .hbm, ⟨15, _⟩ => ⟨S8x1024x8x128, .f32⟩
  | .hbm, ⟨16, _⟩ => ⟨S8x1280x8x128, .f32⟩
  | .hbm, ⟨17, _⟩ => ⟨S8x1280x8x64, .f32⟩
  | .hbm, ⟨18, _⟩ => ⟨S8x8x1024x1280, .f32⟩
  | .hbm, ⟨19, _⟩ => ⟨S_, .f32⟩
  | .hbm, ⟨20, _⟩ => ⟨S8x8x1024, .f32⟩
  | .hbm, ⟨21, _⟩ => ⟨S_, .f32⟩
  | .hbm, ⟨22, _⟩ => ⟨S8x8x1024, .f32⟩
  | .hbm, ⟨23, _⟩ => ⟨S8x8x1024, .f32⟩
  | .hbm, ⟨24, _⟩ => ⟨S8x8x1024x1, .f32⟩
  | .hbm, ⟨25, _⟩ => ⟨S8x8x1024x1280, .f32⟩
  | .hbm, ⟨26, _⟩ => ⟨S8x8x1024x1280, .f32⟩
  | .hbm, ⟨27, _⟩ => ⟨S8x8x1024x1280, .f32⟩
  | .hbm, ⟨28, _⟩ => ⟨S_, .f32⟩
  | .hbm, ⟨29, _⟩ => ⟨S8x8x1024, .f32⟩
  | .hbm, ⟨30, _⟩ => ⟨S8x8x1024x1, .f32⟩
  | .hbm, ⟨31, _⟩ => ⟨S8x8x1024x1280, .f32⟩
  | .hbm, ⟨32, _⟩ => ⟨S8x8x1024x1280, .f32⟩
  | .hbm, ⟨33, _⟩ => ⟨S8x8x64x1024, .f32⟩
  | .hbm, ⟨34, _⟩ => ⟨S8x1024x8x64, .f32⟩
  | .hbm, ⟨35, _⟩ => ⟨S8x1024x512, .f32⟩
  | .hbm, ⟨36, _⟩ => ⟨S8x1024x512, .bf16⟩
  | _, _ => ⟨S8x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== Kernel2.lean ====
abbrev S16x17 : Shape := ⟨2, ![16, 17]⟩
abbrev S16x33 : Shape := ⟨2, ![16, 33]⟩
abbrev S16x768x1152 : Shape := ⟨3, ![16, 768, 1152]⟩
abbrev S16x1536x1152 : Shape := ⟨3, ![16, 1536, 1152]⟩
abbrev S16x1024x512 : Shape := ⟨3, ![16, 1024, 512]⟩
abbrev S16x512x1024 : Shape := ⟨3, ![16, 512, 1024]⟩
abbrev S16x768x1024 : Shape := ⟨3, ![16, 768, 1024]⟩
abbrev S16x1536x1024 : Shape := ⟨3, ![16, 1536, 1024]⟩
abbrev S1x768x1152 : Shape := ⟨3, ![1, 768, 1152]⟩
abbrev S1x1536x1152 : Shape := ⟨3, ![1, 1536, 1152]⟩
abbrev S1x1024x512 : Shape := ⟨3, ![1, 1024, 512]⟩
abbrev S1x512x1024 : Shape := ⟨3, ![1, 512, 1024]⟩
abbrev S1x768x1024 : Shape := ⟨3, ![1, 768, 1024]⟩
abbrev S1x1536x1024 : Shape := ⟨3, ![1, 1536, 1024]⟩
abbrev S1024x512 : Shape := ⟨2, ![1024, 512]⟩
abbrev S512x1024 : Shape := ⟨2, ![512, 1024]⟩
abbrev S1x128 : Shape := ⟨2, ![1, 128]⟩
abbrev S1x1 : Shape := ⟨2, ![1, 1]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩
abbrev S512x512 : Shape := ⟨2, ![512, 512]⟩
abbrev S1x256x1024 : Shape := ⟨3, ![1, 256, 1024]⟩
abbrev S256x1024 : Shape := ⟨2, ![256, 1024]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩
abbrev S256x512 : Shape := ⟨2, ![256, 512]⟩
abbrev S1x128x1024 : Shape := ⟨3, ![1, 128, 1024]⟩
abbrev S128x1024 : Shape := ⟨2, ![128, 1024]⟩
abbrev S1x128x128 : Shape := ⟨3, ![1, 128, 128]⟩
abbrev S128x128 : Shape := ⟨2, ![128, 128]⟩
abbrev S128 : Shape := ⟨1, ![128]⟩
abbrev S128x1 : Shape := ⟨2, ![128, 1]⟩
abbrev S128x512 : Shape := ⟨2, ![128, 512]⟩

abbrev nBuf : Space → Nat
  | .hbm => 7
  | .vmem => 17
  | .smem => 2
  | _ => 0

abbrev bufTy : (tb : Table) → Fin (tcTables nBuf tb) → BufTy
  | .hbm, ⟨0, _⟩ => ⟨S16x768x1152, .bf16⟩
  | .hbm, ⟨1, _⟩ => ⟨S16x1536x1152, .bf16⟩
  | .hbm, ⟨2, _⟩ => ⟨S16x1024x512, .f32⟩
  | .hbm, ⟨3, _⟩ => ⟨S16x1024x512, .f32⟩
  | .hbm, ⟨4, _⟩ => ⟨S16x512x1024, .f32⟩
  | .hbm, ⟨5, _⟩ => ⟨S16x768x1024, .bf16⟩
  | .hbm, ⟨6, _⟩ => ⟨S16x1536x1024, .bf16⟩
  | .local _ .vmem, ⟨0, _⟩ => ⟨S1x768x1152, .bf16⟩
  | .local _ .vmem, ⟨1, _⟩ => ⟨S1x768x1152, .bf16⟩
  | .local _ .vmem, ⟨2, _⟩ => ⟨S1x1536x1152, .bf16⟩
  | .local _ .vmem, ⟨3, _⟩ => ⟨S1x1536x1152, .bf16⟩
  | .local _ .vmem, ⟨4, _⟩ => ⟨S1x1024x512, .f32⟩
  | .local _ .vmem, ⟨5, _⟩ => ⟨S1x1024x512, .f32⟩
  | .local _ .vmem, ⟨6, _⟩ => ⟨S1x1024x512, .f32⟩
  | .local _ .vmem, ⟨7, _⟩ => ⟨S1x1024x512, .f32⟩
  | .local _ .vmem, ⟨8, _⟩ => ⟨S1x512x1024, .f32⟩
  | .local _ .vmem, ⟨9, _⟩ => ⟨S1x512x1024, .f32⟩
  | .local _ .vmem, ⟨10, _⟩ => ⟨S1x768x1024, .bf16⟩
  | .local _ .vmem, ⟨11, _⟩ => ⟨S1x768x1024, .bf16⟩
  | .local _ .vmem, ⟨12, _⟩ => ⟨S1x1536x1024, .bf16⟩
  | .local _ .vmem, ⟨13, _⟩ => ⟨S1x1536x1024, .bf16⟩
  | .local _ .vmem, ⟨14, _⟩ => ⟨S1024x512, .bf16⟩
  | .local _ .vmem, ⟨15, _⟩ => ⟨S1024x512, .bf16⟩
  | .local _ .vmem, ⟨16, _⟩ => ⟨S512x1024, .bf16⟩
  | .local _ .smem, ⟨0, _⟩ => ⟨S16x17, .i32⟩
  | .local _ .smem, ⟨1, _⟩ => ⟨S16x33, .i32⟩
  | _, _ => ⟨S16x768x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0_0 : Ref sig .tc := ⟨.hbm, 5, rfl⟩
abbrev main_v0_1 : Ref sig .tc := ⟨.hbm, 6, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 2 → Nat :=
  let arg0 : BitVec 32 := BitVec.ofNat 32 (i 0).val
  let v26 : Index := Scalar.indexCast arg0
  let c16 : Index := 16#32
  ![v26.toNat, 16]
@[reducible] def k0_t1_loop (v27 : BitVec 32) : Scf.Loop 32 :=
  let c0_i32 : BitVec 32 := 0#32
  let c127_i32 : BitVec 32 := 127#32
  let v28 : BitVec 32 := Scalar.addi v27 c127_i32
  let c7_i32 : BitVec 32 := 7#32
  let v29 : BitVec 32 := Scalar.shrui v28 c7_i32
  let c2_i32 : BitVec 32 := 2#32
  let v30 : BitVec 32 := Scalar.shrui v29 c2_i32
  let v31 : BitVec 32 := Scalar.subi v30 c0_i32
  let c1_i32 : BitVec 32 := 1#32
  let v33 : BitVec 32 := Scalar.divsi v31 c1_i32
  let v34 : BitVec 32 := Scalar.muli v33 c1_i32
  let v35 : BitVec 32 := Scalar.addi c0_i32 v34
  let c1_i32_15 : BitVec 32 := 1#32
  ⟨c0_i32, v35, c1_i32_15⟩

def k0_mult1 (v27 : BitVec 32) (k0_t1 : Fin (k0_t1_loop v27).trips) : BitVec 32 :=
  let c0_i32 : BitVec 32 := 0#32
  let c1_i32_15 : BitVec 32 := 1#32
  let arg13 : BitVec 32 := Scf.iv c0_i32 c1_i32_15 k0_t1
  let c512_i32 : BitVec 32 := 512#32
  let v80 : BitVec 32 := Scalar.muli arg13 c512_i32
  v80
def k0_off2 (v27 : BitVec 32) (k0_t1 : Fin (k0_t1_loop v27).trips) : Fin 3 → Nat :=
  let c0_45 : Index := 0#32
  let c0_i32 : BitVec 32 := 0#32
  let c1_i32_15 : BitVec 32 := 1#32
  let arg13 : BitVec 32 := Scf.iv c0_i32 c1_i32_15 k0_t1
  let c512_i32 : BitVec 32 := 512#32
  let v80 : BitVec 32 := Scalar.muli arg13 c512_i32
  let v81 : BitVec 32 := v80
  let v82 : Index := Scalar.indexCast v81
  let c0_46 : Index := 0#32
  ![0, v82.toNat, 0]
def k0_off3 (v27 : BitVec 32) (k0_t1 : Fin (k0_t1_loop v27).trips) : Fin 3 → Nat :=
  let c0_47 : Index := 0#32
  let c0_i32 : BitVec 32 := 0#32
  let c1_i32_15 : BitVec 32 := 1#32
  let arg13 : BitVec 32 := Scf.iv c0_i32 c1_i32_15 k0_t1
  let c512_i32 : BitVec 32 := 512#32
  let v80 : BitVec 32 := Scalar.muli arg13 c512_i32
  let v81 : BitVec 32 := v80
  let v85 : Index := Scalar.indexCast v81
  let c1024 : Index := 1024#32
  ![0, v85.toNat, 1024]
def k0_off4 (v27 : BitVec 32) (k0_t1 : Fin (k0_t1_loop v27).trips) : Fin 3 → Nat :=
  let c0_61 : Index := 0#32
  let c0_i32 : BitVec 32 := 0#32
  let c1_i32_15 : BitVec 32 := 1#32
  let arg13 : BitVec 32 := Scf.iv c0_i32 c1_i32_15 k0_t1
  let c512_i32 : BitVec 32 := 512#32
  let v80 : BitVec 32 := Scalar.muli arg13 c512_i32
  let v81 : BitVec 32 := v80
  let v114 : Index := Scalar.indexCast v81
  let c0_62 : Index := 0#32
  ![0, v114.toNat, 0]
@[reducible] def k0_t2_loop (v27 : BitVec 32) : Scf.Loop 32 :=
  let c0_i32 : BitVec 32 := 0#32
  let c127_i32 : BitVec 32 := 127#32
  let v28 : BitVec 32 := Scalar.addi v27 c127_i32
  let c7_i32 : BitVec 32 := 7#32
  let v29 : BitVec 32 := Scalar.shrui v28 c7_i32
  let c2_i32 : BitVec 32 := 2#32
  let v30 : BitVec 32 := Scalar.shrui v29 c2_i32
  let v31 : BitVec 32 := Scalar.subi v30 c0_i32
  let c1_i32 : BitVec 32 := 1#32
  let v33 : BitVec 32 := Scalar.divsi v31 c1_i32
  let v34 : BitVec 32 := Scalar.muli v33 c1_i32
  let v35 : BitVec 32 := Scalar.addi c0_i32 v34
  let v32 : BitVec 32 := Scalar.addi c0_i32 v31
  let c1_i32_16 : BitVec 32 := 1#32
  ⟨v35, v32, c1_i32_16⟩
def k0_mult2 (v27 : BitVec 32) (k0_t2 : Fin (k0_t2_loop v27).trips) : BitVec 32 :=
  let c0_i32 : BitVec 32 := 0#32
  let c127_i32 : BitVec 32 := 127#32
  let v28 : BitVec 32 := Scalar.addi v27 c127_i32
  let c7_i32 : BitVec 32 := 7#32
  let v29 : BitVec 32 := Scalar.shrui v28 c7_i32
  let c2_i32 : BitVec 32 := 2#32
  let v30 : BitVec 32 := Scalar.shrui v29 c2_i32
  let v31 : BitVec 32 := Scalar.subi v30 c0_i32
  let c1_i32 : BitVec 32 := 1#32
  let v33 : BitVec 32 := Scalar.divsi v31 c1_i32
  let v34 : BitVec 32 := Scalar.muli v33 c1_i32
  let v35 : BitVec 32 := Scalar.addi c0_i32 v34
  let c1_i32_16 : BitVec 32 := 1#32
  let arg13 : BitVec 32 := Scf.iv v35 c1_i32_16 k0_t2
  let c512_i32 : BitVec 32 := 512#32
  let v80 : BitVec 32 := Scalar.muli arg13 c512_i32
  v80
def k0_off5 (v27 : BitVec 32) (k0_t2 : Fin (k0_t2_loop v27).trips) : Fin 3 → Nat :=
  let c0_45 : Index := 0#32
  let c0_i32 : BitVec 32 := 0#32
  let c127_i32 : BitVec 32 := 127#32
  let v28 : BitVec 32 := Scalar.addi v27 c127_i32
  let c7_i32 : BitVec 32 := 7#32
  let v29 : BitVec 32 := Scalar.shrui v28 c7_i32
  let c2_i32 : BitVec 32 := 2#32
  let v30 : BitVec 32 := Scalar.shrui v29 c2_i32
  let v31 : BitVec 32 := Scalar.subi v30 c0_i32
  let c1_i32 : BitVec 32 := 1#32
  let v33 : BitVec 32 := Scalar.divsi v31 c1_i32
  let v34 : BitVec 32 := Scalar.muli v33 c1_i32
  let v35 : BitVec 32 := Scalar.addi c0_i32 v34
  let c1_i32_16 : BitVec 32 := 1#32
  let arg13 : BitVec 32 := Scf.iv v35 c1_i32_16 k0_t2
  let c512_i32 : BitVec 32 := 512#32
  let v80 : BitVec 32 := Scalar.muli arg13 c512_i32
  let v81 : BitVec 32 := v80
  let v82 : Index := Scalar.indexCast v81
  let c0_46 : Index := 0#32
  ![0, v82.toNat, 0]
def k0_off6 (v27 : BitVec 32) (k0_t2 : Fin (k0_t2_loop v27).trips) : Fin 3 → Nat :=
  let c0_47 : Index := 0#32
  let c0_i32 : BitVec 32 := 0#32
  let c127_i32 : BitVec 32 := 127#32
  let v28 : BitVec 32 := Scalar.addi v27 c127_i32
  let c7_i32 : BitVec 32 := 7#32
  let v29 : BitVec 32 := Scalar.shrui v28 c7_i32
  let c2_i32 : BitVec 32 := 2#32
  let v30 : BitVec 32 := Scalar.shrui v29 c2_i32
  let v31 : BitVec 32 := Scalar.subi v30 c0_i32
  let c1_i32 : BitVec 32 := 1#32
  let v33 : BitVec 32 := Scalar.divsi v31 c1_i32
  let v34 : BitVec 32 := Scalar.muli v33 c1_i32
  let v35 : BitVec 32 := Scalar.addi c0_i32 v34
  let c1_i32_16 : BitVec 32 := 1#32
  let arg13 : BitVec 32 := Scf.iv v35 c1_i32_16 k0_t2
  let c512_i32 : BitVec 32 := 512#32
  let v80 : BitVec 32 := Scalar.muli arg13 c512_i32
  let v81 : BitVec 32 := v80
  let v85 : Index := Scalar.indexCast v81
  let c1024 : Index := 1024#32
  ![0, v85.toNat, 1024]
def k0_off7 (v27 : BitVec 32) (k0_t2 : Fin (k0_t2_loop v27).trips) : Fin 3 → Nat :=
  let c0_61 : Index := 0#32
  let c0_i32 : BitVec 32 := 0#32
  let c127_i32 : BitVec 32 := 127#32
  let v28 : BitVec 32 := Scalar.addi v27 c127_i32
  let c7_i32 : BitVec 32 := 7#32
  let v29 : BitVec 32 := Scalar.shrui v28 c7_i32
  let c2_i32 : BitVec 32 := 2#32
  let v30 : BitVec 32 := Scalar.shrui v29 c2_i32
  let v31 : BitVec 32 := Scalar.subi v30 c0_i32
  let c1_i32 : BitVec 32 := 1#32
  let v33 : BitVec 32 := Scalar.divsi v31 c1_i32
  let v34 : BitVec 32 := Scalar.muli v33 c1_i32
  let v35 : BitVec 32 := Scalar.addi c0_i32 v34
  let c1_i32_16 : BitVec 32 := 1#32
  let arg13 : BitVec 32 := Scf.iv v35 c1_i32_16 k0_t2
  let c512_i32 : BitVec 32 := 512#32
  let v80 : BitVec 32 := Scalar.muli arg13 c512_i32
  let v81 : BitVec 32 := v80
  let v114 : Index := Scalar.indexCast v81
  let c0_62 : Index := 0#32
  ![0, v114.toNat, 0]
def k0_mult3 (v27 : BitVec 32) : BitVec 32 :=
  let c127_i32 : BitVec 32 := 127#32
  let v28 : BitVec 32 := Scalar.addi v27 c127_i32
  let c7_i32 : BitVec 32 := 7#32
  let v29 : BitVec 32 := Scalar.shrui v28 c7_i32
  let c_m4_i32 : BitVec 32 := 4294967292#32
  let v80 : BitVec 32 := Scalar.andi v29 c_m4_i32
  let c128_i32 : BitVec 32 := 128#32
  let v81 : BitVec 32 := Scalar.muli v80 c128_i32
  v81
def k0_cond1 (v27 : BitVec 32) : BitVec 1 :=
  let c127_i32 : BitVec 32 := 127#32
  let v28 : BitVec 32 := Scalar.addi v27 c127_i32
  let c7_i32 : BitVec 32 := 7#32
  let v29 : BitVec 32 := Scalar.shrui v28 c7_i32
  let c2_i32_17 : BitVec 32 := 2#32
  let v38 : BitVec 32 := Scalar.andi v29 c2_i32_17
  let c0_i32_18 : BitVec 32 := 0#32
  let v39 : BitVec 1 := Scalar.cmpi .ne v38 c0_i32_18
  let v40 : BitVec 32 := Scalar.extui v39
  let c0_i32_19 : BitVec 32 := 0#32
  let v41 : BitVec 1 := Scalar.cmpi .ne v40 c0_i32_19
  v41

def k0_off8 (v27 : BitVec 32) : Fin 3 → Nat :=
  let c0_45 : Index := 0#32
  let c127_i32 : BitVec 32 := 127#32
  let v28 : BitVec 32 := Scalar.addi v27 c127_i32
  let c7_i32 : BitVec 32 := 7#32
  let v29 : BitVec 32 := Scalar.shrui v28 c7_i32
  let c_m4_i32 : BitVec 32 := 4294967292#32
  let v80 : BitVec 32 := Scalar.andi v29 c_m4_i32
  let c128_i32 : BitVec 32 := 128#32
  let v81 : BitVec 32 := Scalar.muli v80 c128_i32
  let v82 : BitVec 32 := v81
  let v83 : Index := Scalar.indexCast v82
  let c0_46 : Index := 0#32
  ![0, v83.toNat, 0]
def k0_off9 (v27 : BitVec 32) : Fin 3 → Nat :=
  let c0_47 : Index := 0#32
  let c127_i32 : BitVec 32 := 127#32
  let v28 : BitVec 32 := Scalar.addi v27 c127_i32
  let c7_i32 : BitVec 32 := 7#32
  let v29 : BitVec 32 := Scalar.shrui v28 c7_i32
  let c_m4_i32 : BitVec 32 := 4294967292#32
  let v80 : BitVec 32 := Scalar.andi v29 c_m4_i32
  let c128_i32 : BitVec 32 := 128#32
  let v81 : BitVec 32 := Scalar.muli v80 c128_i32
  let v82 : BitVec 32 := v81
  let v86 : Index := Scalar.indexCast v82
  let c1024 : Index := 1024#32
  ![0, v86.toNat, 1024]
def k0_off10 (v27 : BitVec 32) : Fin 3 → Nat :=
  let c0_61 : Index := 0#32
  let c127_i32 : BitVec 32 := 127#32
  let v28 : BitVec 32 := Scalar.addi v27 c127_i32
  let c7_i32 : BitVec 32 := 7#32
  let v29 : BitVec 32 := Scalar.shrui v28 c7_i32
  let c_m4_i32 : BitVec 32 := 4294967292#32
  let v80 : BitVec 32 := Scalar.andi v29 c_m4_i32
  let c128_i32 : BitVec 32 := 128#32
  let v81 : BitVec 32 := Scalar.muli v80 c128_i32
  let v82 : BitVec 32 := v81
  let v115 : Index := Scalar.indexCast v82
  let c0_62 : Index := 0#32
  ![0, v115.toNat, 0]
def k0_mult4 (v27 : BitVec 32) : BitVec 32 :=
  let c127_i32 : BitVec 32 := 127#32
  let v28 : BitVec 32 := Scalar.addi v27 c127_i32
  let c7_i32 : BitVec 32 := 7#32
  let v29 : BitVec 32 := Scalar.shrui v28 c7_i32
  let c1_i32_45 : BitVec 32 := 1#32
  let v80 : BitVec 32 := Scalar.subi v29 c1_i32_45
  let c128_i32 : BitVec 32 := 128#32
  let v81 : BitVec 32 := Scalar.muli v80 c128_i32
  v81
def k0_cond2 (v27 : BitVec 32) : BitVec 1 :=
  let c127_i32 : BitVec 32 := 127#32
  let v28 : BitVec 32 := Scalar.addi v27 c127_i32
  let c7_i32 : BitVec 32 := 7#32
  let v29 : BitVec 32 := Scalar.shrui v28 c7_i32
  let c1_i32_20 : BitVec 32 := 1#32
  let v42 : BitVec 32 := Scalar.andi v29 c1_i32_20
  let c0_i32_21 : BitVec 32 := 0#32
  let v43 : BitVec 1 := Scalar.cmpi .ne v42 c0_i32_21
  let v44 : BitVec 32 := Scalar.extui v43
  let c0_i32_22 : BitVec 32 := 0#32
  let v45 : BitVec 1 := Scalar.cmpi .ne v44 c0_i32_22
  v45

def k0_off11 (v27 : BitVec 32) : Fin 3 → Nat :=
  let c0_46 : Index := 0#32
  let c127_i32 : BitVec 32 := 127#32
  let v28 : BitVec 32 := Scalar.addi v27 c127_i32
  let c7_i32 : BitVec 32 := 7#32
  let v29 : BitVec 32 := Scalar.shrui v28 c7_i32
  let c1_i32_45 : BitVec 32 := 1#32
  let v80 : BitVec 32 := Scalar.subi v29 c1_i32_45
  let c128_i32 : BitVec 32 := 128#32
  let v81 : BitVec 32 := Scalar.muli v80 c128_i32
  let v82 : BitVec 32 := v81
  let v83 : Index := Scalar.indexCast v82
  let c0_47 : Index := 0#32
  ![0, v83.toNat, 0]
def k0_off12 (v27 : BitVec 32) : Fin 3 → Nat :=
  let c0_48 : Index := 0#32
  let c127_i32 : BitVec 32 := 127#32
  let v28 : BitVec 32 := Scalar.addi v27 c127_i32
  let c7_i32 : BitVec 32 := 7#32
  let v29 : BitVec 32 := Scalar.shrui v28 c7_i32
  let c1_i32_45 : BitVec 32 := 1#32
  let v80 : BitVec 32 := Scalar.subi v29 c1_i32_45
  let c128_i32 : BitVec 32 := 128#32
  let v81 : BitVec 32 := Scalar.muli v80 c128_i32
  let v82 : BitVec 32 := v81
  let v86 : Index := Scalar.indexCast v82
  let c1024 : Index := 1024#32
  ![0, v86.toNat, 1024]
def k0_off13 (v27 : BitVec 32) : Fin 3 → Nat :=
  let c0_62 : Index := 0#32
  let c127_i32 : BitVec 32 := 127#32
  let v28 : BitVec 32 := Scalar.addi v27 c127_i32
  let c7_i32 : BitVec 32 := 7#32
  let v29 : BitVec 32 := Scalar.shrui v28 c7_i32
  let c1_i32_45 : BitVec 32 := 1#32
  let v80 : BitVec 32 := Scalar.subi v29 c1_i32_45
  let c128_i32 : BitVec 32 := 128#32
  let v81 : BitVec 32 := Scalar.muli v80 c128_i32
  let v82 : BitVec 32 := v81
  let v115 : Index := Scalar.indexCast v82
  let c0_63 : Index := 0#32
  ![0, v115.toNat, 0]
@[reducible] def k0_t3_loop (v27 : BitVec 32) : Scf.Loop 32 :=
  let c127_i32 : BitVec 32 := 127#32
  let v28 : BitVec 32 := Scalar.addi v27 c127_i32
  let c7_i32 : BitVec 32 := 7#32
  let v29 : BitVec 32 := Scalar.shrui v28 c7_i32
  let c6_i32 : BitVec 32 := 6#32
  let v46 : BitVec 32 := Scalar.subi c6_i32 v29
  let c1_i32_24 : BitVec 32 := 1#32
  let v48 : BitVec 32 := Scalar.divsi v46 c1_i32_24
  let v49 : BitVec 32 := Scalar.muli v48 c1_i32_24
  let v50 : BitVec 32 := Scalar.addi v29 v49
  let c1_i32_25 : BitVec 32 := 1#32
  ⟨v29, v50, c1_i32_25⟩
def k0_mult5 (v27 : BitVec 32) (k0_t3 : Fin (k0_t3_loop v27).trips) : BitVec 32 :=
  let c127_i32 : BitVec 32 := 127#32
  let v28 : BitVec 32 := Scalar.addi v27 c127_i32
  let c7_i32 : BitVec 32 := 7#32
  let v29 : BitVec 32 := Scalar.shrui v28 c7_i32
  let c1_i32_25 : BitVec 32 := 1#32
  let arg13 : BitVec 32 := Scf.iv v29 c1_i32_25 k0_t3
  let c128_i32 : BitVec 32 := 128#32
  let v81 : BitVec 32 := Scalar.muli arg13 c128_i32
  v81
def k0_off14 (v27 : BitVec 32) (k0_t3 : Fin (k0_t3_loop v27).trips) : Fin 3 → Nat :=
  let c0_45 : Index := 0#32
  let c127_i32 : BitVec 32 := 127#32
  let v28 : BitVec 32 := Scalar.addi v27 c127_i32
  let c7_i32 : BitVec 32 := 7#32
  let v29 : BitVec 32 := Scalar.shrui v28 c7_i32
  let c1_i32_25 : BitVec 32 := 1#32
  let arg13 : BitVec 32 := Scf.iv v29 c1_i32_25 k0_t3
  let c128_i32 : BitVec 32 := 128#32
  let v81 : BitVec 32 := Scalar.muli arg13 c128_i32
  let v82 : BitVec 32 := v81
  let v83 : Index := Scalar.indexCast v82
  let c0_46 : Index := 0#32
  ![0, v83.toNat, 0]
@[reducible] def k0_t4_loop (v27 : BitVec 32) : Scf.Loop 32 :=
  let c127_i32 : BitVec 32 := 127#32
  let v28 : BitVec 32 := Scalar.addi v27 c127_i32
  let c7_i32 : BitVec 32 := 7#32
  let v29 : BitVec 32 := Scalar.shrui v28 c7_i32
  let c6_i32 : BitVec 32 := 6#32
  let v46 : BitVec 32 := Scalar.subi c6_i32 v29
  let c1_i32_24 : BitVec 32 := 1#32
  let v48 : BitVec 32 := Scalar.divsi v46 c1_i32_24
  let v49 : BitVec 32 := Scalar.muli v48 c1_i32_24
  let v50 : BitVec 32 := Scalar.addi v29 v49
  let v47 : BitVec 32 := Scalar.addi v29 v46
  let c1_i32_26 : BitVec 32 := 1#32
  ⟨v50, v47, c1_i32_26⟩
def k0_mult6 (v27 : BitVec 32) (k0_t4 : Fin (k0_t4_loop v27).trips) : BitVec 32 :=
  let c127_i32 : BitVec 32 := 127#32
  let v28 : BitVec 32 := Scalar.addi v27 c127_i32
  let c7_i32 : BitVec 32 := 7#32
  let v29 : BitVec 32 := Scalar.shrui v28 c7_i32
  let c6_i32 : BitVec 32 := 6#32
  let v46 : BitVec 32 := Scalar.subi c6_i32 v29
  let c1_i32_24 : BitVec 32 := 1#32
  let v48 : BitVec 32 := Scalar.divsi v46 c1_i32_24
  let v49 : BitVec 32 := Scalar.muli v48 c1_i32_24
  let v50 : BitVec 32 := Scalar.addi v29 v49
  let c1_i32_26 : BitVec 32 := 1#32
  let arg13 : BitVec 32 := Scf.iv v50 c1_i32_26 k0_t4
  let c128_i32 : BitVec 32 := 128#32
  let v81 : BitVec 32 := Scalar.muli arg13 c128_i32
  v81
def k0_off15 (v27 : BitVec 32) (k0_t4 : Fin (k0_t4_loop v27).trips) : Fin 3 → Nat :=
  let c0_45 : Index := 0#32
  let c127_i32 : BitVec 32 := 127#32
  let v28 : BitVec 32 := Scalar.addi v27 c127_i32
  let c7_i32 : BitVec 32 := 7#32
  let v29 : BitVec 32 := Scalar.shrui v28 c7_i32
  let c6_i32 : BitVec 32 := 6#32
  let v46 : BitVec 32 := Scalar.subi c6_i32 v29
  let c1_i32_24 : BitVec 32 := 1#32
  let v48 : BitVec 32 := Scalar.divsi v46 c1_i32_24
  let v49 : BitVec 32 := Scalar.muli v48 c1_i32_24
  let v50 : BitVec 32 := Scalar.addi v29 v49
  let c1_i32_26 : BitVec 32 := 1#32
  let arg13 : BitVec 32 := Scf.iv v50 c1_i32_26 k0_t4
  let c128_i32 : BitVec 32 := 128#32
  let v81 : BitVec 32 := Scalar.muli arg13 c128_i32
  let v82 : BitVec 32 := v81
  let v83 : Index := Scalar.indexCast v82
  let c0_46 : Index := 0#32
  ![0, v83.toNat, 0]

def k0_chk1 (v27 : BitVec 32) : Prop :=
  ((k0_t1_loop v27).OK) ∧
  (∀ k0_t1 : Fin (k0_t1_loop v27).trips, 512 ∣ (k0_mult1 v27 k0_t1).toNat) ∧
  (∀ k0_t1 : Fin (k0_t1_loop v27).trips, ∀ a, (k0_off2 v27 k0_t1) a + S1x512x1024.size a ≤ S1x768x1152.size a) ∧
  (∀ k0_t1 : Fin (k0_t1_loop v27).trips, ∀ a, (k0_off3 v27 k0_t1) a + S1x512x128.size a ≤ S1x768x1152.size a) ∧
  (∀ k0_t1 : Fin (k0_t1_loop v27).trips, ∀ a, (k0_off4 v27 k0_t1) a + S1x512x1024.size a ≤ S1x768x1024.size a) ∧
  (∀ k0_t1 : Fin (k0_t1_loop v27).trips, ∀ (hinb : ∀ a, (k0_off4 v27 k0_t1) a + S1x512x1024.size a ≤ S1x768x1024.size a), (Rect.unit (s := S1x768x1024) (k0_off4 v27 k0_t1) S1x512x1024.size hinb).PackedRows (EltTy.packing .bf16)) ∧
  ((k0_t2_loop v27).OK) ∧
  (∀ k0_t2 : Fin (k0_t2_loop v27).trips, 512 ∣ (k0_mult2 v27 k0_t2).toNat) ∧
  (∀ k0_t2 : Fin (k0_t2_loop v27).trips, ∀ a, (k0_off5 v27 k0_t2) a + S1x512x1024.size a ≤ S1x768x1152.size a) ∧
  (∀ k0_t2 : Fin (k0_t2_loop v27).trips, ∀ a, (k0_off6 v27 k0_t2) a + S1x512x128.size a ≤ S1x768x1152.size a) ∧
  (∀ k0_t2 : Fin (k0_t2_loop v27).trips, ∀ a, (k0_off7 v27 k0_t2) a + S1x512x1024.size a ≤ S1x768x1024.size a) ∧
  (∀ k0_t2 : Fin (k0_t2_loop v27).trips, ∀ (hinb : ∀ a, (k0_off7 v27 k0_t2) a + S1x512x1024.size a ≤ S1x768x1024.size a), (Rect.unit (s := S1x768x1024) (k0_off7 v27 k0_t2) S1x512x1024.size hinb).PackedRows (EltTy.packing .bf16)) ∧
  (∀ (k0_h1 : k0_cond1 v27 = 1#1), 512 ∣ (k0_mult3 v27).toNat) ∧
  (∀ (k0_h1 : k0_cond1 v27 = 1#1), ∀ a, (k0_off8 v27) a + S1x256x1024.size a ≤ S1x768x1152.size a) ∧
  (∀ (k0_h1 : k0_cond1 v27 = 1#1), ∀ a, (k0_off9 v27) a + S1x256x128.size a ≤ S1x768x1152.size a) ∧
  (∀ (k0_h1 : k0_cond1 v27 = 1#1), ∀ a, (k0_off10 v27) a + S1x256x1024.size a ≤ S1x768x1024.size a) ∧
  (∀ (k0_h1 : k0_cond1 v27 = 1#1), ∀ (hinb : ∀ a, (k0_off10 v27) a + S1x256x1024.size a ≤ S1x768x1024.size a), (Rect.unit (s := S1x768x1024) (k0_off10 v27) S1x256x1024.size hinb).PackedRows (EltTy.packing .bf16)) ∧
  (∀ (k0_h2 : k0_cond2 v27 = 1#1), 128 ∣ (k0_mult4 v27).toNat) ∧
  (∀ (k0_h2 : k0_cond2 v27 = 1#1), ∀ a, (k0_off11 v27) a + S1x128x1024.size a ≤ S1x768x1152.size a) ∧
  (∀ (k0_h2 : k0_cond2 v27 = 1#1), ∀ a, (k0_off12 v27) a + S1x128x128.size a ≤ S1x768x1152.size a) ∧
  (∀ (k0_h2 : k0_cond2 v27 = 1#1), ∀ a, (k0_off13 v27) a + S1x128x1024.size a ≤ S1x768x1024.size a) ∧
  (∀ (k0_h2 : k0_cond2 v27 = 1#1), ∀ (hinb : ∀ a, (k0_off13 v27) a + S1x128x1024.size a ≤ S1x768x1024.size a), (Rect.unit (s := S1x768x1024) (k0_off13 v27) S1x128x1024.size hinb).PackedRows (EltTy.packing .bf16)) ∧
  ((k0_t3_loop v27).OK) ∧
  (∀ k0_t3 : Fin (k0_t3_loop v27).trips, 128 ∣ (k0_mult5 v27 k0_t3).toNat) ∧
  (∀ k0_t3 : Fin (k0_t3_loop v27).trips, ∀ a, (k0_off14 v27 k0_t3) a + S1x128x1024.size a ≤ S1x768x1024.size a) ∧
  (∀ k0_t3 : Fin (k0_t3_loop v27).trips, ∀ (hinb : ∀ a, (k0_off14 v27 k0_t3) a + S1x128x1024.size a ≤ S1x768x1024.size a), (Rect.unit (s := S1x768x1024) (k0_off14 v27 k0_t3) S1x128x1024.size hinb).PackedRows (EltTy.packing .bf16)) ∧
  ((k0_t4_loop v27).OK) ∧
  (∀ k0_t4 : Fin (k0_t4_loop v27).trips, 128 ∣ (k0_mult6 v27 k0_t4).toNat) ∧
  (∀ k0_t4 : Fin (k0_t4_loop v27).trips, ∀ a, (k0_off15 v27 k0_t4) a + S1x128x1024.size a ≤ S1x768x1024.size a) ∧
  (∀ k0_t4 : Fin (k0_t4_loop v27).trips, ∀ (hinb : ∀ a, (k0_off15 v27 k0_t4) a + S1x128x1024.size a ≤ S1x768x1024.size a), (Rect.unit (s := S1x768x1024) (k0_off15 v27 k0_t4) S1x128x1024.size hinb).PackedRows (EltTy.packing .bf16))
theorem k0_t1_ok : ∀ (v27 : BitVec 32) (k0_hw1 : k0_chk1 v27), (k0_t1_loop v27).OK := fun v27 k0_hw1 => k0_hw1.1
theorem k0_mult1_dvd : ∀ (v27 : BitVec 32) (k0_hw1 : k0_chk1 v27) (k0_t1 : Fin (k0_t1_loop v27).trips), 512 ∣ (k0_mult1 v27 k0_t1).toNat := fun v27 k0_hw1 k0_t1 => k0_hw1.2.1 k0_t1
theorem k0_off2_inb : ∀ (v27 : BitVec 32) (k0_hw1 : k0_chk1 v27) (k0_t1 : Fin (k0_t1_loop v27).trips), ∀ a, (k0_off2 v27 k0_t1) a + S1x512x1024.size a ≤ S1x768x1152.size a := fun v27 k0_hw1 k0_t1 => k0_hw1.2.2.1 k0_t1
theorem k0_off3_inb : ∀ (v27 : BitVec 32) (k0_hw1 : k0_chk1 v27) (k0_t1 : Fin (k0_t1_loop v27).trips), ∀ a, (k0_off3 v27 k0_t1) a + S1x512x128.size a ≤ S1x768x1152.size a := fun v27 k0_hw1 k0_t1 => k0_hw1.2.2.2.1 k0_t1
theorem k0_off4_inb : ∀ (v27 : BitVec 32) (k0_hw1 : k0_chk1 v27) (k0_t1 : Fin (k0_t1_loop v27).trips), ∀ a, (k0_off4 v27 k0_t1) a + S1x512x1024.size a ≤ S1x768x1024.size a := fun v27 k0_hw1 k0_t1 => k0_hw1.2.2.2.2.1 k0_t1
theorem k0_off4_packedbf16 : ∀ (v27 : BitVec 32) (k0_hw1 : k0_chk1 v27) (k0_t1 : Fin (k0_t1_loop v27).trips), (Rect.unit (s := S1x768x1024) (k0_off4 v27 k0_t1) S1x512x1024.size (k0_off4_inb v27 k0_hw1 k0_t1)).PackedRows (EltTy.packing .bf16) := fun v27 k0_hw1 k0_t1 => k0_hw1.2.2.2.2.2.1 k0_t1 (k0_off4_inb v27 k0_hw1 k0_t1)
theorem k0_t2_ok : ∀ (v27 : BitVec 32) (k0_hw1 : k0_chk1 v27), (k0_t2_loop v27).OK := fun v27 k0_hw1 => k0_hw1.2.2.2.2.2.2.1
theorem k0_mult2_dvd : ∀ (v27 : BitVec 32) (k0_hw1 : k0_chk1 v27) (k0_t2 : Fin (k0_t2_loop v27).trips), 512 ∣ (k0_mult2 v27 k0_t2).toNat := fun v27 k0_hw1 k0_t2 => k0_hw1.2.2.2.2.2.2.2.1 k0_t2
theorem k0_off5_inb : ∀ (v27 : BitVec 32) (k0_hw1 : k0_chk1 v27) (k0_t2 : Fin (k0_t2_loop v27).trips), ∀ a, (k0_off5 v27 k0_t2) a + S1x512x1024.size a ≤ S1x768x1152.size a := fun v27 k0_hw1 k0_t2 => k0_hw1.2.2.2.2.2.2.2.2.1 k0_t2
theorem k0_off6_inb : ∀ (v27 : BitVec 32) (k0_hw1 : k0_chk1 v27) (k0_t2 : Fin (k0_t2_loop v27).trips), ∀ a, (k0_off6 v27 k0_t2) a + S1x512x128.size a ≤ S1x768x1152.size a := fun v27 k0_hw1 k0_t2 => k0_hw1.2.2.2.2.2.2.2.2.2.1 k0_t2
theorem k0_off7_inb : ∀ (v27 : BitVec 32) (k0_hw1 : k0_chk1 v27) (k0_t2 : Fin (k0_t2_loop v27).trips), ∀ a, (k0_off7 v27 k0_t2) a + S1x512x1024.size a ≤ S1x768x1024.size a := fun v27 k0_hw1 k0_t2 => k0_hw1.2.2.2.2.2.2.2.2.2.2.1 k0_t2
theorem k0_off7_packedbf16 : ∀ (v27 : BitVec 32) (k0_hw1 : k0_chk1 v27) (k0_t2 : Fin (k0_t2_loop v27).trips), (Rect.unit (s := S1x768x1024) (k0_off7 v27 k0_t2) S1x512x1024.size (k0_off7_inb v27 k0_hw1 k0_t2)).PackedRows (EltTy.packing .bf16) := fun v27 k0_hw1 k0_t2 => k0_hw1.2.2.2.2.2.2.2.2.2.2.2.1 k0_t2 (k0_off7_inb v27 k0_hw1 k0_t2)
theorem k0_mult3_dvd : ∀ (v27 : BitVec 32) (k0_hw1 : k0_chk1 v27), ∀ (k0_h1 : k0_cond1 v27 = 1#1), 512 ∣ (k0_mult3 v27).toNat := fun v27 k0_hw1 k0_h1 => k0_hw1.2.2.2.2.2.2.2.2.2.2.2.2.1 k0_h1
theorem k0_off8_inb : ∀ (v27 : BitVec 32) (k0_hw1 : k0_chk1 v27), ∀ (k0_h1 : k0_cond1 v27 = 1#1), ∀ a, (k0_off8 v27) a + S1x256x1024.size a ≤ S1x768x1152.size a := fun v27 k0_hw1 k0_h1 => k0_hw1.2.2.2.2.2.2.2.2.2.2.2.2.2.1 k0_h1
theorem k0_off9_inb : ∀ (v27 : BitVec 32) (k0_hw1 : k0_chk1 v27), ∀ (k0_h1 : k0_cond1 v27 = 1#1), ∀ a, (k0_off9 v27) a + S1x256x128.size a ≤ S1x768x1152.size a := fun v27 k0_hw1 k0_h1 => k0_hw1.2.2.2.2.2.2.2.2.2.2.2.2.2.2.1 k0_h1
theorem k0_off10_inb : ∀ (v27 : BitVec 32) (k0_hw1 : k0_chk1 v27), ∀ (k0_h1 : k0_cond1 v27 = 1#1), ∀ a, (k0_off10 v27) a + S1x256x1024.size a ≤ S1x768x1024.size a := fun v27 k0_hw1 k0_h1 => k0_hw1.2.2.2.2.2.2.2.2.2.2.2.2.2.2.2.1 k0_h1
theorem k0_off10_packedbf16 : ∀ (v27 : BitVec 32) (k0_hw1 : k0_chk1 v27), ∀ (k0_h1 : k0_cond1 v27 = 1#1), (Rect.unit (s := S1x768x1024) (k0_off10 v27) S1x256x1024.size (k0_off10_inb v27 k0_hw1 k0_h1)).PackedRows (EltTy.packing .bf16) := fun v27 k0_hw1 k0_h1 => k0_hw1.2.2.2.2.2.2.2.2.2.2.2.2.2.2.2.2.1 k0_h1 (k0_off10_inb v27 k0_hw1 k0_h1)
theorem k0_mult4_dvd : ∀ (v27 : BitVec 32) (k0_hw1 : k0_chk1 v27), ∀ (k0_h2 : k0_cond2 v27 = 1#1), 128 ∣ (k0_mult4 v27).toNat := fun v27 k0_hw1 k0_h2 => k0_hw1.2.2.2.2.2.2.2.2.2.2.2.2.2.2.2.2.2.1 k0_h2
theorem k0_off11_inb : ∀ (v27 : BitVec 32) (k0_hw1 : k0_chk1 v27), ∀ (k0_h2 : k0_cond2 v27 = 1#1), ∀ a, (k0_off11 v27) a + S1x128x1024.size a ≤ S1x768x1152.size a := fun v27 k0_hw1 k0_h2 => k0_hw1.2.2.2.2.2.2.2.2.2.2.2.2.2.2.2.2.2.2.1 k0_h2
theorem k0_off12_inb : ∀ (v27 : BitVec 32) (k0_hw1 : k0_chk1 v27), ∀ (k0_h2 : k0_cond2 v27 = 1#1), ∀ a, (k0_off12 v27) a + S1x128x128.size a ≤ S1x768x1152.size a := fun v27 k0_hw1 k0_h2 => k0_hw1.2.2.2.2.2.2.2.2.2.2.2.2.2.2.2.2.2.2.2.1 k0_h2
theorem k0_off13_inb : ∀ (v27 : BitVec 32) (k0_hw1 : k0_chk1 v27), ∀ (k0_h2 : k0_cond2 v27 = 1#1), ∀ a, (k0_off13 v27) a + S1x128x1024.size a ≤ S1x768x1024.size a := fun v27 k0_hw1 k0_h2 => k0_hw1.2.2.2.2.2.2.2.2.2.2.2.2.2.2.2.2.2.2.2.2.1 k0_h2
theorem k0_off13_packedbf16 : ∀ (v27 : BitVec 32) (k0_hw1 : k0_chk1 v27), ∀ (k0_h2 : k0_cond2 v27 = 1#1), (Rect.unit (s := S1x768x1024) (k0_off13 v27) S1x128x1024.size (k0_off13_inb v27 k0_hw1 k0_h2)).PackedRows (EltTy.packing .bf16) := fun v27 k0_hw1 k0_h2 => k0_hw1.2.2.2.2.2.2.2.2.2.2.2.2.2.2.2.2.2.2.2.2.2.1 k0_h2 (k0_off13_inb v27 k0_hw1 k0_h2)
theorem k0_t3_ok : ∀ (v27 : BitVec 32) (k0_hw1 : k0_chk1 v27), (k0_t3_loop v27).OK := fun v27 k0_hw1 => k0_hw1.2.2.2.2.2.2.2.2.2.2.2.2.2.2.2.2.2.2.2.2.2.2.1
theorem k0_mult5_dvd : ∀ (v27 : BitVec 32) (k0_hw1 : k0_chk1 v27) (k0_t3 : Fin (k0_t3_loop v27).trips), 128 ∣ (k0_mult5 v27 k0_t3).toNat := fun v27 k0_hw1 k0_t3 => k0_hw1.2.2.2.2.2.2.2.2.2.2.2.2.2.2.2.2.2.2.2.2.2.2.2.1 k0_t3
theorem k0_off14_inb : ∀ (v27 : BitVec 32) (k0_hw1 : k0_chk1 v27) (k0_t3 : Fin (k0_t3_loop v27).trips), ∀ a, (k0_off14 v27 k0_t3) a + S1x128x1024.size a ≤ S1x768x1024.size a := fun v27 k0_hw1 k0_t3 => k0_hw1.2.2.2.2.2.2.2.2.2.2.2.2.2.2.2.2.2.2.2.2.2.2.2.2.1 k0_t3
theorem k0_off14_packedbf16 : ∀ (v27 : BitVec 32) (k0_hw1 : k0_chk1 v27) (k0_t3 : Fin (k0_t3_loop v27).trips), (Rect.unit (s := S1x768x1024) (k0_off14 v27 k0_t3) S1x128x1024.size (k0_off14_inb v27 k0_hw1 k0_t3)).PackedRows (EltTy.packing .bf16) := fun v27 k0_hw1 k0_t3 => k0_hw1.2.2.2.2.2.2.2.2.2.2.2.2.2.2.2.2.2.2.2.2.2.2.2.2.2.1 k0_t3 (k0_off14_inb v27 k0_hw1 k0_t3)
theorem k0_t4_ok : ∀ (v27 : BitVec 32) (k0_hw1 : k0_chk1 v27), (k0_t4_loop v27).OK := fun v27 k0_hw1 => k0_hw1.2.2.2.2.2.2.2.2.2.2.2.2.2.2.2.2.2.2.2.2.2.2.2.2.2.2.1
theorem k0_mult6_dvd : ∀ (v27 : BitVec 32) (k0_hw1 : k0_chk1 v27) (k0_t4 : Fin (k0_t4_loop v27).trips), 128 ∣ (k0_mult6 v27 k0_t4).toNat := fun v27 k0_hw1 k0_t4 => k0_hw1.2.2.2.2.2.2.2.2.2.2.2.2.2.2.2.2.2.2.2.2.2.2.2.2.2.2.2.1 k0_t4
theorem k0_off15_inb : ∀ (v27 : BitVec 32) (k0_hw1 : k0_chk1 v27) (k0_t4 : Fin (k0_t4_loop v27).trips), ∀ a, (k0_off15 v27 k0_t4) a + S1x128x1024.size a ≤ S1x768x1024.size a := fun v27 k0_hw1 k0_t4 => k0_hw1.2.2.2.2.2.2.2.2.2.2.2.2.2.2.2.2.2.2.2.2.2.2.2.2.2.2.2.2.1 k0_t4
theorem k0_off15_packedbf16 : ∀ (v27 : BitVec 32) (k0_hw1 : k0_chk1 v27) (k0_t4 : Fin (k0_t4_loop v27).trips), (Rect.unit (s := S1x768x1024) (k0_off15 v27 k0_t4) S1x128x1024.size (k0_off15_inb v27 k0_hw1 k0_t4)).PackedRows (EltTy.packing .bf16) := fun v27 k0_hw1 k0_t4 => k0_hw1.2.2.2.2.2.2.2.2.2.2.2.2.2.2.2.2.2.2.2.2.2.2.2.2.2.2.2.2.2 k0_t4 (k0_off15_inb v27 k0_hw1 k0_t4)

def k0_off16 (i : grid0.Coords) : Fin 2 → Nat :=
  let arg0 : BitVec 32 := BitVec.ofNat 32 (i 0).val
  let v53 : Index := Scalar.indexCast arg0
  let c32 : Index := 32#32
  ![v53.toNat, 32]
@[reducible] def k0_t5_loop (v54 : BitVec 32) : Scf.Loop 32 :=
  let c0_i32_30 : BitVec 32 := 0#32
  let c127_i32_27 : BitVec 32 := 127#32
  let v55 : BitVec 32 := Scalar.addi v54 c127_i32_27
  let c7_i32_28 : BitVec 32 := 7#32
  let v56 : BitVec 32 := Scalar.shrui v55 c7_i32_28
  let c2_i32_29 : BitVec 32 := 2#32
  let v57 : BitVec 32 := Scalar.shrui v56 c2_i32_29
  let v58 : BitVec 32 := Scalar.subi v57 c0_i32_30
  let c1_i32_32 : BitVec 32 := 1#32
  let v60 : BitVec 32 := Scalar.divsi v58 c1_i32_32
  let v61 : BitVec 32 := Scalar.muli v60 c1_i32_32
  let v62 : BitVec 32 := Scalar.addi c0_i32_30 v61
  let c1_i32_33 : BitVec 32 := 1#32
  ⟨c0_i32_30, v62, c1_i32_33⟩

def k0_mult7 (v54 : BitVec 32) (k0_t5 : Fin (k0_t5_loop v54).trips) : BitVec 32 :=
  let c0_i32_30 : BitVec 32 := 0#32
  let c1_i32_33 : BitVec 32 := 1#32
  let arg13 : BitVec 32 := Scf.iv c0_i32_30 c1_i32_33 k0_t5
  let c512_i32 : BitVec 32 := 512#32
  let v80 : BitVec 32 := Scalar.muli arg13 c512_i32
  v80
def k0_off17 (v54 : BitVec 32) (k0_t5 : Fin (k0_t5_loop v54).trips) : Fin 3 → Nat :=
  let c0_45 : Index := 0#32
  let c0_i32_30 : BitVec 32 := 0#32
  let c1_i32_33 : BitVec 32 := 1#32
  let arg13 : BitVec 32 := Scf.iv c0_i32_30 c1_i32_33 k0_t5
  let c512_i32 : BitVec 32 := 512#32
  let v80 : BitVec 32 := Scalar.muli arg13 c512_i32
  let v81 : BitVec 32 := v80
  let v82 : Index := Scalar.indexCast v81
  let c0_46 : Index := 0#32
  ![0, v82.toNat, 0]
def k0_off18 (v54 : BitVec 32) (k0_t5 : Fin (k0_t5_loop v54).trips) : Fin 3 → Nat :=
  let c0_47 : Index := 0#32
  let c0_i32_30 : BitVec 32 := 0#32
  let c1_i32_33 : BitVec 32 := 1#32
  let arg13 : BitVec 32 := Scf.iv c0_i32_30 c1_i32_33 k0_t5
  let c512_i32 : BitVec 32 := 512#32
  let v80 : BitVec 32 := Scalar.muli arg13 c512_i32
  let v81 : BitVec 32 := v80
  let v85 : Index := Scalar.indexCast v81
  let c1024 : Index := 1024#32
  ![0, v85.toNat, 1024]
def k0_off19 (v54 : BitVec 32) (k0_t5 : Fin (k0_t5_loop v54).trips) : Fin 3 → Nat :=
  let c0_61 : Index := 0#32
  let c0_i32_30 : BitVec 32 := 0#32
  let c1_i32_33 : BitVec 32 := 1#32
  let arg13 : BitVec 32 := Scf.iv c0_i32_30 c1_i32_33 k0_t5
  let c512_i32 : BitVec 32 := 512#32
  let v80 : BitVec 32 := Scalar.muli arg13 c512_i32
  let v81 : BitVec 32 := v80
  let v114 : Index := Scalar.indexCast v81
  let c0_62 : Index := 0#32
  ![0, v114.toNat, 0]
@[reducible] def k0_t6_loop (v54 : BitVec 32) : Scf.Loop 32 :=
  let c0_i32_30 : BitVec 32 := 0#32
  let c127_i32_27 : BitVec 32 := 127#32
  let v55 : BitVec 32 := Scalar.addi v54 c127_i32_27
  let c7_i32_28 : BitVec 32 := 7#32
  let v56 : BitVec 32 := Scalar.shrui v55 c7_i32_28
  let c2_i32_29 : BitVec 32 := 2#32
  let v57 : BitVec 32 := Scalar.shrui v56 c2_i32_29
  let v58 : BitVec 32 := Scalar.subi v57 c0_i32_30
  let c1_i32_32 : BitVec 32 := 1#32
  let v60 : BitVec 32 := Scalar.divsi v58 c1_i32_32
  let v61 : BitVec 32 := Scalar.muli v60 c1_i32_32
  let v62 : BitVec 32 := Scalar.addi c0_i32_30 v61
  let v59 : BitVec 32 := Scalar.addi c0_i32_30 v58
  let c1_i32_34 : BitVec 32 := 1#32
  ⟨v62, v59, c1_i32_34⟩
def k0_mult8 (v54 : BitVec 32) (k0_t6 : Fin (k0_t6_loop v54).trips) : BitVec 32 :=
  let c0_i32_30 : BitVec 32 := 0#32
  let c127_i32_27 : BitVec 32 := 127#32
  let v55 : BitVec 32 := Scalar.addi v54 c127_i32_27
  let c7_i32_28 : BitVec 32 := 7#32
  let v56 : BitVec 32 := Scalar.shrui v55 c7_i32_28
  let c2_i32_29 : BitVec 32 := 2#32
  let v57 : BitVec 32 := Scalar.shrui v56 c2_i32_29
  let v58 : BitVec 32 := Scalar.subi v57 c0_i32_30
  let c1_i32_32 : BitVec 32 := 1#32
  let v60 : BitVec 32 := Scalar.divsi v58 c1_i32_32
  let v61 : BitVec 32 := Scalar.muli v60 c1_i32_32
  let v62 : BitVec 32 := Scalar.addi c0_i32_30 v61
  let c1_i32_34 : BitVec 32 := 1#32
  let arg13 : BitVec 32 := Scf.iv v62 c1_i32_34 k0_t6
  let c512_i32 : BitVec 32 := 512#32
  let v80 : BitVec 32 := Scalar.muli arg13 c512_i32
  v80
def k0_off20 (v54 : BitVec 32) (k0_t6 : Fin (k0_t6_loop v54).trips) : Fin 3 → Nat :=
  let c0_45 : Index := 0#32
  let c0_i32_30 : BitVec 32 := 0#32
  let c127_i32_27 : BitVec 32 := 127#32
  let v55 : BitVec 32 := Scalar.addi v54 c127_i32_27
  let c7_i32_28 : BitVec 32 := 7#32
  let v56 : BitVec 32 := Scalar.shrui v55 c7_i32_28
  let c2_i32_29 : BitVec 32 := 2#32
  let v57 : BitVec 32 := Scalar.shrui v56 c2_i32_29
  let v58 : BitVec 32 := Scalar.subi v57 c0_i32_30
  let c1_i32_32 : BitVec 32 := 1#32
  let v60 : BitVec 32 := Scalar.divsi v58 c1_i32_32
  let v61 : BitVec 32 := Scalar.muli v60 c1_i32_32
  let v62 : BitVec 32 := Scalar.addi c0_i32_30 v61
  let c1_i32_34 : BitVec 32 := 1#32
  let arg13 : BitVec 32 := Scf.iv v62 c1_i32_34 k0_t6
  let c512_i32 : BitVec 32 := 512#32
  let v80 : BitVec 32 := Scalar.muli arg13 c512_i32
  let v81 : BitVec 32 := v80
  let v82 : Index := Scalar.indexCast v81
  let c0_46 : Index := 0#32
  ![0, v82.toNat, 0]
def k0_off21 (v54 : BitVec 32) (k0_t6 : Fin (k0_t6_loop v54).trips) : Fin 3 → Nat :=
  let c0_47 : Index := 0#32
  let c0_i32_30 : BitVec 32 := 0#32
  let c127_i32_27 : BitVec 32 := 127#32
  let v55 : BitVec 32 := Scalar.addi v54 c127_i32_27
  let c7_i32_28 : BitVec 32 := 7#32
  let v56 : BitVec 32 := Scalar.shrui v55 c7_i32_28
  let c2_i32_29 : BitVec 32 := 2#32
  let v57 : BitVec 32 := Scalar.shrui v56 c2_i32_29
  let v58 : BitVec 32 := Scalar.subi v57 c0_i32_30
  let c1_i32_32 : BitVec 32 := 1#32
  let v60 : BitVec 32 := Scalar.divsi v58 c1_i32_32
  let v61 : BitVec 32 := Scalar.muli v60 c1_i32_32
  let v62 : BitVec 32 := Scalar.addi c0_i32_30 v61
  let c1_i32_34 : BitVec 32 := 1#32
  let arg13 : BitVec 32 := Scf.iv v62 c1_i32_34 k0_t6
  let c512_i32 : BitVec 32 := 512#32
  let v80 : BitVec 32 := Scalar.muli arg13 c512_i32
  let v81 : BitVec 32 := v80
  let v85 : Index := Scalar.indexCast v81
  let c1024 : Index := 1024#32
  ![0, v85.toNat, 1024]
def k0_off22 (v54 : BitVec 32) (k0_t6 : Fin (k0_t6_loop v54).trips) : Fin 3 → Nat :=
  let c0_61 : Index := 0#32
  let c0_i32_30 : BitVec 32 := 0#32
  let c127_i32_27 : BitVec 32 := 127#32
  let v55 : BitVec 32 := Scalar.addi v54 c127_i32_27
  let c7_i32_28 : BitVec 32 := 7#32
  let v56 : BitVec 32 := Scalar.shrui v55 c7_i32_28
  let c2_i32_29 : BitVec 32 := 2#32
  let v57 : BitVec 32 := Scalar.shrui v56 c2_i32_29
  let v58 : BitVec 32 := Scalar.subi v57 c0_i32_30
  let c1_i32_32 : BitVec 32 := 1#32
  let v60 : BitVec 32 := Scalar.divsi v58 c1_i32_32
  let v61 : BitVec 32 := Scalar.muli v60 c1_i32_32
  let v62 : BitVec 32 := Scalar.addi c0_i32_30 v61
  let c1_i32_34 : BitVec 32 := 1#32
  let arg13 : BitVec 32 := Scf.iv v62 c1_i32_34 k0_t6
  let c512_i32 : BitVec 32 := 512#32
  let v80 : BitVec 32 := Scalar.muli arg13 c512_i32
  let v81 : BitVec 32 := v80
  let v114 : Index := Scalar.indexCast v81
  let c0_62 : Index := 0#32
  ![0, v114.toNat, 0]
def k0_mult9 (v54 : BitVec 32) : BitVec 32 :=
  let c127_i32_27 : BitVec 32 := 127#32
  let v55 : BitVec 32 := Scalar.addi v54 c127_i32_27
  let c7_i32_28 : BitVec 32 := 7#32
  let v56 : BitVec 32 := Scalar.shrui v55 c7_i32_28
  let c_m4_i32 : BitVec 32 := 4294967292#32
  let v80 : BitVec 32 := Scalar.andi v56 c_m4_i32
  let c128_i32 : BitVec 32 := 128#32
  let v81 : BitVec 32 := Scalar.muli v80 c128_i32
  v81
def k0_cond3 (v54 : BitVec 32) : BitVec 1 :=
  let c127_i32_27 : BitVec 32 := 127#32
  let v55 : BitVec 32 := Scalar.addi v54 c127_i32_27
  let c7_i32_28 : BitVec 32 := 7#32
  let v56 : BitVec 32 := Scalar.shrui v55 c7_i32_28
  let c2_i32_35 : BitVec 32 := 2#32
  let v65 : BitVec 32 := Scalar.andi v56 c2_i32_35
  let c0_i32_36 : BitVec 32 := 0#32
  let v66 : BitVec 1 := Scalar.cmpi .ne v65 c0_i32_36
  let v67 : BitVec 32 := Scalar.extui v66
  let c0_i32_37 : BitVec 32 := 0#32
  let v68 : BitVec 1 := Scalar.cmpi .ne v67 c0_i32_37
  v68

def k0_off23 (v54 : BitVec 32) : Fin 3 → Nat :=
  let c0_45 : Index := 0#32
  let c127_i32_27 : BitVec 32 := 127#32
  let v55 : BitVec 32 := Scalar.addi v54 c127_i32_27
  let c7_i32_28 : BitVec 32 := 7#32
  let v56 : BitVec 32 := Scalar.shrui v55 c7_i32_28
  let c_m4_i32 : BitVec 32 := 4294967292#32
  let v80 : BitVec 32 := Scalar.andi v56 c_m4_i32
  let c128_i32 : BitVec 32 := 128#32
  let v81 : BitVec 32 := Scalar.muli v80 c128_i32
  let v82 : BitVec 32 := v81
  let v83 : Index := Scalar.indexCast v82
  let c0_46 : Index := 0#32
  ![0, v83.toNat, 0]
def k0_off24 (v54 : BitVec 32) : Fin 3 → Nat :=
  let c0_47 : Index := 0#32
  let c127_i32_27 : BitVec 32 := 127#32
  let v55 : BitVec 32 := Scalar.addi v54 c127_i32_27
  let c7_i32_28 : BitVec 32 := 7#32
  let v56 : BitVec 32 := Scalar.shrui v55 c7_i32_28
  let c_m4_i32 : BitVec 32 := 4294967292#32
  let v80 : BitVec 32 := Scalar.andi v56 c_m4_i32
  let c128_i32 : BitVec 32 := 128#32
  let v81 : BitVec 32 := Scalar.muli v80 c128_i32
  let v82 : BitVec 32 := v81
  let v86 : Index := Scalar.indexCast v82
  let c1024 : Index := 1024#32
  ![0, v86.toNat, 1024]
def k0_off25 (v54 : BitVec 32) : Fin 3 → Nat :=
  let c0_61 : Index := 0#32
  let c127_i32_27 : BitVec 32 := 127#32
  let v55 : BitVec 32 := Scalar.addi v54 c127_i32_27
  let c7_i32_28 : BitVec 32 := 7#32
  let v56 : BitVec 32 := Scalar.shrui v55 c7_i32_28
  let c_m4_i32 : BitVec 32 := 4294967292#32
  let v80 : BitVec 32 := Scalar.andi v56 c_m4_i32
  let c128_i32 : BitVec 32 := 128#32
  let v81 : BitVec 32 := Scalar.muli v80 c128_i32
  let v82 : BitVec 32 := v81
  let v115 : Index := Scalar.indexCast v82
  let c0_62 : Index := 0#32
  ![0, v115.toNat, 0]
def k0_mult10 (v54 : BitVec 32) : BitVec 32 :=
  let c127_i32_27 : BitVec 32 := 127#32
  let v55 : BitVec 32 := Scalar.addi v54 c127_i32_27
  let c7_i32_28 : BitVec 32 := 7#32
  let v56 : BitVec 32 := Scalar.shrui v55 c7_i32_28
  let c1_i32_45 : BitVec 32 := 1#32
  let v80 : BitVec 32 := Scalar.subi v56 c1_i32_45
  let c128_i32 : BitVec 32 := 128#32
  let v81 : BitVec 32 := Scalar.muli v80 c128_i32
  v81
def k0_cond4 (v54 : BitVec 32) : BitVec 1 :=
  let c127_i32_27 : BitVec 32 := 127#32
  let v55 : BitVec 32 := Scalar.addi v54 c127_i32_27
  let c7_i32_28 : BitVec 32 := 7#32
  let v56 : BitVec 32 := Scalar.shrui v55 c7_i32_28
  let c1_i32_38 : BitVec 32 := 1#32
  let v69 : BitVec 32 := Scalar.andi v56 c1_i32_38
  let c0_i32_39 : BitVec 32 := 0#32
  let v70 : BitVec 1 := Scalar.cmpi .ne v69 c0_i32_39
  let v71 : BitVec 32 := Scalar.extui v70
  let c0_i32_40 : BitVec 32 := 0#32
  let v72 : BitVec 1 := Scalar.cmpi .ne v71 c0_i32_40
  v72

def k0_off26 (v54 : BitVec 32) : Fin 3 → Nat :=
  let c0_46 : Index := 0#32
  let c127_i32_27 : BitVec 32 := 127#32
  let v55 : BitVec 32 := Scalar.addi v54 c127_i32_27
  let c7_i32_28 : BitVec 32 := 7#32
  let v56 : BitVec 32 := Scalar.shrui v55 c7_i32_28
  let c1_i32_45 : BitVec 32 := 1#32
  let v80 : BitVec 32 := Scalar.subi v56 c1_i32_45
  let c128_i32 : BitVec 32 := 128#32
  let v81 : BitVec 32 := Scalar.muli v80 c128_i32
  let v82 : BitVec 32 := v81
  let v83 : Index := Scalar.indexCast v82
  let c0_47 : Index := 0#32
  ![0, v83.toNat, 0]
def k0_off27 (v54 : BitVec 32) : Fin 3 → Nat :=
  let c0_48 : Index := 0#32
  let c127_i32_27 : BitVec 32 := 127#32
  let v55 : BitVec 32 := Scalar.addi v54 c127_i32_27
  let c7_i32_28 : BitVec 32 := 7#32
  let v56 : BitVec 32 := Scalar.shrui v55 c7_i32_28
  let c1_i32_45 : BitVec 32 := 1#32
  let v80 : BitVec 32 := Scalar.subi v56 c1_i32_45
  let c128_i32 : BitVec 32 := 128#32
  let v81 : BitVec 32 := Scalar.muli v80 c128_i32
  let v82 : BitVec 32 := v81
  let v86 : Index := Scalar.indexCast v82
  let c1024 : Index := 1024#32
  ![0, v86.toNat, 1024]
def k0_off28 (v54 : BitVec 32) : Fin 3 → Nat :=
  let c0_62 : Index := 0#32
  let c127_i32_27 : BitVec 32 := 127#32
  let v55 : BitVec 32 := Scalar.addi v54 c127_i32_27
  let c7_i32_28 : BitVec 32 := 7#32
  let v56 : BitVec 32 := Scalar.shrui v55 c7_i32_28
  let c1_i32_45 : BitVec 32 := 1#32
  let v80 : BitVec 32 := Scalar.subi v56 c1_i32_45
  let c128_i32 : BitVec 32 := 128#32
  let v81 : BitVec 32 := Scalar.muli v80 c128_i32
  let v82 : BitVec 32 := v81
  let v115 : Index := Scalar.indexCast v82
  let c0_63 : Index := 0#32
  ![0, v115.toNat, 0]
@[reducible] def k0_t7_loop (v54 : BitVec 32) : Scf.Loop 32 :=
  let c127_i32_27 : BitVec 32 := 127#32
  let v55 : BitVec 32 := Scalar.addi v54 c127_i32_27
  let c7_i32_28 : BitVec 32 := 7#32
  let v56 : BitVec 32 := Scalar.shrui v55 c7_i32_28
  let c12_i32 : BitVec 32 := 12#32
  let v73 : BitVec 32 := Scalar.subi c12_i32 v56
  let c1_i32_42 : BitVec 32 := 1#32
  let v75 : BitVec 32 := Scalar.divsi v73 c1_i32_42
  let v76 : BitVec 32 := Scalar.muli v75 c1_i32_42
  let v77 : BitVec 32 := Scalar.addi v56 v76
  let c1_i32_43 : BitVec 32 := 1#32
  ⟨v56, v77, c1_i32_43⟩
def k0_mult11 (v54 : BitVec 32) (k0_t7 : Fin (k0_t7_loop v54).trips) : BitVec 32 :=
  let c127_i32_27 : BitVec 32 := 127#32
  let v55 : BitVec 32 := Scalar.addi v54 c127_i32_27
  let c7_i32_28 : BitVec 32 := 7#32
  let v56 : BitVec 32 := Scalar.shrui v55 c7_i32_28
  let c1_i32_43 : BitVec 32 := 1#32
  let arg13 : BitVec 32 := Scf.iv v56 c1_i32_43 k0_t7
  let c128_i32 : BitVec 32 := 128#32
  let v81 : BitVec 32 := Scalar.muli arg13 c128_i32
  v81
def k0_off29 (v54 : BitVec 32) (k0_t7 : Fin (k0_t7_loop v54).trips) : Fin 3 → Nat :=
  let c0_45 : Index := 0#32
  let c127_i32_27 : BitVec 32 := 127#32
  let v55 : BitVec 32 := Scalar.addi v54 c127_i32_27
  let c7_i32_28 : BitVec 32 := 7#32
  let v56 : BitVec 32 := Scalar.shrui v55 c7_i32_28
  let c1_i32_43 : BitVec 32 := 1#32
  let arg13 : BitVec 32 := Scf.iv v56 c1_i32_43 k0_t7
  let c128_i32 : BitVec 32 := 128#32
  let v81 : BitVec 32 := Scalar.muli arg13 c128_i32
  let v82 : BitVec 32 := v81
  let v83 : Index := Scalar.indexCast v82
  let c0_46 : Index := 0#32
  ![0, v83.toNat, 0]
@[reducible] def k0_t8_loop (v54 : BitVec 32) : Scf.Loop 32 :=
  let c127_i32_27 : BitVec 32 := 127#32
  let v55 : BitVec 32 := Scalar.addi v54 c127_i32_27
  let c7_i32_28 : BitVec 32 := 7#32
  let v56 : BitVec 32 := Scalar.shrui v55 c7_i32_28
  let c12_i32 : BitVec 32 := 12#32
  let v73 : BitVec 32 := Scalar.subi c12_i32 v56
  let c1_i32_42 : BitVec 32 := 1#32
  let v75 : BitVec 32 := Scalar.divsi v73 c1_i32_42
  let v76 : BitVec 32 := Scalar.muli v75 c1_i32_42
  let v77 : BitVec 32 := Scalar.addi v56 v76
  let v74 : BitVec 32 := Scalar.addi v56 v73
  let c1_i32_44 : BitVec 32 := 1#32
  ⟨v77, v74, c1_i32_44⟩
def k0_mult12 (v54 : BitVec 32) (k0_t8 : Fin (k0_t8_loop v54).trips) : BitVec 32 :=
  let c127_i32_27 : BitVec 32 := 127#32
  let v55 : BitVec 32 := Scalar.addi v54 c127_i32_27
  let c7_i32_28 : BitVec 32 := 7#32
  let v56 : BitVec 32 := Scalar.shrui v55 c7_i32_28
  let c12_i32 : BitVec 32 := 12#32
  let v73 : BitVec 32 := Scalar.subi c12_i32 v56
  let c1_i32_42 : BitVec 32 := 1#32
  let v75 : BitVec 32 := Scalar.divsi v73 c1_i32_42
  let v76 : BitVec 32 := Scalar.muli v75 c1_i32_42
  let v77 : BitVec 32 := Scalar.addi v56 v76
  let c1_i32_44 : BitVec 32 := 1#32
  let arg13 : BitVec 32 := Scf.iv v77 c1_i32_44 k0_t8
  let c128_i32 : BitVec 32 := 128#32
  let v81 : BitVec 32 := Scalar.muli arg13 c128_i32
  v81
def k0_off30 (v54 : BitVec 32) (k0_t8 : Fin (k0_t8_loop v54).trips) : Fin 3 → Nat :=
  let c0_45 : Index := 0#32
  let c127_i32_27 : BitVec 32 := 127#32
  let v55 : BitVec 32 := Scalar.addi v54 c127_i32_27
  let c7_i32_28 : BitVec 32 := 7#32
  let v56 : BitVec 32 := Scalar.shrui v55 c7_i32_28
  let c12_i32 : BitVec 32 := 12#32
  let v73 : BitVec 32 := Scalar.subi c12_i32 v56
  let c1_i32_42 : BitVec 32 := 1#32
  let v75 : BitVec 32 := Scalar.divsi v73 c1_i32_42
  let v76 : BitVec 32 := Scalar.muli v75 c1_i32_42
  let v77 : BitVec 32 := Scalar.addi v56 v76
  let c1_i32_44 : BitVec 32 := 1#32
  let arg13 : BitVec 32 := Scf.iv v77 c1_i32_44 k0_t8
  let c128_i32 : BitVec 32 := 128#32
  let v81 : BitVec 32 := Scalar.muli arg13 c128_i32
  let v82 : BitVec 32 := v81
  let v83 : Index := Scalar.indexCast v82
  let c0_46 : Index := 0#32
  ![0, v83.toNat, 0]

def k0_chk2 (v54 : BitVec 32) : Prop :=
  ((k0_t5_loop v54).OK) ∧
  (∀ k0_t5 : Fin (k0_t5_loop v54).trips, 512 ∣ (k0_mult7 v54 k0_t5).toNat) ∧
  (∀ k0_t5 : Fin (k0_t5_loop v54).trips, ∀ a, (k0_off17 v54 k0_t5) a + S1x512x1024.size a ≤ S1x1536x1152.size a) ∧
  (∀ k0_t5 : Fin (k0_t5_loop v54).trips, ∀ a, (k0_off18 v54 k0_t5) a + S1x512x128.size a ≤ S1x1536x1152.size a) ∧
  (∀ k0_t5 : Fin (k0_t5_loop v54).trips, ∀ a, (k0_off19 v54 k0_t5) a + S1x512x1024.size a ≤ S1x1536x1024.size a) ∧
  (∀ k0_t5 : Fin (k0_t5_loop v54).trips, ∀ (hinb : ∀ a, (k0_off19 v54 k0_t5) a + S1x512x1024.size a ≤ S1x1536x1024.size a), (Rect.unit (s := S1x1536x1024) (k0_off19 v54 k0_t5) S1x512x1024.size hinb).PackedRows (EltTy.packing .bf16)) ∧
  ((k0_t6_loop v54).OK) ∧
  (∀ k0_t6 : Fin (k0_t6_loop v54).trips, 512 ∣ (k0_mult8 v54 k0_t6).toNat) ∧
  (∀ k0_t6 : Fin (k0_t6_loop v54).trips, ∀ a, (k0_off20 v54 k0_t6) a + S1x512x1024.size a ≤ S1x1536x1152.size a) ∧
  (∀ k0_t6 : Fin (k0_t6_loop v54).trips, ∀ a, (k0_off21 v54 k0_t6) a + S1x512x128.size a ≤ S1x1536x1152.size a) ∧
  (∀ k0_t6 : Fin (k0_t6_loop v54).trips, ∀ a, (k0_off22 v54 k0_t6) a + S1x512x1024.size a ≤ S1x1536x1024.size a) ∧
  (∀ k0_t6 : Fin (k0_t6_loop v54).trips, ∀ (hinb : ∀ a, (k0_off22 v54 k0_t6) a + S1x512x1024.size a ≤ S1x1536x1024.size a), (Rect.unit (s := S1x1536x1024) (k0_off22 v54 k0_t6) S1x512x1024.size hinb).PackedRows (EltTy.packing .bf16)) ∧
  (∀ (k0_h3 : k0_cond3 v54 = 1#1), 512 ∣ (k0_mult9 v54).toNat) ∧
  (∀ (k0_h3 : k0_cond3 v54 = 1#1), ∀ a, (k0_off23 v54) a + S1x256x1024.size a ≤ S1x1536x1152.size a) ∧
  (∀ (k0_h3 : k0_cond3 v54 = 1#1), ∀ a, (k0_off24 v54) a + S1x256x128.size a ≤ S1x1536x1152.size a) ∧
  (∀ (k0_h3 : k0_cond3 v54 = 1#1), ∀ a, (k0_off25 v54) a + S1x256x1024.size a ≤ S1x1536x1024.size a) ∧
  (∀ (k0_h3 : k0_cond3 v54 = 1#1), ∀ (hinb : ∀ a, (k0_off25 v54) a + S1x256x1024.size a ≤ S1x1536x1024.size a), (Rect.unit (s := S1x1536x1024) (k0_off25 v54) S1x256x1024.size hinb).PackedRows (EltTy.packing .bf16)) ∧
  (∀ (k0_h4 : k0_cond4 v54 = 1#1), 128 ∣ (k0_mult10 v54).toNat) ∧
  (∀ (k0_h4 : k0_cond4 v54 = 1#1), ∀ a, (k0_off26 v54) a + S1x128x1024.size a ≤ S1x1536x1152.size a) ∧
  (∀ (k0_h4 : k0_cond4 v54 = 1#1), ∀ a, (k0_off27 v54) a + S1x128x128.size a ≤ S1x1536x1152.size a) ∧
  (∀ (k0_h4 : k0_cond4 v54 = 1#1), ∀ a, (k0_off28 v54) a + S1x128x1024.size a ≤ S1x1536x1024.size a) ∧
  (∀ (k0_h4 : k0_cond4 v54 = 1#1), ∀ (hinb : ∀ a, (k0_off28 v54) a + S1x128x1024.size a ≤ S1x1536x1024.size a), (Rect.unit (s := S1x1536x1024) (k0_off28 v54) S1x128x1024.size hinb).PackedRows (EltTy.packing .bf16)) ∧
  ((k0_t7_loop v54).OK) ∧
  (∀ k0_t7 : Fin (k0_t7_loop v54).trips, 128 ∣ (k0_mult11 v54 k0_t7).toNat) ∧
  (∀ k0_t7 : Fin (k0_t7_loop v54).trips, ∀ a, (k0_off29 v54 k0_t7) a + S1x128x1024.size a ≤ S1x1536x1024.size a) ∧
  (∀ k0_t7 : Fin (k0_t7_loop v54).trips, ∀ (hinb : ∀ a, (k0_off29 v54 k0_t7) a + S1x128x1024.size a ≤ S1x1536x1024.size a), (Rect.unit (s := S1x1536x1024) (k0_off29 v54 k0_t7) S1x128x1024.size hinb).PackedRows (EltTy.packing .bf16)) ∧
  ((k0_t8_loop v54).OK) ∧
  (∀ k0_t8 : Fin (k0_t8_loop v54).trips, 128 ∣ (k0_mult12 v54 k0_t8).toNat) ∧
  (∀ k0_t8 : Fin (k0_t8_loop v54).trips, ∀ a, (k0_off30 v54 k0_t8) a + S1x128x1024.size a ≤ S1x1536x1024.size a) ∧
  (∀ k0_t8 : Fin (k0_t8_loop v54).trips, ∀ (hinb : ∀ a, (k0_off30 v54 k0_t8) a + S1x128x1024.size a ≤ S1x1536x1024.size a), (Rect.unit (s := S1x1536x1024) (k0_off30 v54 k0_t8) S1x128x1024.size hinb).PackedRows (EltTy.packing .bf16))
theorem k0_t5_ok : ∀ (v54 : BitVec 32) (k0_hw2 : k0_chk2 v54), (k0_t5_loop v54).OK := fun v54 k0_hw2 => k0_hw2.1
theorem k0_mult7_dvd : ∀ (v54 : BitVec 32) (k0_hw2 : k0_chk2 v54) (k0_t5 : Fin (k0_t5_loop v54).trips), 512 ∣ (k0_mult7 v54 k0_t5).toNat := fun v54 k0_hw2 k0_t5 => k0_hw2.2.1 k0_t5
theorem k0_off17_inb : ∀ (v54 : BitVec 32) (k0_hw2 : k0_chk2 v54) (k0_t5 : Fin (k0_t5_loop v54).trips), ∀ a, (k0_off17 v54 k0_t5) a + S1x512x1024.size a ≤ S1x1536x1152.size a := fun v54 k0_hw2 k0_t5 => k0_hw2.2.2.1 k0_t5
theorem k0_off18_inb : ∀ (v54 : BitVec 32) (k0_hw2 : k0_chk2 v54) (k0_t5 : Fin (k0_t5_loop v54).trips), ∀ a, (k0_off18 v54 k0_t5) a + S1x512x128.size a ≤ S1x1536x1152.size a := fun v54 k0_hw2 k0_t5 => k0_hw2.2.2.2.1 k0_t5
theorem k0_off19_inb : ∀ (v54 : BitVec 32) (k0_hw2 : k0_chk2 v54) (k0_t5 : Fin (k0_t5_loop v54).trips), ∀ a, (k0_off19 v54 k0_t5) a + S1x512x1024.size a ≤ S1x1536x1024.size a := fun v54 k0_hw2 k0_t5 => k0_hw2.2.2.2.2.1 k0_t5
theorem k0_off19_packedbf16 : ∀ (v54 : BitVec 32) (k0_hw2 : k0_chk2 v54) (k0_t5 : Fin (k0_t5_loop v54).trips), (Rect.unit (s := S1x1536x1024) (k0_off19 v54 k0_t5) S1x512x1024.size (k0_off19_inb v54 k0_hw2 k0_t5)).PackedRows (EltTy.packing .bf16) := fun v54 k0_hw2 k0_t5 => k0_hw2.2.2.2.2.2.1 k0_t5 (k0_off19_inb v54 k0_hw2 k0_t5)
theorem k0_t6_ok : ∀ (v54 : BitVec 32) (k0_hw2 : k0_chk2 v54), (k0_t6_loop v54).OK := fun v54 k0_hw2 => k0_hw2.2.2.2.2.2.2.1
theorem k0_mult8_dvd : ∀ (v54 : BitVec 32) (k0_hw2 : k0_chk2 v54) (k0_t6 : Fin (k0_t6_loop v54).trips), 512 ∣ (k0_mult8 v54 k0_t6).toNat := fun v54 k0_hw2 k0_t6 => k0_hw2.2.2.2.2.2.2.2.1 k0_t6
theorem k0_off20_inb : ∀ (v54 : BitVec 32) (k0_hw2 : k0_chk2 v54) (k0_t6 : Fin (k0_t6_loop v54).trips), ∀ a, (k0_off20 v54 k0_t6) a + S1x512x1024.size a ≤ S1x1536x1152.size a := fun v54 k0_hw2 k0_t6 => k0_hw2.2.2.2.2.2.2.2.2.1 k0_t6
theorem k0_off21_inb : ∀ (v54 : BitVec 32) (k0_hw2 : k0_chk2 v54) (k0_t6 : Fin (k0_t6_loop v54).trips), ∀ a, (k0_off21 v54 k0_t6) a + S1x512x128.size a ≤ S1x1536x1152.size a := fun v54 k0_hw2 k0_t6 => k0_hw2.2.2.2.2.2.2.2.2.2.1 k0_t6
theorem k0_off22_inb : ∀ (v54 : BitVec 32) (k0_hw2 : k0_chk2 v54) (k0_t6 : Fin (k0_t6_loop v54).trips), ∀ a, (k0_off22 v54 k0_t6) a + S1x512x1024.size a ≤ S1x1536x1024.size a := fun v54 k0_hw2 k0_t6 => k0_hw2.2.2.2.2.2.2.2.2.2.2.1 k0_t6
theorem k0_off22_packedbf16 : ∀ (v54 : BitVec 32) (k0_hw2 : k0_chk2 v54) (k0_t6 : Fin (k0_t6_loop v54).trips), (Rect.unit (s := S1x1536x1024) (k0_off22 v54 k0_t6) S1x512x1024.size (k0_off22_inb v54 k0_hw2 k0_t6)).PackedRows (EltTy.packing .bf16) := fun v54 k0_hw2 k0_t6 => k0_hw2.2.2.2.2.2.2.2.2.2.2.2.1 k0_t6 (k0_off22_inb v54 k0_hw2 k0_t6)
theorem k0_mult9_dvd : ∀ (v54 : BitVec 32) (k0_hw2 : k0_chk2 v54), ∀ (k0_h3 : k0_cond3 v54 = 1#1), 512 ∣ (k0_mult9 v54).toNat := fun v54 k0_hw2 k0_h3 => k0_hw2.2.2.2.2.2.2.2.2.2.2.2.2.1 k0_h3
theorem k0_off23_inb : ∀ (v54 : BitVec 32) (k0_hw2 : k0_chk2 v54), ∀ (k0_h3 : k0_cond3 v54 = 1#1), ∀ a, (k0_off23 v54) a + S1x256x1024.size a ≤ S1x1536x1152.size a := fun v54 k0_hw2 k0_h3 => k0_hw2.2.2.2.2.2.2.2.2.2.2.2.2.2.1 k0_h3
theorem k0_off24_inb : ∀ (v54 : BitVec 32) (k0_hw2 : k0_chk2 v54), ∀ (k0_h3 : k0_cond3 v54 = 1#1), ∀ a, (k0_off24 v54) a + S1x256x128.size a ≤ S1x1536x1152.size a := fun v54 k0_hw2 k0_h3 => k0_hw2.2.2.2.2.2.2.2.2.2.2.2.2.2.2.1 k0_h3
theorem k0_off25_inb : ∀ (v54 : BitVec 32) (k0_hw2 : k0_chk2 v54), ∀ (k0_h3 : k0_cond3 v54 = 1#1), ∀ a, (k0_off25 v54) a + S1x256x1024.size a ≤ S1x1536x1024.size a := fun v54 k0_hw2 k0_h3 => k0_hw2.2.2.2.2.2.2.2.2.2.2.2.2.2.2.2.1 k0_h3
theorem k0_off25_packedbf16 : ∀ (v54 : BitVec 32) (k0_hw2 : k0_chk2 v54), ∀ (k0_h3 : k0_cond3 v54 = 1#1), (Rect.unit (s := S1x1536x1024) (k0_off25 v54) S1x256x1024.size (k0_off25_inb v54 k0_hw2 k0_h3)).PackedRows (EltTy.packing .bf16) := fun v54 k0_hw2 k0_h3 => k0_hw2.2.2.2.2.2.2.2.2.2.2.2.2.2.2.2.2.1 k0_h3 (k0_off25_inb v54 k0_hw2 k0_h3)
theorem k0_mult10_dvd : ∀ (v54 : BitVec 32) (k0_hw2 : k0_chk2 v54), ∀ (k0_h4 : k0_cond4 v54 = 1#1), 128 ∣ (k0_mult10 v54).toNat := fun v54 k0_hw2 k0_h4 => k0_hw2.2.2.2.2.2.2.2.2.2.2.2.2.2.2.2.2.2.1 k0_h4
theorem k0_off26_inb : ∀ (v54 : BitVec 32) (k0_hw2 : k0_chk2 v54), ∀ (k0_h4 : k0_cond4 v54 = 1#1), ∀ a, (k0_off26 v54) a + S1x128x1024.size a ≤ S1x1536x1152.size a := fun v54 k0_hw2 k0_h4 => k0_hw2.2.2.2.2.2.2.2.2.2.2.2.2.2.2.2.2.2.2.1 k0_h4
theorem k0_off27_inb : ∀ (v54 : BitVec 32) (k0_hw2 : k0_chk2 v54), ∀ (k0_h4 : k0_cond4 v54 = 1#1), ∀ a, (k0_off27 v54) a + S1x128x128.size a ≤ S1x1536x1152.size a := fun v54 k0_hw2 k0_h4 => k0_hw2.2.2.2.2.2.2.2.2.2.2.2.2.2.2.2.2.2.2.2.1 k0_h4
theorem k0_off28_inb : ∀ (v54 : BitVec 32) (k0_hw2 : k0_chk2 v54), ∀ (k0_h4 : k0_cond4 v54 = 1#1), ∀ a, (k0_off28 v54) a + S1x128x1024.size a ≤ S1x1536x1024.size a := fun v54 k0_hw2 k0_h4 => k0_hw2.2.2.2.2.2.2.2.2.2.2.2.2.2.2.2.2.2.2.2.2.1 k0_h4
theorem k0_off28_packedbf16 : ∀ (v54 : BitVec 32) (k0_hw2 : k0_chk2 v54), ∀ (k0_h4 : k0_cond4 v54 = 1#1), (Rect.unit (s := S1x1536x1024) (k0_off28 v54) S1x128x1024.size (k0_off28_inb v54 k0_hw2 k0_h4)).PackedRows (EltTy.packing .bf16) := fun v54 k0_hw2 k0_h4 => k0_hw2.2.2.2.2.2.2.2.2.2.2.2.2.2.2.2.2.2.2.2.2.2.1 k0_h4 (k0_off28_inb v54 k0_hw2 k0_h4)
theorem k0_t7_ok : ∀ (v54 : BitVec 32) (k0_hw2 : k0_chk2 v54), (k0_t7_loop v54).OK := fun v54 k0_hw2 => k0_hw2.2.2.2.2.2.2.2.2.2.2.2.2.2.2.2.2.2.2.2.2.2.2.1
theorem k0_mult11_dvd : ∀ (v54 : BitVec 32) (k0_hw2 : k0_chk2 v54) (k0_t7 : Fin (k0_t7_loop v54).trips), 128 ∣ (k0_mult11 v54 k0_t7).toNat := fun v54 k0_hw2 k0_t7 => k0_hw2.2.2.2.2.2.2.2.2.2.2.2.2.2.2.2.2.2.2.2.2.2.2.2.1 k0_t7
theorem k0_off29_inb : ∀ (v54 : BitVec 32) (k0_hw2 : k0_chk2 v54) (k0_t7 : Fin (k0_t7_loop v54).trips), ∀ a, (k0_off29 v54 k0_t7) a + S1x128x1024.size a ≤ S1x1536x1024.size a := fun v54 k0_hw2 k0_t7 => k0_hw2.2.2.2.2.2.2.2.2.2.2.2.2.2.2.2.2.2.2.2.2.2.2.2.2.1 k0_t7
theorem k0_off29_packedbf16 : ∀ (v54 : BitVec 32) (k0_hw2 : k0_chk2 v54) (k0_t7 : Fin (k0_t7_loop v54).trips), (Rect.unit (s := S1x1536x1024) (k0_off29 v54 k0_t7) S1x128x1024.size (k0_off29_inb v54 k0_hw2 k0_t7)).PackedRows (EltTy.packing .bf16) := fun v54 k0_hw2 k0_t7 => k0_hw2.2.2.2.2.2.2.2.2.2.2.2.2.2.2.2.2.2.2.2.2.2.2.2.2.2.1 k0_t7 (k0_off29_inb v54 k0_hw2 k0_t7)
theorem k0_t8_ok : ∀ (v54 : BitVec 32) (k0_hw2 : k0_chk2 v54), (k0_t8_loop v54).OK := fun v54 k0_hw2 => k0_hw2.2.2.2.2.2.2.2.2.2.2.2.2.2.2.2.2.2.2.2.2.2.2.2.2.2.2.1
theorem k0_mult12_dvd : ∀ (v54 : BitVec 32) (k0_hw2 : k0_chk2 v54) (k0_t8 : Fin (k0_t8_loop v54).trips), 128 ∣ (k0_mult12 v54 k0_t8).toNat := fun v54 k0_hw2 k0_t8 => k0_hw2.2.2.2.2.2.2.2.2.2.2.2.2.2.2.2.2.2.2.2.2.2.2.2.2.2.2.2.1 k0_t8
theorem k0_off30_inb : ∀ (v54 : BitVec 32) (k0_hw2 : k0_chk2 v54) (k0_t8 : Fin (k0_t8_loop v54).trips), ∀ a, (k0_off30 v54 k0_t8) a + S1x128x1024.size a ≤ S1x1536x1024.size a := fun v54 k0_hw2 k0_t8 => k0_hw2.2.2.2.2.2.2.2.2.2.2.2.2.2.2.2.2.2.2.2.2.2.2.2.2.2.2.2.2.1 k0_t8
theorem k0_off30_packedbf16 : ∀ (v54 : BitVec 32) (k0_hw2 : k0_chk2 v54) (k0_t8 : Fin (k0_t8_loop v54).trips), (Rect.unit (s := S1x1536x1024) (k0_off30 v54 k0_t8) S1x128x1024.size (k0_off30_inb v54 k0_hw2 k0_t8)).PackedRows (EltTy.packing .bf16) := fun v54 k0_hw2 k0_t8 => k0_hw2.2.2.2.2.2.2.2.2.2.2.2.2.2.2.2.2.2.2.2.2.2.2.2.2.2.2.2.2.2 k0_t8 (k0_off30_inb v54 k0_hw2 k0_t8)

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x768x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1536x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x768x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1536x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S16x17 : Shape := ⟨2, ![16, 17]⟩
abbrev S16x33 : Shape := ⟨2, ![16, 33]⟩
abbrev S16x768x1152 : Shape := ⟨3, ![16, 768, 1152]⟩
abbrev S16x1536x1152 : Shape := ⟨3, ![16, 1536, 1152]⟩
abbrev S16x1024x512 : Shape := ⟨3, ![16, 1024, 512]⟩
abbrev S16x512x1024 : Shape := ⟨3, ![16, 512, 1024]⟩
abbrev S16x768x1024 : Shape := ⟨3, ![16, 768, 1024]⟩
abbrev S16x768x512 : Shape := ⟨3, ![16, 768, 512]⟩
abbrev S_ : Shape := ⟨0, ![]⟩
abbrev S16x768x48 : Shape := ⟨3, ![16, 768, 48]⟩
abbrev S16x768x3x16 : Shape := ⟨4, ![16, 768, 3, 16]⟩
abbrev S16x768x16 : Shape := ⟨3, ![16, 768, 16]⟩
abbrev S16x16 : Shape := ⟨2, ![16, 16]⟩
abbrev S768x16 : Shape := ⟨2, ![768, 16]⟩
abbrev S16x768 : Shape := ⟨2, ![16, 768]⟩
abbrev S16x768x1 : Shape := ⟨3, ![16, 768, 1]⟩
abbrev S16x1536x1024 : Shape := ⟨3, ![16, 1536, 1024]⟩
abbrev S16x1536x512 : Shape := ⟨3, ![16, 1536, 512]⟩
abbrev S16x1536x48 : Shape := ⟨3, ![16, 1536, 48]⟩
abbrev S16x1536x3x16 : Shape := ⟨4, ![16, 1536, 3, 16]⟩
abbrev S16x1536x16 : Shape := ⟨3, ![16, 1536, 16]⟩
abbrev S1536x16 : Shape := ⟨2, ![1536, 16]⟩
abbrev S16x1536 : Shape := ⟨2, ![16, 1536]⟩
abbrev S16x1536x1 : Shape := ⟨3, ![16, 1536, 1]⟩

abbrev nBuf : Space → Nat
  | .hbm => 75
  | .vmem => 0
  | .smem => 0
  | _ => 0

abbrev bufTy : (tb : Table) → Fin (tcTables nBuf tb) → BufTy
  | .hbm, ⟨0, _⟩ => ⟨S16x17, .i32⟩
  | .hbm, ⟨1, _⟩ => ⟨S16x33, .i32⟩
  | .hbm, ⟨2, _⟩ => ⟨S16x768x1152, .bf16⟩
  | .hbm, ⟨3, _⟩ => ⟨S16x1536x1152, .bf16⟩
  | .hbm, ⟨4, _⟩ => ⟨S16x1024x512, .f32⟩
  | .hbm, ⟨5, _⟩ => ⟨S16x1024x512, .f32⟩
  | .hbm, ⟨6, _⟩ => ⟨S16x512x1024, .f32⟩
  | .hbm, ⟨7, _⟩ => ⟨S16x768x1024, .bf16⟩
  | .hbm, ⟨8, _⟩ => ⟨S16x768x1024, .f32⟩
  | .hbm, ⟨9, _⟩ => ⟨S16x768x512, .f32⟩
  | .hbm, ⟨10, _⟩ => ⟨S16x768x512, .f32⟩
  | .hbm, ⟨11, _⟩ => ⟨S16x768x512, .f32⟩
  | .hbm, ⟨12, _⟩ => ⟨S_, .f32⟩
  | .hbm, ⟨13, _⟩ => ⟨S16x768x512, .f32⟩
  | .hbm, ⟨14, _⟩ => ⟨S16x768x512, .f32⟩
  | .hbm, ⟨15, _⟩ => ⟨S_, .f32⟩
  | .hbm, ⟨16, _⟩ => ⟨S16x768x512, .f32⟩
  | .hbm, ⟨17, _⟩ => ⟨S16x768x512, .f32⟩
  | .hbm, ⟨18, _⟩ => ⟨S16x768x512, .f32⟩
  | .hbm, ⟨19, _⟩ => ⟨S16x768x512, .f32⟩
  | .hbm, ⟨20, _⟩ => ⟨S16x768x512, .f32⟩
  | .hbm, ⟨21, _⟩ => ⟨S16x768x1024, .f32⟩
  | .hbm, ⟨22, _⟩ => ⟨S16x768x48, .bf16⟩
  | .hbm, ⟨23, _⟩ => ⟨S16x768x48, .f32⟩
  | .hbm, ⟨24, _⟩ => ⟨S16x768x3x16, .f32⟩
  | .hbm, ⟨25, _⟩ => ⟨S_, .f32⟩
  | .hbm, ⟨26, _⟩ => ⟨S16x768x16, .f32⟩
  | .hbm, ⟨27, _⟩ => ⟨S16x16, .i32⟩
  | .hbm, ⟨28, _⟩ => ⟨S16x16, .i32⟩
  | .hbm, ⟨29, _⟩ => ⟨S16x16, .i1⟩
  | .hbm, ⟨30, _⟩ => ⟨S16x768x16, .i1⟩
  | .hbm, ⟨31, _⟩ => ⟨S_, .f32⟩
  | .hbm, ⟨32, _⟩ => ⟨S16x768x16, .f32⟩
  | .hbm, ⟨33, _⟩ => ⟨S16x768x16, .f32⟩
  | .hbm, ⟨34, _⟩ => ⟨S_, .f32⟩
  | .hbm, ⟨35, _⟩ => ⟨S768x16, .f32⟩
  | .hbm, ⟨36, _⟩ => ⟨S16x768, .f32⟩
  | .hbm, ⟨37, _⟩ => ⟨S16x768x1, .f32⟩
  | .hbm, ⟨38, _⟩ => ⟨S16x768x1024, .f32⟩
  | .hbm, ⟨39, _⟩ => ⟨S16x768x1024, .f32⟩
  | .hbm, ⟨40, _⟩ => ⟨S16x768x1024, .bf16⟩
  | .hbm, ⟨41, _⟩ => ⟨S16x1536x1024, .bf16⟩
  | .hbm, ⟨42, _⟩ => ⟨S16x1536x1024, .f32⟩
  | .hbm, ⟨43, _⟩ => ⟨S16x1536x512, .f32⟩
  | .hbm, ⟨44, _⟩ => ⟨S16x1536x512, .f32⟩
  | .hbm, ⟨45, _⟩ => ⟨S16x1536x512, .f32⟩
  | .hbm, ⟨46, _⟩ => ⟨S_, .f32⟩
  | .hbm, ⟨47, _⟩ => ⟨S16x1536x512, .f32⟩
  | .hbm, ⟨48, _⟩ => ⟨S16x1536x512, .f32⟩
  | .hbm, ⟨49, _⟩ => ⟨S_, .f32⟩
  | .hbm, ⟨50, _⟩ => ⟨S16x1536x512, .f32⟩
  | .hbm, ⟨51, _⟩ => ⟨S16x1536x512, .f32⟩
  | .hbm, ⟨52, _⟩ => ⟨S16x1536x512, .f32⟩
  | .hbm, ⟨53, _⟩ => ⟨S16x1536x512, .f32⟩
  | .hbm, ⟨54, _⟩ => ⟨S16x1536x512, .f32⟩
  | .hbm, ⟨55, _⟩ => ⟨S16x1536x1024, .f32⟩
  | .hbm, ⟨56, _⟩ => ⟨S16x1536x48, .bf16⟩
  | .hbm, ⟨57, _⟩ => ⟨S16x1536x48, .f32⟩
  | .hbm, ⟨58, _⟩ => ⟨S16x1536x3x16, .f32⟩
  | .hbm, ⟨59, _⟩ => ⟨S_, .f32⟩
  | .hbm, ⟨60, _⟩ => ⟨S16x1536x16, .f32⟩
  | .hbm, ⟨61, _⟩ => ⟨S16x16, .i32⟩
  | .hbm, ⟨62, _⟩ => ⟨S16x16, .i32⟩
  | .hbm, ⟨63, _⟩ => ⟨S16x16, .i1⟩
  | .hbm, ⟨64, _⟩ => ⟨S16x1536x16, .i1⟩
  | .hbm, ⟨65, _⟩ => ⟨S_, .f32⟩
  | .hbm, ⟨66, _⟩ => ⟨S16x1536x16, .f32⟩
  | .hbm, ⟨67, _⟩ => ⟨S16x1536x16, .f32⟩
  | .hbm, ⟨68, _⟩ => ⟨S_, .f32⟩
  | .hbm, ⟨69, _⟩ => ⟨S1536x16, .f32⟩
  | .hbm, ⟨70, _⟩ => ⟨S16x1536, .f32⟩
  | .hbm, ⟨71, _⟩ => ⟨S16x1536x1, .f32⟩
  | .hbm, ⟨72, _⟩ => ⟨S16x1536x1024, .f32⟩
  | .hbm, ⟨73, _⟩ => ⟨S16x1536x1024, .f32⟩
  | .hbm, ⟨74, _⟩ => ⟨S16x1536x1024, .bf16⟩
  | _, _ => ⟨S16x17, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_0 : Ref sig .tc := ⟨.hbm, 31, rfl⟩
abbrev main_v15 : Ref sig .tc := ⟨.hbm, 32, rfl⟩
abbrev main_v16 : Ref sig .tc := ⟨.hbm, 33, rfl⟩
abbrev main_cst_1 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_call1_v0 : Ref sig .tc := ⟨.hbm, 44, rfl⟩
abbrev main_call1_v1 : Ref sig .tc := ⟨.hbm, 45, rfl⟩
abbrev main_call1_cst : Ref sig .tc := ⟨.hbm, 46, rfl⟩
abbrev main_call1_v2 : Ref sig .tc := ⟨.hbm, 47, rfl⟩
abbrev main_call1_v3 : Ref sig .tc := ⟨.hbm, 48, rfl⟩
abbrev main_call1_cst_0 : Ref sig .tc := ⟨.hbm, 49, rfl⟩
abbrev main_call1_v4 : Ref sig .tc := ⟨.hbm, 50, rfl⟩
abbrev main_call1_v5 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_2 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_3 : Ref sig .tc := ⟨.hbm, 65, rfl⟩
abbrev main_v38 : Ref sig .tc := ⟨.hbm, 66, rfl⟩
abbrev main_v39 : Ref sig .tc := ⟨.hbm, 67, rfl⟩
abbrev main_cst_4 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩

abbrev nD : Nat := 1
abbrev τ : Topo := Topo.v7x

variable {F : FTy → Type} [FloatOps F]
-- ==== Kernel3.lean ====
abbrev S16x256x1024 : Shape := ⟨3, ![16, 256, 1024]⟩
abbrev S1x6x1024 : Shape := ⟨3, ![1, 6, 1024]⟩
abbrev S1x1024 : Shape := ⟨2, ![1, 1024]⟩
abbrev S1024x2432 : Shape := ⟨2, ![1024, 2432]⟩
abbrev S1x384 : Shape := ⟨2, ![1, 384]⟩
abbrev S384x1024 : Shape := ⟨2, ![384, 1024]⟩
abbrev S1x256 : Shape := ⟨2, ![1, 256]⟩
abbrev S256x1024 : Shape := ⟨2, ![256, 1024]⟩
abbrev S256x512 : Shape := ⟨2, ![256, 512]⟩
abbrev S3x512 : Shape := ⟨2, ![3, 512]⟩
abbrev S256x128 : Shape := ⟨2, ![256, 128]⟩
abbrev S16x256x512 : Shape := ⟨3, ![16, 256, 512]⟩
abbrev S16x256x256 : Shape := ⟨3, ![16, 256, 256]⟩
abbrev S16x256x128 : Shape := ⟨3, ![16, 256, 128]⟩
abbrev S1x256x1024 : Shape := ⟨3, ![1, 256, 1024]⟩
abbrev S1x256x512 : Shape := ⟨3, ![1, 256, 512]⟩
abbrev S1x256x256 : Shape := ⟨3, ![1, 256, 256]⟩
abbrev S1x256x128 : Shape := ⟨3, ![1, 256, 128]⟩
abbrev S1x1x1024 : Shape := ⟨3, ![1, 1, 1024]⟩
abbrev S256 : Shape := ⟨1, ![256]⟩
abbrev S256x1 : Shape := ⟨2, ![256, 1]⟩
abbrev S256x2432 : Shape := ⟨2, ![256, 2432]⟩
abbrev S256x384 : Shape := ⟨2, ![256, 384]⟩
abbrev S1x128 : Shape := ⟨2, ![1, 128]⟩
abbrev S256x256 : Shape := ⟨2, ![256, 256]⟩
abbrev S1x512 : Shape := ⟨2, ![1, 512]⟩

abbrev nBuf : Space → Nat
  | .hbm => 18
  | .vmem => 27
  | .smem => 0
  | _ => 0

abbrev bufTy : (tb : Table) → Fin (tcTables nBuf tb) → BufTy
  | .hbm, ⟨0, _⟩ => ⟨S16x256x1024, .f32⟩
  | .hbm, ⟨1, _⟩ => ⟨S1x6x1024, .f32⟩
  | .hbm, ⟨2, _⟩ => ⟨S1x1024, .f32⟩
  | .hbm, ⟨3, _⟩ => ⟨S1024x2432, .bf16⟩
  | .hbm, ⟨4, _⟩ => ⟨S1x384, .f32⟩
  | .hbm, ⟨5, _⟩ => ⟨S384x1024, .bf16⟩
  | .hbm, ⟨6, _⟩ => ⟨S1x256, .f32⟩
  | .hbm, ⟨7, _⟩ => ⟨S256x1024, .bf16⟩
  | .hbm, ⟨8, _⟩ => ⟨S256x512, .bf16⟩
  | .hbm, ⟨9, _⟩ => ⟨S3x512, .f32⟩
  | .hbm, ⟨10, _⟩ => ⟨S256x128, .f32⟩
  | .hbm, ⟨11, _⟩ => ⟨S256x128, .f32⟩
  | .hbm, ⟨12, _⟩ => ⟨S16x256x1024, .bf16⟩
  | .hbm, ⟨13, _⟩ => ⟨S16x256x1024, .bf16⟩
  | .hbm, ⟨14, _⟩ => ⟨S16x256x512, .bf16⟩
  | .hbm, ⟨15, _⟩ => ⟨S16x256x512, .bf16⟩
  | .hbm, ⟨16, _⟩ => ⟨S16x256x256, .f32⟩
  | .hbm, ⟨17, _⟩ => ⟨S16x256x128, .f32⟩
  | .local _ .vmem, ⟨0, _⟩ => ⟨S1x256x1024, .f32⟩
  | .local _ .vmem, ⟨1, _⟩ => ⟨S1x256x1024, .f32⟩
  | .local _ .vmem, ⟨2, _⟩ => ⟨S1x6x1024, .f32⟩
  | .local _ .vmem, ⟨3, _⟩ => ⟨S1x1024, .f32⟩
  | .local _ .vmem, ⟨4, _⟩ => ⟨S1024x2432, .bf16⟩
  | .local _ .vmem, ⟨5, _⟩ => ⟨S1x384, .f32⟩
  | .local _ .vmem, ⟨6, _⟩ => ⟨S384x1024, .bf16⟩
  | .local _ .vmem, ⟨7, _⟩ => ⟨S1x256, .f32⟩
  | .local _ .vmem, ⟨8, _⟩ => ⟨S256x1024, .bf16⟩
  | .local _ .vmem, ⟨9, _⟩ => ⟨S256x512, .bf16⟩
  | .local _ .vmem, ⟨10, _⟩ => ⟨S3x512, .f32⟩
  | .local _ .vmem, ⟨11, _⟩ => ⟨S256x128, .f32⟩
  | .local _ .vmem, ⟨12, _⟩ => ⟨S256x128, .f32⟩
  | .local _ .vmem, ⟨13, _⟩ => ⟨S1x256x1024, .bf16⟩
  | .local _ .vmem, ⟨14, _⟩ => ⟨S1x256x1024, .bf16⟩
  | .local _ .vmem, ⟨15, _⟩ => ⟨S1x256x1024, .bf16⟩
  | .local _ .vmem, ⟨16, _⟩ => ⟨S1x256x1024, .bf16⟩
  | .local _ .vmem, ⟨17, _⟩ => ⟨S1x256x512, .bf16⟩
  | .local _ .vmem, ⟨18, _⟩ => ⟨S1x256x512, .bf16⟩
  | .local _ .vmem, ⟨19, _⟩ => ⟨S1x256x512, .bf16⟩
  | .local _ .vmem, ⟨20, _⟩ => ⟨S1x256x512, .bf16⟩
  | .local _ .vmem, ⟨21, _⟩ => ⟨S1x256x256, .f32⟩
  | .local _ .vmem, ⟨22, _⟩ => ⟨S1x256x256, .f32⟩
  | .local _ .vmem, ⟨23, _⟩ => ⟨S1x256x128, .f32⟩
  | .local _ .vmem, ⟨24, _⟩ => ⟨S1x256x128, .f32⟩
  | .local _ .vmem, ⟨25, _⟩ => ⟨S256x512, .f32⟩
  | .local _ .vmem, ⟨26, _⟩ => ⟨S256x512, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_scratch0 : Ref sig .tc := ⟨.vmem, 25, rfl⟩
abbrev cc0_scratch1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2432 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x256x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x256x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Kernel3Ideal.lean ====
variable {F : FTy → Type} [FloatOps F] [Named F]
def κ : String → Option EReal := fun
  | "one96th" => some ((1 / 96 : ℝ) : EReal)
  | _ => none
-- ==== Reference3Ideal.lean ====
abbrev S16x256x1024 : Shape := ⟨3, ![16, 256, 1024]⟩
abbrev S1x6x1024 : Shape := ⟨3, ![1, 6, 1024]⟩
abbrev S1x1024 : Shape := ⟨2, ![1, 1024]⟩
abbrev S1024x2432 : Shape := ⟨2, ![1024, 2432]⟩
abbrev S1x384 : Shape := ⟨2, ![1, 384]⟩
abbrev S384x1024 : Shape := ⟨2, ![384, 1024]⟩
abbrev S1x256 : Shape := ⟨2, ![1, 256]⟩
abbrev S256x1024 : Shape := ⟨2, ![256, 1024]⟩
abbrev S256x512 : Shape := ⟨2, ![256, 512]⟩
abbrev S3x512 : Shape := ⟨2, ![3, 512]⟩
abbrev S256x128 : Shape := ⟨2, ![256, 128]⟩
abbrev S1024 : Shape := ⟨1, ![1024]⟩
abbrev S_ : Shape := ⟨0, ![]⟩
abbrev S16x256 : Shape := ⟨2, ![16, 256]⟩
abbrev S16x256x1 : Shape := ⟨3, ![16, 256, 1]⟩
abbrev S1x1x1024 : Shape := ⟨3, ![1, 1, 1024]⟩
abbrev S16x256x2432 : Shape := ⟨3, ![16, 256, 2432]⟩
abbrev S16x256x384 : Shape := ⟨3, ![16, 256, 384]⟩
abbrev S16x256x256 : Shape := ⟨3, ![16, 256, 256]⟩
abbrev S16x256x128 : Shape := ⟨3, ![16, 256, 128]⟩
abbrev S16x256x512 : Shape := ⟨3, ![16, 256, 512]⟩
abbrev S384 : Shape := ⟨1, ![384]⟩
abbrev S1x1x384 : Shape := ⟨3, ![1, 1, 384]⟩
abbrev S16x256x8x128 : Shape := ⟨4, ![16, 256, 8, 128]⟩
abbrev S16x256x8x96 : Shape := ⟨4, ![16, 256, 8, 96]⟩
abbrev S16x256x8 : Shape := ⟨3, ![16, 256, 8]⟩
abbrev S16x256x8x1 : Shape := ⟨4, ![16, 256, 8, 1]⟩
abbrev S256x1x128 : Shape := ⟨3, ![256, 1, 128]⟩
abbrev S1x256x1x128 : Shape := ⟨4, ![1, 256, 1, 128]⟩
abbrev S256 : Shape := ⟨1, ![256]⟩
abbrev S1x1x256 : Shape := ⟨3, ![1, 1, 256]⟩
abbrev S16x256x1x128 : Shape := ⟨4, ![16, 256, 1, 128]⟩
abbrev S16x258x512 : Shape := ⟨3, ![16, 258, 512]⟩
abbrev S1x512 : Shape := ⟨2, ![1, 512]⟩
abbrev S512 : Shape := ⟨1, ![512]⟩
abbrev S1x1x512 : Shape := ⟨3, ![1, 1, 512]⟩

abbrev nBuf : Space → Nat
  | .hbm => 162
  | .vmem => 0
  | .smem => 0
  | _ => 0

abbrev hbmTy0_0 (i : Nat) : BufTy := match i % 128 with
  | 0 => ⟨S16x256x1024, .f32⟩
  | 1 => ⟨S1x6x1024, .f32⟩
  | 2 => ⟨S1x1024, .f32⟩
  | 3 => ⟨S1024x2432, .bf16⟩
  | 4 => ⟨S1x384, .f32⟩
  | 5 => ⟨S384x1024, .bf16⟩
  | 6 => ⟨S1x256, .f32⟩
  | 7 => ⟨S256x1024, .bf16⟩
  | 8 => ⟨S256x512, .bf16⟩
  | 9 => ⟨S3x512, .f32⟩
  | 10 => ⟨S256x128, .f32⟩
  | 11 => ⟨S256x128, .f32⟩
  | 12 => ⟨S1024, .f32⟩
  | 13 => ⟨S16x256x1024, .f32⟩
  | 14 => ⟨S_, .f32⟩
  | 15 => ⟨S16x256, .f32⟩
  | 16 => ⟨S16x256x1, .f32⟩
  | 17 => ⟨S_, .f32⟩
  | 18 => ⟨S16x256x1, .f32⟩
  | 19 => ⟨S16x256x1, .f32⟩
  | 20 => ⟨S_, .f32⟩
  | 21 => ⟨S16x256x1, .f32⟩
  | 22 => ⟨S16x256x1, .f32⟩
  | 23 => ⟨S16x256x1, .f32⟩
  | 24 => ⟨S16x256x1024, .f32⟩
  | 25 => ⟨S16x256x1024, .f32⟩
  | 26 => ⟨S1x1x1024, .f32⟩
  | 27 => ⟨S16x256x1024, .f32⟩
  | 28 => ⟨S16x256x1024, .f32⟩
  | 29 => ⟨S1x1x1024, .f32⟩
  | 30 => ⟨S1024, .f32⟩
  | 31 => ⟨S_, .f32⟩
  | 32 => ⟨S1024, .f32⟩
  | 33 => ⟨S1024, .f32⟩
  | 34 => ⟨S1x1x1024, .f32⟩
  | 35 => ⟨S16x256x1024, .f32⟩
  | 36 => ⟨S16x256x1024, .f32⟩
  | 37 => ⟨S1x1x1024, .f32⟩
  | 38 => ⟨S1024, .f32⟩
  | 39 => ⟨S1x1x1024, .f32⟩
  | 40 => ⟨S16x256x1024, .f32⟩
  | 41 => ⟨S16x256x1024, .f32⟩
  | 42 => ⟨S1024x2432, .f32⟩
  | 43 => ⟨S16x256x2432, .f32⟩
  | 44 => ⟨S16x256x384, .f32⟩
  | 45 => ⟨S16x256x256, .f32⟩
  | 46 => ⟨S16x256x128, .f32⟩
  | 47 => ⟨S16x256x512, .f32⟩
  | 48 => ⟨S16x256x512, .f32⟩
  | 49 => ⟨S16x256x512, .f32⟩
  | 50 => ⟨S384, .f32⟩
  | 51 => ⟨S16x256x384, .f32⟩
  | 52 => ⟨S_, .f32⟩
  | 53 => ⟨S16x256, .f32⟩
  | 54 => ⟨S16x256x1, .f32⟩
  | 55 => ⟨S_, .f32⟩
  | 56 => ⟨S16x256x1, .f32⟩
  | 57 => ⟨S16x256x1, .f32⟩
  | 58 => ⟨S_, .f32⟩
  | 59 => ⟨S16x256x1, .f32⟩
  | 60 => ⟨S16x256x1, .f32⟩
  | 61 => ⟨S16x256x1, .f32⟩
  | 62 => ⟨S16x256x384, .f32⟩
  | 63 => ⟨S16x256x384, .f32⟩
  | 64 => ⟨S1x1x384, .f32⟩
  | 65 => ⟨S16x256x384, .f32⟩
  | 66 => ⟨S16x256x384, .f32⟩
  | 67 => ⟨S384x1024, .f32⟩
  | 68 => ⟨S16x256x1024, .f32⟩
  | 69 => ⟨S16x256x8x128, .f32⟩
  | 70 => ⟨S16x256x8x96, .f32⟩
  | 71 => ⟨S16x256x8x96, .f32⟩
  | 72 => ⟨S_, .f32⟩
  | 73 => ⟨S16x256x8, .f32⟩
  | 74 => ⟨S16x256x8x1, .f32⟩
  | 75 => ⟨S_, .f32⟩
  | 76 => ⟨S16x256x8x1, .f32⟩
  | 77 => ⟨S16x256x8x1, .f32⟩
  | 78 => ⟨S_, .f32⟩
  | 79 => ⟨S16x256x8x1, .f32⟩
  | 80 => ⟨S16x256x8x1, .f32⟩
  | 81 => ⟨S16x256x8x1, .f32⟩
  | 82 => ⟨S16x256x8x128, .f32⟩
  | 83 => ⟨S16x256x8x128, .f32⟩
  | 84 => ⟨S256x1x128, .f32⟩
  | 85 => ⟨S1x256x1x128, .f32⟩
  | 86 => ⟨S16x256x8x128, .f32⟩
  | 87 => ⟨S16x256x8x128, .f32⟩
  | 88 => ⟨S16x256x1024, .f32⟩
  | 89 => ⟨S16x256x1024, .bf16⟩
  | 90 => ⟨S256, .f32⟩
  | 91 => ⟨S16x256x256, .f32⟩
  | 92 => ⟨S_, .f32⟩
  | 93 => ⟨S16x256, .f32⟩
  | 94 => ⟨S16x256x1, .f32⟩
  | 95 => ⟨S_, .f32⟩
  | 96 => ⟨S16x256x1, .f32⟩
  | 97 => ⟨S16x256x1, .f32⟩
  | 98 => ⟨S_, .f32⟩
  | 99 => ⟨S16x256x1, .f32⟩
  | 100 => ⟨S16x256x1, .f32⟩
  | 101 => ⟨S16x256x1, .f32⟩
  | 102 => ⟨S16x256x256, .f32⟩
  | 103 => ⟨S16x256x256, .f32⟩
  | 104 => ⟨S1x1x256, .f32⟩
  | 105 => ⟨S16x256x256, .f32⟩
  | 106 => ⟨S16x256x256, .f32⟩
  | 107 => ⟨S256x1024, .f32⟩
  | 108 => ⟨S16x256x1024, .f32⟩
  | 109 => ⟨S16x256x8x128, .f32⟩
  | 110 => ⟨S16x256x1x128, .f32⟩
  | 111 => ⟨S16x256x8x128, .f32⟩
  | 112 => ⟨S16x256x8x128, .f32⟩
  | 113 => ⟨S16x256x8x96, .f32⟩
  | 114 => ⟨S16x256x8x96, .f32⟩
  | 115 => ⟨S_, .f32⟩
  | 116 => ⟨S16x256x8, .f32⟩
  | 117 => ⟨S16x256x8x1, .f32⟩
  | 118 => ⟨S_, .f32⟩
  | 119 => ⟨S16x256x8x1, .f32⟩
  | 120 => ⟨S16x256x8x1, .f32⟩
  | 121 => ⟨S_, .f32⟩
  | 122 => ⟨S16x256x8x1, .f32⟩
  | 123 => ⟨S16x256x8x1, .f32⟩
  | 124 => ⟨S16x256x8x1, .f32⟩
  | 125 => ⟨S16x256x8x128, .f32⟩
  | 126 => ⟨S16x256x8x128, .f32⟩
  | 127 => ⟨S256x1x128, .f32⟩
  | _ => ⟨S16x256x1024, .f32⟩

abbrev hbmTy0_1 (i : Nat) : BufTy := match i % 128 with
  | 0 => ⟨S1x256x1x128, .f32⟩
  | 1 => ⟨S16x256x8x128, .f32⟩
  | 2 => ⟨S16x256x8x128, .f32⟩
  | 3 => ⟨S16x256x1024, .f32⟩
  | 4 => ⟨S16x256x1024, .bf16⟩
  | 5 => ⟨S256x512, .f32⟩
  | 6 => ⟨S16x256x512, .f32⟩
  | 7 => ⟨S16x256x512, .bf16⟩
  | 8 => ⟨S16x256x512, .f32⟩
  | 9 => ⟨S_, .i32⟩
  | 10 => ⟨S_, .f32⟩
  | 11 => ⟨S16x258x512, .f32⟩
  | 12 => ⟨S1x512, .f32⟩
  | 13 => ⟨S512, .f32⟩
  | 14 => ⟨S16x256x512, .f32⟩
  | 15 => ⟨S1x1x512, .f32⟩
  | 16 => ⟨S16x256x512, .f32⟩
  | 17 => ⟨S16x256x512, .f32⟩
  | 18 => ⟨S1x512, .f32⟩
  | 19 => ⟨S512, .f32⟩
  | 20 => ⟨S16x256x512, .f32⟩
  | 21 => ⟨S1x1x512, .f32⟩
  | 22 => ⟨S16x256x512, .f32⟩
  | 23 => ⟨S16x256x512, .f32⟩
  | 24 => ⟨S16x256x512, .f32⟩
  | 25 => ⟨S1x512, .f32⟩
  | 26 => ⟨S512, .f32⟩
  | 27 => ⟨S16x256x512, .f32⟩
  | 28 => ⟨S1x1x512, .f32⟩
  | 29 => ⟨S16x256x512, .f32⟩
  | 30 => ⟨S16x256x512, .f32⟩
  | 31 => ⟨S16x256x512, .f32⟩
  | 32 => ⟨S16x256x512, .f32⟩
  | 33 => ⟨S16x256x512, .bf16⟩
  | _ => ⟨S16x256x1024, .f32⟩

abbrev hbmTy (i : Nat) : BufTy := match i / 128 with
  | 0 => hbmTy0_0 i
  | 1 => hbmTy0_1 i
  | _ => ⟨S16x256x1024, .f32⟩

abbrev bufTy : (tb : Table) → Fin (tcTables nBuf tb) → BufTy
  | .hbm, ⟨i, _⟩ => hbmTy i
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_3 : Ref sig .tc := ⟨.hbm, 52, rfl⟩
abbrev main_v36 : Ref sig .tc := ⟨.hbm, 53, rfl⟩
abbrev main_v37 : Ref sig .tc := ⟨.hbm, 54, rfl⟩
abbrev main_cst_4 : Ref sig .tc := ⟨.hbm, 55, rfl⟩
abbrev main_v38 : Ref sig .tc := ⟨.hbm, 56, rfl⟩
abbrev main_v39 : Ref sig .tc := ⟨.hbm, 57, rfl⟩
abbrev main_cst_5 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_6 : Ref sig .tc := ⟨.hbm, 72, rfl⟩
abbrev main_v53 : Ref sig .tc := ⟨.hbm, 73, rfl⟩
abbrev main_v54 : Ref sig .tc := ⟨.hbm, 74, rfl⟩
abbrev main_cst_7 : Ref sig .tc := ⟨.hbm, 75, rfl⟩
abbrev main_v55 : Ref sig .tc := ⟨.hbm, 76, rfl⟩
abbrev main_v56 : Ref sig .tc := ⟨.hbm, 77, rfl⟩
abbrev main_cst_8 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_9 : Ref sig .tc := ⟨.hbm, 92, rfl⟩
abbrev main_v70 : Ref sig .tc := ⟨.hbm, 93, rfl⟩
abbrev main_v71 : Ref sig .tc := ⟨.hbm, 94, rfl⟩
abbrev main_cst_10 : Ref sig .tc := ⟨.hbm, 95, rfl⟩
abbrev main_v72 : Ref sig .tc := ⟨.hbm, 96, rfl⟩
abbrev main_v73 : Ref sig .tc := ⟨.hbm, 97, rfl⟩
abbrev main_cst_11 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_cst_12 : Ref sig .tc := ⟨.hbm, 115, rfl⟩
abbrev main_v90 : Ref sig .tc := ⟨.hbm, 116, rfl⟩
abbrev main_v91 : Ref sig .tc := ⟨.hbm, 117, rfl⟩
abbrev main_cst_13 : Ref sig .tc := ⟨.hbm, 118, rfl⟩
abbrev main_v92 : Ref sig .tc := ⟨.hbm, 119, rfl⟩
abbrev main_v93 : Ref sig .tc := ⟨.hbm, 120, rfl⟩
abbrev main_cst_14 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_c : Ref sig .tc := ⟨.hbm, 137, rfl⟩
abbrev main_call0_v0 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩

abbrev nD : Nat := 1
abbrev τ : Topo := Topo.v7x

variable {F : FTy → Type} [FloatOps F]
-- ==== Kernel4.lean ====
abbrev S4096x1024 : Shape := ⟨2, ![4096, 1024]⟩
abbrev S4096x512 : Shape := ⟨2, ![4096, 512]⟩
abbrev S1024x1024 : Shape := ⟨2, ![1024, 1024]⟩
abbrev S1x6x1024 : Shape := ⟨3, ![1, 6, 1024]⟩
abbrev S1x1024 : Shape := ⟨2, ![1, 1024]⟩
abbrev S1024x128 : Shape := ⟨2, ![1024, 128]⟩
abbrev S4096x1152 : Shape := ⟨2, ![4096, 1152]⟩
abbrev S16x16x256 : Shape := ⟨3, ![16, 16, 256]⟩
abbrev S1024x512 : Shape := ⟨2, ![1024, 512]⟩
abbrev S1024x1152 : Shape := ⟨2, ![1024, 1152]⟩
abbrev S4x16x256 : Shape := ⟨3, ![4, 16, 256]⟩
abbrev S512x1024 : Shape := ⟨2, ![512, 1024]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩
abbrev S256x128 : Shape := ⟨2, ![256, 128]⟩
abbrev S1x128 : Shape := ⟨2, ![1, 128]⟩
abbrev S128x256 : Shape := ⟨2, ![128, 256]⟩
abbrev S16x256 : Shape := ⟨2, ![16, 256]⟩
abbrev S1x16x256 : Shape := ⟨3, ![1, 16, 256]⟩

abbrev nBuf : Space → Nat
  | .hbm => 11
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x512, .bf16⟩
  | .hbm, ⟨2, _⟩ => ⟨S4096x512, .bf16⟩
  | .hbm, ⟨3, _⟩ => ⟨S1024x1024, .bf16⟩
  | .hbm, ⟨4, _⟩ => ⟨S1x6x1024, .f32⟩
  | .hbm, ⟨5, _⟩ => ⟨S1x1024, .f32⟩
  | .hbm, ⟨6, _⟩ => ⟨S1024x128, .bf16⟩
  | .hbm, ⟨7, _⟩ => ⟨S1024x128, .bf16⟩
  | .hbm, ⟨8, _⟩ => ⟨S4096x1024, .f32⟩
  | .hbm, ⟨9, _⟩ => ⟨S4096x1152, .bf16⟩
  | .hbm, ⟨10, _⟩ => ⟨S16x16x256, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x1024, .bf16⟩
  | .local _ .vmem, ⟨7, _⟩ => ⟨S1x6x1024, .f32⟩
  | .local _ .vmem, ⟨8, _⟩ => ⟨S1x1024, .f32⟩
  | .local _ .vmem, ⟨9, _⟩ => ⟨S1024x128, .bf16⟩
  | .local _ .vmem, ⟨10, _⟩ => ⟨S1024x128, .bf16⟩
  | .local _ .vmem, ⟨11, _⟩ => ⟨S1024x1024, .f32⟩
  | .local _ .vmem, ⟨12, _⟩ => ⟨S1024x1024, .f32⟩
  | .local _ .vmem, ⟨13, _⟩ => ⟨S1024x1152, .bf16⟩
  | .local _ .vmem, ⟨14, _⟩ => ⟨S1024x1152, .bf16⟩
  | .local _ .vmem, ⟨15, _⟩ => ⟨S4x16x256, .f32⟩
  | .local _ .vmem, ⟨16, _⟩ => ⟨S4x16x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x6x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1152 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x16x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference4Ideal.lean ====
abbrev S4096x1024 : Shape := ⟨2, ![4096, 1024]⟩
abbrev S4096x512 : Shape := ⟨2, ![4096, 512]⟩
abbrev S1024x1024 : Shape := ⟨2, ![1024, 1024]⟩
abbrev S1x6x1024 : Shape := ⟨3, ![1, 6, 1024]⟩
abbrev S1x1024 : Shape := ⟨2, ![1, 1024]⟩
abbrev S1024x128 : Shape := ⟨2, ![1024, 128]⟩
abbrev S1x1x1024 : Shape := ⟨3, ![1, 1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x16 : Shape := ⟨2, ![1024, 16]⟩
abbrev S4096x16 : Shape := ⟨2, ![4096, 16]⟩
abbrev S4096x112 : Shape := ⟨2, ![4096, 112]⟩
abbrev S4096x1152 : Shape := ⟨2, ![4096, 1152]⟩
abbrev S16x256x16 : Shape := ⟨3, ![16, 256, 16]⟩
abbrev S16x16x256 : Shape := ⟨3, ![16, 16, 256]⟩

abbrev nBuf : Space → Nat
  | .hbm => 74
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .bf16⟩
  | .hbm, ⟨2, _⟩ => ⟨S4096x512, .bf16⟩
  | .hbm, ⟨3, _⟩ => ⟨S1024x1024, .bf16⟩
  | .hbm, ⟨4, _⟩ => ⟨S1x6x1024, .f32⟩
  | .hbm, ⟨5, _⟩ => ⟨S1x1024, .f32⟩
  | .hbm, ⟨6, _⟩ => ⟨S1024x128, .bf16⟩
  | .hbm, ⟨7, _⟩ => ⟨S1024x128, .bf16⟩
  | .hbm, ⟨8, _⟩ => ⟨S1x1x1024, .f32⟩
  | .hbm, ⟨9, _⟩ => ⟨S1024, .f32⟩
  | .hbm, ⟨10, _⟩ => ⟨S4096x1024, .bf16⟩
  | .hbm, ⟨11, _⟩ => ⟨S4096x1024, .f32⟩
  | .hbm, ⟨12, _⟩ => ⟨S1024x1024, .f32⟩
  | .hbm, ⟨13, _⟩ => ⟨S4096x1024, .f32⟩
  | .hbm, ⟨14, _⟩ => ⟨S1x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S1024, .f32⟩
  | .hbm, ⟨19, _⟩ => ⟨S4096x1024, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S4096x1024, .f32⟩
  | .hbm, ⟨31, _⟩ => ⟨S4096x1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S1x1x1024, .f32⟩
  | .hbm, ⟨36, _⟩ => ⟨S1024, .f32⟩
  | .hbm, ⟨37, _⟩ => ⟨S_, .f32⟩
  | .hbm, ⟨38, _⟩ => ⟨S1024, .f32⟩
  | .hbm, ⟨39, _⟩ => ⟨S1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S1x1x1024, .f32⟩
  | .hbm, ⟨44, _⟩ => ⟨S1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S1024x16, .bf16⟩
  | .hbm, ⟨49, _⟩ => ⟨S1024x16, .f32⟩
  | .hbm, ⟨50, _⟩ => ⟨S1024x16, .bf16⟩
  | .hbm, ⟨51, _⟩ => ⟨S1024x16, .f32⟩
  | .hbm, ⟨52, _⟩ => ⟨S1024x16, .f32⟩
  | .hbm, ⟨53, _⟩ => ⟨S4096x16, .f32⟩
  | .hbm, ⟨54, _⟩ => ⟨S_, .f32⟩
  | .hbm, ⟨55, _⟩ => ⟨S4096, .f32⟩
  | .hbm, ⟨56, _⟩ => ⟨S_, .f32⟩
  | .hbm, ⟨57, _⟩ => ⟨S4096, .f32⟩
  | .hbm, ⟨58, _⟩ => ⟨S4096, .f32⟩
  | .hbm, ⟨59, _⟩ => ⟨S4096x1, .f32⟩
  | .hbm, ⟨60, _⟩ => ⟨S4096x16, .f32⟩
  | .hbm, ⟨61, _⟩ => ⟨S4096x16, .f32⟩
  | .hbm, ⟨62, _⟩ => ⟨S4096x16, .f32⟩
  | .hbm, ⟨63, _⟩ => ⟨S_, .f32⟩
  | .hbm, ⟨64, _⟩ => ⟨S4096, .f32⟩
  | .hbm, ⟨65, _⟩ => ⟨S4096x1, .f32⟩
  | .hbm, ⟨66, _⟩ => ⟨S4096x16, .f32⟩
  | .hbm, ⟨67, _⟩ => ⟨S4096x16, .f32⟩
  | .hbm, ⟨68, _⟩ => ⟨S_, .f32⟩
  | .hbm, ⟨69, _⟩ => ⟨S4096x112, .f32⟩
  | .hbm, ⟨70, _⟩ => ⟨S4096x1152, .f32⟩
  | .hbm, ⟨71, _⟩ => ⟨S4096x1152, .bf16⟩
  | .hbm, ⟨72, _⟩ => ⟨S16x256x16, .f32⟩
  | .hbm, ⟨73, _⟩ => ⟨S16x16x256, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_3 : Ref sig .tc := ⟨.hbm, 54, rfl⟩
abbrev main_v42 : Ref sig .tc := ⟨.hbm, 55, rfl⟩
abbrev main_cst_4 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_5 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_6 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩

abbrev nD : Nat := 1
abbrev τ : Topo := Topo.v7x

variable {F : FTy → Type} [FloatOps F]
-- ==== Proof.Att.Tile.lean ====
module

public import proofs.«01_k».proof.Proof.Gen.KernelIdeal.Value
public import Idealize.ShloMosaic.Lib.Pointwise

/-! A pair of heads side by side, and the body's output as four such pairs. -/

@[expose] public section
noncomputable section
namespace Cert.Att
open Idealize.ShloMosaic Cert.KernelIdeal Cert.KernelIdeal.Gen

/-- Two heads' rows side by side: the first 64 lanes of the one, then the first 64 of the other. -/
def tile (x y : FVec Ideal S1024x128 .f32) : FVec Ideal S1x1024x128 .bf16 :=
  k0_pay1 (truncf .bf16 (select (cmpi .slt (iota .tc S1024x128 32 [1] iota_S1024x128_d1_w32) (broadcast S1024x128 64#32)) x (dynamicRotate 1 64#32 none y rotates_S1024x128_d1)) bitsLt_bf16_f32)

theorem tile_apply (x y : FVec Ideal S1024x128 .f32) (r : Fin 1024) (l : Fin 128) :
    tile x y (ix3 0 r l) = if l.val < 64 then x (ix2 r l) else y (ix2 r ⟨l.val - 64, by omega⟩) := by
  unfold tile
  pointwise [k0_pay1]
  have hc : ∀ l : Fin 128, IntOp.cmpi CmpIPredicate.slt (BitVec.ofNat 32 l.val) 64#32 = if l.val < 64 then 1#1 else 0#1 := by decide +kernel
  rw [hc]
  by_cases hl : l.val < 64
  · rw [if_pos hl, if_pos hl]; rfl
  · rw [if_neg hl, if_neg hl]
    refine Eq.trans rfl (congrArg y (congrArg (ix2 r) (Fin.ext ?_)))
    show (l.val + 128 - 64) % 128 = l.val - 64
    omega

end Cert.Att
-- ==== Proof.Att.Row.lean ====
module

public import Idealize.ShloMosaic.PureOps.Ideal

/-! One row of softmax attention over two runs of keys: normalising after the weighted sum, by a sum of the weights
against ones, gives what normalising every weight gives. -/

@[expose] public section
noncomputable section
namespace Cert.Att
open Idealize.ShloMosaic

theorem negInf_eq : Ideal.ofBits FTy.f32 4286578688#32 = (⊥ : EReal) := by simp [Ideal.ofBits, Ideal.ieee]

theorem posInf_eq : Ideal.ofBits FTy.f32 2139095040#32 = (⊤ : EReal) := by simp [Ideal.ofBits, Ideal.ieee]

/-- A real, as a value. -/
def IsReal (x : EReal) : Prop := x ≠ ⊥ ∧ x ≠ ⊤

theorem IsReal.exists {x : EReal} (h : IsReal x) : ∃ r : ℝ, x = (r : EReal) :=
  ⟨x.toReal, (EReal.coe_toReal h.2 h.1).symm⟩

theorem isReal_coe (r : ℝ) : IsReal (r : EReal) := ⟨EReal.coe_ne_bot r, EReal.coe_ne_top r⟩

theorem IsReal.mul {x y : EReal} (hx : IsReal x) (hy : IsReal y) : IsReal (x * y) := by
  obtain ⟨a, rfl⟩ := hx.exists
  obtain ⟨b, rfl⟩ := hy.exists
  rw [← EReal.coe_mul]
  exact isReal_coe _

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type} (s : Finset ι) (f : ι → EReal) (h : ∀ i, IsReal (f i)) : IsReal (∑ i ∈ s, f i) := by
  choose g hg using fun i => (h i).exists
  rw [show f = fun i => ((g i : ℝ) : EReal) from funext hg, ← coe_sum]
  exact isReal_coe _

theorem sum_mul_real {ι : Type} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (by exact_mod_cast hr) (EReal.coe_ne_top r), ih]

/-- The largest of both runs is the larger of the two largest. -/
theorem fold_split (S : Fin 1280 → EReal) (sc : Fin 256 → EReal) (s : Fin 1024 → EReal)
    (hc : ∀ j : Fin 256, S ⟨j.val, by omega⟩ = sc j) (hs : ∀ j : Fin 1024, S ⟨256 + j.val, by omega⟩ = s j) :
    max (⊥ : EReal) (Finset.univ.fold max ⊥ S) = max (Finset.univ.fold max ⊥ s) (Finset.univ.fold max ⊥ sc) := by
  show max (⊥ : EReal) (Finset.univ.sup S) = max (Finset.univ.sup s) (Finset.univ.sup sc)
  rw [max_eq_right bot_le]
  apply le_antisymm
  · refine Finset.sup_le fun j _ => ?_
    by_cases hj : j.val < 256
    · refine le_trans ?_ (le_max_right _ _)
      have e := hc ⟨j.val, hj⟩
      rw [show j = ⟨(⟨j.val, hj⟩ : Fin 256).val, by omega⟩ from rfl, e]
      exact Finset.le_sup (f := sc) (Finset.mem_univ _)
    · refine le_trans ?_ (le_max_left _ _)
      have e := hs ⟨j.val - 256, by omega⟩
      rw [show j = ⟨256 + (⟨j.val - 256, by omega⟩ : Fin 1024).val, by show 256 + (j.val - 256) < 1280; omega⟩ from Fin.ext (by show j.val = 256 + (j.val - 256); omega), e]
      exact Finset.le_sup (f := s) (Finset.mem_univ _)
  · refine max_le (Finset.sup_le fun j _ => ?_) (Finset.sup_le fun j _ => ?_)
    · rw [← hs]; exact Finset.le_sup (f := S) (Finset.mem_univ _)
    · rw [← hc]; exact Finset.le_sup (f := S) (Finset.mem_univ _)

theorem fold_real {n : Nat} (s : Fin (n + 1) → EReal) (h : ∀ j, IsReal (s j)) : IsReal (Finset.univ.fold max ⊥ s) := by
  show IsReal (Finset.univ.sup s)
  refine ⟨?_, ?_⟩
  · intro e
    have : s 0 ≤ Finset.univ.sup s := Finset.le_sup (f := s) (Finset.mem_univ _)
    rw [e] at this
    exact (h 0).1 (le_bot_iff.1 this)
  · exact ((Finset.sup_lt_iff (by exact bot_lt_top)).2 fun j _ => lt_top_iff_ne_top.2 (h j).2).ne

/-- A row as the kernel computes it: the two weighted sums of values over the two weighted sums of `w` and `wc`. -/
def rowK (s : Fin 1024 → EReal) (sc : Fin 256 → EReal) (v w : Fin 1024 → EReal) (vc wc : Fin 256 → EReal) : EReal :=
    Ideal.div
      (∑ x, Ideal.exp (s x - max (Finset.univ.fold max (Ideal.ofBits FTy.f32 4286578688#32) s) (Finset.univ.fold max (Ideal.ofBits FTy.f32 4286578688#32) sc)) * v x +
       ∑ x, Ideal.exp (sc x - max (Finset.univ.fold max (Ideal.ofBits FTy.f32 4286578688#32) s) (Finset.univ.fold max (Ideal.ofBits FTy.f32 4286578688#32) sc)) * vc x)
      (∑ x, Ideal.exp (s x - max (Finset.univ.fold max (Ideal.ofBits FTy.f32 4286578688#32) s) (Finset.univ.fold max (Ideal.ofBits FTy.f32 4286578688#32) sc)) * w x +
       ∑ x, Ideal.exp (sc x - max (Finset.univ.fold max (Ideal.ofBits FTy.f32 4286578688#32) s) (Finset.univ.fold max (Ideal.ofBits FTy.f32 4286578688#32) sc)) * wc x)

theorem rowK_congr {s s' : Fin 1024 → EReal} {sc sc' : Fin 256 → EReal} {v v' w w' : Fin 1024 → EReal} {vc vc' wc wc' : Fin 256 → EReal}
    (h1 : ∀ x, s x = s' x) (h2 : ∀ x, sc x = sc' x) (h3 : ∀ x, v x = v' x) (h4 : ∀ x, w x = w' x) (h5 : ∀ x, vc x = vc' x)
    (h6 : ∀ x, wc x = wc' x) : rowK s sc v w vc wc = rowK s' sc' v' w' vc' wc' := by
  rw [funext h1, funext h2, funext h3, funext h4, funext h5, funext h6]

theorem row_eq (S : Fin 1280 → EReal) (sc : Fin 256 → EReal) (s : Fin 1024 → EReal)
    (hc : ∀ j : Fin 256, S ⟨j.val, by omega⟩ = sc j) (hs : ∀ j : Fin 1024, S ⟨256 + j.val, by omega⟩ = s j)
    (rc : ∀ j, IsReal (sc j)) (rs : ∀ j, IsReal (s j)) (v w : Fin 1024 → EReal) (vc wc : Fin 256 → EReal)
    (hw : ∀ j, w j = 1) (hwc : ∀ j, wc j = 1) :
    rowK s sc v w vc wc =
    ∑ x : Fin 256, vc x * Ideal.div
        (Ideal.exp (S ⟨x.val, by omega⟩ - max (Ideal.ofBits FTy.f32 4286578688#32) (Finset.univ.fold max (Ideal.ofBits FTy.f32 4286578688#32) S)))
        (∑ j, Ideal.exp (S j - max (Ideal.ofBits FTy.f32 4286578688#32) (Finset.univ.fold max (Ideal.ofBits FTy.f32 4286578688#32) S))) +
    ∑ x : Fin 1024, v x * Ideal.div
        (Ideal.exp (S ⟨256 + x.val, by omega⟩ - max (Ideal.ofBits FTy.f32 4286578688#32) (Finset.univ.fold max (Ideal.ofBits FTy.f32 4286578688#32) S)))
        (∑ j, Ideal.exp (S j - max (Ideal.ofBits FTy.f32 4286578688#32) (Finset.univ.fold max (Ideal.ofBits FTy.f32 4286578688#32) S))) := by
  unfold rowK
  rw [negInf_eq, fold_split S sc s hc hs]
  have hM : IsReal (max (Finset.univ.fold max ⊥ s) (Finset.univ.fold max ⊥ sc)) := by
    rcases max_choice (Finset.univ.fold max ⊥ s) (Finset.univ.fold max ⊥ sc) with h | h <;> rw [h]
    · exact fold_real s rs
    · exact fold_real sc rc
  obtain ⟨M, hM⟩ := hM.exists
  rw [hM]
  have hsum : ∑ j, Ideal.exp (S j - (M : EReal)) =
      ∑ x : Fin 256, Ideal.exp (S ⟨x.val, by omega⟩ - (M : EReal)) + ∑ x : Fin 1024, Ideal.exp (S ⟨256 + x.val, by omega⟩ - (M : EReal)) :=
    Fin.sum_univ_add (a := 256) (b := 1024) fun j : Fin 1280 => Ideal.exp (S j - (M : EReal))
  rw [hsum]
  simp only [hc, hs, hw, hwc, mul_one]
  choose a ha using fun j => (rc j).exists
  choose b hb using fun j => (rs j).exists
  simp only [ha, hb, ← EReal.coe_sub, Ideal.exp_coe]
  rw [← coe_sum, ← coe_sum, ← EReal.coe_add, ← EReal.coe_add]
  rw [add_comm (∑ i, Real.exp (a i - M))]
  have hpos : 0 < ∑ i, Real.exp (b i - M) + ∑ i, Real.exp (a i - M) :=
    add_pos (Finset.sum_pos (fun i _ => Real.exp_pos _) ⟨0, Finset.mem_univ _⟩) (Finset.sum_pos (fun i _ => Real.exp_pos _) ⟨0, Finset.mem_univ _⟩)
  generalize ∑ i, Real.exp (b i - M) + ∑ i, Real.exp (a i - M) = D at hpos
  simp only [Ideal.div_coe hpos.ne']
  have hr : 0 ≤ 1 / D := by positivity
  rw [EReal.right_distrib_of_nonneg_of_ne_top (by exact_mod_cast hr) (EReal.coe_ne_top _), sum_mul_real _ _ hr, sum_mul_real _ _ hr, add_comm]
  congr 1 <;> refine Finset.sum_congr rfl fun x _ => ?_
  · rw [mul_comm (Real.exp (a x - M) : EReal), mul_assoc]
  · rw [mul_comm (Real.exp (b x - M) : EReal), mul_assoc]

end Cert.Att
-- ==== Proof.Att.Head.lean ====
module

public import proofs.«01_k».proof.Proof.Gen.KernelIdeal.Value
public import proofs.«01_k».proof.Proof.Att.Row
public import Idealize.ShloMosaic.Lib.Pointwise

/-! One head of the kernel's body at an index, and a pair of heads side by side. -/

@[expose] public section
noncomputable section
namespace Cert.Att
open Idealize.ShloMosaic Cert.KernelIdeal Cert.KernelIdeal.Gen

set_option maxRecDepth 16384 in
theorem pay2_apply (q k v : Vec Ideal S1x1024x128 .bf16) (kc vc : Vec Ideal S1x256x128 .bf16) (r : Fin 1024) (l : Fin 128) :
    k0_pay2 q k kc v vc (ix2 r l) =
      rowK (fun x => ∑ d : Fin 128, q (ix3 0 r d) * k (ix3 0 x d)) (fun x => ∑ d : Fin 128, q (ix3 0 r d) * kc (ix3 0 x d))
        (fun x => v (ix3 0 x l)) (fun x => v (ix3 0 x 64)) (fun x => vc (ix3 0 x l)) (fun x => vc (ix3 0 x 64)) := by
  unfold rowK
  pointwise [k0_pay2]

end Cert.Att
-- ==== Proof.Att.Block.lean ====
module

public import proofs.«01_k».proof.Proof.Att.Tile
public import proofs.«01_k».proof.Proof.Att.Head
public import Idealize.ShloMosaic.Lib.Pipeline.ValueKit.Tiles

/-! The body's output block at an index. -/

@[expose] public section
noncomputable section
namespace Cert.Att
open Idealize.ShloMosaic Cert.KernelIdeal Cert.KernelIdeal.Gen

variable (x0 x1 x2 : Vec Ideal S1x1024x1024 .bf16) (x3 x4 : Vec Ideal S1x256x1024 .bf16)

theorem out_eq : out0_5 x0 x1 x2 x3 x4 =
    View.canon [⟨r0_19, tile (k0_pay2 (View.ld x0 r0_15) (View.ld x1 r0_15) (View.ld x3 r0_16) (View.ld x2 r0_15) (View.ld x4 r0_16))
        (k0_pay2 (View.ld x0 r0_17) (View.ld x1 r0_17) (View.ld x3 r0_18) (View.ld x2 r0_17) (View.ld x4 r0_18))⟩,
      ⟨r0_14, tile (k0_pay2 (View.ld x0 r0_10) (View.ld x1 r0_10) (View.ld x3 r0_11) (View.ld x2 r0_10) (View.ld x4 r0_11))
        (k0_pay2 (View.ld x0 r0_12) (View.ld x1 r0_12) (View.ld x3 r0_13) (View.ld x2 r0_12) (View.ld x4 r0_13))⟩,
      ⟨r0_9, tile (k0_pay2 (View.ld x0 r0_5) (View.ld x1 r0_5) (View.ld x3 r0_6) (View.ld x2 r0_5) (View.ld x4 r0_6))
        (k0_pay2 (View.ld x0 r0_7) (View.ld x1 r0_7) (View.ld x3 r0_8) (View.ld x2 r0_7) (View.ld x4 r0_8))⟩,
      ⟨r0_4, tile (k0_pay2 (View.ld x0 r0_0) (View.ld x1 r0_0) (View.ld x3 r0_1) (View.ld x2 r0_0) (View.ld x4 r0_1))
        (k0_pay2 (View.ld x0 r0_2) (View.ld x1 r0_2) (View.ld x3 r0_3) (View.ld x2 r0_2) (View.ld x4 r0_3))⟩] := rfl

/-- Head `h`'s row `r` at lane `d` of the values, from a block of every array. -/
def headRow (h : Nat) (hh : h < 8) (r : Fin 1024) (d : Fin 128) : EReal :=
  rowK (fun x => ∑ e : Fin 128, x0 (ix3 0 r ⟨h * 128 + e.val, by omega⟩) * x1 (ix3 0 x ⟨h * 128 + e.val, by omega⟩))
    (fun x => ∑ e : Fin 128, x0 (ix3 0 r ⟨h * 128 + e.val, by omega⟩) * x3 (ix3 0 x ⟨h * 128 + e.val, by omega⟩))
    (fun x => x2 (ix3 0 x ⟨h * 128 + d.val, by omega⟩)) (fun x => x2 (ix3 0 x ⟨h * 128 + 64, by omega⟩))
    (fun x => x4 (ix3 0 x ⟨h * 128 + d.val, by omega⟩)) (fun x => x4 (ix3 0 x ⟨h * 128 + 64, by omega⟩))

theorem ld_wide (X : Vec Ideal S1x1024x1024 .bf16) (h : Nat) (hh : h < 8) (inb : ∀ a, (![0, 0, h * 128] : Fin 3 → Nat) a + S1x1024x128.size a ≤ S1x1024x1024.size a)
    (r : Fin 1024) (d : Fin 128) :
    View.ld X (Rect.unit (s := S1x1024x1024) ![0, 0, h * 128] S1x1024x128.size inb) (ix3 0 r d) = X (ix3 0 r ⟨h * 128 + d.val, by omega⟩) := by
  refine congrArg X (funext fun a => Fin.ext ?_)
  match a with
  | ⟨0, _⟩ => rfl
  | ⟨1, _⟩ => show 0 + 1 * r.val = r.val; omega
  | ⟨2, _⟩ => show h * 128 + 1 * d.val = h * 128 + d.val; omega

theorem ld_ctx (X : Vec Ideal S1x256x1024 .bf16) (h : Nat) (hh : h < 8) (inb : ∀ a, (![0, 0, h * 128] : Fin 3 → Nat) a + S1x256x128.size a ≤ S1x256x1024.size a)
    (r : Fin 256) (d : Fin 128) :
    View.ld X (Rect.unit (s := S1x256x1024) ![0, 0, h * 128] S1x256x128.size inb) (ix3 0 r d) = X (ix3 0 r ⟨h * 128 + d.val, by omega⟩) := by
  refine congrArg X (funext fun a => Fin.ext ?_)
  match a with
  | ⟨0, _⟩ => rfl
  | ⟨1, _⟩ => show 0 + 1 * r.val = r.val; omega
  | ⟨2, _⟩ => show h * 128 + 1 * d.val = h * 128 + d.val; omega

theorem head_row (h : Nat) (hh : h < 8) (inb : ∀ a, (![0, 0, h * 128] : Fin 3 → Nat) a + S1x1024x128.size a ≤ S1x1024x1024.size a)
    (inc : ∀ a, (![0, 0, h * 128] : Fin 3 → Nat) a + S1x256x128.size a ≤ S1x256x1024.size a) (r : Fin 1024) (d : Fin 128) :
    k0_pay2 (View.ld x0 (Rect.unit (s := S1x1024x1024) ![0, 0, h * 128] S1x1024x128.size inb)) (View.ld x1 (Rect.unit (s := S1x1024x1024) ![0, 0, h * 128] S1x1024x128.size inb))
      (View.ld x3 (Rect.unit (s := S1x256x1024) ![0, 0, h * 128] S1x256x128.size inc)) (View.ld x2 (Rect.unit (s := S1x1024x1024) ![0, 0, h * 128] S1x1024x128.size inb))
      (View.ld x4 (Rect.unit (s := S1x256x1024) ![0, 0, h * 128] S1x256x128.size inc)) (ix2 r d) = headRow x0 x1 x2 x3 x4 h hh r d := by
  refine (pay2_apply _ _ _ _ _ r d).trans ?_
  exact rowK_congr (fun x => Finset.sum_congr rfl fun e _ => congrArg₂ (fun a b : EReal => a * b) (ld_wide x0 h hh inb r e) (ld_wide x1 h hh inb x e))
    (fun x => Finset.sum_congr rfl fun e _ => congrArg₂ (fun a b : EReal => a * b) (ld_wide x0 h hh inb r e) (ld_ctx x3 h hh inc x e))
    (fun x => ld_wide x2 h hh inb x d) (fun x => ld_wide x2 h hh inb x 64) (fun x => ld_ctx x4 h hh inc x d) (fun x => ld_ctx x4 h hh inc x 64)

theorem tile_at (p : Nat) (hp : p < 4) (A B : FVec Ideal S1024x128 .f32)
    (hA : ∀ r d, A (ix2 r d) = headRow x0 x1 x2 x3 x4 (2 * p) (by omega) r d)
    (hB : ∀ r d, B (ix2 r d) = headRow x0 x1 x2 x3 x4 (2 * p + 1) (by omega) r d) (r : Fin 1024) (c : Fin 512) :
    View.TileAt (Val := Elt Ideal) (S := S1x1024x512) (e := .bf16) (ix3 0 r c) ![0, 0, p * 128] S1x1024x128.size (tile A B)
      (headRow x0 x1 x2 x3 x4 (c.val / 64) (by omega) r ⟨c.val % 64, by omega⟩) := by
  intro x hx
  have h1 : r.val = 0 + (x 1 : Nat) := hx 1
  have h2 : c.val = p * 128 + (x 2 : Nat) := hx 2
  have hb : (x 2 : Nat) < 128 := (x 2).isLt
  have hb1 : (x 1 : Nat) < 1024 := (x 1).isLt
  have hb0 : (x 0 : Nat) < 1 := (x 0).isLt
  have e : x = ix3 0 r ⟨(x 2 : Nat), hb⟩ := by
    refine funext fun a => Fin.ext ?_
    match a with
    | ⟨0, _⟩ => show (x 0 : Nat) = 0; omega
    | ⟨1, _⟩ => show (x 1 : Nat) = r.val; omega
    | ⟨2, _⟩ => rfl
  rw [e, tile_apply]
  by_cases hl : (x 2 : Nat) < 64
  · rw [if_pos hl, hA]
    congr 1
    · omega
    · exact Fin.ext (by show (x 2 : Nat) = c.val % 64; omega)
  · rw [if_neg hl, hB]
    congr 1
    · omega
    · exact Fin.ext (by show (x 2 : Nat) - 64 = c.val % 64; omega)

theorem out_apply (r : Fin 1024) (c : Fin 512) :
    out0_5 x0 x1 x2 x3 x4 (ix3 0 r c) = headRow x0 x1 x2 x3 x4 (c.val / 64) (by omega) r ⟨c.val % 64, by omega⟩ := by
  rw [out_eq]
  refine View.canon_eq_of_allAt _ _ _ (cover0_5 _ _ _ _ _) ?_
  refine View.allAt_cons_unit _ _ _ _ _ (tile_at x0 x1 x2 x3 x4 3 (by omega) _ _ ?_ ?_ r c) ?_
  · exact head_row x0 x1 x2 x3 x4 6 (by omega) _ _
  · exact head_row x0 x1 x2 x3 x4 7 (by omega) _ _
  refine View.allAt_cons_unit _ _ _ _ _ (tile_at x0 x1 x2 x3 x4 2 (by omega) _ _ ?_ ?_ r c) ?_
  · exact head_row x0 x1 x2 x3 x4 4 (by omega) _ _
  · exact head_row x0 x1 x2 x3 x4 5 (by omega) _ _
  refine View.allAt_cons_unit _ _ _ _ _ (tile_at x0 x1 x2 x3 x4 1 (by omega) _ _ ?_ ?_ r c) ?_
  · exact head_row x0 x1 x2 x3 x4 2 (by omega) _ _
  · exact head_row x0 x1 x2 x3 x4 3 (by omega) _ _
  refine View.allAt_cons_unit _ _ _ _ _ (tile_at x0 x1 x2 x3 x4 0 (by omega) _ _ ?_ ?_ r c) (View.allAt_nil _ _)
  · exact head_row x0 x1 x2 x3 x4 0 (by omega) _ _
  · exact head_row x0 x1 x2 x3 x4 1 (by omega) _ _

end Cert.Att
-- ==== Proof.Att.Array.lean ====
module

public import proofs.«01_k».proof.Proof.Att.Block
public import Idealize.ShloMosaic.Lib.Pipeline.ValueKit.Geometry

/-! The kernel's output array at an index: grid point `b` computes batch `b`. -/

@[expose] public section
noncomputable section
namespace Cert.Att
open Idealize.ShloMosaic Idealize.ShloMosaic.TcCoe Cert.KernelIdeal Cert.KernelIdeal.Gen

/-- Head `h`'s row `n` of batch `b` at lane `d` of the values, from the whole arrays. -/
def attRow (q k v : FVec Ideal S8x1024x1024 .bf16) (kc vc : FVec Ideal S8x256x1024 .bf16) (b : Fin 8) (h : Nat) (hh : h < 8) (n : Fin 1024) (d : Fin 128) : EReal :=
  rowK (fun x => ∑ e : Fin 128, q (ix3 b n ⟨h * 128 + e.val, by omega⟩) * k (ix3 b x ⟨h * 128 + e.val, by omega⟩))
    (fun x => ∑ e : Fin 128, q (ix3 b n ⟨h * 128 + e.val, by omega⟩) * kc (ix3 b x ⟨h * 128 + e.val, by omega⟩))
    (fun x => v (ix3 b x ⟨h * 128 + d.val, by omega⟩)) (fun x => v (ix3 b x ⟨h * 128 + 64, by omega⟩))
    (fun x => vc (ix3 b x ⟨h * 128 + d.val, by omega⟩)) (fun x => vc (ix3 b x ⟨h * 128 + 64, by omega⟩))

/-- The whole output. -/
def attOut (q k v : FVec Ideal S8x1024x1024 .bf16) (kc vc : FVec Ideal S8x256x1024 .bf16) : FVec Ideal S8x1024x512 .bf16 :=
  fun i => attRow q k v kc vc (i 0) ((i 2).val / 64) (by have h : (i 2).val < 512 := (i 2).isLt; omega) (i 1) ⟨(i 2).val % 64, by omega⟩

theorem headRow_eq (x0 x1 x2 : Vec Ideal S1x1024x1024 .bf16) (x3 x4 : Vec Ideal S1x256x1024 .bf16)
    (q k v : FVec Ideal S8x1024x1024 .bf16) (kc vc : FVec Ideal S8x256x1024 .bf16) (b : Fin 8)
    (h0 : ∀ r d, x0 (ix3 0 r d) = q (ix3 b r d)) (h1 : ∀ r d, x1 (ix3 0 r d) = k (ix3 b r d)) (h2 : ∀ r d, x2 (ix3 0 r d) = v (ix3 b r d))
    (h3 : ∀ r d, x3 (ix3 0 r d) = kc (ix3 b r d)) (h4 : ∀ r d, x4 (ix3 0 r d) = vc (ix3 b r d)) (h : Nat) (hh : h < 8) (n : Fin 1024) (d : Fin 128) :
    headRow x0 x1 x2 x3 x4 h hh n d = attRow q k v kc vc b h hh n d := by
  unfold headRow attRow
  simp only [h0, h1, h2, h3, h4]

theorem attOut_apply (q k v : FVec Ideal S8x1024x1024 .bf16) (kc vc : FVec Ideal S8x256x1024 .bf16) (b : Fin 8) (n : Fin 1024) (l : Fin 512) :
    attOut q k v kc vc (ix3 b n l) = attRow q k v kc vc b (l.val / 64) (by omega) n ⟨l.val % 64, by omega⟩ := rfl

variable (m : (ℓ : Loc nD τ sig) → Buf (Elt Ideal) ℓ)

theorem idx_facts : ∀ t : Fin cfg0.N, win0_5.index t = ![(t.val : Nat), 0, 0] ∧ win0_0.index t = ![(t.val : Nat), 0, 0] ∧ win0_1.index t = ![(t.val : Nat), 0, 0]
    ∧ win0_2.index t = ![(t.val : Nat), 0, 0] ∧ win0_3.index t = ![(t.val : Nat), 0, 0] ∧ win0_4.index t = ![(t.val : Nat), 0, 0] :=
  (by decide +kernel : ∀ t : Fin grid0.N, _)

theorem lt8 (t : Fin cfg0.N) : t.val < 8 := t.isLt

theorem blk0 (c : Dev nD) (t : Fin cfg0.N) (r : Fin 1024) (d : Fin 1024) :
    (iblk m c 0 t : Vec Ideal S1x1024x1024 .bf16) (ix3 0 r d) = m ((c : Thread nD τ).loc main_arg0) (ix3 ⟨t.val, lt8 t⟩ r d) := by
  have e := (idx_facts t).2.1
  blk_simp [iblk]
  rw [V_main_arg0 m c]
  refine congrArg _ ?_
  blk_ext [e]

theorem blk1 (c : Dev nD) (t : Fin cfg0.N) (r : Fin 1024) (d : Fin 1024) :
    (iblk m c 1 t : Vec Ideal S1x1024x1024 .bf16) (ix3 0 r d) = m ((c : Thread nD τ).loc main_arg1) (ix3 ⟨t.val, lt8 t⟩ r d) := by
  have e := (idx_facts t).2.2.1
  blk_simp [iblk]
  rw [V_main_arg1 m c]
  refine congrArg _ ?_
  blk_ext [e]

theorem blk2 (c : Dev nD) (t : Fin cfg0.N) (r : Fin 1024) (d : Fin 1024) :
    (iblk m c 2 t : Vec Ideal S1x1024x1024 .bf16) (ix3 0 r d) = m ((c : Thread nD τ).loc main_arg2) (ix3 ⟨t.val, lt8 t⟩ r d) := by
  have e := (idx_facts t).2.2.2.1
  blk_simp [iblk]
  rw [V_main_arg2 m c]
  refine congrArg _ ?_
  blk_ext [e]

theorem blk3 (c : Dev nD) (t : Fin cfg0.N) (r : Fin 256) (d : Fin 1024) :
    (iblk m c 3 t : Vec Ideal S1x256x1024 .bf16) (ix3 0 r d) = m ((c : Thread nD τ).loc main_arg3) (ix3 ⟨t.val, lt8 t⟩ r d) := by
  have e := (idx_facts t).2.2.2.2.1
  blk_simp [iblk]
  rw [V_main_arg3 m c]
  refine congrArg _ ?_
  blk_ext [e]

theorem blk4 (c : Dev nD) (t : Fin cfg0.N) (r : Fin 256) (d : Fin 1024) :
    (iblk m c 4 t : Vec Ideal S1x256x1024 .bf16) (ix3 0 r d) = m ((c : Thread nD τ).loc main_arg4) (ix3 ⟨t.val, lt8 t⟩ r d) := by
  have e := (idx_facts t).2.2.2.2.2
  blk_simp [iblk]
  rw [V_main_arg4 m c]
  refine congrArg _ ?_
  blk_ext [e]

theorem final (c : Dev nD) : (dats m 0 c).arrAt 5 cfg0.N =
    attOut (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t hf y => ?_
  have e := (idx_facts t).1
  blk_simp
  rw [after0_5]
  have hy : y = (ix3 (0 : Fin 1) (y 1 : Fin 1024) (y 2 : Fin 512) : S1x1024x512.Idx) := by
    refine funext fun a => ?_
    match a with
    | ⟨0, _⟩ => exact Fin.ext (by have h : (y 0 : Nat) < 1 := (y 0).isLt; show (y 0 : Nat) = 0; omega)
    | ⟨1, _⟩ => rfl
    | ⟨2, _⟩ => rfl
  have he : (win0_5.blk t).view.emb y = (ix3 (⟨t.val, lt8 t⟩ : Fin 8) (y 1 : Fin 1024) (y 2 : Fin 512) : S8x1024x512.Idx) := by
    blk_ext [e]
  have e1 := out_apply (iblk m c 0 t) (iblk m c 1 t) (iblk m c 2 t) (iblk m c 3 t) (iblk m c 4 t) (y 1) (y 2)
  have e2 := headRow_eq (iblk m c 0 t) (iblk m c 1 t) (iblk m c 2 t) (iblk m c 3 t) (iblk m c 4 t) _ _ _ _ _ ⟨t.val, lt8 t⟩
    (blk0 m c t) (blk1 m c t) (blk2 m c t) (blk3 m c t) (blk4 m c t) ((y 2 : Fin 512).val / 64) (by have h : (y 2 : Fin 512).val < 512 := (y 2).isLt; omega) (y 1) ⟨(y 2 : Fin 512).val % 64, by omega⟩
  have e3 := attOut_apply (m ((c : Thread nD τ).loc main_arg0)) (m ((c : Thread nD τ).loc main_arg1)) (m ((c : Thread nD τ).loc main_arg2))
      (m ((c : Thread nD τ).loc main_arg3)) (m ((c : Thread nD τ).loc main_arg4)) ⟨t.val, lt8 t⟩ (y 1) (y 2)
  exact (congrArg (out0_5 (iblk m c 0 t) (iblk m c 1 t) (iblk m c 2 t) (iblk m c 3 t) (iblk m c 4 t)) hy).trans
    ((e1.trans (e2.trans e3.symm)).trans (congrArg (attOut (m ((c : Thread nD τ).loc main_arg0)) (m ((c : Thread nD τ).loc main_arg1)) (m ((c : Thread nD τ).loc main_arg2))
      (m ((c : Thread nD τ).loc main_arg3)) (m ((c : Thread nD τ).loc main_arg4))) he.symm))

end Cert.Att
-- ==== Proof.Att.Ref.lean ====
module

public import proofs.«01_k».proof.Proof.Gen.ReferenceIdeal.Run
public import Idealize.ShloMosaic.Lib.Pointwise

/-! The reference attention, read at an index in three stages: the scores, the softmax of the scores, and the
weighted sum of the values. -/

@[expose] public section
noncomputable section
namespace Cert.Att
open Idealize.ShloMosaic Cert.ReferenceIdeal Cert.ReferenceIdeal.Gen Cert.ReferenceIdeal.Value

/-- The scores of every batch, head, query and key. -/
def refS (q k : FVec Ideal S8x1024x1024 .bf16) (kc : FVec Ideal S8x256x1024 .bf16) : FVec Ideal S8x8x1024x1280 .f32 :=
  Host.dotGeneral dot_S8x1024x8x128_S8x1280x8x128_S8x8x1024x1280_3_3_1_1_02_02 none (shapeCast _ (extf .f32 q bitsLt_bf16_f32) shapeCasts_S8x1024x1024_S8x1024x8x128) (concatenate S8x1280x8x128 1 [⟨S8x256x8x128, (shapeCast _ (extf .f32 kc bitsLt_bf16_f32) shapeCasts_S8x256x1024_S8x256x8x128)⟩, ⟨S8x1024x8x128, (shapeCast _ (extf .f32 k bitsLt_bf16_f32) shapeCasts_S8x1024x1024_S8x1024x8x128)⟩] concatenates_S8x256x8x128_S8x1024x8x128_S8x1280x8x128_d1)

/-- The largest score of every row. -/
def refM (s : FVec Ideal S8x8x1024x1280 .f32) : FVec Ideal S8x8x1024 .f32 :=
  Host.reduce FloatOps.maximumf s (constant S_ .f32 0xFF800000#32) reducesTo_S8x8x1024x1280_S8x8x1024_d3 h_S_

/-- The exponentials of the scores less the row's largest. -/
def refE (s : FVec Ideal S8x8x1024x1280 .f32) (m : FVec Ideal S8x8x1024 .f32) : FVec Ideal S8x8x1024x1280 .f32 :=
  Host.exp (subf s (broadcastInDim S8x8x1024x1280 ![0, 1, 2, 3] bcast_S8x8x1024x1_S8x8x1024x1280_0_1_2_3 (broadcastInDim S8x8x1024x1 ![0, 1, 2] bcast_S8x8x1024_S8x8x1024x1_0_1_2 (maximumf (broadcastInDim S8x8x1024 ![] bcast_S_S8x8x1024 (constant S_ .f32 0xFF800000#32)) m))))

/-- The exponentials over their sum. -/
def refP (e : FVec Ideal S8x8x1024x1280 .f32) : FVec Ideal S8x8x1024x1280 .f32 :=
  Host.divf e (broadcastInDim S8x8x1024x1280 ![0, 1, 2, 3] bcast_S8x8x1024x1_S8x8x1024x1280_0_1_2_3 (broadcastInDim S8x8x1024x1 ![0, 1, 2] bcast_S8x8x1024_S8x8x1024x1_0_1_2 (Host.reduceAdd e (constant S_ .f32 0x00000000#32) reducesTo_S8x8x1024x1280_S8x8x1024_d3 h_S_)))

/-- The weighted sum of the values, back in the model's layout. -/
def refO (p : FVec Ideal S8x8x1024x1280 .f32) (v : FVec Ideal S8x1024x1024 .bf16) (vc : FVec Ideal S8x256x1024 .bf16) : FVec Ideal S8x1024x512 .bf16 :=
  truncf .bf16 (shapeCast _ (transpose S8x1024x8x64 [0, 3, 1, 2] (Host.dotGeneral dot_S8x1280x8x64_S8x8x1024x1280_S8x8x64x1024_1_3_3_2_02_01 none (extractStridedSlice S8x1280x8x64 ![0, 0, 0, 0] (concatenate S8x1280x8x128 1 [⟨S8x256x8x128, (shapeCast _ (extf .f32 vc bitsLt_bf16_f32) shapeCasts_S8x256x1024_S8x256x8x128)⟩, ⟨S8x1024x8x128, (shapeCast _ (extf .f32 v bitsLt_bf16_f32) shapeCasts_S8x1024x1024_S8x1024x8x128)⟩] concatenates_S8x256x8x128_S8x1024x8x128_S8x1280x8x128_d1) slices_S8x1280x8x128_S8x1280x8x64_0_0_0_0) p) transposes_S8x8x64x1024_S8x1024x8x64_0_3_1_2) shapeCasts_S8x1024x8x64_S8x1024x512) bitsLt_bf16_f32

/-- The reference's output. -/
def refOut (q k v : FVec Ideal S8x1024x1024 .bf16) (kc vc : FVec Ideal S8x256x1024 .bf16) : FVec Ideal S8x1024x512 .bf16 :=
  refO (refP (refE (refS q k kc) (refM (refS q k kc)))) v vc

theorem refS_ctx (q k : FVec Ideal S8x1024x1024 .bf16) (kc : FVec Ideal S8x256x1024 .bf16) (b h : Fin 8) (n : Fin 1024) (j : Fin 256) :
    refS q k kc (ix4 b h n ⟨j.val, by omega⟩) =
      ∑ x : Fin 128, q (ix3 b n ⟨h.val * 128 + x.val, by omega⟩) * kc (ix3 b j ⟨h.val * 128 + x.val, by omega⟩) := by
  unfold refS
  pointwise

theorem refS_own (q k : FVec Ideal S8x1024x1024 .bf16) (kc : FVec Ideal S8x256x1024 .bf16) (b h : Fin 8) (n : Fin 1024) (j : Fin 1024) :
    refS q k kc (ix4 b h n ⟨256 + j.val, by omega⟩) =
      ∑ x : Fin 128, q (ix3 b n ⟨h.val * 128 + x.val, by omega⟩) * k (ix3 b j ⟨h.val * 128 + x.val, by omega⟩) := by
  unfold refS
  pointwise

theorem refE_apply (s : FVec Ideal S8x8x1024x1280 .f32) (m : FVec Ideal S8x8x1024 .f32) (b h : Fin 8) (n : Fin 1024) (j : Fin 1280) :
    refE s m (ix4 b h n j) = Ideal.exp (s (ix4 b h n j) - max (Ideal.ofBits FTy.f32 4286578688#32) (m (ix3 b h n))) := by
  unfold refE
  pointwise

theorem refM_apply (s : FVec Ideal S8x8x1024x1280 .f32) (b h : Fin 8) (n : Fin 1024) :
    refM s (ix3 b h n) = Finset.univ.fold max (Ideal.ofBits FTy.f32 4286578688#32) fun x : Fin 1280 => s (ix4 b h n x) := by
  unfold refM
  simp only [pointwise]

theorem refP_apply (e : FVec Ideal S8x8x1024x1280 .f32) (b h : Fin 8) (n : Fin 1024) (j : Fin 1280) :
    refP e (ix4 b h n j) = Ideal.div (e (ix4 b h n j)) (∑ x : Fin 1280, e (ix4 b h n x)) := by
  unfold refP
  pointwise

theorem refO_apply (p : FVec Ideal S8x8x1024x1280 .f32) (v : FVec Ideal S8x1024x1024 .bf16) (vc : FVec Ideal S8x256x1024 .bf16) (b : Fin 8) (n : Fin 1024) (l : Fin 512) :
    refO p v vc (ix3 b n l) =
      ∑ x : Fin 256, vc (ix3 b x ⟨l.val / 64 * 128 + l.val % 64, by omega⟩) * p (ix4 b ⟨l.val / 64, by omega⟩ n ⟨x.val, by omega⟩) +
      ∑ x : Fin 1024, v (ix3 b x ⟨l.val / 64 * 128 + l.val % 64, by omega⟩) * p (ix4 b ⟨l.val / 64, by omega⟩ n ⟨256 + x.val, by omega⟩) := by
  unfold refO
  pointwise

end Cert.Att
-- ==== Proof.Att.Pre.lean ====
module

public import proofs.«01_k».proof.Proof.Gen.Pre_finite_with_ones_lane
public import Idealize.ShloMosaic.Lib.Pointwise
public import proofs.«01_k».proof.Proof.Att.Row

/-! What the precondition says of the elements. -/

@[expose] public section
noncomputable section
namespace Cert.Att
open Idealize.ShloMosaic Cert.Pre_finite_with_ones_lane

theorem fold_and {ι : Type} [DecidableEq ι] (s : Finset ι) (f : ι → BitVec 1) (h : Finset.fold IntOp.andi (1#1) f s = 1#1) :
    ∀ i ∈ s, f i = 1#1 := by
  induction s using Finset.induction_on with
  | empty => simp
  | insert a s ha ih =>
    rw [Finset.fold_insert ha] at h
    have h2 : ∀ c d : BitVec 1, IntOp.andi c d = 1#1 → c = 1#1 ∧ d = 1#1 := by decide
    obtain ⟨h3, h4⟩ := h2 _ _ h
    intro i hi
    rcases Finset.mem_insert.1 hi with rfl | hi
    · exact h3
    · exact ih h4 i hi

theorem isReal_of_abs {x : EReal} (h : BitVec.ofBool (decide (max x (-x) < Ideal.ofBits FTy.f32 2139095040#32)) = 1#1) : IsReal x := by
  have h1 : max x (-x) < ⊤ := by
    by_contra hn
    rw [posInf_eq, decide_eq_false hn] at h
    exact absurd h (by decide)
  constructor
  · rintro rfl
    exact absurd (lt_of_le_of_lt (le_max_right _ _) h1) (by simp)
  · rintro rfl
    exact absurd (lt_of_le_of_lt (le_max_left _ _) h1) (by simp)

theorem eq_one_of {x : EReal} (h : BitVec.ofBool (decide (x = 1)) = 1#1) : x = 1 := by
  by_contra hn
  rw [decide_eq_false hn] at h
  exact absurd h (by decide)

theorem and_split : ∀ c d : BitVec 1, IntOp.andi c d = 1#1 → c = 1#1 ∧ d = 1#1 := by decide

set_option maxRecDepth 16384 in
/-- The precondition: finite queries and keys, and a lane of ones beside every head's values. -/
theorem pre_elems (q k v : FVec Ideal S8x1024x1024 .bf16) (kc vc : FVec Ideal S8x256x1024 .bf16)
    (h : Cert.Pre_finite_with_ones_lane.fn (F := Ideal) q k v kc vc = fun _ => 1#1) :
    (∀ b n d, IsReal (q (ix3 b n d))) ∧ (∀ b n d, IsReal (k (ix3 b n d))) ∧ (∀ b n d, IsReal (kc (ix3 b n d)))
      ∧ (∀ b n (e : Fin 8), v (ix3 b n ⟨e.val * 128 + 64, by omega⟩) = 1) ∧ (∀ b n (e : Fin 8), vc (ix3 b n ⟨e.val * 128 + 64, by omega⟩) = 1) := by
  have h := congrFun h ix0
  pointwise [Cert.Pre_finite_with_ones_lane.fn, Cert.Pre_finite_with_ones_lane.fn_part1] at h
  obtain ⟨h, h5⟩ := and_split _ _ h
  obtain ⟨h, h4⟩ := and_split _ _ h
  obtain ⟨h, h3⟩ := and_split _ _ h
  obtain ⟨h1, h2⟩ := and_split _ _ h
  exact ⟨fun b n d => isReal_of_abs (fold_and _ _ h1 (b, n, d) (Finset.mem_univ _)),
    fun b n d => isReal_of_abs (fold_and _ _ h2 (b, n, d) (Finset.mem_univ _)),
    fun b n d => isReal_of_abs (fold_and _ _ h3 (b, n, d) (Finset.mem_univ _)),
    fun b n e => eq_one_of (fold_and _ _ h4 (b, n, e) (Finset.mem_univ _)),
    fun b n e => eq_one_of (fold_and _ _ h5 (b, n, e) (Finset.mem_univ _))⟩

end Cert.Att
-- ==== Proof.Att.Equal.lean ====
module

public import proofs.«01_k».proof.Proof.Att.Array
public import proofs.«01_k».proof.Proof.Att.Ref
public import proofs.«01_k».proof.Proof.Att.Pre

/-! Under the precondition the kernel's output is the reference's. -/

@[expose] public section
noncomputable section
namespace Cert.Att
open Idealize.ShloMosaic Cert.ReferenceIdeal

theorem refOut_apply (q k v : FVec Ideal S8x1024x1024 .bf16) (kc vc : FVec Ideal S8x256x1024 .bf16)
    (hq : ∀ b n d, IsReal (q (ix3 b n d))) (hk : ∀ b n d, IsReal (k (ix3 b n d))) (hkc : ∀ b n d, IsReal (kc (ix3 b n d)))
    (hv : ∀ b n (e : Fin 8), v (ix3 b n ⟨e.val * 128 + 64, by omega⟩) = 1) (hvc : ∀ b n (e : Fin 8), vc (ix3 b n ⟨e.val * 128 + 64, by omega⟩) = 1)
    (b : Fin 8) (n : Fin 1024) (l : Fin 512) :
    attRow q k v kc vc b (l.val / 64) (by omega) n ⟨l.val % 64, by omega⟩ = refOut q k v kc vc (ix3 b n l) := by
  unfold refOut attRow
  rw [refO_apply]
  simp only [refP_apply, refE_apply, refM_apply]
  refine row_eq (fun j => refS q k kc (ix4 b ⟨l.val / 64, by omega⟩ n j)) _ _ (fun j => refS_ctx q k kc b ⟨l.val / 64, by omega⟩ n j)
    (fun j => refS_own q k kc b ⟨l.val / 64, by omega⟩ n j) (fun j => IsReal.sum _ _ fun e => (hq _ _ _).mul (hkc _ _ _))
    (fun j => IsReal.sum _ _ fun e => (hq _ _ _).mul (hk _ _ _)) _ _ _ _ (fun j => hv b j ⟨l.val / 64, by omega⟩) (fun j => hvc b j ⟨l.val / 64, by omega⟩)

theorem att_eq (q k v : FVec Ideal S8x1024x1024 .bf16) (kc vc : FVec Ideal S8x256x1024 .bf16)
    (h : Cert.Pre_finite_with_ones_lane.fn (F := Ideal) q k v kc vc = fun _ => 1#1) : attOut q k v kc vc = refOut q k v kc vc := by
  obtain ⟨h1, h2, h3, h4, h5⟩ := pre_elems q k v kc vc h
  funext i
  have e : i = ix3 (i 0) (i 1) (i 2) := by
    refine funext fun a => ?_
    match a with
    | ⟨0, _⟩ => rfl
    | ⟨1, _⟩ => rfl
    | ⟨2, _⟩ => rfl
  refine Eq.trans ?_ ((refOut_apply q k v kc vc h1 h2 h3 h4 h5 (i 0) (i 1) (i 2)).trans (congrArg _ e.symm))
  rfl

end Cert.Att
-- ==== Proof.Att.Claims.lean ====
module

public import proofs.«01_k».proof.Defs
public import proofs.«01_k».proof.Proof.Gen.Kernel.Frame
public import proofs.«01_k».proof.Proof.Att.Equal

/-! The algebraic claim about the attention, assembled. -/

@[expose] public section
noncomputable section
namespace Cert.Att
open Idealize.ShloMosaic Idealize.SL.Sem

theorem algebraic : Cert.algebraic_KernelIdeal_ReferenceIdeal_pre_finite_with_ones_lane (hKernelIdeal := Cert.KernelIdeal.Gen.facts)
    (hReferenceIdeal := Cert.ReferenceIdeal.Gen.facts) (hPre_finite_with_ones_lane := Cert.Pre_finite_with_ones_lane.Gen.facts) := by
  intro m g m' g' hpre hargs
  refine ⟨fun c => attOut (m ((c.tc : Thread _ _).loc Cert.KernelIdeal.main_arg0)) (m ((c.tc : Thread _ _).loc Cert.KernelIdeal.main_arg1))
    (m ((c.tc : Thread _ _).loc Cert.KernelIdeal.main_arg2)) (m ((c.tc : Thread _ _).loc Cert.KernelIdeal.main_arg3))
    (m ((c.tc : Thread _ _).loc Cert.KernelIdeal.main_arg4)), ?_, ?_⟩
  · refine (θ_run (Cert.KernelIdeal.defs (F := Ideal)) _ _).mono (fun r h c => ?_) (Cert.KernelIdeal.Value.run_blocks m g)
    obtain ⟨hv, h⟩ := h c
    exact ⟨hv.trans (final m c), h⟩
  · refine (θ_run (Cert.ReferenceIdeal.defs (F := Ideal)) _ _).mono (fun r h c => ?_) (Cert.ReferenceIdeal.Value.run (F := Ideal) m' g')
    obtain ⟨hv, h⟩ := h c
    refine ⟨?_, h⟩
    obtain ⟨a0, a1, a2, a3, a4⟩ := hargs c
    refine hv.trans ?_
    rw [a0, a1, a2, a3, a4]
    exact (att_eq _ _ _ _ _ (hpre c)).symm

theorem no_sem (x : GSem Cert.ReferenceIdeal.nD Cert.ReferenceIdeal.τ Cert.ReferenceIdeal.sig) : False := by
  obtain ⟨_, s⟩ := x
  rcases s with s | s <;> exact Nat.not_lt_zero _ s.2

theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run (Cert.ReferenceIdeal.defs (F := Ideal)) _ _).mono (fun _ h => ⟨fun c => (h c).2, funext fun x => (no_sem x).elim⟩)
    (Cert.ReferenceIdeal.Value.run (F := Ideal) m g)

end Cert.Att
-- ==== Proof.Ffn.Kit.lean ====
/-
  The feed-forward call on the device: its memory as the call finds it, its tables and blocks, and the
  conditions its body reads off the tables.
-/
module

public import proofs.«01_k».proof.Proof.Gen.Kernel2Ideal.Launch
public import proofs.«01_k».proof.Proof.Gen.Kernel2Ideal.Skeleton
public import proofs.«01_k».proof.Proof.Gen.Kernel2Ideal.Loops
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The memory as the call finds it. -/
abbrev V (c : Dev nD) (b : Ref sig .tc) : Buf (Elt F) ((c : Thread nD τ).loc b) := m ((c : Thread nD τ).loc b)

theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl

/-- The two tables of counts. -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
/-- The call's configuration at its tables. -/
abbrev cfgM (hO : Ok m) : Pipeline.Cfg sig Λ₀ := cfg0 (adm m hO)

abbrev tbM0_0 : Memref sig .tc .smem S16x17 .i32 := Memref.whole main_arg0
abbrev htbM0_0 : tbM0_0.IsWhole := Memref.isWhole_whole _
abbrev tbM0_1 : Memref sig .tc .smem S16x33 .i32 := Memref.whole main_arg1
abbrev htbM0_1 : tbM0_1.IsWhole := Memref.isWhole_whole _

abbrev TbBuf0 (c : Dev nD) {S : Shape} {e : EltTy} (M : Memref sig .tc .smem S e) : Type := Buf (Elt F) (M.view.loc (c : Thread nD τ))
/-- Half a share of a table, which the body keeps. -/
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-- The block of a read array at a grid point. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Before the body a read array's buffer holds its block. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- The conditions of the body's four branches. -/
abbrev cond0_0 (i : grid0.Coords) (v27 : BitVec 32) : Prop := k0_cond1 v27 = 1#1

abbrev cond0_1 (i : grid0.Coords) (v27 : BitVec 32) : Prop := k0_cond2 v27 = 1#1

abbrev cond0_2 (i : grid0.Coords) (v54 : BitVec 32) : Prop := k0_cond3 v54 = 1#1

abbrev cond0_3 (i : grid0.Coords) (v54 : BitVec 32) : Prop := k0_cond4 v54 = 1#1

/-- The staging buffers of a grid point. -/
abbrev ms0_0 (hO : Ok m) (t : Fin (cfgM m hO).N) : Memref sig .tc .vmem S1x768x1152 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1536x1152 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1024x512 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1024x512 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x512x1024 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x768x1024 .bf16 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x1536x1024 .bf16 := spec0_6.stage ((cfgM m hO).slots t 6)
abbrev hs0_6 (hO : Ok m) (t : Fin (cfgM m hO).N) : (ms0_6 m hO t).IsWhole := hstage0_6 (((cfgM m hO).slots t 6).cast nbuf0_6)

/-- The three scratch buffers. -/
abbrev scM0_0 : Memref sig .tc .vmem S1024x512 .bf16 := Memref.whole cc0_scratch0
abbrev scM0_1 : Memref sig .tc .vmem S1024x512 .bf16 := Memref.whole cc0_scratch1
abbrev scM0_2 : Memref sig .tc .vmem S512x1024 .bf16 := Memref.whole cc0_scratch2

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Proof.Ffn

end
-- ==== Proof.Ffn.Words.lean ====
/-
  The words the feed-forward kernel computes from an expert's row count: the trips of its loops, where its blocks lie,
  and which of its two conditional tiles it takes. Each is checked at every row count the precondition allows.
-/
module

public import proofs.«01_k».proof.Kernel2Ideal
public import Idealize.ShloMosaic.Lib.Tactic

@[expose] public section

set_option maxRecDepth 16384

noncomputable section

namespace Cert.Proof.Ffn

open Cert.Kernel2Ideal
open Idealize.ShloMosaic

/-- A row count in tiles of 128 rows, rounded up. -/
abbrev tiles (v : BitVec 32) : ℕ := (v.toNat + 127) / 128

/-- What holds of the words of the numbers up to `N` holds of every word that is at most `N`. -/
theorem of_fin {N : ℕ} {p : BitVec 32 → Prop} (hN : N < 2 ^ 32) (h : ∀ n : Fin (N + 1), p (BitVec.ofNat 32 n.val))
    (v : BitVec 32) (hv : v.toNat ≤ N) : p v := by
  have := h ⟨v.toNat, by omega⟩
  rwa [BitVec.ofNat_toNat, BitVec.setWidth_eq] at this

/-- The trips of the loops, for every count up to 768. -/
theorem p_trips (v : BitVec 32) (hv : v.toNat ≤ 768) :
    (k0_t1_loop v).trips = tiles v / 4 ∧ (k0_t2_loop v).trips = 0 ∧ (k0_t3_loop v).trips = 6 - tiles v ∧ (k0_t4_loop v).trips = 0 :=
  of_fin (N := 768) (p := fun v => (k0_t1_loop v).trips = tiles v / 4 ∧ (k0_t2_loop v).trips = 0 ∧ (k0_t3_loop v).trips = 6 - tiles v ∧ (k0_t4_loop v).trips = 0)
    (by decide) (by decide +kernel) v hv

/-- Where the tiles of 512 rows lie. -/
theorem p_wide (v : BitVec 32) (hv : v.toNat ≤ 768) : ∀ k : Fin (k0_t1_loop v).trips,
    k0_off2 v k = ![0, 512 * k.val, 0] ∧ k0_off3 v k = ![0, 512 * k.val, 1024] ∧ k0_off4 v k = ![0, 512 * k.val, 0] :=
  of_fin (N := 768) (p := fun v => ∀ k : Fin (k0_t1_loop v).trips,
    k0_off2 v k = ![0, 512 * k.val, 0] ∧ k0_off3 v k = ![0, 512 * k.val, 1024] ∧ k0_off4 v k = ![0, 512 * k.val, 0])
    (by decide) (by decide +kernel) v hv

/-- Whether there is a tile of 256 rows, and where. -/
theorem p_two (v : BitVec 32) (hv : v.toNat ≤ 768) : (k0_cond1 v = 1#1 ↔ 2 ≤ tiles v % 4) ∧
    k0_off8 v = ![0, 512 * (tiles v / 4), 0] ∧ k0_off9 v = ![0, 512 * (tiles v / 4), 1024] ∧ k0_off10 v = ![0, 512 * (tiles v / 4), 0] :=
  of_fin (N := 768) (p := fun v => (k0_cond1 v = 1#1 ↔ 2 ≤ tiles v % 4) ∧
    k0_off8 v = ![0, 512 * (tiles v / 4), 0] ∧ k0_off9 v = ![0, 512 * (tiles v / 4), 1024] ∧ k0_off10 v = ![0, 512 * (tiles v / 4), 0])
    (by decide) (by decide +kernel) v hv

/-- Whether there is a tile of 128 rows, and where. -/
theorem p_one (v : BitVec 32) (hv : v.toNat ≤ 768) : (k0_cond2 v = 1#1 ↔ tiles v % 2 = 1) ∧ (k0_cond2 v = 1#1 →
    k0_off11 v = ![0, 256 * (tiles v / 2), 0] ∧ k0_off12 v = ![0, 256 * (tiles v / 2), 1024] ∧ k0_off13 v = ![0, 256 * (tiles v / 2), 0]) :=
  of_fin (N := 768) (p := fun v => (k0_cond2 v = 1#1 ↔ tiles v % 2 = 1) ∧ (k0_cond2 v = 1#1 →
    k0_off11 v = ![0, 256 * (tiles v / 2), 0] ∧ k0_off12 v = ![0, 256 * (tiles v / 2), 1024] ∧ k0_off13 v = ![0, 256 * (tiles v / 2), 0]))
    (by decide) (by decide +kernel) v hv

/-- Where the blank tiles lie. -/
theorem p_blank (v : BitVec 32) (hv : v.toNat ≤ 768) : ∀ k : Fin (k0_t3_loop v).trips, k0_off14 v k = ![0, 128 * (tiles v + k.val), 0] :=
  of_fin (N := 768) (p := fun v => ∀ k : Fin (k0_t3_loop v).trips, k0_off14 v k = ![0, 128 * (tiles v + k.val), 0])
    (by decide) (by decide +kernel) v hv

/-- The kernel's in-range conditions hold of every such count. -/
theorem p_chk (v : BitVec 32) (hv : v.toNat ≤ 768) : k0_chk1 v :=
  of_fin (N := 768) (p := fun v => k0_chk1 v) (by decide) (by decide +kernel) v hv

/-- The trips of the loops, for every count up to 1536. -/
theorem s_trips (v : BitVec 32) (hv : v.toNat ≤ 1536) :
    (k0_t5_loop v).trips = tiles v / 4 ∧ (k0_t6_loop v).trips = 0 ∧ (k0_t7_loop v).trips = 12 - tiles v ∧ (k0_t8_loop v).trips = 0 :=
  of_fin (N := 1536) (p := fun v => (k0_t5_loop v).trips = tiles v / 4 ∧ (k0_t6_loop v).trips = 0 ∧ (k0_t7_loop v).trips = 12 - tiles v ∧ (k0_t8_loop v).trips = 0)
    (by decide) (by decide +kernel) v hv

/-- Where the tiles of 512 rows lie. -/
theorem s_wide (v : BitVec 32) (hv : v.toNat ≤ 1536) : ∀ k : Fin (k0_t5_loop v).trips,
    k0_off17 v k = ![0, 512 * k.val, 0] ∧ k0_off18 v k = ![0, 512 * k.val, 1024] ∧ k0_off19 v k = ![0, 512 * k.val, 0] :=
  of_fin (N := 1536) (p := fun v => ∀ k : Fin (k0_t5_loop v).trips,
    k0_off17 v k = ![0, 512 * k.val, 0] ∧ k0_off18 v k = ![0, 512 * k.val, 1024] ∧ k0_off19 v k = ![0, 512 * k.val, 0])
    (by decide) (by decide +kernel) v hv

/-- Whether there is a tile of 256 rows, and where. -/
theorem s_two (v : BitVec 32) (hv : v.toNat ≤ 1536) : (k0_cond3 v = 1#1 ↔ 2 ≤ tiles v % 4) ∧
    k0_off23 v = ![0, 512 * (tiles v / 4), 0] ∧ k0_off24 v = ![0, 512 * (tiles v / 4), 1024] ∧ k0_off25 v = ![0, 512 * (tiles v / 4), 0] :=
  of_fin (N := 1536) (p := fun v => (k0_cond3 v = 1#1 ↔ 2 ≤ tiles v % 4) ∧
    k0_off23 v = ![0, 512 * (tiles v / 4), 0] ∧ k0_off24 v = ![0, 512 * (tiles v / 4), 1024] ∧ k0_off25 v = ![0, 512 * (tiles v / 4), 0])
    (by decide) (by decide +kernel) v hv

/-- Whether there is a tile of 128 rows, and where. -/
theorem s_one (v : BitVec 32) (hv : v.toNat ≤ 1536) : (k0_cond4 v = 1#1 ↔ tiles v % 2 = 1) ∧ (k0_cond4 v = 1#1 →
    k0_off26 v = ![0, 256 * (tiles v / 2), 0] ∧ k0_off27 v = ![0, 256 * (tiles v / 2), 1024] ∧ k0_off28 v = ![0, 256 * (tiles v / 2), 0]) :=
  of_fin (N := 1536) (p := fun v => (k0_cond4 v = 1#1 ↔ tiles v % 2 = 1) ∧ (k0_cond4 v = 1#1 →
    k0_off26 v = ![0, 256 * (tiles v / 2), 0] ∧ k0_off27 v = ![0, 256 * (tiles v / 2), 1024] ∧ k0_off28 v = ![0, 256 * (tiles v / 2), 0]))
    (by decide) (by decide +kernel) v hv

/-- Where the blank tiles lie. -/
theorem s_blank (v : BitVec 32) (hv : v.toNat ≤ 1536) : ∀ k : Fin (k0_t7_loop v).trips, k0_off29 v k = ![0, 128 * (tiles v + k.val), 0] :=
  of_fin (N := 1536) (p := fun v => ∀ k : Fin (k0_t7_loop v).trips, k0_off29 v k = ![0, 128 * (tiles v + k.val), 0])
    (by decide) (by decide +kernel) v hv

/-- The kernel's in-range conditions hold of every such count. -/
theorem s_chk (v : BitVec 32) (hv : v.toNat ≤ 1536) : k0_chk2 v :=
  of_fin (N := 1536) (p := fun v => k0_chk2 v) (by decide) (by decide +kernel) v hv

end Cert.Proof.Ffn

end
-- ==== Proof.Ffn.Rows.lean ====
/-
  Blocks of rows written one after another into a buffer: what the buffer holds once they cover it.
-/
module

public import Idealize.ShloMosaic.Lib.Pipeline.ValueKit.Tiles
public import Idealize.ShloMosaic.Lib.Pipeline.FrameBody
public import Idealize.ShloMosaic.Lib.VecWindow
public import Idealize.ShloMosaic.Lib.WritesUnit

@[expose] public section

noncomputable section

namespace Cert.Proof.Ffn

open Idealize.ShloMosaic

/-- `N` rows of `W` values under one leading axis. -/
abbrev Sh (N W : ℕ) : Shape := ⟨3, ![1, N, W]⟩

/-- An index of such rows. -/
def at3 {N W : ℕ} (r : ℕ) (hr : r < N) (d : ℕ) (hd : d < W) : (Sh N W).Idx :=
  fun a => match a with
    | 0 => (⟨0, Nat.one_pos⟩ : Fin 1)
    | 1 => (⟨r, hr⟩ : Fin N)
    | 2 => (⟨d, hd⟩ : Fin W)

theorem idx_ext {N W : ℕ} {x y : (Sh N W).Idx} (h1 : (x 1).val = (y 1).val) (h2 : (x 2).val = (y 2).val) : x = y := by
  funext a
  match a with
  | 0 => exact Subsingleton.elim (α := Fin 1) _ _
  | 1 => exact Fin.ext h1
  | 2 => exact Fin.ext h2

/-- The block of `n` rows and `w` columns at row `o` and column `c`. -/
def cut {α : Type} {N W : ℕ} [NeZero N] [NeZero W] (x : (Sh N W).Idx → α) (n w o c : ℕ) : (Sh n w).Idx → α :=
  fun j => x (at3 ((o + (j 1).val) % N) (Nat.mod_lt _ (NeZero.pos N)) ((c + (j 2).val) % W) (Nat.mod_lt _ (NeZero.pos W)))

section Write
variable {Val : EltTy → Type} [∀ e, Nonempty (Val e)] {N : ℕ} {e : EltTy}

/-- The pieces hold `T` wherever they lie, and cover the first `b` rows. -/
def Has (L : List (View.Piece Val (Sh N 1024) e)) (b : ℕ) (T : (Sh N 1024).Idx → Val e) : Prop :=
  (∀ y : (Sh N 1024).Idx, (y 1).val < b → ∃ p ∈ L, y ∈ p.1.set) ∧ ∀ y, View.AllAt L y (T y)

theorem Has.nil (T : (Sh N 1024).Idx → Val e) : Has [] 0 T :=
  ⟨fun y h => absurd h (Nat.not_lt_zero _), fun y => View.allAt_nil y _⟩

/-- The next block of `n` rows. -/
theorem Has.cons {L : List (View.Piece Val (Sh N 1024) e)} {b : ℕ} {T : (Sh N 1024).Idx → Val e} (hL : Has L b T) (n : ℕ)
    {off : Fin 3 → ℕ} (hoff : off = ![0, b, 0]) (inb : ∀ a, off a + (![1, n, 1024] : Fin 3 → ℕ) a ≤ (Sh N 1024).size a)
    (w : (Sh n 1024).Idx → Val e)
    (hw : ∀ (x : (Sh n 1024).Idx) (y : (Sh N 1024).Idx), (y 1).val = b + (x 1).val → (y 2).val = (x 2).val → w x = T y) :
    Has ((⟨Rect.unit (s := Sh N 1024) off ![1, n, 1024] inb, w⟩ : View.Piece Val (Sh N 1024) e) :: L) (b + n) T := by
  subst hoff
  refine ⟨fun y hy => ?_, fun y => View.allAt_cons_unit _ _ inb w L (fun x hx => hw x y (hx 1) ?_) (hL.2 y)⟩
  · by_cases h : (y 1).val < b
    · obtain ⟨p, hp, hm⟩ := hL.1 y h
      exact ⟨p, List.mem_cons_of_mem _ hp, hm⟩
    · refine ⟨_, List.mem_cons_self, ?_⟩
      rw [Rect.mem_set_unit]
      intro a
      match a with
      | 0 => exact ⟨Nat.zero_le _, (y 0).isLt⟩
      | 1 => exact ⟨Nat.le_of_not_lt h, hy⟩
      | 2 => exact ⟨Nat.zero_le _, by show (y 2).val < 0 + 1024; have := (y 2).isLt; rw [Nat.zero_add]; exact this⟩
  · have := hx 2
    rwa [show (![0, b, 0] : Fin 3 → ℕ) 2 = 0 from rfl, Nat.zero_add] at this

theorem Has.read {L : List (View.Piece Val (Sh N 1024) e)} {T : (Sh N 1024).Idx → Val e} (hL : Has L N T)
    {sig : RefSig} {κ : Kind} {sp : Space} (v : View sig κ sp (Sh N 1024) e) (f : v.ty.Contents Val) :
    v.read Val (v.writes Val f L) = T := by
  funext y
  rw [View.read_writes_apply_eq_canon v f y L (hL.1 y (y 1).isLt)]
  exact View.canon_eq_of_allAt L y _ (hL.1 y (y 1).isLt) (hL.2 y)

theorem Has.congr {L L' : List (View.Piece Val (Sh N 1024) e)} {b b' : ℕ} {T : (Sh N 1024).Idx → Val e} (h : Has L b T)
    (hL : L' = L) (hb : b' = b) : Has L' b' T := by subst hL; subst hb; exact h

end Write

/-- Tiles of 512 rows, then one of 256 and one of 128 where the count asks for them, then blank tiles of 128 rows. -/
def assemble {α : Type} {N : ℕ} (h : ℕ) (A : ℕ → (Sh 512 1024).Idx → α) (B : (Sh 256 1024).Idx → α) (C Z : (Sh 128 1024).Idx → α) :
    (Sh N 1024).Idx → α := fun y =>
  if (y 1).val < 512 * (h / 4) then A (512 * ((y 1).val / 512)) (at3 ((y 1).val % 512) (Nat.mod_lt _ (by decide)) (y 2).val (y 2).isLt)
  else if (y 1).val < 256 * (h / 2) then B (at3 ((y 1).val % 256) (Nat.mod_lt _ (by decide)) (y 2).val (y 2).isLt)
  else if (y 1).val < 128 * h then C (at3 ((y 1).val % 128) (Nat.mod_lt _ (by decide)) (y 2).val (y 2).isLt)
  else Z (at3 ((y 1).val % 128) (Nat.mod_lt _ (by decide)) (y 2).val (y 2).isLt)

section Assemble
variable {α : Type} {N h : ℕ} {A : ℕ → (Sh 512 1024).Idx → α} {B : (Sh 256 1024).Idx → α} {C Z : (Sh 128 1024).Idx → α}

theorem assemble_A {k : ℕ} (hk : k < h / 4) (x : (Sh 512 1024).Idx) (y : (Sh N 1024).Idx)
    (h1 : (y 1).val = 512 * k + (x 1).val) (h2 : (y 2).val = (x 2).val) : assemble h A B C Z y = A (512 * k) x := by
  have hx : (x 1).val < 512 := (x 1).isLt
  unfold assemble
  rw [if_pos (by omega)]
  have e : (y 1).val / 512 = k := by omega
  rw [e]
  exact congrArg (A (512 * k)) (idx_ext (by show (y 1).val % 512 = _; omega) h2)

theorem assemble_B (hh : 2 ≤ h % 4) (x : (Sh 256 1024).Idx) (y : (Sh N 1024).Idx)
    (h1 : (y 1).val = 512 * (h / 4) + (x 1).val) (h2 : (y 2).val = (x 2).val) : assemble h A B C Z y = B x := by
  have hx : (x 1).val < 256 := (x 1).isLt
  unfold assemble
  rw [if_neg (by omega), if_pos (by omega)]
  exact congrArg B (idx_ext (by show (y 1).val % 256 = _; omega) h2)

theorem assemble_C (hh : h % 2 = 1) (x : (Sh 128 1024).Idx) (y : (Sh N 1024).Idx)
    (h1 : (y 1).val = 256 * (h / 2) + (x 1).val) (h2 : (y 2).val = (x 2).val) : assemble h A B C Z y = C x := by
  have hx : (x 1).val < 128 := (x 1).isLt
  unfold assemble
  rw [if_neg (by omega), if_neg (by omega), if_pos (by omega)]
  exact congrArg C (idx_ext (by show (y 1).val % 128 = _; omega) h2)

theorem assemble_Z {k : ℕ} (x : (Sh 128 1024).Idx) (y : (Sh N 1024).Idx)
    (h1 : (y 1).val = 128 * (h + k) + (x 1).val) (h2 : (y 2).val = (x 2).val) : assemble h A B C Z y = Z x := by
  have hx : (x 1).val < 128 := (x 1).isLt
  unfold assemble
  rw [if_neg (by omega), if_neg (by omega), if_neg (by omega)]
  exact congrArg Z (idx_ext (by show (y 1).val % 128 = _; omega) h2)

end Assemble

/-- A load of a block of rows reads the block. -/
theorem readAt_cut {Val : EltTy → Type} {e : EltTy} {sig : RefSig} {κ : Kind} {sp : Space} {N W : ℕ} [NeZero N] [NeZero W] (v : View sig κ sp (Sh N W) e)
    (f : v.ty.Contents Val) {x : (Sh N W).Idx → Val e} (hf : v.read Val f = x) {off : Fin 3 → ℕ} {n w o c : ℕ} (hoff : off = ![0, o, c])
    (inb : ∀ a, off a + (![1, n, w] : Fin 3 → ℕ) a ≤ (Sh N W).size a) :
    v.readAt Val (Rect.unit (s := Sh N W) off ![1, n, w] inb).toLoadRect f = cut x n w o c := by
  subst hoff; subst hf
  funext j
  rw [View.readAt_apply]
  refine congrArg (v.read Val f) (idx_ext ?_ ?_)
  · have h1 : o + n ≤ N := inb 1
    have hj : (j 1).val < n := (j 1).isLt
    show o + 1 * (j 1).val = (o + (j 1).val) % N
    rw [Nat.mod_eq_of_lt (by omega), Nat.one_mul]
  · have h1 : c + w ≤ W := inb 2
    have hj : (j 2).val < w := (j 2).isLt
    show c + 1 * (j 2).val = (c + (j 2).val) % W
    rw [Nat.mod_eq_of_lt (by omega), Nat.one_mul]

end Cert.Proof.Ffn

end
-- ==== Proof.Ffn.Lists.lean ====
/-
  The tiles the feed-forward kernel's loops write: what the pieces they store are, and that together they hold the
  rows of the call's two results.
-/
module

public import proofs.«01_k».proof.Proof.Ffn.Kit
public import proofs.«01_k».proof.Proof.Ffn.Words
public import proofs.«01_k».proof.Proof.Ffn.Rows

@[expose] public section

set_option maxRecDepth 16384

noncomputable section

namespace Cert.Proof.Ffn

open Cert.Kernel2Ideal Cert.Kernel2Ideal.Gen
open Idealize.ShloMosaic Idealize.ShloMosaic.TcCoe Idealize.ShloMosaic.Tactic
open Idealize.SL Idealize.SL.RA Idealize.SL.BI Idealize.SL.Sem

variable {F : FTy → Type} [FloatOps F]

/-- A word is at most `N`. -/
@[irreducible] def AtMost (v : BitVec 32) (N : ℕ) : Prop := v.toNat ≤ N

theorem AtMost.le {v : BitVec 32} {N : ℕ} (h : AtMost v N) : v.toNat ≤ N := by unfold AtMost at h; exact h

theorem AtMost.of {v : BitVec 32} {N : ℕ} (h : v.toNat ≤ N) : AtMost v N := by unfold AtMost; exact h

/-- The prompt rows' result: each tile of rows through the expert whose lanes the mask picks, then blanks. -/
def T8 (h : ℕ) (msk : IVec S1x128 1) (x : Vec F S1x768x1152 .bf16) (wg wu : Vec F S1024x512 .bf16) (wd : Vec F S512x1024 .bf16) :
    Vec F S1x768x1024 .bf16 :=
  assemble (N := 768) h (fun o => k0_pay5 (F := F) msk (cut (N := 768) (W := 1152) x 512 1024 o 0) (cut (N := 768) (W := 1152) x 512 128 o 1024) wg wu wd)
    (k0_pay17 (F := F) (k0_pay7 msk (cut (N := 768) (W := 1152) x 256 1024 (512 * (h / 4)) 0) (cut (N := 768) (W := 1152) x 256 128 (512 * (h / 4)) 1024) wg wu wd))
    (k0_pay18 (F := F) (k0_pay8 msk (cut (N := 768) (W := 1152) x 128 1024 (256 * (h / 2)) 0) (cut (N := 768) (W := 1152) x 128 128 (256 * (h / 2)) 1024) wg wu wd))
    (k0_pay19 (F := F))

/-- The sample rows' result. -/
def T9 (h : ℕ) (msk : IVec S1x128 1) (x : Vec F S1x1536x1152 .bf16) (wg wu : Vec F S1024x512 .bf16) (wd : Vec F S512x1024 .bf16) :
    Vec F S1x1536x1024 .bf16 :=
  assemble (N := 1536) h (fun o => k0_pay9 (F := F) msk (cut (N := 1536) (W := 1152) x 512 1024 o 0) (cut (N := 1536) (W := 1152) x 512 128 o 1024) wg wu wd)
    (k0_pay1 (F := F) (k0_pay11 msk (cut (N := 1536) (W := 1152) x 256 1024 (512 * (h / 4)) 0) (cut (N := 1536) (W := 1152) x 256 128 (512 * (h / 4)) 1024) wg wu wd))
    (k0_pay2 (F := F) (k0_pay12 msk (cut (N := 1536) (W := 1152) x 128 1024 (256 * (h / 2)) 0) (cut (N := 1536) (W := 1152) x 128 128 (256 * (h / 2)) 1024) wg wu wd))
    (k0_pay3 (F := F))

variable (𝒱 : Variants) (c : Dev nD) (bd : Option 𝒱.V) (i : grid0.Coords) (arg1 : Memref sig .tc .smem S16x17 .i32) (harg1 : arg1.IsWhole) (arg2 : Memref sig .tc .smem S16x33 .i32) (harg2 : arg2.IsWhole) (arg3 : Memref sig .tc .vmem S1x768x1152 .bf16) (harg3 : arg3.IsWhole) (arg4 : Memref sig .tc .vmem S1x1536x1152 .bf16) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S1x768x1024 .bf16) (harg8 : arg8.IsWhole) (arg9 : Memref sig .tc .vmem S1x1536x1024 .bf16) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S512x1024 .bf16) (harg12 : arg12.IsWhole)
  (arg0 : BitVec 32) (v25 : IVec S1x128 1)

/-- What one trip stores. -/
theorem piece_t1 (v27 : Elt F .i32) (k0_hw1 : k0_chk1 v27) (v29 : BitVec 32) (c0_i32 : BitVec 32) (c0_i32_14 : BitVec 32) (v31 : BitVec 32) (X_arg3 : BufTy.Contents (Elt F) arg3.view.ty) (X_arg10 : BufTy.Contents (Elt F) arg10.view.ty) (X_arg11 : BufTy.Contents (Elt F) arg11.view.ty) (X_arg12 : BufTy.Contents (Elt F) arg12.view.ty) (k : Fin (k0_t1_loop v27).trips) (acc : BitVec 32) : ∃ inb,
    tripL_k0_t1 (F := F) 𝒱 c bd i arg1 harg1 arg2 harg2 arg3 harg3 arg4 harg4 arg5 harg5 arg6 harg6 arg7 harg7 arg8 harg8 arg9 harg9 arg10 harg10 arg11 harg11 arg12 harg12 arg0 v25 v27 k0_hw1 v29 c0_i32 c0_i32_14 v31 X_arg3 X_arg10 X_arg11 X_arg12 k acc
      = [⟨Rect.unit (s := S1x768x1024) (k0_off4 v27 k) ![1, 512, 1024] inb, trip_k0_t1.sl.r arg3 arg10 arg11 arg12 v25 v27 k0_hw1 X_arg3 X_arg10 X_arg11 X_arg12 k⟩] := by
  refine ⟨?_, ?_⟩
  rotate_left
  · unfold tripL_k0_t1 trip_k0_t1
    exact rfl

/-- What the loop has stored after `n` trips: the rows of the first `n` tiles. -/
theorem has_t1 (v27 : Elt F .i32) (k0_hw1 : k0_chk1 v27) (v29 : BitVec 32) (c0_i32 : BitVec 32) (c0_i32_14 : BitVec 32) (v31 : BitVec 32) (X_arg3 : BufTy.Contents (Elt F) arg3.view.ty) (X_arg10 : BufTy.Contents (Elt F) arg10.view.ty) (X_arg11 : BufTy.Contents (Elt F) arg11.view.ty) (X_arg12 : BufTy.Contents (Elt F) arg12.view.ty) (init : BitVec 32) (hv : v27.toNat ≤ 768) {x : Vec F S1x768x1152 .bf16} {wg wu : Vec F S1024x512 .bf16} {wd : Vec F S512x1024 .bf16}
    (hx : arg3.view.read (Elt F) X_arg3 = x) (hg : arg10.view.read (Elt F) X_arg10 = wg) (hu : arg11.view.read (Elt F) X_arg11 = wu)
    (hd : arg12.view.read (Elt F) X_arg12 = wd) (n : ℕ) (hn : n ≤ tiles v27 / 4) :
    Has (N := 768) (st_k0_t1 (F := F) 𝒱 c bd i arg1 harg1 arg2 harg2 arg3 harg3 arg4 harg4 arg5 harg5 arg6 harg6 arg7 harg7 arg8 harg8 arg9 harg9 arg10 harg10 arg11 harg11 arg12 harg12 arg0 v25 v27 k0_hw1 v29 c0_i32 c0_i32_14 v31 X_arg3 X_arg10 X_arg11 X_arg12 init n).2 (512 * n) (T8 (tiles v27) v25 x wg wu wd) := by
  induction n with
  | zero => exact Has.nil _
  | succ k ih =>
    have hk : k < (k0_t1_loop v27).trips := by rw [(p_trips v27 hv).1]; omega
    obtain ⟨o1, o2, o3⟩ := p_wide v27 hv ⟨k, hk⟩
    have hs := congrArg Prod.snd (st_k0_t1_succ (F := F) 𝒱 c bd i arg1 harg1 arg2 harg2 arg3 harg3 arg4 harg4 arg5 harg5 arg6 harg6 arg7 harg7 arg8 harg8 arg9 harg9 arg10 harg10 arg11 harg11 arg12 harg12 arg0 v25 v27 k0_hw1 v29 c0_i32 c0_i32_14 v31 X_arg3 X_arg10 X_arg11 X_arg12 init ⟨k, hk⟩)
    obtain ⟨inb, hp⟩ := piece_t1 𝒱 c bd i arg1 harg1 arg2 harg2 arg3 harg3 arg4 harg4 arg5 harg5 arg6 harg6 arg7 harg7 arg8 harg8 arg9 harg9 arg10 harg10 arg11 harg11 arg12 harg12 arg0 v25 v27 k0_hw1 v29 c0_i32 c0_i32_14 v31 X_arg3 X_arg10 X_arg11 X_arg12 ⟨k, hk⟩ (st_k0_t1 (F := F) 𝒱 c bd i arg1 harg1 arg2 harg2 arg3 harg3 arg4 harg4 arg5 harg5 arg6 harg6 arg7 harg7 arg8 harg8 arg9 harg9 arg10 harg10 arg11 harg11 arg12 harg12 arg0 v25 v27 k0_hw1 v29 c0_i32 c0_i32_14 v31 X_arg3 X_arg10 X_arg11 X_arg12 init k).1
    refine ((ih (by omega)).cons 512 o3 inb _ fun x' y h1 h2 => ?_).congr (hs.trans ((congrArg (· ++ _) hp).trans (List.singleton_append ..))) (by omega)
    unfold trip_k0_t1.sl.r
    refine Eq.trans ?_ (assemble_A (h := tiles v27) (by omega) x' y h1 h2).symm
    refine congrFun (congr (congr (congr (congrArg₂ _ ?_ ?_) ?_) ?_) ?_) x'
    · exact readAt_cut arg3.view X_arg3 hx o1 _
    · exact readAt_cut arg3.view X_arg3 hx o2 _
    · exact (View.readAt_full arg10.view X_arg10 _).trans hg
    · exact (View.readAt_full arg11.view X_arg11 _).trans hu
    · exact (View.readAt_full arg12.view X_arg12 _).trans hd

/-- What one trip stores. -/
theorem piece_t3 (v27 : Elt F .i32) (k0_hw1 : k0_chk1 v27) (v29 : BitVec 32) (c0_i32 : BitVec 32) (c0_i32_14 : BitVec 32) (v31 : BitVec 32) (k : Fin (k0_t3_loop v27).trips) (acc : BitVec 32) : ∃ inb,
    tripL_k0_t3 (F := F) 𝒱 c bd i arg1 harg1 arg2 harg2 arg3 harg3 arg4 harg4 arg5 harg5 arg6 harg6 arg7 harg7 arg8 harg8 arg9 harg9 arg10 harg10 arg11 harg11 arg12 harg12 arg0 v25 v27 k0_hw1 v29 c0_i32 c0_i32_14 v31 k acc
      = [⟨Rect.unit (s := S1x768x1024) (k0_off14 v27 k) ![1, 128, 1024] inb, k0_pay19⟩] := by
  refine ⟨?_, ?_⟩
  rotate_left
  · unfold tripL_k0_t3 trip_k0_t3
    exact rfl

/-- After the blank tiles the buffer is filled. -/
theorem has_t3 (v27 : Elt F .i32) (k0_hw1 : k0_chk1 v27) (v29 : BitVec 32) (c0_i32 : BitVec 32) (c0_i32_14 : BitVec 32) (v31 : BitVec 32) (init : BitVec 32) (hv : v27.toNat ≤ 768) {x : Vec F S1x768x1152 .bf16} {wg wu : Vec F S1024x512 .bf16} {wd : Vec F S512x1024 .bf16}
    {L : List (View.Piece (Elt F) S1x768x1024 .bf16)} (hL : Has (N := 768) L (128 * tiles v27) (T8 (tiles v27) v25 x wg wu wd)) (n : ℕ) (hn : n ≤ 6 - tiles v27) :
    Has (N := 768) ((st_k0_t3 (F := F) 𝒱 c bd i arg1 harg1 arg2 harg2 arg3 harg3 arg4 harg4 arg5 harg5 arg6 harg6 arg7 harg7 arg8 harg8 arg9 harg9 arg10 harg10 arg11 harg11 arg12 harg12 arg0 v25 v27 k0_hw1 v29 c0_i32 c0_i32_14 v31 init n).2 ++ L) (128 * (tiles v27 + n)) (T8 (tiles v27) v25 x wg wu wd) := by
  induction n with
  | zero => exact hL
  | succ k ih =>
    have hk : k < (k0_t3_loop v27).trips := by rw [(p_trips v27 hv).2.2.1]; omega
    have o3 := p_blank v27 hv ⟨k, hk⟩
    have hs := congrArg Prod.snd (st_k0_t3_succ (F := F) 𝒱 c bd i arg1 harg1 arg2 harg2 arg3 harg3 arg4 harg4 arg5 harg5 arg6 harg6 arg7 harg7 arg8 harg8 arg9 harg9 arg10 harg10 arg11 harg11 arg12 harg12 arg0 v25 v27 k0_hw1 v29 c0_i32 c0_i32_14 v31 init ⟨k, hk⟩)
    obtain ⟨inb, hp⟩ := piece_t3 𝒱 c bd i arg1 harg1 arg2 harg2 arg3 harg3 arg4 harg4 arg5 harg5 arg6 harg6 arg7 harg7 arg8 harg8 arg9 harg9 arg10 harg10 arg11 harg11 arg12 harg12 arg0 v25 v27 k0_hw1 v29 c0_i32 c0_i32_14 v31 ⟨k, hk⟩ (st_k0_t3 (F := F) 𝒱 c bd i arg1 harg1 arg2 harg2 arg3 harg3 arg4 harg4 arg5 harg5 arg6 harg6 arg7 harg7 arg8 harg8 arg9 harg9 arg10 harg10 arg11 harg11 arg12 harg12 arg0 v25 v27 k0_hw1 v29 c0_i32 c0_i32_14 v31 init k).1
    refine ((ih (by omega)).cons 128 o3 inb _ fun x' y h1 h2 => ?_).congr ((congrArg (· ++ L) (hs.trans ((congrArg (· ++ _) hp).trans (List.singleton_append ..)))).trans (List.cons_append ..)) (by omega)
    exact (assemble_Z (h := tiles v27) x' y h1 h2).symm

/-- What one trip stores. -/
theorem piece_t5 (v27 : Elt F .i32) (k0_hw1 : k0_chk1 v27) (v29 : BitVec 32) (c0_i32 : BitVec 32) (c0_i32_14 : BitVec 32) (v31 : BitVec 32) (v54 : Elt F .i32) (k0_hw2 : k0_chk2 v54) (X_arg4 : BufTy.Contents (Elt F) arg4.view.ty) (X_arg10 : BufTy.Contents (Elt F) arg10.view.ty) (X_arg11 : BufTy.Contents (Elt F) arg11.view.ty) (X_arg12 : BufTy.Contents (Elt F) arg12.view.ty) (k : Fin (k0_t5_loop v54).trips) (acc : BitVec 32) : ∃ inb,
    tripL_k0_t5 (F := F) 𝒱 c bd i arg1 harg1 arg2 harg2 arg3 harg3 arg4 harg4 arg5 harg5 arg6 harg6 arg7 harg7 arg8 harg8 arg9 harg9 arg10 harg10 arg11 harg11 arg12 harg12 arg0 v25 v27 k0_hw1 v29 c0_i32 c0_i32_14 v31 v54 k0_hw2 X_arg4 X_arg10 X_arg11 X_arg12 k acc
      = [⟨Rect.unit (s := S1x1536x1024) (k0_off19 v54 k) ![1, 512, 1024] inb, trip_k0_t5.sl.r arg4 arg10 arg11 arg12 v25 v54 k0_hw2 X_arg4 X_arg10 X_arg11 X_arg12 k⟩] := by
  refine ⟨?_, ?_⟩
  rotate_left
  · unfold tripL_k0_t5 trip_k0_t5
    exact rfl

/-- What the loop has stored after `n` trips: the rows of the first `n` tiles. -/
theorem has_t5 (v27 : Elt F .i32) (k0_hw1 : k0_chk1 v27) (v29 : BitVec 32) (c0_i32 : BitVec 32) (c0_i32_14 : BitVec 32) (v31 : BitVec 32) (v54 : Elt F .i32) (k0_hw2 : k0_chk2 v54) (X_arg4 : BufTy.Contents (Elt F) arg4.view.ty) (X_arg10 : BufTy.Contents (Elt F) arg10.view.ty) (X_arg11 : BufTy.Contents (Elt F) arg11.view.ty) (X_arg12 : BufTy.Contents (Elt F) arg12.view.ty) (init : BitVec 32) (hv : v54.toNat ≤ 1536) {x : Vec F S1x1536x1152 .bf16} {wg wu : Vec F S1024x512 .bf16} {wd : Vec F S512x1024 .bf16}
    (hx : arg4.view.read (Elt F) X_arg4 = x) (hg : arg10.view.read (Elt F) X_arg10 = wg) (hu : arg11.view.read (Elt F) X_arg11 = wu)
    (hd : arg12.view.read (Elt F) X_arg12 = wd) (n : ℕ) (hn : n ≤ tiles v54 / 4) :
    Has (N := 1536) (st_k0_t5 (F := F) 𝒱 c bd i arg1 harg1 arg2 harg2 arg3 harg3 arg4 harg4 arg5 harg5 arg6 harg6 arg7 harg7 arg8 harg8 arg9 harg9 arg10 harg10 arg11 harg11 arg12 harg12 arg0 v25 v27 k0_hw1 v29 c0_i32 c0_i32_14 v31 v54 k0_hw2 X_arg4 X_arg10 X_arg11 X_arg12 init n).2 (512 * n) (T9 (tiles v54) v25 x wg wu wd) := by
  induction n with
  | zero => exact Has.nil _
  | succ k ih =>
    have hk : k < (k0_t5_loop v54).trips := by rw [(s_trips v54 hv).1]; omega
    obtain ⟨o1, o2, o3⟩ := s_wide v54 hv ⟨k, hk⟩
    have hs := congrArg Prod.snd (st_k0_t5_succ (F := F) 𝒱 c bd i arg1 harg1 arg2 harg2 arg3 harg3 arg4 harg4 arg5 harg5 arg6 harg6 arg7 harg7 arg8 harg8 arg9 harg9 arg10 harg10 arg11 harg11 arg12 harg12 arg0 v25 v27 k0_hw1 v29 c0_i32 c0_i32_14 v31 v54 k0_hw2 X_arg4 X_arg10 X_arg11 X_arg12 init ⟨k, hk⟩)
    obtain ⟨inb, hp⟩ := piece_t5 𝒱 c bd i arg1 harg1 arg2 harg2 arg3 harg3 arg4 harg4 arg5 harg5 arg6 harg6 arg7 harg7 arg8 harg8 arg9 harg9 arg10 harg10 arg11 harg11 arg12 harg12 arg0 v25 v27 k0_hw1 v29 c0_i32 c0_i32_14 v31 v54 k0_hw2 X_arg4 X_arg10 X_arg11 X_arg12 ⟨k, hk⟩ (st_k0_t5 (F := F) 𝒱 c bd i arg1 harg1 arg2 harg2 arg3 harg3 arg4 harg4 arg5 harg5 arg6 harg6 arg7 harg7 arg8 harg8 arg9 harg9 arg10 harg10 arg11 harg11 arg12 harg12 arg0 v25 v27 k0_hw1 v29 c0_i32 c0_i32_14 v31 v54 k0_hw2 X_arg4 X_arg10 X_arg11 X_arg12 init k).1
    refine ((ih (by omega)).cons 512 o3 inb _ fun x' y h1 h2 => ?_).congr (hs.trans ((congrArg (· ++ _) hp).trans (List.singleton_append ..))) (by omega)
    unfold trip_k0_t5.sl.r
    refine Eq.trans ?_ (assemble_A (h := tiles v54) (by omega) x' y h1 h2).symm
    refine congrFun (congr (congr (congr (congrArg₂ _ ?_ ?_) ?_) ?_) ?_) x'
    · exact readAt_cut arg4.view X_arg4 hx o1 _
    · exact readAt_cut arg4.view X_arg4 hx o2 _
    · exact (View.readAt_full arg10.view X_arg10 _).trans hg
    · exact (View.readAt_full arg11.view X_arg11 _).trans hu
    · exact (View.readAt_full arg12.view X_arg12 _).trans hd

/-- What one trip stores. -/
theorem piece_t7 (v54 : Elt F .i32) (k0_hw2 : k0_chk2 v54) (k : Fin (k0_t7_loop v54).trips) (acc : BitVec 32) : ∃ inb,
    tripL_k0_t7 (F := F) 𝒱 c bd i arg1 harg1 arg2 harg2 arg3 harg3 arg4 harg4 arg5 harg5 arg6 harg6 arg7 harg7 arg8 harg8 arg9 harg9 arg10 harg10 arg11 harg11 arg12 harg12 v54 k0_hw2 k acc
      = [⟨Rect.unit (s := S1x1536x1024) (k0_off29 v54 k) ![1, 128, 1024] inb, k0_pay3⟩] := by
  refine ⟨?_, ?_⟩
  rotate_left
  · unfold tripL_k0_t7 trip_k0_t7
    exact rfl

/-- After the blank tiles the buffer is filled. -/
theorem has_t7 (v54 : Elt F .i32) (k0_hw2 : k0_chk2 v54) (init : BitVec 32) (hv : v54.toNat ≤ 1536) {x : Vec F S1x1536x1152 .bf16} {wg wu : Vec F S1024x512 .bf16} {wd : Vec F S512x1024 .bf16}
    {L : List (View.Piece (Elt F) S1x1536x1024 .bf16)} (hL : Has (N := 1536) L (128 * tiles v54) (T9 (tiles v54) v25 x wg wu wd)) (n : ℕ) (hn : n ≤ 12 - tiles v54) :
    Has (N := 1536) ((st_k0_t7 (F := F) 𝒱 c bd i arg1 harg1 arg2 harg2 arg3 harg3 arg4 harg4 arg5 harg5 arg6 harg6 arg7 harg7 arg8 harg8 arg9 harg9 arg10 harg10 arg11 harg11 arg12 harg12 v54 k0_hw2 init n).2 ++ L) (128 * (tiles v54 + n)) (T9 (tiles v54) v25 x wg wu wd) := by
  induction n with
  | zero => exact hL
  | succ k ih =>
    have hk : k < (k0_t7_loop v54).trips := by rw [(s_trips v54 hv).2.2.1]; omega
    have o3 := s_blank v54 hv ⟨k, hk⟩
    have hs := congrArg Prod.snd (st_k0_t7_succ (F := F) 𝒱 c bd i arg1 harg1 arg2 harg2 arg3 harg3 arg4 harg4 arg5 harg5 arg6 harg6 arg7 harg7 arg8 harg8 arg9 harg9 arg10 harg10 arg11 harg11 arg12 harg12 v54 k0_hw2 init ⟨k, hk⟩)
    obtain ⟨inb, hp⟩ := piece_t7 𝒱 c bd i arg1 harg1 arg2 harg2 arg3 harg3 arg4 harg4 arg5 harg5 arg6 harg6 arg7 harg7 arg8 harg8 arg9 harg9 arg10 harg10 arg11 harg11 arg12 harg12 v54 k0_hw2 ⟨k, hk⟩ (st_k0_t7 (F := F) 𝒱 c bd i arg1 harg1 arg2 harg2 arg3 harg3 arg4 harg4 arg5 harg5 arg6 harg6 arg7 harg7 arg8 harg8 arg9 harg9 arg10 harg10 arg11 harg11 arg12 harg12 v54 k0_hw2 init k).1
    refine ((ih (by omega)).cons 128 o3 inb _ fun x' y h1 h2 => ?_).congr ((congrArg (· ++ L) (hs.trans ((congrArg (· ++ _) hp).trans (List.singleton_append ..)))).trans (List.cons_append ..)) (by omega)
    exact (assemble_Z (h := tiles v54) x' y h1 h2).symm

/-- The loop over the widest tiles, and the loop after it, which makes no trip. -/
theorem base_p (v27 : Elt F .i32) (k0_hw1 : k0_chk1 v27) (v29 : BitVec 32) (c0_i32 : BitVec 32) (c0_i32_14 : BitVec 32) (v31 : BitVec 32) (v35 : BitVec 32) (X_arg3 : BufTy.Contents (Elt F) arg3.view.ty) (X_arg10 : BufTy.Contents (Elt F) arg10.view.ty) (X_arg11 : BufTy.Contents (Elt F) arg11.view.ty) (X_arg12 : BufTy.Contents (Elt F) arg12.view.ty) (init init' : BitVec 32) (hv : v27.toNat ≤ 768) {x : Vec F S1x768x1152 .bf16} {wg wu : Vec F S1024x512 .bf16} {wd : Vec F S512x1024 .bf16}
    (hx : arg3.view.read (Elt F) X_arg3 = x) (hg : arg10.view.read (Elt F) X_arg10 = wg) (hu : arg11.view.read (Elt F) X_arg11 = wu)
    (hd : arg12.view.read (Elt F) X_arg12 = wd) :
    Has (N := 768) ((st_k0_t2 (F := F) 𝒱 c bd i arg1 harg1 arg2 harg2 arg3 harg3 arg4 harg4 arg5 harg5 arg6 harg6 arg7 harg7 arg8 harg8 arg9 harg9 arg10 harg10 arg11 harg11 arg12 harg12 arg0 v25 v27 k0_hw1 v29 c0_i32 c0_i32_14 v31 v35 X_arg3 X_arg10 X_arg11 X_arg12 init' (k0_t2_loop v27).trips).2 ++ (st_k0_t1 (F := F) 𝒱 c bd i arg1 harg1 arg2 harg2 arg3 harg3 arg4 harg4 arg5 harg5 arg6 harg6 arg7 harg7 arg8 harg8 arg9 harg9 arg10 harg10 arg11 harg11 arg12 harg12 arg0 v25 v27 k0_hw1 v29 c0_i32 c0_i32_14 v31 X_arg3 X_arg10 X_arg11 X_arg12 init (k0_t1_loop v27).trips).2) (512 * (tiles v27 / 4)) (T8 (tiles v27) v25 x wg wu wd) := by
  rw [(p_trips v27 hv).1, (p_trips v27 hv).2.1]
  exact has_t1 𝒱 c bd i arg1 harg1 arg2 harg2 arg3 harg3 arg4 harg4 arg5 harg5 arg6 harg6 arg7 harg7 arg8 harg8 arg9 harg9 arg10 harg10 arg11 harg11 arg12 harg12 arg0 v25 v27 k0_hw1 v29 c0_i32 c0_i32_14 v31 X_arg3 X_arg10 X_arg11 X_arg12 init hv hx hg hu hd _ le_rfl

/-- The tile of 256 rows. -/
theorem two_p (v25 : IVec S1x128 1) (v27 : Elt F .i32) (hv : v27.toNat ≤ 768) (arg3 : Memref sig .tc .vmem S1x768x1152 .bf16) (X_arg3 : BufTy.Contents (Elt F) arg3.view.ty)
    {x : Vec F S1x768x1152 .bf16} {wg wu : Vec F S1024x512 .bf16} {wd : Vec F S512x1024 .bf16} {L : List (View.Piece (Elt F) S1x768x1024 .bf16)} (hx : arg3.view.read (Elt F) X_arg3 = x)
    (h : 2 ≤ tiles v27 % 4) (hL : Has (N := 768) L (512 * (tiles v27 / 4)) (T8 (tiles v27) v25 x wg wu wd)) (inb8 inb9 inb)
    {a b : Vec F S1024x512 .bf16} {d : Vec F S512x1024 .bf16} (ha : a = wg) (hb : b = wu) (hd : d = wd) :
    Has (N := 768) (⟨Rect.unit (s := S1x768x1024) (k0_off10 v27) ![1, 256, 1024] inb,
      k0_pay17 (k0_pay7 v25 (arg3.view.readAt (Elt F) (Rect.unit (s := S1x768x1152) (k0_off8 v27) ![1, 256, 1024] inb8).toLoadRect X_arg3)
        (arg3.view.readAt (Elt F) (Rect.unit (s := S1x768x1152) (k0_off9 v27) ![1, 256, 128] inb9).toLoadRect X_arg3) a b d)⟩ :: L) (256 * (tiles v27 / 2)) (T8 (tiles v27) v25 x wg wu wd) := by
  obtain ⟨-, e8, e9, e10⟩ := p_two v27 hv
  refine (hL.cons 256 e10 inb _ fun x' y h1 h2 => ?_).congr rfl (by omega)
  refine Eq.trans ?_ (assemble_B (h := tiles v27) h x' y h1 h2).symm
  subst ha; subst hb; subst hd
  rw [readAt_cut (N := 768) (W := 1152) arg3.view X_arg3 hx e8, readAt_cut (N := 768) (W := 1152) arg3.view X_arg3 hx e9]

theorem no_two_p (v25 : IVec S1x128 1) (v27 : Elt F .i32) {x : Vec F S1x768x1152 .bf16} {wg wu : Vec F S1024x512 .bf16} {wd : Vec F S512x1024 .bf16} {L : List (View.Piece (Elt F) S1x768x1024 .bf16)}
    (h : ¬ 2 ≤ tiles v27 % 4) (hL : Has (N := 768) L (512 * (tiles v27 / 4)) (T8 (tiles v27) v25 x wg wu wd)) : Has (N := 768) L (256 * (tiles v27 / 2)) (T8 (tiles v27) v25 x wg wu wd) :=
  hL.congr rfl (by omega)

/-- The tile of 128 rows. -/
theorem one_p (v25 : IVec S1x128 1) (v27 : Elt F .i32) (hv : v27.toNat ≤ 768) (arg3 : Memref sig .tc .vmem S1x768x1152 .bf16) (X_arg3 : BufTy.Contents (Elt F) arg3.view.ty)
    {x : Vec F S1x768x1152 .bf16} {wg wu : Vec F S1024x512 .bf16} {wd : Vec F S512x1024 .bf16} {L : List (View.Piece (Elt F) S1x768x1024 .bf16)} (hx : arg3.view.read (Elt F) X_arg3 = x)
    (h : tiles v27 % 2 = 1) (hL : Has (N := 768) L (256 * (tiles v27 / 2)) (T8 (tiles v27) v25 x wg wu wd)) (inb8 inb9 inb)
    {a b : Vec F S1024x512 .bf16} {d : Vec F S512x1024 .bf16} (ha : a = wg) (hb : b = wu) (hd : d = wd) :
    Has (N := 768) (⟨Rect.unit (s := S1x768x1024) (k0_off13 v27) ![1, 128, 1024] inb,
      k0_pay18 (k0_pay8 v25 (arg3.view.readAt (Elt F) (Rect.unit (s := S1x768x1152) (k0_off11 v27) ![1, 128, 1024] inb8).toLoadRect X_arg3)
        (arg3.view.readAt (Elt F) (Rect.unit (s := S1x768x1152) (k0_off12 v27) ![1, 128, 128] inb9).toLoadRect X_arg3) a b d)⟩ :: L) (128 * tiles v27) (T8 (tiles v27) v25 x wg wu wd) := by
  obtain ⟨e8, e9, e10⟩ := (p_one v27 hv).2 ((p_one v27 hv).1.2 h)
  refine (hL.cons 128 e10 inb _ fun x' y h1 h2 => ?_).congr rfl (by omega)
  refine Eq.trans ?_ (assemble_C (h := tiles v27) h x' y h1 h2).symm
  subst ha; subst hb; subst hd
  rw [readAt_cut (N := 768) (W := 1152) arg3.view X_arg3 hx e8, readAt_cut (N := 768) (W := 1152) arg3.view X_arg3 hx e9]

theorem no_one_p (v25 : IVec S1x128 1) (v27 : Elt F .i32) {x : Vec F S1x768x1152 .bf16} {wg wu : Vec F S1024x512 .bf16} {wd : Vec F S512x1024 .bf16} {L : List (View.Piece (Elt F) S1x768x1024 .bf16)}
    (h : ¬ tiles v27 % 2 = 1) (hL : Has (N := 768) L (256 * (tiles v27 / 2)) (T8 (tiles v27) v25 x wg wu wd)) : Has (N := 768) L (128 * tiles v27) (T8 (tiles v27) v25 x wg wu wd) :=
  hL.congr rfl (by omega)

/-- The blank tiles, and the loop after them, which makes no trip: the buffer is filled. -/
theorem full_p (v27 : Elt F .i32) (k0_hw1 : k0_chk1 v27) (v29 : BitVec 32) (c0_i32 : BitVec 32) (c0_i32_14 : BitVec 32) (v31 : BitVec 32) (init init' : BitVec 32) (hv : v27.toNat ≤ 768) {x : Vec F S1x768x1152 .bf16} {wg wu : Vec F S1024x512 .bf16} {wd : Vec F S512x1024 .bf16}
    {L : List (View.Piece (Elt F) S1x768x1024 .bf16)} (hL : Has (N := 768) L (128 * tiles v27) (T8 (tiles v27) v25 x wg wu wd)) :
    Has (N := 768) ((st_k0_t4 (F := F) 𝒱 c bd i arg1 harg1 arg2 harg2 arg3 harg3 arg4 harg4 arg5 harg5 arg6 harg6 arg7 harg7 arg8 harg8 arg9 harg9 arg10 harg10 arg11 harg11 arg12 harg12 arg0 v25 v27 k0_hw1 v29 c0_i32 c0_i32_14 v31 init' (k0_t4_loop v27).trips).2 ++ ((st_k0_t3 (F := F) 𝒱 c bd i arg1 harg1 arg2 harg2 arg3 harg3 arg4 harg4 arg5 harg5 arg6 harg6 arg7 harg7 arg8 harg8 arg9 harg9 arg10 harg10 arg11 harg11 arg12 harg12 arg0 v25 v27 k0_hw1 v29 c0_i32 c0_i32_14 v31 init (k0_t3_loop v27).trips).2 ++ L)) 768 (T8 (tiles v27) v25 x wg wu wd) := by
  rw [(p_trips v27 hv).2.2.1, (p_trips v27 hv).2.2.2]
  have ht : tiles v27 ≤ 6 := by show (v27.toNat + 127) / 128 ≤ 6; omega
  exact (has_t3 𝒱 c bd i arg1 harg1 arg2 harg2 arg3 harg3 arg4 harg4 arg5 harg5 arg6 harg6 arg7 harg7 arg8 harg8 arg9 harg9 arg10 harg10 arg11 harg11 arg12 harg12 arg0 v25 v27 k0_hw1 v29 c0_i32 c0_i32_14 v31 init hv hL _ le_rfl).congr rfl (by omega)

/-- The loop over the widest tiles, and the loop after it, which makes no trip. -/
theorem base_s (v27 : Elt F .i32) (k0_hw1 : k0_chk1 v27) (v29 : BitVec 32) (c0_i32 : BitVec 32) (c0_i32_14 : BitVec 32) (v31 : BitVec 32) (v54 : Elt F .i32) (k0_hw2 : k0_chk2 v54) (v62 : BitVec 32) (X_arg4 : BufTy.Contents (Elt F) arg4.view.ty) (X_arg10 : BufTy.Contents (Elt F) arg10.view.ty) (X_arg11 : BufTy.Contents (Elt F) arg11.view.ty) (X_arg12 : BufTy.Contents (Elt F) arg12.view.ty) (init init' : BitVec 32) (hv : v54.toNat ≤ 1536) {x : Vec F S1x1536x1152 .bf16} {wg wu : Vec F S1024x512 .bf16} {wd : Vec F S512x1024 .bf16}
    (hx : arg4.view.read (Elt F) X_arg4 = x) (hg : arg10.view.read (Elt F) X_arg10 = wg) (hu : arg11.view.read (Elt F) X_arg11 = wu)
    (hd : arg12.view.read (Elt F) X_arg12 = wd) :
    Has (N := 1536) ((st_k0_t6 (F := F) 𝒱 c bd i arg1 harg1 arg2 harg2 arg3 harg3 arg4 harg4 arg5 harg5 arg6 harg6 arg7 harg7 arg8 harg8 arg9 harg9 arg10 harg10 arg11 harg11 arg12 harg12 arg0 v25 v27 k0_hw1 v29 c0_i32 c0_i32_14 v31 v54 k0_hw2 v62 X_arg4 X_arg10 X_arg11 X_arg12 init' (k0_t6_loop v54).trips).2 ++ (st_k0_t5 (F := F) 𝒱 c bd i arg1 harg1 arg2 harg2 arg3 harg3 arg4 harg4 arg5 harg5 arg6 harg6 arg7 harg7 arg8 harg8 arg9 harg9 arg10 harg10 arg11 harg11 arg12 harg12 arg0 v25 v27 k0_hw1 v29 c0_i32 c0_i32_14 v31 v54 k0_hw2 X_arg4 X_arg10 X_arg11 X_arg12 init (k0_t5_loop v54).trips).2) (512 * (tiles v54 / 4)) (T9 (tiles v54) v25 x wg wu wd) := by
  rw [(s_trips v54 hv).1, (s_trips v54 hv).2.1]
  exact has_t5 𝒱 c bd i arg1 harg1 arg2 harg2 arg3 harg3 arg4 harg4 arg5 harg5 arg6 harg6 arg7 harg7 arg8 harg8 arg9 harg9 arg10 harg10 arg11 harg11 arg12 harg12 arg0 v25 v27 k0_hw1 v29 c0_i32 c0_i32_14 v31 v54 k0_hw2 X_arg4 X_arg10 X_arg11 X_arg12 init hv hx hg hu hd _ le_rfl

/-- The tile of 256 rows. -/
theorem two_s (v25 : IVec S1x128 1) (v54 : Elt F .i32) (hv : v54.toNat ≤ 1536) (arg4 : Memref sig .tc .vmem S1x1536x1152 .bf16) (X_arg4 : BufTy.Contents (Elt F) arg4.view.ty)
    {x : Vec F S1x1536x1152 .bf16} {wg wu : Vec F S1024x512 .bf16} {wd : Vec F S512x1024 .bf16} {L : List (View.Piece (Elt F) S1x1536x1024 .bf16)} (hx : arg4.view.read (Elt F) X_arg4 = x)
    (h : 2 ≤ tiles v54 % 4) (hL : Has (N := 1536) L (512 * (tiles v54 / 4)) (T9 (tiles v54) v25 x wg wu wd)) (inb8 inb9 inb)
    {a b : Vec F S1024x512 .bf16} {d : Vec F S512x1024 .bf16} (ha : a = wg) (hb : b = wu) (hd : d = wd) :
    Has (N := 1536) (⟨Rect.unit (s := S1x1536x1024) (k0_off25 v54) ![1, 256, 1024] inb,
      k0_pay1 (k0_pay11 v25 (arg4.view.readAt (Elt F) (Rect.unit (s := S1x1536x1152) (k0_off23 v54) ![1, 256, 1024] inb8).toLoadRect X_arg4)
        (arg4.view.readAt (Elt F) (Rect.unit (s := S1x1536x1152) (k0_off24 v54) ![1, 256, 128] inb9).toLoadRect X_arg4) a b d)⟩ :: L) (256 * (tiles v54 / 2)) (T9 (tiles v54) v25 x wg wu wd) := by
  obtain ⟨-, e8, e9, e10⟩ := s_two v54 hv
  refine (hL.cons 256 e10 inb _ fun x' y h1 h2 => ?_).congr rfl (by omega)
  refine Eq.trans ?_ (assemble_B (h := tiles v54) h x' y h1 h2).symm
  subst ha; subst hb; subst hd
  rw [readAt_cut (N := 1536) (W := 1152) arg4.view X_arg4 hx e8, readAt_cut (N := 1536) (W := 1152) arg4.view X_arg4 hx e9]

theorem no_two_s (v25 : IVec S1x128 1) (v54 : Elt F .i32) {x : Vec F S1x1536x1152 .bf16} {wg wu : Vec F S1024x512 .bf16} {wd : Vec F S512x1024 .bf16} {L : List (View.Piece (Elt F) S1x1536x1024 .bf16)}
    (h : ¬ 2 ≤ tiles v54 % 4) (hL : Has (N := 1536) L (512 * (tiles v54 / 4)) (T9 (tiles v54) v25 x wg wu wd)) : Has (N := 1536) L (256 * (tiles v54 / 2)) (T9 (tiles v54) v25 x wg wu wd) :=
  hL.congr rfl (by omega)

/-- The tile of 128 rows. -/
theorem one_s (v25 : IVec S1x128 1) (v54 : Elt F .i32) (hv : v54.toNat ≤ 1536) (arg4 : Memref sig .tc .vmem S1x1536x1152 .bf16) (X_arg4 : BufTy.Contents (Elt F) arg4.view.ty)
    {x : Vec F S1x1536x1152 .bf16} {wg wu : Vec F S1024x512 .bf16} {wd : Vec F S512x1024 .bf16} {L : List (View.Piece (Elt F) S1x1536x1024 .bf16)} (hx : arg4.view.read (Elt F) X_arg4 = x)
    (h : tiles v54 % 2 = 1) (hL : Has (N := 1536) L (256 * (tiles v54 / 2)) (T9 (tiles v54) v25 x wg wu wd)) (inb8 inb9 inb)
    {a b : Vec F S1024x512 .bf16} {d : Vec F S512x1024 .bf16} (ha : a = wg) (hb : b = wu) (hd : d = wd) :
    Has (N := 1536) (⟨Rect.unit (s := S1x1536x1024) (k0_off28 v54) ![1, 128, 1024] inb,
      k0_pay2 (k0_pay12 v25 (arg4.view.readAt (Elt F) (Rect.unit (s := S1x1536x1152) (k0_off26 v54) ![1, 128, 1024] inb8).toLoadRect X_arg4)
        (arg4.view.readAt (Elt F) (Rect.unit (s := S1x1536x1152) (k0_off27 v54) ![1, 128, 128] inb9).toLoadRect X_arg4) a b d)⟩ :: L) (128 * tiles v54) (T9 (tiles v54) v25 x wg wu wd) := by
  obtain ⟨e8, e9, e10⟩ := (s_one v54 hv).2 ((s_one v54 hv).1.2 h)
  refine (hL.cons 128 e10 inb _ fun x' y h1 h2 => ?_).congr rfl (by omega)
  refine Eq.trans ?_ (assemble_C (h := tiles v54) h x' y h1 h2).symm
  subst ha; subst hb; subst hd
  rw [readAt_cut (N := 1536) (W := 1152) arg4.view X_arg4 hx e8, readAt_cut (N := 1536) (W := 1152) arg4.view X_arg4 hx e9]

theorem no_one_s (v25 : IVec S1x128 1) (v54 : Elt F .i32) {x : Vec F S1x1536x1152 .bf16} {wg wu : Vec F S1024x512 .bf16} {wd : Vec F S512x1024 .bf16} {L : List (View.Piece (Elt F) S1x1536x1024 .bf16)}
    (h : ¬ tiles v54 % 2 = 1) (hL : Has (N := 1536) L (256 * (tiles v54 / 2)) (T9 (tiles v54) v25 x wg wu wd)) : Has (N := 1536) L (128 * tiles v54) (T9 (tiles v54) v25 x wg wu wd) :=
  hL.congr rfl (by omega)

/-- The blank tiles, and the loop after them, which makes no trip: the buffer is filled. -/
theorem full_s (v54 : Elt F .i32) (k0_hw2 : k0_chk2 v54) (init init' : BitVec 32) (hv : v54.toNat ≤ 1536) {x : Vec F S1x1536x1152 .bf16} {wg wu : Vec F S1024x512 .bf16} {wd : Vec F S512x1024 .bf16}
    {L : List (View.Piece (Elt F) S1x1536x1024 .bf16)} (hL : Has (N := 1536) L (128 * tiles v54) (T9 (tiles v54) v25 x wg wu wd)) :
    Has (N := 1536) ((st_k0_t8 (F := F) 𝒱 c bd i arg1 harg1 arg2 harg2 arg3 harg3 arg4 harg4 arg5 harg5 arg6 harg6 arg7 harg7 arg8 harg8 arg9 harg9 arg10 harg10 arg11 harg11 arg12 harg12 v54 k0_hw2 init' (k0_t8_loop v54).trips).2 ++ ((st_k0_t7 (F := F) 𝒱 c bd i arg1 harg1 arg2 harg2 arg3 harg3 arg4 harg4 arg5 harg5 arg6 harg6 arg7 harg7 arg8 harg8 arg9 harg9 arg10 harg10 arg11 harg11 arg12 harg12 v54 k0_hw2 init (k0_t7_loop v54).trips).2 ++ L)) 1536 (T9 (tiles v54) v25 x wg wu wd) := by
  rw [(s_trips v54 hv).2.2.1, (s_trips v54 hv).2.2.2]
  have ht : tiles v54 ≤ 12 := by show (v54.toNat + 127) / 128 ≤ 12; omega
  exact (has_t7 𝒱 c bd i arg1 harg1 arg2 harg2 arg3 harg3 arg4 harg4 arg5 harg5 arg6 harg6 arg7 harg7 arg8 harg8 arg9 harg9 arg10 harg10 arg11 harg11 arg12 harg12 v25 v54 k0_hw2 init hv hL _ le_rfl).congr rfl (by omega)

end Cert.Proof.Ffn

end
-- ==== Proof.Ffn.BodyNN.lean ====
/-
  One grid point of the feed-forward call: what the body leaves in its two output blocks, neither of the narrower prompt tiles being taken.
-/
module

public import proofs.«01_k».proof.Proof.Ffn.Lists

@[expose] public section

set_option maxRecDepth 16384

noncomputable section

namespace Cert.Proof.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
theorem run_NNNN (c : Dev nD) (i : grid0.Coords) (arg3 : Memref sig .tc .vmem S1x768x1152 .bf16) (harg3 : arg3.IsWhole) (arg4 : Memref sig .tc .vmem S1x1536x1152 .bf16) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S1x768x1024 .bf16) (harg8 : arg8.IsWhole) (arg9 : Memref sig .tc .vmem S1x1536x1024 .bf16) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S512x1024 .bf16) (harg12 : arg12.IsWhole)
    (x0 : Vec F S1x768x1152 .bf16) (x1 : Vec F S1x1536x1152 .bf16) (x2 : Vec F S1x1024x512 .f32) (x3 : Vec F S1x1024x512 .f32) (x4 : Vec F S1x512x1024 .f32) (xt0 : TbBuf0 (F := F) c tbM0_0) (xt1 : TbBuf0 (F := F) c tbM0_1)
    (hs0 : AtMost (tbM0_0.view.readAt (Elt F) (Rect.unit (s := S16x17) (k0_off1 i) S1x1.size (k0_off1_inb i)).toLoadRect xt0 (Shape.Idx.first (numel1_S1x1.symm ▸ Nat.one_pos))) 768) (hs1 : AtMost (tbM0_1.view.readAt (Elt F) (Rect.unit (s := S16x33) (k0_off16 i) S1x1.size (k0_off16_inb i)).toLoadRect xt1 (Shape.Idx.first (numel1_S1x1.symm ▸ Nat.one_pos))) 1536)
    (hc0 : ¬cond0_0 i (tbM0_0.view.readAt (Elt F) (Rect.unit (s := S16x17) (k0_off1 i) S1x1.size (k0_off1_inb i)).toLoadRect xt0 (Shape.Idx.first (numel1_S1x1.symm ▸ Nat.one_pos)))) (hc1 : ¬cond0_1 i (tbM0_0.view.readAt (Elt F) (Rect.unit (s := S16x17) (k0_off1 i) S1x1.size (k0_off1_inb i)).toLoadRect xt0 (Shape.Idx.first (numel1_S1x1.symm ▸ Nat.one_pos)))) (hc2 : ¬cond0_2 i (tbM0_1.view.readAt (Elt F) (Rect.unit (s := S16x33) (k0_off16 i) S1x1.size (k0_off16_inb i)).toLoadRect xt1 (Shape.Idx.first (numel1_S1x1.symm ▸ Nat.one_pos)))) (hc3 : ¬cond0_3 i (tbM0_1.view.readAt (Elt F) (Rect.unit (s := S16x33) (k0_off16 i) S1x1.size (k0_off16_inb i)).toLoadRect xt1 (Shape.Idx.first (numel1_S1x1.symm ▸ Nat.one_pos)))) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (T8 (tiles (tbM0_0.view.readAt (Elt F) (Rect.unit (s := S16x17) (k0_off1 i) S1x1.size (k0_off1_inb i)).toLoadRect xt0 (Shape.Idx.first (numel1_S1x1.symm ▸ Nat.one_pos)))) (k0_pay16 i) x0 (k0_pay13 x2) (k0_pay14 x3) (k0_pay15 x4)) ∗ owns (c : Thread nD τ) arg9 fullShare (T9 (tiles (tbM0_1.view.readAt (Elt F) (Rect.unit (s := S16x33) (k0_off16 i) S1x1.size (k0_off16_inb i)).toLoadRect xt1 (Shape.Idx.first (numel1_S1x1.symm ▸ Nat.one_pos)))) (k0_pay16 i) x1 (k0_pay13 x2) (k0_pay14 x3) (k0_pay15 x4)) ∗ (∃ d, owns (c : Thread nD τ) arg10 fullShare d) ∗ (∃ d, owns (c : Thread nD τ) arg11 fullShare d) ∗ (∃ d, owns (c : Thread nD τ) arg12 fullShare d) ∗ tbPt0 c tbM0_0 xt0 ∗ tbPt0 c tbM0_1 xt1) -∗ K ⟨⟩))
          ⊢ wp frame (wpE (defs₀ (F := F)) Variants.none c none) E (cc0_ffn i tbM0_0 htbM0_0 tbM0_1 htbM0_1 arg3 harg3 arg4 harg4 arg5 harg5 arg6 harg6 arg7 harg7 arg8 harg8 arg9 harg9 arg10 harg10 arg11 harg11 arg12 harg12) K := by
    intro E K
    have k0_hw1 : k0_chk1 (tbM0_0.view.readAt (Elt F) (Rect.unit (s := S16x17) (k0_off1 i) S1x1.size (k0_off1_inb i)).toLoadRect xt0 (Shape.Idx.first (numel1_S1x1.symm ▸ Nat.one_pos))) := p_chk _ hs0.le
    have k0_hw2 : k0_chk2 (tbM0_1.view.readAt (Elt F) (Rect.unit (s := S16x33) (k0_off16 i) S1x1.size (k0_off16_inb i)).toLoadRect xt1 (Shape.Idx.first (numel1_S1x1.symm ▸ Nat.one_pos))) := s_chk _ hs1.le
    simp only [cc0_ffn_eq_skeleton]; unfold cc0_ffn_skel
    simp only [k0_part9_eq_skeleton, k0_part10_eq_skeleton, k0_part3_eq_skeleton, k0_part4_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%ds1, %fs1, -, HS1⟩, ⟨%ds2, %fs2, -, HS2⟩, HT0, HT1, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact hc0 | sl_exact hc1 | sl_exact hc2 | sl_exact hc3 | sl_exact k0_hw1 | sl_exact k0_hw2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; swap; · iexact H5
      ipureintro
      have hv0 := hs0.le
      refine Has.read ?_ _ _
      refine (full_p (hv := hv0) (hL := ?_) ..)
      refine no_one_p _ _ (fun h => hc1 (((p_one _ hv0).1).2 h)) ?_
      refine no_two_p _ _ (fun h => hc0 (((p_two _ hv0).1).2 h)) ?_
      refine base_p (hv := hv0) (hx := harg3.read_unread _) (hg := ?_) (hu := ?_) (hd := ?_) ..
      · exact (View.read_writes_full arg10.view _ _ _ _).trans (congrArg k0_pay13 ((View.readAt_full arg5.view _ _).trans (harg5.read_unread _)))
      · exact (View.read_writes_full arg11.view _ _ _ _).trans (congrArg k0_pay14 ((View.readAt_full arg6.view _ _).trans (harg6.read_unread _)))
      · exact (View.read_writes_full arg12.view _ _ _ _).trans (congrArg k0_pay15 ((View.readAt_full arg7.view _ _).trans (harg7.read_unread _)))
    isplitl [H6]
    · iexists _; isplitr; swap; · iexact H6
      ipureintro
      have hv1 := hs1.le
      refine Has.read ?_ _ _
      refine (full_s (hv := hv1) (hL := ?_) ..)
      refine no_one_s _ _ (fun h => hc3 (((s_one _ hv1).1).2 h)) ?_
      refine no_two_s _ _ (fun h => hc2 (((s_two _ hv1).1).2 h)) ?_
      refine base_s (hv := hv1) (hx := harg4.read_unread _) (hg := ?_) (hu := ?_) (hd := ?_) ..
      · exact (View.read_writes_full arg10.view _ _ _ _).trans (congrArg k0_pay13 ((View.readAt_full arg5.view _ _).trans (harg5.read_unread _)))
      · exact (View.read_writes_full arg11.view _ _ _ _).trans (congrArg k0_pay14 ((View.readAt_full arg6.view _ _).trans (harg6.read_unread _)))
      · exact (View.read_writes_full arg12.view _ _ _ _).trans (congrArg k0_pay15 ((View.readAt_full arg7.view _ _).trans (harg7.read_unread _)))
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HT0]; · iexact HT0
    iexact HT1

set_option maxHeartbeats 4000000 in
theorem run_NNNY (c : Dev nD) (i : grid0.Coords) (arg3 : Memref sig .tc .vmem S1x768x1152 .bf16) (harg3 : arg3.IsWhole) (arg4 : Memref sig .tc .vmem S1x1536x1152 .bf16) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S1x768x1024 .bf16) (harg8 : arg8.IsWhole) (arg9 : Memref sig .tc .vmem S1x1536x1024 .bf16) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S512x1024 .bf16) (harg12 : arg12.IsWhole)
    (x0 : Vec F S1x768x1152 .bf16) (x1 : Vec F S1x1536x1152 .bf16) (x2 : Vec F S1x1024x512 .f32) (x3 : Vec F S1x1024x512 .f32) (x4 : Vec F S1x512x1024 .f32) (xt0 : TbBuf0 (F := F) c tbM0_0) (xt1 : TbBuf0 (F := F) c tbM0_1)
    (hs0 : AtMost (tbM0_0.view.readAt (Elt F) (Rect.unit (s := S16x17) (k0_off1 i) S1x1.size (k0_off1_inb i)).toLoadRect xt0 (Shape.Idx.first (numel1_S1x1.symm ▸ Nat.one_pos))) 768) (hs1 : AtMost (tbM0_1.view.readAt (Elt F) (Rect.unit (s := S16x33) (k0_off16 i) S1x1.size (k0_off16_inb i)).toLoadRect xt1 (Shape.Idx.first (numel1_S1x1.symm ▸ Nat.one_pos))) 1536)
    (hc0 : ¬cond0_0 i (tbM0_0.view.readAt (Elt F) (Rect.unit (s := S16x17) (k0_off1 i) S1x1.size (k0_off1_inb i)).toLoadRect xt0 (Shape.Idx.first (numel1_S1x1.symm ▸ Nat.one_pos)))) (hc1 : ¬cond0_1 i (tbM0_0.view.readAt (Elt F) (Rect.unit (s := S16x17) (k0_off1 i) S1x1.size (k0_off1_inb i)).toLoadRect xt0 (Shape.Idx.first (numel1_S1x1.symm ▸ Nat.one_pos)))) (hc2 : ¬cond0_2 i (tbM0_1.view.readAt (Elt F) (Rect.unit (s := S16x33) (k0_off16 i) S1x1.size (k0_off16_inb i)).toLoadRect xt1 (Shape.Idx.first (numel1_S1x1.symm ▸ Nat.one_pos)))) (hc3 : cond0_3 i (tbM0_1.view.readAt (Elt F) (Rect.unit (s := S16x33) (k0_off16 i) S1x1.size (k0_off16_inb i)).toLoadRect xt1 (Shape.Idx.first (numel1_S1x1.symm ▸ Nat.one_pos)))) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (T8 (tiles (tbM0_0.view.readAt (Elt F) (Rect.unit (s := S16x17) (k0_off1 i) S1x1.size (k0_off1_inb i)).toLoadRect xt0 (Shape.Idx.first (numel1_S1x1.symm ▸ Nat.one_pos)))) (k0_pay16 i) x0 (k0_pay13 x2) (k0_pay14 x3) (k0_pay15 x4)) ∗ owns (c : Thread nD τ) arg9 fullShare (T9 (tiles (tbM0_1.view.readAt (Elt F) (Rect.unit (s := S16x33) (k0_off16 i) S1x1.size (k0_off16_inb i)).toLoadRect xt1 (Shape.Idx.first (numel1_S1x1.symm ▸ Nat.one_pos)))) (k0_pay16 i) x1 (k0_pay13 x2) (k0_pay14 x3) (k0_pay15 x4)) ∗ (∃ d, owns (c : Thread nD τ) arg10 fullShare d) ∗ (∃ d, owns (c : Thread nD τ) arg11 fullShare d) ∗ (∃ d, owns (c : Thread nD τ) arg12 fullShare d) ∗ tbPt0 c tbM0_0 xt0 ∗ tbPt0 c tbM0_1 xt1) -∗ K ⟨⟩))
          ⊢ wp frame (wpE (defs₀ (F := F)) Variants.none c none) E (cc0_ffn i tbM0_0 htbM0_0 tbM0_1 htbM0_1 arg3 harg3 arg4 harg4 arg5 harg5 arg6 harg6 arg7 harg7 arg8 harg8 arg9 harg9 arg10 harg10 arg11 harg11 arg12 harg12) K := by
    intro E K
    have k0_hw1 : k0_chk1 (tbM0_0.view.readAt (Elt F) (Rect.unit (s := S16x17) (k0_off1 i) S1x1.size (k0_off1_inb i)).toLoadRect xt0 (Shape.Idx.first (numel1_S1x1.symm ▸ Nat.one_pos))) := p_chk _ hs0.le
    have k0_hw2 : k0_chk2 (tbM0_1.view.readAt (Elt F) (Rect.unit (s := S16x33) (k0_off16 i) S1x1.size (k0_off16_inb i)).toLoadRect xt1 (Shape.Idx.first (numel1_S1x1.symm ▸ Nat.one_pos))) := s_chk _ hs1.le
    simp only [cc0_ffn_eq_skeleton]; unfold cc0_ffn_skel
    simp only [k0_part9_eq_skeleton, k0_part10_eq_skeleton, k0_part3_eq_skeleton, k0_part4_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%ds1, %fs1, -, HS1⟩, ⟨%ds2, %fs2, -, HS2⟩, HT0, HT1, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact hc0 | sl_exact hc1 | sl_exact hc2 | sl_exact hc3 | sl_exact k0_hw1 | sl_exact k0_hw2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; swap; · iexact H5
      ipureintro
      have hv0 := hs0.le
      refine Has.read ?_ _ _
      refine (full_p (hv := hv0) (hL := ?_) ..)
      refine no_one_p _ _ (fun h => hc1 (((p_one _ hv0).1).2 h)) ?_
      refine no_two_p _ _ (fun h => hc0 (((p_two _ hv0).1).2 h)) ?_
      refine base_p (hv := hv0) (hx := harg3.read_unread _) (hg := ?_) (hu := ?_) (hd := ?_) ..
      · exact (View.read_writes_full arg10.view _ _ _ _).trans (congrArg k0_pay13 ((View.readAt_full arg5.view _ _).trans (harg5.read_unread _)))
      · exact (View.read_writes_full arg11.view _ _ _ _).trans (congrArg k0_pay14 ((View.readAt_full arg6.view _ _).trans (harg6.read_unread _)))
      · exact (View.read_writes_full arg12.view _ _ _ _).trans (congrArg k0_pay15 ((View.readAt_full arg7.view _ _).trans (harg7.read_unread _)))
    isplitl [H6]
    · iexists _; isplitr; swap; · iexact H6
      ipureintro
      have hv1 := hs1.le
      refine Has.read ?_ _ _
      refine (full_s (hv := hv1) (hL := ?_) ..)
      refine one_s _ _ hv1 arg4 _ (hx := harg4.read_unread _) (h := ((s_one _ hv1).1).1 hc3) (hL := ?_) _ _ _ (ha := ?_) (hb := ?_) (hd := ?_)
      rotate_left
      · exact (View.readCov_full arg10.view _ _ _ _).trans (congrArg k0_pay13 ((View.readAt_full arg5.view _ _).trans (harg5.read_unread _)))
      · exact (View.readCov_full arg11.view _ _ _ _).trans (congrArg k0_pay14 ((View.readAt_full arg6.view _ _).trans (harg6.read_unread _)))
      · exact (View.readCov_full arg12.view _ _ _ _).trans (congrArg k0_pay15 ((View.readAt_full arg7.view _ _).trans (harg7.read_unread _)))
      refine no_two_s _ _ (fun h => hc2 (((s_two _ hv1).1).2 h)) ?_
      refine base_s (hv := hv1) (hx := harg4.read_unread _) (hg := ?_) (hu := ?_) (hd := ?_) ..
      · exact (View.read_writes_full arg10.view _ _ _ _).trans (congrArg k0_pay13 ((View.readAt_full arg5.view _ _).trans (harg5.read_unread _)))
      · exact (View.read_writes_full arg11.view _ _ _ _).trans (congrArg k0_pay14 ((View.readAt_full arg6.view _ _).trans (harg6.read_unread _)))
      · exact (View.read_writes_full arg12.view _ _ _ _).trans (congrArg k0_pay15 ((View.readAt_full arg7.view _ _).trans (harg7.read_unread _)))
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HT0]; · iexact HT0
    iexact HT1

set_option maxHeartbeats 4000000 in
theorem run_NNYN (c : Dev nD) (i : grid0.Coords) (arg3 : Memref sig .tc .vmem S1x768x1152 .bf16) (harg3 : arg3.IsWhole) (arg4 : Memref sig .tc .vmem S1x1536x1152 .bf16) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S1x768x1024 .bf16) (harg8 : arg8.IsWhole) (arg9 : Memref sig .tc .vmem S1x1536x1024 .bf16) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S512x1024 .bf16) (harg12 : arg12.IsWhole)
    (x0 : Vec F S1x768x1152 .bf16) (x1 : Vec F S1x1536x1152 .bf16) (x2 : Vec F S1x1024x512 .f32) (x3 : Vec F S1x1024x512 .f32) (x4 : Vec F S1x512x1024 .f32) (xt0 : TbBuf0 (F := F) c tbM0_0) (xt1 : TbBuf0 (F := F) c tbM0_1)
    (hs0 : AtMost (tbM0_0.view.readAt (Elt F) (Rect.unit (s := S16x17) (k0_off1 i) S1x1.size (k0_off1_inb i)).toLoadRect xt0 (Shape.Idx.first (numel1_S1x1.symm ▸ Nat.one_pos))) 768) (hs1 : AtMost (tbM0_1.view.readAt (Elt F) (Rect.unit (s := S16x33) (k0_off16 i) S1x1.size (k0_off16_inb i)).toLoadRect xt1 (Shape.Idx.first (numel1_S1x1.symm ▸ Nat.one_pos))) 1536)
    (hc0 : ¬cond0_0 i (tbM0_0.view.readAt (Elt F) (Rect.unit (s := S16x17) (k0_off1 i) S1x1.size (k0_off1_inb i)).toLoadRect xt0 (Shape.Idx.first (numel1_S1x1.symm ▸ Nat.one_pos)))) (hc1 : ¬cond0_1 i (tbM0_0.view.readAt (Elt F) (Rect.unit (s := S16x17) (k0_off1 i) S1x1.size (k0_off1_inb i)).toLoadRect xt0 (Shape.Idx.first (numel1_S1x1.symm ▸ Nat.one_pos)))) (hc2 : cond0_2 i (tbM0_1.view.readAt (Elt F) (Rect.unit (s := S16x33) (k0_off16 i) S1x1.size (k0_off16_inb i)).toLoadRect xt1 (Shape.Idx.first (numel1_S1x1.symm ▸ Nat.one_pos)))) (hc3 : ¬cond0_3 i (tbM0_1.view.readAt (Elt F) (Rect.unit (s := S16x33) (k0_off16 i) S1x1.size (k0_off16_inb i)).toLoadRect xt1 (Shape.Idx.first (numel1_S1x1.symm ▸ Nat.one_pos)))) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (T8 (tiles (tbM0_0.view.readAt (Elt F) (Rect.unit (s := S16x17) (k0_off1 i) S1x1.size (k0_off1_inb i)).toLoadRect xt0 (Shape.Idx.first (numel1_S1x1.symm ▸ Nat.one_pos)))) (k0_pay16 i) x0 (k0_pay13 x2) (k0_pay14 x3) (k0_pay15 x4)) ∗ owns (c : Thread nD τ) arg9 fullShare (T9 (tiles (tbM0_1.view.readAt (Elt F) (Rect.unit (s := S16x33) (k0_off16 i) S1x1.size (k0_off16_inb i)).toLoadRect xt1 (Shape.Idx.first (numel1_S1x1.symm ▸ Nat.one_pos)))) (k0_pay16 i) x1 (k0_pay13 x2) (k0_pay14 x3) (k0_pay15 x4)) ∗ (∃ d, owns (c : Thread nD τ) arg10 fullShare d) ∗ (∃ d, owns (c : Thread nD τ) arg11 fullShare d) ∗ (∃ d, owns (c : Thread nD τ) arg12 fullShare d) ∗ tbPt0 c tbM0_0 xt0 ∗ tbPt0 c tbM0_1 xt1) -∗ K ⟨⟩))
          ⊢ wp frame (wpE (defs₀ (F := F)) Variants.none c none) E (cc0_ffn i tbM0_0 htbM0_0 tbM0_1 htbM0_1 arg3 harg3 arg4 harg4 arg5 harg5 arg6 harg6 arg7 harg7 arg8 harg8 arg9 harg9 arg10 harg10 arg11 harg11 arg12 harg12) K := by
    intro E K
    have k0_hw1 : k0_chk1 (tbM0_0.view.readAt (Elt F) (Rect.unit (s := S16x17) (k0_off1 i) S1x1.size (k0_off1_inb i)).toLoadRect xt0 (Shape.Idx.first (numel1_S1x1.symm ▸ Nat.one_pos))) := p_chk _ hs0.le
    have k0_hw2 : k0_chk2 (tbM0_1.view.readAt (Elt F) (Rect.unit (s := S16x33) (k0_off16 i) S1x1.size (k0_off16_inb i)).toLoadRect xt1 (Shape.Idx.first (numel1_S1x1.symm ▸ Nat.one_pos))) := s_chk _ hs1.le
    simp only [cc0_ffn_eq_skeleton]; unfold cc0_ffn_skel
    simp only [k0_part9_eq_skeleton, k0_part10_eq_skeleton, k0_part3_eq_skeleton, k0_part4_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%ds1, %fs1, -, HS1⟩, ⟨%ds2, %fs2, -, HS2⟩, HT0, HT1, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact hc0 | sl_exact hc1 | sl_exact hc2 | sl_exact hc3 | sl_exact k0_hw1 | sl_exact k0_hw2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; swap; · iexact H5
      ipureintro
      have hv0 := hs0.le
      refine Has.read ?_ _ _
      refine (full_p (hv := hv0) (hL := ?_) ..)
      refine no_one_p _ _ (fun h => hc1 (((p_one _ hv0).1).2 h)) ?_
      refine no_two_p _ _ (fun h => hc0 (((p_two _ hv0).1).2 h)) ?_
      refine base_p (hv := hv0) (hx := harg3.read_unread _) (hg := ?_) (hu := ?_) (hd := ?_) ..
      · exact (View.read_writes_full arg10.view _ _ _ _).trans (congrArg k0_pay13 ((View.readAt_full arg5.view _ _).trans (harg5.read_unread _)))
      · exact (View.read_writes_full arg11.view _ _ _ _).trans (congrArg k0_pay14 ((View.readAt_full arg6.view _ _).trans (harg6.read_unread _)))
      · exact (View.read_writes_full arg12.view _ _ _ _).trans (congrArg k0_pay15 ((View.readAt_full arg7.view _ _).trans (harg7.read_unread _)))
    isplitl [H6]
    · iexists _; isplitr; swap; · iexact H6
      ipureintro
      have hv1 := hs1.le
      refine Has.read ?_ _ _
      refine (full_s (hv := hv1) (hL := ?_) ..)
      refine no_one_s _ _ (fun h => hc3 (((s_one _ hv1).1).2 h)) ?_
      refine two_s _ _ hv1 arg4 _ (hx := harg4.read_unread _) (h := ((s_two _ hv1).1).1 hc2) (hL := ?_) _ _ _ (ha := ?_) (hb := ?_) (hd := ?_)
      rotate_left
      · exact (View.readCov_full arg10.view _ _ _ _).trans (congrArg k0_pay13 ((View.readAt_full arg5.view _ _).trans (harg5.read_unread _)))
      · exact (View.readCov_full arg11.view _ _ _ _).trans (congrArg k0_pay14 ((View.readAt_full arg6.view _ _).trans (harg6.read_unread _)))
      · exact (View.readCov_full arg12.view _ _ _ _).trans (congrArg k0_pay15 ((View.readAt_full arg7.view _ _).trans (harg7.read_unread _)))
      refine base_s (hv := hv1) (hx := harg4.read_unread _) (hg := ?_) (hu := ?_) (hd := ?_) ..
      · exact (View.read_writes_full arg10.view _ _ _ _).trans (congrArg k0_pay13 ((View.readAt_full arg5.view _ _).trans (harg5.read_unread _)))
      · exact (View.read_writes_full arg11.view _ _ _ _).trans (congrArg k0_pay14 ((View.readAt_full arg6.view _ _).trans (harg6.read_unread _)))
      · exact (View.read_writes_full arg12.view _ _ _ _).trans (congrArg k0_pay15 ((View.readAt_full arg7.view _ _).trans (harg7.read_unread _)))
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HT0]; · iexact HT0
    iexact HT1

set_option maxHeartbeats 4000000 in
theorem run_NNYY (c : Dev nD) (i : grid0.Coords) (arg3 : Memref sig .tc .vmem S1x768x1152 .bf16) (harg3 : arg3.IsWhole) (arg4 : Memref sig .tc .vmem S1x1536x1152 .bf16) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S1x768x1024 .bf16) (harg8 : arg8.IsWhole) (arg9 : Memref sig .tc .vmem S1x1536x1024 .bf16) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S512x1024 .bf16) (harg12 : arg12.IsWhole)
    (x0 : Vec F S1x768x1152 .bf16) (x1 : Vec F S1x1536x1152 .bf16) (x2 : Vec F S1x1024x512 .f32) (x3 : Vec F S1x1024x512 .f32) (x4 : Vec F S1x512x1024 .f32) (xt0 : TbBuf0 (F := F) c tbM0_0) (xt1 : TbBuf0 (F := F) c tbM0_1)
    (hs0 : AtMost (tbM0_0.view.readAt (Elt F) (Rect.unit (s := S16x17) (k0_off1 i) S1x1.size (k0_off1_inb i)).toLoadRect xt0 (Shape.Idx.first (numel1_S1x1.symm ▸ Nat.one_pos))) 768) (hs1 : AtMost (tbM0_1.view.readAt (Elt F) (Rect.unit (s := S16x33) (k0_off16 i) S1x1.size (k0_off16_inb i)).toLoadRect xt1 (Shape.Idx.first (numel1_S1x1.symm ▸ Nat.one_pos))) 1536)
    (hc0 : ¬cond0_0 i (tbM0_0.view.readAt (Elt F) (Rect.unit (s := S16x17) (k0_off1 i) S1x1.size (k0_off1_inb i)).toLoadRect xt0 (Shape.Idx.first (numel1_S1x1.symm ▸ Nat.one_pos)))) (hc1 : ¬cond0_1 i (tbM0_0.view.readAt (Elt F) (Rect.unit (s := S16x17) (k0_off1 i) S1x1.size (k0_off1_inb i)).toLoadRect xt0 (Shape.Idx.first (numel1_S1x1.symm ▸ Nat.one_pos)))) (hc2 : cond0_2 i (tbM0_1.view.readAt (Elt F) (Rect.unit (s := S16x33) (k0_off16 i) S1x1.size (k0_off16_inb i)).toLoadRect xt1 (Shape.Idx.first (numel1_S1x1.symm ▸ Nat.one_pos)))) (hc3 : cond0_3 i (tbM0_1.view.readAt (Elt F) (Rect.unit (s := S16x33) (k0_off16 i) S1x1.size (k0_off16_inb i)).toLoadRect xt1 (Shape.Idx.first (numel1_S1x1.symm ▸ Nat.one_pos)))) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (T8 (tiles (tbM0_0.view.readAt (Elt F) (Rect.unit (s := S16x17) (k0_off1 i) S1x1.size (k0_off1_inb i)).toLoadRect xt0 (Shape.Idx.first (numel1_S1x1.symm ▸ Nat.one_pos)))) (k0_pay16 i) x0 (k0_pay13 x2) (k0_pay14 x3) (k0_pay15 x4)) ∗ owns (c : Thread nD τ) arg9 fullShare (T9 (tiles (tbM0_1.view.readAt (Elt F) (Rect.unit (s := S16x33) (k0_off16 i) S1x1.size (k0_off16_inb i)).toLoadRect xt1 (Shape.Idx.first (numel1_S1x1.symm ▸ Nat.one_pos)))) (k0_pay16 i) x1 (k0_pay13 x2) (k0_pay14 x3) (k0_pay15 x4)) ∗ (∃ d, owns (c : Thread nD τ) arg10 fullShare d) ∗ (∃ d, owns (c : Thread nD τ) arg11 fullShare d) ∗ (∃ d, owns (c : Thread nD τ) arg12 fullShare d) ∗ tbPt0 c tbM0_0 xt0 ∗ tbPt0 c tbM0_1 xt1) -∗ K ⟨⟩))
          ⊢ wp frame (wpE (defs₀ (F := F)) Variants.none c none) E (cc0_ffn i tbM0_0 htbM0_0 tbM0_1 htbM0_1 arg3 harg3 arg4 harg4 arg5 harg5 arg6 harg6 arg7 harg7 arg8 harg8 arg9 harg9 arg10 harg10 arg11 harg11 arg12 harg12) K := by
    intro E K
    have k0_hw1 : k0_chk1 (tbM0_0.view.readAt (Elt F) (Rect.unit (s := S16x17) (k0_off1 i) S1x1.size (k0_off1_inb i)).toLoadRect xt0 (Shape.Idx.first (numel1_S1x1.symm ▸ Nat.one_pos))) := p_chk _ hs0.le
    have k0_hw2 : k0_chk2 (tbM0_1.view.readAt (Elt F) (Rect.unit (s := S16x33) (k0_off16 i) S1x1.size (k0_off16_inb i)).toLoadRect xt1 (Shape.Idx.first (numel1_S1x1.symm ▸ Nat.one_pos))) := s_chk _ hs1.le
    simp only [cc0_ffn_eq_skeleton]; unfold cc0_ffn_skel
    simp only [k0_part9_eq_skeleton, k0_part10_eq_skeleton, k0_part3_eq_skeleton, k0_part4_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%ds1, %fs1, -, HS1⟩, ⟨%ds2, %fs2, -, HS2⟩, HT0, HT1, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact hc0 | sl_exact hc1 | sl_exact hc2 | sl_exact hc3 | sl_exact k0_hw1 | sl_exact k0_hw2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; swap; · iexact H5
      ipureintro
      have hv0 := hs0.le
      refine Has.read ?_ _ _
      refine (full_p (hv := hv0) (hL := ?_) ..)
      refine no_one_p _ _ (fun h => hc1 (((p_one _ hv0).1).2 h)) ?_
      refine no_two_p _ _ (fun h => hc0 (((p_two _ hv0).1).2 h)) ?_
      refine base_p (hv := hv0) (hx := harg3.read_unread _) (hg := ?_) (hu := ?_) (hd := ?_) ..
      · exact (View.read_writes_full arg10.view _ _ _ _).trans (congrArg k0_pay13 ((View.readAt_full arg5.view _ _).trans (harg5.read_unread _)))
      · exact (View.read_writes_full arg11.view _ _ _ _).trans (congrArg k0_pay14 ((View.readAt_full arg6.view _ _).trans (harg6.read_unread _)))
      · exact (View.read_writes_full arg12.view _ _ _ _).trans (congrArg k0_pay15 ((View.readAt_full arg7.view _ _).trans (harg7.read_unread _)))
    isplitl [H6]
    · iexists _; isplitr; swap; · iexact H6
      ipureintro
      have hv1 := hs1.le
      refine Has.read ?_ _ _
      refine (full_s (hv := hv1) (hL := ?_) ..)
      refine one_s _ _ hv1 arg4 _ (hx := harg4.read_unread _) (h := ((s_one _ hv1).1).1 hc3) (hL := ?_) _ _ _ (ha := ?_) (hb := ?_) (hd := ?_)
      rotate_left
      · exact (View.readCov_full arg10.view _ _ _ _).trans (congrArg k0_pay13 ((View.readAt_full arg5.view _ _).trans (harg5.read_unread _)))
      · exact (View.readCov_full arg11.view _ _ _ _).trans (congrArg k0_pay14 ((View.readAt_full arg6.view _ _).trans (harg6.read_unread _)))
      · exact (View.readCov_full arg12.view _ _ _ _).trans (congrArg k0_pay15 ((View.readAt_full arg7.view _ _).trans (harg7.read_unread _)))
      refine two_s _ _ hv1 arg4 _ (hx := harg4.read_unread _) (h := ((s_two _ hv1).1).1 hc2) (hL := ?_) _ _ _ (ha := ?_) (hb := ?_) (hd := ?_)
      rotate_left
      · exact (View.readCov_full arg10.view _ _ _ _).trans (congrArg k0_pay13 ((View.readAt_full arg5.view _ _).trans (harg5.read_unread _)))
      · exact (View.readCov_full arg11.view _ _ _ _).trans (congrArg k0_pay14 ((View.readAt_full arg6.view _ _).trans (harg6.read_unread _)))
      · exact (View.readCov_full arg12.view _ _ _ _).trans (congrArg k0_pay15 ((View.readAt_full arg7.view _ _).trans (harg7.read_unread _)))
      refine base_s (hv := hv1) (hx := harg4.read_unread _) (hg := ?_) (hu := ?_) (hd := ?_) ..
      · exact (View.read_writes_full arg10.view _ _ _ _).trans (congrArg k0_pay13 ((View.readAt_full arg5.view _ _).trans (harg5.read_unread _)))
      · exact (View.read_writes_full arg11.view _ _ _ _).trans (congrArg k0_pay14 ((View.readAt_full arg6.view _ _).trans (harg6.read_unread _)))
      · exact (View.read_writes_full arg12.view _ _ _ _).trans (congrArg k0_pay15 ((View.readAt_full arg7.view _ _).trans (harg7.read_unread _)))
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HT0]; · iexact HT0
    iexact HT1

end Cert.Proof.Ffn

end
-- ==== Proof.Ffn.BodyNY.lean ====
/-
  One grid point of the feed-forward call: what the body leaves in its two output blocks, the prompt tile of 128 rows being taken and that of 256 not.
-/
module

public import proofs.«01_k».proof.Proof.Ffn.Lists

@[expose] public section

set_option maxRecDepth 16384

noncomputable section

namespace Cert.Proof.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
theorem run_NYNN (c : Dev nD) (i : grid0.Coords) (arg3 : Memref sig .tc .vmem S1x768x1152 .bf16) (harg3 : arg3.IsWhole) (arg4 : Memref sig .tc .vmem S1x1536x1152 .bf16) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S1x768x1024 .bf16) (harg8 : arg8.IsWhole) (arg9 : Memref sig .tc .vmem S1x1536x1024 .bf16) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S512x1024 .bf16) (harg12 : arg12.IsWhole)
    (x0 : Vec F S1x768x1152 .bf16) (x1 : Vec F S1x1536x1152 .bf16) (x2 : Vec F S1x1024x512 .f32) (x3 : Vec F S1x1024x512 .f32) (x4 : Vec F S1x512x1024 .f32) (xt0 : TbBuf0 (F := F) c tbM0_0) (xt1 : TbBuf0 (F := F) c tbM0_1)
    (hs0 : AtMost (tbM0_0.view.readAt (Elt F) (Rect.unit (s := S16x17) (k0_off1 i) S1x1.size (k0_off1_inb i)).toLoadRect xt0 (Shape.Idx.first (numel1_S1x1.symm ▸ Nat.one_pos))) 768) (hs1 : AtMost (tbM0_1.view.readAt (Elt F) (Rect.unit (s := S16x33) (k0_off16 i) S1x1.size (k0_off16_inb i)).toLoadRect xt1 (Shape.Idx.first (numel1_S1x1.symm ▸ Nat.one_pos))) 1536)
    (hc0 : ¬cond0_0 i (tbM0_0.view.readAt (Elt F) (Rect.unit (s := S16x17) (k0_off1 i) S1x1.size (k0_off1_inb i)).toLoadRect xt0 (Shape.Idx.first (numel1_S1x1.symm ▸ Nat.one_pos)))) (hc1 : cond0_1 i (tbM0_0.view.readAt (Elt F) (Rect.unit (s := S16x17) (k0_off1 i) S1x1.size (k0_off1_inb i)).toLoadRect xt0 (Shape.Idx.first (numel1_S1x1.symm ▸ Nat.one_pos)))) (hc2 : ¬cond0_2 i (tbM0_1.view.readAt (Elt F) (Rect.unit (s := S16x33) (k0_off16 i) S1x1.size (k0_off16_inb i)).toLoadRect xt1 (Shape.Idx.first (numel1_S1x1.symm ▸ Nat.one_pos)))) (hc3 : ¬cond0_3 i (tbM0_1.view.readAt (Elt F) (Rect.unit (s := S16x33) (k0_off16 i) S1x1.size (k0_off16_inb i)).toLoadRect xt1 (Shape.Idx.first (numel1_S1x1.symm ▸ Nat.one_pos)))) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (T8 (tiles (tbM0_0.view.readAt (Elt F) (Rect.unit (s := S16x17) (k0_off1 i) S1x1.size (k0_off1_inb i)).toLoadRect xt0 (Shape.Idx.first (numel1_S1x1.symm ▸ Nat.one_pos)))) (k0_pay16 i) x0 (k0_pay13 x2) (k0_pay14 x3) (k0_pay15 x4)) ∗ owns (c : Thread nD τ) arg9 fullShare (T9 (tiles (tbM0_1.view.readAt (Elt F) (Rect.unit (s := S16x33) (k0_off16 i) S1x1.size (k0_off16_inb i)).toLoadRect xt1 (Shape.Idx.first (numel1_S1x1.symm ▸ Nat.one_pos)))) (k0_pay16 i) x1 (k0_pay13 x2) (k0_pay14 x3) (k0_pay15 x4)) ∗ (∃ d, owns (c : Thread nD τ) arg10 fullShare d) ∗ (∃ d, owns (c : Thread nD τ) arg11 fullShare d) ∗ (∃ d, owns (c : Thread nD τ) arg12 fullShare d) ∗ tbPt0 c tbM0_0 xt0 ∗ tbPt0 c tbM0_1 xt1) -∗ K ⟨⟩))
          ⊢ wp frame (wpE (defs₀ (F := F)) Variants.none c none) E (cc0_ffn i tbM0_0 htbM0_0 tbM0_1 htbM0_1 arg3 harg3 arg4 harg4 arg5 harg5 arg6 harg6 arg7 harg7 arg8 harg8 arg9 harg9 arg10 harg10 arg11 harg11 arg12 harg12) K := by
    intro E K
    have k0_hw1 : k0_chk1 (tbM0_0.view.readAt (Elt F) (Rect.unit (s := S16x17) (k0_off1 i) S1x1.size (k0_off1_inb i)).toLoadRect xt0 (Shape.Idx.first (numel1_S1x1.symm ▸ Nat.one_pos))) := p_chk _ hs0.le
    have k0_hw2 : k0_chk2 (tbM0_1.view.readAt (Elt F) (Rect.unit (s := S16x33) (k0_off16 i) S1x1.size (k0_off16_inb i)).toLoadRect xt1 (Shape.Idx.first (numel1_S1x1.symm ▸ Nat.one_pos))) := s_chk _ hs1.le
    simp only [cc0_ffn_eq_skeleton]; unfold cc0_ffn_skel
    simp only [k0_part9_eq_skeleton, k0_part10_eq_skeleton, k0_part3_eq_skeleton, k0_part4_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%ds1, %fs1, -, HS1⟩, ⟨%ds2, %fs2, -, HS2⟩, HT0, HT1, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact hc0 | sl_exact hc1 | sl_exact hc2 | sl_exact hc3 | sl_exact k0_hw1 | sl_exact k0_hw2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; swap; · iexact H5
      ipureintro
      have hv0 := hs0.le
      refine Has.read ?_ _ _
      refine (full_p (hv := hv0) (hL := ?_) ..)
      refine one_p _ _ hv0 arg3 _ (hx := harg3.read_unread _) (h := ((p_one _ hv0).1).1 hc1) (hL := ?_) _ _ _ (ha := ?_) (hb := ?_) (hd := ?_)
      rotate_left
      · exact (View.readCov_full arg10.view _ _ _ _).trans (congrArg k0_pay13 ((View.readAt_full arg5.view _ _).trans (harg5.read_unread _)))
      · exact (View.readCov_full arg11.view _ _ _ _).trans (congrArg k0_pay14 ((View.readAt_full arg6.view _ _).trans (harg6.read_unread _)))
      · exact (View.readCov_full arg12.view _ _ _ _).trans (congrArg k0_pay15 ((View.readAt_full arg7.view _ _).trans (harg7.read_unread _)))
      refine no_two_p _ _ (fun h => hc0 (((p_two _ hv0).1).2 h)) ?_
      refine base_p (hv := hv0) (hx := harg3.read_unread _) (hg := ?_) (hu := ?_) (hd := ?_) ..
      · exact (View.read_writes_full arg10.view _ _ _ _).trans (congrArg k0_pay13 ((View.readAt_full arg5.view _ _).trans (harg5.read_unread _)))
      · exact (View.read_writes_full arg11.view _ _ _ _).trans (congrArg k0_pay14 ((View.readAt_full arg6.view _ _).trans (harg6.read_unread _)))
      · exact (View.read_writes_full arg12.view _ _ _ _).trans (congrArg k0_pay15 ((View.readAt_full arg7.view _ _).trans (harg7.read_unread _)))
    isplitl [H6]
    · iexists _; isplitr; swap; · iexact H6
      ipureintro
      have hv1 := hs1.le
      refine Has.read ?_ _ _
      refine (full_s (hv := hv1) (hL := ?_) ..)
      refine no_one_s _ _ (fun h => hc3 (((s_one _ hv1).1).2 h)) ?_
      refine no_two_s _ _ (fun h => hc2 (((s_two _ hv1).1).2 h)) ?_
      refine base_s (hv := hv1) (hx := harg4.read_unread _) (hg := ?_) (hu := ?_) (hd := ?_) ..
      · exact (View.read_writes_full arg10.view _ _ _ _).trans (congrArg k0_pay13 ((View.readAt_full arg5.view _ _).trans (harg5.read_unread _)))
      · exact (View.read_writes_full arg11.view _ _ _ _).trans (congrArg k0_pay14 ((View.readAt_full arg6.view _ _).trans (harg6.read_unread _)))
      · exact (View.read_writes_full arg12.view _ _ _ _).trans (congrArg k0_pay15 ((View.readAt_full arg7.view _ _).trans (harg7.read_unread _)))
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HT0]; · iexact HT0
    iexact HT1

set_option maxHeartbeats 4000000 in
theorem run_NYNY (c : Dev nD) (i : grid0.Coords) (arg3 : Memref sig .tc .vmem S1x768x1152 .bf16) (harg3 : arg3.IsWhole) (arg4 : Memref sig .tc .vmem S1x1536x1152 .bf16) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S1x768x1024 .bf16) (harg8 : arg8.IsWhole) (arg9 : Memref sig .tc .vmem S1x1536x1024 .bf16) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S512x1024 .bf16) (harg12 : arg12.IsWhole)
    (x0 : Vec F S1x768x1152 .bf16) (x1 : Vec F S1x1536x1152 .bf16) (x2 : Vec F S1x1024x512 .f32) (x3 : Vec F S1x1024x512 .f32) (x4 : Vec F S1x512x1024 .f32) (xt0 : TbBuf0 (F := F) c tbM0_0) (xt1 : TbBuf0 (F := F) c tbM0_1)
    (hs0 : AtMost (tbM0_0.view.readAt (Elt F) (Rect.unit (s := S16x17) (k0_off1 i) S1x1.size (k0_off1_inb i)).toLoadRect xt0 (Shape.Idx.first (numel1_S1x1.symm ▸ Nat.one_pos))) 768) (hs1 : AtMost (tbM0_1.view.readAt (Elt F) (Rect.unit (s := S16x33) (k0_off16 i) S1x1.size (k0_off16_inb i)).toLoadRect xt1 (Shape.Idx.first (numel1_S1x1.symm ▸ Nat.one_pos))) 1536)
    (hc0 : ¬cond0_0 i (tbM0_0.view.readAt (Elt F) (Rect.unit (s := S16x17) (k0_off1 i) S1x1.size (k0_off1_inb i)).toLoadRect xt0 (Shape.Idx.first (numel1_S1x1.symm ▸ Nat.one_pos)))) (hc1 : cond0_1 i (tbM0_0.view.readAt (Elt F) (Rect.unit (s := S16x17) (k0_off1 i) S1x1.size (k0_off1_inb i)).toLoadRect xt0 (Shape.Idx.first (numel1_S1x1.symm ▸ Nat.one_pos)))) (hc2 : ¬cond0_2 i (tbM0_1.view.readAt (Elt F) (Rect.unit (s := S16x33) (k0_off16 i) S1x1.size (k0_off16_inb i)).toLoadRect xt1 (Shape.Idx.first (numel1_S1x1.symm ▸ Nat.one_pos)))) (hc3 : cond0_3 i (tbM0_1.view.readAt (Elt F) (Rect.unit (s := S16x33) (k0_off16 i) S1x1.size (k0_off16_inb i)).toLoadRect xt1 (Shape.Idx.first (numel1_S1x1.symm ▸ Nat.one_pos)))) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (T8 (tiles (tbM0_0.view.readAt (Elt F) (Rect.unit (s := S16x17) (k0_off1 i) S1x1.size (k0_off1_inb i)).toLoadRect xt0 (Shape.Idx.first (numel1_S1x1.symm ▸ Nat.one_pos)))) (k0_pay16 i) x0 (k0_pay13 x2) (k0_pay14 x3) (k0_pay15 x4)) ∗ owns (c : Thread nD τ) arg9 fullShare (T9 (tiles (tbM0_1.view.readAt (Elt F) (Rect.unit (s := S16x33) (k0_off16 i) S1x1.size (k0_off16_inb i)).toLoadRect xt1 (Shape.Idx.first (numel1_S1x1.symm ▸ Nat.one_pos)))) (k0_pay16 i) x1 (k0_pay13 x2) (k0_pay14 x3) (k0_pay15 x4)) ∗ (∃ d, owns (c : Thread nD τ) arg10 fullShare d) ∗ (∃ d, owns (c : Thread nD τ) arg11 fullShare d) ∗ (∃ d, owns (c : Thread nD τ) arg12 fullShare d) ∗ tbPt0 c tbM0_0 xt0 ∗ tbPt0 c tbM0_1 xt1) -∗ K ⟨⟩))
          ⊢ wp frame (wpE (defs₀ (F := F)) Variants.none c none) E (cc0_ffn i tbM0_0 htbM0_0 tbM0_1 htbM0_1 arg3 harg3 arg4 harg4 arg5 harg5 arg6 harg6 arg7 harg7 arg8 harg8 arg9 harg9 arg10 harg10 arg11 harg11 arg12 harg12) K := by
    intro E K
    have k0_hw1 : k0_chk1 (tbM0_0.view.readAt (Elt F) (Rect.unit (s := S16x17) (k0_off1 i) S1x1.size (k0_off1_inb i)).toLoadRect xt0 (Shape.Idx.first (numel1_S1x1.symm ▸ Nat.one_pos))) := p_chk _ hs0.le
    have k0_hw2 : k0_chk2 (tbM0_1.view.readAt (Elt F) (Rect.unit (s := S16x33) (k0_off16 i) S1x1.size (k0_off16_inb i)).toLoadRect xt1 (Shape.Idx.first (numel1_S1x1.symm ▸ Nat.one_pos))) := s_chk _ hs1.le
    simp only [cc0_ffn_eq_skeleton]; unfold cc0_ffn_skel
    simp only [k0_part9_eq_skeleton, k0_part10_eq_skeleton, k0_part3_eq_skeleton, k0_part4_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%ds1, %fs1, -, HS1⟩, ⟨%ds2, %fs2, -, HS2⟩, HT0, HT1, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact hc0 | sl_exact hc1 | sl_exact hc2 | sl_exact hc3 | sl_exact k0_hw1 | sl_exact k0_hw2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; swap; · iexact H5
      ipureintro
      have hv0 := hs0.le
      refine Has.read ?_ _ _
      refine (full_p (hv := hv0) (hL := ?_) ..)
      refine one_p _ _ hv0 arg3 _ (hx := harg3.read_unread _) (h := ((p_one _ hv0).1).1 hc1) (hL := ?_) _ _ _ (ha := ?_) (hb := ?_) (hd := ?_)
      rotate_left
      · exact (View.readCov_full arg10.view _ _ _ _).trans (congrArg k0_pay13 ((View.readAt_full arg5.view _ _).trans (harg5.read_unread _)))
      · exact (View.readCov_full arg11.view _ _ _ _).trans (congrArg k0_pay14 ((View.readAt_full arg6.view _ _).trans (harg6.read_unread _)))
      · exact (View.readCov_full arg12.view _ _ _ _).trans (congrArg k0_pay15 ((View.readAt_full arg7.view _ _).trans (harg7.read_unread _)))
      refine no_two_p _ _ (fun h => hc0 (((p_two _ hv0).1).2 h)) ?_
      refine base_p (hv := hv0) (hx := harg3.read_unread _) (hg := ?_) (hu := ?_) (hd := ?_) ..
      · exact (View.read_writes_full arg10.view _ _ _ _).trans (congrArg k0_pay13 ((View.readAt_full arg5.view _ _).trans (harg5.read_unread _)))
      · exact (View.read_writes_full arg11.view _ _ _ _).trans (congrArg k0_pay14 ((View.readAt_full arg6.view _ _).trans (harg6.read_unread _)))
      · exact (View.read_writes_full arg12.view _ _ _ _).trans (congrArg k0_pay15 ((View.readAt_full arg7.view _ _).trans (harg7.read_unread _)))
    isplitl [H6]
    · iexists _; isplitr; swap; · iexact H6
      ipureintro
      have hv1 := hs1.le
      refine Has.read ?_ _ _
      refine (full_s (hv := hv1) (hL := ?_) ..)
      refine one_s _ _ hv1 arg4 _ (hx := harg4.read_unread _) (h := ((s_one _ hv1).1).1 hc3) (hL := ?_) _ _ _ (ha := ?_) (hb := ?_) (hd := ?_)
      rotate_left
      · exact (View.readCov_full arg10.view _ _ _ _).trans (congrArg k0_pay13 ((View.readAt_full arg5.view _ _).trans (harg5.read_unread _)))
      · exact (View.readCov_full arg11.view _ _ _ _).trans (congrArg k0_pay14 ((View.readAt_full arg6.view _ _).trans (harg6.read_unread _)))
      · exact (View.readCov_full arg12.view _ _ _ _).trans (congrArg k0_pay15 ((View.readAt_full arg7.view _ _).trans (harg7.read_unread _)))
      refine no_two_s _ _ (fun h => hc2 (((s_two _ hv1).1).2 h)) ?_
      refine base_s (hv := hv1) (hx := harg4.read_unread _) (hg := ?_) (hu := ?_) (hd := ?_) ..
      · exact (View.read_writes_full arg10.view _ _ _ _).trans (congrArg k0_pay13 ((View.readAt_full arg5.view _ _).trans (harg5.read_unread _)))
      · exact (View.read_writes_full arg11.view _ _ _ _).trans (congrArg k0_pay14 ((View.readAt_full arg6.view _ _).trans (harg6.read_unread _)))
      · exact (View.read_writes_full arg12.view _ _ _ _).trans (congrArg k0_pay15 ((View.readAt_full arg7.view _ _).trans (harg7.read_unread _)))
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HT0]; · iexact HT0
    iexact HT1

set_option maxHeartbeats 4000000 in
theorem run_NYYN (c : Dev nD) (i : grid0.Coords) (arg3 : Memref sig .tc .vmem S1x768x1152 .bf16) (harg3 : arg3.IsWhole) (arg4 : Memref sig .tc .vmem S1x1536x1152 .bf16) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S1x768x1024 .bf16) (harg8 : arg8.IsWhole) (arg9 : Memref sig .tc .vmem S1x1536x1024 .bf16) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S512x1024 .bf16) (harg12 : arg12.IsWhole)
    (x0 : Vec F S1x768x1152 .bf16) (x1 : Vec F S1x1536x1152 .bf16) (x2 : Vec F S1x1024x512 .f32) (x3 : Vec F S1x1024x512 .f32) (x4 : Vec F S1x512x1024 .f32) (xt0 : TbBuf0 (F := F) c tbM0_0) (xt1 : TbBuf0 (F := F) c tbM0_1)
    (hs0 : AtMost (tbM0_0.view.readAt (Elt F) (Rect.unit (s := S16x17) (k0_off1 i) S1x1.size (k0_off1_inb i)).toLoadRect xt0 (Shape.Idx.first (numel1_S1x1.symm ▸ Nat.one_pos))) 768) (hs1 : AtMost (tbM0_1.view.readAt (Elt F) (Rect.unit (s := S16x33) (k0_off16 i) S1x1.size (k0_off16_inb i)).toLoadRect xt1 (Shape.Idx.first (numel1_S1x1.symm ▸ Nat.one_pos))) 1536)
    (hc0 : ¬cond0_0 i (tbM0_0.view.readAt (Elt F) (Rect.unit (s := S16x17) (k0_off1 i) S1x1.size (k0_off1_inb i)).toLoadRect xt0 (Shape.Idx.first (numel1_S1x1.symm ▸ Nat.one_pos)))) (hc1 : cond0_1 i (tbM0_0.view.readAt (Elt F) (Rect.unit (s := S16x17) (k0_off1 i) S1x1.size (k0_off1_inb i)).toLoadRect xt0 (Shape.Idx.first (numel1_S1x1.symm ▸ Nat.one_pos)))) (hc2 : cond0_2 i (tbM0_1.view.readAt (Elt F) (Rect.unit (s := S16x33) (k0_off16 i) S1x1.size (k0_off16_inb i)).toLoadRect xt1 (Shape.Idx.first (numel1_S1x1.symm ▸ Nat.one_pos)))) (hc3 : ¬cond0_3 i (tbM0_1.view.readAt (Elt F) (Rect.unit (s := S16x33) (k0_off16 i) S1x1.size (k0_off16_inb i)).toLoadRect xt1 (Shape.Idx.first (numel1_S1x1.symm ▸ Nat.one_pos)))) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (T8 (tiles (tbM0_0.view.readAt (Elt F) (Rect.unit (s := S16x17) (k0_off1 i) S1x1.size (k0_off1_inb i)).toLoadRect xt0 (Shape.Idx.first (numel1_S1x1.symm ▸ Nat.one_pos)))) (k0_pay16 i) x0 (k0_pay13 x2) (k0_pay14 x3) (k0_pay15 x4)) ∗ owns (c : Thread nD τ) arg9 fullShare (T9 (tiles (tbM0_1.view.readAt (Elt F) (Rect.unit (s := S16x33) (k0_off16 i) S1x1.size (k0_off16_inb i)).toLoadRect xt1 (Shape.Idx.first (numel1_S1x1.symm ▸ Nat.one_pos)))) (k0_pay16 i) x1 (k0_pay13 x2) (k0_pay14 x3) (k0_pay15 x4)) ∗ (∃ d, owns (c : Thread nD τ) arg10 fullShare d) ∗ (∃ d, owns (c : Thread nD τ) arg11 fullShare d) ∗ (∃ d, owns (c : Thread nD τ) arg12 fullShare d) ∗ tbPt0 c tbM0_0 xt0 ∗ tbPt0 c tbM0_1 xt1) -∗ K ⟨⟩))
          ⊢ wp frame (wpE (defs₀ (F := F)) Variants.none c none) E (cc0_ffn i tbM0_0 htbM0_0 tbM0_1 htbM0_1 arg3 harg3 arg4 harg4 arg5 harg5 arg6 harg6 arg7 harg7 arg8 harg8 arg9 harg9 arg10 harg10 arg11 harg11 arg12 harg12) K := by
    intro E K
    have k0_hw1 : k0_chk1 (tbM0_0.view.readAt (Elt F) (Rect.unit (s := S16x17) (k0_off1 i) S1x1.size (k0_off1_inb i)).toLoadRect xt0 (Shape.Idx.first (numel1_S1x1.symm ▸ Nat.one_pos))) := p_chk _ hs0.le
    have k0_hw2 : k0_chk2 (tbM0_1.view.readAt (Elt F) (Rect.unit (s := S16x33) (k0_off16 i) S1x1.size (k0_off16_inb i)).toLoadRect xt1 (Shape.Idx.first (numel1_S1x1.symm ▸ Nat.one_pos))) := s_chk _ hs1.le
    simp only [cc0_ffn_eq_skeleton]; unfold cc0_ffn_skel
    simp only [k0_part9_eq_skeleton, k0_part10_eq_skeleton, k0_part3_eq_skeleton, k0_part4_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%ds1, %fs1, -, HS1⟩, ⟨%ds2, %fs2, -, HS2⟩, HT0, HT1, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact hc0 | sl_exact hc1 | sl_exact hc2 | sl_exact hc3 | sl_exact k0_hw1 | sl_exact k0_hw2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; swap; · iexact H5
      ipureintro
      have hv0 := hs0.le
      refine Has.read ?_ _ _
      refine (full_p (hv := hv0) (hL := ?_) ..)
      refine one_p _ _ hv0 arg3 _ (hx := harg3.read_unread _) (h := ((p_one _ hv0).1).1 hc1) (hL := ?_) _ _ _ (ha := ?_) (hb := ?_) (hd := ?_)
      rotate_left
      · exact (View.readCov_full arg10.view _ _ _ _).trans (congrArg k0_pay13 ((View.readAt_full arg5.view _ _).trans (harg5.read_unread _)))
      · exact (View.readCov_full arg11.view _ _ _ _).trans (congrArg k0_pay14 ((View.readAt_full arg6.view _ _).trans (harg6.read_unread _)))
      · exact (View.readCov_full arg12.view _ _ _ _).trans (congrArg k0_pay15 ((View.readAt_full arg7.view _ _).trans (harg7.read_unread _)))
      refine no_two_p _ _ (fun h => hc0 (((p_two _ hv0).1).2 h)) ?_
      refine base_p (hv := hv0) (hx := harg3.read_unread _) (hg := ?_) (hu := ?_) (hd := ?_) ..
      · exact (View.read_writes_full arg10.view _ _ _ _).trans (congrArg k0_pay13 ((View.readAt_full arg5.view _ _).trans (harg5.read_unread _)))
      · exact (View.read_writes_full arg11.view _ _ _ _).trans (congrArg k0_pay14 ((View.readAt_full arg6.view _ _).trans (harg6.read_unread _)))
      · exact (View.read_writes_full arg12.view _ _ _ _).trans (congrArg k0_pay15 ((View.readAt_full arg7.view _ _).trans (harg7.read_unread _)))
    isplitl [H6]
    · iexists _; isplitr; swap; · iexact H6
      ipureintro
      have hv1 := hs1.le
      refine Has.read ?_ _ _
      refine (full_s (hv := hv1) (hL := ?_) ..)
      refine no_one_s _ _ (fun h => hc3 (((s_one _ hv1).1).2 h)) ?_
      refine two_s _ _ hv1 arg4 _ (hx := harg4.read_unread _) (h := ((s_two _ hv1).1).1 hc2) (hL := ?_) _ _ _ (ha := ?_) (hb := ?_) (hd := ?_)
      rotate_left
      · exact (View.readCov_full arg10.view _ _ _ _).trans (congrArg k0_pay13 ((View.readAt_full arg5.view _ _).trans (harg5.read_unread _)))
      · exact (View.readCov_full arg11.view _ _ _ _).trans (congrArg k0_pay14 ((View.readAt_full arg6.view _ _).trans (harg6.read_unread _)))
      · exact (View.readCov_full arg12.view _ _ _ _).trans (congrArg k0_pay15 ((View.readAt_full arg7.view _ _).trans (harg7.read_unread _)))
      refine base_s (hv := hv1) (hx := harg4.read_unread _) (hg := ?_) (hu := ?_) (hd := ?_) ..
      · exact (View.read_writes_full arg10.view _ _ _ _).trans (congrArg k0_pay13 ((View.readAt_full arg5.view _ _).trans (harg5.read_unread _)))
      · exact (View.read_writes_full arg11.view _ _ _ _).trans (congrArg k0_pay14 ((View.readAt_full arg6.view _ _).trans (harg6.read_unread _)))
      · exact (View.read_writes_full arg12.view _ _ _ _).trans (congrArg k0_pay15 ((View.readAt_full arg7.view _ _).trans (harg7.read_unread _)))
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HT0]; · iexact HT0
    iexact HT1

set_option maxHeartbeats 4000000 in
theorem run_NYYY (c : Dev nD) (i : grid0.Coords) (arg3 : Memref sig .tc .vmem S1x768x1152 .bf16) (harg3 : arg3.IsWhole) (arg4 : Memref sig .tc .vmem S1x1536x1152 .bf16) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S1x768x1024 .bf16) (harg8 : arg8.IsWhole) (arg9 : Memref sig .tc .vmem S1x1536x1024 .bf16) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S512x1024 .bf16) (harg12 : arg12.IsWhole)
    (x0 : Vec F S1x768x1152 .bf16) (x1 : Vec F S1x1536x1152 .bf16) (x2 : Vec F S1x1024x512 .f32) (x3 : Vec F S1x1024x512 .f32) (x4 : Vec F S1x512x1024 .f32) (xt0 : TbBuf0 (F := F) c tbM0_0) (xt1 : TbBuf0 (F := F) c tbM0_1)
    (hs0 : AtMost (tbM0_0.view.readAt (Elt F) (Rect.unit (s := S16x17) (k0_off1 i) S1x1.size (k0_off1_inb i)).toLoadRect xt0 (Shape.Idx.first (numel1_S1x1.symm ▸ Nat.one_pos))) 768) (hs1 : AtMost (tbM0_1.view.readAt (Elt F) (Rect.unit (s := S16x33) (k0_off16 i) S1x1.size (k0_off16_inb i)).toLoadRect xt1 (Shape.Idx.first (numel1_S1x1.symm ▸ Nat.one_pos))) 1536)
    (hc0 : ¬cond0_0 i (tbM0_0.view.readAt (Elt F) (Rect.unit (s := S16x17) (k0_off1 i) S1x1.size (k0_off1_inb i)).toLoadRect xt0 (Shape.Idx.first (numel1_S1x1.symm ▸ Nat.one_pos)))) (hc1 : cond0_1 i (tbM0_0.view.readAt (Elt F) (Rect.unit (s := S16x17) (k0_off1 i) S1x1.size (k0_off1_inb i)).toLoadRect xt0 (Shape.Idx.first (numel1_S1x1.symm ▸ Nat.one_pos)))) (hc2 : cond0_2 i (tbM0_1.view.readAt (Elt F) (Rect.unit (s := S16x33) (k0_off16 i) S1x1.size (k0_off16_inb i)).toLoadRect xt1 (Shape.Idx.first (numel1_S1x1.symm ▸ Nat.one_pos)))) (hc3 : cond0_3 i (tbM0_1.view.readAt (Elt F) (Rect.unit (s := S16x33) (k0_off16 i) S1x1.size (k0_off16_inb i)).toLoadRect xt1 (Shape.Idx.first (numel1_S1x1.symm ▸ Nat.one_pos)))) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (T8 (tiles (tbM0_0.view.readAt (Elt F) (Rect.unit (s := S16x17) (k0_off1 i) S1x1.size (k0_off1_inb i)).toLoadRect xt0 (Shape.Idx.first (numel1_S1x1.symm ▸ Nat.one_pos)))) (k0_pay16 i) x0 (k0_pay13 x2) (k0_pay14 x3) (k0_pay15 x4)) ∗ owns (c : Thread nD τ) arg9 fullShare (T9 (tiles (tbM0_1.view.readAt (Elt F) (Rect.unit (s := S16x33) (k0_off16 i) S1x1.size (k0_off16_inb i)).toLoadRect xt1 (Shape.Idx.first (numel1_S1x1.symm ▸ Nat.one_pos)))) (k0_pay16 i) x1 (k0_pay13 x2) (k0_pay14 x3) (k0_pay15 x4)) ∗ (∃ d, owns (c : Thread nD τ) arg10 fullShare d) ∗ (∃ d, owns (c : Thread nD τ) arg11 fullShare d) ∗ (∃ d, owns (c : Thread nD τ) arg12 fullShare d) ∗ tbPt0 c tbM0_0 xt0 ∗ tbPt0 c tbM0_1 xt1) -∗ K ⟨⟩))
          ⊢ wp frame (wpE (defs₀ (F := F)) Variants.none c none) E (cc0_ffn i tbM0_0 htbM0_0 tbM0_1 htbM0_1 arg3 harg3 arg4 harg4 arg5 harg5 arg6 harg6 arg7 harg7 arg8 harg8 arg9 harg9 arg10 harg10 arg11 harg11 arg12 harg12) K := by
    intro E K
    have k0_hw1 : k0_chk1 (tbM0_0.view.readAt (Elt F) (Rect.unit (s := S16x17) (k0_off1 i) S1x1.size (k0_off1_inb i)).toLoadRect xt0 (Shape.Idx.first (numel1_S1x1.symm ▸ Nat.one_pos))) := p_chk _ hs0.le
    have k0_hw2 : k0_chk2 (tbM0_1.view.readAt (Elt F) (Rect.unit (s := S16x33) (k0_off16 i) S1x1.size (k0_off16_inb i)).toLoadRect xt1 (Shape.Idx.first (numel1_S1x1.symm ▸ Nat.one_pos))) := s_chk _ hs1.le
    simp only [cc0_ffn_eq_skeleton]; unfold cc0_ffn_skel
    simp only [k0_part9_eq_skeleton, k0_part10_eq_skeleton, k0_part3_eq_skeleton, k0_part4_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%ds1, %fs1, -, HS1⟩, ⟨%ds2, %fs2, -, HS2⟩, HT0, HT1, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact hc0 | sl_exact hc1 | sl_exact hc2 | sl_exact hc3 | sl_exact k0_hw1 | sl_exact k0_hw2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; swap; · iexact H5
      ipureintro
      have hv0 := hs0.le
      refine Has.read ?_ _ _
      refine (full_p (hv := hv0) (hL := ?_) ..)
      refine one_p _ _ hv0 arg3 _ (hx := harg3.read_unread _) (h := ((p_one _ hv0).1).1 hc1) (hL := ?_) _ _ _ (ha := ?_) (hb := ?_) (hd := ?_)
      rotate_left
      · exact (View.readCov_full arg10.view _ _ _ _).trans (congrArg k0_pay13 ((View.readAt_full arg5.view _ _).trans (harg5.read_unread _)))
      · exact (View.readCov_full arg11.view _ _ _ _).trans (congrArg k0_pay14 ((View.readAt_full arg6.view _ _).trans (harg6.read_unread _)))
      · exact (View.readCov_full arg12.view _ _ _ _).trans (congrArg k0_pay15 ((View.readAt_full arg7.view _ _).trans (harg7.read_unread _)))
      refine no_two_p _ _ (fun h => hc0 (((p_two _ hv0).1).2 h)) ?_
      refine base_p (hv := hv0) (hx := harg3.read_unread _) (hg := ?_) (hu := ?_) (hd := ?_) ..
      · exact (View.read_writes_full arg10.view _ _ _ _).trans (congrArg k0_pay13 ((View.readAt_full arg5.view _ _).trans (harg5.read_unread _)))
      · exact (View.read_writes_full arg11.view _ _ _ _).trans (congrArg k0_pay14 ((View.readAt_full arg6.view _ _).trans (harg6.read_unread _)))
      · exact (View.read_writes_full arg12.view _ _ _ _).trans (congrArg k0_pay15 ((View.readAt_full arg7.view _ _).trans (harg7.read_unread _)))
    isplitl [H6]
    · iexists _; isplitr; swap; · iexact H6
      ipureintro
      have hv1 := hs1.le
      refine Has.read ?_ _ _
      refine (full_s (hv := hv1) (hL := ?_) ..)
      refine one_s _ _ hv1 arg4 _ (hx := harg4.read_unread _) (h := ((s_one _ hv1).1).1 hc3) (hL := ?_) _ _ _ (ha := ?_) (hb := ?_) (hd := ?_)
      rotate_left
      · exact (View.readCov_full arg10.view _ _ _ _).trans (congrArg k0_pay13 ((View.readAt_full arg5.view _ _).trans (harg5.read_unread _)))
      · exact (View.readCov_full arg11.view _ _ _ _).trans (congrArg k0_pay14 ((View.readAt_full arg6.view _ _).trans (harg6.read_unread _)))
      · exact (View.readCov_full arg12.view _ _ _ _).trans (congrArg k0_pay15 ((View.readAt_full arg7.view _ _).trans (harg7.read_unread _)))
      refine two_s _ _ hv1 arg4 _ (hx := harg4.read_unread _) (h := ((s_two _ hv1).1).1 hc2) (hL := ?_) _ _ _ (ha := ?_) (hb := ?_) (hd := ?_)
      rotate_left
      · exact (View.readCov_full arg10.view _ _ _ _).trans (congrArg k0_pay13 ((View.readAt_full arg5.view _ _).trans (harg5.read_unread _)))
      · exact (View.readCov_full arg11.view _ _ _ _).trans (congrArg k0_pay14 ((View.readAt_full arg6.view _ _).trans (harg6.read_unread _)))
      · exact (View.readCov_full arg12.view _ _ _ _).trans (congrArg k0_pay15 ((View.readAt_full arg7.view _ _).trans (harg7.read_unread _)))
      refine base_s (hv := hv1) (hx := harg4.read_unread _) (hg := ?_) (hu := ?_) (hd := ?_) ..
      · exact (View.read_writes_full arg10.view _ _ _ _).trans (congrArg k0_pay13 ((View.readAt_full arg5.view _ _).trans (harg5.read_unread _)))
      · exact (View.read_writes_full arg11.view _ _ _ _).trans (congrArg k0_pay14 ((View.readAt_full arg6.view _ _).trans (harg6.read_unread _)))
      · exact (View.read_writes_full arg12.view _ _ _ _).trans (congrArg k0_pay15 ((View.readAt_full arg7.view _ _).trans (harg7.read_unread _)))
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HT0]; · iexact HT0
    iexact HT1

end Cert.Proof.Ffn

end
-- ==== Proof.Ffn.BodyYN.lean ====
/-
  One grid point of the feed-forward call: what the body leaves in its two output blocks, the prompt tile of 256 rows being taken and that of 128 not.
-/
module

public import proofs.«01_k».proof.Proof.Ffn.Lists

@[expose] public section

set_option maxRecDepth 16384

noncomputable section

namespace Cert.Proof.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
theorem run_YNNN (c : Dev nD) (i : grid0.Coords) (arg3 : Memref sig .tc .vmem S1x768x1152 .bf16) (harg3 : arg3.IsWhole) (arg4 : Memref sig .tc .vmem S1x1536x1152 .bf16) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S1x768x1024 .bf16) (harg8 : arg8.IsWhole) (arg9 : Memref sig .tc .vmem S1x1536x1024 .bf16) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S512x1024 .bf16) (harg12 : arg12.IsWhole)
    (x0 : Vec F S1x768x1152 .bf16) (x1 : Vec F S1x1536x1152 .bf16) (x2 : Vec F S1x1024x512 .f32) (x3 : Vec F S1x1024x512 .f32) (x4 : Vec F S1x512x1024 .f32) (xt0 : TbBuf0 (F := F) c tbM0_0) (xt1 : TbBuf0 (F := F) c tbM0_1)
    (hs0 : AtMost (tbM0_0.view.readAt (Elt F) (Rect.unit (s := S16x17) (k0_off1 i) S1x1.size (k0_off1_inb i)).toLoadRect xt0 (Shape.Idx.first (numel1_S1x1.symm ▸ Nat.one_pos))) 768) (hs1 : AtMost (tbM0_1.view.readAt (Elt F) (Rect.unit (s := S16x33) (k0_off16 i) S1x1.size (k0_off16_inb i)).toLoadRect xt1 (Shape.Idx.first (numel1_S1x1.symm ▸ Nat.one_pos))) 1536)
    (hc0 : cond0_0 i (tbM0_0.view.readAt (Elt F) (Rect.unit (s := S16x17) (k0_off1 i) S1x1.size (k0_off1_inb i)).toLoadRect xt0 (Shape.Idx.first (numel1_S1x1.symm ▸ Nat.one_pos)))) (hc1 : ¬cond0_1 i (tbM0_0.view.readAt (Elt F) (Rect.unit (s := S16x17) (k0_off1 i) S1x1.size (k0_off1_inb i)).toLoadRect xt0 (Shape.Idx.first (numel1_S1x1.symm ▸ Nat.one_pos)))) (hc2 : ¬cond0_2 i (tbM0_1.view.readAt (Elt F) (Rect.unit (s := S16x33) (k0_off16 i) S1x1.size (k0_off16_inb i)).toLoadRect xt1 (Shape.Idx.first (numel1_S1x1.symm ▸ Nat.one_pos)))) (hc3 : ¬cond0_3 i (tbM0_1.view.readAt (Elt F) (Rect.unit (s := S16x33) (k0_off16 i) S1x1.size (k0_off16_inb i)).toLoadRect xt1 (Shape.Idx.first (numel1_S1x1.symm ▸ Nat.one_pos)))) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (T8 (tiles (tbM0_0.view.readAt (Elt F) (Rect.unit (s := S16x17) (k0_off1 i) S1x1.size (k0_off1_inb i)).toLoadRect xt0 (Shape.Idx.first (numel1_S1x1.symm ▸ Nat.one_pos)))) (k0_pay16 i) x0 (k0_pay13 x2) (k0_pay14 x3) (k0_pay15 x4)) ∗ owns (c : Thread nD τ) arg9 fullShare (T9 (tiles (tbM0_1.view.readAt (Elt F) (Rect.unit (s := S16x33) (k0_off16 i) S1x1.size (k0_off16_inb i)).toLoadRect xt1 (Shape.Idx.first (numel1_S1x1.symm ▸ Nat.one_pos)))) (k0_pay16 i) x1 (k0_pay13 x2) (k0_pay14 x3) (k0_pay15 x4)) ∗ (∃ d, owns (c : Thread nD τ) arg10 fullShare d) ∗ (∃ d, owns (c : Thread nD τ) arg11 fullShare d) ∗ (∃ d, owns (c : Thread nD τ) arg12 fullShare d) ∗ tbPt0 c tbM0_0 xt0 ∗ tbPt0 c tbM0_1 xt1) -∗ K ⟨⟩))
          ⊢ wp frame (wpE (defs₀ (F := F)) Variants.none c none) E (cc0_ffn i tbM0_0 htbM0_0 tbM0_1 htbM0_1 arg3 harg3 arg4 harg4 arg5 harg5 arg6 harg6 arg7 harg7 arg8 harg8 arg9 harg9 arg10 harg10 arg11 harg11 arg12 harg12) K := by
    intro E K
    have k0_hw1 : k0_chk1 (tbM0_0.view.readAt (Elt F) (Rect.unit (s := S16x17) (k0_off1 i) S1x1.size (k0_off1_inb i)).toLoadRect xt0 (Shape.Idx.first (numel1_S1x1.symm ▸ Nat.one_pos))) := p_chk _ hs0.le
    have k0_hw2 : k0_chk2 (tbM0_1.view.readAt (Elt F) (Rect.unit (s := S16x33) (k0_off16 i) S1x1.size (k0_off16_inb i)).toLoadRect xt1 (Shape.Idx.first (numel1_S1x1.symm ▸ Nat.one_pos))) := s_chk _ hs1.le
    simp only [cc0_ffn_eq_skeleton]; unfold cc0_ffn_skel
    simp only [k0_part9_eq_skeleton, k0_part10_eq_skeleton, k0_part3_eq_skeleton, k0_part4_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%ds1, %fs1, -, HS1⟩, ⟨%ds2, %fs2, -, HS2⟩, HT0, HT1, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact hc0 | sl_exact hc1 | sl_exact hc2 | sl_exact hc3 | sl_exact k0_hw1 | sl_exact k0_hw2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; swap; · iexact H5
      ipureintro
      have hv0 := hs0.le
      refine Has.read ?_ _ _
      refine (full_p (hv := hv0) (hL := ?_) ..)
      refine no_one_p _ _ (fun h => hc1 (((p_one _ hv0).1).2 h)) ?_
      refine two_p _ _ hv0 arg3 _ (hx := harg3.read_unread _) (h := ((p_two _ hv0).1).1 hc0) (hL := ?_) _ _ _ (ha := ?_) (hb := ?_) (hd := ?_)
      rotate_left
      · exact (View.readCov_full arg10.view _ _ _ _).trans (congrArg k0_pay13 ((View.readAt_full arg5.view _ _).trans (harg5.read_unread _)))
      · exact (View.readCov_full arg11.view _ _ _ _).trans (congrArg k0_pay14 ((View.readAt_full arg6.view _ _).trans (harg6.read_unread _)))
      · exact (View.readCov_full arg12.view _ _ _ _).trans (congrArg k0_pay15 ((View.readAt_full arg7.view _ _).trans (harg7.read_unread _)))
      refine base_p (hv := hv0) (hx := harg3.read_unread _) (hg := ?_) (hu := ?_) (hd := ?_) ..
      · exact (View.read_writes_full arg10.view _ _ _ _).trans (congrArg k0_pay13 ((View.readAt_full arg5.view _ _).trans (harg5.read_unread _)))
      · exact (View.read_writes_full arg11.view _ _ _ _).trans (congrArg k0_pay14 ((View.readAt_full arg6.view _ _).trans (harg6.read_unread _)))
      · exact (View.read_writes_full arg12.view _ _ _ _).trans (congrArg k0_pay15 ((View.readAt_full arg7.view _ _).trans (harg7.read_unread _)))
    isplitl [H6]
    · iexists _; isplitr; swap; · iexact H6
      ipureintro
      have hv1 := hs1.le
      refine Has.read ?_ _ _
      refine (full_s (hv := hv1) (hL := ?_) ..)
      refine no_one_s _ _ (fun h => hc3 (((s_one _ hv1).1).2 h)) ?_
      refine no_two_s _ _ (fun h => hc2 (((s_two _ hv1).1).2 h)) ?_
      refine base_s (hv := hv1) (hx := harg4.read_unread _) (hg := ?_) (hu := ?_) (hd := ?_) ..
      · exact (View.read_writes_full arg10.view _ _ _ _).trans (congrArg k0_pay13 ((View.readAt_full arg5.view _ _).trans (harg5.read_unread _)))
      · exact (View.read_writes_full arg11.view _ _ _ _).trans (congrArg k0_pay14 ((View.readAt_full arg6.view _ _).trans (harg6.read_unread _)))
      · exact (View.read_writes_full arg12.view _ _ _ _).trans (congrArg k0_pay15 ((View.readAt_full arg7.view _ _).trans (harg7.read_unread _)))
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HT0]; · iexact HT0
    iexact HT1

set_option maxHeartbeats 4000000 in
theorem run_YNNY (c : Dev nD) (i : grid0.Coords) (arg3 : Memref sig .tc .vmem S1x768x1152 .bf16) (harg3 : arg3.IsWhole) (arg4 : Memref sig .tc .vmem S1x1536x1152 .bf16) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S1x768x1024 .bf16) (harg8 : arg8.IsWhole) (arg9 : Memref sig .tc .vmem S1x1536x1024 .bf16) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S512x1024 .bf16) (harg12 : arg12.IsWhole)
    (x0 : Vec F S1x768x1152 .bf16) (x1 : Vec F S1x1536x1152 .bf16) (x2 : Vec F S1x1024x512 .f32) (x3 : Vec F S1x1024x512 .f32) (x4 : Vec F S1x512x1024 .f32) (xt0 : TbBuf0 (F := F) c tbM0_0) (xt1 : TbBuf0 (F := F) c tbM0_1)
    (hs0 : AtMost (tbM0_0.view.readAt (Elt F) (Rect.unit (s := S16x17) (k0_off1 i) S1x1.size (k0_off1_inb i)).toLoadRect xt0 (Shape.Idx.first (numel1_S1x1.symm ▸ Nat.one_pos))) 768) (hs1 : AtMost (tbM0_1.view.readAt (Elt F) (Rect.unit (s := S16x33) (k0_off16 i) S1x1.size (k0_off16_inb i)).toLoadRect xt1 (Shape.Idx.first (numel1_S1x1.symm ▸ Nat.one_pos))) 1536)
    (hc0 : cond0_0 i (tbM0_0.view.readAt (Elt F) (Rect.unit (s := S16x17) (k0_off1 i) S1x1.size (k0_off1_inb i)).toLoadRect xt0 (Shape.Idx.first (numel1_S1x1.symm ▸ Nat.one_pos)))) (hc1 : ¬cond0_1 i (tbM0_0.view.readAt (Elt F) (Rect.unit (s := S16x17) (k0_off1 i) S1x1.size (k0_off1_inb i)).toLoadRect xt0 (Shape.Idx.first (numel1_S1x1.symm ▸ Nat.one_pos)))) (hc2 : ¬cond0_2 i (tbM0_1.view.readAt (Elt F) (Rect.unit (s := S16x33) (k0_off16 i) S1x1.size (k0_off16_inb i)).toLoadRect xt1 (Shape.Idx.first (numel1_S1x1.symm ▸ Nat.one_pos)))) (hc3 : cond0_3 i (tbM0_1.view.readAt (Elt F) (Rect.unit (s := S16x33) (k0_off16 i) S1x1.size (k0_off16_inb i)).toLoadRect xt1 (Shape.Idx.first (numel1_S1x1.symm ▸ Nat.one_pos)))) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (T8 (tiles (tbM0_0.view.readAt (Elt F) (Rect.unit (s := S16x17) (k0_off1 i) S1x1.size (k0_off1_inb i)).toLoadRect xt0 (Shape.Idx.first (numel1_S1x1.symm ▸ Nat.one_pos)))) (k0_pay16 i) x0 (k0_pay13 x2) (k0_pay14 x3) (k0_pay15 x4)) ∗ owns (c : Thread nD τ) arg9 fullShare (T9 (tiles (tbM0_1.view.readAt (Elt F) (Rect.unit (s := S16x33) (k0_off16 i) S1x1.size (k0_off16_inb i)).toLoadRect xt1 (Shape.Idx.first (numel1_S1x1.symm ▸ Nat.one_pos)))) (k0_pay16 i) x1 (k0_pay13 x2) (k0_pay14 x3) (k0_pay15 x4)) ∗ (∃ d, owns (c : Thread nD τ) arg10 fullShare d) ∗ (∃ d, owns (c : Thread nD τ) arg11 fullShare d) ∗ (∃ d, owns (c : Thread nD τ) arg12 fullShare d) ∗ tbPt0 c tbM0_0 xt0 ∗ tbPt0 c tbM0_1 xt1) -∗ K ⟨⟩))
          ⊢ wp frame (wpE (defs₀ (F := F)) Variants.none c none) E (cc0_ffn i tbM0_0 htbM0_0 tbM0_1 htbM0_1 arg3 harg3 arg4 harg4 arg5 harg5 arg6 harg6 arg7 harg7 arg8 harg8 arg9 harg9 arg10 harg10 arg11 harg11 arg12 harg12) K := by
    intro E K
    have k0_hw1 : k0_chk1 (tbM0_0.view.readAt (Elt F) (Rect.unit (s := S16x17) (k0_off1 i) S1x1.size (k0_off1_inb i)).toLoadRect xt0 (Shape.Idx.first (numel1_S1x1.symm ▸ Nat.one_pos))) := p_chk _ hs0.le
    have k0_hw2 : k0_chk2 (tbM0_1.view.readAt (Elt F) (Rect.unit (s := S16x33) (k0_off16 i) S1x1.size (k0_off16_inb i)).toLoadRect xt1 (Shape.Idx.first (numel1_S1x1.symm ▸ Nat.one_pos))) := s_chk _ hs1.le
    simp only [cc0_ffn_eq_skeleton]; unfold cc0_ffn_skel
    simp only [k0_part9_eq_skeleton, k0_part10_eq_skeleton, k0_part3_eq_skeleton, k0_part4_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%ds1, %fs1, -, HS1⟩, ⟨%ds2, %fs2, -, HS2⟩, HT0, HT1, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact hc0 | sl_exact hc1 | sl_exact hc2 | sl_exact hc3 | sl_exact k0_hw1 | sl_exact k0_hw2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; swap; · iexact H5
      ipureintro
      have hv0 := hs0.le
      refine Has.read ?_ _ _
      refine (full_p (hv := hv0) (hL := ?_) ..)
      refine no_one_p _ _ (fun h => hc1 (((p_one _ hv0).1).2 h)) ?_
      refine two_p _ _ hv0 arg3 _ (hx := harg3.read_unread _) (h := ((p_two _ hv0).1).1 hc0) (hL := ?_) _ _ _ (ha := ?_) (hb := ?_) (hd := ?_)
      rotate_left
      · exact (View.readCov_full arg10.view _ _ _ _).trans (congrArg k0_pay13 ((View.readAt_full arg5.view _ _).trans (harg5.read_unread _)))
      · exact (View.readCov_full arg11.view _ _ _ _).trans (congrArg k0_pay14 ((View.readAt_full arg6.view _ _).trans (harg6.read_unread _)))
      · exact (View.readCov_full arg12.view _ _ _ _).trans (congrArg k0_pay15 ((View.readAt_full arg7.view _ _).trans (harg7.read_unread _)))
      refine base_p (hv := hv0) (hx := harg3.read_unread _) (hg := ?_) (hu := ?_) (hd := ?_) ..
      · exact (View.read_writes_full arg10.view _ _ _ _).trans (congrArg k0_pay13 ((View.readAt_full arg5.view _ _).trans (harg5.read_unread _)))
      · exact (View.read_writes_full arg11.view _ _ _ _).trans (congrArg k0_pay14 ((View.readAt_full arg6.view _ _).trans (harg6.read_unread _)))
      · exact (View.read_writes_full arg12.view _ _ _ _).trans (congrArg k0_pay15 ((View.readAt_full arg7.view _ _).trans (harg7.read_unread _)))
    isplitl [H6]
    · iexists _; isplitr; swap; · iexact H6
      ipureintro
      have hv1 := hs1.le
      refine Has.read ?_ _ _
      refine (full_s (hv := hv1) (hL := ?_) ..)
      refine one_s _ _ hv1 arg4 _ (hx := harg4.read_unread _) (h := ((s_one _ hv1).1).1 hc3) (hL := ?_) _ _ _ (ha := ?_) (hb := ?_) (hd := ?_)
      rotate_left
      · exact (View.readCov_full arg10.view _ _ _ _).trans (congrArg k0_pay13 ((View.readAt_full arg5.view _ _).trans (harg5.read_unread _)))
      · exact (View.readCov_full arg11.view _ _ _ _).trans (congrArg k0_pay14 ((View.readAt_full arg6.view _ _).trans (harg6.read_unread _)))
      · exact (View.readCov_full arg12.view _ _ _ _).trans (congrArg k0_pay15 ((View.readAt_full arg7.view _ _).trans (harg7.read_unread _)))
      refine no_two_s _ _ (fun h => hc2 (((s_two _ hv1).1).2 h)) ?_
      refine base_s (hv := hv1) (hx := harg4.read_unread _) (hg := ?_) (hu := ?_) (hd := ?_) ..
      · exact (View.read_writes_full arg10.view _ _ _ _).trans (congrArg k0_pay13 ((View.readAt_full arg5.view _ _).trans (harg5.read_unread _)))
      · exact (View.read_writes_full arg11.view _ _ _ _).trans (congrArg k0_pay14 ((View.readAt_full arg6.view _ _).trans (harg6.read_unread _)))
      · exact (View.read_writes_full arg12.view _ _ _ _).trans (congrArg k0_pay15 ((View.readAt_full arg7.view _ _).trans (harg7.read_unread _)))
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HT0]; · iexact HT0
    iexact HT1

set_option maxHeartbeats 4000000 in
theorem run_YNYN (c : Dev nD) (i : grid0.Coords) (arg3 : Memref sig .tc .vmem S1x768x1152 .bf16) (harg3 : arg3.IsWhole) (arg4 : Memref sig .tc .vmem S1x1536x1152 .bf16) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S1x768x1024 .bf16) (harg8 : arg8.IsWhole) (arg9 : Memref sig .tc .vmem S1x1536x1024 .bf16) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S512x1024 .bf16) (harg12 : arg12.IsWhole)
    (x0 : Vec F S1x768x1152 .bf16) (x1 : Vec F S1x1536x1152 .bf16) (x2 : Vec F S1x1024x512 .f32) (x3 : Vec F S1x1024x512 .f32) (x4 : Vec F S1x512x1024 .f32) (xt0 : TbBuf0 (F := F) c tbM0_0) (xt1 : TbBuf0 (F := F) c tbM0_1)
    (hs0 : AtMost (tbM0_0.view.readAt (Elt F) (Rect.unit (s := S16x17) (k0_off1 i) S1x1.size (k0_off1_inb i)).toLoadRect xt0 (Shape.Idx.first (numel1_S1x1.symm ▸ Nat.one_pos))) 768) (hs1 : AtMost (tbM0_1.view.readAt (Elt F) (Rect.unit (s := S16x33) (k0_off16 i) S1x1.size (k0_off16_inb i)).toLoadRect xt1 (Shape.Idx.first (numel1_S1x1.symm ▸ Nat.one_pos))) 1536)
    (hc0 : cond0_0 i (tbM0_0.view.readAt (Elt F) (Rect.unit (s := S16x17) (k0_off1 i) S1x1.size (k0_off1_inb i)).toLoadRect xt0 (Shape.Idx.first (numel1_S1x1.symm ▸ Nat.one_pos)))) (hc1 : ¬cond0_1 i (tbM0_0.view.readAt (Elt F) (Rect.unit (s := S16x17) (k0_off1 i) S1x1.size (k0_off1_inb i)).toLoadRect xt0 (Shape.Idx.first (numel1_S1x1.symm ▸ Nat.one_pos)))) (hc2 : cond0_2 i (tbM0_1.view.readAt (Elt F) (Rect.unit (s := S16x33) (k0_off16 i) S1x1.size (k0_off16_inb i)).toLoadRect xt1 (Shape.Idx.first (numel1_S1x1.symm ▸ Nat.one_pos)))) (hc3 : ¬cond0_3 i (tbM0_1.view.readAt (Elt F) (Rect.unit (s := S16x33) (k0_off16 i) S1x1.size (k0_off16_inb i)).toLoadRect xt1 (Shape.Idx.first (numel1_S1x1.symm ▸ Nat.one_pos)))) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (T8 (tiles (tbM0_0.view.readAt (Elt F) (Rect.unit (s := S16x17) (k0_off1 i) S1x1.size (k0_off1_inb i)).toLoadRect xt0 (Shape.Idx.first (numel1_S1x1.symm ▸ Nat.one_pos)))) (k0_pay16 i) x0 (k0_pay13 x2) (k0_pay14 x3) (k0_pay15 x4)) ∗ owns (c : Thread nD τ) arg9 fullShare (T9 (tiles (tbM0_1.view.readAt (Elt F) (Rect.unit (s := S16x33) (k0_off16 i) S1x1.size (k0_off16_inb i)).toLoadRect xt1 (Shape.Idx.first (numel1_S1x1.symm ▸ Nat.one_pos)))) (k0_pay16 i) x1 (k0_pay13 x2) (k0_pay14 x3) (k0_pay15 x4)) ∗ (∃ d, owns (c : Thread nD τ) arg10 fullShare d) ∗ (∃ d, owns (c : Thread nD τ) arg11 fullShare d) ∗ (∃ d, owns (c : Thread nD τ) arg12 fullShare d) ∗ tbPt0 c tbM0_0 xt0 ∗ tbPt0 c tbM0_1 xt1) -∗ K ⟨⟩))
          ⊢ wp frame (wpE (defs₀ (F := F)) Variants.none c none) E (cc0_ffn i tbM0_0 htbM0_0 tbM0_1 htbM0_1 arg3 harg3 arg4 harg4 arg5 harg5 arg6 harg6 arg7 harg7 arg8 harg8 arg9 harg9 arg10 harg10 arg11 harg11 arg12 harg12) K := by
    intro E K
    have k0_hw1 : k0_chk1 (tbM0_0.view.readAt (Elt F) (Rect.unit (s := S16x17) (k0_off1 i) S1x1.size (k0_off1_inb i)).toLoadRect xt0 (Shape.Idx.first (numel1_S1x1.symm ▸ Nat.one_pos))) := p_chk _ hs0.le
    have k0_hw2 : k0_chk2 (tbM0_1.view.readAt (Elt F) (Rect.unit (s := S16x33) (k0_off16 i) S1x1.size (k0_off16_inb i)).toLoadRect xt1 (Shape.Idx.first (numel1_S1x1.symm ▸ Nat.one_pos))) := s_chk _ hs1.le
    simp only [cc0_ffn_eq_skeleton]; unfold cc0_ffn_skel
    simp only [k0_part9_eq_skeleton, k0_part10_eq_skeleton, k0_part3_eq_skeleton, k0_part4_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%ds1, %fs1, -, HS1⟩, ⟨%ds2, %fs2, -, HS2⟩, HT0, HT1, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact hc0 | sl_exact hc1 | sl_exact hc2 | sl_exact hc3 | sl_exact k0_hw1 | sl_exact k0_hw2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; swap; · iexact H5
      ipureintro
      have hv0 := hs0.le
      refine Has.read ?_ _ _
      refine (full_p (hv := hv0) (hL := ?_) ..)
      refine no_one_p _ _ (fun h => hc1 (((p_one _ hv0).1).2 h)) ?_
      refine two_p _ _ hv0 arg3 _ (hx := harg3.read_unread _) (h := ((p_two _ hv0).1).1 hc0) (hL := ?_) _ _ _ (ha := ?_) (hb := ?_) (hd := ?_)
      rotate_left
      · exact (View.readCov_full arg10.view _ _ _ _).trans (congrArg k0_pay13 ((View.readAt_full arg5.view _ _).trans (harg5.read_unread _)))
      · exact (View.readCov_full arg11.view _ _ _ _).trans (congrArg k0_pay14 ((View.readAt_full arg6.view _ _).trans (harg6.read_unread _)))
      · exact (View.readCov_full arg12.view _ _ _ _).trans (congrArg k0_pay15 ((View.readAt_full arg7.view _ _).trans (harg7.read_unread _)))
      refine base_p (hv := hv0) (hx := harg3.read_unread _) (hg := ?_) (hu := ?_) (hd := ?_) ..
      · exact (View.read_writes_full arg10.view _ _ _ _).trans (congrArg k0_pay13 ((View.readAt_full arg5.view _ _).trans (harg5.read_unread _)))
      · exact (View.read_writes_full arg11.view _ _ _ _).trans (congrArg k0_pay14 ((View.readAt_full arg6.view _ _).trans (harg6.read_unread _)))
      · exact (View.read_writes_full arg12.view _ _ _ _).trans (congrArg k0_pay15 ((View.readAt_full arg7.view _ _).trans (harg7.read_unread _)))
    isplitl [H6]
    · iexists _; isplitr; swap; · iexact H6
      ipureintro
      have hv1 := hs1.le
      refine Has.read ?_ _ _
      refine (full_s (hv := hv1) (hL := ?_) ..)
      refine no_one_s _ _ (fun h => hc3 (((s_one _ hv1).1).2 h)) ?_
      refine two_s _ _ hv1 arg4 _ (hx := harg4.read_unread _) (h := ((s_two _ hv1).1).1 hc2) (hL := ?_) _ _ _ (ha := ?_) (hb := ?_) (hd := ?_)
      rotate_left
      · exact (View.readCov_full arg10.view _ _ _ _).trans (congrArg k0_pay13 ((View.readAt_full arg5.view _ _).trans (harg5.read_unread _)))
      · exact (View.readCov_full arg11.view _ _ _ _).trans (congrArg k0_pay14 ((View.readAt_full arg6.view _ _).trans (harg6.read_unread _)))
      · exact (View.readCov_full arg12.view _ _ _ _).trans (congrArg k0_pay15 ((View.readAt_full arg7.view _ _).trans (harg7.read_unread _)))
      refine base_s (hv := hv1) (hx := harg4.read_unread _) (hg := ?_) (hu := ?_) (hd := ?_) ..
      · exact (View.read_writes_full arg10.view _ _ _ _).trans (congrArg k0_pay13 ((View.readAt_full arg5.view _ _).trans (harg5.read_unread _)))
      · exact (View.read_writes_full arg11.view _ _ _ _).trans (congrArg k0_pay14 ((View.readAt_full arg6.view _ _).trans (harg6.read_unread _)))
      · exact (View.read_writes_full arg12.view _ _ _ _).trans (congrArg k0_pay15 ((View.readAt_full arg7.view _ _).trans (harg7.read_unread _)))
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HT0]; · iexact HT0
    iexact HT1

set_option maxHeartbeats 4000000 in
theorem run_YNYY (c : Dev nD) (i : grid0.Coords) (arg3 : Memref sig .tc .vmem S1x768x1152 .bf16) (harg3 : arg3.IsWhole) (arg4 : Memref sig .tc .vmem S1x1536x1152 .bf16) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S1x768x1024 .bf16) (harg8 : arg8.IsWhole) (arg9 : Memref sig .tc .vmem S1x1536x1024 .bf16) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S512x1024 .bf16) (harg12 : arg12.IsWhole)
    (x0 : Vec F S1x768x1152 .bf16) (x1 : Vec F S1x1536x1152 .bf16) (x2 : Vec F S1x1024x512 .f32) (x3 : Vec F S1x1024x512 .f32) (x4 : Vec F S1x512x1024 .f32) (xt0 : TbBuf0 (F := F) c tbM0_0) (xt1 : TbBuf0 (F := F) c tbM0_1)
    (hs0 : AtMost (tbM0_0.view.readAt (Elt F) (Rect.unit (s := S16x17) (k0_off1 i) S1x1.size (k0_off1_inb i)).toLoadRect xt0 (Shape.Idx.first (numel1_S1x1.symm ▸ Nat.one_pos))) 768) (hs1 : AtMost (tbM0_1.view.readAt (Elt F) (Rect.unit (s := S16x33) (k0_off16 i) S1x1.size (k0_off16_inb i)).toLoadRect xt1 (Shape.Idx.first (numel1_S1x1.symm ▸ Nat.one_pos))) 1536)
    (hc0 : cond0_0 i (tbM0_0.view.readAt (Elt F) (Rect.unit (s := S16x17) (k0_off1 i) S1x1.size (k0_off1_inb i)).toLoadRect xt0 (Shape.Idx.first (numel1_S1x1.symm ▸ Nat.one_pos)))) (hc1 : ¬cond0_1 i (tbM0_0.view.readAt (Elt F) (Rect.unit (s := S16x17) (k0_off1 i) S1x1.size (k0_off1_inb i)).toLoadRect xt0 (Shape.Idx.first (numel1_S1x1.symm ▸ Nat.one_pos)))) (hc2 : cond0_2 i (tbM0_1.view.readAt (Elt F) (Rect.unit (s := S16x33) (k0_off16 i) S1x1.size (k0_off16_inb i)).toLoadRect xt1 (Shape.Idx.first (numel1_S1x1.symm ▸ Nat.one_pos)))) (hc3 : cond0_3 i (tbM0_1.view.readAt (Elt F) (Rect.unit (s := S16x33) (k0_off16 i) S1x1.size (k0_off16_inb i)).toLoadRect xt1 (Shape.Idx.first (numel1_S1x1.symm ▸ Nat.one_pos)))) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (T8 (tiles (tbM0_0.view.readAt (Elt F) (Rect.unit (s := S16x17) (k0_off1 i) S1x1.size (k0_off1_inb i)).toLoadRect xt0 (Shape.Idx.first (numel1_S1x1.symm ▸ Nat.one_pos)))) (k0_pay16 i) x0 (k0_pay13 x2) (k0_pay14 x3) (k0_pay15 x4)) ∗ owns (c : Thread nD τ) arg9 fullShare (T9 (tiles (tbM0_1.view.readAt (Elt F) (Rect.unit (s := S16x33) (k0_off16 i) S1x1.size (k0_off16_inb i)).toLoadRect xt1 (Shape.Idx.first (numel1_S1x1.symm ▸ Nat.one_pos)))) (k0_pay16 i) x1 (k0_pay13 x2) (k0_pay14 x3) (k0_pay15 x4)) ∗ (∃ d, owns (c : Thread nD τ) arg10 fullShare d) ∗ (∃ d, owns (c : Thread nD τ) arg11 fullShare d) ∗ (∃ d, owns (c : Thread nD τ) arg12 fullShare d) ∗ tbPt0 c tbM0_0 xt0 ∗ tbPt0 c tbM0_1 xt1) -∗ K ⟨⟩))
          ⊢ wp frame (wpE (defs₀ (F := F)) Variants.none c none) E (cc0_ffn i tbM0_0 htbM0_0 tbM0_1 htbM0_1 arg3 harg3 arg4 harg4 arg5 harg5 arg6 harg6 arg7 harg7 arg8 harg8 arg9 harg9 arg10 harg10 arg11 harg11 arg12 harg12) K := by
    intro E K
    have k0_hw1 : k0_chk1 (tbM0_0.view.readAt (Elt F) (Rect.unit (s := S16x17) (k0_off1 i) S1x1.size (k0_off1_inb i)).toLoadRect xt0 (Shape.Idx.first (numel1_S1x1.symm ▸ Nat.one_pos))) := p_chk _ hs0.le
    have k0_hw2 : k0_chk2 (tbM0_1.view.readAt (Elt F) (Rect.unit (s := S16x33) (k0_off16 i) S1x1.size (k0_off16_inb i)).toLoadRect xt1 (Shape.Idx.first (numel1_S1x1.symm ▸ Nat.one_pos))) := s_chk _ hs1.le
    simp only [cc0_ffn_eq_skeleton]; unfold cc0_ffn_skel
    simp only [k0_part9_eq_skeleton, k0_part10_eq_skeleton, k0_part3_eq_skeleton, k0_part4_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%ds1, %fs1, -, HS1⟩, ⟨%ds2, %fs2, -, HS2⟩, HT0, HT1, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact hc0 | sl_exact hc1 | sl_exact hc2 | sl_exact hc3 | sl_exact k0_hw1 | sl_exact k0_hw2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; swap; · iexact H5
      ipureintro
      have hv0 := hs0.le
      refine Has.read ?_ _ _
      refine (full_p (hv := hv0) (hL := ?_) ..)
      refine no_one_p _ _ (fun h => hc1 (((p_one _ hv0).1).2 h)) ?_
      refine two_p _ _ hv0 arg3 _ (hx := harg3.read_unread _) (h := ((p_two _ hv0).1).1 hc0) (hL := ?_) _ _ _ (ha := ?_) (hb := ?_) (hd := ?_)
      rotate_left
      · exact (View.readCov_full arg10.view _ _ _ _).trans (congrArg k0_pay13 ((View.readAt_full arg5.view _ _).trans (harg5.read_unread _)))
      · exact (View.readCov_full arg11.view _ _ _ _).trans (congrArg k0_pay14 ((View.readAt_full arg6.view _ _).trans (harg6.read_unread _)))
      · exact (View.readCov_full arg12.view _ _ _ _).trans (congrArg k0_pay15 ((View.readAt_full arg7.view _ _).trans (harg7.read_unread _)))
      refine base_p (hv := hv0) (hx := harg3.read_unread _) (hg := ?_) (hu := ?_) (hd := ?_) ..
      · exact (View.read_writes_full arg10.view _ _ _ _).trans (congrArg k0_pay13 ((View.readAt_full arg5.view _ _).trans (harg5.read_unread _)))
      · exact (View.read_writes_full arg11.view _ _ _ _).trans (congrArg k0_pay14 ((View.readAt_full arg6.view _ _).trans (harg6.read_unread _)))
      · exact (View.read_writes_full arg12.view _ _ _ _).trans (congrArg k0_pay15 ((View.readAt_full arg7.view _ _).trans (harg7.read_unread _)))
    isplitl [H6]
    · iexists _; isplitr; swap; · iexact H6
      ipureintro
      have hv1 := hs1.le
      refine Has.read ?_ _ _
      refine (full_s (hv := hv1) (hL := ?_) ..)
      refine one_s _ _ hv1 arg4 _ (hx := harg4.read_unread _) (h := ((s_one _ hv1).1).1 hc3) (hL := ?_) _ _ _ (ha := ?_) (hb := ?_) (hd := ?_)
      rotate_left
      · exact (View.readCov_full arg10.view _ _ _ _).trans (congrArg k0_pay13 ((View.readAt_full arg5.view _ _).trans (harg5.read_unread _)))
      · exact (View.readCov_full arg11.view _ _ _ _).trans (congrArg k0_pay14 ((View.readAt_full arg6.view _ _).trans (harg6.read_unread _)))
      · exact (View.readCov_full arg12.view _ _ _ _).trans (congrArg k0_pay15 ((View.readAt_full arg7.view _ _).trans (harg7.read_unread _)))
      refine two_s _ _ hv1 arg4 _ (hx := harg4.read_unread _) (h := ((s_two _ hv1).1).1 hc2) (hL := ?_) _ _ _ (ha := ?_) (hb := ?_) (hd := ?_)
      rotate_left
      · exact (View.readCov_full arg10.view _ _ _ _).trans (congrArg k0_pay13 ((View.readAt_full arg5.view _ _).trans (harg5.read_unread _)))
      · exact (View.readCov_full arg11.view _ _ _ _).trans (congrArg k0_pay14 ((View.readAt_full arg6.view _ _).trans (harg6.read_unread _)))
      · exact (View.readCov_full arg12.view _ _ _ _).trans (congrArg k0_pay15 ((View.readAt_full arg7.view _ _).trans (harg7.read_unread _)))
      refine base_s (hv := hv1) (hx := harg4.read_unread _) (hg := ?_) (hu := ?_) (hd := ?_) ..
      · exact (View.read_writes_full arg10.view _ _ _ _).trans (congrArg k0_pay13 ((View.readAt_full arg5.view _ _).trans (harg5.read_unread _)))
      · exact (View.read_writes_full arg11.view _ _ _ _).trans (congrArg k0_pay14 ((View.readAt_full arg6.view _ _).trans (harg6.read_unread _)))
      · exact (View.read_writes_full arg12.view _ _ _ _).trans (congrArg k0_pay15 ((View.readAt_full arg7.view _ _).trans (harg7.read_unread _)))
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HT0]; · iexact HT0
    iexact HT1

end Cert.Proof.Ffn

end
-- ==== Proof.Ffn.BodyYY.lean ====
/-
  One grid point of the feed-forward call: what the body leaves in its two output blocks, both narrower prompt tiles being taken.
-/
module

public import proofs.«01_k».proof.Proof.Ffn.Lists

@[expose] public section

set_option maxRecDepth 16384

noncomputable section

namespace Cert.Proof.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
theorem run_YYNN (c : Dev nD) (i : grid0.Coords) (arg3 : Memref sig .tc .vmem S1x768x1152 .bf16) (harg3 : arg3.IsWhole) (arg4 : Memref sig .tc .vmem S1x1536x1152 .bf16) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S1x768x1024 .bf16) (harg8 : arg8.IsWhole) (arg9 : Memref sig .tc .vmem S1x1536x1024 .bf16) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S512x1024 .bf16) (harg12 : arg12.IsWhole)
    (x0 : Vec F S1x768x1152 .bf16) (x1 : Vec F S1x1536x1152 .bf16) (x2 : Vec F S1x1024x512 .f32) (x3 : Vec F S1x1024x512 .f32) (x4 : Vec F S1x512x1024 .f32) (xt0 : TbBuf0 (F := F) c tbM0_0) (xt1 : TbBuf0 (F := F) c tbM0_1)
    (hs0 : AtMost (tbM0_0.view.readAt (Elt F) (Rect.unit (s := S16x17) (k0_off1 i) S1x1.size (k0_off1_inb i)).toLoadRect xt0 (Shape.Idx.first (numel1_S1x1.symm ▸ Nat.one_pos))) 768) (hs1 : AtMost (tbM0_1.view.readAt (Elt F) (Rect.unit (s := S16x33) (k0_off16 i) S1x1.size (k0_off16_inb i)).toLoadRect xt1 (Shape.Idx.first (numel1_S1x1.symm ▸ Nat.one_pos))) 1536)
    (hc0 : cond0_0 i (tbM0_0.view.readAt (Elt F) (Rect.unit (s := S16x17) (k0_off1 i) S1x1.size (k0_off1_inb i)).toLoadRect xt0 (Shape.Idx.first (numel1_S1x1.symm ▸ Nat.one_pos)))) (hc1 : cond0_1 i (tbM0_0.view.readAt (Elt F) (Rect.unit (s := S16x17) (k0_off1 i) S1x1.size (k0_off1_inb i)).toLoadRect xt0 (Shape.Idx.first (numel1_S1x1.symm ▸ Nat.one_pos)))) (hc2 : ¬cond0_2 i (tbM0_1.view.readAt (Elt F) (Rect.unit (s := S16x33) (k0_off16 i) S1x1.size (k0_off16_inb i)).toLoadRect xt1 (Shape.Idx.first (numel1_S1x1.symm ▸ Nat.one_pos)))) (hc3 : ¬cond0_3 i (tbM0_1.view.readAt (Elt F) (Rect.unit (s := S16x33) (k0_off16 i) S1x1.size (k0_off16_inb i)).toLoadRect xt1 (Shape.Idx.first (numel1_S1x1.symm ▸ Nat.one_pos)))) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (T8 (tiles (tbM0_0.view.readAt (Elt F) (Rect.unit (s := S16x17) (k0_off1 i) S1x1.size (k0_off1_inb i)).toLoadRect xt0 (Shape.Idx.first (numel1_S1x1.symm ▸ Nat.one_pos)))) (k0_pay16 i) x0 (k0_pay13 x2) (k0_pay14 x3) (k0_pay15 x4)) ∗ owns (c : Thread nD τ) arg9 fullShare (T9 (tiles (tbM0_1.view.readAt (Elt F) (Rect.unit (s := S16x33) (k0_off16 i) S1x1.size (k0_off16_inb i)).toLoadRect xt1 (Shape.Idx.first (numel1_S1x1.symm ▸ Nat.one_pos)))) (k0_pay16 i) x1 (k0_pay13 x2) (k0_pay14 x3) (k0_pay15 x4)) ∗ (∃ d, owns (c : Thread nD τ) arg10 fullShare d) ∗ (∃ d, owns (c : Thread nD τ) arg11 fullShare d) ∗ (∃ d, owns (c : Thread nD τ) arg12 fullShare d) ∗ tbPt0 c tbM0_0 xt0 ∗ tbPt0 c tbM0_1 xt1) -∗ K ⟨⟩))
          ⊢ wp frame (wpE (defs₀ (F := F)) Variants.none c none) E (cc0_ffn i tbM0_0 htbM0_0 tbM0_1 htbM0_1 arg3 harg3 arg4 harg4 arg5 harg5 arg6 harg6 arg7 harg7 arg8 harg8 arg9 harg9 arg10 harg10 arg11 harg11 arg12 harg12) K := by
    intro E K
    have k0_hw1 : k0_chk1 (tbM0_0.view.readAt (Elt F) (Rect.unit (s := S16x17) (k0_off1 i) S1x1.size (k0_off1_inb i)).toLoadRect xt0 (Shape.Idx.first (numel1_S1x1.symm ▸ Nat.one_pos))) := p_chk _ hs0.le
    have k0_hw2 : k0_chk2 (tbM0_1.view.readAt (Elt F) (Rect.unit (s := S16x33) (k0_off16 i) S1x1.size (k0_off16_inb i)).toLoadRect xt1 (Shape.Idx.first (numel1_S1x1.symm ▸ Nat.one_pos))) := s_chk _ hs1.le
    simp only [cc0_ffn_eq_skeleton]; unfold cc0_ffn_skel
    simp only [k0_part9_eq_skeleton, k0_part10_eq_skeleton, k0_part3_eq_skeleton, k0_part4_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%ds1, %fs1, -, HS1⟩, ⟨%ds2, %fs2, -, HS2⟩, HT0, HT1, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact hc0 | sl_exact hc1 | sl_exact hc2 | sl_exact hc3 | sl_exact k0_hw1 | sl_exact k0_hw2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; swap; · iexact H5
      ipureintro
      have hv0 := hs0.le
      refine Has.read ?_ _ _
      refine (full_p (hv := hv0) (hL := ?_) ..)
      refine one_p _ _ hv0 arg3 _ (hx := harg3.read_unread _) (h := ((p_one _ hv0).1).1 hc1) (hL := ?_) _ _ _ (ha := ?_) (hb := ?_) (hd := ?_)
      rotate_left
      · exact (View.readCov_full arg10.view _ _ _ _).trans (congrArg k0_pay13 ((View.readAt_full arg5.view _ _).trans (harg5.read_unread _)))
      · exact (View.readCov_full arg11.view _ _ _ _).trans (congrArg k0_pay14 ((View.readAt_full arg6.view _ _).trans (harg6.read_unread _)))
      · exact (View.readCov_full arg12.view _ _ _ _).trans (congrArg k0_pay15 ((View.readAt_full arg7.view _ _).trans (harg7.read_unread _)))
      refine two_p _ _ hv0 arg3 _ (hx := harg3.read_unread _) (h := ((p_two _ hv0).1).1 hc0) (hL := ?_) _ _ _ (ha := ?_) (hb := ?_) (hd := ?_)
      rotate_left
      · exact (View.readCov_full arg10.view _ _ _ _).trans (congrArg k0_pay13 ((View.readAt_full arg5.view _ _).trans (harg5.read_unread _)))
      · exact (View.readCov_full arg11.view _ _ _ _).trans (congrArg k0_pay14 ((View.readAt_full arg6.view _ _).trans (harg6.read_unread _)))
      · exact (View.readCov_full arg12.view _ _ _ _).trans (congrArg k0_pay15 ((View.readAt_full arg7.view _ _).trans (harg7.read_unread _)))
      refine base_p (hv := hv0) (hx := harg3.read_unread _) (hg := ?_) (hu := ?_) (hd := ?_) ..
      · exact (View.read_writes_full arg10.view _ _ _ _).trans (congrArg k0_pay13 ((View.readAt_full arg5.view _ _).trans (harg5.read_unread _)))
      · exact (View.read_writes_full arg11.view _ _ _ _).trans (congrArg k0_pay14 ((View.readAt_full arg6.view _ _).trans (harg6.read_unread _)))
      · exact (View.read_writes_full arg12.view _ _ _ _).trans (congrArg k0_pay15 ((View.readAt_full arg7.view _ _).trans (harg7.read_unread _)))
    isplitl [H6]
    · iexists _; isplitr; swap; · iexact H6
      ipureintro
      have hv1 := hs1.le
      refine Has.read ?_ _ _
      refine (full_s (hv := hv1) (hL := ?_) ..)
      refine no_one_s _ _ (fun h => hc3 (((s_one _ hv1).1).2 h)) ?_
      refine no_two_s _ _ (fun h => hc2 (((s_two _ hv1).1).2 h)) ?_
      refine base_s (hv := hv1) (hx := harg4.read_unread _) (hg := ?_) (hu := ?_) (hd := ?_) ..
      · exact (View.read_writes_full arg10.view _ _ _ _).trans (congrArg k0_pay13 ((View.readAt_full arg5.view _ _).trans (harg5.read_unread _)))
      · exact (View.read_writes_full arg11.view _ _ _ _).trans (congrArg k0_pay14 ((View.readAt_full arg6.view _ _).trans (harg6.read_unread _)))
      · exact (View.read_writes_full arg12.view _ _ _ _).trans (congrArg k0_pay15 ((View.readAt_full arg7.view _ _).trans (harg7.read_unread _)))
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HT0]; · iexact HT0
    iexact HT1

set_option maxHeartbeats 4000000 in
theorem run_YYNY (c : Dev nD) (i : grid0.Coords) (arg3 : Memref sig .tc .vmem S1x768x1152 .bf16) (harg3 : arg3.IsWhole) (arg4 : Memref sig .tc .vmem S1x1536x1152 .bf16) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S1x768x1024 .bf16) (harg8 : arg8.IsWhole) (arg9 : Memref sig .tc .vmem S1x1536x1024 .bf16) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S512x1024 .bf16) (harg12 : arg12.IsWhole)
    (x0 : Vec F S1x768x1152 .bf16) (x1 : Vec F S1x1536x1152 .bf16) (x2 : Vec F S1x1024x512 .f32) (x3 : Vec F S1x1024x512 .f32) (x4 : Vec F S1x512x1024 .f32) (xt0 : TbBuf0 (F := F) c tbM0_0) (xt1 : TbBuf0 (F := F) c tbM0_1)
    (hs0 : AtMost (tbM0_0.view.readAt (Elt F) (Rect.unit (s := S16x17) (k0_off1 i) S1x1.size (k0_off1_inb i)).toLoadRect xt0 (Shape.Idx.first (numel1_S1x1.symm ▸ Nat.one_pos))) 768) (hs1 : AtMost (tbM0_1.view.readAt (Elt F) (Rect.unit (s := S16x33) (k0_off16 i) S1x1.size (k0_off16_inb i)).toLoadRect xt1 (Shape.Idx.first (numel1_S1x1.symm ▸ Nat.one_pos))) 1536)
    (hc0 : cond0_0 i (tbM0_0.view.readAt (Elt F) (Rect.unit (s := S16x17) (k0_off1 i) S1x1.size (k0_off1_inb i)).toLoadRect xt0 (Shape.Idx.first (numel1_S1x1.symm ▸ Nat.one_pos)))) (hc1 : cond0_1 i (tbM0_0.view.readAt (Elt F) (Rect.unit (s := S16x17) (k0_off1 i) S1x1.size (k0_off1_inb i)).toLoadRect xt0 (Shape.Idx.first (numel1_S1x1.symm ▸ Nat.one_pos)))) (hc2 : ¬cond0_2 i (tbM0_1.view.readAt (Elt F) (Rect.unit (s := S16x33) (k0_off16 i) S1x1.size (k0_off16_inb i)).toLoadRect xt1 (Shape.Idx.first (numel1_S1x1.symm ▸ Nat.one_pos)))) (hc3 : cond0_3 i (tbM0_1.view.readAt (Elt F) (Rect.unit (s := S16x33) (k0_off16 i) S1x1.size (k0_off16_inb i)).toLoadRect xt1 (Shape.Idx.first (numel1_S1x1.symm ▸ Nat.one_pos)))) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (T8 (tiles (tbM0_0.view.readAt (Elt F) (Rect.unit (s := S16x17) (k0_off1 i) S1x1.size (k0_off1_inb i)).toLoadRect xt0 (Shape.Idx.first (numel1_S1x1.symm ▸ Nat.one_pos)))) (k0_pay16 i) x0 (k0_pay13 x2) (k0_pay14 x3) (k0_pay15 x4)) ∗ owns (c : Thread nD τ) arg9 fullShare (T9 (tiles (tbM0_1.view.readAt (Elt F) (Rect.unit (s := S16x33) (k0_off16 i) S1x1.size (k0_off16_inb i)).toLoadRect xt1 (Shape.Idx.first (numel1_S1x1.symm ▸ Nat.one_pos)))) (k0_pay16 i) x1 (k0_pay13 x2) (k0_pay14 x3) (k0_pay15 x4)) ∗ (∃ d, owns (c : Thread nD τ) arg10 fullShare d) ∗ (∃ d, owns (c : Thread nD τ) arg11 fullShare d) ∗ (∃ d, owns (c : Thread nD τ) arg12 fullShare d) ∗ tbPt0 c tbM0_0 xt0 ∗ tbPt0 c tbM0_1 xt1) -∗ K ⟨⟩))
          ⊢ wp frame (wpE (defs₀ (F := F)) Variants.none c none) E (cc0_ffn i tbM0_0 htbM0_0 tbM0_1 htbM0_1 arg3 harg3 arg4 harg4 arg5 harg5 arg6 harg6 arg7 harg7 arg8 harg8 arg9 harg9 arg10 harg10 arg11 harg11 arg12 harg12) K := by
    intro E K
    have k0_hw1 : k0_chk1 (tbM0_0.view.readAt (Elt F) (Rect.unit (s := S16x17) (k0_off1 i) S1x1.size (k0_off1_inb i)).toLoadRect xt0 (Shape.Idx.first (numel1_S1x1.symm ▸ Nat.one_pos))) := p_chk _ hs0.le
    have k0_hw2 : k0_chk2 (tbM0_1.view.readAt (Elt F) (Rect.unit (s := S16x33) (k0_off16 i) S1x1.size (k0_off16_inb i)).toLoadRect xt1 (Shape.Idx.first (numel1_S1x1.symm ▸ Nat.one_pos))) := s_chk _ hs1.le
    simp only [cc0_ffn_eq_skeleton]; unfold cc0_ffn_skel
    simp only [k0_part9_eq_skeleton, k0_part10_eq_skeleton, k0_part3_eq_skeleton, k0_part4_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%ds1, %fs1, -, HS1⟩, ⟨%ds2, %fs2, -, HS2⟩, HT0, HT1, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact hc0 | sl_exact hc1 | sl_exact hc2 | sl_exact hc3 | sl_exact k0_hw1 | sl_exact k0_hw2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; swap; · iexact H5
      ipureintro
      have hv0 := hs0.le
      refine Has.read ?_ _ _
      refine (full_p (hv := hv0) (hL := ?_) ..)
      refine one_p _ _ hv0 arg3 _ (hx := harg3.read_unread _) (h := ((p_one _ hv0).1).1 hc1) (hL := ?_) _ _ _ (ha := ?_) (hb := ?_) (hd := ?_)
      rotate_left
      · exact (View.readCov_full arg10.view _ _ _ _).trans (congrArg k0_pay13 ((View.readAt_full arg5.view _ _).trans (harg5.read_unread _)))
      · exact (View.readCov_full arg11.view _ _ _ _).trans (congrArg k0_pay14 ((View.readAt_full arg6.view _ _).trans (harg6.read_unread _)))
      · exact (View.readCov_full arg12.view _ _ _ _).trans (congrArg k0_pay15 ((View.readAt_full arg7.view _ _).trans (harg7.read_unread _)))
      refine two_p _ _ hv0 arg3 _ (hx := harg3.read_unread _) (h := ((p_two _ hv0).1).1 hc0) (hL := ?_) _ _ _ (ha := ?_) (hb := ?_) (hd := ?_)
      rotate_left
      · exact (View.readCov_full arg10.view _ _ _ _).trans (congrArg k0_pay13 ((View.readAt_full arg5.view _ _).trans (harg5.read_unread _)))
      · exact (View.readCov_full arg11.view _ _ _ _).trans (congrArg k0_pay14 ((View.readAt_full arg6.view _ _).trans (harg6.read_unread _)))
      · exact (View.readCov_full arg12.view _ _ _ _).trans (congrArg k0_pay15 ((View.readAt_full arg7.view _ _).trans (harg7.read_unread _)))
      refine base_p (hv := hv0) (hx := harg3.read_unread _) (hg := ?_) (hu := ?_) (hd := ?_) ..
      · exact (View.read_writes_full arg10.view _ _ _ _).trans (congrArg k0_pay13 ((View.readAt_full arg5.view _ _).trans (harg5.read_unread _)))
      · exact (View.read_writes_full arg11.view _ _ _ _).trans (congrArg k0_pay14 ((View.readAt_full arg6.view _ _).trans (harg6.read_unread _)))
      · exact (View.read_writes_full arg12.view _ _ _ _).trans (congrArg k0_pay15 ((View.readAt_full arg7.view _ _).trans (harg7.read_unread _)))
    isplitl [H6]
    · iexists _; isplitr; swap; · iexact H6
      ipureintro
      have hv1 := hs1.le
      refine Has.read ?_ _ _
      refine (full_s (hv := hv1) (hL := ?_) ..)
      refine one_s _ _ hv1 arg4 _ (hx := harg4.read_unread _) (h := ((s_one _ hv1).1).1 hc3) (hL := ?_) _ _ _ (ha := ?_) (hb := ?_) (hd := ?_)
      rotate_left
      · exact (View.readCov_full arg10.view _ _ _ _).trans (congrArg k0_pay13 ((View.readAt_full arg5.view _ _).trans (harg5.read_unread _)))
      · exact (View.readCov_full arg11.view _ _ _ _).trans (congrArg k0_pay14 ((View.readAt_full arg6.view _ _).trans (harg6.read_unread _)))
      · exact (View.readCov_full arg12.view _ _ _ _).trans (congrArg k0_pay15 ((View.readAt_full arg7.view _ _).trans (harg7.read_unread _)))
      refine no_two_s _ _ (fun h => hc2 (((s_two _ hv1).1).2 h)) ?_
      refine base_s (hv := hv1) (hx := harg4.read_unread _) (hg := ?_) (hu := ?_) (hd := ?_) ..
      · exact (View.read_writes_full arg10.view _ _ _ _).trans (congrArg k0_pay13 ((View.readAt_full arg5.view _ _).trans (harg5.read_unread _)))
      · exact (View.read_writes_full arg11.view _ _ _ _).trans (congrArg k0_pay14 ((View.readAt_full arg6.view _ _).trans (harg6.read_unread _)))
      · exact (View.read_writes_full arg12.view _ _ _ _).trans (congrArg k0_pay15 ((View.readAt_full arg7.view _ _).trans (harg7.read_unread _)))
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HT0]; · iexact HT0
    iexact HT1

set_option maxHeartbeats 4000000 in
theorem run_YYYN (c : Dev nD) (i : grid0.Coords) (arg3 : Memref sig .tc .vmem S1x768x1152 .bf16) (harg3 : arg3.IsWhole) (arg4 : Memref sig .tc .vmem S1x1536x1152 .bf16) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S1x768x1024 .bf16) (harg8 : arg8.IsWhole) (arg9 : Memref sig .tc .vmem S1x1536x1024 .bf16) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S512x1024 .bf16) (harg12 : arg12.IsWhole)
    (x0 : Vec F S1x768x1152 .bf16) (x1 : Vec F S1x1536x1152 .bf16) (x2 : Vec F S1x1024x512 .f32) (x3 : Vec F S1x1024x512 .f32) (x4 : Vec F S1x512x1024 .f32) (xt0 : TbBuf0 (F := F) c tbM0_0) (xt1 : TbBuf0 (F := F) c tbM0_1)
    (hs0 : AtMost (tbM0_0.view.readAt (Elt F) (Rect.unit (s := S16x17) (k0_off1 i) S1x1.size (k0_off1_inb i)).toLoadRect xt0 (Shape.Idx.first (numel1_S1x1.symm ▸ Nat.one_pos))) 768) (hs1 : AtMost (tbM0_1.view.readAt (Elt F) (Rect.unit (s := S16x33) (k0_off16 i) S1x1.size (k0_off16_inb i)).toLoadRect xt1 (Shape.Idx.first (numel1_S1x1.symm ▸ Nat.one_pos))) 1536)
    (hc0 : cond0_0 i (tbM0_0.view.readAt (Elt F) (Rect.unit (s := S16x17) (k0_off1 i) S1x1.size (k0_off1_inb i)).toLoadRect xt0 (Shape.Idx.first (numel1_S1x1.symm ▸ Nat.one_pos)))) (hc1 : cond0_1 i (tbM0_0.view.readAt (Elt F) (Rect.unit (s := S16x17) (k0_off1 i) S1x1.size (k0_off1_inb i)).toLoadRect xt0 (Shape.Idx.first (numel1_S1x1.symm ▸ Nat.one_pos)))) (hc2 : cond0_2 i (tbM0_1.view.readAt (Elt F) (Rect.unit (s := S16x33) (k0_off16 i) S1x1.size (k0_off16_inb i)).toLoadRect xt1 (Shape.Idx.first (numel1_S1x1.symm ▸ Nat.one_pos)))) (hc3 : ¬cond0_3 i (tbM0_1.view.readAt (Elt F) (Rect.unit (s := S16x33) (k0_off16 i) S1x1.size (k0_off16_inb i)).toLoadRect xt1 (Shape.Idx.first (numel1_S1x1.symm ▸ Nat.one_pos)))) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (T8 (tiles (tbM0_0.view.readAt (Elt F) (Rect.unit (s := S16x17) (k0_off1 i) S1x1.size (k0_off1_inb i)).toLoadRect xt0 (Shape.Idx.first (numel1_S1x1.symm ▸ Nat.one_pos)))) (k0_pay16 i) x0 (k0_pay13 x2) (k0_pay14 x3) (k0_pay15 x4)) ∗ owns (c : Thread nD τ) arg9 fullShare (T9 (tiles (tbM0_1.view.readAt (Elt F) (Rect.unit (s := S16x33) (k0_off16 i) S1x1.size (k0_off16_inb i)).toLoadRect xt1 (Shape.Idx.first (numel1_S1x1.symm ▸ Nat.one_pos)))) (k0_pay16 i) x1 (k0_pay13 x2) (k0_pay14 x3) (k0_pay15 x4)) ∗ (∃ d, owns (c : Thread nD τ) arg10 fullShare d) ∗ (∃ d, owns (c : Thread nD τ) arg11 fullShare d) ∗ (∃ d, owns (c : Thread nD τ) arg12 fullShare d) ∗ tbPt0 c tbM0_0 xt0 ∗ tbPt0 c tbM0_1 xt1) -∗ K ⟨⟩))
          ⊢ wp frame (wpE (defs₀ (F := F)) Variants.none c none) E (cc0_ffn i tbM0_0 htbM0_0 tbM0_1 htbM0_1 arg3 harg3 arg4 harg4 arg5 harg5 arg6 harg6 arg7 harg7 arg8 harg8 arg9 harg9 arg10 harg10 arg11 harg11 arg12 harg12) K := by
    intro E K
    have k0_hw1 : k0_chk1 (tbM0_0.view.readAt (Elt F) (Rect.unit (s := S16x17) (k0_off1 i) S1x1.size (k0_off1_inb i)).toLoadRect xt0 (Shape.Idx.first (numel1_S1x1.symm ▸ Nat.one_pos))) := p_chk _ hs0.le
    have k0_hw2 : k0_chk2 (tbM0_1.view.readAt (Elt F) (Rect.unit (s := S16x33) (k0_off16 i) S1x1.size (k0_off16_inb i)).toLoadRect xt1 (Shape.Idx.first (numel1_S1x1.symm ▸ Nat.one_pos))) := s_chk _ hs1.le
    simp only [cc0_ffn_eq_skeleton]; unfold cc0_ffn_skel
    simp only [k0_part9_eq_skeleton, k0_part10_eq_skeleton, k0_part3_eq_skeleton, k0_part4_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%ds1, %fs1, -, HS1⟩, ⟨%ds2, %fs2, -, HS2⟩, HT0, HT1, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact hc0 | sl_exact hc1 | sl_exact hc2 | sl_exact hc3 | sl_exact k0_hw1 | sl_exact k0_hw2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; swap; · iexact H5
      ipureintro
      have hv0 := hs0.le
      refine Has.read ?_ _ _
      refine (full_p (hv := hv0) (hL := ?_) ..)
      refine one_p _ _ hv0 arg3 _ (hx := harg3.read_unread _) (h := ((p_one _ hv0).1).1 hc1) (hL := ?_) _ _ _ (ha := ?_) (hb := ?_) (hd := ?_)
      rotate_left
      · exact (View.readCov_full arg10.view _ _ _ _).trans (congrArg k0_pay13 ((View.readAt_full arg5.view _ _).trans (harg5.read_unread _)))
      · exact (View.readCov_full arg11.view _ _ _ _).trans (congrArg k0_pay14 ((View.readAt_full arg6.view _ _).trans (harg6.read_unread _)))
      · exact (View.readCov_full arg12.view _ _ _ _).trans (congrArg k0_pay15 ((View.readAt_full arg7.view _ _).trans (harg7.read_unread _)))
      refine two_p _ _ hv0 arg3 _ (hx := harg3.read_unread _) (h := ((p_two _ hv0).1).1 hc0) (hL := ?_) _ _ _ (ha := ?_) (hb := ?_) (hd := ?_)
      rotate_left
      · exact (View.readCov_full arg10.view _ _ _ _).trans (congrArg k0_pay13 ((View.readAt_full arg5.view _ _).trans (harg5.read_unread _)))
      · exact (View.readCov_full arg11.view _ _ _ _).trans (congrArg k0_pay14 ((View.readAt_full arg6.view _ _).trans (harg6.read_unread _)))
      · exact (View.readCov_full arg12.view _ _ _ _).trans (congrArg k0_pay15 ((View.readAt_full arg7.view _ _).trans (harg7.read_unread _)))
      refine base_p (hv := hv0) (hx := harg3.read_unread _) (hg := ?_) (hu := ?_) (hd := ?_) ..
      · exact (View.read_writes_full arg10.view _ _ _ _).trans (congrArg k0_pay13 ((View.readAt_full arg5.view _ _).trans (harg5.read_unread _)))
      · exact (View.read_writes_full arg11.view _ _ _ _).trans (congrArg k0_pay14 ((View.readAt_full arg6.view _ _).trans (harg6.read_unread _)))
      · exact (View.read_writes_full arg12.view _ _ _ _).trans (congrArg k0_pay15 ((View.readAt_full arg7.view _ _).trans (harg7.read_unread _)))
    isplitl [H6]
    · iexists _; isplitr; swap; · iexact H6
      ipureintro
      have hv1 := hs1.le
      refine Has.read ?_ _ _
      refine (full_s (hv := hv1) (hL := ?_) ..)
      refine no_one_s _ _ (fun h => hc3 (((s_one _ hv1).1).2 h)) ?_
      refine two_s _ _ hv1 arg4 _ (hx := harg4.read_unread _) (h := ((s_two _ hv1).1).1 hc2) (hL := ?_) _ _ _ (ha := ?_) (hb := ?_) (hd := ?_)
      rotate_left
      · exact (View.readCov_full arg10.view _ _ _ _).trans (congrArg k0_pay13 ((View.readAt_full arg5.view _ _).trans (harg5.read_unread _)))
      · exact (View.readCov_full arg11.view _ _ _ _).trans (congrArg k0_pay14 ((View.readAt_full arg6.view _ _).trans (harg6.read_unread _)))
      · exact (View.readCov_full arg12.view _ _ _ _).trans (congrArg k0_pay15 ((View.readAt_full arg7.view _ _).trans (harg7.read_unread _)))
      refine base_s (hv := hv1) (hx := harg4.read_unread _) (hg := ?_) (hu := ?_) (hd := ?_) ..
      · exact (View.read_writes_full arg10.view _ _ _ _).trans (congrArg k0_pay13 ((View.readAt_full arg5.view _ _).trans (harg5.read_unread _)))
      · exact (View.read_writes_full arg11.view _ _ _ _).trans (congrArg k0_pay14 ((View.readAt_full arg6.view _ _).trans (harg6.read_unread _)))
      · exact (View.read_writes_full arg12.view _ _ _ _).trans (congrArg k0_pay15 ((View.readAt_full arg7.view _ _).trans (harg7.read_unread _)))
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HT0]; · iexact HT0
    iexact HT1

set_option maxHeartbeats 4000000 in
theorem run_YYYY (c : Dev nD) (i : grid0.Coords) (arg3 : Memref sig .tc .vmem S1x768x1152 .bf16) (harg3 : arg3.IsWhole) (arg4 : Memref sig .tc .vmem S1x1536x1152 .bf16) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S1x768x1024 .bf16) (harg8 : arg8.IsWhole) (arg9 : Memref sig .tc .vmem S1x1536x1024 .bf16) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S512x1024 .bf16) (harg12 : arg12.IsWhole)
    (x0 : Vec F S1x768x1152 .bf16) (x1 : Vec F S1x1536x1152 .bf16) (x2 : Vec F S1x1024x512 .f32) (x3 : Vec F S1x1024x512 .f32) (x4 : Vec F S1x512x1024 .f32) (xt0 : TbBuf0 (F := F) c tbM0_0) (xt1 : TbBuf0 (F := F) c tbM0_1)
    (hs0 : AtMost (tbM0_0.view.readAt (Elt F) (Rect.unit (s := S16x17) (k0_off1 i) S1x1.size (k0_off1_inb i)).toLoadRect xt0 (Shape.Idx.first (numel1_S1x1.symm ▸ Nat.one_pos))) 768) (hs1 : AtMost (tbM0_1.view.readAt (Elt F) (Rect.unit (s := S16x33) (k0_off16 i) S1x1.size (k0_off16_inb i)).toLoadRect xt1 (Shape.Idx.first (numel1_S1x1.symm ▸ Nat.one_pos))) 1536)
    (hc0 : cond0_0 i (tbM0_0.view.readAt (Elt F) (Rect.unit (s := S16x17) (k0_off1 i) S1x1.size (k0_off1_inb i)).toLoadRect xt0 (Shape.Idx.first (numel1_S1x1.symm ▸ Nat.one_pos)))) (hc1 : cond0_1 i (tbM0_0.view.readAt (Elt F) (Rect.unit (s := S16x17) (k0_off1 i) S1x1.size (k0_off1_inb i)).toLoadRect xt0 (Shape.Idx.first (numel1_S1x1.symm ▸ Nat.one_pos)))) (hc2 : cond0_2 i (tbM0_1.view.readAt (Elt F) (Rect.unit (s := S16x33) (k0_off16 i) S1x1.size (k0_off16_inb i)).toLoadRect xt1 (Shape.Idx.first (numel1_S1x1.symm ▸ Nat.one_pos)))) (hc3 : cond0_3 i (tbM0_1.view.readAt (Elt F) (Rect.unit (s := S16x33) (k0_off16 i) S1x1.size (k0_off16_inb i)).toLoadRect xt1 (Shape.Idx.first (numel1_S1x1.symm ▸ Nat.one_pos)))) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (T8 (tiles (tbM0_0.view.readAt (Elt F) (Rect.unit (s := S16x17) (k0_off1 i) S1x1.size (k0_off1_inb i)).toLoadRect xt0 (Shape.Idx.first (numel1_S1x1.symm ▸ Nat.one_pos)))) (k0_pay16 i) x0 (k0_pay13 x2) (k0_pay14 x3) (k0_pay15 x4)) ∗ owns (c : Thread nD τ) arg9 fullShare (T9 (tiles (tbM0_1.view.readAt (Elt F) (Rect.unit (s := S16x33) (k0_off16 i) S1x1.size (k0_off16_inb i)).toLoadRect xt1 (Shape.Idx.first (numel1_S1x1.symm ▸ Nat.one_pos)))) (k0_pay16 i) x1 (k0_pay13 x2) (k0_pay14 x3) (k0_pay15 x4)) ∗ (∃ d, owns (c : Thread nD τ) arg10 fullShare d) ∗ (∃ d, owns (c : Thread nD τ) arg11 fullShare d) ∗ (∃ d, owns (c : Thread nD τ) arg12 fullShare d) ∗ tbPt0 c tbM0_0 xt0 ∗ tbPt0 c tbM0_1 xt1) -∗ K ⟨⟩))
          ⊢ wp frame (wpE (defs₀ (F := F)) Variants.none c none) E (cc0_ffn i tbM0_0 htbM0_0 tbM0_1 htbM0_1 arg3 harg3 arg4 harg4 arg5 harg5 arg6 harg6 arg7 harg7 arg8 harg8 arg9 harg9 arg10 harg10 arg11 harg11 arg12 harg12) K := by
    intro E K
    have k0_hw1 : k0_chk1 (tbM0_0.view.readAt (Elt F) (Rect.unit (s := S16x17) (k0_off1 i) S1x1.size (k0_off1_inb i)).toLoadRect xt0 (Shape.Idx.first (numel1_S1x1.symm ▸ Nat.one_pos))) := p_chk _ hs0.le
    have k0_hw2 : k0_chk2 (tbM0_1.view.readAt (Elt F) (Rect.unit (s := S16x33) (k0_off16 i) S1x1.size (k0_off16_inb i)).toLoadRect xt1 (Shape.Idx.first (numel1_S1x1.symm ▸ Nat.one_pos))) := s_chk _ hs1.le
    simp only [cc0_ffn_eq_skeleton]; unfold cc0_ffn_skel
    simp only [k0_part9_eq_skeleton, k0_part10_eq_skeleton, k0_part3_eq_skeleton, k0_part4_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%ds1, %fs1, -, HS1⟩, ⟨%ds2, %fs2, -, HS2⟩, HT0, HT1, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact hc0 | sl_exact hc1 | sl_exact hc2 | sl_exact hc3 | sl_exact k0_hw1 | sl_exact k0_hw2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; swap; · iexact H5
      ipureintro
      have hv0 := hs0.le
      refine Has.read ?_ _ _
      refine (full_p (hv := hv0) (hL := ?_) ..)
      refine one_p _ _ hv0 arg3 _ (hx := harg3.read_unread _) (h := ((p_one _ hv0).1).1 hc1) (hL := ?_) _ _ _ (ha := ?_) (hb := ?_) (hd := ?_)
      rotate_left
      · exact (View.readCov_full arg10.view _ _ _ _).trans (congrArg k0_pay13 ((View.readAt_full arg5.view _ _).trans (harg5.read_unread _)))
      · exact (View.readCov_full arg11.view _ _ _ _).trans (congrArg k0_pay14 ((View.readAt_full arg6.view _ _).trans (harg6.read_unread _)))
      · exact (View.readCov_full arg12.view _ _ _ _).trans (congrArg k0_pay15 ((View.readAt_full arg7.view _ _).trans (harg7.read_unread _)))
      refine two_p _ _ hv0 arg3 _ (hx := harg3.read_unread _) (h := ((p_two _ hv0).1).1 hc0) (hL := ?_) _ _ _ (ha := ?_) (hb := ?_) (hd := ?_)
      rotate_left
      · exact (View.readCov_full arg10.view _ _ _ _).trans (congrArg k0_pay13 ((View.readAt_full arg5.view _ _).trans (harg5.read_unread _)))
      · exact (View.readCov_full arg11.view _ _ _ _).trans (congrArg k0_pay14 ((View.readAt_full arg6.view _ _).trans (harg6.read_unread _)))
      · exact (View.readCov_full arg12.view _ _ _ _).trans (congrArg k0_pay15 ((View.readAt_full arg7.view _ _).trans (harg7.read_unread _)))
      refine base_p (hv := hv0) (hx := harg3.read_unread _) (hg := ?_) (hu := ?_) (hd := ?_) ..
      · exact (View.read_writes_full arg10.view _ _ _ _).trans (congrArg k0_pay13 ((View.readAt_full arg5.view _ _).trans (harg5.read_unread _)))
      · exact (View.read_writes_full arg11.view _ _ _ _).trans (congrArg k0_pay14 ((View.readAt_full arg6.view _ _).trans (harg6.read_unread _)))
      · exact (View.read_writes_full arg12.view _ _ _ _).trans (congrArg k0_pay15 ((View.readAt_full arg7.view _ _).trans (harg7.read_unread _)))
    isplitl [H6]
    · iexists _; isplitr; swap; · iexact H6
      ipureintro
      have hv1 := hs1.le
      refine Has.read ?_ _ _
      refine (full_s (hv := hv1) (hL := ?_) ..)
      refine one_s _ _ hv1 arg4 _ (hx := harg4.read_unread _) (h := ((s_one _ hv1).1).1 hc3) (hL := ?_) _ _ _ (ha := ?_) (hb := ?_) (hd := ?_)
      rotate_left
      · exact (View.readCov_full arg10.view _ _ _ _).trans (congrArg k0_pay13 ((View.readAt_full arg5.view _ _).trans (harg5.read_unread _)))
      · exact (View.readCov_full arg11.view _ _ _ _).trans (congrArg k0_pay14 ((View.readAt_full arg6.view _ _).trans (harg6.read_unread _)))
      · exact (View.readCov_full arg12.view _ _ _ _).trans (congrArg k0_pay15 ((View.readAt_full arg7.view _ _).trans (harg7.read_unread _)))
      refine two_s _ _ hv1 arg4 _ (hx := harg4.read_unread _) (h := ((s_two _ hv1).1).1 hc2) (hL := ?_) _ _ _ (ha := ?_) (hb := ?_) (hd := ?_)
      rotate_left
      · exact (View.readCov_full arg10.view _ _ _ _).trans (congrArg k0_pay13 ((View.readAt_full arg5.view _ _).trans (harg5.read_unread _)))
      · exact (View.readCov_full arg11.view _ _ _ _).trans (congrArg k0_pay14 ((View.readAt_full arg6.view _ _).trans (harg6.read_unread _)))
      · exact (View.readCov_full arg12.view _ _ _ _).trans (congrArg k0_pay15 ((View.readAt_full arg7.view _ _).trans (harg7.read_unread _)))
      refine base_s (hv := hv1) (hx := harg4.read_unread _) (hg := ?_) (hu := ?_) (hd := ?_) ..
      · exact (View.read_writes_full arg10.view _ _ _ _).trans (congrArg k0_pay13 ((View.readAt_full arg5.view _ _).trans (harg5.read_unread _)))
      · exact (View.read_writes_full arg11.view _ _ _ _).trans (congrArg k0_pay14 ((View.readAt_full arg6.view _ _).trans (harg6.read_unread _)))
      · exact (View.read_writes_full arg12.view _ _ _ _).trans (congrArg k0_pay15 ((View.readAt_full arg7.view _ _).trans (harg7.read_unread _)))
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HT0]; · iexact HT0
    iexact HT1

end Cert.Proof.Ffn

end
-- ==== Proof.Ffn.Body.lean ====
/-
  One grid point of the feed-forward call: what the body leaves in its two output blocks, whatever the conditions say.
-/
module

public import proofs.«01_k».proof.Proof.Ffn.BodyNN
public import proofs.«01_k».proof.Proof.Ffn.BodyNY
public import proofs.«01_k».proof.Proof.Ffn.BodyYN
public import proofs.«01_k».proof.Proof.Ffn.BodyYY

@[expose] public section

set_option maxRecDepth 16384

noncomputable section

namespace Cert.Proof.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- What one grid point leaves in the two output blocks. -/
theorem run_all (c : Dev nD) (i : grid0.Coords) (arg3 : Memref sig .tc .vmem S1x768x1152 .bf16) (harg3 : arg3.IsWhole) (arg4 : Memref sig .tc .vmem S1x1536x1152 .bf16) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S1x768x1024 .bf16) (harg8 : arg8.IsWhole) (arg9 : Memref sig .tc .vmem S1x1536x1024 .bf16) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S512x1024 .bf16) (harg12 : arg12.IsWhole)
    (x0 : Vec F S1x768x1152 .bf16) (x1 : Vec F S1x1536x1152 .bf16) (x2 : Vec F S1x1024x512 .f32) (x3 : Vec F S1x1024x512 .f32) (x4 : Vec F S1x512x1024 .f32) (xt0 : TbBuf0 (F := F) c tbM0_0) (xt1 : TbBuf0 (F := F) c tbM0_1)
    (hs0 : AtMost (tbM0_0.view.readAt (Elt F) (Rect.unit (s := S16x17) (k0_off1 i) S1x1.size (k0_off1_inb i)).toLoadRect xt0 (Shape.Idx.first (numel1_S1x1.symm ▸ Nat.one_pos))) 768) (hs1 : AtMost (tbM0_1.view.readAt (Elt F) (Rect.unit (s := S16x33) (k0_off16 i) S1x1.size (k0_off16_inb i)).toLoadRect xt1 (Shape.Idx.first (numel1_S1x1.symm ▸ Nat.one_pos))) 1536) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (T8 (tiles (tbM0_0.view.readAt (Elt F) (Rect.unit (s := S16x17) (k0_off1 i) S1x1.size (k0_off1_inb i)).toLoadRect xt0 (Shape.Idx.first (numel1_S1x1.symm ▸ Nat.one_pos)))) (k0_pay16 i) x0 (k0_pay13 x2) (k0_pay14 x3) (k0_pay15 x4)) ∗ owns (c : Thread nD τ) arg9 fullShare (T9 (tiles (tbM0_1.view.readAt (Elt F) (Rect.unit (s := S16x33) (k0_off16 i) S1x1.size (k0_off16_inb i)).toLoadRect xt1 (Shape.Idx.first (numel1_S1x1.symm ▸ Nat.one_pos)))) (k0_pay16 i) x1 (k0_pay13 x2) (k0_pay14 x3) (k0_pay15 x4)) ∗ (∃ d, owns (c : Thread nD τ) arg10 fullShare d) ∗ (∃ d, owns (c : Thread nD τ) arg11 fullShare d) ∗ (∃ d, owns (c : Thread nD τ) arg12 fullShare d) ∗ tbPt0 c tbM0_0 xt0 ∗ tbPt0 c tbM0_1 xt1) -∗ K ⟨⟩))
          ⊢ wp frame (wpE (defs₀ (F := F)) Variants.none c none) E (cc0_ffn i tbM0_0 htbM0_0 tbM0_1 htbM0_1 arg3 harg3 arg4 harg4 arg5 harg5 arg6 harg6 arg7 harg7 arg8 harg8 arg9 harg9 arg10 harg10 arg11 harg11 arg12 harg12) K := by
  by_cases hc0 : cond0_0 i (tbM0_0.view.readAt (Elt F) (Rect.unit (s := S16x17) (k0_off1 i) S1x1.size (k0_off1_inb i)).toLoadRect xt0 (Shape.Idx.first (numel1_S1x1.symm ▸ Nat.one_pos))) <;> by_cases hc1 : cond0_1 i (tbM0_0.view.readAt (Elt F) (Rect.unit (s := S16x17) (k0_off1 i) S1x1.size (k0_off1_inb i)).toLoadRect xt0 (Shape.Idx.first (numel1_S1x1.symm ▸ Nat.one_pos))) <;> by_cases hc2 : cond0_2 i (tbM0_1.view.readAt (Elt F) (Rect.unit (s := S16x33) (k0_off16 i) S1x1.size (k0_off16_inb i)).toLoadRect xt1 (Shape.Idx.first (numel1_S1x1.symm ▸ Nat.one_pos))) <;> by_cases hc3 : cond0_3 i (tbM0_1.view.readAt (Elt F) (Rect.unit (s := S16x33) (k0_off16 i) S1x1.size (k0_off16_inb i)).toLoadRect xt1 (Shape.Idx.first (numel1_S1x1.symm ▸ Nat.one_pos)))
  · exact run_YYYY c i arg3 harg3 arg4 harg4 arg5 harg5 arg6 harg6 arg7 harg7 arg8 harg8 arg9 harg9 arg10 harg10 arg11 harg11 arg12 harg12 x0 x1 x2 x3 x4 xt0 xt1 hs0 hs1 hc0 hc1 hc2 hc3
  · exact run_YYYN c i arg3 harg3 arg4 harg4 arg5 harg5 arg6 harg6 arg7 harg7 arg8 harg8 arg9 harg9 arg10 harg10 arg11 harg11 arg12 harg12 x0 x1 x2 x3 x4 xt0 xt1 hs0 hs1 hc0 hc1 hc2 hc3
  · exact run_YYNY c i arg3 harg3 arg4 harg4 arg5 harg5 arg6 harg6 arg7 harg7 arg8 harg8 arg9 harg9 arg10 harg10 arg11 harg11 arg12 harg12 x0 x1 x2 x3 x4 xt0 xt1 hs0 hs1 hc0 hc1 hc2 hc3
  · exact run_YYNN c i arg3 harg3 arg4 harg4 arg5 harg5 arg6 harg6 arg7 harg7 arg8 harg8 arg9 harg9 arg10 harg10 arg11 harg11 arg12 harg12 x0 x1 x2 x3 x4 xt0 xt1 hs0 hs1 hc0 hc1 hc2 hc3
  · exact run_YNYY c i arg3 harg3 arg4 harg4 arg5 harg5 arg6 harg6 arg7 harg7 arg8 harg8 arg9 harg9 arg10 harg10 arg11 harg11 arg12 harg12 x0 x1 x2 x3 x4 xt0 xt1 hs0 hs1 hc0 hc1 hc2 hc3
  · exact run_YNYN c i arg3 harg3 arg4 harg4 arg5 harg5 arg6 harg6 arg7 harg7 arg8 harg8 arg9 harg9 arg10 harg10 arg11 harg11 arg12 harg12 x0 x1 x2 x3 x4 xt0 xt1 hs0 hs1 hc0 hc1 hc2 hc3
  · exact run_YNNY c i arg3 harg3 arg4 harg4 arg5 harg5 arg6 harg6 arg7 harg7 arg8 harg8 arg9 harg9 arg10 harg10 arg11 harg11 arg12 harg12 x0 x1 x2 x3 x4 xt0 xt1 hs0 hs1 hc0 hc1 hc2 hc3
  · exact run_YNNN c i arg3 harg3 arg4 harg4 arg5 harg5 arg6 harg6 arg7 harg7 arg8 harg8 arg9 harg9 arg10 harg10 arg11 harg11 arg12 harg12 x0 x1 x2 x3 x4 xt0 xt1 hs0 hs1 hc0 hc1 hc2 hc3
  · exact run_NYYY c i arg3 harg3 arg4 harg4 arg5 harg5 arg6 harg6 arg7 harg7 arg8 harg8 arg9 harg9 arg10 harg10 arg11 harg11 arg12 harg12 x0 x1 x2 x3 x4 xt0 xt1 hs0 hs1 hc0 hc1 hc2 hc3
  · exact run_NYYN c i arg3 harg3 arg4 harg4 arg5 harg5 arg6 harg6 arg7 harg7 arg8 harg8 arg9 harg9 arg10 harg10 arg11 harg11 arg12 harg12 x0 x1 x2 x3 x4 xt0 xt1 hs0 hs1 hc0 hc1 hc2 hc3
  · exact run_NYNY c i arg3 harg3 arg4 harg4 arg5 harg5 arg6 harg6 arg7 harg7 arg8 harg8 arg9 harg9 arg10 harg10 arg11 harg11 arg12 harg12 x0 x1 x2 x3 x4 xt0 xt1 hs0 hs1 hc0 hc1 hc2 hc3
  · exact run_NYNN c i arg3 harg3 arg4 harg4 arg5 harg5 arg6 harg6 arg7 harg7 arg8 harg8 arg9 harg9 arg10 harg10 arg11 harg11 arg12 harg12 x0 x1 x2 x3 x4 xt0 xt1 hs0 hs1 hc0 hc1 hc2 hc3
  · exact run_NNYY c i arg3 harg3 arg4 harg4 arg5 harg5 arg6 harg6 arg7 harg7 arg8 harg8 arg9 harg9 arg10 harg10 arg11 harg11 arg12 harg12 x0 x1 x2 x3 x4 xt0 xt1 hs0 hs1 hc0 hc1 hc2 hc3
  · exact run_NNYN c i arg3 harg3 arg4 harg4 arg5 harg5 arg6 harg6 arg7 harg7 arg8 harg8 arg9 harg9 arg10 harg10 arg11 harg11 arg12 harg12 x0 x1 x2 x3 x4 xt0 xt1 hs0 hs1 hc0 hc1 hc2 hc3
  · exact run_NNNY c i arg3 harg3 arg4 harg4 arg5 harg5 arg6 harg6 arg7 harg7 arg8 harg8 arg9 harg9 arg10 harg10 arg11 harg11 arg12 harg12 x0 x1 x2 x3 x4 xt0 xt1 hs0 hs1 hc0 hc1 hc2 hc3
  · exact run_NNNN c i arg3 harg3 arg4 harg4 arg5 harg5 arg6 harg6 arg7 harg7 arg8 harg8 arg9 harg9 arg10 harg10 arg11 harg11 arg12 harg12 x0 x1 x2 x3 x4 xt0 xt1 hs0 hs1 hc0 hc1 hc2 hc3

end Cert.Proof.Ffn

end
-- ==== Proof.Ffn.Cert.lean ====
/-
  The whole feed-forward call: it runs, leaves its arguments alone, and its two results are, block by block, the rows each grid
  point computes.
-/
module

public import proofs.«01_k».proof.Proof.Ffn.Body

@[expose] public section

set_option maxRecDepth 16384

noncomputable section

namespace Cert.Proof.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An expert's count of prompt rows and of sample rows. -/
abbrev count8 (i : grid0.Coords) : BitVec 32 := (tbM0_0.view.readAt (Elt F) (Rect.unit (s := S16x17) (k0_off1 i) S1x1.size (k0_off1_inb i)).toLoadRect (tbl m 0) (Shape.Idx.first (numel1_S1x1.symm ▸ Nat.one_pos)))
abbrev count9 (i : grid0.Coords) : BitVec 32 := (tbM0_1.view.readAt (Elt F) (Rect.unit (s := S16x33) (k0_off16 i) S1x1.size (k0_off16_inb i)).toLoadRect (tbl m 1) (Shape.Idx.first (numel1_S1x1.symm ▸ Nat.one_pos)))

/-- Every count is within its rows. -/
def Counts : Prop := ∀ i : grid0.Coords, AtMost (count8 m i) 768 ∧ AtMost (count9 m i) 1536

theorem ok : Ok m := trivial

/-- The two blocks grid point `t` computes. -/
def out8 (c : Dev nD) (t : Fin (cfgM m (ok m)).N) : Vec F S1x768x1024 .bf16 :=
  T8 (tiles (count8 m (grid0.coords t))) (k0_pay16 (grid0.coords t)) (iblk m (ok m) c 0 t) (k0_pay13 (iblk m (ok m) c 2 t)) (k0_pay14 (iblk m (ok m) c 3 t)) (k0_pay15 (iblk m (ok m) c 4 t))
def out9 (c : Dev nD) (t : Fin (cfgM m (ok m)).N) : Vec F S1x1536x1024 .bf16 :=
  T9 (tiles (count9 m (grid0.coords t))) (k0_pay16 (grid0.coords t)) (iblk m (ok m) c 1 t) (k0_pay13 (iblk m (ok m) c 2 t)) (k0_pay14 (iblk m (ok m) c 3 t)) (k0_pay15 (iblk m (ok m) c 4 t))

/-- The body at a grid point, over the staging buffers it is handed. -/
abbrev bodyAt0 (a : (pcfg0 (F := F)).Adm) (t : Fin (cfg0 a).N) : Prog (TpuEff nD τ sig (Elt F) Λ₀ .tc) PUnit :=
  cc0_ffn (grid0.coords t) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (Memref.whole cc0_scratch0) (Memref.isWhole_whole _) (Memref.whole cc0_scratch1) (Memref.isWhole_whole _) (Memref.whole cc0_scratch2) (Memref.isWhole_whole _)

/-- The call's data: the arrays as it finds them, and after the body at each point the blocks read and the blocks computed. -/
def dats (_ : Fin 1) (c : Dev nD) : Dat τ (Elt F) Unit ℕ (UR sig nD τ) ℕ (cfgM m (ok m)) c where
  A w := V m c (Pipeline.arrRef spec0 w)
  after w t := match w with
    | ⟨0, _⟩ => iblk m (ok m) c 0 t
    | ⟨1, _⟩ => iblk m (ok m) c 1 t
    | ⟨2, _⟩ => iblk m (ok m) c 2 t
    | ⟨3, _⟩ => iblk m (ok m) c 3 t
    | ⟨4, _⟩ => iblk m (ok m) c 4 t
    | ⟨5, _⟩ => out8 m c t
    | ⟨6, _⟩ => out9 m c t
  Φ _ := iprop(Pipeline.ΦA spec0 c ∗ Pipeline.ΦT pre0 (tbl m) c)
  q _ := fullShare
  owed _ := 0

theorem A_eq (c : Dev nD) (w : Fin (cfgM m (ok m)).W) : (dats m 0 c).A w = V m c (Pipeline.arrRef spec0 w) := by
  dsimp only [dats]

theorem after0_0 (c : Dev nD) (t : Fin (cfgM m (ok m)).N) : (dats m 0 c).after 0 t = iblk m (ok m) c 0 t := by dsimp only [dats]; try rfl
theorem after0_1 (c : Dev nD) (t : Fin (cfgM m (ok m)).N) : (dats m 0 c).after 1 t = iblk m (ok m) c 1 t := by dsimp only [dats]; try rfl
theorem after0_2 (c : Dev nD) (t : Fin (cfgM m (ok m)).N) : (dats m 0 c).after 2 t = iblk m (ok m) c 2 t := by dsimp only [dats]; try rfl
theorem after0_3 (c : Dev nD) (t : Fin (cfgM m (ok m)).N) : (dats m 0 c).after 3 t = iblk m (ok m) c 3 t := by dsimp only [dats]; try rfl
theorem after0_4 (c : Dev nD) (t : Fin (cfgM m (ok m)).N) : (dats m 0 c).after 4 t = iblk m (ok m) c 4 t := by dsimp only [dats]; try rfl
theorem after0_5 (c : Dev nD) (t : Fin (cfgM m (ok m)).N) : (dats m 0 c).after 5 t = out8 m c t := by dsimp only [dats]; try rfl
theorem after0_6 (c : Dev nD) (t : Fin (cfgM m (ok m)).N) : (dats m 0 c).after 6 t = out9 m c t := by dsimp only [dats]; try rfl

theorem before0_0 (c : Dev nD) (t : Fin (cfgM m (ok m)).N) (d) : (dats m 0 c).before 0 t d = iblk m (ok m) c 0 t :=
  before0_0_of m (ok m) (dats m 0 c) (A_eq m c 0) (after0_0 m c) t d
theorem before0_1 (c : Dev nD) (t : Fin (cfgM m (ok m)).N) (d) : (dats m 0 c).before 1 t d = iblk m (ok m) c 1 t :=
  before0_1_of m (ok m) (dats m 0 c) (A_eq m c 1) (after0_1 m c) t d
theorem before0_2 (c : Dev nD) (t : Fin (cfgM m (ok m)).N) (d) : (dats m 0 c).before 2 t d = iblk m (ok m) c 2 t :=
  before0_2_of m (ok m) (dats m 0 c) (A_eq m c 2) (after0_2 m c) t d
theorem before0_3 (c : Dev nD) (t : Fin (cfgM m (ok m)).N) (d) : (dats m 0 c).before 3 t d = iblk m (ok m) c 3 t :=
  before0_3_of m (ok m) (dats m 0 c) (A_eq m c 3) (after0_3 m c) t d
theorem before0_4 (c : Dev nD) (t : Fin (cfgM m (ok m)).N) (d) : (dats m 0 c).before 4 t d = iblk m (ok m) c 4 t :=
  before0_4_of m (ok m) (dats m 0 c) (A_eq m c 4) (after0_4 m c) t d

/-- What the body is handed at a point, and what it hands back. -/
def bodyPre (c : Dev nD) (t : Fin (cfgM m (ok m)).N) : sProp 𝕄 :=
  iprop((dats m 0 c).Φ t.castSucc ∗ (dats m 0 c).owesAt () t.castSucc
    ∗ (∃ d, owns (c : Thread nD τ) (ms0_0 m (ok m) t) fullShare ((dats m 0 c).before 0 t d))
    ∗ (∃ d, owns (c : Thread nD τ) (ms0_1 m (ok m) t) fullShare ((dats m 0 c).before 1 t d))
    ∗ (∃ d, owns (c : Thread nD τ) (ms0_2 m (ok m) t) fullShare ((dats m 0 c).before 2 t d))
    ∗ (∃ d, owns (c : Thread nD τ) (ms0_3 m (ok m) t) fullShare ((dats m 0 c).before 3 t d))
    ∗ (∃ d, owns (c : Thread nD τ) (ms0_4 m (ok m) t) fullShare ((dats m 0 c).before 4 t d))
    ∗ (∃ d, owns (c : Thread nD τ) (ms0_5 m (ok m) t) fullShare ((dats m 0 c).before 5 t d))
    ∗ (∃ d, owns (c : Thread nD τ) (ms0_6 m (ok m) t) fullShare ((dats m 0 c).before 6 t d)))

def bodyPost (c : Dev nD) (t : Fin (cfgM m (ok m)).N) : sProp 𝕄 :=
  iprop((dats m 0 c).Φ t.succ ∗ (dats m 0 c).owesAt () t.succ
    ∗ owns (c : Thread nD τ) (ms0_0 m (ok m) t) fullShare ((dats m 0 c).after 0 t)
    ∗ owns (c : Thread nD τ) (ms0_1 m (ok m) t) fullShare ((dats m 0 c).after 1 t)
    ∗ owns (c : Thread nD τ) (ms0_2 m (ok m) t) fullShare ((dats m 0 c).after 2 t)
    ∗ owns (c : Thread nD τ) (ms0_3 m (ok m) t) fullShare ((dats m 0 c).after 3 t)
    ∗ owns (c : Thread nD τ) (ms0_4 m (ok m) t) fullShare ((dats m 0 c).after 4 t)
    ∗ owns (c : Thread nD τ) (ms0_5 m (ok m) t) fullShare ((dats m 0 c).after 5 t)
    ∗ owns (c : Thread nD τ) (ms0_6 m (ok m) t) fullShare ((dats m 0 c).after 6 t))

set_option maxHeartbeats 12800000 in
theorem sound_body (hC : Counts m) (c : Dev nD) (t : Fin (cfgM m (ok m)).N) :
    bodyPre m c t ⊢ wp frame (wpE (defs₀ (F := F)) Variants.none c none) Set.univ (bodyAt0 (adm m (ok m)) t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = iprop(Pipeline.ΦA spec0 c ∗ Pipeline.ΦT pre0 (tbl m) c) from rfl, PhiT0_eq, PhiA0_eq]
  iintro ⟨⟨⟨⟨HS0, HS1, HS2⟩, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩⟩
  iapply ((run_all c (grid0.coords t) _ _ _ _ _ _ _ _ _ _ _ _ _ _ _ _ _ _ _ _ (iblk m (ok m) c 0 t) (iblk m (ok m) c 1 t) (iblk m (ok m) c 2 t) (iblk m (ok m) c 3 t) (iblk m (ok m) c 4 t) (tbl m 0) (tbl m 1) (hC (grid0.coords t)).1 (hC (grid0.coords t)).2) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS0]; · iexact HS0
  isplitl [HS1]; · iexact HS1
  isplitl [HS2]; · iexact HS2
  isplitl [HT0]; · iexact HT0
  isplitl [HT1]; · iexact HT1
  iintro ⟨H0, H1, H2, H3, H4, H5, H6, HS0, HS1, HS2, HT0, HT1⟩
  isplitl [HS0 HS1 HS2 Hg HT0 HT1]
  · isplitl [HS0 HS1 HS2 Hg]
    · isplitl [HS0 HS1 HS2]
      · isplitl [HS0]
        · iexact HS0
        isplitl [HS1]
        · iexact HS1
        iexact HS2
      iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin (cfgM m (ok m)).N) :
    defs₀ (F := F) .tc (cfgM m (ok m)).body ((cfgM m (ok m)).bodyArgs t ((cfgM m (ok m)).slots t)) = bodyAt0 (adm m (ok m)) t := by
  unfold defs₀; rw [Defs.onTc_tc]

theorem body_obligation (hC : Counts m) (c : Dev nD) : BodyObligation (dats (F := F) m 0 c) (defs₀ (F := F)) Variants.none () Set.univ := fun t => by
  rw [bigSep_W0, bigSep_W0, defs₀_row m]
  exact triple_restated (sound_body m hC c t) rfl .rfl fun _ => .rfl

set_option backward.isDefEq.respectTransparency.types false in
set_option maxHeartbeats 800000 in
/-- The call runs; its arrays end as the data say, and no counter is left raised. -/
theorem run_call (hC : Counts m) : θ_run defs (onTc (τ := τ) (main (F := F))) (s₀ m ρ)
    (fun r => (Pipeline.FramePost (Pipeline.pin pcfgs fun _ => adm m (ok m)) (dats m) 0 (V m)) r ∧ r.2.sem = fun _ => 0) :=
  Pipeline.θ_run_frameP (Q' := _) pcfgs (fun _ => adm m (ok m)) (dats m) (0 : Fin 1) launch0 defs₀ Variants.none m ρ main
    (hbody := fun c => (body_obligation m hC c).loose) (hshare := fun c => (dats m 0 c).share_full fun _ => rfl)
    (howed := fun _ _ => rfl) (V := V m) (hmain := hmain m Variants.none) (hA := A_eq m) (hpf := V_pre m) (hΦ := fun _ _ => rfl)

/-- The call's two results by name, its arguments unchanged. -/
theorem run_named (hC : Counts m) : θ_run defs (onTc (τ := τ) (main (F := F))) ⟨m, fun _ => 0, ρ⟩ (fun r => (∀ c : Dev nD,
      r.2.mem ((c.tc : Thread nD τ).loc main_v0_0) = (dats m 0 c).arrAt 5 (cfgM m (ok m)).N
      ∧ r.2.mem ((c.tc : Thread nD τ).loc main_v0_1) = (dats m 0 c).arrAt 6 (cfgM m (ok m)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h' => ⟨fun c => by
    have h := h'.1
    exact ⟨(h c).1 5, (h c).1 6, ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).1 0).trans (((dats m 0 c).arrAt_in 0 rfl _).trans ((A_eq m c 0).trans (V_main_arg2 m c))),
      ((h c).1 1).trans (((dats m 0 c).arrAt_in 1 rfl _).trans ((A_eq m c 1).trans (V_main_arg3 m c))),
      ((h c).1 2).trans (((dats m 0 c).arrAt_in 2 rfl _).trans ((A_eq m c 2).trans (V_main_arg4 m c))),
      ((h c).1 3).trans (((dats m 0 c).arrAt_in 3 rfl _).trans ((A_eq m c 3).trans (V_main_arg5 m c))),
      ((h c).1 4).trans (((dats m 0 c).arrAt_in 4 rfl _).trans ((A_eq m c 4).trans (V_main_arg6 m c)))⟩, h'.2⟩) (run_call m ρ hC)

theorem frame (hC : Counts m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => (h.1 c).2.2, h.2⟩) (run_named m ρ hC)

end Cert.Proof.Ffn

end
-- ==== Proof.Ffn.Value.lean ====
module

public import Idealize.ShloMosaic.Lib.Pointwise
public import proofs.«01_k».proof.Kernel2Ideal
public import proofs.«01_k».proof.Proof.Att.Row

/-! A row through an expert, as the kernel and as the reference take it, and the call's two results. -/

@[expose] public section
noncomputable section
namespace Cert.Proof.Ffn
open Idealize.ShloMosaic Cert.Kernel2Ideal

/-- A row through an expert as the kernel takes it: the gate `g` multiplies the hidden lanes. -/
def rowK (t : Fin 1024 → EReal) (g : EReal) (wg wu : Fin 1024 → Fin 512 → EReal) (wd : Fin 512 → EReal) : EReal :=
  ∑ f, (((∑ d, t d * wg d f) * Ideal.div 1 (1 + Ideal.exp (0 - ∑ d, t d * wg d f)) * ∑ d, t d * wu d f) * g) * wd f

/-- The same row as the reference takes it: the gate multiplies the expert's output. -/
def rowR (t : Fin 1024 → EReal) (g : EReal) (wg wu : Fin 1024 → Fin 512 → EReal) (wd : Fin 512 → EReal) : EReal :=
  (∑ f, ((∑ d, t d * wg d f) * Ideal.div 1 (1 + Ideal.exp (-∑ d, t d * wg d f)) * ∑ d, t d * wu d f) * wd f) * g

theorem rowK_congr {t t' : Fin 1024 → EReal} {g g' : EReal} {wg wg' wu wu' : Fin 1024 → Fin 512 → EReal} {wd wd' : Fin 512 → EReal}
    (h1 : ∀ d, t d = t' d) (h2 : g = g') (h3 : ∀ d f, wg d f = wg' d f) (h4 : ∀ d f, wu d f = wu' d f) (h5 : ∀ f, wd f = wd' f) :
    rowK t g wg wu wd = rowK t' g' wg' wu' wd' := by
  rw [show t = t' from funext h1, h2, show wg = wg' from funext fun d => funext (h3 d), show wu = wu' from funext fun d => funext (h4 d),
    show wd = wd' from funext h5]

theorem rowK_eq_rowR (t : Fin 1024 → EReal) {g : EReal} (h0 : 0 ≤ g) (h1 : g < ⊤) (wg wu : Fin 1024 → Fin 512 → EReal) (wd : Fin 512 → EReal) :
    rowK t g wg wu wd = rowR t g wg wu wd := by
  have hg : Cert.Att.IsReal g := ⟨fun h => by rw [h] at h0; exact absurd h0 (by simp), fun h => by rw [h] at h1; exact absurd h1 (by simp)⟩
  obtain ⟨r, rfl⟩ := hg.exists
  have hr : 0 ≤ r := by exact_mod_cast h0
  unfold rowK rowR
  rw [Cert.Att.sum_mul_real _ _ hr]
  refine Finset.sum_congr rfl fun f _ => ?_
  rw [zero_sub, mul_assoc _ (r : EReal), mul_comm (r : EReal), ← mul_assoc]

/-- A row of gate zero is zero. -/
theorem rowR_zero (t : Fin 1024 → EReal) (wg wu : Fin 1024 → Fin 512 → EReal) (wd : Fin 512 → EReal) : rowR t 0 wg wu wd = 0 := by
  unfold rowR
  exact mul_zero _

/-- A row of the prompt rows' result, and of the sample rows'. -/
def rowP (x : FVec Ideal S16x768x1152 .bf16) (wg wu : FVec Ideal S16x1024x512 .f32) (wd : FVec Ideal S16x512x1024 .f32) (e : Fin 16) (r : Fin 768) (j : Fin 1024) : EReal :=
  rowR (fun d => x (ix3 e r ⟨d.val, by omega⟩)) (∑ k : Fin 3, x (ix3 e r ⟨1024 + (k.val * 16 + e.val), by omega⟩))
    (fun d f => wg (ix3 e d f)) (fun d f => wu (ix3 e d f)) (fun f => wd (ix3 e f j))
def rowS (x : FVec Ideal S16x1536x1152 .bf16) (wg wu : FVec Ideal S16x1024x512 .f32) (wd : FVec Ideal S16x512x1024 .f32) (e : Fin 16) (r : Fin 1536) (j : Fin 1024) : EReal :=
  rowR (fun d => x (ix3 e r ⟨d.val, by omega⟩)) (∑ k : Fin 3, x (ix3 e r ⟨1024 + (k.val * 16 + e.val), by omega⟩))
    (fun d f => wg (ix3 e d f)) (fun d f => wu (ix3 e d f)) (fun f => wd (ix3 e f j))

/-- The two results. -/
def outP (x : FVec Ideal S16x768x1152 .bf16) (wg wu : FVec Ideal S16x1024x512 .f32) (wd : FVec Ideal S16x512x1024 .f32) : FVec Ideal S16x768x1024 .bf16 :=
  fun i => rowP x wg wu wd (i 0) (i 1) (i 2)
def outS (x : FVec Ideal S16x1536x1152 .bf16) (wg wu : FVec Ideal S16x1024x512 .f32) (wd : FVec Ideal S16x512x1024 .f32) : FVec Ideal S16x1536x1024 .bf16 :=
  fun i => rowS x wg wu wd (i 0) (i 1) (i 2)

end Cert.Proof.Ffn
-- ==== Proof.Ffn.Pay.lean ====
module

public import proofs.«01_k».proof.Proof.Ffn.Lists
public import proofs.«01_k».proof.Proof.Ffn.Value
public import Idealize.ShloMosaic.Lib.Pointwise

/-! One row of the feed-forward call's two results, as a number. -/

@[expose] public section
noncomputable section
namespace Cert.Proof.Ffn
open Idealize.ShloMosaic Cert.Kernel2Ideal Cert.Kernel2Ideal.Gen

set_option maxRecDepth 16384 in
theorem pay5_apply (msk : IVec S1x128 1) (a : Vec Ideal S1x512x1024 .bf16) (b : Vec Ideal S1x512x128 .bf16) (wg wu : Vec Ideal S1024x512 .bf16) (wd : Vec Ideal S512x1024 .bf16)
    (r : Fin 512) (j : Fin 1024) : k0_pay5 (F := Ideal) msk a b wg wu wd (ix3 0 r j)
      = rowK (fun d => a (ix3 0 r d)) (∑ l : Fin 128, Scalar.select (msk (ix2 0 l)) (b (ix3 0 r l)) 0) (fun d f => wg (ix2 d f)) (fun d f => wu (ix2 d f)) (fun f => wd (ix2 f j)) := by
  unfold k0_pay5 rowK
  pointwise

set_option maxRecDepth 16384 in
theorem pay7_apply (msk : IVec S1x128 1) (a : Vec Ideal S1x256x1024 .bf16) (b : Vec Ideal S1x256x128 .bf16) (wg wu : Vec Ideal S1024x512 .bf16) (wd : Vec Ideal S512x1024 .bf16)
    (r : Fin 256) (j : Fin 1024) : k0_pay7 (F := Ideal) msk a b wg wu wd (ix2 r j)
      = rowK (fun d => a (ix3 0 r d)) (∑ l : Fin 128, Scalar.select (msk (ix2 0 l)) (b (ix3 0 r l)) 0) (fun d f => wg (ix2 d f)) (fun d f => wu (ix2 d f)) (fun f => wd (ix2 f j)) := by
  unfold k0_pay7 rowK
  pointwise

set_option maxRecDepth 16384 in
theorem pay8_apply (msk : IVec S1x128 1) (a : Vec Ideal S1x128x1024 .bf16) (b : Vec Ideal S1x128x128 .bf16) (wg wu : Vec Ideal S1024x512 .bf16) (wd : Vec Ideal S512x1024 .bf16)
    (r : Fin 128) (j : Fin 1024) : k0_pay8 (F := Ideal) msk a b wg wu wd (ix2 r j)
      = rowK (fun d => a (ix3 0 r d)) (∑ l : Fin 128, Scalar.select (msk (ix2 0 l)) (b (ix3 0 r l)) 0) (fun d f => wg (ix2 d f)) (fun d f => wu (ix2 d f)) (fun f => wd (ix2 f j)) := by
  unfold k0_pay8 rowK
  pointwise

set_option maxRecDepth 16384 in
theorem pay9_apply (msk : IVec S1x128 1) (a : Vec Ideal S1x512x1024 .bf16) (b : Vec Ideal S1x512x128 .bf16) (wg wu : Vec Ideal S1024x512 .bf16) (wd : Vec Ideal S512x1024 .bf16)
    (r : Fin 512) (j : Fin 1024) : k0_pay9 (F := Ideal) msk a b wg wu wd (ix3 0 r j)
      = rowK (fun d => a (ix3 0 r d)) (∑ l : Fin 128, Scalar.select (msk (ix2 0 l)) (b (ix3 0 r l)) 0) (fun d f => wg (ix2 d f)) (fun d f => wu (ix2 d f)) (fun f => wd (ix2 f j)) := by
  unfold k0_pay9 rowK
  pointwise

set_option maxRecDepth 16384 in
theorem pay11_apply (msk : IVec S1x128 1) (a : Vec Ideal S1x256x1024 .bf16) (b : Vec Ideal S1x256x128 .bf16) (wg wu : Vec Ideal S1024x512 .bf16) (wd : Vec Ideal S512x1024 .bf16)
    (r : Fin 256) (j : Fin 1024) : k0_pay11 (F := Ideal) msk a b wg wu wd (ix2 r j)
      = rowK (fun d => a (ix3 0 r d)) (∑ l : Fin 128, Scalar.select (msk (ix2 0 l)) (b (ix3 0 r l)) 0) (fun d f => wg (ix2 d f)) (fun d f => wu (ix2 d f)) (fun f => wd (ix2 f j)) := by
  unfold k0_pay11 rowK
  pointwise

set_option maxRecDepth 16384 in
theorem pay12_apply (msk : IVec S1x128 1) (a : Vec Ideal S1x128x1024 .bf16) (b : Vec Ideal S1x128x128 .bf16) (wg wu : Vec Ideal S1024x512 .bf16) (wd : Vec Ideal S512x1024 .bf16)
    (r : Fin 128) (j : Fin 1024) : k0_pay12 (F := Ideal) msk a b wg wu wd (ix2 r j)
      = rowK (fun d => a (ix3 0 r d)) (∑ l : Fin 128, Scalar.select (msk (ix2 0 l)) (b (ix3 0 r l)) 0) (fun d f => wg (ix2 d f)) (fun d f => wu (ix2 d f)) (fun f => wd (ix2 f j)) := by
  unfold k0_pay12 rowK
  pointwise

theorem pay17_apply (x : FVec Ideal S256x1024 .bf16) (r : Fin 256) (j : Fin 1024) : k0_pay17 (F := Ideal) x (ix3 0 r j) = x (ix2 r j) := by
  unfold k0_pay17
  pointwise

theorem pay18_apply (x : FVec Ideal S128x1024 .bf16) (r : Fin 128) (j : Fin 1024) : k0_pay18 (F := Ideal) x (ix3 0 r j) = x (ix2 r j) := by
  unfold k0_pay18
  pointwise

theorem pay1_apply (x : FVec Ideal S256x1024 .bf16) (r : Fin 256) (j : Fin 1024) : k0_pay1 (F := Ideal) x (ix3 0 r j) = x (ix2 r j) := by
  unfold k0_pay1
  pointwise

theorem pay2_apply (x : FVec Ideal S128x1024 .bf16) (r : Fin 128) (j : Fin 1024) : k0_pay2 (F := Ideal) x (ix3 0 r j) = x (ix2 r j) := by
  unfold k0_pay2
  pointwise

theorem pay19_apply (r : Fin 128) (j : Fin 1024) : k0_pay19 (F := Ideal) (ix3 0 r j) = 0 := by
  unfold k0_pay19
  pointwise

theorem pay3_apply (r : Fin 128) (j : Fin 1024) : k0_pay3 (F := Ideal) (ix3 0 r j) = 0 := by
  unfold k0_pay3
  pointwise

theorem pay13_apply (x : Vec Ideal S1x1024x512 .f32) (r : Fin 1024) (j : Fin 512) : k0_pay13 (F := Ideal) x (ix2 r j) = x (ix3 0 r j) := by
  unfold k0_pay13
  pointwise

theorem pay14_apply (x : Vec Ideal S1x1024x512 .f32) (r : Fin 1024) (j : Fin 512) : k0_pay14 (F := Ideal) x (ix2 r j) = x (ix3 0 r j) := by
  unfold k0_pay14
  pointwise

theorem pay15_apply (x : Vec Ideal S1x512x1024 .f32) (r : Fin 512) (j : Fin 1024) : k0_pay15 (F := Ideal) x (ix2 r j) = x (ix3 0 r j) := by
  unfold k0_pay15
  pointwise

/-- The lanes an expert's mask picks. -/
theorem pay16_apply (i : grid0.Coords) (l : Fin 128) : k0_pay16 i (ix2 0 l) = BitVec.ofBool (decide (l.val % 16 = (i 0).val ∧ l.val < 48)) := by
  unfold k0_pay16
  pointwise
  have h : ∀ (l : Fin 128) (e : Fin 16), IntOp.andi (IntOp.cmpi CmpIPredicate.eq (IntOp.andi (BitVec.ofNat 32 l.val) 15#32) (BitVec.ofNat 32 e.val))
      (IntOp.cmpi CmpIPredicate.slt (BitVec.ofNat 32 l.val) 48#32) = BitVec.ofBool (decide (l.val % 16 = e.val ∧ l.val < 48)) := by decide +kernel
  exact h l (i 0)

theorem lanes_eq : ∀ e : Fin 16, (Finset.univ.filter fun l : Fin 128 => l.val % 16 = e.val ∧ l.val < 48)
    = Finset.univ.image fun k : Fin 3 => (⟨k.val * 16 + e.val, by omega⟩ : Fin 128) := by decide +kernel

/-- What the mask leaves of a row's lanes: the expert's three. -/
theorem gate_eq (i : grid0.Coords) (f : Fin 128 → EReal) :
    ∑ l : Fin 128, Scalar.select (k0_pay16 i (ix2 0 l)) (f l) 0 = ∑ k : Fin 3, f ⟨k.val * 16 + (i 0).val, by have h : (i 0).val < 16 := (i 0).isLt; omega⟩ := by
  have h1 : ∀ l : Fin 128, Scalar.select (k0_pay16 i (ix2 0 l)) (f l) 0 = if l.val % 16 = (i 0).val ∧ l.val < 48 then f l else 0 := fun l => by
    rw [pay16_apply]
    by_cases h : l.val % 16 = (i 0).val ∧ l.val < 48
    · rw [if_pos h, decide_eq_true h]; rfl
    · rw [if_neg h, decide_eq_false h]; rfl
  rw [Finset.sum_congr rfl fun l _ => h1 l, ← Finset.sum_filter, show (Finset.univ.filter fun l : Fin 128 => l.val % 16 = (i 0).val ∧ l.val < 48) = _ from lanes_eq (i 0),
    Finset.sum_image fun a _ b _ h => by have := congrArg Fin.val h; exact Fin.ext (by simp only at this; omega)]

/-- A row of the prompt rows' result: the expert's row below the tiles the count asks for, zero after them. -/
theorem T8_apply (h : ℕ) (hh : h ≤ 6) (i : grid0.Coords) (x : Vec Ideal S1x768x1152 .bf16) (wg wu : Vec Ideal S1024x512 .bf16) (wd : Vec Ideal S512x1024 .bf16) (r : Fin 768) (j : Fin 1024) :
    T8 (F := Ideal) h (k0_pay16 i) x wg wu wd (ix3 0 r j) =
      if r.val < 128 * h then rowK (fun d => x (ix3 0 r ⟨d.val, by omega⟩))
        (∑ k : Fin 3, x (ix3 0 r ⟨1024 + (k.val * 16 + (i 0).val), by have h : (i 0).val < 16 := (i 0).isLt; omega⟩))
        (fun d f => wg (ix2 d f)) (fun d f => wu (ix2 d f)) (fun f => wd (ix2 f j)) else 0 := by
  have key : ∀ (n o : ℕ) (hn : n ≤ 512) (q : Fin n), o + q.val = r.val → ∀ (d : Fin 1024) (l : Fin 128),
      cut (N := 768) (W := 1152) x n 1024 o 0 (at3 q.val q.isLt d.val d.isLt) = x (ix3 0 r ⟨d.val, by omega⟩)
      ∧ cut (N := 768) (W := 1152) x n 128 o 1024 (at3 q.val q.isLt l.val l.isLt) = x (ix3 0 r ⟨1024 + l.val, by omega⟩) := fun n o hn q e d l => by
    have hr := r.isLt
    constructor
    · refine congrArg x (idx_ext ?_ ?_)
      · show (o + q.val) % 768 = r.val; omega
      · show (0 + d.val) % 1152 = d.val; omega
    · refine congrArg x (idx_ext ?_ ?_)
      · show (o + q.val) % 768 = r.val; omega
      · show (1024 + l.val) % 1152 = 1024 + l.val; omega
  have ix : ∀ (n : ℕ) (w : ℕ) (q : Fin n) (d : Fin w), (ix3 0 q d : (Sh n w).Idx) = at3 q.val q.isLt d.val d.isLt := fun n w q d => idx_ext rfl rfl
  have hr := r.isLt
  by_cases h3 : r.val < 128 * h
  · rw [if_pos h3]
    by_cases h1 : r.val < 512 * (h / 4)
    · have e := key 512 (512 * (r.val / 512)) (by omega) ⟨r.val % 512, by omega⟩ (by show 512 * (r.val / 512) + r.val % 512 = r.val; omega)
      refine (assemble_A (h := h) (k := r.val / 512) (by omega) (ix3 0 (⟨r.val % 512, by omega⟩ : Fin 512) j) (ix3 0 r j) (by show r.val = 512 * (r.val / 512) + r.val % 512; omega) rfl).trans ?_
      rw [pay5_apply, gate_eq]
      exact rowK_congr (fun d => (congrArg _ (ix _ _ _ d)).trans (e d 0).1) (Finset.sum_congr rfl fun k _ => (congrArg _ (ix _ _ _ _)).trans (e 0 _).2)
          (fun _ _ => rfl) (fun _ _ => rfl) (fun _ => rfl)
    · by_cases h2 : r.val < 256 * (h / 2)
      · have e := key 256 (512 * (h / 4)) (by omega) ⟨r.val - 512 * (h / 4), by omega⟩ (by show 512 * (h / 4) + (r.val - 512 * (h / 4)) = r.val; omega)
        refine (assemble_B (h := h) (by omega) (ix3 0 (⟨r.val - 512 * (h / 4), by omega⟩ : Fin 256) j) (ix3 0 r j) (by show r.val = 512 * (h / 4) + (r.val - 512 * (h / 4)); omega) rfl).trans ?_
        rw [pay17_apply, pay7_apply, gate_eq]
        exact rowK_congr (fun d => (congrArg _ (ix _ _ _ d)).trans (e d 0).1) (Finset.sum_congr rfl fun k _ => (congrArg _ (ix _ _ _ _)).trans (e 0 _).2)
          (fun _ _ => rfl) (fun _ _ => rfl) (fun _ => rfl)
      · have e := key 128 (256 * (h / 2)) (by omega) ⟨r.val - 256 * (h / 2), by omega⟩ (by show 256 * (h / 2) + (r.val - 256 * (h / 2)) = r.val; omega)
        refine (assemble_C (h := h) (by omega) (ix3 0 (⟨r.val - 256 * (h / 2), by omega⟩ : Fin 128) j) (ix3 0 r j) (by show r.val = 256 * (h / 2) + (r.val - 256 * (h / 2)); omega) rfl).trans ?_
        rw [pay18_apply, pay8_apply, gate_eq]
        exact rowK_congr (fun d => (congrArg _ (ix _ _ _ d)).trans (e d 0).1) (Finset.sum_congr rfl fun k _ => (congrArg _ (ix _ _ _ _)).trans (e 0 _).2)
          (fun _ _ => rfl) (fun _ _ => rfl) (fun _ => rfl)
  · rw [if_neg h3]
    refine (assemble_Z (h := h) (k := r.val / 128 - h) (ix3 0 (⟨r.val % 128, by omega⟩ : Fin 128) j) (ix3 0 r j) (by show r.val = 128 * (h + (r.val / 128 - h)) + r.val % 128; omega) rfl).trans ?_
    exact pay19_apply _ _

/-- A row of the sample rows' result: the expert's row below the tiles the count asks for, zero after them. -/
theorem T9_apply (h : ℕ) (hh : h ≤ 12) (i : grid0.Coords) (x : Vec Ideal S1x1536x1152 .bf16) (wg wu : Vec Ideal S1024x512 .bf16) (wd : Vec Ideal S512x1024 .bf16) (r : Fin 1536) (j : Fin 1024) :
    T9 (F := Ideal) h (k0_pay16 i) x wg wu wd (ix3 0 r j) =
      if r.val < 128 * h then rowK (fun d => x (ix3 0 r ⟨d.val, by omega⟩))
        (∑ k : Fin 3, x (ix3 0 r ⟨1024 + (k.val * 16 + (i 0).val), by have h : (i 0).val < 16 := (i 0).isLt; omega⟩))
        (fun d f => wg (ix2 d f)) (fun d f => wu (ix2 d f)) (fun f => wd (ix2 f j)) else 0 := by
  have key : ∀ (n o : ℕ) (hn : n ≤ 512) (q : Fin n), o + q.val = r.val → ∀ (d : Fin 1024) (l : Fin 128),
      cut (N := 1536) (W := 1152) x n 1024 o 0 (at3 q.val q.isLt d.val d.isLt) = x (ix3 0 r ⟨d.val, by omega⟩)
      ∧ cut (N := 1536) (W := 1152) x n 128 o 1024 (at3 q.val q.isLt l.val l.isLt) = x (ix3 0 r ⟨1024 + l.val, by omega⟩) := fun n o hn q e d l => by
    have hr := r.isLt
    constructor
    · refine congrArg x (idx_ext ?_ ?_)
      · show (o + q.val) % 1536 = r.val; omega
      · show (0 + d.val) % 1152 = d.val; omega
    · refine congrArg x (idx_ext ?_ ?_)
      · show (o + q.val) % 1536 = r.val; omega
      · show (1024 + l.val) % 1152 = 1024 + l.val; omega
  have ix : ∀ (n : ℕ) (w : ℕ) (q : Fin n) (d : Fin w), (ix3 0 q d : (Sh n w).Idx) = at3 q.val q.isLt d.val d.isLt := fun n w q d => idx_ext rfl rfl
  have hr := r.isLt
  by_cases h3 : r.val < 128 * h
  · rw [if_pos h3]
    by_cases h1 : r.val < 512 * (h / 4)
    · have e := key 512 (512 * (r.val / 512)) (by omega) ⟨r.val % 512, by omega⟩ (by show 512 * (r.val / 512) + r.val % 512 = r.val; omega)
      refine (assemble_A (h := h) (k := r.val / 512) (by omega) (ix3 0 (⟨r.val % 512, by omega⟩ : Fin 512) j) (ix3 0 r j) (by show r.val = 512 * (r.val / 512) + r.val % 512; omega) rfl).trans ?_
      rw [pay9_apply, gate_eq]
      exact rowK_congr (fun d => (congrArg _ (ix _ _ _ d)).trans (e d 0).1) (Finset.sum_congr rfl fun k _ => (congrArg _ (ix _ _ _ _)).trans (e 0 _).2)
          (fun _ _ => rfl) (fun _ _ => rfl) (fun _ => rfl)
    · by_cases h2 : r.val < 256 * (h / 2)
      · have e := key 256 (512 * (h / 4)) (by omega) ⟨r.val - 512 * (h / 4), by omega⟩ (by show 512 * (h / 4) + (r.val - 512 * (h / 4)) = r.val; omega)
        refine (assemble_B (h := h) (by omega) (ix3 0 (⟨r.val - 512 * (h / 4), by omega⟩ : Fin 256) j) (ix3 0 r j) (by show r.val = 512 * (h / 4) + (r.val - 512 * (h / 4)); omega) rfl).trans ?_
        rw [pay1_apply, pay11_apply, gate_eq]
        exact rowK_congr (fun d => (congrArg _ (ix _ _ _ d)).trans (e d 0).1) (Finset.sum_congr rfl fun k _ => (congrArg _ (ix _ _ _ _)).trans (e 0 _).2)
          (fun _ _ => rfl) (fun _ _ => rfl) (fun _ => rfl)
      · have e := key 128 (256 * (h / 2)) (by omega) ⟨r.val - 256 * (h / 2), by omega⟩ (by show 256 * (h / 2) + (r.val - 256 * (h / 2)) = r.val; omega)
        refine (assemble_C (h := h) (by omega) (ix3 0 (⟨r.val - 256 * (h / 2), by omega⟩ : Fin 128) j) (ix3 0 r j) (by show r.val = 256 * (h / 2) + (r.val - 256 * (h / 2)); omega) rfl).trans ?_
        rw [pay2_apply, pay12_apply, gate_eq]
        exact rowK_congr (fun d => (congrArg _ (ix _ _ _ d)).trans (e d 0).1) (Finset.sum_congr rfl fun k _ => (congrArg _ (ix _ _ _ _)).trans (e 0 _).2)
          (fun _ _ => rfl) (fun _ _ => rfl) (fun _ => rfl)
  · rw [if_neg h3]
    refine (assemble_Z (h := h) (k := r.val / 128 - h) (ix3 0 (⟨r.val % 128, by omega⟩ : Fin 128) j) (ix3 0 r j) (by show r.val = 128 * (h + (r.val / 128 - h)) + r.val % 128; omega) rfl).trans ?_
    exact pay3_apply _ _

end Cert.Proof.Ffn
-- ==== Proof.Ffn.Pre.lean ====
module

public import proofs.«01_k».proof.Proof.Gen.Pre_rows_then_blanks
public import proofs.«01_k».proof.Proof.Att.Pre

/-! What the feed-forward call's precondition says of the elements. -/

@[expose] public section
noncomputable section
namespace Cert.Proof.Ffn
open Idealize.ShloMosaic Cert.Pre_rows_then_blanks

theorem of_bool {b : Bool} (h : BitVec.ofBool b = 1#1) : b = true := by
  cases b
  · exact absurd h (by decide)
  · rfl

theorem count_le_p (v : BitVec 32) (h : IntOp.andi (IntOp.cmpi CmpIPredicate.sge v 0#32) (IntOp.cmpi CmpIPredicate.sle v 768#32) = 1#1) : v.toNat ≤ 768 := by
  obtain ⟨h1, h2⟩ := Cert.Att.and_split _ _ h
  have e1 : BitVec.sle 0#32 v = true := of_bool h1
  have e2 : BitVec.sle v 768#32 = true := of_bool h2
  rw [BitVec.sle_iff_toInt_le] at e1 e2
  have := v.isLt
  have k : (768#32 : BitVec 32).toInt = 768 := rfl
  have k0 : (0#32 : BitVec 32).toInt = 0 := rfl
  rw [k0, BitVec.toInt_eq_toNat_cond] at e1
  rw [k, BitVec.toInt_eq_toNat_cond] at e2
  split at e1 <;> split at e2 <;> omega

theorem count_le_s (v : BitVec 32) (h : IntOp.andi (IntOp.cmpi CmpIPredicate.sge v 0#32) (IntOp.cmpi CmpIPredicate.sle v 1536#32) = 1#1) : v.toNat ≤ 1536 := by
  obtain ⟨h1, h2⟩ := Cert.Att.and_split _ _ h
  have e1 : BitVec.sle 0#32 v = true := of_bool h1
  have e2 : BitVec.sle v 1536#32 = true := of_bool h2
  rw [BitVec.sle_iff_toInt_le] at e1 e2
  have := v.isLt
  have k : (1536#32 : BitVec 32).toInt = 1536 := rfl
  have k0 : (0#32 : BitVec 32).toInt = 0 := rfl
  rw [k0, BitVec.toInt_eq_toNat_cond] at e1
  rw [k, BitVec.toInt_eq_toNat_cond] at e2
  split at e1 <;> split at e2 <;> omega

theorem or_split : ∀ a b : BitVec 1, IntOp.ori a b = 1#1 → a = 1#1 ∨ b = 1#1 := by decide

theorem lt_of_slt {r : ℕ} (hr : r < 2048) {v : BitVec 32} (hv : v.toNat ≤ 1536)
    (h : IntOp.cmpi CmpIPredicate.slt (BitVec.ofNat 32 r) v = 1#1) : r < v.toNat := by
  have e : BitVec.slt (BitVec.ofNat 32 r) v = true := of_bool h
  rw [BitVec.slt_iff_toInt_lt] at e
  have h1 : (BitVec.ofNat 32 r).toNat = r := by rw [BitVec.toNat_ofNat]; omega
  rw [BitVec.toInt_eq_toNat_of_lt (by omega), BitVec.toInt_eq_toNat_of_lt (by omega), h1] at e
  exact_mod_cast e

theorem of_ofBool {p : Prop} [Decidable p] (h : BitVec.ofBool (decide p) = 1#1) : p := by
  by_contra hn
  rw [decide_eq_false hn] at h
  exact absurd h (by decide)

/-- A sum over experts that keeps one of them. -/
theorem diag_eq (e : Fin 16) (f : Fin 16 → EReal) :
    ∑ x : Fin 16, Scalar.select (IntOp.cmpi CmpIPredicate.eq (BitVec.ofNat 32 x.val) (BitVec.ofNat 32 e.val)) (f x) 0 = f e := by
  have h : ∀ x e : Fin 16, IntOp.cmpi CmpIPredicate.eq (BitVec.ofNat 32 x.val) (BitVec.ofNat 32 e.val) = BitVec.ofBool (decide (x = e)) := by decide +kernel
  rw [Finset.sum_eq_single e]
  · rw [h, decide_eq_true rfl]; rfl
  · intro x _ hx
    rw [h, decide_eq_false hx]; rfl
  · intro hn; exact absurd (Finset.mem_univ e) hn

/-- What the precondition says of one input: its blanks, and its gates. -/
def Blank {N : ℕ} (s : Fin 16 → BitVec 32) (x : Fin 16 → Fin N → Fin 1152 → EReal) : Prop :=
  (∀ e r, r.val < (s e).toNat ∨ ∀ d, x e r d = 0)
  ∧ ∀ e r, 0 ≤ ∑ k : Fin 3, x e r ⟨1024 + (k.val * 16 + e.val), by omega⟩ ∧ ∑ k : Fin 3, x e r ⟨1024 + (k.val * 16 + e.val), by omega⟩ < ⊤

set_option maxRecDepth 16384 in
theorem pre_elems (s0 : IVec S16x17 32) (s1 : IVec S16x33 32) (x0 : FVec Ideal S16x768x1152 .bf16) (x1 : FVec Ideal S16x1536x1152 .bf16)
    (wg wu : FVec Ideal S16x1024x512 .f32) (wd : FVec Ideal S16x512x1024 .f32)
    (h : Cert.Pre_rows_then_blanks.fn (F := Ideal) s0 s1 x0 x1 wg wu wd = fun _ => 1#1) :
    ((∀ e, (s0 (ix2 e 16)).toNat ≤ 768) ∧ Blank (fun e => s0 (ix2 e 16)) fun e r d => x0 (ix3 e r d))
    ∧ (∀ e, (s1 (ix2 e 32)).toNat ≤ 1536) ∧ Blank (fun e => s1 (ix2 e 32)) fun e r d => x1 (ix3 e r d) := by
  have h := congrFun h ix0
  pointwise [Cert.Pre_rows_then_blanks.fn, Cert.Pre_rows_then_blanks.fn_part1, fn_part2, fn_part3, fn_part4] at h
  obtain ⟨hp, hs⟩ := Cert.Att.and_split _ _ h
  clear h
  constructor
  · obtain ⟨hp, hg⟩ := Cert.Att.and_split _ _ hp
    obtain ⟨hc, hb⟩ := Cert.Att.and_split _ _ hp
    have hc : ∀ e, (s0 (ix2 e 16)).toNat ≤ 768 := fun e => count_le_p _ (Cert.Att.fold_and _ _ hc e (Finset.mem_univ _))
    refine ⟨hc, fun e r => ?_, fun e r => ?_⟩
    · rcases or_split _ _ (Cert.Att.fold_and _ _ hb (e, r) (Finset.mem_univ _)) with h | h
      · exact .inr fun d => of_ofBool (Cert.Att.fold_and _ _ h d (Finset.mem_univ _))
      · exact .inl (lt_of_slt (by have := r.isLt; omega) (le_trans (hc e) (by decide)) h)
    · obtain ⟨h1, h2⟩ := Cert.Att.and_split _ _ (Cert.Att.fold_and _ _ hg (e, r) (Finset.mem_univ _))
      have h1 := of_ofBool h1
      have h2 := of_ofBool h2
      rw [diag_eq e] at h1 h2
      rw [Cert.Att.posInf_eq] at h2
      exact ⟨h1, h2⟩
  · obtain ⟨hs, hg⟩ := Cert.Att.and_split _ _ hs
    obtain ⟨hc, hb⟩ := Cert.Att.and_split _ _ hs
    have hc : ∀ e, (s1 (ix2 e 32)).toNat ≤ 1536 := fun e => count_le_s _ (Cert.Att.fold_and _ _ hc e (Finset.mem_univ _))
    refine ⟨hc, fun e r => ?_, fun e r => ?_⟩
    · rcases or_split _ _ (Cert.Att.fold_and _ _ hb (e, r) (Finset.mem_univ _)) with h | h
      · exact .inr fun d => of_ofBool (Cert.Att.fold_and _ _ h d (Finset.mem_univ _))
      · exact .inl (lt_of_slt (by have := r.isLt; omega) (hc e) h)
    · obtain ⟨h1, h2⟩ := Cert.Att.and_split _ _ (Cert.Att.fold_and _ _ hg (e, r) (Finset.mem_univ _))
      have h1 := of_ofBool h1
      have h2 := of_ofBool h2
      rw [diag_eq e] at h1 h2
      rw [Cert.Att.posInf_eq] at h2
      exact ⟨h1, h2⟩

set_option maxRecDepth 16384 in
theorem pre_counts {F : FTy → Type} [FloatOps F] (s0 : IVec S16x17 32) (s1 : IVec S16x33 32) (x0 : FVec F S16x768x1152 .bf16) (x1 : FVec F S16x1536x1152 .bf16)
    (wg wu : FVec F S16x1024x512 .f32) (wd : FVec F S16x512x1024 .f32)
    (h : Cert.Pre_rows_then_blanks.fn (F := F) s0 s1 x0 x1 wg wu wd = fun _ => 1#1) :
    (∀ e, (s0 (ix2 e 16)).toNat ≤ 768) ∧ ∀ e, (s1 (ix2 e 32)).toNat ≤ 1536 := by
  have h := congrFun h ix0
  pointwise [Cert.Pre_rows_then_blanks.fn, Cert.Pre_rows_then_blanks.fn_part1, fn_part2, fn_part3, fn_part4] at h
  obtain ⟨hp, hs⟩ := Cert.Att.and_split _ _ h
  exact ⟨fun e => count_le_p _ (Cert.Att.fold_and _ _ (Cert.Att.and_split _ _ (Cert.Att.and_split _ _ hp).1).1 e (Finset.mem_univ _)),
    fun e => count_le_s _ (Cert.Att.fold_and _ _ (Cert.Att.and_split _ _ (Cert.Att.and_split _ _ hs).1).1 e (Finset.mem_univ _))⟩
end Cert.Proof.Ffn
-- ==== Proof.Ffn.Array.lean ====
module

public import proofs.«01_k».proof.Proof.Ffn.Cert
public import proofs.«01_k».proof.Proof.Ffn.Pay
public import proofs.«01_k».proof.Proof.Ffn.Pre
public import Idealize.ShloMosaic.Lib.Pipeline.ValueKit.Geometry

/-! The feed-forward call's two results at an index: grid point `e` computes expert `e`'s rows. -/

@[expose] public section
noncomputable section
namespace Cert.Proof.Ffn
open Idealize.ShloMosaic Idealize.ShloMosaic.TcCoe Cert.Kernel2Ideal Cert.Kernel2Ideal.Gen

section Counts
variable {F : FTy → Type} [FloatOps F] (m : (ℓ : Loc nD τ sig) → Buf (Elt F) ℓ)

theorem off1_eq : ∀ i : Fin 16, (BitVec.ofNat 32 i.val).toNat = i.val := by decide +kernel

theorem count8_eq (i : grid0.Coords) : count8 m i = m (((0 : Dev nD).tc : Thread nD τ).loc main_arg0) (ix2 (i 0) 16) := by
  refine Eq.trans ?_ (congrFun (V_main_arg0 m 0) (ix2 (i 0) 16))
  refine congrArg (V m 0 main_arg0) (?_ : (Rect.unit (s := S16x17) (k0_off1 i) S1x1.size (k0_off1_inb i)).toLoadRect.idx (Shape.Idx.first (numel1_S1x1.symm ▸ Nat.one_pos)) = (ix2 (i 0) 16 : S16x17.Idx))
  funext a
  match a with
  | ⟨0, _⟩ => exact Fin.ext (by show (BitVec.ofNat 32 (i 0).val).toNat + 1 * 0 = (i 0).val; rw [off1_eq (i 0)]; omega)
  | ⟨1, _⟩ => exact Fin.ext rfl

theorem count9_eq (i : grid0.Coords) : count9 m i = m (((0 : Dev nD).tc : Thread nD τ).loc main_arg1) (ix2 (i 0) 32) := by
  refine Eq.trans ?_ (congrFun (V_main_arg1 m 0) (ix2 (i 0) 32))
  refine congrArg (V m 0 main_arg1) (?_ : (Rect.unit (s := S16x33) (k0_off16 i) S1x1.size (k0_off16_inb i)).toLoadRect.idx (Shape.Idx.first (numel1_S1x1.symm ▸ Nat.one_pos)) = (ix2 (i 0) 32 : S16x33.Idx))
  funext a
  match a with
  | ⟨0, _⟩ => exact Fin.ext (by show (BitVec.ofNat 32 (i 0).val).toNat + 1 * 0 = (i 0).val; rw [off1_eq (i 0)]; omega)
  | ⟨1, _⟩ => exact Fin.ext rfl

/-- The counts are what the tables' last columns hold. -/
theorem counts_of (h0 : ∀ e : Fin 16, (m (((0 : Dev nD).tc : Thread nD τ).loc main_arg0) (ix2 e 16) : BitVec 32).toNat ≤ 768)
    (h1 : ∀ e : Fin 16, (m (((0 : Dev nD).tc : Thread nD τ).loc main_arg1) (ix2 e 32) : BitVec 32).toNat ≤ 1536) : Counts m := fun i =>
  ⟨.of (by rw [count8_eq]; exact h0 (i 0)), .of (by rw [count9_eq]; exact h1 (i 0))⟩

end Counts

variable (m : (ℓ : Loc nD τ sig) → Buf (Elt Ideal) ℓ)

theorem idx_all : ∀ t : Fin grid0.N, cc0_transform_0 (grid0.coords t) = ![(t.val : Nat), 0, 0] ∧ cc0_transform_1 (grid0.coords t) = ![(t.val : Nat), 0, 0]
    ∧ cc0_transform_2 (grid0.coords t) = ![(t.val : Nat), 0, 0] ∧ cc0_transform_3 (grid0.coords t) = ![(t.val : Nat), 0, 0] ∧ cc0_transform_4 (grid0.coords t) = ![(t.val : Nat), 0, 0]
    ∧ cc0_transform_5 (grid0.coords t) = ![(t.val : Nat), 0, 0] ∧ cc0_transform_6 (grid0.coords t) = ![(t.val : Nat), 0, 0] := by decide +kernel

theorem coords_val : ∀ t : Fin grid0.N, (grid0.coords t 0).val = t.val := by decide +kernel

theorem coords_eq (t : Fin grid0.N) : grid0.coords t 0 = (⟨t.val, t.isLt⟩ : Fin 16) := Fin.ext (coords_val t)

/-- Tables of zeros: where the blocks lie doesn't depend on the tables. -/
def zeros : (pcfg0 (F := Ideal)).Adm := ⟨fun j => match j with
  | ⟨0, _⟩ => fun _ => 0#32
  | ⟨1, _⟩ => fun _ => 0#32, trivial⟩

theorem covers5 : ((cfg0 zeros).win 5).Covers := by decide +kernel
theorem covers6 : ((cfg0 zeros).win 6).Covers := by decide +kernel

theorem blk0 (c : Dev nD) (t : Fin (cfgM m (ok m)).N) (r : Fin 768) (d : Fin 1152) :
    (iblk m (ok m) c 0 t : Vec Ideal S1x768x1152 .bf16) (ix3 0 r d) = m ((c : Thread nD τ).loc main_arg2) (ix3 ⟨t.val, t.isLt⟩ r d) := by
  have e : ((cfgM m (ok m)).win 0).index t = ![(t.val : Nat), 0, 0] := (idx_all t).1
  blk_simp [iblk]
  refine (congrFun (V_main_arg2 m c) _).trans ?_
  refine congrArg _ ?_
  blk_ext [e]

theorem blk1 (c : Dev nD) (t : Fin (cfgM m (ok m)).N) (r : Fin 1536) (d : Fin 1152) :
    (iblk m (ok m) c 1 t : Vec Ideal S1x1536x1152 .bf16) (ix3 0 r d) = m ((c : Thread nD τ).loc main_arg3) (ix3 ⟨t.val, t.isLt⟩ r d) := by
  have e : ((cfgM m (ok m)).win 1).index t = ![(t.val : Nat), 0, 0] := (idx_all t).2.1
  blk_simp [iblk]
  refine (congrFun (V_main_arg3 m c) _).trans ?_
  refine congrArg _ ?_
  blk_ext [e]

theorem blk2 (c : Dev nD) (t : Fin (cfgM m (ok m)).N) (r : Fin 1024) (d : Fin 512) :
    (iblk m (ok m) c 2 t : Vec Ideal S1x1024x512 .f32) (ix3 0 r d) = m ((c : Thread nD τ).loc main_arg4) (ix3 ⟨t.val, t.isLt⟩ r d) := by
  have e : ((cfgM m (ok m)).win 2).index t = ![(t.val : Nat), 0, 0] := (idx_all t).2.2.1
  blk_simp [iblk]
  refine (congrFun (V_main_arg4 m c) _).trans ?_
  refine congrArg _ ?_
  blk_ext [e]

theorem blk3 (c : Dev nD) (t : Fin (cfgM m (ok m)).N) (r : Fin 1024) (d : Fin 512) :
    (iblk m (ok m) c 3 t : Vec Ideal S1x1024x512 .f32) (ix3 0 r d) = m ((c : Thread nD τ).loc main_arg5) (ix3 ⟨t.val, t.isLt⟩ r d) := by
  have e : ((cfgM m (ok m)).win 3).index t = ![(t.val : Nat), 0, 0] := (idx_all t).2.2.2.1
  blk_simp [iblk]
  refine (congrFun (V_main_arg5 m c) _).trans ?_
  refine congrArg _ ?_
  blk_ext [e]

theorem blk4 (c : Dev nD) (t : Fin (cfgM m (ok m)).N) (r : Fin 512) (d : Fin 1024) :
    (iblk m (ok m) c 4 t : Vec Ideal S1x512x1024 .f32) (ix3 0 r d) = m ((c : Thread nD τ).loc main_arg6) (ix3 ⟨t.val, t.isLt⟩ r d) := by
  have e : ((cfgM m (ok m)).win 4).index t = ![(t.val : Nat), 0, 0] := (idx_all t).2.2.2.2.1
  blk_simp [iblk]
  refine (congrFun (V_main_arg6 m c) _).trans ?_
  refine congrArg _ ?_
  blk_ext [e]

/-- Row `r` of expert `t`. -/
theorem out8_apply (c : Dev nD) (t : Fin (cfgM m (ok m)).N) (n : BitVec 32) (x : FVec Ideal S16x768x1152 .bf16) (s : Fin 16 → BitVec 32)
    (hs : ∀ e, m (((0 : Dev nD).tc : Thread nD τ).loc main_arg0) (ix2 e 16) = s e) (hx : m ((c : Thread nD τ).loc main_arg2) = x)
    (hn : s ⟨t.val, t.isLt⟩ = n) (hc : n.toNat ≤ 768) (hb : Blank s fun e r d => x (ix3 e r d)) (r : Fin 768) (j : Fin 1024) :
    out8 m c t (ix3 0 r j) = rowP x (m ((c : Thread nD τ).loc main_arg4)) (m ((c : Thread nD τ).loc main_arg5)) (m ((c : Thread nD τ).loc main_arg6)) ⟨t.val, t.isLt⟩ r j := by
  have hi : (grid0.coords t 0) = (⟨t.val, t.isLt⟩ : Fin 16) := coords_eq t
  have hn' : count8 m (grid0.coords t) = n := by rw [count8_eq, hi]; exact (hs _).trans hn
  unfold out8
  rw [hn']
  refine (T8_apply _ (by unfold tiles; omega) (grid0.coords t) _ _ _ _ r j).trans ?_
  have hx' : ∀ d, (iblk m (ok m) c 0 t : Vec Ideal S1x768x1152 .bf16) (ix3 0 r d) = x (ix3 ⟨t.val, t.isLt⟩ r d) := fun d => (blk0 m c t r d).trans (congrFun hx _)
  have hb1 := hb.1 ⟨t.val, t.isLt⟩ r
  have hb2 := hb.2 ⟨t.val, t.isLt⟩ r
  split
  · refine Eq.trans ?_ (rowK_eq_rowR _ hb2.1 hb2.2 _ _ _)
    refine rowK_congr (fun d => hx' _) (Finset.sum_congr rfl fun k _ => ?_) (fun d f => (pay13_apply _ d f).trans (blk2 m c t d f))
      (fun d f => (pay14_apply _ d f).trans (blk3 m c t d f)) (fun f => (pay15_apply _ f j).trans (blk4 m c t f j))
    refine (hx' _).trans (congrArg (fun d => x (ix3 ⟨t.val, t.isLt⟩ r d)) (Fin.ext ?_))
    show 1024 + (k.val * 16 + (grid0.coords t 0).val) = 1024 + (k.val * 16 + t.val)
    rw [hi]
  · rename_i hr
    have hz : ∀ d, x (ix3 (⟨t.val, t.isLt⟩ : Fin 16) r d) = 0 := by
      rcases hb1 with h | h
      · rw [hn] at h
        exact absurd (show r.val < 128 * tiles n by unfold tiles; omega) hr
      · exact h
    unfold rowP
    rw [Finset.sum_congr rfl fun k _ => hz _, Finset.sum_const_zero, rowR_zero]

set_option backward.isDefEq.respectTransparency.types false in
theorem final8 (c : Dev nD) (hc : ∀ e : Fin 16, (m (((0 : Dev nD).tc : Thread nD τ).loc main_arg0) (ix2 e 16) : BitVec 32).toNat ≤ 768)
    (hb : Blank (fun e => m (((0 : Dev nD).tc : Thread nD τ).loc main_arg0) (ix2 e 16)) fun e r d => (m ((c : Thread nD τ).loc main_arg2) : FVec Ideal S16x768x1152 .bf16) (ix3 e r d)) :
    (dats m 0 c).arrAt 5 (cfgM m (ok m)).N = outP (m ((c : Thread nD τ).loc main_arg2)) (m ((c : Thread nD τ).loc main_arg4)) (m ((c : Thread nD τ).loc main_arg5)) (m ((c : Thread nD τ).loc main_arg6)) := by
  refine (dats m 0 c).arrAt_eq_of_covers 5 _ (covers5) fun t hf (y : S1x768x1024.Idx) => ?_
  have e : ((cfgM m (ok m)).win 5).index t = ![(t.val : Nat), 0, 0] := (idx_all t).2.2.2.2.2.1
  blk_simp
  rw [after0_5]
  have hy : y = (ix3 (0 : Fin 1) (y 1 : Fin 768) (y 2 : Fin 1024) : S1x768x1024.Idx) := by
    refine funext fun a => ?_
    match a with
    | ⟨0, _⟩ => exact Fin.ext (by have h : (y 0 : Nat) < 1 := (y 0).isLt; show (y 0 : Nat) = 0; omega)
    | ⟨1, _⟩ => rfl
    | ⟨2, _⟩ => rfl
  have he : (((cfgM m (ok m)).win 5).blk t).view.emb y = (ix3 (⟨t.val, t.isLt⟩ : Fin 16) (y 1 : Fin 768) (y 2 : Fin 1024) : S16x768x1024.Idx) := by
    blk_ext [e]
  have e1 := out8_apply m c t (m (((0 : Dev nD).tc : Thread nD τ).loc main_arg0) (ix2 (⟨t.val, t.isLt⟩ : Fin 16) 16)) (m ((c : Thread nD τ).loc main_arg2))
    (fun e => m (((0 : Dev nD).tc : Thread nD τ).loc main_arg0) (ix2 e 16)) (fun _ => rfl) rfl rfl (hc _) hb (y 1) (y 2)
  have e2 : outP (m ((c : Thread nD τ).loc main_arg2)) (m ((c : Thread nD τ).loc main_arg4)) (m ((c : Thread nD τ).loc main_arg5)) (m ((c : Thread nD τ).loc main_arg6)) (ix3 (⟨t.val, t.isLt⟩ : Fin 16) (y 1 : Fin 768) (y 2 : Fin 1024))
      = rowP (m ((c : Thread nD τ).loc main_arg2)) (m ((c : Thread nD τ).loc main_arg4)) (m ((c : Thread nD τ).loc main_arg5)) (m ((c : Thread nD τ).loc main_arg6)) ⟨t.val, t.isLt⟩ (y 1) (y 2) := rfl
  have e3 := congrArg (outP (m ((c : Thread nD τ).loc main_arg2)) (m ((c : Thread nD τ).loc main_arg4)) (m ((c : Thread nD τ).loc main_arg5)) (m ((c : Thread nD τ).loc main_arg6))) he
  exact ((congrArg (out8 m c t) hy).trans (e1.trans e2.symm)).trans e3.symm

/-- Row `r` of expert `t`. -/
theorem out9_apply (c : Dev nD) (t : Fin (cfgM m (ok m)).N) (n : BitVec 32) (x : FVec Ideal S16x1536x1152 .bf16) (s : Fin 16 → BitVec 32)
    (hs : ∀ e, m (((0 : Dev nD).tc : Thread nD τ).loc main_arg1) (ix2 e 32) = s e) (hx : m ((c : Thread nD τ).loc main_arg3) = x)
    (hn : s ⟨t.val, t.isLt⟩ = n) (hc : n.toNat ≤ 1536) (hb : Blank s fun e r d => x (ix3 e r d)) (r : Fin 1536) (j : Fin 1024) :
    out9 m c t (ix3 0 r j) = rowS x (m ((c : Thread nD τ).loc main_arg4)) (m ((c : Thread nD τ).loc main_arg5)) (m ((c : Thread nD τ).loc main_arg6)) ⟨t.val, t.isLt⟩ r j := by
  have hi : (grid0.coords t 0) = (⟨t.val, t.isLt⟩ : Fin 16) := coords_eq t
  have hn' : count9 m (grid0.coords t) = n := by rw [count9_eq, hi]; exact (hs _).trans hn
  unfold out9
  rw [hn']
  refine (T9_apply _ (by unfold tiles; omega) (grid0.coords t) _ _ _ _ r j).trans ?_
  have hx' : ∀ d, (iblk m (ok m) c 1 t : Vec Ideal S1x1536x1152 .bf16) (ix3 0 r d) = x (ix3 ⟨t.val, t.isLt⟩ r d) := fun d => (blk1 m c t r d).trans (congrFun hx _)
  have hb1 := hb.1 ⟨t.val, t.isLt⟩ r
  have hb2 := hb.2 ⟨t.val, t.isLt⟩ r
  split
  · refine Eq.trans ?_ (rowK_eq_rowR _ hb2.1 hb2.2 _ _ _)
    refine rowK_congr (fun d => hx' _) (Finset.sum_congr rfl fun k _ => ?_) (fun d f => (pay13_apply _ d f).trans (blk2 m c t d f))
      (fun d f => (pay14_apply _ d f).trans (blk3 m c t d f)) (fun f => (pay15_apply _ f j).trans (blk4 m c t f j))
    refine (hx' _).trans (congrArg (fun d => x (ix3 ⟨t.val, t.isLt⟩ r d)) (Fin.ext ?_))
    show 1024 + (k.val * 16 + (grid0.coords t 0).val) = 1024 + (k.val * 16 + t.val)
    rw [hi]
  · rename_i hr
    have hz : ∀ d, x (ix3 (⟨t.val, t.isLt⟩ : Fin 16) r d) = 0 := by
      rcases hb1 with h | h
      · rw [hn] at h
        exact absurd (show r.val < 128 * tiles n by unfold tiles; omega) hr
      · exact h
    unfold rowS
    rw [Finset.sum_congr rfl fun k _ => hz _, Finset.sum_const_zero, rowR_zero]

set_option backward.isDefEq.respectTransparency.types false in
theorem final9 (c : Dev nD) (hc : ∀ e : Fin 16, (m (((0 : Dev nD).tc : Thread nD τ).loc main_arg1) (ix2 e 32) : BitVec 32).toNat ≤ 1536)
    (hb : Blank (fun e => m (((0 : Dev nD).tc : Thread nD τ).loc main_arg1) (ix2 e 32)) fun e r d => (m ((c : Thread nD τ).loc main_arg3) : FVec Ideal S16x1536x1152 .bf16) (ix3 e r d)) :
    (dats m 0 c).arrAt 6 (cfgM m (ok m)).N = outS (m ((c : Thread nD τ).loc main_arg3)) (m ((c : Thread nD τ).loc main_arg4)) (m ((c : Thread nD τ).loc main_arg5)) (m ((c : Thread nD τ).loc main_arg6)) := by
  refine (dats m 0 c).arrAt_eq_of_covers 6 _ (covers6) fun t hf (y : S1x1536x1024.Idx) => ?_
  have e : ((cfgM m (ok m)).win 6).index t = ![(t.val : Nat), 0, 0] := (idx_all t).2.2.2.2.2.2
  blk_simp
  rw [after0_6]
  have hy : y = (ix3 (0 : Fin 1) (y 1 : Fin 1536) (y 2 : Fin 1024) : S1x1536x1024.Idx) := by
    refine funext fun a => ?_
    match a with
    | ⟨0, _⟩ => exact Fin.ext (by have h : (y 0 : Nat) < 1 := (y 0).isLt; show (y 0 : Nat) = 0; omega)
    | ⟨1, _⟩ => rfl
    | ⟨2, _⟩ => rfl
  have he : (((cfgM m (ok m)).win 6).blk t).view.emb y = (ix3 (⟨t.val, t.isLt⟩ : Fin 16) (y 1 : Fin 1536) (y 2 : Fin 1024) : S16x1536x1024.Idx) := by
    blk_ext [e]
  have e1 := out9_apply m c t (m (((0 : Dev nD).tc : Thread nD τ).loc main_arg1) (ix2 (⟨t.val, t.isLt⟩ : Fin 16) 32)) (m ((c : Thread nD τ).loc main_arg3))
    (fun e => m (((0 : Dev nD).tc : Thread nD τ).loc main_arg1) (ix2 e 32)) (fun _ => rfl) rfl rfl (hc _) hb (y 1) (y 2)
  have e2 : outS (m ((c : Thread nD τ).loc main_arg3)) (m ((c : Thread nD τ).loc main_arg4)) (m ((c : Thread nD τ).loc main_arg5)) (m ((c : Thread nD τ).loc main_arg6)) (ix3 (⟨t.val, t.isLt⟩ : Fin 16) (y 1 : Fin 1536) (y 2 : Fin 1024))
      = rowS (m ((c : Thread nD τ).loc main_arg3)) (m ((c : Thread nD τ).loc main_arg4)) (m ((c : Thread nD τ).loc main_arg5)) (m ((c : Thread nD τ).loc main_arg6)) ⟨t.val, t.isLt⟩ (y 1) (y 2) := rfl
  have e3 := congrArg (outS (m ((c : Thread nD τ).loc main_arg3)) (m ((c : Thread nD τ).loc main_arg4)) (m ((c : Thread nD τ).loc main_arg5)) (m ((c : Thread nD τ).loc main_arg6))) he
  exact ((congrArg (out9 m c t) hy).trans (e1.trans e2.symm)).trans e3.symm

end Cert.Proof.Ffn
-- ==== Proof.Ffn.Ref.lean ====
module

public import proofs.«01_k».proof.Proof.Gen.Reference2Ideal.Run
public import proofs.«01_k».proof.Proof.Ffn.Value
public import proofs.«01_k».proof.Proof.Ffn.Pre
public import Idealize.ShloMosaic.Lib.Pointwise

/-! The feed-forward reference's two results at an index. -/

@[expose] public section
noncomputable section
namespace Cert.Proof.Ffn
open Idealize.ShloMosaic Idealize.SL.Sem Cert.Reference2Ideal Cert.Reference2Ideal.Gen

theorem ix3_eta {a b c : ℕ} (i : (⟨3, ![a, b, c]⟩ : Shape).Idx) : i = ix3 (i 0) (i 1) (i 2) := by
  refine funext fun a => ?_
  match a with
  | ⟨0, _⟩ => rfl
  | ⟨1, _⟩ => rfl
  | ⟨2, _⟩ => rfl

set_option maxRecDepth 16384 in
/-- The reference ends with the two results, its arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v22) = outP (m ((c.tc : Thread nD τ).loc main_arg2)) (m ((c.tc : Thread nD τ).loc main_arg4)) (m ((c.tc : Thread nD τ).loc main_arg5)) (m ((c.tc : Thread nD τ).loc main_arg6))
      ∧ r.2.mem ((c.tc : Thread nD τ).loc main_v45) = outS (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run (defs (F := Ideal)) _ _).mono (fun r h c => ?_) (Cert.Reference2Ideal.Value.run (F := Ideal) m ρ)
  obtain ⟨h1, h2, h3⟩ := h c
  refine ⟨h1.trans (funext fun i => ?_), h2.trans (funext fun i => ?_), h3⟩
  · refine (congrArg _ (ix3_eta i)).trans ?_
    unfold outP rowP rowR
    pointwise
    rw [diag_eq (i 0)]
  · refine (congrArg _ (ix3_eta i)).trans ?_
    unfold outS rowS rowR
    pointwise
    rw [diag_eq (i 0)]

theorem no_sem (x : GSem nD τ sig) : False := by
  obtain ⟨_, s⟩ := x
  rcases s with s | s <;> exact Nat.not_lt_zero _ s.2

/-- The reference runs and leaves its arguments alone. -/
theorem ref_frame (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0 :=
  (θ_run (defs (F := Ideal)) _ _).mono (fun _ h => ⟨fun c => (h c).2.2, funext fun x => (no_sem x).elim⟩) (ref_run m ρ)

end Cert.Proof.Ffn
-- ==== Proof.Ffn.Claims.lean ====
module

public import proofs.«01_k».proof.Defs
public import proofs.«01_k».proof.Proof.Ffn.Array
public import proofs.«01_k».proof.Proof.Ffn.Ref
public import proofs.«01_k».proof.Proof.Gen.Kernel2
public import proofs.«01_k».proof.Proof.Gen.Kernel2.Skeleton

/-! The claims about the feed-forward call, assembled. -/

@[expose] public section
noncomputable section
namespace Cert.Proof.Ffn
open Idealize.ShloMosaic Idealize.SL.Sem

section Ideal
open Cert.Kernel2Ideal

variable (m : (ℓ : Loc nD τ sig) → Buf (Elt Ideal) ℓ) (ρ : Dev nD → PrngReg)

/-- The precondition bounds the counts. -/
theorem counts_ideal (hpre : Cert.Pre_Kernel2Ideal (hPre_rows_then_blanks := Cert.Pre_rows_then_blanks.Gen.facts) m) : Counts m :=
  have h := pre_counts _ _ _ _ _ _ _ (hpre 0)
  counts_of m h.1 h.2

theorem frame_ideal : Cert.quiescent_Kernel2Ideal (hKernel2Ideal := Cert.Kernel2Ideal.Gen.facts) (hPre_rows_then_blanks := Cert.Pre_rows_then_blanks.Gen.facts) :=
  fun m ρ hpre => frame m ρ (counts_ideal m hpre)

theorem algebraic : Cert.algebraic_Kernel2Ideal_Reference2Ideal (hKernel2Ideal := Cert.Kernel2Ideal.Gen.facts)
    (hReference2Ideal := Cert.Reference2Ideal.Gen.facts) (hPre_rows_then_blanks := Cert.Pre_rows_then_blanks.Gen.facts) := by
  intro m g m' g' hpre hargs
  refine ⟨fun c => outP (m ((c.tc : Thread _ _).loc main_arg2)) (m ((c.tc : Thread _ _).loc main_arg4)) (m ((c.tc : Thread _ _).loc main_arg5)) (m ((c.tc : Thread _ _).loc main_arg6)),
    fun c => outS (m ((c.tc : Thread _ _).loc main_arg3)) (m ((c.tc : Thread _ _).loc main_arg4)) (m ((c.tc : Thread _ _).loc main_arg5)) (m ((c.tc : Thread _ _).loc main_arg6)), ?_, ?_⟩
  · refine (θ_run (defs (F := Ideal)) _ _).mono (fun r h c => ?_) (run_named m g (counts_ideal m hpre))
    obtain ⟨h1, h2, h3⟩ := h.1 c
    obtain rfl : c = 0 := Subsingleton.elim _ _
    obtain ⟨⟨p1, p2⟩, p3, p4⟩ := pre_elems _ _ _ _ _ _ _ (hpre 0)
    exact ⟨h1.trans (final8 m 0 p1 p2), h2.trans (final9 m 0 p3 p4), h3⟩
  · refine (θ_run (Cert.Reference2Ideal.defs (F := Ideal)) _ _).mono (fun r h c => ?_) (ref_run m' g')
    obtain ⟨h1, h2, h3⟩ := h c
    obtain ⟨a0, a1, a2, a3, a4, a5, a6⟩ := hargs c
    refine ⟨h1.trans ?_, h2.trans ?_, h3⟩
    · rw [a2, a4, a5, a6]
    · rw [a3, a4, a5, a6]

end Ideal

section Bits
variable {F : FTy → Type} [FloatOps F]

section
variable [h2 : Cert.Kernel2.Facts] [hi : Cert.Kernel2Ideal.Facts]

set_option maxRecDepth 65536
set_option maxHeartbeats 8000000

/-- The two programs are one text: the idealized one rewrites nothing. -/
theorem bodies_eq : Cert.Kernel2.defs₀ (F := F) = Cert.Kernel2Ideal.defs₀ := by
  unfold Cert.Kernel2.defs₀ Cert.Kernel2Ideal.defs₀
  refine congrArg Defs.onTc ?_
  funext l a
  match l with
  | 0 => rfl

theorem defs_eq : Cert.Kernel2.defs (F := F) = Cert.Kernel2Ideal.defs := by
  unfold Cert.Kernel2.defs Cert.Kernel2Ideal.defs
  rw [bodies_eq]
  rfl

theorem main_eq : Cert.Kernel2.main (F := F) = Cert.Kernel2Ideal.main := rfl

end

end Bits

section Kernel2
open Cert.Kernel2

attribute [local instance] Cert.Kernel2.Gen.facts Cert.Kernel2Ideal.Gen.facts

/-- A run of the idealized program's text is a run of the kernel's. -/
theorem run_of {p : (c : Thread nD τ) → Prog (TpuEff nD τ sig (Elt Bits) _ c.2) PUnit} {s : MemSt nD τ sig (Elt Bits)} {Q : PUnit × MemSt nD τ sig (Elt Bits) → Prop}
    (h : θ_run (Cert.Kernel2Ideal.defs (F := Bits)) p s Q) : θ_run (Cert.Kernel2.defs (F := Bits)) p s Q :=
  defs_eq (F := Bits) ▸ h

theorem frame_bits : Cert.quiescent_Kernel2 (hPre_rows_then_blanks := Cert.Pre_rows_then_blanks.Gen.facts) := fun m ρ hpre =>
  have h := pre_counts _ _ _ _ _ _ _ (hpre 0)
  run_of (frame (F := Bits) m ρ (counts_of m h.1 h.2))

end Kernel2

end Cert.Proof.Ffn
-- ==== Proof.Front.Spec.lean ====
module

public import proofs.«01_k».proof.Proof.Att.Row

/-! The layer's first call over one batch: the modulated norm and its projections, the queries' and keys' head norms,
the values and the gated convolution, as functions of rows and columns. -/

@[expose] public section
noncomputable section
namespace Cert.Front
open Idealize.ShloMosaic

/-- The norms' small constant. -/
def eps : EReal := Ideal.ofBits FTy.f32 897988541#32

/-- One over the root mean square of a row whose length is the word `c`. -/
def inv {n : Nat} (x : Fin n → EReal) (c : BitVec 32) : EReal :=
  Ideal.rsqrt (Ideal.div (∑ i, x i * x i) (Ideal.ofBits FTy.f32 c) + eps)

/-- The projection of the modulated norm. -/
def proj (x : Fin 256 → Fin 1024 → EReal) (m : Fin 6 → Fin 1024 → EReal) (g : Fin 1024 → EReal) (w : Fin 1024 → Fin 2432 → EReal)
    (n : Fin 256) (j : Fin 2432) : EReal :=
  ∑ d, (x n d * inv (x n) 1149239296#32 * g d * (1 + m 1 d) + m 0 d) * w d j

variable (p : Fin 256 → Fin 2432 → EReal)

/-- The queries' latent row, normalised. -/
def latQ (g : Fin 384 → EReal) (n : Fin 256) (l : Fin 384) : EReal :=
  p n ⟨l.val, by omega⟩ * inv (fun i : Fin 384 => p n ⟨i.val, by omega⟩) 1136656384#32 * g l

/-- The keys' and values' latent row, normalised. -/
def latK (g : Fin 256 → EReal) (n l : Fin 256) : EReal :=
  p n ⟨384 + l.val, by omega⟩ * inv (fun i : Fin 256 => p n ⟨384 + i.val, by omega⟩) 1132462080#32 * g l

/-- A latent row through a weight. -/
def up {k a : Nat} (z : Fin 256 → Fin k → EReal) (w : Fin k → Fin a → EReal) (n : Fin 256) (j : Fin a) : EReal := ∑ l, z n l * w l j

/-- A head's row over the root mean square of its first 96 lanes, times a table. -/
def head (x : Fin 128 → EReal) (t : EReal) (l : Fin 128) : EReal :=
  x l * inv (fun i : Fin 96 => x ⟨i.val, by omega⟩) 1119879168#32 * t

/-- The queries. -/
def qOut (g : Fin 384 → EReal) (w : Fin 384 → Fin 1024 → EReal) (t : Fin 256 → Fin 128 → EReal) (n : Fin 256) (j : Fin 1024) : EReal :=
  head (fun l => up (latQ p g) w n ⟨j.val / 128 * 128 + l.val, by omega⟩) (t n ⟨j.val % 128, by omega⟩) ⟨j.val % 128, by omega⟩

/-- The keys: every head's own row and the shared one. -/
def kOut (g : Fin 256 → EReal) (w : Fin 256 → Fin 1024 → EReal) (t : Fin 256 → Fin 128 → EReal) (n : Fin 256) (j : Fin 1024) : EReal :=
  head (fun l => up (latK p g) w n ⟨j.val / 128 * 128 + l.val, by omega⟩ + p n ⟨640 + l.val, by omega⟩) (t n ⟨j.val % 128, by omega⟩) ⟨j.val % 128, by omega⟩

/-- The gated input of the convolution. -/
def gated (n : Fin 256) (l : Fin 512) : EReal := p n ⟨1408 + l.val, by omega⟩ * p n ⟨1920 + l.val, by omega⟩

/-- The row before, or zero. -/
def before (n : Fin 256) (l : Fin 512) : EReal := if h : n.val = 0 then 0 else gated p ⟨n.val - 1, by omega⟩ l

/-- The row after, or zero. -/
def after (n : Fin 256) (l : Fin 512) : EReal := if h : n.val = 255 then 0 else gated p ⟨n.val + 1, by omega⟩ l

/-- The gated convolution over three rows. -/
def convOut (w : Fin 3 → Fin 512 → EReal) (n : Fin 256) (l : Fin 512) : EReal :=
  p n ⟨896 + l.val, by omega⟩ * (w 0 l * before p n l + w 1 l * gated p n l + w 2 l * after p n l)

theorem head_masked (x : Fin 128 → EReal) (t : EReal) (l : Fin 128) :
    x l * t * Ideal.rsqrt ((∑ i : Fin 128, if i.val < 96 then x i * x i else 0) * ((1 / 96 : ℝ) : EReal) + eps) = head x t l := by
  have hc : Ideal.ofBits FTy.f32 1119879168#32 = ((96 : ℝ) : EReal) := by
    simp [Ideal.ofBits, Ideal.ieee]
    rw [← EReal.coe_mul]; norm_num
  have hs : (∑ i : Fin 128, if i.val < 96 then x i * x i else 0) = ∑ i : Fin 96, x ⟨i.val, by omega⟩ * x ⟨i.val, by omega⟩ := by
    rw [show (∑ i : Fin 128, if i.val < 96 then x i * x i else 0) = ∑ i : Fin (96 + 32), if i.val < 96 then x i * x i else 0 from rfl, Fin.sum_univ_add]
    have h0 : (∑ i : Fin 32, if (Fin.natAdd 96 i).val < 96 then x (Fin.natAdd 96 i) * x (Fin.natAdd 96 i) else 0) = 0 :=
      Finset.sum_eq_zero fun i _ => if_neg (by simp)
    rw [h0, add_zero]
    exact Finset.sum_congr rfl fun i _ => if_pos (by simp)
  unfold head inv
  rw [hs, hc, Ideal.div_coe (by norm_num), mul_right_comm]

end Cert.Front
-- ==== Proof.Front.Pay.lean ====
module

public import proofs.«01_k».proof.Proof.Gen.Kernel3Ideal.Skeleton
public import proofs.«01_k».proof.Proof.Front.Spec
public import Idealize.ShloMosaic.Lib.Pointwise

/-! The payloads of the layer's first call at an index. -/

@[expose] public section
noncomputable section
namespace Cert.Front
open Idealize.ShloMosaic Cert.Kernel3Ideal Cert.Kernel3Ideal.Gen

/-- The queries' latent columns of the projection. -/
def qSlice (p : FVec Ideal S256x2432 .f32) : FVec Ideal S256x384 .f32 := extractStridedSlice S256x384 ![0, 0] p slices_S256x2432_o0_0_S256x384

/-- The mean of their squares. -/
def qMean (p : FVec Ideal S256x2432 .f32) : FVec Ideal S256x1 .f32 :=
  divf (shapeCast S256x1 (multiReduction .add [1] S256 (mulf (qSlice p) (qSlice p)) 0x00000000#32 reduces_S256x384_S256 (.inl rfl) rfl) shapeCasts_S256_S256x1) (broadcast S256x1 (Scalar.ofBits .f32 0x43C00000#32))

/-- The queries of all heads before their norms. -/
def qFull (p : FVec Ideal S256x2432 .f32) (g : Vec Ideal S1x384 .f32) (w : Vec Ideal S384x1024 .bf16) : FVec Ideal S256x1024 .f32 :=
  k0_pay6 (qSlice p) g (qMean p) k0_pay5 w

/-- The columns of the keys' and values' latent, normalised. -/
def kLat (p : FVec Ideal S256x2432 .f32) (g : Vec Ideal S1x256 .f32) : FVec Ideal S256x256 .f32 := k0_pay25 (k0_pay23 p) g (k0_pay24 p)

/-- The keys of all heads before the shared lanes and the norms. -/
def kFull (p : FVec Ideal S256x2432 .f32) (g : Vec Ideal S1x256 .f32) (w : Vec Ideal S256x1024 .bf16) : FVec Ideal S256x1024 .f32 :=
  k0_pay30 (k0_pay23 p) g (k0_pay24 p) w

/-- The gated convolution's block from its gate, its input and its three rows of weights. -/
def convTile (gb u : Vec Ideal S256x512 .f32) (w0 w1 w2 : Vec Ideal S1x512 .f32) : FVec Ideal S1x256x512 .bf16 :=
  k0_pay1 u (k0_pay51 u) gb (k0_pay52 u w0) (k0_pay53 w1) w2

set_option maxRecDepth 16384 in
theorem qFull_apply (p : FVec Ideal S256x2432 .f32) (g : Vec Ideal S1x384 .f32) (w : Vec Ideal S384x1024 .bf16) (r : Fin 256) (j : Fin 1024) :
    qFull p g w (ix2 r j) = up (latQ (fun n j => p (ix2 n j)) fun l => g (ix2 0 l)) (fun l j => w (ix2 l j)) r j := by
  unfold qFull qMean qSlice up latQ inv eps
  pointwise [k0_pay6, k0_pay5]

set_option maxRecDepth 16384 in
theorem kLat_apply (p : FVec Ideal S256x2432 .f32) (g : Vec Ideal S1x256 .f32) (r l : Fin 256) :
    kLat p g (ix2 r l) = latK (fun n j => p (ix2 n j)) (fun l => g (ix2 0 l)) r l := by
  unfold kLat latK inv eps
  pointwise [k0_pay25, k0_pay24, k0_pay23]

set_option maxRecDepth 16384 in
theorem kFull_apply (p : FVec Ideal S256x2432 .f32) (g : Vec Ideal S1x256 .f32) (w : Vec Ideal S256x1024 .bf16) (r : Fin 256) (j : Fin 1024) :
    kFull p g w (ix2 r j) = up (latK (fun n j => p (ix2 n j)) fun l => g (ix2 0 l)) (fun l j => w (ix2 l j)) r j := by
  unfold kFull up latK inv eps
  pointwise [k0_pay30, k0_pay29, k0_pay25, k0_pay24, k0_pay23]

set_option maxRecDepth 16384 in
theorem pay31_apply (p : FVec Ideal S256x2432 .f32) (g : Vec Ideal S1x256 .f32) (w : Vec Ideal S256x512 .bf16) (r : Fin 256) (j : Fin 512) :
    k0_pay31 (k0_pay23 p) g (k0_pay24 p) w (ix3 0 r j) = up (latK (fun n j => p (ix2 n j)) fun l => g (ix2 0 l)) (fun l j => w (ix2 l j)) r j := by
  unfold up latK inv eps
  pointwise [k0_pay31, k0_pay29, k0_pay25, k0_pay24, k0_pay23]

theorem pay27_apply (p : FVec Ideal S256x2432 .f32) (g : Vec Ideal S1x256 .f32) (r l : Fin 256) :
    k0_pay27 (k0_pay23 p) g (k0_pay24 p) (ix3 0 r l) = latK (fun n j => p (ix2 n j)) (fun l => g (ix2 0 l)) r l := by
  unfold latK inv eps
  pointwise [k0_pay27, k0_pay25, k0_pay24, k0_pay23]

theorem pay28_apply (p : FVec Ideal S256x2432 .f32) (r : Fin 256) (l : Fin 128) :
    k0_pay28 p (ix3 0 r l) = p (ix2 r ⟨640 + l.val, by omega⟩) := by
  pointwise [k0_pay28, k0_pay26]

theorem below : ∀ x : Fin 128, IntOp.cmpi CmpIPredicate.slt (BitVec.ofNat 32 x.val) 96#32 = if x.val < 96 then 1#1 else 0#1 := by decide +kernel

theorem named : (Named.named (F := Ideal) κ "one96th" (φ := .f32) 1009429163#32 : EReal) = ((1 / 96 : ℝ) : EReal) :=
  IdealRules.named_const.ideal_named_scalar κ "one96th" _ _ rfl

set_option maxRecDepth 16384 in
theorem pay15_apply (x : FVec Ideal S256x128 .f32) (t : Vec Ideal S256x128 .f32) (r : Fin 256) (l : Fin 128) :
    k0_pay15 x t (ix3 0 r l) = head (fun l => x (ix2 r l)) (t (ix2 r l)) l := by
  have e : k0_pay15 x t (ix3 0 r l) = x (ix2 r l) * t (ix2 r l) * Ideal.rsqrt ((∑ i : Fin 128, Scalar.select (IntOp.cmpi CmpIPredicate.slt (BitVec.ofNat 32 i.val) 96#32) (x (ix2 r i) * x (ix2 r i)) 0) * Named.named (F := Ideal) κ "one96th" (φ := .f32) 1009429163#32 + Ideal.ofBits FTy.f32 897988541#32) := by
    pointwise [k0_pay15]
  rw [e, named]
  refine Eq.trans ?_ (head_masked (fun l => x (ix2 r l)) (t (ix2 r l)) l)
  have hs : (∑ i : Fin 128, Scalar.select (IntOp.cmpi CmpIPredicate.slt (BitVec.ofNat 32 i.val) 96#32) (x (ix2 r i) * x (ix2 r i)) 0) = ∑ i : Fin 128, if i.val < 96 then x (ix2 r i) * x (ix2 r i) else 0 := by
    refine Finset.sum_congr rfl fun i _ => ?_
    rw [below]
    by_cases h : i.val < 96
    · rw [if_pos h, if_pos h]; rfl
    · rw [if_neg h, if_neg h]; rfl
  rw [hs]; rfl

set_option maxRecDepth 16384 in
theorem pay2_apply (v0 : Vec Ideal S1x1x1024 .f32) (v2 : Vec Ideal S1x1x1024 .f32) (v4 : Vec Ideal S1x256x1024 .f32) (v6 : Vec Ideal S1x1024 .f32) (v26 : Vec Ideal S1024x2432 .bf16) (r : Fin 256) (j : Fin 2432) :
    k0_pay2 v0 v2 v4 v6 v26 (ix2 r j) = ∑ d : Fin 1024, (v4 (ix3 0 r d) * inv (fun d : Fin 1024 => v4 (ix3 0 r d)) 1149239296#32 * v6 (ix2 0 d) * (1 + v2 (ix3 0 0 d)) + v0 (ix3 0 0 d)) * v26 (ix2 d j) := by
  unfold inv eps
  pointwise [k0_pay2]

theorem pay49_apply (p : FVec Ideal S256x2432 .f32) (r : Fin 256) (l : Fin 512) : k0_pay49 p (ix2 r l) = p (ix2 r ⟨896 + l.val, by omega⟩) := by
  pointwise [k0_pay49]

theorem pay50_apply (p : FVec Ideal S256x2432 .f32) (r : Fin 256) (l : Fin 512) : k0_pay50 p (ix2 r l) = gated (fun n j => p (ix2 n j)) r l := by
  unfold gated
  pointwise [k0_pay50]

theorem first : ∀ r : Fin 256, IntOp.cmpi CmpIPredicate.eq (BitVec.ofNat 32 r.val) 0#32 = if r.val = 0 then 1#1 else 0#1 := by decide +kernel

theorem last : ∀ r : Fin 256, IntOp.cmpi CmpIPredicate.eq (BitVec.ofNat 32 r.val) 255#32 = if r.val = 255 then 1#1 else 0#1 := by decide +kernel

theorem convTile_apply (p : Fin 256 → Fin 2432 → EReal) (gb u : Vec Ideal S256x512 .f32) (w0 w1 w2 : Vec Ideal S1x512 .f32) (w : Fin 3 → Fin 512 → EReal)
    (hg : ∀ r l, gb (ix2 r l) = p r ⟨896 + l.val, by omega⟩) (hu : ∀ r l, u (ix2 r l) = gated p r l)
    (h0 : ∀ l, w0 (ix2 0 l) = w 0 l) (h1 : ∀ l, w1 (ix2 0 l) = w 1 l) (h2 : ∀ l, w2 (ix2 0 l) = w 2 l) (r : Fin 256) (l : Fin 512) :
    convTile gb u w0 w1 w2 (ix3 0 r l) = convOut p w r l := by
  have e : convTile gb u w0 w1 w2 (ix3 0 r l) = gb (ix2 r l) *
      (Scalar.select (IntOp.cmpi CmpIPredicate.eq (BitVec.ofNat 32 r.val) 0#32) 0
            (w0 (ix2 0 l) * u (ix2 ⟨(r.val + 256 - 1) % 256, by omega⟩ l)) +
          w1 (ix2 0 l) * u (ix2 r l) +
        Scalar.select (IntOp.cmpi CmpIPredicate.eq (BitVec.ofNat 32 r.val) 255#32) 0
          (w2 (ix2 0 l) * u (ix2 ⟨(r.val + 256 - 255) % 256, by omega⟩ l))) := by
    unfold convTile
    pointwise [k0_pay1, k0_pay51, k0_pay52, k0_pay53]
  have eb : Scalar.select (IntOp.cmpi CmpIPredicate.eq (BitVec.ofNat 32 r.val) 0#32) 0 (w0 (ix2 0 l) * u (ix2 ⟨(r.val + 256 - 1) % 256, by omega⟩ l)) = w 0 l * before p r l := by
    rw [first, hu, h0]
    unfold before
    by_cases h : r.val = 0
    · rw [if_pos h, dif_pos h, mul_zero]; rfl
    · rw [if_neg h, dif_neg h]
      refine congrArg (fun n => w 0 l * gated p n l) (Fin.ext ?_)
      show (r.val + 256 - 1) % 256 = r.val - 1
      omega
  have ea : Scalar.select (IntOp.cmpi CmpIPredicate.eq (BitVec.ofNat 32 r.val) 255#32) 0 (w2 (ix2 0 l) * u (ix2 ⟨(r.val + 256 - 255) % 256, by omega⟩ l)) = w 2 l * after p r l := by
    rw [last, hu, h2]
    unfold after
    by_cases h : r.val = 255
    · rw [if_pos h, dif_pos h, mul_zero]; rfl
    · rw [if_neg h, dif_neg h]
      refine congrArg (fun n => w 2 l * gated p n l) (Fin.ext ?_)
      show (r.val + 256 - 255) % 256 = r.val + 1
      omega
  rw [e, eb, ea, hg, h1, hu]
  rfl

end Cert.Front
-- ==== Proof.Front.Block.lean ====
module

public import proofs.«01_k».proof.Proof.Gen.Kernel3Ideal.Frame
public import proofs.«01_k».proof.Proof.Front.Pay
public import Idealize.ShloMosaic.Lib.Pipeline.ValueKit.Tiles
public import Idealize.ShloMosaic.Lib.VecWindow
public import Idealize.ShloMosaic.Lib.WholeRead

/-! The body's output blocks at an index. -/

@[expose] public section
set_option maxRecDepth 16384
noncomputable section
namespace Cert.Front
open Idealize.ShloMosaic Idealize.ShloMosaic.TcCoe Cert.Kernel3Ideal Cert.Kernel3Ideal.Gen

theorem load_two {n k : Nat} {e : EltTy} (a : Memref sig .tc .vmem ⟨2, ![n, k]⟩ e) (h : a.IsWhole) (X : Vec Ideal ⟨2, ![n, k]⟩ e)
    (inb : ∀ i, (![0, 0] : Fin 2 → Nat) i + (⟨2, ![n, k]⟩ : Shape).size i ≤ (⟨2, ![n, k]⟩ : Shape).size i) :
    View.readAt (Elt Ideal) a.view (Rect.unit ![0, 0] (⟨2, ![n, k]⟩ : Shape).size inb).toLoadRect (h.unread X) = X := by
  funext x
  rw [h.readAt_unread]
  refine congrArg X (funext fun i => Fin.ext ?_)
  match i with
  | ⟨0, _⟩ => show 0 + 1 * (x 0 : Nat) = (x 0 : Nat); omega
  | ⟨1, _⟩ => show 0 + 1 * (x 1 : Nat) = (x 1 : Nat); omega

theorem load_three {n k : Nat} {e : EltTy} (a : Memref sig .tc .vmem ⟨3, ![1, n, k]⟩ e) (h : a.IsWhole) (X : Vec Ideal ⟨3, ![1, n, k]⟩ e)
    (inb : ∀ i, (![0, 0, 0] : Fin 3 → Nat) i + (⟨3, ![1, n, k]⟩ : Shape).size i ≤ (⟨3, ![1, n, k]⟩ : Shape).size i) :
    View.readAt (Elt Ideal) a.view (Rect.unit ![0, 0, 0] (⟨3, ![1, n, k]⟩ : Shape).size inb).toLoadRect (h.unread X) = X := by
  funext x
  rw [h.readAt_unread]
  refine congrArg X (funext fun i => Fin.ext ?_)
  match i with
  | ⟨0, _⟩ => show 0 + 1 * (x 0 : Nat) = (x 0 : Nat); omega
  | ⟨1, _⟩ => show 0 + 1 * (x 1 : Nat) = (x 1 : Nat); omega
  | ⟨2, _⟩ => show 0 + 1 * (x 2 : Nat) = (x 2 : Nat); omega

theorem load_row {n k : Nat} {e : EltTy} (a : Memref sig .tc .vmem ⟨2, ![n, k]⟩ e) (h : a.IsWhole) (X : Vec Ideal ⟨2, ![n, k]⟩ e) (o : Fin n)
    (inb : ∀ i, (![o.val, 0] : Fin 2 → Nat) i + (⟨2, ![1, k]⟩ : Shape).size i ≤ (⟨2, ![n, k]⟩ : Shape).size i) (l : Fin k) :
    View.readAt (Elt Ideal) a.view (Rect.unit (s := ⟨2, ![n, k]⟩) ![o.val, 0] (⟨2, ![1, k]⟩ : Shape).size inb).toLoadRect (h.unread X) (ix2 (0 : Fin 1) l) = X (ix2 o l) := by
  rw [h.readAt_unread]
  refine congrArg X (funext fun i => Fin.ext ?_)
  match i with
  | ⟨0, _⟩ => show o.val + 1 * 0 = o.val; omega
  | ⟨1, _⟩ => show 0 + 1 * l.val = l.val; omega

theorem load_slab {n k : Nat} {e : EltTy} (a : Memref sig .tc .vmem ⟨3, ![1, n, k]⟩ e) (h : a.IsWhole) (X : Vec Ideal ⟨3, ![1, n, k]⟩ e) (o : Fin n)
    (inb : ∀ i, (![0, o.val, 0] : Fin 3 → Nat) i + (⟨3, ![1, 1, k]⟩ : Shape).size i ≤ (⟨3, ![1, n, k]⟩ : Shape).size i) (l : Fin k) :
    View.readAt (Elt Ideal) a.view (Rect.unit (s := ⟨3, ![1, n, k]⟩) ![0, o.val, 0] (⟨3, ![1, 1, k]⟩ : Shape).size inb).toLoadRect (h.unread X) (ix3 (0 : Fin 1) (0 : Fin 1) l) = X (ix3 0 o l) := by
  rw [h.readAt_unread]
  refine congrArg X (funext fun i => Fin.ext ?_)
  match i with
  | ⟨0, _⟩ => rfl
  | ⟨1, _⟩ => show o.val + 1 * 0 = o.val; omega
  | ⟨2, _⟩ => show 0 + 1 * l.val = l.val; omega

/-- A head's tile of a block whose heads are `head`s of rows. -/
theorem head_tile (X : Fin 256 → Fin 1024 → EReal) (s : Fin 256 → Fin 128 → EReal) (t : Fin 256 → Fin 128 → EReal) (h : Nat) (hh : h < 8) (w : FVec Ideal S1x256x128 .bf16)
    (hw : ∀ r l, w (ix3 0 r l) = head (fun l => X r ⟨h * 128 + l.val, by omega⟩ + s r l) (t r l) l) (r : Fin 256) (c : Fin 1024) :
    View.TileAt (Val := Elt Ideal) (S := S1x256x1024) (e := .bf16) (ix3 0 r c) ![0, 0, h * 128] S1x256x128.size w
      (head (fun l => X r ⟨c.val / 128 * 128 + l.val, by omega⟩ + s r l) (t r ⟨c.val % 128, by omega⟩) ⟨c.val % 128, by omega⟩) := by
  intro x hx
  have h1 : r.val = 0 + (x 1 : Nat) := hx 1
  have h2 : c.val = h * 128 + (x 2 : Nat) := hx 2
  have hb : (x 2 : Nat) < 128 := (x 2).isLt
  have hb0 : (x 0 : Nat) < 1 := (x 0).isLt
  have e : x = ix3 0 r ⟨(x 2 : Nat), hb⟩ := by
    refine funext fun a => Fin.ext ?_
    match a with
    | ⟨0, _⟩ => show (x 0 : Nat) = 0; omega
    | ⟨1, _⟩ => show (x 1 : Nat) = r.val; omega
    | ⟨2, _⟩ => rfl
  have q : c.val / 128 = h := by omega
  have m : (⟨c.val % 128, by omega⟩ : Fin 128) = ⟨(x 2 : Nat), hb⟩ := Fin.ext (by show c.val % 128 = (x 2 : Nat); omega)
  rw [e, hw, m]
  refine congrArg (fun x => head x _ _) (funext fun l => ?_)
  refine congrArg (fun j => X r j + s r l) (Fin.ext ?_)
  show h * 128 + l.val = c.val / 128 * 128 + l.val
  rw [q]

theorem heads_at (X : Fin 256 → Fin 1024 → EReal) (s : Fin 256 → Fin 128 → EReal) (t : Fin 256 → Fin 128 → EReal) (w0 w1 w2 w3 w4 w5 w6 w7 : FVec Ideal S1x256x128 .bf16)
    (h0 : ∀ r l, w0 (ix3 0 r l) = head (fun l => X r ⟨0 * 128 + l.val, by omega⟩ + s r l) (t r l) l)
    (h1 : ∀ r l, w1 (ix3 0 r l) = head (fun l => X r ⟨1 * 128 + l.val, by omega⟩ + s r l) (t r l) l)
    (h2 : ∀ r l, w2 (ix3 0 r l) = head (fun l => X r ⟨2 * 128 + l.val, by omega⟩ + s r l) (t r l) l)
    (h3 : ∀ r l, w3 (ix3 0 r l) = head (fun l => X r ⟨3 * 128 + l.val, by omega⟩ + s r l) (t r l) l)
    (h4 : ∀ r l, w4 (ix3 0 r l) = head (fun l => X r ⟨4 * 128 + l.val, by omega⟩ + s r l) (t r l) l)
    (h5 : ∀ r l, w5 (ix3 0 r l) = head (fun l => X r ⟨5 * 128 + l.val, by omega⟩ + s r l) (t r l) l)
    (h6 : ∀ r l, w6 (ix3 0 r l) = head (fun l => X r ⟨6 * 128 + l.val, by omega⟩ + s r l) (t r l) l)
    (h7 : ∀ r l, w7 (ix3 0 r l) = head (fun l => X r ⟨7 * 128 + l.val, by omega⟩ + s r l) (t r l) l)
    (r : Fin 256) (c : Fin 1024) :
    View.AllAt (Val := Elt Ideal) (S := S1x256x1024) (e := .bf16) [⟨Rect.unit ![0, 0, 896] S1x256x128.size inb_S1x256x1024_S1x256x128_0_0_896, w7⟩,
      ⟨Rect.unit ![0, 0, 768] S1x256x128.size inb_S1x256x1024_S1x256x128_0_0_768, w6⟩,
      ⟨Rect.unit ![0, 0, 640] S1x256x128.size inb_S1x256x1024_S1x256x128_0_0_640, w5⟩,
      ⟨Rect.unit ![0, 0, 512] S1x256x128.size inb_S1x256x1024_S1x256x128_0_0_512, w4⟩,
      ⟨Rect.unit ![0, 0, 384] S1x256x128.size inb_S1x256x1024_S1x256x128_0_0_384, w3⟩,
      ⟨Rect.unit ![0, 0, 256] S1x256x128.size inb_S1x256x1024_S1x256x128_0_0_256, w2⟩,
      ⟨Rect.unit ![0, 0, 128] S1x256x128.size inb_S1x256x1024_S1x256x128_0_0_128, w1⟩,
      ⟨Rect.unit ![0, 0, 0] S1x256x128.size inb_S1x256x1024_S1x256x128_0_0_0, w0⟩] (ix3 0 r c)
      (head (fun l => X r ⟨c.val / 128 * 128 + l.val, by omega⟩ + s r l) (t r ⟨c.val % 128, by omega⟩) ⟨c.val % 128, by omega⟩) := by
  refine View.allAt_cons_unit _ _ _ _ _ (head_tile X s t 7 (by omega) w7 h7 r c) ?_
  refine View.allAt_cons_unit _ _ _ _ _ (head_tile X s t 6 (by omega) w6 h6 r c) ?_
  refine View.allAt_cons_unit _ _ _ _ _ (head_tile X s t 5 (by omega) w5 h5 r c) ?_
  refine View.allAt_cons_unit _ _ _ _ _ (head_tile X s t 4 (by omega) w4 h4 r c) ?_
  refine View.allAt_cons_unit _ _ _ _ _ (head_tile X s t 3 (by omega) w3 h3 r c) ?_
  refine View.allAt_cons_unit _ _ _ _ _ (head_tile X s t 2 (by omega) w2 h2 r c) ?_
  refine View.allAt_cons_unit _ _ _ _ _ (head_tile X s t 1 (by omega) w1 h1 r c) ?_
  refine View.allAt_cons_unit _ _ _ _ _ (head_tile X s t 0 (by omega) w0 h0 r c) ?_
  exact View.allAt_nil _ _

variable (c : Dev nD) (i : grid0.Coords) (arg1 : Memref sig .tc .vmem S1x256x1024 .f32) (harg1 : arg1.IsWhole) (arg2 : Memref sig .tc .vmem S1x6x1024 .f32) (harg2 : arg2.IsWhole) (arg3 : Memref sig .tc .vmem S1x1024 .f32) (harg3 : arg3.IsWhole) (arg4 : Memref sig .tc .vmem S1024x2432 .bf16) (harg4 : arg4.IsWhole) (arg5 : Memref sig .tc .vmem S1x384 .f32) (harg5 : arg5.IsWhole) (arg6 : Memref sig .tc .vmem S384x1024 .bf16) (harg6 : arg6.IsWhole) (arg7 : Memref sig .tc .vmem S1x256 .f32) (harg7 : arg7.IsWhole) (arg8 : Memref sig .tc .vmem S256x1024 .bf16) (harg8 : arg8.IsWhole) (arg9 : Memref sig .tc .vmem S256x512 .bf16) (harg9 : arg9.IsWhole) (arg10 : Memref sig .tc .vmem S3x512 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S1x256x1024 .bf16) (harg13 : arg13.IsWhole) (arg14 : Memref sig .tc .vmem S1x256x1024 .bf16) (harg14 : arg14.IsWhole) (arg15 : Memref sig .tc .vmem S1x256x512 .bf16) (harg15 : arg15.IsWhole) (arg16 : Memref sig .tc .vmem S1x256x512 .bf16) (harg16 : arg16.IsWhole) (arg17 : Memref sig .tc .vmem S1x256x256 .f32) (harg17 : arg17.IsWhole) (arg18 : Memref sig .tc .vmem S1x256x128 .f32) (harg18 : arg18.IsWhole) (arg19 : Memref sig .tc .vmem S256x512 .f32) (harg19 : arg19.IsWhole) (arg20 : Memref sig .tc .vmem S256x512 .f32) (harg20 : arg20.IsWhole)
variable (x0 : Vec Ideal S1x256x1024 .f32) (x1 : Vec Ideal S1x6x1024 .f32) (x2 : Vec Ideal S1x1024 .f32) (x3 : Vec Ideal S1024x2432 .bf16) (x4 : Vec Ideal S1x384 .f32) (x5 : Vec Ideal S384x1024 .bf16) (x6 : Vec Ideal S1x256 .f32) (x7 : Vec Ideal S256x1024 .bf16) (x8 : Vec Ideal S256x512 .bf16) (x9 : Vec Ideal S3x512 .f32) (x10 : Vec Ideal S256x128 .f32) (x11 : Vec Ideal S256x128 .f32)

theorem proj_apply (r : Fin 256) (j : Fin 2432) : (kernelRun0_A.sl.r (F := Ideal) c arg1 harg1 arg2 harg2 arg3 harg3 arg4 harg4 x0 x1 x2 x3) (ix2 r j) = proj (fun n d => x0 (ix3 0 n d)) (fun a d => x1 (ix3 0 a d)) (fun d => x2 (ix2 0 d)) (fun d j => x3 (ix2 d j)) r j := by
  unfold kernelRun0_A.sl.r
  refine (pay2_apply _ _ _ _ _ r j).trans ?_
  rw [load_three arg1 harg1 x0, load_two arg3 harg3 x2, load_two arg4 harg4 x3]
  have h0 := fun l => load_slab arg2 harg2 x1 0 inb_S1x6x1024_S1x1x1024_0_0_0 l
  have h1 := fun l => load_slab arg2 harg2 x1 1 inb_S1x6x1024_S1x1x1024_0_1_0 l
  unfold proj
  refine Finset.sum_congr rfl fun d _ => ?_
  exact congrArg₂ (fun a b : EReal => (x0 (ix3 0 r d) * inv (fun d : Fin 1024 => x0 (ix3 0 r d)) 1149239296#32 * x2 (ix2 0 d) * (1 + a) + b) * x3 (ix2 d j)) (h1 d) (h0 d)

theorem proj_fun : (fun n j => (kernelRun0_A.sl.r (F := Ideal) c arg1 harg1 arg2 harg2 arg3 harg3 arg4 harg4 x0 x1 x2 x3) (ix2 n j)) = (proj (fun n d => x0 (ix3 0 n d)) (fun a d => x1 (ix3 0 a d)) (fun d => x2 (ix2 0 d)) (fun d j => x3 (ix2 d j))) := funext fun n => funext fun j => proj_apply _ _ _ _ _ _ _ _ _ _ _ _ _ n j

theorem pieces12 : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11).1 = [⟨Rect.unit ![0, 0, 896] S1x256x128.size inb_S1x256x1024_S1x256x128_0_0_896, k0_pay15 (extractStridedSlice S256x128 ![0, 896] (qFull (kernelRun0_A.sl.r (F := Ideal) c arg1 harg1 arg2 harg2 arg3 harg3 arg4 harg4 x0 x1 x2 x3) (View.readAt (Elt Ideal) arg5.view (Rect.unit ![0, 0] S1x384.size inb_S1x384_S1x384_0_0).toLoadRect (harg5.unread x4)) (View.readAt (Elt Ideal) arg6.view (Rect.unit ![0, 0] S384x1024.size inb_S384x1024_S384x1024_0_0).toLoadRect (harg6.unread x5))) slices_S256x1024_o0_896_S256x128) (View.readAt (Elt Ideal) arg11.view (Rect.unit ![0, 0] S256x128.size inb_S256x128_S256x128_0_0).toLoadRect (harg11.unread x10))⟩,
      ⟨Rect.unit ![0, 0, 768] S1x256x128.size inb_S1x256x1024_S1x256x128_0_0_768, k0_pay15 (extractStridedSlice S256x128 ![0, 768] (qFull (kernelRun0_A.sl.r (F := Ideal) c arg1 harg1 arg2 harg2 arg3 harg3 arg4 harg4 x0 x1 x2 x3) (View.readAt (Elt Ideal) arg5.view (Rect.unit ![0, 0] S1x384.size inb_S1x384_S1x384_0_0).toLoadRect (harg5.unread x4)) (View.readAt (Elt Ideal) arg6.view (Rect.unit ![0, 0] S384x1024.size inb_S384x1024_S384x1024_0_0).toLoadRect (harg6.unread x5))) slices_S256x1024_o0_768_S256x128) (View.readAt (Elt Ideal) arg11.view (Rect.unit ![0, 0] S256x128.size inb_S256x128_S256x128_0_0).toLoadRect (harg11.unread x10))⟩,
      ⟨Rect.unit ![0, 0, 640] S1x256x128.size inb_S1x256x1024_S1x256x128_0_0_640, k0_pay15 (extractStridedSlice S256x128 ![0, 640] (qFull (kernelRun0_A.sl.r (F := Ideal) c arg1 harg1 arg2 harg2 arg3 harg3 arg4 harg4 x0 x1 x2 x3) (View.readAt (Elt Ideal) arg5.view (Rect.unit ![0, 0] S1x384.size inb_S1x384_S1x384_0_0).toLoadRect (harg5.unread x4)) (View.readAt (Elt Ideal) arg6.view (Rect.unit ![0, 0] S384x1024.size inb_S384x1024_S384x1024_0_0).toLoadRect (harg6.unread x5))) slices_S256x1024_o0_640_S256x128) (View.readAt (Elt Ideal) arg11.view (Rect.unit ![0, 0] S256x128.size inb_S256x128_S256x128_0_0).toLoadRect (harg11.unread x10))⟩,
      ⟨Rect.unit ![0, 0, 512] S1x256x128.size inb_S1x256x1024_S1x256x128_0_0_512, k0_pay15 (extractStridedSlice S256x128 ![0, 512] (qFull (kernelRun0_A.sl.r (F := Ideal) c arg1 harg1 arg2 harg2 arg3 harg3 arg4 harg4 x0 x1 x2 x3) (View.readAt (Elt Ideal) arg5.view (Rect.unit ![0, 0] S1x384.size inb_S1x384_S1x384_0_0).toLoadRect (harg5.unread x4)) (View.readAt (Elt Ideal) arg6.view (Rect.unit ![0, 0] S384x1024.size inb_S384x1024_S384x1024_0_0).toLoadRect (harg6.unread x5))) slices_S256x1024_o0_512_S256x128) (View.readAt (Elt Ideal) arg11.view (Rect.unit ![0, 0] S256x128.size inb_S256x128_S256x128_0_0).toLoadRect (harg11.unread x10))⟩,
      ⟨Rect.unit ![0, 0, 384] S1x256x128.size inb_S1x256x1024_S1x256x128_0_0_384, k0_pay15 (extractStridedSlice S256x128 ![0, 384] (qFull (kernelRun0_A.sl.r (F := Ideal) c arg1 harg1 arg2 harg2 arg3 harg3 arg4 harg4 x0 x1 x2 x3) (View.readAt (Elt Ideal) arg5.view (Rect.unit ![0, 0] S1x384.size inb_S1x384_S1x384_0_0).toLoadRect (harg5.unread x4)) (View.readAt (Elt Ideal) arg6.view (Rect.unit ![0, 0] S384x1024.size inb_S384x1024_S384x1024_0_0).toLoadRect (harg6.unread x5))) slices_S256x1024_o0_384_S256x128) (View.readAt (Elt Ideal) arg11.view (Rect.unit ![0, 0] S256x128.size inb_S256x128_S256x128_0_0).toLoadRect (harg11.unread x10))⟩,
      ⟨Rect.unit ![0, 0, 256] S1x256x128.size inb_S1x256x1024_S1x256x128_0_0_256, k0_pay15 (extractStridedSlice S256x128 ![0, 256] (qFull (kernelRun0_A.sl.r (F := Ideal) c arg1 harg1 arg2 harg2 arg3 harg3 arg4 harg4 x0 x1 x2 x3) (View.readAt (Elt Ideal) arg5.view (Rect.unit ![0, 0] S1x384.size inb_S1x384_S1x384_0_0).toLoadRect (harg5.unread x4)) (View.readAt (Elt Ideal) arg6.view (Rect.unit ![0, 0] S384x1024.size inb_S384x1024_S384x1024_0_0).toLoadRect (harg6.unread x5))) slices_S256x1024_o0_256_S256x128) (View.readAt (Elt Ideal) arg11.view (Rect.unit ![0, 0] S256x128.size inb_S256x128_S256x128_0_0).toLoadRect (harg11.unread x10))⟩,
      ⟨Rect.unit ![0, 0, 128] S1x256x128.size inb_S1x256x1024_S1x256x128_0_0_128, k0_pay15 (extractStridedSlice S256x128 ![0, 128] (qFull (kernelRun0_A.sl.r (F := Ideal) c arg1 harg1 arg2 harg2 arg3 harg3 arg4 harg4 x0 x1 x2 x3) (View.readAt (Elt Ideal) arg5.view (Rect.unit ![0, 0] S1x384.size inb_S1x384_S1x384_0_0).toLoadRect (harg5.unread x4)) (View.readAt (Elt Ideal) arg6.view (Rect.unit ![0, 0] S384x1024.size inb_S384x1024_S384x1024_0_0).toLoadRect (harg6.unread x5))) slices_S256x1024_o0_128_S256x128) (View.readAt (Elt Ideal) arg11.view (Rect.unit ![0, 0] S256x128.size inb_S256x128_S256x128_0_0).toLoadRect (harg11.unread x10))⟩,
      ⟨Rect.unit ![0, 0, 0] S1x256x128.size inb_S1x256x1024_S1x256x128_0_0_0, k0_pay15 (extractStridedSlice S256x128 ![0, 0] (qFull (kernelRun0_A.sl.r (F := Ideal) c arg1 harg1 arg2 harg2 arg3 harg3 arg4 harg4 x0 x1 x2 x3) (View.readAt (Elt Ideal) arg5.view (Rect.unit ![0, 0] S1x384.size inb_S1x384_S1x384_0_0).toLoadRect (harg5.unread x4)) (View.readAt (Elt Ideal) arg6.view (Rect.unit ![0, 0] S384x1024.size inb_S384x1024_S384x1024_0_0).toLoadRect (harg6.unread x5))) slices_S256x1024_o0_0_S256x128) (View.readAt (Elt Ideal) arg11.view (Rect.unit ![0, 0] S256x128.size inb_S256x128_S256x128_0_0).toLoadRect (harg11.unread x10))⟩] := rfl

theorem pieces13 : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11).2.1 = [⟨Rect.unit ![0, 0, 896] S1x256x128.size inb_S1x256x1024_S1x256x128_0_0_896, k0_pay15 (addf (extractStridedSlice S256x128 ![0, 896] (kFull (kernelRun0_A.sl.r (F := Ideal) c arg1 harg1 arg2 harg2 arg3 harg3 arg4 harg4 x0 x1 x2 x3) (View.readAt (Elt Ideal) arg7.view (Rect.unit ![0, 0] S1x256.size inb_S1x256_S1x256_0_0).toLoadRect (harg7.unread x6)) (View.readAt (Elt Ideal) arg8.view (Rect.unit ![0, 0] S256x1024.size inb_S256x1024_S256x1024_0_0).toLoadRect (harg8.unread x7))) slices_S256x1024_o0_896_S256x128) (k0_pay26 (kernelRun0_A.sl.r (F := Ideal) c arg1 harg1 arg2 harg2 arg3 harg3 arg4 harg4 x0 x1 x2 x3))) (View.readAt (Elt Ideal) arg12.view (Rect.unit ![0, 0] S256x128.size inb_S256x128_S256x128_0_0).toLoadRect (harg12.unread x11))⟩,
      ⟨Rect.unit ![0, 0, 768] S1x256x128.size inb_S1x256x1024_S1x256x128_0_0_768, k0_pay15 (addf (extractStridedSlice S256x128 ![0, 768] (kFull (kernelRun0_A.sl.r (F := Ideal) c arg1 harg1 arg2 harg2 arg3 harg3 arg4 harg4 x0 x1 x2 x3) (View.readAt (Elt Ideal) arg7.view (Rect.unit ![0, 0] S1x256.size inb_S1x256_S1x256_0_0).toLoadRect (harg7.unread x6)) (View.readAt (Elt Ideal) arg8.view (Rect.unit ![0, 0] S256x1024.size inb_S256x1024_S256x1024_0_0).toLoadRect (harg8.unread x7))) slices_S256x1024_o0_768_S256x128) (k0_pay26 (kernelRun0_A.sl.r (F := Ideal) c arg1 harg1 arg2 harg2 arg3 harg3 arg4 harg4 x0 x1 x2 x3))) (View.readAt (Elt Ideal) arg12.view (Rect.unit ![0, 0] S256x128.size inb_S256x128_S256x128_0_0).toLoadRect (harg12.unread x11))⟩,
      ⟨Rect.unit ![0, 0, 640] S1x256x128.size inb_S1x256x1024_S1x256x128_0_0_640, k0_pay15 (addf (extractStridedSlice S256x128 ![0, 640] (kFull (kernelRun0_A.sl.r (F := Ideal) c arg1 harg1 arg2 harg2 arg3 harg3 arg4 harg4 x0 x1 x2 x3) (View.readAt (Elt Ideal) arg7.view (Rect.unit ![0, 0] S1x256.size inb_S1x256_S1x256_0_0).toLoadRect (harg7.unread x6)) (View.readAt (Elt Ideal) arg8.view (Rect.unit ![0, 0] S256x1024.size inb_S256x1024_S256x1024_0_0).toLoadRect (harg8.unread x7))) slices_S256x1024_o0_640_S256x128) (k0_pay26 (kernelRun0_A.sl.r (F := Ideal) c arg1 harg1 arg2 harg2 arg3 harg3 arg4 harg4 x0 x1 x2 x3))) (View.readAt (Elt Ideal) arg12.view (Rect.unit ![0, 0] S256x128.size inb_S256x128_S256x128_0_0).toLoadRect (harg12.unread x11))⟩,
      ⟨Rect.unit ![0, 0, 512] S1x256x128.size inb_S1x256x1024_S1x256x128_0_0_512, k0_pay15 (addf (extractStridedSlice S256x128 ![0, 512] (kFull (kernelRun0_A.sl.r (F := Ideal) c arg1 harg1 arg2 harg2 arg3 harg3 arg4 harg4 x0 x1 x2 x3) (View.readAt (Elt Ideal) arg7.view (Rect.unit ![0, 0] S1x256.size inb_S1x256_S1x256_0_0).toLoadRect (harg7.unread x6)) (View.readAt (Elt Ideal) arg8.view (Rect.unit ![0, 0] S256x1024.size inb_S256x1024_S256x1024_0_0).toLoadRect (harg8.unread x7))) slices_S256x1024_o0_512_S256x128) (k0_pay26 (kernelRun0_A.sl.r (F := Ideal) c arg1 harg1 arg2 harg2 arg3 harg3 arg4 harg4 x0 x1 x2 x3))) (View.readAt (Elt Ideal) arg12.view (Rect.unit ![0, 0] S256x128.size inb_S256x128_S256x128_0_0).toLoadRect (harg12.unread x11))⟩,
      ⟨Rect.unit ![0, 0, 384] S1x256x128.size inb_S1x256x1024_S1x256x128_0_0_384, k0_pay15 (addf (extractStridedSlice S256x128 ![0, 384] (kFull (kernelRun0_A.sl.r (F := Ideal) c arg1 harg1 arg2 harg2 arg3 harg3 arg4 harg4 x0 x1 x2 x3) (View.readAt (Elt Ideal) arg7.view (Rect.unit ![0, 0] S1x256.size inb_S1x256_S1x256_0_0).toLoadRect (harg7.unread x6)) (View.readAt (Elt Ideal) arg8.view (Rect.unit ![0, 0] S256x1024.size inb_S256x1024_S256x1024_0_0).toLoadRect (harg8.unread x7))) slices_S256x1024_o0_384_S256x128) (k0_pay26 (kernelRun0_A.sl.r (F := Ideal) c arg1 harg1 arg2 harg2 arg3 harg3 arg4 harg4 x0 x1 x2 x3))) (View.readAt (Elt Ideal) arg12.view (Rect.unit ![0, 0] S256x128.size inb_S256x128_S256x128_0_0).toLoadRect (harg12.unread x11))⟩,
      ⟨Rect.unit ![0, 0, 256] S1x256x128.size inb_S1x256x1024_S1x256x128_0_0_256, k0_pay15 (addf (extractStridedSlice S256x128 ![0, 256] (kFull (kernelRun0_A.sl.r (F := Ideal) c arg1 harg1 arg2 harg2 arg3 harg3 arg4 harg4 x0 x1 x2 x3) (View.readAt (Elt Ideal) arg7.view (Rect.unit ![0, 0] S1x256.size inb_S1x256_S1x256_0_0).toLoadRect (harg7.unread x6)) (View.readAt (Elt Ideal) arg8.view (Rect.unit ![0, 0] S256x1024.size inb_S256x1024_S256x1024_0_0).toLoadRect (harg8.unread x7))) slices_S256x1024_o0_256_S256x128) (k0_pay26 (kernelRun0_A.sl.r (F := Ideal) c arg1 harg1 arg2 harg2 arg3 harg3 arg4 harg4 x0 x1 x2 x3))) (View.readAt (Elt Ideal) arg12.view (Rect.unit ![0, 0] S256x128.size inb_S256x128_S256x128_0_0).toLoadRect (harg12.unread x11))⟩,
      ⟨Rect.unit ![0, 0, 128] S1x256x128.size inb_S1x256x1024_S1x256x128_0_0_128, k0_pay15 (addf (extractStridedSlice S256x128 ![0, 128] (kFull (kernelRun0_A.sl.r (F := Ideal) c arg1 harg1 arg2 harg2 arg3 harg3 arg4 harg4 x0 x1 x2 x3) (View.readAt (Elt Ideal) arg7.view (Rect.unit ![0, 0] S1x256.size inb_S1x256_S1x256_0_0).toLoadRect (harg7.unread x6)) (View.readAt (Elt Ideal) arg8.view (Rect.unit ![0, 0] S256x1024.size inb_S256x1024_S256x1024_0_0).toLoadRect (harg8.unread x7))) slices_S256x1024_o0_128_S256x128) (k0_pay26 (kernelRun0_A.sl.r (F := Ideal) c arg1 harg1 arg2 harg2 arg3 harg3 arg4 harg4 x0 x1 x2 x3))) (View.readAt (Elt Ideal) arg12.view (Rect.unit ![0, 0] S256x128.size inb_S256x128_S256x128_0_0).toLoadRect (harg12.unread x11))⟩,
      ⟨Rect.unit ![0, 0, 0] S1x256x128.size inb_S1x256x1024_S1x256x128_0_0_0, k0_pay15 (addf (extractStridedSlice S256x128 ![0, 0] (kFull (kernelRun0_A.sl.r (F := Ideal) c arg1 harg1 arg2 harg2 arg3 harg3 arg4 harg4 x0 x1 x2 x3) (View.readAt (Elt Ideal) arg7.view (Rect.unit ![0, 0] S1x256.size inb_S1x256_S1x256_0_0).toLoadRect (harg7.unread x6)) (View.readAt (Elt Ideal) arg8.view (Rect.unit ![0, 0] S256x1024.size inb_S256x1024_S256x1024_0_0).toLoadRect (harg8.unread x7))) slices_S256x1024_o0_0_S256x128) (k0_pay26 (kernelRun0_A.sl.r (F := Ideal) c arg1 harg1 arg2 harg2 arg3 harg3 arg4 harg4 x0 x1 x2 x3))) (View.readAt (Elt Ideal) arg12.view (Rect.unit ![0, 0] S256x128.size inb_S256x128_S256x128_0_0).toLoadRect (harg12.unread x11))⟩] := rfl

theorem pieces14 : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11).2.2.1 = [⟨Rect.unit ![0, 0, 0] S1x256x512.size inb_S1x256x512_S1x256x512_0_0_0, k0_pay31 (k0_pay23 (kernelRun0_A.sl.r (F := Ideal) c arg1 harg1 arg2 harg2 arg3 harg3 arg4 harg4 x0 x1 x2 x3)) (View.readAt (Elt Ideal) arg7.view (Rect.unit ![0, 0] S1x256.size inb_S1x256_S1x256_0_0).toLoadRect (harg7.unread x6)) (k0_pay24 (kernelRun0_A.sl.r (F := Ideal) c arg1 harg1 arg2 harg2 arg3 harg3 arg4 harg4 x0 x1 x2 x3)) (View.readAt (Elt Ideal) arg9.view (Rect.unit ![0, 0] S256x512.size inb_S256x512_S256x512_0_0).toLoadRect (harg9.unread x8))⟩] := rfl

theorem pieces15 : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11).2.2.2.1 = [⟨Rect.unit ![0, 0, 0] S1x256x512.size inb_S1x256x512_S1x256x512_0_0_0, convTile (arg20.view.readCov [⟨Rect.unit ![0, 0] S256x512.size inb_S256x512_S256x512_0_0, k0_pay49 (kernelRun0_A.sl.r (F := Ideal) c arg1 harg1 arg2 harg2 arg3 harg3 arg4 harg4 x0 x1 x2 x3)⟩] (Rect.unit ![0, 0] S256x512.size inb_S256x512_S256x512_0_0).toLoadRect) (arg19.view.readCov [⟨Rect.unit ![0, 0] S256x512.size inb_S256x512_S256x512_0_0, k0_pay50 (kernelRun0_A.sl.r (F := Ideal) c arg1 harg1 arg2 harg2 arg3 harg3 arg4 harg4 x0 x1 x2 x3)⟩] (Rect.unit ![0, 0] S256x512.size inb_S256x512_S256x512_0_0).toLoadRect) (View.readAt (Elt Ideal) arg10.view (Rect.unit (s := S3x512) ![0, 0] S1x512.size inb_S3x512_S1x512_0_0).toLoadRect (harg10.unread x9)) (View.readAt (Elt Ideal) arg10.view (Rect.unit (s := S3x512) ![1, 0] S1x512.size inb_S3x512_S1x512_1_0).toLoadRect (harg10.unread x9)) (View.readAt (Elt Ideal) arg10.view (Rect.unit (s := S3x512) ![2, 0] S1x512.size inb_S3x512_S1x512_2_0).toLoadRect (harg10.unread x9))⟩] := rfl

theorem pieces16 : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11).2.2.2.2.1 = [⟨Rect.unit ![0, 0, 0] S1x256x256.size inb_S1x256x256_S1x256x256_0_0_0, k0_pay27 (k0_pay23 (kernelRun0_A.sl.r (F := Ideal) c arg1 harg1 arg2 harg2 arg3 harg3 arg4 harg4 x0 x1 x2 x3)) (View.readAt (Elt Ideal) arg7.view (Rect.unit ![0, 0] S1x256.size inb_S1x256_S1x256_0_0).toLoadRect (harg7.unread x6)) (k0_pay24 (kernelRun0_A.sl.r (F := Ideal) c arg1 harg1 arg2 harg2 arg3 harg3 arg4 harg4 x0 x1 x2 x3))⟩] := rfl

theorem pieces17 : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11).2.2.2.2.2.1 = [⟨Rect.unit ![0, 0, 0] S1x256x128.size inb_S1x256x128_S1x256x128_0_0_0, k0_pay28 (kernelRun0_A.sl.r (F := Ideal) c arg1 harg1 arg2 harg2 arg3 harg3 arg4 harg4 x0 x1 x2 x3)⟩] := rfl

theorem slice_apply (X : FVec Ideal S256x1024 .f32) (h : Nat) (hh : h < 8) (sl : S256x1024.Slices ![0, h * 128] S256x128) (r : Fin 256) (l : Fin 128) :
    extractStridedSlice S256x128 ![0, h * 128] X sl (ix2 r l) = X (ix2 r ⟨h * 128 + l.val, by omega⟩) := by
  refine congrArg X (funext fun i => Fin.ext ?_)
  match i with
  | ⟨0, _⟩ => show 0 + r.val = r.val; omega
  | ⟨1, _⟩ => show h * 128 + l.val = h * 128 + l.val; rfl

theorem q_head (p : FVec Ideal S256x2432 .f32) (g : Vec Ideal S1x384 .f32) (w : Vec Ideal S384x1024 .bf16) (t : Vec Ideal S256x128 .f32)
    (h : Nat) (hh : h < 8) (sl : S256x1024.Slices ![0, h * 128] S256x128) (r : Fin 256) (l : Fin 128) :
    k0_pay15 (extractStridedSlice S256x128 ![0, h * 128] (qFull p g w) sl) t (ix3 0 r l) =
      head (fun l => up (latQ (fun n j => p (ix2 n j)) fun l => g (ix2 0 l)) (fun l j => w (ix2 l j)) r ⟨h * 128 + l.val, by omega⟩ + 0) (t (ix2 r l)) l := by
  refine (pay15_apply _ _ r l).trans (congrArg (fun x => head x _ _) (funext fun l => ?_))
  rw [slice_apply _ h hh, qFull_apply, add_zero]

theorem k_head (p : FVec Ideal S256x2432 .f32) (g : Vec Ideal S1x256 .f32) (w : Vec Ideal S256x1024 .bf16) (t : Vec Ideal S256x128 .f32)
    (h : Nat) (hh : h < 8) (sl : S256x1024.Slices ![0, h * 128] S256x128) (r : Fin 256) (l : Fin 128) :
    k0_pay15 (addf (extractStridedSlice S256x128 ![0, h * 128] (kFull p g w) sl) (k0_pay26 p)) t (ix3 0 r l) =
      head (fun l => up (latK (fun n j => p (ix2 n j)) fun l => g (ix2 0 l)) (fun l j => w (ix2 l j)) r ⟨h * 128 + l.val, by omega⟩ + p (ix2 r ⟨640 + l.val, by omega⟩)) (t (ix2 r l)) l := by
  refine (pay15_apply _ _ r l).trans (congrArg (fun x => head x _ _) (funext fun l => ?_))
  show (extractStridedSlice S256x128 ![0, h * 128] (kFull p g w) sl (ix2 r l) : EReal) + k0_pay26 p (ix2 r l) = _
  rw [slice_apply _ h hh, kFull_apply]
  refine congrArg (fun x : EReal => _ + x) ?_
  pointwise [k0_pay26]

theorem out12_apply (r : Fin 256) (j : Fin 1024) : out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 (ix3 0 r j) = qOut (proj (fun n d => x0 (ix3 0 n d)) (fun a d => x1 (ix3 0 a d)) (fun d => x2 (ix2 0 d)) (fun d j => x3 (ix2 d j))) (fun l => x4 (ix2 0 l)) (fun l j => x5 (ix2 l j)) (fun n l => x10 (ix2 n l)) r j := by
  have e : qOut (proj (fun n d => x0 (ix3 0 n d)) (fun a d => x1 (ix3 0 a d)) (fun d => x2 (ix2 0 d)) (fun d j => x3 (ix2 d j))) (fun l => x4 (ix2 0 l)) (fun l j => x5 (ix2 l j)) (fun n l => x10 (ix2 n l)) r j =
      head (fun l => (fun n j => up (latQ (proj (fun n d => x0 (ix3 0 n d)) (fun a d => x1 (ix3 0 a d)) (fun d => x2 (ix2 0 d)) (fun d j => x3 (ix2 d j))) fun l => x4 (ix2 0 l)) (fun l j => x5 (ix2 l j)) n j) r ⟨j.val / 128 * 128 + l.val, by omega⟩ + (fun (_ : Fin 256) (_ : Fin 128) => (0 : EReal)) r l) ((fun n l => x10 (ix2 n l)) r ⟨j.val % 128, by omega⟩) ⟨j.val % 128, by omega⟩ := by
    unfold qOut
    simp only [add_zero]
  unfold out0_A_12
  rw [View.read_writes_junk_eq_canon, e]
  refine View.canon_eq_of_allAt _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 _) ?_
  have hq : ∀ (h : Nat) (hh : h < 8) (sl : S256x1024.Slices ![0, h * 128] S256x128) (r : Fin 256) (l : Fin 128),
      k0_pay15 (extractStridedSlice S256x128 ![0, h * 128] (qFull (kernelRun0_A.sl.r (F := Ideal) c arg1 harg1 arg2 harg2 arg3 harg3 arg4 harg4 x0 x1 x2 x3) (View.readAt (Elt Ideal) arg5.view (Rect.unit ![0, 0] S1x384.size inb_S1x384_S1x384_0_0).toLoadRect (harg5.unread x4)) (View.readAt (Elt Ideal) arg6.view (Rect.unit ![0, 0] S384x1024.size inb_S384x1024_S384x1024_0_0).toLoadRect (harg6.unread x5))) sl) (View.readAt (Elt Ideal) arg11.view (Rect.unit ![0, 0] S256x128.size inb_S256x128_S256x128_0_0).toLoadRect (harg11.unread x10)) (ix3 0 r l) =
        head (fun l => (fun n j => up (latQ (proj (fun n d => x0 (ix3 0 n d)) (fun a d => x1 (ix3 0 a d)) (fun d => x2 (ix2 0 d)) (fun d j => x3 (ix2 d j))) fun l => x4 (ix2 0 l)) (fun l j => x5 (ix2 l j)) n j) r ⟨h * 128 + l.val, by omega⟩ + (fun (_ : Fin 256) (_ : Fin 128) => (0 : EReal)) r l) ((fun n l => x10 (ix2 n l)) r l) l := by
    intro h hh sl r l
    rw [load_two arg5 harg5 x4, load_two arg6 harg6 x5, load_two arg11 harg11 x10]
    refine (q_head _ _ _ _ h hh sl r l).trans ?_
    rw [proj_fun c arg1 harg1 arg2 harg2 arg3 harg3 arg4 harg4 x0 x1 x2 x3]
  rw [pieces12]
  exact heads_at (up (latQ (proj (fun n d => x0 (ix3 0 n d)) (fun a d => x1 (ix3 0 a d)) (fun d => x2 (ix2 0 d)) (fun d j => x3 (ix2 d j))) fun l => x4 (ix2 0 l)) (fun l j => x5 (ix2 l j))) (fun _ _ => 0) (fun n l => x10 (ix2 n l)) _ _ _ _ _ _ _ _
    (hq 0 (by omega) _) (hq 1 (by omega) _) (hq 2 (by omega) _) (hq 3 (by omega) _) (hq 4 (by omega) _) (hq 5 (by omega) _) (hq 6 (by omega) _) (hq 7 (by omega) _) r j

theorem out13_apply (r : Fin 256) (j : Fin 1024) : out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 (ix3 0 r j) = kOut (proj (fun n d => x0 (ix3 0 n d)) (fun a d => x1 (ix3 0 a d)) (fun d => x2 (ix2 0 d)) (fun d j => x3 (ix2 d j))) (fun l => x6 (ix2 0 l)) (fun l j => x7 (ix2 l j)) (fun n l => x11 (ix2 n l)) r j := by
  unfold out0_A_13
  rw [View.read_writes_junk_eq_canon]
  refine View.canon_eq_of_allAt _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 _) ?_
  have hk : ∀ (h : Nat) (hh : h < 8) (sl : S256x1024.Slices ![0, h * 128] S256x128) (r : Fin 256) (l : Fin 128),
      k0_pay15 (addf (extractStridedSlice S256x128 ![0, h * 128] (kFull (kernelRun0_A.sl.r (F := Ideal) c arg1 harg1 arg2 harg2 arg3 harg3 arg4 harg4 x0 x1 x2 x3) (View.readAt (Elt Ideal) arg7.view (Rect.unit ![0, 0] S1x256.size inb_S1x256_S1x256_0_0).toLoadRect (harg7.unread x6)) (View.readAt (Elt Ideal) arg8.view (Rect.unit ![0, 0] S256x1024.size inb_S256x1024_S256x1024_0_0).toLoadRect (harg8.unread x7))) sl) (k0_pay26 (kernelRun0_A.sl.r (F := Ideal) c arg1 harg1 arg2 harg2 arg3 harg3 arg4 harg4 x0 x1 x2 x3))) (View.readAt (Elt Ideal) arg12.view (Rect.unit ![0, 0] S256x128.size inb_S256x128_S256x128_0_0).toLoadRect (harg12.unread x11)) (ix3 0 r l) =
        head (fun l => (fun n j => up (latK (proj (fun n d => x0 (ix3 0 n d)) (fun a d => x1 (ix3 0 a d)) (fun d => x2 (ix2 0 d)) (fun d j => x3 (ix2 d j))) fun l => x6 (ix2 0 l)) (fun l j => x7 (ix2 l j)) n j) r ⟨h * 128 + l.val, by omega⟩ + (fun n (l : Fin 128) => (proj (fun n d => x0 (ix3 0 n d)) (fun a d => x1 (ix3 0 a d)) (fun d => x2 (ix2 0 d)) (fun d j => x3 (ix2 d j))) n ⟨640 + l.val, by omega⟩) r l) ((fun n l => x11 (ix2 n l)) r l) l := by
    intro h hh sl r l
    rw [load_two arg7 harg7 x6, load_two arg8 harg8 x7, load_two arg12 harg12 x11]
    refine (k_head _ _ _ _ h hh sl r l).trans ?_
    rw [← proj_fun c arg1 harg1 arg2 harg2 arg3 harg3 arg4 harg4 x0 x1 x2 x3]
  rw [pieces13]
  exact heads_at (up (latK (proj (fun n d => x0 (ix3 0 n d)) (fun a d => x1 (ix3 0 a d)) (fun d => x2 (ix2 0 d)) (fun d j => x3 (ix2 d j))) fun l => x6 (ix2 0 l)) (fun l j => x7 (ix2 l j))) (fun n l => (proj (fun n d => x0 (ix3 0 n d)) (fun a d => x1 (ix3 0 a d)) (fun d => x2 (ix2 0 d)) (fun d j => x3 (ix2 d j))) n ⟨640 + l.val, by omega⟩) (fun n l => x11 (ix2 n l)) _ _ _ _ _ _ _ _
    (hk 0 (by omega) _) (hk 1 (by omega) _) (hk 2 (by omega) _) (hk 3 (by omega) _) (hk 4 (by omega) _) (hk 5 (by omega) _) (hk 6 (by omega) _) (hk 7 (by omega) _) r j

theorem out14_apply (r : Fin 256) (l : Fin 512) : out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 (ix3 0 r l) = up (latK (proj (fun n d => x0 (ix3 0 n d)) (fun a d => x1 (ix3 0 a d)) (fun d => x2 (ix2 0 d)) (fun d j => x3 (ix2 d j))) fun l => x6 (ix2 0 l)) (fun l j => x8 (ix2 l j)) r l := by
  unfold out0_A_14
  rw [pieces14, View.read_writes_full (s := S1x256x512)]
  rw [load_two arg7 harg7 x6, load_two arg9 harg9 x8, pay31_apply, proj_fun c arg1 harg1 arg2 harg2 arg3 harg3 arg4 harg4 x0 x1 x2 x3]

theorem out15_apply (r : Fin 256) (l : Fin 512) : out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 (ix3 0 r l) = convOut (proj (fun n d => x0 (ix3 0 n d)) (fun a d => x1 (ix3 0 a d)) (fun d => x2 (ix2 0 d)) (fun d j => x3 (ix2 d j))) (fun a l => x9 (ix2 a l)) r l := by
  unfold out0_A_15
  rw [pieces15, View.read_writes_full (s := S1x256x512)]
  rw [View.readCov_full (s := S256x512), View.readCov_full (s := S256x512)]
  refine (convTile_apply (fun n j => (kernelRun0_A.sl.r (F := Ideal) c arg1 harg1 arg2 harg2 arg3 harg3 arg4 harg4 x0 x1 x2 x3) (ix2 n j)) _ _ _ _ _ (fun a l => x9 (ix2 a l)) (fun r l => pay49_apply _ r l) (fun r l => pay50_apply _ r l)
    (fun l => load_row arg10 harg10 x9 0 _ l) (fun l => load_row arg10 harg10 x9 1 _ l) (fun l => load_row arg10 harg10 x9 2 _ l) r l).trans ?_
  rw [proj_fun c arg1 harg1 arg2 harg2 arg3 harg3 arg4 harg4 x0 x1 x2 x3]

theorem out16_apply (r : Fin 256) (l : Fin 256) : out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 (ix3 0 r l) = latK (proj (fun n d => x0 (ix3 0 n d)) (fun a d => x1 (ix3 0 a d)) (fun d => x2 (ix2 0 d)) (fun d j => x3 (ix2 d j))) (fun l => x6 (ix2 0 l)) r l := by
  unfold out0_A_16
  rw [pieces16, View.read_writes_full (s := S1x256x256)]
  rw [load_two arg7 harg7 x6, pay27_apply, proj_fun c arg1 harg1 arg2 harg2 arg3 harg3 arg4 harg4 x0 x1 x2 x3]

theorem out17_apply (r : Fin 256) (l : Fin 128) : out0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 (ix3 0 r l) = (proj (fun n d => x0 (ix3 0 n d)) (fun a d => x1 (ix3 0 a d)) (fun d => x2 (ix2 0 d)) (fun d j => x3 (ix2 d j))) r ⟨640 + l.val, by omega⟩ := by
  unfold out0_A_17
  rw [pieces17, View.read_writes_full (s := S1x256x128)]
  rw [pay28_apply, proj_apply]

end Cert.Front
-- ==== Proof.Front.Array.lean ====
module

public import proofs.«01_k».proof.Proof.Front.Block
public import proofs.«01_k».proof.Proof.Gen.Kernel3Ideal.Value
public import Idealize.ShloMosaic.Lib.Pipeline.ValueKit.Geometry

/-! The call's output arrays at an index: grid point `b` computes batch `b`. -/

@[expose] public section
noncomputable section
namespace Cert.Front
open Idealize.ShloMosaic Idealize.ShloMosaic.TcCoe Cert.Kernel3Ideal Cert.Kernel3Ideal.Gen

/-- The queries of every batch. -/
def frontQ (X0 : FVec Ideal S16x256x1024 .f32) (X1 : FVec Ideal S1x6x1024 .f32) (X2 : FVec Ideal S1x1024 .f32) (X3 : FVec Ideal S1024x2432 .bf16) (X4 : FVec Ideal S1x384 .f32) (X5 : FVec Ideal S384x1024 .bf16) (X10 : FVec Ideal S256x128 .f32) : FVec Ideal S16x256x1024 .bf16 :=
  fun i => qOut (proj (fun n d => X0 (ix3 (i 0) n d)) (fun a d => X1 (ix3 0 a d)) (fun d => X2 (ix2 0 d)) (fun d j => X3 (ix2 d j))) (fun l => X4 (ix2 0 l)) (fun l j => X5 (ix2 l j)) (fun n l => X10 (ix2 n l)) (i 1) (i 2)

theorem frontQ_congr (x0 : Vec Ideal S1x256x1024 .f32) (x1 : Vec Ideal S1x6x1024 .f32) (x2 : Vec Ideal S1x1024 .f32) (x3 : Vec Ideal S1024x2432 .bf16) (x4 : Vec Ideal S1x384 .f32) (x5 : Vec Ideal S384x1024 .bf16) (x10 : Vec Ideal S256x128 .f32) (X0 : FVec Ideal S16x256x1024 .f32) (X1 : FVec Ideal S1x6x1024 .f32) (X2 : FVec Ideal S1x1024 .f32) (X3 : FVec Ideal S1024x2432 .bf16) (X4 : FVec Ideal S1x384 .f32) (X5 : FVec Ideal S384x1024 .bf16) (X10 : FVec Ideal S256x128 .f32) (b : Fin 16) (h0 : ∀ n d, x0 (ix3 0 n d) = X0 (ix3 b n d)) (h1 : x1 = X1) (h2 : x2 = X2) (h3 : x3 = X3) (h4 : x4 = X4) (h5 : x5 = X5) (h10 : x10 = X10) (r : Fin 256) (j : Fin 1024) :
    qOut (proj (fun n d => x0 (ix3 0 n d)) (fun a d => x1 (ix3 0 a d)) (fun d => x2 (ix2 0 d)) (fun d j => x3 (ix2 d j))) (fun l => x4 (ix2 0 l)) (fun l j => x5 (ix2 l j)) (fun n l => x10 (ix2 n l)) r j = frontQ X0 X1 X2 X3 X4 X5 X10 (ix3 b r j) := by
  subst h1 h2 h3 h4 h5 h10
  have e : (fun n d => x0 (ix3 0 n d)) = fun n d => X0 (ix3 b n d) := funext fun n => funext fun d => h0 n d
  rw [e]
  rfl

/-- The keys of every batch. -/
def frontK (X0 : FVec Ideal S16x256x1024 .f32) (X1 : FVec Ideal S1x6x1024 .f32) (X2 : FVec Ideal S1x1024 .f32) (X3 : FVec Ideal S1024x2432 .bf16) (X6 : FVec Ideal S1x256 .f32) (X7 : FVec Ideal S256x1024 .bf16) (X11 : FVec Ideal S256x128 .f32) : FVec Ideal S16x256x1024 .bf16 :=
  fun i => kOut (proj (fun n d => X0 (ix3 (i 0) n d)) (fun a d => X1 (ix3 0 a d)) (fun d => X2 (ix2 0 d)) (fun d j => X3 (ix2 d j))) (fun l => X6 (ix2 0 l)) (fun l j => X7 (ix2 l j)) (fun n l => X11 (ix2 n l)) (i 1) (i 2)

theorem frontK_congr (x0 : Vec Ideal S1x256x1024 .f32) (x1 : Vec Ideal S1x6x1024 .f32) (x2 : Vec Ideal S1x1024 .f32) (x3 : Vec Ideal S1024x2432 .bf16) (x6 : Vec Ideal S1x256 .f32) (x7 : Vec Ideal S256x1024 .bf16) (x11 : Vec Ideal S256x128 .f32) (X0 : FVec Ideal S16x256x1024 .f32) (X1 : FVec Ideal S1x6x1024 .f32) (X2 : FVec Ideal S1x1024 .f32) (X3 : FVec Ideal S1024x2432 .bf16) (X6 : FVec Ideal S1x256 .f32) (X7 : FVec Ideal S256x1024 .bf16) (X11 : FVec Ideal S256x128 .f32) (b : Fin 16) (h0 : ∀ n d, x0 (ix3 0 n d) = X0 (ix3 b n d)) (h1 : x1 = X1) (h2 : x2 = X2) (h3 : x3 = X3) (h6 : x6 = X6) (h7 : x7 = X7) (h11 : x11 = X11) (r : Fin 256) (j : Fin 1024) :
    kOut (proj (fun n d => x0 (ix3 0 n d)) (fun a d => x1 (ix3 0 a d)) (fun d => x2 (ix2 0 d)) (fun d j => x3 (ix2 d j))) (fun l => x6 (ix2 0 l)) (fun l j => x7 (ix2 l j)) (fun n l => x11 (ix2 n l)) r j = frontK X0 X1 X2 X3 X6 X7 X11 (ix3 b r j) := by
  subst h1 h2 h3 h6 h7 h11
  have e : (fun n d => x0 (ix3 0 n d)) = fun n d => X0 (ix3 b n d) := funext fun n => funext fun d => h0 n d
  rw [e]
  rfl

/-- The values of every batch. -/
def frontV (X0 : FVec Ideal S16x256x1024 .f32) (X1 : FVec Ideal S1x6x1024 .f32) (X2 : FVec Ideal S1x1024 .f32) (X3 : FVec Ideal S1024x2432 .bf16) (X6 : FVec Ideal S1x256 .f32) (X8 : FVec Ideal S256x512 .bf16) : FVec Ideal S16x256x512 .bf16 :=
  fun i => up (latK (proj (fun n d => X0 (ix3 (i 0) n d)) (fun a d => X1 (ix3 0 a d)) (fun d => X2 (ix2 0 d)) (fun d j => X3 (ix2 d j))) fun l => X6 (ix2 0 l)) (fun l j => X8 (ix2 l j)) (i 1) (i 2)

theorem frontV_congr (x0 : Vec Ideal S1x256x1024 .f32) (x1 : Vec Ideal S1x6x1024 .f32) (x2 : Vec Ideal S1x1024 .f32) (x3 : Vec Ideal S1024x2432 .bf16) (x6 : Vec Ideal S1x256 .f32) (x8 : Vec Ideal S256x512 .bf16) (X0 : FVec Ideal S16x256x1024 .f32) (X1 : FVec Ideal S1x6x1024 .f32) (X2 : FVec Ideal S1x1024 .f32) (X3 : FVec Ideal S1024x2432 .bf16) (X6 : FVec Ideal S1x256 .f32) (X8 : FVec Ideal S256x512 .bf16) (b : Fin 16) (h0 : ∀ n d, x0 (ix3 0 n d) = X0 (ix3 b n d)) (h1 : x1 = X1) (h2 : x2 = X2) (h3 : x3 = X3) (h6 : x6 = X6) (h8 : x8 = X8) (r : Fin 256) (j : Fin 512) :
    up (latK (proj (fun n d => x0 (ix3 0 n d)) (fun a d => x1 (ix3 0 a d)) (fun d => x2 (ix2 0 d)) (fun d j => x3 (ix2 d j))) fun l => x6 (ix2 0 l)) (fun l j => x8 (ix2 l j)) r j = frontV X0 X1 X2 X3 X6 X8 (ix3 b r j) := by
  subst h1 h2 h3 h6 h8
  have e : (fun n d => x0 (ix3 0 n d)) = fun n d => X0 (ix3 b n d) := funext fun n => funext fun d => h0 n d
  rw [e]
  rfl

/-- The gated convolution of every batch. -/
def frontC (X0 : FVec Ideal S16x256x1024 .f32) (X1 : FVec Ideal S1x6x1024 .f32) (X2 : FVec Ideal S1x1024 .f32) (X3 : FVec Ideal S1024x2432 .bf16) (X9 : FVec Ideal S3x512 .f32) : FVec Ideal S16x256x512 .bf16 :=
  fun i => convOut (proj (fun n d => X0 (ix3 (i 0) n d)) (fun a d => X1 (ix3 0 a d)) (fun d => X2 (ix2 0 d)) (fun d j => X3 (ix2 d j))) (fun a l => X9 (ix2 a l)) (i 1) (i 2)

theorem frontC_congr (x0 : Vec Ideal S1x256x1024 .f32) (x1 : Vec Ideal S1x6x1024 .f32) (x2 : Vec Ideal S1x1024 .f32) (x3 : Vec Ideal S1024x2432 .bf16) (x9 : Vec Ideal S3x512 .f32) (X0 : FVec Ideal S16x256x1024 .f32) (X1 : FVec Ideal S1x6x1024 .f32) (X2 : FVec Ideal S1x1024 .f32) (X3 : FVec Ideal S1024x2432 .bf16) (X9 : FVec Ideal S3x512 .f32) (b : Fin 16) (h0 : ∀ n d, x0 (ix3 0 n d) = X0 (ix3 b n d)) (h1 : x1 = X1) (h2 : x2 = X2) (h3 : x3 = X3) (h9 : x9 = X9) (r : Fin 256) (j : Fin 512) :
    convOut (proj (fun n d => x0 (ix3 0 n d)) (fun a d => x1 (ix3 0 a d)) (fun d => x2 (ix2 0 d)) (fun d j => x3 (ix2 d j))) (fun a l => x9 (ix2 a l)) r j = frontC X0 X1 X2 X3 X9 (ix3 b r j) := by
  subst h1 h2 h3 h9
  have e : (fun n d => x0 (ix3 0 n d)) = fun n d => X0 (ix3 b n d) := funext fun n => funext fun d => h0 n d
  rw [e]
  rfl

/-- The keys' and values' latent of every batch. -/
def frontL (X0 : FVec Ideal S16x256x1024 .f32) (X1 : FVec Ideal S1x6x1024 .f32) (X2 : FVec Ideal S1x1024 .f32) (X3 : FVec Ideal S1024x2432 .bf16) (X6 : FVec Ideal S1x256 .f32) : FVec Ideal S16x256x256 .f32 :=
  fun i => latK (proj (fun n d => X0 (ix3 (i 0) n d)) (fun a d => X1 (ix3 0 a d)) (fun d => X2 (ix2 0 d)) (fun d j => X3 (ix2 d j))) (fun l => X6 (ix2 0 l)) (i 1) (i 2)

theorem frontL_congr (x0 : Vec Ideal S1x256x1024 .f32) (x1 : Vec Ideal S1x6x1024 .f32) (x2 : Vec Ideal S1x1024 .f32) (x3 : Vec Ideal S1024x2432 .bf16) (x6 : Vec Ideal S1x256 .f32) (X0 : FVec Ideal S16x256x1024 .f32) (X1 : FVec Ideal S1x6x1024 .f32) (X2 : FVec Ideal S1x1024 .f32) (X3 : FVec Ideal S1024x2432 .bf16) (X6 : FVec Ideal S1x256 .f32) (b : Fin 16) (h0 : ∀ n d, x0 (ix3 0 n d) = X0 (ix3 b n d)) (h1 : x1 = X1) (h2 : x2 = X2) (h3 : x3 = X3) (h6 : x6 = X6) (r : Fin 256) (j : Fin 256) :
    latK (proj (fun n d => x0 (ix3 0 n d)) (fun a d => x1 (ix3 0 a d)) (fun d => x2 (ix2 0 d)) (fun d j => x3 (ix2 d j))) (fun l => x6 (ix2 0 l)) r j = frontL X0 X1 X2 X3 X6 (ix3 b r j) := by
  subst h1 h2 h3 h6
  have e : (fun n d => x0 (ix3 0 n d)) = fun n d => X0 (ix3 b n d) := funext fun n => funext fun d => h0 n d
  rw [e]
  rfl

/-- The shared lanes of every batch. -/
def frontR (X0 : FVec Ideal S16x256x1024 .f32) (X1 : FVec Ideal S1x6x1024 .f32) (X2 : FVec Ideal S1x1024 .f32) (X3 : FVec Ideal S1024x2432 .bf16) : FVec Ideal S16x256x128 .f32 :=
  fun i => (proj (fun n d => X0 (ix3 (i 0) n d)) (fun a d => X1 (ix3 0 a d)) (fun d => X2 (ix2 0 d)) (fun d j => X3 (ix2 d j))) (i 1) ⟨640 + ((i 2)).val, by have h : (i 2).val < 128 := (i 2).isLt; omega⟩

theorem frontR_congr (x0 : Vec Ideal S1x256x1024 .f32) (x1 : Vec Ideal S1x6x1024 .f32) (x2 : Vec Ideal S1x1024 .f32) (x3 : Vec Ideal S1024x2432 .bf16) (X0 : FVec Ideal S16x256x1024 .f32) (X1 : FVec Ideal S1x6x1024 .f32) (X2 : FVec Ideal S1x1024 .f32) (X3 : FVec Ideal S1024x2432 .bf16) (b : Fin 16) (h0 : ∀ n d, x0 (ix3 0 n d) = X0 (ix3 b n d)) (h1 : x1 = X1) (h2 : x2 = X2) (h3 : x3 = X3) (r : Fin 256) (j : Fin 128) :
    (proj (fun n d => x0 (ix3 0 n d)) (fun a d => x1 (ix3 0 a d)) (fun d => x2 (ix2 0 d)) (fun d j => x3 (ix2 d j))) r ⟨640 + (j).val, by omega⟩ = frontR X0 X1 X2 X3 (ix3 b r j) := by
  subst h1 h2 h3
  have e : (fun n d => x0 (ix3 0 n d)) = fun n d => X0 (ix3 b n d) := funext fun n => funext fun d => h0 n d
  rw [e]
  rfl

variable (m : (ℓ : Loc nD τ sig) → Buf (Elt Ideal) ℓ)

theorem lt16 (t : Fin cfg0.N) : t.val < 16 := t.isLt

theorem idx0 : ∀ t : Fin cfg0.N, win0_0.index t = ![(t.val : Nat), 0, 0] := (by decide +kernel : ∀ t : Fin grid0.N, _)

theorem idx1 : ∀ t : Fin cfg0.N, win0_1.index t = ![0, 0, 0] := (by decide +kernel : ∀ t : Fin grid0.N, _)

theorem idx2 : ∀ t : Fin cfg0.N, win0_2.index t = ![0, 0] := (by decide +kernel : ∀ t : Fin grid0.N, _)

theorem idx3 : ∀ t : Fin cfg0.N, win0_3.index t = ![0, 0] := (by decide +kernel : ∀ t : Fin grid0.N, _)

theorem idx4 : ∀ t : Fin cfg0.N, win0_4.index t = ![0, 0] := (by decide +kernel : ∀ t : Fin grid0.N, _)

theorem idx5 : ∀ t : Fin cfg0.N, win0_5.index t = ![0, 0] := (by decide +kernel : ∀ t : Fin grid0.N, _)

theorem idx6 : ∀ t : Fin cfg0.N, win0_6.index t = ![0, 0] := (by decide +kernel : ∀ t : Fin grid0.N, _)

theorem idx7 : ∀ t : Fin cfg0.N, win0_7.index t = ![0, 0] := (by decide +kernel : ∀ t : Fin grid0.N, _)

theorem idx8 : ∀ t : Fin cfg0.N, win0_8.index t = ![0, 0] := (by decide +kernel : ∀ t : Fin grid0.N, _)

theorem idx9 : ∀ t : Fin cfg0.N, win0_9.index t = ![0, 0] := (by decide +kernel : ∀ t : Fin grid0.N, _)

theorem idx10 : ∀ t : Fin cfg0.N, win0_10.index t = ![0, 0] := (by decide +kernel : ∀ t : Fin grid0.N, _)

theorem idx11 : ∀ t : Fin cfg0.N, win0_11.index t = ![0, 0] := (by decide +kernel : ∀ t : Fin grid0.N, _)

theorem idx12 : ∀ t : Fin cfg0.N, win0_12.index t = ![(t.val : Nat), 0, 0] := (by decide +kernel : ∀ t : Fin grid0.N, _)

theorem idx13 : ∀ t : Fin cfg0.N, win0_13.index t = ![(t.val : Nat), 0, 0] := (by decide +kernel : ∀ t : Fin grid0.N, _)

theorem idx14 : ∀ t : Fin cfg0.N, win0_14.index t = ![(t.val : Nat), 0, 0] := (by decide +kernel : ∀ t : Fin grid0.N, _)

theorem idx15 : ∀ t : Fin cfg0.N, win0_15.index t = ![(t.val : Nat), 0, 0] := (by decide +kernel : ∀ t : Fin grid0.N, _)

theorem idx16 : ∀ t : Fin cfg0.N, win0_16.index t = ![(t.val : Nat), 0, 0] := (by decide +kernel : ∀ t : Fin grid0.N, _)

theorem idx17 : ∀ t : Fin cfg0.N, win0_17.index t = ![(t.val : Nat), 0, 0] := (by decide +kernel : ∀ t : Fin grid0.N, _)

theorem blk0 (c : Dev nD) (t : Fin cfg0.N) (r : Fin 256) (d : Fin 1024) :
    (iblk m c 0 t : Vec Ideal S1x256x1024 .f32) (ix3 0 r d) = m ((c : Thread nD τ).loc main_arg0) (ix3 ⟨t.val, lt16 t⟩ r d) := by
  have e := idx0 t
  blk_simp [iblk]
  rw [V_main_arg0 m c]
  refine congrArg _ ?_
  blk_ext [e]

theorem blk1 (c : Dev nD) (t : Fin cfg0.N) : (iblk m c 1 t : Vec Ideal S1x6x1024 .f32) = m ((c : Thread nD τ).loc main_arg1) := by
  have e := idx1 t
  funext y
  blk_simp [iblk]
  rw [V_main_arg1 m c]
  refine congrArg _ ?_
  blk_ext [e]

theorem blk2 (c : Dev nD) (t : Fin cfg0.N) : (iblk m c 2 t : Vec Ideal S1x1024 .f32) = m ((c : Thread nD τ).loc main_arg2) := by
  have e := idx2 t
  funext y
  blk_simp [iblk]
  rw [V_main_arg2 m c]
  refine congrArg _ ?_
  blk_ext [e]

theorem blk3 (c : Dev nD) (t : Fin cfg0.N) : (iblk m c 3 t : Vec Ideal S1024x2432 .bf16) = m ((c : Thread nD τ).loc main_arg3) := by
  have e := idx3 t
  funext y
  blk_simp [iblk]
  rw [V_main_arg3 m c]
  refine congrArg _ ?_
  blk_ext [e]

theorem blk4 (c : Dev nD) (t : Fin cfg0.N) : (iblk m c 4 t : Vec Ideal S1x384 .f32) = m ((c : Thread nD τ).loc main_arg4) := by
  have e := idx4 t
  funext y
  blk_simp [iblk]
  rw [V_main_arg4 m c]
  refine congrArg _ ?_
  blk_ext [e]

theorem blk5 (c : Dev nD) (t : Fin cfg0.N) : (iblk m c 5 t : Vec Ideal S384x1024 .bf16) = m ((c : Thread nD τ).loc main_arg5) := by
  have e := idx5 t
  funext y
  blk_simp [iblk]
  rw [V_main_arg5 m c]
  refine congrArg _ ?_
  blk_ext [e]

theorem blk6 (c : Dev nD) (t : Fin cfg0.N) : (iblk m c 6 t : Vec Ideal S1x256 .f32) = m ((c : Thread nD τ).loc main_arg6) := by
  have e := idx6 t
  funext y
  blk_simp [iblk]
  rw [V_main_arg6 m c]
  refine congrArg _ ?_
  blk_ext [e]

theorem blk7 (c : Dev nD) (t : Fin cfg0.N) : (iblk m c 7 t : Vec Ideal S256x1024 .bf16) = m ((c : Thread nD τ).loc main_arg7) := by
  have e := idx7 t
  funext y
  blk_simp [iblk]
  rw [V_main_arg7 m c]
  refine congrArg _ ?_
  blk_ext [e]

theorem blk8 (c : Dev nD) (t : Fin cfg0.N) : (iblk m c 8 t : Vec Ideal S256x512 .bf16) = m ((c : Thread nD τ).loc main_arg8) := by
  have e := idx8 t
  funext y
  blk_simp [iblk]
  rw [V_main_arg8 m c]
  refine congrArg _ ?_
  blk_ext [e]

theorem blk9 (c : Dev nD) (t : Fin cfg0.N) : (iblk m c 9 t : Vec Ideal S3x512 .f32) = m ((c : Thread nD τ).loc main_arg9) := by
  have e := idx9 t
  funext y
  blk_simp [iblk]
  rw [V_main_arg9 m c]
  refine congrArg _ ?_
  blk_ext [e]

theorem blk10 (c : Dev nD) (t : Fin cfg0.N) : (iblk m c 10 t : Vec Ideal S256x128 .f32) = m ((c : Thread nD τ).loc main_arg10) := by
  have e := idx10 t
  funext y
  blk_simp [iblk]
  rw [V_main_arg10 m c]
  refine congrArg _ ?_
  blk_ext [e]

theorem blk11 (c : Dev nD) (t : Fin cfg0.N) : (iblk m c 11 t : Vec Ideal S256x128 .f32) = m ((c : Thread nD τ).loc main_arg11) := by
  have e := idx11 t
  funext y
  blk_simp [iblk]
  rw [V_main_arg11 m c]
  refine congrArg _ ?_
  blk_ext [e]

theorem outs12 (c : Dev nD) (t : Fin cfg0.N) : (outsAt0 m c t).1 = out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by
  simp only [outsAt0]

theorem block12 (c : Dev nD) (t : Fin cfg0.N) (r : Fin 256) (j : Fin 1024) : (outsAt0 m c t).1 (ix3 0 r j) = frontQ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (ix3 ⟨t.val, lt16 t⟩ r j) := by
  rw [outs12]
  refine (out12_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) r j).trans ?_
  exact frontQ_congr (iblk m c 0 t) (iblk m c 1 t) (iblk m c 2 t) (iblk m c 3 t) (iblk m c 4 t) (iblk m c 5 t) (iblk m c 10 t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) ⟨t.val, lt16 t⟩ (blk0 m c t) (blk1 m c t) (blk2 m c t) (blk3 m c t) (blk4 m c t) (blk5 m c t) (blk10 m c t) r j

theorem final12 (c : Dev nD) : (dats m 0 c).arrAt 12 cfg0.N =
    frontQ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) := by
  refine (dats m 0 c).arrAt_eq_of_covers 12 _ (by decide +kernel) fun t hf y => ?_
  have e := idx12 t
  blk_simp
  rw [after0_12]
  have hy : y = (ix3 (0 : Fin 1) (y 1 : Fin 256) (y 2 : Fin 1024) : S1x256x1024.Idx) := by
    refine funext fun a => ?_
    match a with
    | ⟨0, _⟩ => exact Fin.ext (by have h : (y 0 : Nat) < 1 := (y 0).isLt; show (y 0 : Nat) = 0; omega)
    | ⟨1, _⟩ => rfl
    | ⟨2, _⟩ => rfl
  have he : (win0_12.blk t).view.emb y = (ix3 (⟨t.val, lt16 t⟩ : Fin 16) (y 1 : Fin 256) (y 2 : Fin 1024) : S16x256x1024.Idx) := by
    blk_ext [e]
  exact (congrArg (outsAt0 m c t).1 hy).trans ((block12 m c t (y 1) (y 2)).trans (congrArg (frontQ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10))) he.symm))

theorem outs13 (c : Dev nD) (t : Fin cfg0.N) : (outsAt0 m c t).2.1 = out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by
  simp only [outsAt0]

theorem block13 (c : Dev nD) (t : Fin cfg0.N) (r : Fin 256) (j : Fin 1024) : (outsAt0 m c t).2.1 (ix3 0 r j) = frontK (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg11)) (ix3 ⟨t.val, lt16 t⟩ r j) := by
  rw [outs13]
  refine (out13_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) r j).trans ?_
  exact frontK_congr (iblk m c 0 t) (iblk m c 1 t) (iblk m c 2 t) (iblk m c 3 t) (iblk m c 6 t) (iblk m c 7 t) (iblk m c 11 t) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg11)) ⟨t.val, lt16 t⟩ (blk0 m c t) (blk1 m c t) (blk2 m c t) (blk3 m c t) (blk6 m c t) (blk7 m c t) (blk11 m c t) r j

theorem final13 (c : Dev nD) : (dats m 0 c).arrAt 13 cfg0.N =
    frontK (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg11)) := by
  refine (dats m 0 c).arrAt_eq_of_covers 13 _ (by decide +kernel) fun t hf y => ?_
  have e := idx13 t
  blk_simp
  rw [after0_13]
  have hy : y = (ix3 (0 : Fin 1) (y 1 : Fin 256) (y 2 : Fin 1024) : S1x256x1024.Idx) := by
    refine funext fun a => ?_
    match a with
    | ⟨0, _⟩ => exact Fin.ext (by have h : (y 0 : Nat) < 1 := (y 0).isLt; show (y 0 : Nat) = 0; omega)
    | ⟨1, _⟩ => rfl
    | ⟨2, _⟩ => rfl
  have he : (win0_13.blk t).view.emb y = (ix3 (⟨t.val, lt16 t⟩ : Fin 16) (y 1 : Fin 256) (y 2 : Fin 1024) : S16x256x1024.Idx) := by
    blk_ext [e]
  exact (congrArg (outsAt0 m c t).2.1 hy).trans ((block13 m c t (y 1) (y 2)).trans (congrArg (frontK (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg11))) he.symm))

theorem outs14 (c : Dev nD) (t : Fin cfg0.N) : (outsAt0 m c t).2.2.1 = out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by
  simp only [outsAt0]

theorem block14 (c : Dev nD) (t : Fin cfg0.N) (r : Fin 256) (j : Fin 512) : (outsAt0 m c t).2.2.1 (ix3 0 r j) = frontV (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg8)) (ix3 ⟨t.val, lt16 t⟩ r j) := by
  rw [outs14]
  refine (out14_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) r j).trans ?_
  exact frontV_congr (iblk m c 0 t) (iblk m c 1 t) (iblk m c 2 t) (iblk m c 3 t) (iblk m c 6 t) (iblk m c 8 t) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg8)) ⟨t.val, lt16 t⟩ (blk0 m c t) (blk1 m c t) (blk2 m c t) (blk3 m c t) (blk6 m c t) (blk8 m c t) r j

theorem final14 (c : Dev nD) : (dats m 0 c).arrAt 14 cfg0.N =
    frontV (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg8)) := by
  refine (dats m 0 c).arrAt_eq_of_covers 14 _ (by decide +kernel) fun t hf y => ?_
  have e := idx14 t
  blk_simp
  rw [after0_14]
  have hy : y = (ix3 (0 : Fin 1) (y 1 : Fin 256) (y 2 : Fin 512) : S1x256x512.Idx) := by
    refine funext fun a => ?_
    match a with
    | ⟨0, _⟩ => exact Fin.ext (by have h : (y 0 : Nat) < 1 := (y 0).isLt; show (y 0 : Nat) = 0; omega)
    | ⟨1, _⟩ => rfl
    | ⟨2, _⟩ => rfl
  have he : (win0_14.blk t).view.emb y = (ix3 (⟨t.val, lt16 t⟩ : Fin 16) (y 1 : Fin 256) (y 2 : Fin 512) : S16x256x512.Idx) := by
    blk_ext [e]
  exact (congrArg (outsAt0 m c t).2.2.1 hy).trans ((block14 m c t (y 1) (y 2)).trans (congrArg (frontV (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg8))) he.symm))

theorem outs15 (c : Dev nD) (t : Fin cfg0.N) : (outsAt0 m c t).2.2.2.1 = out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by
  simp only [outsAt0]

theorem block15 (c : Dev nD) (t : Fin cfg0.N) (r : Fin 256) (j : Fin 512) : (outsAt0 m c t).2.2.2.1 (ix3 0 r j) = frontC (m ((c : Thread nD τ).loc main_arg0)) (m ((c : Thread nD τ).loc main_arg1)) (m ((c : Thread nD τ).loc main_arg2)) (m ((c : Thread nD τ).loc main_arg3)) (m ((c : Thread nD τ).loc main_arg9)) (ix3 ⟨t.val, lt16 t⟩ r j) := by
  rw [outs15]
  refine (out15_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) r j).trans ?_
  exact frontC_congr (iblk m c 0 t) (iblk m c 1 t) (iblk m c 2 t) (iblk m c 3 t) (iblk m c 9 t) (m ((c : Thread nD τ).loc main_arg0)) (m ((c : Thread nD τ).loc main_arg1)) (m ((c : Thread nD τ).loc main_arg2)) (m ((c : Thread nD τ).loc main_arg3)) (m ((c : Thread nD τ).loc main_arg9)) ⟨t.val, lt16 t⟩ (blk0 m c t) (blk1 m c t) (blk2 m c t) (blk3 m c t) (blk9 m c t) r j

theorem final15 (c : Dev nD) : (dats m 0 c).arrAt 15 cfg0.N =
    frontC (m ((c : Thread nD τ).loc main_arg0)) (m ((c : Thread nD τ).loc main_arg1)) (m ((c : Thread nD τ).loc main_arg2)) (m ((c : Thread nD τ).loc main_arg3)) (m ((c : Thread nD τ).loc main_arg9)) := by
  refine (dats m 0 c).arrAt_eq_of_covers 15 _ (by decide +kernel) fun t hf y => ?_
  have e := idx15 t
  blk_simp
  rw [after0_15]
  have hy : y = (ix3 (0 : Fin 1) (y 1 : Fin 256) (y 2 : Fin 512) : S1x256x512.Idx) := by
    refine funext fun a => ?_
    match a with
    | ⟨0, _⟩ => exact Fin.ext (by have h : (y 0 : Nat) < 1 := (y 0).isLt; show (y 0 : Nat) = 0; omega)
    | ⟨1, _⟩ => rfl
    | ⟨2, _⟩ => rfl
  have he : (win0_15.blk t).view.emb y = (ix3 (⟨t.val, lt16 t⟩ : Fin 16) (y 1 : Fin 256) (y 2 : Fin 512) : S16x256x512.Idx) := by
    blk_ext [e]
  exact (congrArg (outsAt0 m c t).2.2.2.1 hy).trans ((block15 m c t (y 1) (y 2)).trans (congrArg (frontC (m ((c : Thread nD τ).loc main_arg0)) (m ((c : Thread nD τ).loc main_arg1)) (m ((c : Thread nD τ).loc main_arg2)) (m ((c : Thread nD τ).loc main_arg3)) (m ((c : Thread nD τ).loc main_arg9))) he.symm))

theorem outs16 (c : Dev nD) (t : Fin cfg0.N) : (outsAt0 m c t).2.2.2.2.1 = out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by
  simp only [outsAt0]

theorem block16 (c : Dev nD) (t : Fin cfg0.N) (r : Fin 256) (j : Fin 256) : (outsAt0 m c t).2.2.2.2.1 (ix3 0 r j) = frontL (m ((c : Thread nD τ).loc main_arg0)) (m ((c : Thread nD τ).loc main_arg1)) (m ((c : Thread nD τ).loc main_arg2)) (m ((c : Thread nD τ).loc main_arg3)) (m ((c : Thread nD τ).loc main_arg6)) (ix3 ⟨t.val, lt16 t⟩ r j) := by
  rw [outs16]
  refine (out16_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) r j).trans ?_
  exact frontL_congr (iblk m c 0 t) (iblk m c 1 t) (iblk m c 2 t) (iblk m c 3 t) (iblk m c 6 t) (m ((c : Thread nD τ).loc main_arg0)) (m ((c : Thread nD τ).loc main_arg1)) (m ((c : Thread nD τ).loc main_arg2)) (m ((c : Thread nD τ).loc main_arg3)) (m ((c : Thread nD τ).loc main_arg6)) ⟨t.val, lt16 t⟩ (blk0 m c t) (blk1 m c t) (blk2 m c t) (blk3 m c t) (blk6 m c t) r j

theorem final16 (c : Dev nD) : (dats m 0 c).arrAt 16 cfg0.N =
    frontL (m ((c : Thread nD τ).loc main_arg0)) (m ((c : Thread nD τ).loc main_arg1)) (m ((c : Thread nD τ).loc main_arg2)) (m ((c : Thread nD τ).loc main_arg3)) (m ((c : Thread nD τ).loc main_arg6)) := by
  refine (dats m 0 c).arrAt_eq_of_covers 16 _ (by decide +kernel) fun t hf y => ?_
  have e := idx16 t
  blk_simp
  rw [after0_16]
  have hy : y = (ix3 (0 : Fin 1) (y 1 : Fin 256) (y 2 : Fin 256) : S1x256x256.Idx) := by
    refine funext fun a => ?_
    match a with
    | ⟨0, _⟩ => exact Fin.ext (by have h : (y 0 : Nat) < 1 := (y 0).isLt; show (y 0 : Nat) = 0; omega)
    | ⟨1, _⟩ => rfl
    | ⟨2, _⟩ => rfl
  have he : (win0_16.blk t).view.emb y = (ix3 (⟨t.val, lt16 t⟩ : Fin 16) (y 1 : Fin 256) (y 2 : Fin 256) : S16x256x256.Idx) := by
    blk_ext [e]
  exact (congrArg (outsAt0 m c t).2.2.2.2.1 hy).trans ((block16 m c t (y 1) (y 2)).trans (congrArg (frontL (m ((c : Thread nD τ).loc main_arg0)) (m ((c : Thread nD τ).loc main_arg1)) (m ((c : Thread nD τ).loc main_arg2)) (m ((c : Thread nD τ).loc main_arg3)) (m ((c : Thread nD τ).loc main_arg6))) he.symm))

theorem outs17 (c : Dev nD) (t : Fin cfg0.N) : (outsAt0 m c t).2.2.2.2.2 = out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by
  simp only [outsAt0]

theorem block17 (c : Dev nD) (t : Fin cfg0.N) (r : Fin 256) (j : Fin 128) : (outsAt0 m c t).2.2.2.2.2 (ix3 0 r j) = frontR (m ((c : Thread nD τ).loc main_arg0)) (m ((c : Thread nD τ).loc main_arg1)) (m ((c : Thread nD τ).loc main_arg2)) (m ((c : Thread nD τ).loc main_arg3)) (ix3 ⟨t.val, lt16 t⟩ r j) := by
  rw [outs17]
  refine (out17_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) r j).trans ?_
  exact frontR_congr (iblk m c 0 t) (iblk m c 1 t) (iblk m c 2 t) (iblk m c 3 t) (m ((c : Thread nD τ).loc main_arg0)) (m ((c : Thread nD τ).loc main_arg1)) (m ((c : Thread nD τ).loc main_arg2)) (m ((c : Thread nD τ).loc main_arg3)) ⟨t.val, lt16 t⟩ (blk0 m c t) (blk1 m c t) (blk2 m c t) (blk3 m c t) r j

theorem final17 (c : Dev nD) : (dats m 0 c).arrAt 17 cfg0.N =
    frontR (m ((c : Thread nD τ).loc main_arg0)) (m ((c : Thread nD τ).loc main_arg1)) (m ((c : Thread nD τ).loc main_arg2)) (m ((c : Thread nD τ).loc main_arg3)) := by
  refine (dats m 0 c).arrAt_eq_of_covers 17 _ (by decide +kernel) fun t hf y => ?_
  have e := idx17 t
  blk_simp
  rw [after0_17]
  have hy : y = (ix3 (0 : Fin 1) (y 1 : Fin 256) (y 2 : Fin 128) : S1x256x128.Idx) := by
    refine funext fun a => ?_
    match a with
    | ⟨0, _⟩ => exact Fin.ext (by have h : (y 0 : Nat) < 1 := (y 0).isLt; show (y 0 : Nat) = 0; omega)
    | ⟨1, _⟩ => rfl
    | ⟨2, _⟩ => rfl
  have he : (win0_17.blk t).view.emb y = (ix3 (⟨t.val, lt16 t⟩ : Fin 16) (y 1 : Fin 256) (y 2 : Fin 128) : S16x256x128.Idx) := by
    blk_ext [e]
  exact (congrArg (outsAt0 m c t).2.2.2.2.2 hy).trans ((block17 m c t (y 1) (y 2)).trans (congrArg (frontR (m ((c : Thread nD τ).loc main_arg0)) (m ((c : Thread nD τ).loc main_arg1)) (m ((c : Thread nD τ).loc main_arg2)) (m ((c : Thread nD τ).loc main_arg3))) he.symm))

end Cert.Front
-- ==== Proof.Front.Ref.lean ====
module

public import proofs.«01_k».proof.Proof.Gen.Reference3Ideal.Run
public import proofs.«01_k».proof.Proof.Front.Spec
public import Idealize.ShloMosaic.Lib.Pointwise

/-! The reference of the layer's first call, read at an index in stages. -/

@[expose] public section
noncomputable section
namespace Cert.Front
open Idealize.ShloMosaic Cert.Reference3Ideal Cert.Reference3Ideal.Gen Cert.Reference3Ideal.Value

/-- The projection of the modulated norm. -/
def refProj (x : FVec Ideal S16x256x1024 .f32) (mm : FVec Ideal S1x6x1024 .f32) (g : FVec Ideal S1x1024 .f32) (w : FVec Ideal S1024x2432 .bf16) : FVec Ideal S16x256x2432 .f32 :=
  Host.dotGeneral dot_S16x256x1024_S1024x2432_S16x256x2432_2_0_01_1_n_n none (addf (mulf (mulf (mulf x (broadcastInDim S16x256x1024 ![0, 1, 2] bcast_S16x256x1_S16x256x1024_0_1_2 (Host.rsqrt (addf (Host.divf (broadcastInDim S16x256x1 ![0, 1] bcast_S16x256_S16x256x1_0_1 (Host.reduceAdd (mulf x x) (constant S_ .f32 0x00000000#32) reducesTo_S16x256x1024_S16x256_d2 h_S_)) (broadcastInDim S16x256x1 ![] bcast_S_S16x256x1 (constant S_ .f32 0x44800000#32))) (broadcastInDim S16x256x1 ![] bcast_S_S16x256x1 (constant S_ .f32 0x358637BD#32)))))) (broadcastInDim S16x256x1024 ![0, 1, 2] bcast_S1x1x1024_S16x256x1024_0_1_2 (broadcastInDim S1x1x1024 ![2] bcast_S1024_S1x1x1024_2 (shapeCast _ g shapeCasts_S1x1024_S1024)))) (broadcastInDim S16x256x1024 ![0, 1, 2] bcast_S1x1x1024_S16x256x1024_0_1_2 (broadcastInDim S1x1x1024 ![2] bcast_S1024_S1x1x1024_2 (addf (broadcastInDim S1024 ![] bcast_S_S1024 (constant S_ .f32 0x3F800000#32)) (shapeCast _ (extractStridedSlice S1x1x1024 ![0, 1, 0] mm slices_S1x6x1024_S1x1x1024_0_1_0) shapeCasts_S1x1x1024_S1024))))) (broadcastInDim S16x256x1024 ![0, 1, 2] bcast_S1x1x1024_S16x256x1024_0_1_2 (broadcastInDim S1x1x1024 ![2] bcast_S1024_S1x1x1024_2 (shapeCast _ (extractStridedSlice S1x1x1024 ![0, 0, 0] mm slices_S1x6x1024_S1x1x1024_0_0_0) shapeCasts_S1x1x1024_S1024)))) (extf .f32 w bitsLt_bf16_f32)

/-- The queries' latent. -/
def refLatQ (P : FVec Ideal S16x256x2432 .f32) (gq : FVec Ideal S1x384 .f32) : FVec Ideal S16x256x384 .f32 :=
  mulf (mulf (extractStridedSlice S16x256x384 ![0, 0, 0] P slices_S16x256x2432_S16x256x384_0_0_0) (broadcastInDim S16x256x384 ![0, 1, 2] bcast_S16x256x1_S16x256x384_0_1_2 (Host.rsqrt (addf (Host.divf (broadcastInDim S16x256x1 ![0, 1] bcast_S16x256_S16x256x1_0_1 (Host.reduceAdd (mulf (extractStridedSlice S16x256x384 ![0, 0, 0] P slices_S16x256x2432_S16x256x384_0_0_0) (extractStridedSlice S16x256x384 ![0, 0, 0] P slices_S16x256x2432_S16x256x384_0_0_0)) (constant S_ .f32 0x00000000#32) reducesTo_S16x256x384_S16x256_d2 h_S_)) (broadcastInDim S16x256x1 ![] bcast_S_S16x256x1 (constant S_ .f32 0x43C00000#32))) (broadcastInDim S16x256x1 ![] bcast_S_S16x256x1 (constant S_ .f32 0x358637BD#32)))))) (broadcastInDim S16x256x384 ![0, 1, 2] bcast_S1x1x384_S16x256x384_0_1_2 (broadcastInDim S1x1x384 ![2] bcast_S384_S1x1x384_2 (shapeCast _ gq shapeCasts_S1x384_S384)))

/-- The keys' and values' latent. -/
def refLatK (P : FVec Ideal S16x256x2432 .f32) (gk : FVec Ideal S1x256 .f32) : FVec Ideal S16x256x256 .f32 :=
  mulf (mulf (extractStridedSlice S16x256x256 ![0, 0, 384] P slices_S16x256x2432_S16x256x256_0_0_384) (broadcastInDim S16x256x256 ![0, 1, 2] bcast_S16x256x1_S16x256x256_0_1_2 (Host.rsqrt (addf (Host.divf (broadcastInDim S16x256x1 ![0, 1] bcast_S16x256_S16x256x1_0_1 (Host.reduceAdd (mulf (extractStridedSlice S16x256x256 ![0, 0, 384] P slices_S16x256x2432_S16x256x256_0_0_384) (extractStridedSlice S16x256x256 ![0, 0, 384] P slices_S16x256x2432_S16x256x256_0_0_384)) (constant S_ .f32 0x00000000#32) reducesTo_S16x256x256_S16x256_d2 h_S_)) (broadcastInDim S16x256x1 ![] bcast_S_S16x256x1 (constant S_ .f32 0x43800000#32))) (broadcastInDim S16x256x1 ![] bcast_S_S16x256x1 (constant S_ .f32 0x358637BD#32)))))) (broadcastInDim S16x256x256 ![0, 1, 2] bcast_S1x1x256_S16x256x256_0_1_2 (broadcastInDim S1x1x256 ![2] bcast_S256_S1x1x256_2 (shapeCast _ gk shapeCasts_S1x256_S256)))

/-- The queries by head. -/
def refQX (z : FVec Ideal S16x256x384 .f32) (wq : FVec Ideal S384x1024 .bf16) : FVec Ideal S16x256x8x128 .f32 :=
  shapeCast _ (Host.dotGeneral dot_S16x256x384_S384x1024_S16x256x1024_2_0_01_1_n_n none z (extf .f32 wq bitsLt_bf16_f32)) shapeCasts_S16x256x1024_S16x256x8x128

/-- The keys by head with the shared lanes. -/
def refKX (P : FVec Ideal S16x256x2432 .f32) (z : FVec Ideal S16x256x256 .f32) (wk : FVec Ideal S256x1024 .bf16) : FVec Ideal S16x256x8x128 .f32 :=
  addf (shapeCast _ (Host.dotGeneral dot_S16x256x256_S256x1024_S16x256x1024_2_0_01_1_n_n none z (extf .f32 wk bitsLt_bf16_f32)) shapeCasts_S16x256x1024_S16x256x8x128) (broadcastInDim S16x256x8x128 ![0, 1, 2, 3] bcast_S16x256x1x128_S16x256x8x128_0_1_2_3 (broadcastInDim S16x256x1x128 ![0, 1, 3] bcast_S16x256x128_S16x256x1x128_0_1_3 (extractStridedSlice S16x256x128 ![0, 0, 640] P slices_S16x256x2432_S16x256x128_0_0_640)))

/-- The head norm times a table. -/
def refHead (h : FVec Ideal S16x256x8x128 .f32) (t : FVec Ideal S256x128 .f32) : FVec Ideal S16x256x1024 .bf16 :=
  truncf .bf16 (shapeCast _ (mulf (mulf h (broadcastInDim S16x256x8x128 ![0, 1, 2, 3] bcast_S16x256x8x1_S16x256x8x128_0_1_2_3 (Host.rsqrt (addf (Host.divf (broadcastInDim S16x256x8x1 ![0, 1, 2] bcast_S16x256x8_S16x256x8x1_0_1_2 (Host.reduceAdd (mulf (extractStridedSlice S16x256x8x96 ![0, 0, 0, 0] h slices_S16x256x8x128_S16x256x8x96_0_0_0_0) (extractStridedSlice S16x256x8x96 ![0, 0, 0, 0] h slices_S16x256x8x128_S16x256x8x96_0_0_0_0)) (constant S_ .f32 0x00000000#32) reducesTo_S16x256x8x96_S16x256x8_d3 h_S_)) (broadcastInDim S16x256x8x1 ![] bcast_S_S16x256x8x1 (constant S_ .f32 0x42C00000#32))) (broadcastInDim S16x256x8x1 ![] bcast_S_S16x256x8x1 (constant S_ .f32 0x358637BD#32)))))) (broadcastInDim S16x256x8x128 ![0, 1, 2, 3] bcast_S1x256x1x128_S16x256x8x128_0_1_2_3 (broadcastInDim S1x256x1x128 ![1, 2, 3] bcast_S256x1x128_S1x256x1x128_1_2_3 (broadcastInDim S256x1x128 ![0, 2] bcast_S256x128_S256x1x128_0_2 t)))) shapeCasts_S16x256x8x128_S16x256x1024) bitsLt_bf16_f32

/-- The values. -/
def refV (z : FVec Ideal S16x256x256 .f32) (wv : FVec Ideal S256x512 .bf16) : FVec Ideal S16x256x512 .bf16 :=
  truncf .bf16 (Host.dotGeneral dot_S16x256x256_S256x512_S16x256x512_2_0_01_1_n_n none z (extf .f32 wv bitsLt_bf16_f32)) bitsLt_bf16_f32

/-- The convolution's gated input. -/
def refU (P : FVec Ideal S16x256x2432 .f32) : FVec Ideal S16x256x512 .f32 :=
  mulf (extractStridedSlice S16x256x512 ![0, 0, 1408] P slices_S16x256x2432_S16x256x512_0_0_1408) (extractStridedSlice S16x256x512 ![0, 0, 1920] P slices_S16x256x2432_S16x256x512_0_0_1920)

/-- The input with a row of zeros at both ends. -/
def refPad (u : FVec Ideal S16x256x512 .f32) : FVec Ideal S16x258x512 .f32 :=
  pad S16x258x512 ![0, 1, 0] ![0, 1, 0] ![0, 0, 0] u (sitofp .f32 (constantI S_ 32 0#32)) pads_S16x256x512_S16x258x512_000_110_000 h_S_

/-- The gated convolution. -/
def refConv (P : FVec Ideal S16x256x2432 .f32) (b : FVec Ideal S16x258x512 .f32) (cw : FVec Ideal S3x512 .f32) : FVec Ideal S16x256x512 .bf16 :=
  truncf .bf16 (mulf (extractStridedSlice S16x256x512 ![0, 0, 896] P slices_S16x256x2432_S16x256x512_0_0_896) (addf (addf (mulf (broadcastInDim S16x256x512 ![0, 1, 2] bcast_S1x1x512_S16x256x512_0_1_2 (broadcastInDim S1x1x512 ![2] bcast_S512_S1x1x512_2 (shapeCast _ (extractStridedSlice S1x512 ![0, 0] cw slices_S3x512_S1x512_0_0) shapeCasts_S1x512_S512))) (extractStridedSlice S16x256x512 ![0, 0, 0] b slices_S16x258x512_S16x256x512_0_0_0)) (mulf (broadcastInDim S16x256x512 ![0, 1, 2] bcast_S1x1x512_S16x256x512_0_1_2 (broadcastInDim S1x1x512 ![2] bcast_S512_S1x1x512_2 (shapeCast _ (extractStridedSlice S1x512 ![1, 0] cw slices_S3x512_S1x512_1_0) shapeCasts_S1x512_S512))) (extractStridedSlice S16x256x512 ![0, 1, 0] b slices_S16x258x512_S16x256x512_0_1_0))) (mulf (broadcastInDim S16x256x512 ![0, 1, 2] bcast_S1x1x512_S16x256x512_0_1_2 (broadcastInDim S1x1x512 ![2] bcast_S512_S1x1x512_2 (shapeCast _ (extractStridedSlice S1x512 ![2, 0] cw slices_S3x512_S1x512_2_0) shapeCasts_S1x512_S512))) (extractStridedSlice S16x256x512 ![0, 2, 0] b slices_S16x258x512_S16x256x512_0_2_0)))) bitsLt_bf16_f32

/-- The shared lanes. -/
def refR (P : FVec Ideal S16x256x2432 .f32) : FVec Ideal S16x256x128 .f32 := extractStridedSlice S16x256x128 ![0, 0, 640] P slices_S16x256x2432_S16x256x128_0_0_640

set_option maxRecDepth 16384 in
theorem refProj_apply (x : FVec Ideal S16x256x1024 .f32) (mm : FVec Ideal S1x6x1024 .f32) (g : FVec Ideal S1x1024 .f32) (w : FVec Ideal S1024x2432 .bf16) (b : Fin 16) (n : Fin 256) (j : Fin 2432) :
    refProj x mm g w (ix3 b n j) = proj (fun n d => x (ix3 b n d)) (fun a d => mm (ix3 0 a d)) (fun d => g (ix2 0 d)) (fun d j => w (ix2 d j)) n j := by
  unfold refProj proj inv eps
  pointwise

theorem refLatQ_apply (P : FVec Ideal S16x256x2432 .f32) (gq : FVec Ideal S1x384 .f32) (b : Fin 16) (n : Fin 256) (l : Fin 384) :
    refLatQ P gq (ix3 b n l) = latQ (fun n j => P (ix3 b n j)) (fun l => gq (ix2 0 l)) n l := by
  unfold refLatQ latQ inv eps
  pointwise

theorem refLatK_apply (P : FVec Ideal S16x256x2432 .f32) (gk : FVec Ideal S1x256 .f32) (b : Fin 16) (n l : Fin 256) :
    refLatK P gk (ix3 b n l) = latK (fun n j => P (ix3 b n j)) (fun l => gk (ix2 0 l)) n l := by
  unfold refLatK latK inv eps
  pointwise

theorem refQX_apply (z : FVec Ideal S16x256x384 .f32) (wq : FVec Ideal S384x1024 .bf16) (b : Fin 16) (n : Fin 256) (h : Fin 8) (l : Fin 128) :
    refQX z wq (ix4 b n h l) = up (fun n l => z (ix3 b n l)) (fun l j => wq (ix2 l j)) n ⟨h.val * 128 + l.val, by omega⟩ := by
  unfold refQX up
  pointwise

theorem refKX_apply (P : FVec Ideal S16x256x2432 .f32) (z : FVec Ideal S16x256x256 .f32) (wk : FVec Ideal S256x1024 .bf16) (b : Fin 16) (n : Fin 256) (h : Fin 8) (l : Fin 128) :
    refKX P z wk (ix4 b n h l) = up (fun n l => z (ix3 b n l)) (fun l j => wk (ix2 l j)) n ⟨h.val * 128 + l.val, by omega⟩ + P (ix3 b n ⟨640 + l.val, by omega⟩) := by
  unfold refKX up
  pointwise

theorem refHead_apply (h : FVec Ideal S16x256x8x128 .f32) (t : FVec Ideal S256x128 .f32) (b : Fin 16) (n : Fin 256) (j : Fin 1024) :
    refHead h t (ix3 b n j) = head (fun l => h (ix4 b n ⟨j.val / 128, by omega⟩ l)) (t (ix2 n ⟨j.val % 128, by omega⟩)) ⟨j.val % 128, by omega⟩ := by
  unfold refHead head inv eps
  pointwise

theorem refV_apply (z : FVec Ideal S16x256x256 .f32) (wv : FVec Ideal S256x512 .bf16) (b : Fin 16) (n : Fin 256) (l : Fin 512) :
    refV z wv (ix3 b n l) = up (fun n l => z (ix3 b n l)) (fun l j => wv (ix2 l j)) n l := by
  unfold refV up
  pointwise

theorem refU_apply (P : FVec Ideal S16x256x2432 .f32) (b : Fin 16) (n : Fin 256) (l : Fin 512) :
    refU P (ix3 b n l) = gated (fun n j => P (ix3 b n j)) n l := by
  unfold refU gated
  pointwise

theorem refConv_apply (P : FVec Ideal S16x256x2432 .f32) (u : FVec Ideal S16x258x512 .f32) (cw : FVec Ideal S3x512 .f32) (b : Fin 16) (n : Fin 256) (l : Fin 512) :
    refConv P u cw (ix3 b n l) = P (ix3 b n ⟨896 + l.val, by omega⟩) * (cw (ix2 0 l) * u (ix3 b ⟨n.val, by omega⟩ l) + cw (ix2 1 l) * u (ix3 b ⟨1 + n.val, by omega⟩ l) + cw (ix2 2 l) * u (ix3 b ⟨2 + n.val, by omega⟩ l)) := by
  unfold refConv
  pointwise

theorem refPad_apply (u : FVec Ideal S16x256x512 .f32) (b : Fin 16) (n : Fin 258) (l : Fin 512) :
    refPad u (ix3 b n l) = if h : 1 ≤ n.val ∧ n.val - 1 < 256 then u (ix3 b ⟨n.val - 1, h.2⟩ l) else 0 := by
  have e : refPad u (ix3 b n l) = if h : 1 ≤ n.val ∧ n.val - 1 < 256 then u (ix3 b ⟨n.val - 1, h.2⟩ l) else FloatOps.sitofp (F := Ideal) FTy.f32 0#32 := by
    unfold refPad
    pointwise
  have z : (FloatOps.sitofp (F := Ideal) FTy.f32 0#32 : EReal) = 0 := by
    show (((0#32 : BitVec 32).toInt : ℝ) : EReal) = 0
    simp
  rw [e, z]

theorem refR_apply (P : FVec Ideal S16x256x2432 .f32) (b : Fin 16) (n : Fin 256) (l : Fin 128) :
    refR P (ix3 b n l) = P (ix3 b n ⟨640 + l.val, by omega⟩) := by
  unfold refR
  pointwise

theorem conv_apply (P : FVec Ideal S16x256x2432 .f32) (cw : FVec Ideal S3x512 .f32) (b : Fin 16) (n : Fin 256) (l : Fin 512) :
    refConv P (refPad (refU P)) cw (ix3 b n l) = convOut (fun n j => P (ix3 b n j)) (fun a l => cw (ix2 a l)) n l := by
  rw [refConv_apply, refPad_apply, refPad_apply, refPad_apply]
  have h0 : (if h : 1 ≤ n.val ∧ n.val - 1 < 256 then refU P (ix3 b ⟨n.val - 1, h.2⟩ l) else 0) = before (fun n j => P (ix3 b n j)) n l := by
    unfold before
    by_cases h : n.val = 0
    · rw [dif_pos h, dif_neg (by omega)]
    · rw [dif_neg h, dif_pos (by omega), refU_apply]
  have h1 : (if h : 1 ≤ 1 + n.val ∧ 1 + n.val - 1 < 256 then refU P (ix3 b ⟨1 + n.val - 1, h.2⟩ l) else 0) = gated (fun n j => P (ix3 b n j)) n l := by
    rw [dif_pos (by omega), refU_apply]
    exact congrArg (fun n => gated _ n l) (Fin.ext (by show 1 + n.val - 1 = n.val; omega))
  have h2 : (if h : 1 ≤ 2 + n.val ∧ 2 + n.val - 1 < 256 then refU P (ix3 b ⟨2 + n.val - 1, h.2⟩ l) else 0) = after (fun n j => P (ix3 b n j)) n l := by
    unfold after
    by_cases h : n.val = 255
    · rw [dif_pos h, dif_neg (by omega)]
    · rw [dif_neg h, dif_pos (by omega), refU_apply]
      exact congrArg (fun n => gated _ n l) (Fin.ext (by show 2 + n.val - 1 = n.val + 1; omega))
  rw [h0, h1, h2]
  rfl

theorem q_apply (P : FVec Ideal S16x256x2432 .f32) (g : FVec Ideal S1x384 .f32) (w : FVec Ideal S384x1024 .bf16) (t : FVec Ideal S256x128 .f32) (b : Fin 16) (n : Fin 256) (j : Fin 1024) :
    refHead (refQX (refLatQ P g) w) t (ix3 b n j) = qOut (fun n j => P (ix3 b n j)) (fun l => g (ix2 0 l)) (fun l j => w (ix2 l j)) (fun n l => t (ix2 n l)) n j := by
  rw [refHead_apply]
  unfold qOut
  refine congrArg (fun x => head x _ _) (funext fun l => ?_)
  rw [refQX_apply]
  exact congrArg (fun z => up z _ n _) (funext fun n => funext fun l => refLatQ_apply P g b n l)

theorem k_apply (P : FVec Ideal S16x256x2432 .f32) (g : FVec Ideal S1x256 .f32) (w : FVec Ideal S256x1024 .bf16) (t : FVec Ideal S256x128 .f32) (b : Fin 16) (n : Fin 256) (j : Fin 1024) :
    refHead (refKX P (refLatK P g) w) t (ix3 b n j) = kOut (fun n j => P (ix3 b n j)) (fun l => g (ix2 0 l)) (fun l j => w (ix2 l j)) (fun n l => t (ix2 n l)) n j := by
  rw [refHead_apply]
  unfold kOut
  refine congrArg (fun x => head x _ _) (funext fun l => ?_)
  rw [refKX_apply]
  exact congrArg (fun z => up z _ n _ + _) (funext fun n => funext fun l => refLatK_apply P g b n l)

theorem v_apply (P : FVec Ideal S16x256x2432 .f32) (g : FVec Ideal S1x256 .f32) (w : FVec Ideal S256x512 .bf16) (b : Fin 16) (n : Fin 256) (j : Fin 512) :
    refV (refLatK P g) w (ix3 b n j) = up (latK (fun n j => P (ix3 b n j)) fun l => g (ix2 0 l)) (fun l j => w (ix2 l j)) n j := by
  rw [refV_apply]
  exact congrArg (fun z => up z _ n _) (funext fun n => funext fun l => refLatK_apply P g b n l)

end Cert.Front
-- ==== Proof.Front.Equal.lean ====
module

public import proofs.«01_k».proof.Proof.Front.Array
public import proofs.«01_k».proof.Proof.Front.Ref

/-! The call's outputs are the reference's. -/

@[expose] public section
noncomputable section
namespace Cert.Front
open Idealize.ShloMosaic Cert.Reference3Ideal Cert.Reference3Ideal.Value

theorem coords {a b c : Nat} (i : (⟨3, ![a, b, c]⟩ : Shape).Idx) : i = ix3 (i 0) (i 1) (i 2) := by
  refine funext fun k => ?_
  match k with
  | ⟨0, _⟩ => rfl
  | ⟨1, _⟩ => rfl
  | ⟨2, _⟩ => rfl

theorem ext3 {α : Type} {a b c : Nat} {f g : (⟨3, ![a, b, c]⟩ : Shape).Idx → α}
    (h : ∀ (x : Fin a) (y : Fin b) (z : Fin c), f (ix3 x y z) = g (ix3 x y z)) : f = g :=
  funext fun i => ((congrArg f (coords i)).trans (h (i 0) (i 1) (i 2))).trans (congrArg g (coords i).symm)

theorem proj_rows (X0 : FVec Ideal S16x256x1024 .f32) (X1 : FVec Ideal S1x6x1024 .f32) (X2 : FVec Ideal S1x1024 .f32) (X3 : FVec Ideal S1024x2432 .bf16) (b : Fin 16) :
    (fun n j => refProj X0 X1 X2 X3 (ix3 b n j)) = proj (fun n d => X0 (ix3 b n d)) (fun a d => X1 (ix3 0 a d)) (fun d => X2 (ix2 0 d)) (fun d j => X3 (ix2 d j)) :=
  funext fun n => funext fun j => refProj_apply X0 X1 X2 X3 b n j

variable (m : (ℓ : Loc nD τ sig) → Buf (Elt Ideal) ℓ) (c : Dev nD)

theorem frontQ_eq (X0 : FVec Ideal S16x256x1024 .f32) (X1 : FVec Ideal S1x6x1024 .f32) (X2 : FVec Ideal S1x1024 .f32) (X3 : FVec Ideal S1024x2432 .bf16) (X4 : FVec Ideal S1x384 .f32) (X5 : FVec Ideal S384x1024 .bf16) (X10 : FVec Ideal S256x128 .f32) : frontQ X0 X1 X2 X3 X4 X5 X10 = refHead (refQX (refLatQ (refProj X0 X1 X2 X3) X4) X5) X10 :=
  ext3 fun b n j => by
    rw [q_apply, proj_rows]
    rfl

theorem frontQ_res : res_main_v67 m c = refHead (refQX (refLatQ (refProj (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))) (m ((c.tc : Thread nD τ).loc main_arg5))) (m ((c.tc : Thread nD τ).loc main_arg10)) := rfl

theorem frontK_eq (X0 : FVec Ideal S16x256x1024 .f32) (X1 : FVec Ideal S1x6x1024 .f32) (X2 : FVec Ideal S1x1024 .f32) (X3 : FVec Ideal S1024x2432 .bf16) (X6 : FVec Ideal S1x256 .f32) (X7 : FVec Ideal S256x1024 .bf16) (X11 : FVec Ideal S256x128 .f32) : frontK X0 X1 X2 X3 X6 X7 X11 = refHead (refKX (refProj X0 X1 X2 X3) (refLatK (refProj X0 X1 X2 X3) X6) X7) X11 :=
  ext3 fun b n j => by
    rw [k_apply, proj_rows]
    rfl

theorem frontK_res : res_main_v104 m c = refHead (refKX (refProj (m ((c.tc : Thread nD τ).loc main_arg0)) (m ((c.tc : Thread nD τ).loc main_arg1)) (m ((c.tc : Thread nD τ).loc main_arg2)) (m ((c.tc : Thread nD τ).loc main_arg3))) (refLatK (refProj (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg6))) (m ((c.tc : Thread nD τ).loc main_arg7))) (m ((c.tc : Thread nD τ).loc main_arg11)) := rfl

theorem frontV_eq (X0 : FVec Ideal S16x256x1024 .f32) (X1 : FVec Ideal S1x6x1024 .f32) (X2 : FVec Ideal S1x1024 .f32) (X3 : FVec Ideal S1024x2432 .bf16) (X6 : FVec Ideal S1x256 .f32) (X8 : FVec Ideal S256x512 .bf16) : frontV X0 X1 X2 X3 X6 X8 = refV (refLatK (refProj X0 X1 X2 X3) X6) X8 :=
  ext3 fun b n j => by
    rw [v_apply, proj_rows]
    rfl

theorem frontV_res : res_main_v107 m c = refV (refLatK (refProj (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg6))) (m ((c.tc : Thread nD τ).loc main_arg8)) := rfl

theorem frontC_eq (X0 : FVec Ideal S16x256x1024 .f32) (X1 : FVec Ideal S1x6x1024 .f32) (X2 : FVec Ideal S1x1024 .f32) (X3 : FVec Ideal S1024x2432 .bf16) (X9 : FVec Ideal S3x512 .f32) : frontC X0 X1 X2 X3 X9 = refConv (refProj X0 X1 X2 X3) (refPad (refU (refProj X0 X1 X2 X3))) X9 :=
  ext3 fun b n j => by
    rw [conv_apply, proj_rows]
    rfl

theorem frontC_res : res_main_v131 m c = refConv (refProj (m ((c.tc : Thread nD τ).loc main_arg0)) (m ((c.tc : Thread nD τ).loc main_arg1)) (m ((c.tc : Thread nD τ).loc main_arg2)) (m ((c.tc : Thread nD τ).loc main_arg3))) (refPad (refU (refProj (m ((c.tc : Thread nD τ).loc main_arg0)) (m ((c.tc : Thread nD τ).loc main_arg1)) (m ((c.tc : Thread nD τ).loc main_arg2)) (m ((c.tc : Thread nD τ).loc main_arg3))))) (m ((c.tc : Thread nD τ).loc main_arg9)) := rfl

theorem frontL_eq (X0 : FVec Ideal S16x256x1024 .f32) (X1 : FVec Ideal S1x6x1024 .f32) (X2 : FVec Ideal S1x1024 .f32) (X3 : FVec Ideal S1024x2432 .bf16) (X6 : FVec Ideal S1x256 .f32) : frontL X0 X1 X2 X3 X6 = refLatK (refProj X0 X1 X2 X3) X6 :=
  ext3 fun b n j => by
    rw [refLatK_apply, proj_rows]
    rfl

theorem frontL_res : res_main_v81 m c = refLatK (refProj (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg6)) := rfl

theorem frontR_eq (X0 : FVec Ideal S16x256x1024 .f32) (X1 : FVec Ideal S1x6x1024 .f32) (X2 : FVec Ideal S1x1024 .f32) (X3 : FVec Ideal S1024x2432 .bf16) : frontR X0 X1 X2 X3 = refR (refProj X0 X1 X2 X3) :=
  ext3 fun b n j => by
    rw [refR_apply, refProj_apply]
    rfl

end Cert.Front
-- ==== Proof.Front.Claims.lean ====
module

public import proofs.«01_k».proof.Defs
public import proofs.«01_k».proof.Proof.Gen.Reference3Ideal.Run
public import proofs.«01_k».proof.Proof.Front.Equal

/-! The algebraic claim about the layer's front, assembled. -/

@[expose] public section
noncomputable section
namespace Cert.Front
open Idealize.ShloMosaic Idealize.SL.Sem

theorem algebraic : Cert.algebraic_Kernel3Ideal_Reference3Ideal (hKernel3Ideal := Cert.Kernel3Ideal.Gen.facts)
    (hReference3Ideal := Cert.Reference3Ideal.Gen.facts) := by
  intro m g m' g' _ hargs
  refine ⟨fun c => frontQ (m ((c.tc : Thread _ _).loc Cert.Kernel3Ideal.main_arg0)) (m ((c.tc : Thread _ _).loc Cert.Kernel3Ideal.main_arg1)) (m ((c.tc : Thread _ _).loc Cert.Kernel3Ideal.main_arg2)) (m ((c.tc : Thread _ _).loc Cert.Kernel3Ideal.main_arg3)) (m ((c.tc : Thread _ _).loc Cert.Kernel3Ideal.main_arg4)) (m ((c.tc : Thread _ _).loc Cert.Kernel3Ideal.main_arg5)) (m ((c.tc : Thread _ _).loc Cert.Kernel3Ideal.main_arg10)),
    fun c => frontK (m ((c.tc : Thread _ _).loc Cert.Kernel3Ideal.main_arg0)) (m ((c.tc : Thread _ _).loc Cert.Kernel3Ideal.main_arg1)) (m ((c.tc : Thread _ _).loc Cert.Kernel3Ideal.main_arg2)) (m ((c.tc : Thread _ _).loc Cert.Kernel3Ideal.main_arg3)) (m ((c.tc : Thread _ _).loc Cert.Kernel3Ideal.main_arg6)) (m ((c.tc : Thread _ _).loc Cert.Kernel3Ideal.main_arg7)) (m ((c.tc : Thread _ _).loc Cert.Kernel3Ideal.main_arg11)),
    fun c => frontV (m ((c.tc : Thread _ _).loc Cert.Kernel3Ideal.main_arg0)) (m ((c.tc : Thread _ _).loc Cert.Kernel3Ideal.main_arg1)) (m ((c.tc : Thread _ _).loc Cert.Kernel3Ideal.main_arg2)) (m ((c.tc : Thread _ _).loc Cert.Kernel3Ideal.main_arg3)) (m ((c.tc : Thread _ _).loc Cert.Kernel3Ideal.main_arg6)) (m ((c.tc : Thread _ _).loc Cert.Kernel3Ideal.main_arg8)),
    fun c => frontC (m ((c.tc : Thread _ _).loc Cert.Kernel3Ideal.main_arg0)) (m ((c.tc : Thread _ _).loc Cert.Kernel3Ideal.main_arg1)) (m ((c.tc : Thread _ _).loc Cert.Kernel3Ideal.main_arg2)) (m ((c.tc : Thread _ _).loc Cert.Kernel3Ideal.main_arg3)) (m ((c.tc : Thread _ _).loc Cert.Kernel3Ideal.main_arg9)),
    fun c => frontL (m ((c.tc : Thread _ _).loc Cert.Kernel3Ideal.main_arg0)) (m ((c.tc : Thread _ _).loc Cert.Kernel3Ideal.main_arg1)) (m ((c.tc : Thread _ _).loc Cert.Kernel3Ideal.main_arg2)) (m ((c.tc : Thread _ _).loc Cert.Kernel3Ideal.main_arg3)) (m ((c.tc : Thread _ _).loc Cert.Kernel3Ideal.main_arg6)),
    fun c => frontR (m ((c.tc : Thread _ _).loc Cert.Kernel3Ideal.main_arg0)) (m ((c.tc : Thread _ _).loc Cert.Kernel3Ideal.main_arg1)) (m ((c.tc : Thread _ _).loc Cert.Kernel3Ideal.main_arg2)) (m ((c.tc : Thread _ _).loc Cert.Kernel3Ideal.main_arg3)), ?_, ?_⟩
  · refine (θ_run (Cert.Kernel3Ideal.defs (F := Ideal)) _ _).mono (fun r h c => ?_) (Cert.Kernel3Ideal.Value.run_blocks m g)
    obtain ⟨h0, h1, h2, h3, h4, h5, h⟩ := h c
    exact ⟨h0.trans (final12 m c), h1.trans (final13 m c), h2.trans (final14 m c), h3.trans (final15 m c),
      h4.trans (final16 m c), h5.trans (final17 m c), h⟩
  · refine (θ_run (Cert.Reference3Ideal.defs (F := Ideal)) _ _).mono (fun r h c => ?_) (Cert.Reference3Ideal.Value.run (F := Ideal) m' g')
    obtain ⟨h0, h1, h2, h3, h4, h5, h⟩ := h c
    obtain ⟨a0, a1, a2, a3, a4, a5, a6, a7, a8, a9, a10, a11⟩ := hargs c
    refine ⟨?_, ?_, ?_, ?_, ?_, ?_, h⟩
    · refine (h0.trans (frontQ_res m' c)).trans ?_
      rw [a0, a1, a2, a3, a4, a5, a10]
      exact (frontQ_eq _ _ _ _ _ _ _).symm
    · refine (h1.trans (frontK_res m' c)).trans ?_
      rw [a0, a1, a2, a3, a6, a7, a11]
      exact (frontK_eq _ _ _ _ _ _ _).symm
    · refine (h2.trans (frontV_res m' c)).trans ?_
      rw [a0, a1, a2, a3, a6, a8]
      exact (frontV_eq _ _ _ _ _ _).symm
    · refine (h3.trans (frontC_res m' c)).trans ?_
      rw [a0, a1, a2, a3, a9]
      exact (frontC_eq _ _ _ _ _).symm
    · refine (h4.trans (frontL_res m' c)).trans ?_
      rw [a0, a1, a2, a3, a6]
      exact (frontL_eq _ _ _ _ _).symm
    · refine h5.trans ?_
      rw [a0, a1, a2, a3]
      exact (frontR_eq _ _ _ _).symm

theorem no_sem (x : GSem Cert.Reference3Ideal.nD Cert.Reference3Ideal.τ Cert.Reference3Ideal.sig) : False := by
  obtain ⟨_, s⟩ := x
  rcases s with s | s <;> exact Nat.not_lt_zero _ s.2

theorem reference_frame (m : (ℓ : Loc Cert.Reference3Ideal.nD Cert.Reference3Ideal.τ Cert.Reference3Ideal.sig) → Buf (Elt Ideal) ℓ)
    (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0) :=
  (θ_run (Cert.Reference3Ideal.defs (F := Ideal)) _ _).mono (fun _ h => ⟨fun c => (h c).2.2.2.2.2.2, funext fun x => (no_sem x).elim⟩)
    (Cert.Reference3Ideal.Value.run (F := Ideal) m g)

end Cert.Front
-- ==== Proof.Post.Pre.lean ====
module

public import proofs.«01_k».proof.Proof.Gen.Pre_finite_norm_and_router
public import proofs.«01_k».proof.Proof.Att.Pre

/-! What the precondition of the call after attention says of the elements. -/

@[expose] public section
noncomputable section
namespace Cert.Post
open Idealize.ShloMosaic Cert.Att Cert.Pre_finite_norm_and_router

set_option maxRecDepth 16384 in
/-- Finite weights of the norm, shift and scale rows, and router columns. -/
theorem pre_elems (x : FVec Ideal S4096x1024 .f32) (a v : FVec Ideal S4096x512 .bf16) (w : FVec Ideal S1024x1024 .bf16) (m : FVec Ideal S1x6x1024 .f32)
    (g : FVec Ideal S1x1024 .f32) (u z : FVec Ideal S1024x128 .bf16)
    (h : Cert.Pre_finite_norm_and_router.fn (F := Ideal) x a v w m g u z = fun _ => 1#1) :
    (∀ d, IsReal (g (ix2 0 d))) ∧ (∀ d, IsReal (m (ix3 0 3 d))) ∧ (∀ d, IsReal (m (ix3 0 4 d)))
      ∧ (∀ d (e : Fin 16), IsReal (u (ix2 d ⟨e.val, by omega⟩))) ∧ (∀ d (e : Fin 16), IsReal (z (ix2 d ⟨e.val, by omega⟩))) := by
  have h := congrFun h ix0
  pointwise [Cert.Pre_finite_norm_and_router.fn, Cert.Pre_finite_norm_and_router.fn_part1] at h
  obtain ⟨h, h4⟩ := and_split _ _ h
  obtain ⟨h, h3⟩ := and_split _ _ h
  obtain ⟨h1, h2⟩ := and_split _ _ h
  exact ⟨fun d => isReal_of_abs (fold_and _ _ h1 ((0 : Fin 1), d) (Finset.mem_univ _)),
    fun d => isReal_of_abs (fold_and _ _ h2 ((0 : Fin 2), d) (Finset.mem_univ _)),
    fun d => isReal_of_abs (fold_and _ _ h2 ((1 : Fin 2), d) (Finset.mem_univ _)),
    fun d e => isReal_of_abs (fold_and _ _ h3 (d, e) (Finset.mem_univ _)),
    fun d e => isReal_of_abs (fold_and _ _ h4 (d, e) (Finset.mem_univ _))⟩

end Cert.Post
-- ==== Proof.Post.Spec.lean ====
module

public import proofs.«01_k».proof.Proof.Front.Spec

/-! The call after attention, by rows: the residual, the modulated norm, the router's logits and its softmax. -/

@[expose] public section
noncomputable section
namespace Cert.Post
open Idealize.ShloMosaic Cert.Att Cert.Front

/-- The residual row. -/
def resid (x : Fin 1024 → EReal) (a v : Fin 512 → EReal) (w : Fin 1024 → Fin 1024 → EReal) (m : Fin 1024 → EReal) (d : Fin 1024) : EReal :=
  x d + m d * ((∑ f : Fin 512, a f * w ⟨f.val, by omega⟩ d) + ∑ f : Fin 512, v f * w ⟨512 + f.val, by omega⟩ d)

/-- The modulated norm of a row. -/
def modNorm (y g s c : Fin 1024 → EReal) (d : Fin 1024) : EReal := y d * inv y 1149239296#32 * g d * (1 + c d) + s d

/-- The router's logits by the two parts of its weight. -/
def logitK (h : Fin 1024 → EReal) (u v : Fin 1024 → Fin 128 → EReal) (e : Fin 128) : EReal :=
  (∑ d, h d * u d e) + (∑ d, (h d - h d) * u d e) + ∑ d, h d * v d e

/-- The router's logits by its weight. -/
def logit (h : Fin 1024 → EReal) (u v : Fin 1024 → Fin 128 → EReal) (e : Fin 16) : EReal :=
  ∑ d, h d * (u d ⟨e.val, by omega⟩ + v d ⟨e.val, by omega⟩)

/-- The softmax of sixteen logits. -/
def gate (l : Fin 16 → EReal) (e : Fin 16) : EReal :=
  Ideal.div (Ideal.exp (l e - Finset.univ.fold max ⊥ l)) (∑ i, Ideal.exp (l i - Finset.univ.fold max ⊥ l))

/-- The softmax over the first sixteen of 128 lanes, zero beside them. -/
def gateK (l : Fin 128 → EReal) (e : Fin 128) : EReal :=
  Ideal.div (if e.val < 16 then Ideal.exp (l e - Finset.univ.fold max ⊥ fun i : Fin 128 => if i.val < 16 then l i else ⊥) else 0)
    (∑ i : Fin 128, if i.val < 16 then Ideal.exp (l i - Finset.univ.fold max ⊥ fun i : Fin 128 => if i.val < 16 then l i else ⊥) else 0)

/-- Sixteen gates and zeros beside them. -/
def spread (g : Fin 16 → EReal) (e : Fin 128) : EReal := if h : e.val < 16 then g ⟨e.val, h⟩ else 0

theorem IsReal.plus {x y : EReal} (hx : IsReal x) (hy : IsReal y) : IsReal (x + y) := by
  obtain ⟨a, rfl⟩ := hx.exists
  obtain ⟨b, rfl⟩ := hy.exists
  rw [← EReal.coe_add]
  exact isReal_coe _

theorem IsReal.minus {x y : EReal} (hx : IsReal x) (hy : IsReal y) : IsReal (x - y) := by
  obtain ⟨a, rfl⟩ := hx.exists
  obtain ⟨b, rfl⟩ := hy.exists
  rw [← EReal.coe_sub]
  exact isReal_coe _

theorem IsReal.none {x : EReal} (hx : IsReal x) : x - x = 0 := EReal.sub_self hx.2 hx.1

theorem eps_pos : ∃ e : ℝ, 0 < e ∧ eps = (e : EReal) := by
  unfold eps
  simp [Ideal.ofBits, Ideal.ieee]
  rw [← EReal.coe_mul]
  exact ⟨_, by positivity, rfl⟩

theorem len_eq : Ideal.ofBits FTy.f32 1149239296#32 = ((1024 : ℝ) : EReal) := by
  simp [Ideal.ofBits, Ideal.ieee]
  rw [← EReal.coe_mul]; norm_num

theorem sq_nonneg (x : EReal) : 0 ≤ x * x := by
  induction x with
  | bot => simp
  | top => simp
  | coe r => rw [← EReal.coe_mul]; exact_mod_cast mul_self_nonneg r

theorem norm_real (y : Fin 1024 → EReal) (d : Fin 1024) : IsReal (y d * inv y 1149239296#32) := by
  obtain ⟨e, he, hE⟩ := eps_pos
  unfold inv
  rw [len_eq, hE, Ideal.div_coe (by norm_num)]
  have h0 : 0 ≤ ∑ i, y i * y i := Finset.sum_nonneg fun i _ => sq_nonneg (y i)
  by_cases ht : ∑ i, y i * y i = ⊤
  · rw [ht, EReal.top_mul_coe_of_pos (by norm_num), EReal.top_add_coe, Ideal.rsqrt_top, mul_zero]
    exact ⟨EReal.zero_ne_bot, EReal.zero_ne_top⟩
  · have hb : ∑ i, y i * y i ≠ ⊥ := fun h => by rw [h] at h0; exact absurd h0 (by simp)
    have hy : IsReal (y d) := by
      have hle : y d * y d ≤ ∑ i, y i * y i := Finset.single_le_sum (f := fun i => y i * y i) (fun i _ => sq_nonneg (y i)) (Finset.mem_univ d)
      refine ⟨fun h => ?_, fun h => ?_⟩
      · rw [h] at hle
        exact ht (top_le_iff.1 (by simpa using hle))
      · rw [h] at hle
        exact ht (top_le_iff.1 (by simpa using hle))
    obtain ⟨s, hs⟩ := IsReal.exists ⟨hb, ht⟩
    rw [hs] at h0 ⊢
    have s0 : 0 ≤ s := by exact_mod_cast h0
    have hp : 0 < s * (1 / 1024) + e := by positivity
    rw [← EReal.coe_mul, ← EReal.coe_add, Ideal.rsqrt_coe, if_neg (not_lt.2 hp.le), if_neg hp.ne']
    exact hy.mul (isReal_coe _)

theorem modNorm_real {y g s c : Fin 1024 → EReal} (hg : ∀ d, IsReal (g d)) (hs : ∀ d, IsReal (s d)) (hc : ∀ d, IsReal (c d)) (d : Fin 1024) :
    IsReal (modNorm y g s c d) :=
  IsReal.plus (IsReal.mul (IsReal.mul (norm_real y d) (hg d)) (IsReal.plus (by rw [← EReal.coe_one]; exact isReal_coe 1) (hc d))) (hs d)

theorem logit_real {h : Fin 1024 → EReal} {u v : Fin 1024 → Fin 128 → EReal} (hh : ∀ d, IsReal (h d))
    (hu : ∀ d (e : Fin 16), IsReal (u d ⟨e.val, by omega⟩)) (hv : ∀ d (e : Fin 16), IsReal (v d ⟨e.val, by omega⟩)) (e : Fin 16) :
    IsReal (logit h u v e) :=
  IsReal.sum _ _ fun d => (hh d).mul (IsReal.plus (hu d e) (hv d e))

theorem logit_eq {h : Fin 1024 → EReal} {u v : Fin 1024 → Fin 128 → EReal} (hh : ∀ d, IsReal (h d))
    (hu : ∀ d (e : Fin 16), IsReal (u d ⟨e.val, by omega⟩)) (hv : ∀ d (e : Fin 16), IsReal (v d ⟨e.val, by omega⟩)) (e : Fin 16) :
    logitK h u v ⟨e.val, by omega⟩ = logit h u v e := by
  unfold logitK logit
  have z : (∑ d, (h d - h d) * u d ⟨e.val, by omega⟩) = 0 := Finset.sum_eq_zero fun d _ => by rw [IsReal.none (hh d), zero_mul]
  rw [z, add_zero, ← Finset.sum_add_distrib]
  refine Finset.sum_congr rfl fun d _ => ?_
  obtain ⟨a, ha⟩ := (hh d).exists
  obtain ⟨b, hb⟩ := (hu d e).exists
  obtain ⟨c, hc⟩ := (hv d e).exists
  rw [ha, hb, hc, ← EReal.coe_mul, ← EReal.coe_mul, ← EReal.coe_add, ← EReal.coe_add, ← EReal.coe_mul, mul_add]

theorem fold_masked (l : Fin 128 → EReal) :
    (Finset.univ.fold max ⊥ fun i : Fin 128 => if i.val < 16 then l i else ⊥) = Finset.univ.fold max ⊥ fun i : Fin 16 => l ⟨i.val, by omega⟩ := by
  show Finset.univ.sup (fun i : Fin 128 => if i.val < 16 then l i else ⊥) = Finset.univ.sup fun i : Fin 16 => l ⟨i.val, by omega⟩
  apply le_antisymm
  · refine Finset.sup_le fun i _ => ?_
    by_cases h : i.val < 16
    · rw [if_pos h]
      exact Finset.le_sup (f := fun i : Fin 16 => l ⟨i.val, by omega⟩) (Finset.mem_univ ⟨i.val, h⟩)
    · rw [if_neg h]; exact bot_le
  · refine Finset.sup_le fun i _ => ?_
    have := Finset.le_sup (f := fun i : Fin 128 => if i.val < 16 then l i else ⊥) (Finset.mem_univ ⟨i.val, by omega⟩)
    simpa using this

theorem sum_masked (f : Fin 128 → EReal) : (∑ i : Fin 128, if i.val < 16 then f i else 0) = ∑ i : Fin 16, f ⟨i.val, by omega⟩ := by
  rw [show (∑ i : Fin 128, if i.val < 16 then f i else 0) = ∑ i : Fin (16 + 112), if i.val < 16 then f i else 0 from rfl, Fin.sum_univ_add]
  have h0 : (∑ i : Fin 112, if (Fin.natAdd 16 i).val < 16 then f (Fin.natAdd 16 i) else 0) = 0 :=
    Finset.sum_eq_zero fun i _ => if_neg (by simp)
  rw [h0, add_zero]
  exact Finset.sum_congr rfl fun i _ => if_pos (by simp)

theorem exp_sum (l : Fin 16 → EReal) (hl : ∀ i, IsReal (l i)) :
    ∃ (t : Fin 16 → ℝ) (s : ℝ), s ≠ 0 ∧ (∀ i, Ideal.exp (l i - Finset.univ.fold max ⊥ l) = (t i : EReal)) ∧
      (∑ i, Ideal.exp (l i - Finset.univ.fold max ⊥ l)) = (s : EReal) := by
  choose r hr using fun i => (IsReal.minus (hl i) (fold_real l hl)).exists
  have ht : ∀ i, Ideal.exp (l i - Finset.univ.fold max ⊥ l) = ((Real.exp (r i) : ℝ) : EReal) := fun i => by rw [hr i]; rfl
  refine ⟨fun i => Real.exp (r i), ∑ i, Real.exp (r i), ?_, ht, ?_⟩
  · exact (Finset.sum_pos (fun i _ => Real.exp_pos (r i)) Finset.univ_nonempty).ne'
  · rw [coe_sum]; exact Finset.sum_congr rfl fun i _ => ht i

theorem gate_real {l : Fin 16 → EReal} (hl : ∀ i, IsReal (l i)) (e : Fin 16) : IsReal (gate l e) := by
  obtain ⟨t, s, h0, ht, hs⟩ := exp_sum l hl
  unfold gate
  rw [hs, ht, Ideal.div_coe h0, ← EReal.coe_mul]
  exact isReal_coe _

theorem spread_real {g : Fin 16 → EReal} (hg : ∀ i, IsReal (g i)) (e : Fin 128) : IsReal (spread g e) := by
  unfold spread
  by_cases h : e.val < 16
  · rw [dif_pos h]; exact hg _
  · rw [dif_neg h]; exact ⟨EReal.zero_ne_bot, EReal.zero_ne_top⟩

theorem gateK_eq (l : Fin 128 → EReal) (L : Fin 16 → EReal) (hl : ∀ i : Fin 16, l ⟨i.val, by omega⟩ = L i) (hL : ∀ i, IsReal (L i)) (e : Fin 128) :
    gateK l e = spread (gate L) e := by
  obtain ⟨t, s, h0, ht, hs⟩ := exp_sum L hL
  unfold gateK spread
  rw [fold_masked, sum_masked, show (fun i : Fin 16 => l ⟨i.val, by omega⟩) = L from funext hl]
  have hsum : (∑ i : Fin 16, Ideal.exp (l ⟨i.val, by omega⟩ - Finset.univ.fold max ⊥ L)) = ∑ i, Ideal.exp (L i - Finset.univ.fold max ⊥ L) :=
    Finset.sum_congr rfl fun i _ => by rw [hl i]
  rw [hsum]
  by_cases h : e.val < 16
  · rw [if_pos h, dif_pos h]
    unfold gate
    rw [show l e = L ⟨e.val, h⟩ from hl ⟨e.val, h⟩]
  · rw [if_neg h, dif_neg h, hs, Ideal.div_coe h0, zero_mul]

end Cert.Post
-- ==== Proof.Post.Pay.lean ====
module

public import proofs.«01_k».proof.Proof.Gen.Kernel4Ideal.Skeleton
public import proofs.«01_k».proof.Proof.Post.Spec
public import Idealize.ShloMosaic.Lib.Pointwise

/-! The payloads of the call after attention at an index. -/

@[expose] public section
noncomputable section
namespace Cert.Post
open Idealize.ShloMosaic Cert.Att Cert.Front Cert.Kernel4Ideal Cert.Kernel4Ideal.Gen

/-- A tile of the residual. -/
def resTile (M : FVec Ideal S1024x1024 .f32) (o : Fin 2 → Nat) (h : S1024x1024.Slices o S256x1024) (x : Vec Ideal S256x1024 .f32) (g : Vec Ideal S1x1x1024 .f32) : FVec Ideal S256x1024 .f32 :=
  addf x (mulf (broadcastTo S256x1024 (shapeCast S1x1024 g shapeCasts_S1x1x1024_S1x1024) broadcasts_S1x1024_S256x1024) (extractStridedSlice S256x1024 o M h))

/-- The gates of a tile on 128 lanes. -/
def gateTile (y : FVec Ideal S256x1024 .f32) (s c : Vec Ideal S1x1x1024 .f32) (g : Vec Ideal S1x1024 .f32) (u u' v : Vec Ideal S1024x128 .bf16) : FVec Ideal S256x128 .f32 :=
  k0_pay1 (k0_pay40 y s c g u u' v) k0_pay41 (Scalar.ofBits .f32 0xFF800000#32) k0_pay42

/-- The gates stored beside the norm. -/
def besideTile (y : FVec Ideal S256x1024 .f32) (s c : Vec Ideal S1x1x1024 .f32) (g : Vec Ideal S1x1024 .f32) (u u' v : Vec Ideal S1024x128 .bf16) : FVec Ideal S256x128 .bf16 :=
  k0_pay2 (k0_pay40 y s c g u u' v) k0_pay41 (Scalar.ofBits .f32 0xFF800000#32) k0_pay42

/-- The gates with experts first. -/
def turnedTile (y : FVec Ideal S256x1024 .f32) (s c : Vec Ideal S1x1x1024 .f32) (g : Vec Ideal S1x1024 .f32) (u u' v : Vec Ideal S1024x128 .bf16) : FVec Ideal S1x16x256 .f32 :=
  k0_pay3 (k0_pay40 y s c g u u' v) k0_pay41 (Scalar.ofBits .f32 0xFF800000#32) k0_pay42

set_option maxRecDepth 16384 in
theorem pay4_apply (a : Vec Ideal S1024x512 .bf16) (w : Vec Ideal S512x1024 .bf16) (v : Vec Ideal S1024x512 .bf16) (z : Vec Ideal S512x1024 .bf16) (r d : Fin 1024) :
    k0_pay4 a w v z (ix2 r d) = (∑ f : Fin 512, a (ix2 r f) * w (ix2 f d)) + ∑ f : Fin 512, v (ix2 r f) * z (ix2 f d) := by
  pointwise [k0_pay4]

theorem resTile_apply (M : FVec Ideal S1024x1024 .f32) (o : Nat) (ho : o + 256 ≤ 1024) (h : S1024x1024.Slices ![o, 0] S256x1024) (x : Vec Ideal S256x1024 .f32) (g : Vec Ideal S1x1x1024 .f32) (r : Fin 256) (d : Fin 1024) :
    resTile M ![o, 0] h x g (ix2 r d) = x (ix2 r d) + g (ix3 0 0 d) * M (ix2 ⟨o + r.val, by omega⟩ d) := by
  unfold resTile
  pointwise

set_option maxRecDepth 16384 in
theorem pay38_apply (y : FVec Ideal S256x1024 .f32) (s c : Vec Ideal S1x1x1024 .f32) (g : Vec Ideal S1x1024 .f32) (r : Fin 256) (d : Fin 1024) :
    k0_pay38 y s c g (ix2 r d) = modNorm (fun d => y (ix2 r d)) (fun d => g (ix2 0 d)) (fun d => s (ix3 0 0 d)) (fun d => c (ix3 0 0 d)) d := by
  unfold modNorm Cert.Front.inv Cert.Front.eps
  pointwise [k0_pay38]

theorem pay39_apply (y : FVec Ideal S256x1024 .f32) (s c : Vec Ideal S1x1x1024 .f32) (g : Vec Ideal S1x1024 .f32) (r : Fin 256) (d : Fin 1024) :
    k0_pay39 y s c g (ix2 r d) = modNorm (fun d => y (ix2 r d)) (fun d => g (ix2 0 d)) (fun d => s (ix3 0 0 d)) (fun d => c (ix3 0 0 d)) d :=
  pay38_apply y s c g r d

set_option maxRecDepth 16384 in
theorem pay40_apply (y : FVec Ideal S256x1024 .f32) (s c : Vec Ideal S1x1x1024 .f32) (g : Vec Ideal S1x1024 .f32) (u v : Vec Ideal S1024x128 .bf16) (r : Fin 256) (e : Fin 128) :
    k0_pay40 y s c g u u v (ix2 r e) = logitK (fun d => k0_pay38 y s c g (ix2 r d)) (fun d e => u (ix2 d e)) (fun d e => v (ix2 d e)) e := by
  unfold logitK
  pointwise [k0_pay40, k0_pay39]

theorem below16 : ∀ x : Fin 128, IntOp.cmpi CmpIPredicate.slt (BitVec.ofNat 32 x.val) 16#32 = if x.val < 16 then 1#1 else 0#1 := by decide +kernel

theorem pick (x : Fin 128) (a b : EReal) : Scalar.select (IntOp.cmpi CmpIPredicate.slt (BitVec.ofNat 32 x.val) 16#32) a b = if x.val < 16 then a else b := by
  rw [below16]
  by_cases h : x.val < 16
  · rw [if_pos h, if_pos h]; rfl
  · rw [if_neg h, if_neg h]; rfl

set_option maxRecDepth 16384 in
theorem pay1_apply (l : FVec Ideal S256x128 .f32) (r : Fin 256) (e : Fin 128) :
    k0_pay1 l k0_pay41 (Scalar.ofBits .f32 0xFF800000#32) k0_pay42 (ix2 r e) = gateK (fun e => l (ix2 r e)) e := by
  unfold gateK
  simp only [← pick]
  rw [← negInf_eq]
  pointwise [k0_pay1, k0_pay41, k0_pay42]

theorem pay3_apply (l : FVec Ideal S256x128 .f32) (a b : IVec S1x128 1) (k : Ideal .f32) (e : Fin 16) (r : Fin 256) :
    k0_pay3 l a k b (ix3 0 e r) = k0_pay1 l a k b (ix2 r ⟨e.val, by omega⟩) := by
  pointwise [k0_pay3]

set_option maxRecDepth 16384 in
theorem pay2_apply (l : FVec Ideal S256x128 .f32) (a b : IVec S1x128 1) (k : Ideal .f32) (r : Fin 256) (h : ∀ e, IsReal (k0_pay1 l a k b (ix2 r e))) (e : Fin 128) :
    k0_pay2 l a k b (ix2 r e) = k0_pay1 l a k b (ix2 r e) := by
  generalize hA : k0_pay1 l a k b = A at h
  have z : ∀ e, (A (ix2 r e) : EReal) - A (ix2 r e) = 0 := fun e => IsReal.none (h e)
  have q : k0_pay2 l a k b (ix2 r e) = A (ix2 r e) + (A (ix2 r ⟨(e.val + 128 - 16) % 128, by omega⟩) - A (ix2 r ⟨(e.val + 128 - 16) % 128, by omega⟩))
      + ((A (ix2 r ⟨(e.val + 128 - 32) % 128, by omega⟩) - A (ix2 r ⟨(e.val + 128 - 32) % 128, by omega⟩)) - (A (ix2 r ⟨(e.val + 128 - 32) % 128, by omega⟩) - A (ix2 r ⟨(e.val + 128 - 32) % 128, by omega⟩))) := by
    subst hA
    pointwise [k0_pay2]
  rw [q, z, z, sub_zero, add_zero, add_zero]

end Cert.Post
-- ==== Proof.Post.Tile.lean ====
module

public import proofs.«01_k».proof.Proof.Post.Pay

/-! A row of each tile from the rows it is made of. -/

@[expose] public section
noncomputable section
namespace Cert.Post
open Idealize.ShloMosaic Cert.Att Cert.Kernel4Ideal Cert.Kernel4Ideal.Gen

/-- The residual of a token. -/
def resRow (x : Fin 1024 → EReal) (a v : Fin 512 → EReal) (w : Fin 1024 → Fin 1024 → EReal) (m : Fin 6 → Fin 1024 → EReal) : Fin 1024 → EReal :=
  resid x a v w (m 2)

/-- The modulated norm of a token's residual. -/
def normRow (x : Fin 1024 → EReal) (a v : Fin 512 → EReal) (w : Fin 1024 → Fin 1024 → EReal) (m : Fin 6 → Fin 1024 → EReal) (g : Fin 1024 → EReal) : Fin 1024 → EReal :=
  modNorm (resRow x a v w m) g (m 3) (m 4)

/-- The gates of a token. -/
def gateRow (x : Fin 1024 → EReal) (a v : Fin 512 → EReal) (w : Fin 1024 → Fin 1024 → EReal) (m : Fin 6 → Fin 1024 → EReal) (g : Fin 1024 → EReal) (u z : Fin 1024 → Fin 128 → EReal) : Fin 16 → EReal :=
  gate (logit (normRow x a v w m g) u z)

/-- The norm with the gates beside it. -/
def wide (h : Fin 1024 → EReal) (g : Fin 16 → EReal) (k : Fin 1152) : EReal :=
  if q : k.val < 1024 then h ⟨k.val, q⟩ else spread g ⟨k.val - 1024, by omega⟩

theorem wide_left (h : Fin 1024 → EReal) (g : Fin 16 → EReal) (l : Fin 1024) : wide h g ⟨0 + l.val, by omega⟩ = h l := by
  unfold wide
  rw [dif_pos (by show 0 + l.val < 1024; omega)]
  exact congrArg h (Fin.ext (by show 0 + l.val = l.val; omega))

theorem wide_right (h : Fin 1024 → EReal) (g : Fin 16 → EReal) (l : Fin 128) : wide h g ⟨1024 + l.val, by omega⟩ = spread g l := by
  unfold wide
  rw [dif_neg (by show ¬1024 + l.val < 1024; omega)]
  exact congrArg (spread g) (Fin.ext (by show 1024 + l.val - 1024 = l.val; omega))

variable (y : FVec Ideal S256x1024 .f32) (s c : Vec Ideal S1x1x1024 .f32) (g : Vec Ideal S1x1024 .f32) (u v : Vec Ideal S1024x128 .bf16) (r : Fin 256)
  {Y S C G : Fin 1024 → EReal} {U V : Fin 1024 → Fin 128 → EReal}

theorem norm_row (hy : ∀ d, y (ix2 r d) = Y d) (hs : ∀ d, s (ix3 0 0 d) = S d) (hc : ∀ d, c (ix3 0 0 d) = C d) (hg : ∀ d, g (ix2 0 d) = G d) (d : Fin 1024) :
    k0_pay39 y s c g (ix2 r d) = modNorm Y G S C d := by
  obtain rfl : (fun d => y (ix2 r d)) = Y := funext hy
  obtain rfl : (fun d => s (ix3 0 0 d)) = S := funext hs
  obtain rfl : (fun d => c (ix3 0 0 d)) = C := funext hc
  obtain rfl : (fun d => g (ix2 0 d)) = G := funext hg
  exact pay39_apply y s c g r d

theorem gate_row (hy : ∀ d, y (ix2 r d) = Y d) (hs : ∀ d, s (ix3 0 0 d) = S d) (hc : ∀ d, c (ix3 0 0 d) = C d) (hg : ∀ d, g (ix2 0 d) = G d)
    (hu : ∀ d e, u (ix2 d e) = U d e) (hv : ∀ d e, v (ix2 d e) = V d e) (rg : ∀ d, IsReal (G d)) (rs : ∀ d, IsReal (S d)) (rc : ∀ d, IsReal (C d))
    (ru : ∀ d (e : Fin 16), IsReal (U d ⟨e.val, by omega⟩)) (rv : ∀ d (e : Fin 16), IsReal (V d ⟨e.val, by omega⟩)) (e : Fin 128) :
    gateTile y s c g u u v (ix2 r e) = spread (gate (logit (modNorm Y G S C) U V)) e := by
  have hh : ∀ d, IsReal (modNorm Y G S C d) := fun d => modNorm_real rg rs rc d
  unfold gateTile
  rw [pay1_apply]
  refine gateK_eq _ _ (fun i => ?_) (fun i => logit_real hh ru rv i) e
  show k0_pay40 y s c g u u v (ix2 r _) = _
  rw [pay40_apply, show (fun d => k0_pay38 y s c g (ix2 r d)) = modNorm Y G S C from funext fun d => norm_row y s c g r hy hs hc hg d,
    show (fun d e => u (ix2 d e)) = U from funext fun d => funext fun e => hu d e, show (fun d e => v (ix2 d e)) = V from funext fun d => funext fun e => hv d e]
  exact logit_eq hh ru rv i

theorem beside_row (hy : ∀ d, y (ix2 r d) = Y d) (hs : ∀ d, s (ix3 0 0 d) = S d) (hc : ∀ d, c (ix3 0 0 d) = C d) (hg : ∀ d, g (ix2 0 d) = G d)
    (hu : ∀ d e, u (ix2 d e) = U d e) (hv : ∀ d e, v (ix2 d e) = V d e) (rg : ∀ d, IsReal (G d)) (rs : ∀ d, IsReal (S d)) (rc : ∀ d, IsReal (C d))
    (ru : ∀ d (e : Fin 16), IsReal (U d ⟨e.val, by omega⟩)) (rv : ∀ d (e : Fin 16), IsReal (V d ⟨e.val, by omega⟩)) (e : Fin 128) :
    besideTile y s c g u u v (ix2 r e) = spread (gate (logit (modNorm Y G S C) U V)) e := by
  have q := gate_row y s c g u v r hy hs hc hg hu hv rg rs rc ru rv
  unfold besideTile
  refine (pay2_apply _ _ _ _ r (fun e => ?_) e).trans (q e)
  rw [show k0_pay1 (k0_pay40 y s c g u u v) k0_pay41 (Scalar.ofBits .f32 0xFF800000#32) k0_pay42 = gateTile y s c g u u v from rfl, q e]
  exact spread_real (fun i => gate_real (fun i => logit_real (fun d => modNorm_real rg rs rc d) ru rv i) i) e

theorem turned_row (hy : ∀ d, y (ix2 r d) = Y d) (hs : ∀ d, s (ix3 0 0 d) = S d) (hc : ∀ d, c (ix3 0 0 d) = C d) (hg : ∀ d, g (ix2 0 d) = G d)
    (hu : ∀ d e, u (ix2 d e) = U d e) (hv : ∀ d e, v (ix2 d e) = V d e) (rg : ∀ d, IsReal (G d)) (rs : ∀ d, IsReal (S d)) (rc : ∀ d, IsReal (C d))
    (ru : ∀ d (e : Fin 16), IsReal (U d ⟨e.val, by omega⟩)) (rv : ∀ d (e : Fin 16), IsReal (V d ⟨e.val, by omega⟩)) (e : Fin 16) :
    turnedTile y s c g u u v (ix3 0 e r) = gate (logit (modNorm Y G S C) U V) e := by
  unfold turnedTile
  refine (pay3_apply _ _ _ _ e r).trans ((gate_row y s c g u v r hy hs hc hg hu hv rg rs rc ru rv ⟨e.val, by omega⟩).trans ?_)
  unfold spread
  rw [dif_pos e.isLt]

end Cert.Post
-- ==== Proof.Post.Block.lean ====
module

public import proofs.«01_k».proof.Proof.Gen.Kernel4Ideal.Frame
public import proofs.«01_k».proof.Proof.Post.Tile
public import Idealize.ShloMosaic.Lib.Pipeline.ValueKit.Tiles
public import Idealize.ShloMosaic.Lib.VecWindow
public import Idealize.ShloMosaic.Lib.WholeRead

/-! The body's output blocks at an index. -/

@[expose] public section
set_option maxRecDepth 16384
noncomputable section
namespace Cert.Post
open Idealize.ShloMosaic Idealize.ShloMosaic.TcCoe Cert.Att Cert.Kernel4Ideal Cert.Kernel4Ideal.Gen

theorem load_two {n k : Nat} {e : EltTy} (a : Memref sig .tc .vmem ⟨2, ![n, k]⟩ e) (h : a.IsWhole) (X : Vec Ideal ⟨2, ![n, k]⟩ e)
    (inb : ∀ i, (![0, 0] : Fin 2 → Nat) i + (⟨2, ![n, k]⟩ : Shape).size i ≤ (⟨2, ![n, k]⟩ : Shape).size i) :
    View.readAt (Elt Ideal) a.view (Rect.unit ![0, 0] (⟨2, ![n, k]⟩ : Shape).size inb).toLoadRect (h.unread X) = X := by
  funext x
  rw [h.readAt_unread]
  refine congrArg X (funext fun i => Fin.ext ?_)
  match i with
  | ⟨0, _⟩ => show 0 + 1 * (x 0 : Nat) = (x 0 : Nat); omega
  | ⟨1, _⟩ => show 0 + 1 * (x 1 : Nat) = (x 1 : Nat); omega

theorem load_rows {n j k : Nat} {e : EltTy} (a : Memref sig .tc .vmem ⟨2, ![n, k]⟩ e) (h : a.IsWhole) (X : Vec Ideal ⟨2, ![n, k]⟩ e) (o : Nat)
    (inb : ∀ i, (![o, 0] : Fin 2 → Nat) i + (⟨2, ![j, k]⟩ : Shape).size i ≤ (⟨2, ![n, k]⟩ : Shape).size i) (ho : o + j ≤ n) (r : Fin j) (l : Fin k) :
    View.readAt (Elt Ideal) a.view (Rect.unit (s := ⟨2, ![n, k]⟩) ![o, 0] (⟨2, ![j, k]⟩ : Shape).size inb).toLoadRect (h.unread X) (ix2 r l) = X (ix2 ⟨o + r.val, by omega⟩ l) := by
  rw [h.readAt_unread]
  refine congrArg X (funext fun i => Fin.ext ?_)
  match i with
  | ⟨0, _⟩ => show o + 1 * r.val = o + r.val; omega
  | ⟨1, _⟩ => show 0 + 1 * l.val = l.val; omega

theorem load_slab {n k : Nat} {e : EltTy} (a : Memref sig .tc .vmem ⟨3, ![1, n, k]⟩ e) (h : a.IsWhole) (X : Vec Ideal ⟨3, ![1, n, k]⟩ e) (o : Fin n)
    (inb : ∀ i, (![0, o.val, 0] : Fin 3 → Nat) i + (⟨3, ![1, 1, k]⟩ : Shape).size i ≤ (⟨3, ![1, n, k]⟩ : Shape).size i) (l : Fin k) :
    View.readAt (Elt Ideal) a.view (Rect.unit (s := ⟨3, ![1, n, k]⟩) ![0, o.val, 0] (⟨3, ![1, 1, k]⟩ : Shape).size inb).toLoadRect (h.unread X) (ix3 (0 : Fin 1) (0 : Fin 1) l) = X (ix3 0 o l) := by
  rw [h.readAt_unread]
  refine congrArg X (funext fun i => Fin.ext ?_)
  match i with
  | ⟨0, _⟩ => rfl
  | ⟨1, _⟩ => show o.val + 1 * 0 = o.val; omega
  | ⟨2, _⟩ => show 0 + 1 * l.val = l.val; omega

theorem tile_two {A B a b : Nat} {e : EltTy} (f : Fin A → Fin B → Elt Ideal e) (o p : Nat) (ho : o + a ≤ A) (hp : p + b ≤ B) (w : Vec Ideal ⟨2, ![a, b]⟩ e)
    (hw : ∀ (r : Fin a) (l : Fin b), w (ix2 r l) = f ⟨o + r.val, by omega⟩ ⟨p + l.val, by omega⟩) (r : Fin A) (l : Fin B) :
    View.TileAt (Val := Elt Ideal) (S := ⟨2, ![A, B]⟩) (e := e) (ix2 r l) ![o, p] (⟨2, ![a, b]⟩ : Shape).size w (f r l) := by
  intro x hx
  have h0 : r.val = o + (x 0 : Nat) := hx 0
  have h1 : l.val = p + (x 1 : Nat) := hx 1
  have b0 : (x 0 : Nat) < a := (x 0).isLt
  have b1 : (x 1 : Nat) < b := (x 1).isLt
  have e : x = ix2 ⟨(x 0 : Nat), b0⟩ ⟨(x 1 : Nat), b1⟩ := by
    refine funext fun a => Fin.ext ?_
    match a with
    | ⟨0, _⟩ => rfl
    | ⟨1, _⟩ => rfl
  rw [e, hw]
  exact congrArg₂ f (Fin.ext h0.symm) (Fin.ext h1.symm)

theorem tile_three {A B D : Nat} {e : EltTy} (f : Fin A → Fin B → Fin D → Elt Ideal e) (o : Nat) (ho : o < A) (w : Vec Ideal ⟨3, ![1, B, D]⟩ e)
    (hw : ∀ (r : Fin B) (l : Fin D), w (ix3 0 r l) = f ⟨o, ho⟩ r l) (q : Fin A) (r : Fin B) (l : Fin D) :
    View.TileAt (Val := Elt Ideal) (S := ⟨3, ![A, B, D]⟩) (e := e) (ix3 q r l) ![o, 0, 0] (⟨3, ![1, B, D]⟩ : Shape).size w (f q r l) := by
  intro x hx
  have h0 : q.val = o + (x 0 : Nat) := hx 0
  have h1 : r.val = 0 + (x 1 : Nat) := hx 1
  have h2 : l.val = 0 + (x 2 : Nat) := hx 2
  have b0 : (x 0 : Nat) < 1 := (x 0).isLt
  have e : x = ix3 0 r l := by
    refine funext fun a => Fin.ext ?_
    match a with
    | ⟨0, _⟩ => show (x 0 : Nat) = 0; omega
    | ⟨1, _⟩ => show (x 1 : Nat) = r.val; omega
    | ⟨2, _⟩ => show (x 2 : Nat) = l.val; omega
  rw [e, hw]
  exact congrArg (fun q => f q r l) (Fin.ext (by show o = q.val; omega))

variable (c : Dev nD) (i : grid0.Coords) (arg1 : Memref sig .tc .vmem S1024x1024 .f32) (harg1 : arg1.IsWhole) (arg2 : Memref sig .tc .vmem S1024x512 .bf16) (harg2 : arg2.IsWhole) (arg3 : Memref sig .tc .vmem S1024x512 .bf16) (harg3 : arg3.IsWhole) (arg4 : Memref sig .tc .vmem S1024x1024 .bf16) (harg4 : arg4.IsWhole) (arg5 : Memref sig .tc .vmem S1x6x1024 .f32) (harg5 : arg5.IsWhole) (arg6 : Memref sig .tc .vmem S1x1024 .f32) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x1024 .f32) (harg9 : arg9.IsWhole) (arg10 : Memref sig .tc .vmem S1024x1152 .bf16) (harg10 : arg10.IsWhole) (arg11 : Memref sig .tc .vmem S4x16x256 .f32) (harg11 : arg11.IsWhole)
variable (x0 : Vec Ideal S1024x1024 .f32) (x1 : Vec Ideal S1024x512 .bf16) (x2 : Vec Ideal S1024x512 .bf16) (x3 : Vec Ideal S1024x1024 .bf16) (x4 : Vec Ideal S1x6x1024 .f32) (x5 : Vec Ideal S1x1024 .f32) (x6 : Vec Ideal S1024x128 .bf16) (x7 : Vec Ideal S1024x128 .bf16)

theorem pieces8 : (kernelRun0_A (F := Ideal) c i arg1 harg1 arg2 harg2 arg3 harg3 arg4 harg4 arg5 harg5 arg6 harg6 arg7 harg7 arg8 harg8 arg9 harg9 arg10 harg10 arg11 harg11 x0 x1 x2 x3 x4 x5 x6 x7).1 = [⟨Rect.unit (s := S1024x1024) ![768, 0] S256x1024.size inb_S1024x1024_S256x1024_768_0, (resTile (kernelRun0_A.sl.r (F := Ideal) c arg2 harg2 arg3 harg3 arg4 harg4 x1 x2 x3) ![768, 0] slices_S1024x1024_o768_0_S256x1024 (View.readAt (Elt Ideal) arg1.view (Rect.unit (s := S1024x1024) ![768, 0] S256x1024.size inb_S1024x1024_S256x1024_768_0).toLoadRect (harg1.unread x0)) (View.readAt (Elt Ideal) arg5.view (Rect.unit (s := S1x6x1024) ![0, 2, 0] S1x1x1024.size inb_S1x6x1024_S1x1x1024_0_2_0).toLoadRect (harg5.unread x4)))⟩,
      ⟨Rect.unit (s := S1024x1024) ![512, 0] S256x1024.size inb_S1024x1024_S256x1024_512_0, (resTile (kernelRun0_A.sl.r (F := Ideal) c arg2 harg2 arg3 harg3 arg4 harg4 x1 x2 x3) ![512, 0] slices_S1024x1024_o512_0_S256x1024 (View.readAt (Elt Ideal) arg1.view (Rect.unit (s := S1024x1024) ![512, 0] S256x1024.size inb_S1024x1024_S256x1024_512_0).toLoadRect (harg1.unread x0)) (View.readAt (Elt Ideal) arg5.view (Rect.unit (s := S1x6x1024) ![0, 2, 0] S1x1x1024.size inb_S1x6x1024_S1x1x1024_0_2_0).toLoadRect (harg5.unread x4)))⟩,
      ⟨Rect.unit (s := S1024x1024) ![256, 0] S256x1024.size inb_S1024x1024_S256x1024_256_0, (resTile (kernelRun0_A.sl.r (F := Ideal) c arg2 harg2 arg3 harg3 arg4 harg4 x1 x2 x3) ![256, 0] slices_S1024x1024_o256_0_S256x1024 (View.readAt (Elt Ideal) arg1.view (Rect.unit (s := S1024x1024) ![256, 0] S256x1024.size inb_S1024x1024_S256x1024_256_0).toLoadRect (harg1.unread x0)) (View.readAt (Elt Ideal) arg5.view (Rect.unit (s := S1x6x1024) ![0, 2, 0] S1x1x1024.size inb_S1x6x1024_S1x1x1024_0_2_0).toLoadRect (harg5.unread x4)))⟩,
      ⟨Rect.unit (s := S1024x1024) ![0, 0] S256x1024.size inb_S1024x1024_S256x1024_0_0, (resTile (kernelRun0_A.sl.r (F := Ideal) c arg2 harg2 arg3 harg3 arg4 harg4 x1 x2 x3) ![0, 0] slices_S1024x1024_o0_0_S256x1024 (View.readAt (Elt Ideal) arg1.view (Rect.unit (s := S1024x1024) ![0, 0] S256x1024.size inb_S1024x1024_S256x1024_0_0).toLoadRect (harg1.unread x0)) (View.readAt (Elt Ideal) arg5.view (Rect.unit (s := S1x6x1024) ![0, 2, 0] S1x1x1024.size inb_S1x6x1024_S1x1x1024_0_2_0).toLoadRect (harg5.unread x4)))⟩] := rfl

theorem pieces9 : (kernelRun0_A (F := Ideal) c i arg1 harg1 arg2 harg2 arg3 harg3 arg4 harg4 arg5 harg5 arg6 harg6 arg7 harg7 arg8 harg8 arg9 harg9 arg10 harg10 arg11 harg11 x0 x1 x2 x3 x4 x5 x6 x7).2.1 = [⟨Rect.unit (s := S1024x1152) ![768, 1024] S256x128.size inb_S1024x1152_S256x128_768_1024, besideTile (resTile (kernelRun0_A.sl.r (F := Ideal) c arg2 harg2 arg3 harg3 arg4 harg4 x1 x2 x3) ![768, 0] slices_S1024x1024_o768_0_S256x1024 (View.readAt (Elt Ideal) arg1.view (Rect.unit (s := S1024x1024) ![768, 0] S256x1024.size inb_S1024x1024_S256x1024_768_0).toLoadRect (harg1.unread x0)) (View.readAt (Elt Ideal) arg5.view (Rect.unit (s := S1x6x1024) ![0, 2, 0] S1x1x1024.size inb_S1x6x1024_S1x1x1024_0_2_0).toLoadRect (harg5.unread x4))) (View.readAt (Elt Ideal) arg5.view (Rect.unit (s := S1x6x1024) ![0, 3, 0] S1x1x1024.size inb_S1x6x1024_S1x1x1024_0_3_0).toLoadRect (harg5.unread x4)) (View.readAt (Elt Ideal) arg5.view (Rect.unit (s := S1x6x1024) ![0, 4, 0] S1x1x1024.size inb_S1x6x1024_S1x1x1024_0_4_0).toLoadRect (harg5.unread x4)) (View.readAt (Elt Ideal) arg6.view (Rect.unit (s := S1x1024) ![0, 0] S1x1024.size inb_S1x1024_S1x1024_0_0).toLoadRect (harg6.unread x5)) (View.readAt (Elt Ideal) arg7.view (Rect.unit (s := S1024x128) ![0, 0] S1024x128.size inb_S1024x128_S1024x128_0_0).toLoadRect (harg7.unread x6)) (View.readAt (Elt Ideal) arg7.view (Rect.unit (s := S1024x128) ![0, 0] S1024x128.size inb_S1024x128_S1024x128_0_0).toLoadRect (harg7.unread x6)) (View.readAt (Elt Ideal) arg8.view (Rect.unit (s := S1024x128) ![0, 0] S1024x128.size inb_S1024x128_S1024x128_0_0).toLoadRect (harg8.unread x7))⟩,
      ⟨Rect.unit (s := S1024x1152) ![768, 0] S256x1024.size inb_S1024x1152_S256x1024_768_0, k0_pay39 (resTile (kernelRun0_A.sl.r (F := Ideal) c arg2 harg2 arg3 harg3 arg4 harg4 x1 x2 x3) ![768, 0] slices_S1024x1024_o768_0_S256x1024 (View.readAt (Elt Ideal) arg1.view (Rect.unit (s := S1024x1024) ![768, 0] S256x1024.size inb_S1024x1024_S256x1024_768_0).toLoadRect (harg1.unread x0)) (View.readAt (Elt Ideal) arg5.view (Rect.unit (s := S1x6x1024) ![0, 2, 0] S1x1x1024.size inb_S1x6x1024_S1x1x1024_0_2_0).toLoadRect (harg5.unread x4))) (View.readAt (Elt Ideal) arg5.view (Rect.unit (s := S1x6x1024) ![0, 3, 0] S1x1x1024.size inb_S1x6x1024_S1x1x1024_0_3_0).toLoadRect (harg5.unread x4)) (View.readAt (Elt Ideal) arg5.view (Rect.unit (s := S1x6x1024) ![0, 4, 0] S1x1x1024.size inb_S1x6x1024_S1x1x1024_0_4_0).toLoadRect (harg5.unread x4)) (View.readAt (Elt Ideal) arg6.view (Rect.unit (s := S1x1024) ![0, 0] S1x1024.size inb_S1x1024_S1x1024_0_0).toLoadRect (harg6.unread x5))⟩,
      ⟨Rect.unit (s := S1024x1152) ![512, 1024] S256x128.size inb_S1024x1152_S256x128_512_1024, besideTile (resTile (kernelRun0_A.sl.r (F := Ideal) c arg2 harg2 arg3 harg3 arg4 harg4 x1 x2 x3) ![512, 0] slices_S1024x1024_o512_0_S256x1024 (View.readAt (Elt Ideal) arg1.view (Rect.unit (s := S1024x1024) ![512, 0] S256x1024.size inb_S1024x1024_S256x1024_512_0).toLoadRect (harg1.unread x0)) (View.readAt (Elt Ideal) arg5.view (Rect.unit (s := S1x6x1024) ![0, 2, 0] S1x1x1024.size inb_S1x6x1024_S1x1x1024_0_2_0).toLoadRect (harg5.unread x4))) (View.readAt (Elt Ideal) arg5.view (Rect.unit (s := S1x6x1024) ![0, 3, 0] S1x1x1024.size inb_S1x6x1024_S1x1x1024_0_3_0).toLoadRect (harg5.unread x4)) (View.readAt (Elt Ideal) arg5.view (Rect.unit (s := S1x6x1024) ![0, 4, 0] S1x1x1024.size inb_S1x6x1024_S1x1x1024_0_4_0).toLoadRect (harg5.unread x4)) (View.readAt (Elt Ideal) arg6.view (Rect.unit (s := S1x1024) ![0, 0] S1x1024.size inb_S1x1024_S1x1024_0_0).toLoadRect (harg6.unread x5)) (View.readAt (Elt Ideal) arg7.view (Rect.unit (s := S1024x128) ![0, 0] S1024x128.size inb_S1024x128_S1024x128_0_0).toLoadRect (harg7.unread x6)) (View.readAt (Elt Ideal) arg7.view (Rect.unit (s := S1024x128) ![0, 0] S1024x128.size inb_S1024x128_S1024x128_0_0).toLoadRect (harg7.unread x6)) (View.readAt (Elt Ideal) arg8.view (Rect.unit (s := S1024x128) ![0, 0] S1024x128.size inb_S1024x128_S1024x128_0_0).toLoadRect (harg8.unread x7))⟩,
      ⟨Rect.unit (s := S1024x1152) ![512, 0] S256x1024.size inb_S1024x1152_S256x1024_512_0, k0_pay39 (resTile (kernelRun0_A.sl.r (F := Ideal) c arg2 harg2 arg3 harg3 arg4 harg4 x1 x2 x3) ![512, 0] slices_S1024x1024_o512_0_S256x1024 (View.readAt (Elt Ideal) arg1.view (Rect.unit (s := S1024x1024) ![512, 0] S256x1024.size inb_S1024x1024_S256x1024_512_0).toLoadRect (harg1.unread x0)) (View.readAt (Elt Ideal) arg5.view (Rect.unit (s := S1x6x1024) ![0, 2, 0] S1x1x1024.size inb_S1x6x1024_S1x1x1024_0_2_0).toLoadRect (harg5.unread x4))) (View.readAt (Elt Ideal) arg5.view (Rect.unit (s := S1x6x1024) ![0, 3, 0] S1x1x1024.size inb_S1x6x1024_S1x1x1024_0_3_0).toLoadRect (harg5.unread x4)) (View.readAt (Elt Ideal) arg5.view (Rect.unit (s := S1x6x1024) ![0, 4, 0] S1x1x1024.size inb_S1x6x1024_S1x1x1024_0_4_0).toLoadRect (harg5.unread x4)) (View.readAt (Elt Ideal) arg6.view (Rect.unit (s := S1x1024) ![0, 0] S1x1024.size inb_S1x1024_S1x1024_0_0).toLoadRect (harg6.unread x5))⟩,
      ⟨Rect.unit (s := S1024x1152) ![256, 1024] S256x128.size inb_S1024x1152_S256x128_256_1024, besideTile (resTile (kernelRun0_A.sl.r (F := Ideal) c arg2 harg2 arg3 harg3 arg4 harg4 x1 x2 x3) ![256, 0] slices_S1024x1024_o256_0_S256x1024 (View.readAt (Elt Ideal) arg1.view (Rect.unit (s := S1024x1024) ![256, 0] S256x1024.size inb_S1024x1024_S256x1024_256_0).toLoadRect (harg1.unread x0)) (View.readAt (Elt Ideal) arg5.view (Rect.unit (s := S1x6x1024) ![0, 2, 0] S1x1x1024.size inb_S1x6x1024_S1x1x1024_0_2_0).toLoadRect (harg5.unread x4))) (View.readAt (Elt Ideal) arg5.view (Rect.unit (s := S1x6x1024) ![0, 3, 0] S1x1x1024.size inb_S1x6x1024_S1x1x1024_0_3_0).toLoadRect (harg5.unread x4)) (View.readAt (Elt Ideal) arg5.view (Rect.unit (s := S1x6x1024) ![0, 4, 0] S1x1x1024.size inb_S1x6x1024_S1x1x1024_0_4_0).toLoadRect (harg5.unread x4)) (View.readAt (Elt Ideal) arg6.view (Rect.unit (s := S1x1024) ![0, 0] S1x1024.size inb_S1x1024_S1x1024_0_0).toLoadRect (harg6.unread x5)) (View.readAt (Elt Ideal) arg7.view (Rect.unit (s := S1024x128) ![0, 0] S1024x128.size inb_S1024x128_S1024x128_0_0).toLoadRect (harg7.unread x6)) (View.readAt (Elt Ideal) arg7.view (Rect.unit (s := S1024x128) ![0, 0] S1024x128.size inb_S1024x128_S1024x128_0_0).toLoadRect (harg7.unread x6)) (View.readAt (Elt Ideal) arg8.view (Rect.unit (s := S1024x128) ![0, 0] S1024x128.size inb_S1024x128_S1024x128_0_0).toLoadRect (harg8.unread x7))⟩,
      ⟨Rect.unit (s := S1024x1152) ![256, 0] S256x1024.size inb_S1024x1152_S256x1024_256_0, k0_pay39 (resTile (kernelRun0_A.sl.r (F := Ideal) c arg2 harg2 arg3 harg3 arg4 harg4 x1 x2 x3) ![256, 0] slices_S1024x1024_o256_0_S256x1024 (View.readAt (Elt Ideal) arg1.view (Rect.unit (s := S1024x1024) ![256, 0] S256x1024.size inb_S1024x1024_S256x1024_256_0).toLoadRect (harg1.unread x0)) (View.readAt (Elt Ideal) arg5.view (Rect.unit (s := S1x6x1024) ![0, 2, 0] S1x1x1024.size inb_S1x6x1024_S1x1x1024_0_2_0).toLoadRect (harg5.unread x4))) (View.readAt (Elt Ideal) arg5.view (Rect.unit (s := S1x6x1024) ![0, 3, 0] S1x1x1024.size inb_S1x6x1024_S1x1x1024_0_3_0).toLoadRect (harg5.unread x4)) (View.readAt (Elt Ideal) arg5.view (Rect.unit (s := S1x6x1024) ![0, 4, 0] S1x1x1024.size inb_S1x6x1024_S1x1x1024_0_4_0).toLoadRect (harg5.unread x4)) (View.readAt (Elt Ideal) arg6.view (Rect.unit (s := S1x1024) ![0, 0] S1x1024.size inb_S1x1024_S1x1024_0_0).toLoadRect (harg6.unread x5))⟩,
      ⟨Rect.unit (s := S1024x1152) ![0, 1024] S256x128.size inb_S1024x1152_S256x128_0_1024, besideTile (resTile (kernelRun0_A.sl.r (F := Ideal) c arg2 harg2 arg3 harg3 arg4 harg4 x1 x2 x3) ![0, 0] slices_S1024x1024_o0_0_S256x1024 (View.readAt (Elt Ideal) arg1.view (Rect.unit (s := S1024x1024) ![0, 0] S256x1024.size inb_S1024x1024_S256x1024_0_0).toLoadRect (harg1.unread x0)) (View.readAt (Elt Ideal) arg5.view (Rect.unit (s := S1x6x1024) ![0, 2, 0] S1x1x1024.size inb_S1x6x1024_S1x1x1024_0_2_0).toLoadRect (harg5.unread x4))) (View.readAt (Elt Ideal) arg5.view (Rect.unit (s := S1x6x1024) ![0, 3, 0] S1x1x1024.size inb_S1x6x1024_S1x1x1024_0_3_0).toLoadRect (harg5.unread x4)) (View.readAt (Elt Ideal) arg5.view (Rect.unit (s := S1x6x1024) ![0, 4, 0] S1x1x1024.size inb_S1x6x1024_S1x1x1024_0_4_0).toLoadRect (harg5.unread x4)) (View.readAt (Elt Ideal) arg6.view (Rect.unit (s := S1x1024) ![0, 0] S1x1024.size inb_S1x1024_S1x1024_0_0).toLoadRect (harg6.unread x5)) (View.readAt (Elt Ideal) arg7.view (Rect.unit (s := S1024x128) ![0, 0] S1024x128.size inb_S1024x128_S1024x128_0_0).toLoadRect (harg7.unread x6)) (View.readAt (Elt Ideal) arg7.view (Rect.unit (s := S1024x128) ![0, 0] S1024x128.size inb_S1024x128_S1024x128_0_0).toLoadRect (harg7.unread x6)) (View.readAt (Elt Ideal) arg8.view (Rect.unit (s := S1024x128) ![0, 0] S1024x128.size inb_S1024x128_S1024x128_0_0).toLoadRect (harg8.unread x7))⟩,
      ⟨Rect.unit (s := S1024x1152) ![0, 0] S256x1024.size inb_S1024x1152_S256x1024_0_0, k0_pay39 (resTile (kernelRun0_A.sl.r (F := Ideal) c arg2 harg2 arg3 harg3 arg4 harg4 x1 x2 x3) ![0, 0] slices_S1024x1024_o0_0_S256x1024 (View.readAt (Elt Ideal) arg1.view (Rect.unit (s := S1024x1024) ![0, 0] S256x1024.size inb_S1024x1024_S256x1024_0_0).toLoadRect (harg1.unread x0)) (View.readAt (Elt Ideal) arg5.view (Rect.unit (s := S1x6x1024) ![0, 2, 0] S1x1x1024.size inb_S1x6x1024_S1x1x1024_0_2_0).toLoadRect (harg5.unread x4))) (View.readAt (Elt Ideal) arg5.view (Rect.unit (s := S1x6x1024) ![0, 3, 0] S1x1x1024.size inb_S1x6x1024_S1x1x1024_0_3_0).toLoadRect (harg5.unread x4)) (View.readAt (Elt Ideal) arg5.view (Rect.unit (s := S1x6x1024) ![0, 4, 0] S1x1x1024.size inb_S1x6x1024_S1x1x1024_0_4_0).toLoadRect (harg5.unread x4)) (View.readAt (Elt Ideal) arg6.view (Rect.unit (s := S1x1024) ![0, 0] S1x1024.size inb_S1x1024_S1x1024_0_0).toLoadRect (harg6.unread x5))⟩] := rfl

theorem pieces10 : (kernelRun0_A (F := Ideal) c i arg1 harg1 arg2 harg2 arg3 harg3 arg4 harg4 arg5 harg5 arg6 harg6 arg7 harg7 arg8 harg8 arg9 harg9 arg10 harg10 arg11 harg11 x0 x1 x2 x3 x4 x5 x6 x7).2.2.1 = [⟨Rect.unit (s := S4x16x256) ![3, 0, 0] S1x16x256.size inb_S4x16x256_S1x16x256_3_0_0, turnedTile (resTile (kernelRun0_A.sl.r (F := Ideal) c arg2 harg2 arg3 harg3 arg4 harg4 x1 x2 x3) ![768, 0] slices_S1024x1024_o768_0_S256x1024 (View.readAt (Elt Ideal) arg1.view (Rect.unit (s := S1024x1024) ![768, 0] S256x1024.size inb_S1024x1024_S256x1024_768_0).toLoadRect (harg1.unread x0)) (View.readAt (Elt Ideal) arg5.view (Rect.unit (s := S1x6x1024) ![0, 2, 0] S1x1x1024.size inb_S1x6x1024_S1x1x1024_0_2_0).toLoadRect (harg5.unread x4))) (View.readAt (Elt Ideal) arg5.view (Rect.unit (s := S1x6x1024) ![0, 3, 0] S1x1x1024.size inb_S1x6x1024_S1x1x1024_0_3_0).toLoadRect (harg5.unread x4)) (View.readAt (Elt Ideal) arg5.view (Rect.unit (s := S1x6x1024) ![0, 4, 0] S1x1x1024.size inb_S1x6x1024_S1x1x1024_0_4_0).toLoadRect (harg5.unread x4)) (View.readAt (Elt Ideal) arg6.view (Rect.unit (s := S1x1024) ![0, 0] S1x1024.size inb_S1x1024_S1x1024_0_0).toLoadRect (harg6.unread x5)) (View.readAt (Elt Ideal) arg7.view (Rect.unit (s := S1024x128) ![0, 0] S1024x128.size inb_S1024x128_S1024x128_0_0).toLoadRect (harg7.unread x6)) (View.readAt (Elt Ideal) arg7.view (Rect.unit (s := S1024x128) ![0, 0] S1024x128.size inb_S1024x128_S1024x128_0_0).toLoadRect (harg7.unread x6)) (View.readAt (Elt Ideal) arg8.view (Rect.unit (s := S1024x128) ![0, 0] S1024x128.size inb_S1024x128_S1024x128_0_0).toLoadRect (harg8.unread x7))⟩,
      ⟨Rect.unit (s := S4x16x256) ![2, 0, 0] S1x16x256.size inb_S4x16x256_S1x16x256_2_0_0, turnedTile (resTile (kernelRun0_A.sl.r (F := Ideal) c arg2 harg2 arg3 harg3 arg4 harg4 x1 x2 x3) ![512, 0] slices_S1024x1024_o512_0_S256x1024 (View.readAt (Elt Ideal) arg1.view (Rect.unit (s := S1024x1024) ![512, 0] S256x1024.size inb_S1024x1024_S256x1024_512_0).toLoadRect (harg1.unread x0)) (View.readAt (Elt Ideal) arg5.view (Rect.unit (s := S1x6x1024) ![0, 2, 0] S1x1x1024.size inb_S1x6x1024_S1x1x1024_0_2_0).toLoadRect (harg5.unread x4))) (View.readAt (Elt Ideal) arg5.view (Rect.unit (s := S1x6x1024) ![0, 3, 0] S1x1x1024.size inb_S1x6x1024_S1x1x1024_0_3_0).toLoadRect (harg5.unread x4)) (View.readAt (Elt Ideal) arg5.view (Rect.unit (s := S1x6x1024) ![0, 4, 0] S1x1x1024.size inb_S1x6x1024_S1x1x1024_0_4_0).toLoadRect (harg5.unread x4)) (View.readAt (Elt Ideal) arg6.view (Rect.unit (s := S1x1024) ![0, 0] S1x1024.size inb_S1x1024_S1x1024_0_0).toLoadRect (harg6.unread x5)) (View.readAt (Elt Ideal) arg7.view (Rect.unit (s := S1024x128) ![0, 0] S1024x128.size inb_S1024x128_S1024x128_0_0).toLoadRect (harg7.unread x6)) (View.readAt (Elt Ideal) arg7.view (Rect.unit (s := S1024x128) ![0, 0] S1024x128.size inb_S1024x128_S1024x128_0_0).toLoadRect (harg7.unread x6)) (View.readAt (Elt Ideal) arg8.view (Rect.unit (s := S1024x128) ![0, 0] S1024x128.size inb_S1024x128_S1024x128_0_0).toLoadRect (harg8.unread x7))⟩,
      ⟨Rect.unit (s := S4x16x256) ![1, 0, 0] S1x16x256.size inb_S4x16x256_S1x16x256_1_0_0, turnedTile (resTile (kernelRun0_A.sl.r (F := Ideal) c arg2 harg2 arg3 harg3 arg4 harg4 x1 x2 x3) ![256, 0] slices_S1024x1024_o256_0_S256x1024 (View.readAt (Elt Ideal) arg1.view (Rect.unit (s := S1024x1024) ![256, 0] S256x1024.size inb_S1024x1024_S256x1024_256_0).toLoadRect (harg1.unread x0)) (View.readAt (Elt Ideal) arg5.view (Rect.unit (s := S1x6x1024) ![0, 2, 0] S1x1x1024.size inb_S1x6x1024_S1x1x1024_0_2_0).toLoadRect (harg5.unread x4))) (View.readAt (Elt Ideal) arg5.view (Rect.unit (s := S1x6x1024) ![0, 3, 0] S1x1x1024.size inb_S1x6x1024_S1x1x1024_0_3_0).toLoadRect (harg5.unread x4)) (View.readAt (Elt Ideal) arg5.view (Rect.unit (s := S1x6x1024) ![0, 4, 0] S1x1x1024.size inb_S1x6x1024_S1x1x1024_0_4_0).toLoadRect (harg5.unread x4)) (View.readAt (Elt Ideal) arg6.view (Rect.unit (s := S1x1024) ![0, 0] S1x1024.size inb_S1x1024_S1x1024_0_0).toLoadRect (harg6.unread x5)) (View.readAt (Elt Ideal) arg7.view (Rect.unit (s := S1024x128) ![0, 0] S1024x128.size inb_S1024x128_S1024x128_0_0).toLoadRect (harg7.unread x6)) (View.readAt (Elt Ideal) arg7.view (Rect.unit (s := S1024x128) ![0, 0] S1024x128.size inb_S1024x128_S1024x128_0_0).toLoadRect (harg7.unread x6)) (View.readAt (Elt Ideal) arg8.view (Rect.unit (s := S1024x128) ![0, 0] S1024x128.size inb_S1024x128_S1024x128_0_0).toLoadRect (harg8.unread x7))⟩,
      ⟨Rect.unit (s := S4x16x256) ![0, 0, 0] S1x16x256.size inb_S4x16x256_S1x16x256_0_0_0, turnedTile (resTile (kernelRun0_A.sl.r (F := Ideal) c arg2 harg2 arg3 harg3 arg4 harg4 x1 x2 x3) ![0, 0] slices_S1024x1024_o0_0_S256x1024 (View.readAt (Elt Ideal) arg1.view (Rect.unit (s := S1024x1024) ![0, 0] S256x1024.size inb_S1024x1024_S256x1024_0_0).toLoadRect (harg1.unread x0)) (View.readAt (Elt Ideal) arg5.view (Rect.unit (s := S1x6x1024) ![0, 2, 0] S1x1x1024.size inb_S1x6x1024_S1x1x1024_0_2_0).toLoadRect (harg5.unread x4))) (View.readAt (Elt Ideal) arg5.view (Rect.unit (s := S1x6x1024) ![0, 3, 0] S1x1x1024.size inb_S1x6x1024_S1x1x1024_0_3_0).toLoadRect (harg5.unread x4)) (View.readAt (Elt Ideal) arg5.view (Rect.unit (s := S1x6x1024) ![0, 4, 0] S1x1x1024.size inb_S1x6x1024_S1x1x1024_0_4_0).toLoadRect (harg5.unread x4)) (View.readAt (Elt Ideal) arg6.view (Rect.unit (s := S1x1024) ![0, 0] S1x1024.size inb_S1x1024_S1x1024_0_0).toLoadRect (harg6.unread x5)) (View.readAt (Elt Ideal) arg7.view (Rect.unit (s := S1024x128) ![0, 0] S1024x128.size inb_S1024x128_S1024x128_0_0).toLoadRect (harg7.unread x6)) (View.readAt (Elt Ideal) arg7.view (Rect.unit (s := S1024x128) ![0, 0] S1024x128.size inb_S1024x128_S1024x128_0_0).toLoadRect (harg7.unread x6)) (View.readAt (Elt Ideal) arg8.view (Rect.unit (s := S1024x128) ![0, 0] S1024x128.size inb_S1024x128_S1024x128_0_0).toLoadRect (harg8.unread x7))⟩] := rfl

theorem y_apply (o : Nat) (ho : o + 256 ≤ 1024) (sl : S1024x1024.Slices ![o, 0] S256x1024) (inb : ∀ a, (![o, 0] : Fin 2 → Nat) a + S256x1024.size a ≤ S1024x1024.size a) (r : Fin 256) (d : Fin 1024) :
    (resTile (kernelRun0_A.sl.r (F := Ideal) c arg2 harg2 arg3 harg3 arg4 harg4 x1 x2 x3) ![o, 0] sl (View.readAt (Elt Ideal) arg1.view (Rect.unit (s := S1024x1024) ![o, 0] S256x1024.size inb).toLoadRect (harg1.unread x0)) (View.readAt (Elt Ideal) arg5.view (Rect.unit (s := S1x6x1024) ![0, 2, 0] S1x1x1024.size inb_S1x6x1024_S1x1x1024_0_2_0).toLoadRect (harg5.unread x4))) (ix2 r d) = resRow (fun d => x0 (ix2 ⟨o + r.val, by omega⟩ d)) (fun f => x1 (ix2 ⟨o + r.val, by omega⟩ f)) (fun f => x2 (ix2 ⟨o + r.val, by omega⟩ f)) (fun f d => x3 (ix2 f d)) (fun a d => x4 (ix3 0 a d)) d := by
  refine (resTile_apply _ o ho sl _ _ r d).trans ?_
  have hM : (kernelRun0_A.sl.r (F := Ideal) c arg2 harg2 arg3 harg3 arg4 harg4 x1 x2 x3) (ix2 (⟨o + r.val, by omega⟩ : Fin 1024) d) = (∑ f : Fin 512, x1 (ix2 ⟨o + r.val, by omega⟩ f) * x3 (ix2 ⟨f.val, by omega⟩ d)) + ∑ f : Fin 512, x2 (ix2 ⟨o + r.val, by omega⟩ f) * x3 (ix2 ⟨512 + f.val, by omega⟩ d) := by
    unfold kernelRun0_A.sl.r
    refine (pay4_apply _ _ _ _ _ d).trans ?_
    rw [load_two arg2 harg2 x1, load_two arg3 harg3 x2]
    refine congrArg₂ (· + ·) (Finset.sum_congr rfl fun f _ => ?_) (Finset.sum_congr rfl fun f _ => ?_)
    · refine congrArg (fun z => x1 (ix2 ⟨o + r.val, by omega⟩ f) * z) ((load_rows arg4 harg4 x3 0 inb_S1024x1024_S512x1024_0_0 (by omega) f d).trans ?_)
      exact congrArg (fun k => x3 (ix2 k d)) (Fin.ext (by show 0 + f.val = f.val; omega))
    · exact congrArg (fun z => x2 (ix2 ⟨o + r.val, by omega⟩ f) * z) (load_rows arg4 harg4 x3 512 inb_S1024x1024_S512x1024_512_0 (by omega) f d)
  rw [hM]
  refine congrArg₂ (· + ·) (load_rows arg1 harg1 x0 o inb ho r d) ?_
  exact congrArg (fun z => z * _) (load_slab arg5 harg5 x4 2 inb_S1x6x1024_S1x1x1024_0_2_0 d)

theorem h_apply (o : Nat) (ho : o + 256 ≤ 1024) (sl : S1024x1024.Slices ![o, 0] S256x1024) (inb : ∀ a, (![o, 0] : Fin 2 → Nat) a + S256x1024.size a ≤ S1024x1024.size a) (r : Fin 256) (d : Fin 1024) :
    k0_pay39 (resTile (kernelRun0_A.sl.r (F := Ideal) c arg2 harg2 arg3 harg3 arg4 harg4 x1 x2 x3) ![o, 0] sl (View.readAt (Elt Ideal) arg1.view (Rect.unit (s := S1024x1024) ![o, 0] S256x1024.size inb).toLoadRect (harg1.unread x0)) (View.readAt (Elt Ideal) arg5.view (Rect.unit (s := S1x6x1024) ![0, 2, 0] S1x1x1024.size inb_S1x6x1024_S1x1x1024_0_2_0).toLoadRect (harg5.unread x4))) (View.readAt (Elt Ideal) arg5.view (Rect.unit (s := S1x6x1024) ![0, 3, 0] S1x1x1024.size inb_S1x6x1024_S1x1x1024_0_3_0).toLoadRect (harg5.unread x4)) (View.readAt (Elt Ideal) arg5.view (Rect.unit (s := S1x6x1024) ![0, 4, 0] S1x1x1024.size inb_S1x6x1024_S1x1x1024_0_4_0).toLoadRect (harg5.unread x4)) (View.readAt (Elt Ideal) arg6.view (Rect.unit (s := S1x1024) ![0, 0] S1x1024.size inb_S1x1024_S1x1024_0_0).toLoadRect (harg6.unread x5)) (ix2 r d) = normRow (fun d => x0 (ix2 ⟨o + r.val, by omega⟩ d)) (fun f => x1 (ix2 ⟨o + r.val, by omega⟩ f)) (fun f => x2 (ix2 ⟨o + r.val, by omega⟩ f)) (fun f d => x3 (ix2 f d)) (fun a d => x4 (ix3 0 a d)) (fun d => x5 (ix2 0 d)) d :=
  norm_row _ _ _ _ r (fun d => y_apply c arg1 harg1 arg2 harg2 arg3 harg3 arg4 harg4 arg5 harg5 x0 x1 x2 x3 x4 o ho sl inb r d) (fun d => load_slab arg5 harg5 x4 3 inb_S1x6x1024_S1x1x1024_0_3_0 d) (fun d => load_slab arg5 harg5 x4 4 inb_S1x6x1024_S1x1x1024_0_4_0 d) (fun d => congrFun (load_two arg6 harg6 x5 inb_S1x1024_S1x1024_0_0) (ix2 0 d)) d

theorem beside_apply (hg : ∀ d, IsReal (x5 (ix2 0 d))) (hs : ∀ d, IsReal (x4 (ix3 0 3 d))) (hc : ∀ d, IsReal (x4 (ix3 0 4 d)))
    (hu : ∀ d (e : Fin 16), IsReal (x6 (ix2 d ⟨e.val, by omega⟩))) (hv : ∀ d (e : Fin 16), IsReal (x7 (ix2 d ⟨e.val, by omega⟩))) (o : Nat) (ho : o + 256 ≤ 1024) (sl : S1024x1024.Slices ![o, 0] S256x1024) (inb : ∀ a, (![o, 0] : Fin 2 → Nat) a + S256x1024.size a ≤ S1024x1024.size a) (r : Fin 256) (e : Fin 128) :
    besideTile (resTile (kernelRun0_A.sl.r (F := Ideal) c arg2 harg2 arg3 harg3 arg4 harg4 x1 x2 x3) ![o, 0] sl (View.readAt (Elt Ideal) arg1.view (Rect.unit (s := S1024x1024) ![o, 0] S256x1024.size inb).toLoadRect (harg1.unread x0)) (View.readAt (Elt Ideal) arg5.view (Rect.unit (s := S1x6x1024) ![0, 2, 0] S1x1x1024.size inb_S1x6x1024_S1x1x1024_0_2_0).toLoadRect (harg5.unread x4))) (View.readAt (Elt Ideal) arg5.view (Rect.unit (s := S1x6x1024) ![0, 3, 0] S1x1x1024.size inb_S1x6x1024_S1x1x1024_0_3_0).toLoadRect (harg5.unread x4)) (View.readAt (Elt Ideal) arg5.view (Rect.unit (s := S1x6x1024) ![0, 4, 0] S1x1x1024.size inb_S1x6x1024_S1x1x1024_0_4_0).toLoadRect (harg5.unread x4)) (View.readAt (Elt Ideal) arg6.view (Rect.unit (s := S1x1024) ![0, 0] S1x1024.size inb_S1x1024_S1x1024_0_0).toLoadRect (harg6.unread x5)) (View.readAt (Elt Ideal) arg7.view (Rect.unit (s := S1024x128) ![0, 0] S1024x128.size inb_S1024x128_S1024x128_0_0).toLoadRect (harg7.unread x6)) (View.readAt (Elt Ideal) arg7.view (Rect.unit (s := S1024x128) ![0, 0] S1024x128.size inb_S1024x128_S1024x128_0_0).toLoadRect (harg7.unread x6)) (View.readAt (Elt Ideal) arg8.view (Rect.unit (s := S1024x128) ![0, 0] S1024x128.size inb_S1024x128_S1024x128_0_0).toLoadRect (harg8.unread x7)) (ix2 r e) = spread (gateRow (fun d => x0 (ix2 ⟨o + r.val, by omega⟩ d)) (fun f => x1 (ix2 ⟨o + r.val, by omega⟩ f)) (fun f => x2 (ix2 ⟨o + r.val, by omega⟩ f)) (fun f d => x3 (ix2 f d)) (fun a d => x4 (ix3 0 a d)) (fun d => x5 (ix2 0 d)) (fun d e => x6 (ix2 d e)) (fun d e => x7 (ix2 d e))) e :=
  beside_row _ _ _ _ _ _ r (fun d => y_apply c arg1 harg1 arg2 harg2 arg3 harg3 arg4 harg4 arg5 harg5 x0 x1 x2 x3 x4 o ho sl inb r d) (fun d => load_slab arg5 harg5 x4 3 inb_S1x6x1024_S1x1x1024_0_3_0 d) (fun d => load_slab arg5 harg5 x4 4 inb_S1x6x1024_S1x1x1024_0_4_0 d) (fun d => congrFun (load_two arg6 harg6 x5 inb_S1x1024_S1x1024_0_0) (ix2 0 d)) (fun d e => congrFun (load_two arg7 harg7 x6 inb_S1024x128_S1024x128_0_0) (ix2 d e)) (fun d e => congrFun (load_two arg8 harg8 x7 inb_S1024x128_S1024x128_0_0) (ix2 d e)) hg hs hc hu hv e

theorem turned_apply (hg : ∀ d, IsReal (x5 (ix2 0 d))) (hs : ∀ d, IsReal (x4 (ix3 0 3 d))) (hc : ∀ d, IsReal (x4 (ix3 0 4 d)))
    (hu : ∀ d (e : Fin 16), IsReal (x6 (ix2 d ⟨e.val, by omega⟩))) (hv : ∀ d (e : Fin 16), IsReal (x7 (ix2 d ⟨e.val, by omega⟩))) (o : Nat) (ho : o + 256 ≤ 1024) (sl : S1024x1024.Slices ![o, 0] S256x1024) (inb : ∀ a, (![o, 0] : Fin 2 → Nat) a + S256x1024.size a ≤ S1024x1024.size a) (e : Fin 16) (r : Fin 256) :
    turnedTile (resTile (kernelRun0_A.sl.r (F := Ideal) c arg2 harg2 arg3 harg3 arg4 harg4 x1 x2 x3) ![o, 0] sl (View.readAt (Elt Ideal) arg1.view (Rect.unit (s := S1024x1024) ![o, 0] S256x1024.size inb).toLoadRect (harg1.unread x0)) (View.readAt (Elt Ideal) arg5.view (Rect.unit (s := S1x6x1024) ![0, 2, 0] S1x1x1024.size inb_S1x6x1024_S1x1x1024_0_2_0).toLoadRect (harg5.unread x4))) (View.readAt (Elt Ideal) arg5.view (Rect.unit (s := S1x6x1024) ![0, 3, 0] S1x1x1024.size inb_S1x6x1024_S1x1x1024_0_3_0).toLoadRect (harg5.unread x4)) (View.readAt (Elt Ideal) arg5.view (Rect.unit (s := S1x6x1024) ![0, 4, 0] S1x1x1024.size inb_S1x6x1024_S1x1x1024_0_4_0).toLoadRect (harg5.unread x4)) (View.readAt (Elt Ideal) arg6.view (Rect.unit (s := S1x1024) ![0, 0] S1x1024.size inb_S1x1024_S1x1024_0_0).toLoadRect (harg6.unread x5)) (View.readAt (Elt Ideal) arg7.view (Rect.unit (s := S1024x128) ![0, 0] S1024x128.size inb_S1024x128_S1024x128_0_0).toLoadRect (harg7.unread x6)) (View.readAt (Elt Ideal) arg7.view (Rect.unit (s := S1024x128) ![0, 0] S1024x128.size inb_S1024x128_S1024x128_0_0).toLoadRect (harg7.unread x6)) (View.readAt (Elt Ideal) arg8.view (Rect.unit (s := S1024x128) ![0, 0] S1024x128.size inb_S1024x128_S1024x128_0_0).toLoadRect (harg8.unread x7)) (ix3 0 e r) = gateRow (fun d => x0 (ix2 ⟨o + r.val, by omega⟩ d)) (fun f => x1 (ix2 ⟨o + r.val, by omega⟩ f)) (fun f => x2 (ix2 ⟨o + r.val, by omega⟩ f)) (fun f d => x3 (ix2 f d)) (fun a d => x4 (ix3 0 a d)) (fun d => x5 (ix2 0 d)) (fun d e => x6 (ix2 d e)) (fun d e => x7 (ix2 d e)) e :=
  turned_row _ _ _ _ _ _ r (fun d => y_apply c arg1 harg1 arg2 harg2 arg3 harg3 arg4 harg4 arg5 harg5 x0 x1 x2 x3 x4 o ho sl inb r d) (fun d => load_slab arg5 harg5 x4 3 inb_S1x6x1024_S1x1x1024_0_3_0 d) (fun d => load_slab arg5 harg5 x4 4 inb_S1x6x1024_S1x1x1024_0_4_0 d) (fun d => congrFun (load_two arg6 harg6 x5 inb_S1x1024_S1x1024_0_0) (ix2 0 d)) (fun d e => congrFun (load_two arg7 harg7 x6 inb_S1024x128_S1024x128_0_0) (ix2 d e)) (fun d e => congrFun (load_two arg8 harg8 x7 inb_S1024x128_S1024x128_0_0) (ix2 d e)) hg hs hc hu hv e

theorem out8_apply (r d : Fin 1024) : out0_A_8 (F := Ideal) c i arg1 harg1 arg2 harg2 arg3 harg3 arg4 harg4 arg5 harg5 arg6 harg6 arg7 harg7 arg8 harg8 arg9 harg9 arg10 harg10 arg11 harg11 x0 x1 x2 x3 x4 x5 x6 x7 (ix2 r d) = resRow (fun d => x0 (ix2 r d)) (fun f => x1 (ix2 r f)) (fun f => x2 (ix2 r f)) (fun f d => x3 (ix2 f d)) (fun a d => x4 (ix3 0 a d)) d := by
  unfold out0_A_8
  rw [View.read_writes_junk_eq_canon]
  refine View.canon_eq_of_allAt _ _ _ (cover0_A_8 c i arg1 harg1 arg2 harg2 arg3 harg3 arg4 harg4 arg5 harg5 arg6 harg6 arg7 harg7 arg8 harg8 arg9 harg9 arg10 harg10 arg11 harg11 x0 x1 x2 x3 x4 x5 x6 x7 _) ?_
  rw [pieces8]
  have z : ∀ l : Fin 1024, l = ⟨0 + l.val, by omega⟩ := fun l => Fin.ext (Nat.zero_add l.val).symm
  refine View.allAt_cons_unit _ _ _ _ _ (tile_two (e := .f32) (fun r d => resRow (fun d => x0 (ix2 r d)) (fun f => x1 (ix2 r f)) (fun f => x2 (ix2 r f)) (fun f d => x3 (ix2 f d)) (fun a d => x4 (ix3 0 a d)) d) 768 0 (by omega) (by omega) _ (fun r l => (y_apply c arg1 harg1 arg2 harg2 arg3 harg3 arg4 harg4 arg5 harg5 x0 x1 x2 x3 x4 768 (by omega) _ _ r l).trans (congrArg (resRow (fun d => x0 (ix2 ⟨768 + r.val, by omega⟩ d)) (fun f => x1 (ix2 ⟨768 + r.val, by omega⟩ f)) (fun f => x2 (ix2 ⟨768 + r.val, by omega⟩ f)) (fun f d => x3 (ix2 f d)) (fun a d => x4 (ix3 0 a d))) (z l))) r d) ?_
  refine View.allAt_cons_unit _ _ _ _ _ (tile_two (e := .f32) (fun r d => resRow (fun d => x0 (ix2 r d)) (fun f => x1 (ix2 r f)) (fun f => x2 (ix2 r f)) (fun f d => x3 (ix2 f d)) (fun a d => x4 (ix3 0 a d)) d) 512 0 (by omega) (by omega) _ (fun r l => (y_apply c arg1 harg1 arg2 harg2 arg3 harg3 arg4 harg4 arg5 harg5 x0 x1 x2 x3 x4 512 (by omega) _ _ r l).trans (congrArg (resRow (fun d => x0 (ix2 ⟨512 + r.val, by omega⟩ d)) (fun f => x1 (ix2 ⟨512 + r.val, by omega⟩ f)) (fun f => x2 (ix2 ⟨512 + r.val, by omega⟩ f)) (fun f d => x3 (ix2 f d)) (fun a d => x4 (ix3 0 a d))) (z l))) r d) ?_
  refine View.allAt_cons_unit _ _ _ _ _ (tile_two (e := .f32) (fun r d => resRow (fun d => x0 (ix2 r d)) (fun f => x1 (ix2 r f)) (fun f => x2 (ix2 r f)) (fun f d => x3 (ix2 f d)) (fun a d => x4 (ix3 0 a d)) d) 256 0 (by omega) (by omega) _ (fun r l => (y_apply c arg1 harg1 arg2 harg2 arg3 harg3 arg4 harg4 arg5 harg5 x0 x1 x2 x3 x4 256 (by omega) _ _ r l).trans (congrArg (resRow (fun d => x0 (ix2 ⟨256 + r.val, by omega⟩ d)) (fun f => x1 (ix2 ⟨256 + r.val, by omega⟩ f)) (fun f => x2 (ix2 ⟨256 + r.val, by omega⟩ f)) (fun f d => x3 (ix2 f d)) (fun a d => x4 (ix3 0 a d))) (z l))) r d) ?_
  refine View.allAt_cons_unit _ _ _ _ _ (tile_two (e := .f32) (fun r d => resRow (fun d => x0 (ix2 r d)) (fun f => x1 (ix2 r f)) (fun f => x2 (ix2 r f)) (fun f d => x3 (ix2 f d)) (fun a d => x4 (ix3 0 a d)) d) 0 0 (by omega) (by omega) _ (fun r l => (y_apply c arg1 harg1 arg2 harg2 arg3 harg3 arg4 harg4 arg5 harg5 x0 x1 x2 x3 x4 0 (by omega) _ _ r l).trans (congrArg (resRow (fun d => x0 (ix2 ⟨0 + r.val, by omega⟩ d)) (fun f => x1 (ix2 ⟨0 + r.val, by omega⟩ f)) (fun f => x2 (ix2 ⟨0 + r.val, by omega⟩ f)) (fun f d => x3 (ix2 f d)) (fun a d => x4 (ix3 0 a d))) (z l))) r d) ?_
  exact View.allAt_nil _ _

theorem out9_apply (hg : ∀ d, IsReal (x5 (ix2 0 d))) (hs : ∀ d, IsReal (x4 (ix3 0 3 d))) (hc : ∀ d, IsReal (x4 (ix3 0 4 d)))
    (hu : ∀ d (e : Fin 16), IsReal (x6 (ix2 d ⟨e.val, by omega⟩))) (hv : ∀ d (e : Fin 16), IsReal (x7 (ix2 d ⟨e.val, by omega⟩))) (r : Fin 1024) (k : Fin 1152) : out0_A_9 (F := Ideal) c i arg1 harg1 arg2 harg2 arg3 harg3 arg4 harg4 arg5 harg5 arg6 harg6 arg7 harg7 arg8 harg8 arg9 harg9 arg10 harg10 arg11 harg11 x0 x1 x2 x3 x4 x5 x6 x7 (ix2 r k) = wide (normRow (fun d => x0 (ix2 r d)) (fun f => x1 (ix2 r f)) (fun f => x2 (ix2 r f)) (fun f d => x3 (ix2 f d)) (fun a d => x4 (ix3 0 a d)) (fun d => x5 (ix2 0 d))) (gateRow (fun d => x0 (ix2 r d)) (fun f => x1 (ix2 r f)) (fun f => x2 (ix2 r f)) (fun f d => x3 (ix2 f d)) (fun a d => x4 (ix3 0 a d)) (fun d => x5 (ix2 0 d)) (fun d e => x6 (ix2 d e)) (fun d e => x7 (ix2 d e))) k := by
  unfold out0_A_9
  rw [View.read_writes_junk_eq_canon]
  refine View.canon_eq_of_allAt _ _ _ (cover0_A_9 c i arg1 harg1 arg2 harg2 arg3 harg3 arg4 harg4 arg5 harg5 arg6 harg6 arg7 harg7 arg8 harg8 arg9 harg9 arg10 harg10 arg11 harg11 x0 x1 x2 x3 x4 x5 x6 x7 _) ?_
  rw [pieces9]
  refine View.allAt_cons_unit _ _ _ _ _ (tile_two (e := .bf16) (fun r k => wide (normRow (fun d => x0 (ix2 r d)) (fun f => x1 (ix2 r f)) (fun f => x2 (ix2 r f)) (fun f d => x3 (ix2 f d)) (fun a d => x4 (ix3 0 a d)) (fun d => x5 (ix2 0 d))) (gateRow (fun d => x0 (ix2 r d)) (fun f => x1 (ix2 r f)) (fun f => x2 (ix2 r f)) (fun f d => x3 (ix2 f d)) (fun a d => x4 (ix3 0 a d)) (fun d => x5 (ix2 0 d)) (fun d e => x6 (ix2 d e)) (fun d e => x7 (ix2 d e))) k) 768 1024 (by omega) (by omega) _ (fun r l => (beside_apply c arg1 harg1 arg2 harg2 arg3 harg3 arg4 harg4 arg5 harg5 arg6 harg6 arg7 harg7 arg8 harg8 x0 x1 x2 x3 x4 x5 x6 x7 hg hs hc hu hv 768 (by omega) _ _ r l).trans (wide_right _ _ l).symm) r k) ?_
  refine View.allAt_cons_unit _ _ _ _ _ (tile_two (e := .bf16) (fun r k => wide (normRow (fun d => x0 (ix2 r d)) (fun f => x1 (ix2 r f)) (fun f => x2 (ix2 r f)) (fun f d => x3 (ix2 f d)) (fun a d => x4 (ix3 0 a d)) (fun d => x5 (ix2 0 d))) (gateRow (fun d => x0 (ix2 r d)) (fun f => x1 (ix2 r f)) (fun f => x2 (ix2 r f)) (fun f d => x3 (ix2 f d)) (fun a d => x4 (ix3 0 a d)) (fun d => x5 (ix2 0 d)) (fun d e => x6 (ix2 d e)) (fun d e => x7 (ix2 d e))) k) 768 0 (by omega) (by omega) _ (fun r l => (h_apply c arg1 harg1 arg2 harg2 arg3 harg3 arg4 harg4 arg5 harg5 arg6 harg6 x0 x1 x2 x3 x4 x5 768 (by omega) _ _ r l).trans (wide_left _ _ l).symm) r k) ?_
  refine View.allAt_cons_unit _ _ _ _ _ (tile_two (e := .bf16) (fun r k => wide (normRow (fun d => x0 (ix2 r d)) (fun f => x1 (ix2 r f)) (fun f => x2 (ix2 r f)) (fun f d => x3 (ix2 f d)) (fun a d => x4 (ix3 0 a d)) (fun d => x5 (ix2 0 d))) (gateRow (fun d => x0 (ix2 r d)) (fun f => x1 (ix2 r f)) (fun f => x2 (ix2 r f)) (fun f d => x3 (ix2 f d)) (fun a d => x4 (ix3 0 a d)) (fun d => x5 (ix2 0 d)) (fun d e => x6 (ix2 d e)) (fun d e => x7 (ix2 d e))) k) 512 1024 (by omega) (by omega) _ (fun r l => (beside_apply c arg1 harg1 arg2 harg2 arg3 harg3 arg4 harg4 arg5 harg5 arg6 harg6 arg7 harg7 arg8 harg8 x0 x1 x2 x3 x4 x5 x6 x7 hg hs hc hu hv 512 (by omega) _ _ r l).trans (wide_right _ _ l).symm) r k) ?_
  refine View.allAt_cons_unit _ _ _ _ _ (tile_two (e := .bf16) (fun r k => wide (normRow (fun d => x0 (ix2 r d)) (fun f => x1 (ix2 r f)) (fun f => x2 (ix2 r f)) (fun f d => x3 (ix2 f d)) (fun a d => x4 (ix3 0 a d)) (fun d => x5 (ix2 0 d))) (gateRow (fun d => x0 (ix2 r d)) (fun f => x1 (ix2 r f)) (fun f => x2 (ix2 r f)) (fun f d => x3 (ix2 f d)) (fun a d => x4 (ix3 0 a d)) (fun d => x5 (ix2 0 d)) (fun d e => x6 (ix2 d e)) (fun d e => x7 (ix2 d e))) k) 512 0 (by omega) (by omega) _ (fun r l => (h_apply c arg1 harg1 arg2 harg2 arg3 harg3 arg4 harg4 arg5 harg5 arg6 harg6 x0 x1 x2 x3 x4 x5 512 (by omega) _ _ r l).trans (wide_left _ _ l).symm) r k) ?_
  refine View.allAt_cons_unit _ _ _ _ _ (tile_two (e := .bf16) (fun r k => wide (normRow (fun d => x0 (ix2 r d)) (fun f => x1 (ix2 r f)) (fun f => x2 (ix2 r f)) (fun f d => x3 (ix2 f d)) (fun a d => x4 (ix3 0 a d)) (fun d => x5 (ix2 0 d))) (gateRow (fun d => x0 (ix2 r d)) (fun f => x1 (ix2 r f)) (fun f => x2 (ix2 r f)) (fun f d => x3 (ix2 f d)) (fun a d => x4 (ix3 0 a d)) (fun d => x5 (ix2 0 d)) (fun d e => x6 (ix2 d e)) (fun d e => x7 (ix2 d e))) k) 256 1024 (by omega) (by omega) _ (fun r l => (beside_apply c arg1 harg1 arg2 harg2 arg3 harg3 arg4 harg4 arg5 harg5 arg6 harg6 arg7 harg7 arg8 harg8 x0 x1 x2 x3 x4 x5 x6 x7 hg hs hc hu hv 256 (by omega) _ _ r l).trans (wide_right _ _ l).symm) r k) ?_
  refine View.allAt_cons_unit _ _ _ _ _ (tile_two (e := .bf16) (fun r k => wide (normRow (fun d => x0 (ix2 r d)) (fun f => x1 (ix2 r f)) (fun f => x2 (ix2 r f)) (fun f d => x3 (ix2 f d)) (fun a d => x4 (ix3 0 a d)) (fun d => x5 (ix2 0 d))) (gateRow (fun d => x0 (ix2 r d)) (fun f => x1 (ix2 r f)) (fun f => x2 (ix2 r f)) (fun f d => x3 (ix2 f d)) (fun a d => x4 (ix3 0 a d)) (fun d => x5 (ix2 0 d)) (fun d e => x6 (ix2 d e)) (fun d e => x7 (ix2 d e))) k) 256 0 (by omega) (by omega) _ (fun r l => (h_apply c arg1 harg1 arg2 harg2 arg3 harg3 arg4 harg4 arg5 harg5 arg6 harg6 x0 x1 x2 x3 x4 x5 256 (by omega) _ _ r l).trans (wide_left _ _ l).symm) r k) ?_
  refine View.allAt_cons_unit _ _ _ _ _ (tile_two (e := .bf16) (fun r k => wide (normRow (fun d => x0 (ix2 r d)) (fun f => x1 (ix2 r f)) (fun f => x2 (ix2 r f)) (fun f d => x3 (ix2 f d)) (fun a d => x4 (ix3 0 a d)) (fun d => x5 (ix2 0 d))) (gateRow (fun d => x0 (ix2 r d)) (fun f => x1 (ix2 r f)) (fun f => x2 (ix2 r f)) (fun f d => x3 (ix2 f d)) (fun a d => x4 (ix3 0 a d)) (fun d => x5 (ix2 0 d)) (fun d e => x6 (ix2 d e)) (fun d e => x7 (ix2 d e))) k) 0 1024 (by omega) (by omega) _ (fun r l => (beside_apply c arg1 harg1 arg2 harg2 arg3 harg3 arg4 harg4 arg5 harg5 arg6 harg6 arg7 harg7 arg8 harg8 x0 x1 x2 x3 x4 x5 x6 x7 hg hs hc hu hv 0 (by omega) _ _ r l).trans (wide_right _ _ l).symm) r k) ?_
  refine View.allAt_cons_unit _ _ _ _ _ (tile_two (e := .bf16) (fun r k => wide (normRow (fun d => x0 (ix2 r d)) (fun f => x1 (ix2 r f)) (fun f => x2 (ix2 r f)) (fun f d => x3 (ix2 f d)) (fun a d => x4 (ix3 0 a d)) (fun d => x5 (ix2 0 d))) (gateRow (fun d => x0 (ix2 r d)) (fun f => x1 (ix2 r f)) (fun f => x2 (ix2 r f)) (fun f d => x3 (ix2 f d)) (fun a d => x4 (ix3 0 a d)) (fun d => x5 (ix2 0 d)) (fun d e => x6 (ix2 d e)) (fun d e => x7 (ix2 d e))) k) 0 0 (by omega) (by omega) _ (fun r l => (h_apply c arg1 harg1 arg2 harg2 arg3 harg3 arg4 harg4 arg5 harg5 arg6 harg6 x0 x1 x2 x3 x4 x5 0 (by omega) _ _ r l).trans (wide_left _ _ l).symm) r k) ?_
  exact View.allAt_nil _ _

theorem out10_apply (hg : ∀ d, IsReal (x5 (ix2 0 d))) (hs : ∀ d, IsReal (x4 (ix3 0 3 d))) (hc : ∀ d, IsReal (x4 (ix3 0 4 d)))
    (hu : ∀ d (e : Fin 16), IsReal (x6 (ix2 d ⟨e.val, by omega⟩))) (hv : ∀ d (e : Fin 16), IsReal (x7 (ix2 d ⟨e.val, by omega⟩))) (q : Fin 4) (e : Fin 16) (n : Fin 256) : out0_A_10 (F := Ideal) c i arg1 harg1 arg2 harg2 arg3 harg3 arg4 harg4 arg5 harg5 arg6 harg6 arg7 harg7 arg8 harg8 arg9 harg9 arg10 harg10 arg11 harg11 x0 x1 x2 x3 x4 x5 x6 x7 (ix3 q e n) = gateRow (fun d => x0 (ix2 ⟨q.val * 256 + n.val, by omega⟩ d)) (fun f => x1 (ix2 ⟨q.val * 256 + n.val, by omega⟩ f)) (fun f => x2 (ix2 ⟨q.val * 256 + n.val, by omega⟩ f)) (fun f d => x3 (ix2 f d)) (fun a d => x4 (ix3 0 a d)) (fun d => x5 (ix2 0 d)) (fun d e => x6 (ix2 d e)) (fun d e => x7 (ix2 d e)) e := by
  unfold out0_A_10
  rw [View.read_writes_junk_eq_canon]
  refine View.canon_eq_of_allAt _ _ _ (cover0_A_10 c i arg1 harg1 arg2 harg2 arg3 harg3 arg4 harg4 arg5 harg5 arg6 harg6 arg7 harg7 arg8 harg8 arg9 harg9 arg10 harg10 arg11 harg11 x0 x1 x2 x3 x4 x5 x6 x7 _) ?_
  rw [pieces10]
  refine View.allAt_cons_unit _ _ _ _ _ (tile_three (e := .f32) (fun (q : Fin 4) (e : Fin 16) (n : Fin 256) => gateRow (fun d => x0 (ix2 ⟨q.val * 256 + n.val, by omega⟩ d)) (fun f => x1 (ix2 ⟨q.val * 256 + n.val, by omega⟩ f)) (fun f => x2 (ix2 ⟨q.val * 256 + n.val, by omega⟩ f)) (fun f d => x3 (ix2 f d)) (fun a d => x4 (ix3 0 a d)) (fun d => x5 (ix2 0 d)) (fun d e => x6 (ix2 d e)) (fun d e => x7 (ix2 d e)) e) 3 (by omega) _ (fun e n => turned_apply c arg1 harg1 arg2 harg2 arg3 harg3 arg4 harg4 arg5 harg5 arg6 harg6 arg7 harg7 arg8 harg8 x0 x1 x2 x3 x4 x5 x6 x7 hg hs hc hu hv 768 (by omega) _ _ e n) q e n) ?_
  refine View.allAt_cons_unit _ _ _ _ _ (tile_three (e := .f32) (fun (q : Fin 4) (e : Fin 16) (n : Fin 256) => gateRow (fun d => x0 (ix2 ⟨q.val * 256 + n.val, by omega⟩ d)) (fun f => x1 (ix2 ⟨q.val * 256 + n.val, by omega⟩ f)) (fun f => x2 (ix2 ⟨q.val * 256 + n.val, by omega⟩ f)) (fun f d => x3 (ix2 f d)) (fun a d => x4 (ix3 0 a d)) (fun d => x5 (ix2 0 d)) (fun d e => x6 (ix2 d e)) (fun d e => x7 (ix2 d e)) e) 2 (by omega) _ (fun e n => turned_apply c arg1 harg1 arg2 harg2 arg3 harg3 arg4 harg4 arg5 harg5 arg6 harg6 arg7 harg7 arg8 harg8 x0 x1 x2 x3 x4 x5 x6 x7 hg hs hc hu hv 512 (by omega) _ _ e n) q e n) ?_
  refine View.allAt_cons_unit _ _ _ _ _ (tile_three (e := .f32) (fun (q : Fin 4) (e : Fin 16) (n : Fin 256) => gateRow (fun d => x0 (ix2 ⟨q.val * 256 + n.val, by omega⟩ d)) (fun f => x1 (ix2 ⟨q.val * 256 + n.val, by omega⟩ f)) (fun f => x2 (ix2 ⟨q.val * 256 + n.val, by omega⟩ f)) (fun f d => x3 (ix2 f d)) (fun a d => x4 (ix3 0 a d)) (fun d => x5 (ix2 0 d)) (fun d e => x6 (ix2 d e)) (fun d e => x7 (ix2 d e)) e) 1 (by omega) _ (fun e n => turned_apply c arg1 harg1 arg2 harg2 arg3 harg3 arg4 harg4 arg5 harg5 arg6 harg6 arg7 harg7 arg8 harg8 x0 x1 x2 x3 x4 x5 x6 x7 hg hs hc hu hv 256 (by omega) _ _ e n) q e n) ?_
  refine View.allAt_cons_unit _ _ _ _ _ (tile_three (e := .f32) (fun (q : Fin 4) (e : Fin 16) (n : Fin 256) => gateRow (fun d => x0 (ix2 ⟨q.val * 256 + n.val, by omega⟩ d)) (fun f => x1 (ix2 ⟨q.val * 256 + n.val, by omega⟩ f)) (fun f => x2 (ix2 ⟨q.val * 256 + n.val, by omega⟩ f)) (fun f d => x3 (ix2 f d)) (fun a d => x4 (ix3 0 a d)) (fun d => x5 (ix2 0 d)) (fun d e => x6 (ix2 d e)) (fun d e => x7 (ix2 d e)) e) 0 (by omega) _ (fun e n => turned_apply c arg1 harg1 arg2 harg2 arg3 harg3 arg4 harg4 arg5 harg5 arg6 harg6 arg7 harg7 arg8 harg8 x0 x1 x2 x3 x4 x5 x6 x7 hg hs hc hu hv 0 (by omega) _ _ e n) q e n) ?_
  exact View.allAt_nil _ _

end Cert.Post
-- ==== Proof.Post.Array.lean ====
module

public import proofs.«01_k».proof.Proof.Post.Block
public import proofs.«01_k».proof.Proof.Gen.Kernel4Ideal.Value
public import Idealize.ShloMosaic.Lib.Pipeline.ValueKit.Geometry

/-! The call's output arrays at an index: grid point `t` computes 1024 tokens. -/

@[expose] public section
noncomputable section
namespace Cert.Post
open Idealize.ShloMosaic Idealize.ShloMosaic.TcCoe Cert.Att Cert.Kernel4Ideal Cert.Kernel4Ideal.Gen

/-- The residual of every token. -/
def arrRes (X0 : FVec Ideal S4096x1024 .f32) (X1 : FVec Ideal S4096x512 .bf16) (X2 : FVec Ideal S4096x512 .bf16) (X3 : FVec Ideal S1024x1024 .bf16) (X4 : FVec Ideal S1x6x1024 .f32) : FVec Ideal S4096x1024 .f32 :=
  fun i => resRow (fun d => X0 (ix2 (i 0) d)) (fun f => X1 (ix2 (i 0) f)) (fun f => X2 (ix2 (i 0) f)) (fun f d => X3 (ix2 f d)) (fun a d => X4 (ix3 0 a d)) (i 1)

/-- Every token's norm with its gates beside it. -/
def arrWide (X0 : FVec Ideal S4096x1024 .f32) (X1 : FVec Ideal S4096x512 .bf16) (X2 : FVec Ideal S4096x512 .bf16) (X3 : FVec Ideal S1024x1024 .bf16) (X4 : FVec Ideal S1x6x1024 .f32) (X5 : FVec Ideal S1x1024 .f32) (X6 : FVec Ideal S1024x128 .bf16) (X7 : FVec Ideal S1024x128 .bf16) : FVec Ideal S4096x1152 .bf16 :=
  fun i => wide (normRow (fun d => X0 (ix2 (i 0) d)) (fun f => X1 (ix2 (i 0) f)) (fun f => X2 (ix2 (i 0) f)) (fun f d => X3 (ix2 f d)) (fun a d => X4 (ix3 0 a d)) (fun d => X5 (ix2 0 d))) (gateRow (fun d => X0 (ix2 (i 0) d)) (fun f => X1 (ix2 (i 0) f)) (fun f => X2 (ix2 (i 0) f)) (fun f d => X3 (ix2 f d)) (fun a d => X4 (ix3 0 a d)) (fun d => X5 (ix2 0 d)) (fun d e => X6 (ix2 d e)) (fun d e => X7 (ix2 d e))) (i 1)

/-- A token by its batch and its place in it. -/
def token (b : Fin 16) (n : Fin 256) : Fin 4096 := ⟨b.val * 256 + n.val, by omega⟩

/-- Every batch's gates with experts first. -/
def arrTurn (X0 : FVec Ideal S4096x1024 .f32) (X1 : FVec Ideal S4096x512 .bf16) (X2 : FVec Ideal S4096x512 .bf16) (X3 : FVec Ideal S1024x1024 .bf16) (X4 : FVec Ideal S1x6x1024 .f32) (X5 : FVec Ideal S1x1024 .f32) (X6 : FVec Ideal S1024x128 .bf16) (X7 : FVec Ideal S1024x128 .bf16) : FVec Ideal S16x16x256 .f32 :=
  fun i => gateRow (fun d => X0 (ix2 (token (i 0) (i 2)) d)) (fun f => X1 (ix2 (token (i 0) (i 2)) f)) (fun f => X2 (ix2 (token (i 0) (i 2)) f)) (fun f d => X3 (ix2 f d)) (fun a d => X4 (ix3 0 a d)) (fun d => X5 (ix2 0 d)) (fun d e => X6 (ix2 d e)) (fun d e => X7 (ix2 d e)) (i 1)

theorem resRow_congr (x0 : Vec Ideal S1024x1024 .f32) (x1 : Vec Ideal S1024x512 .bf16) (x2 : Vec Ideal S1024x512 .bf16) (x3 : Vec Ideal S1024x1024 .bf16) (x4 : Vec Ideal S1x6x1024 .f32) (X0 : FVec Ideal S4096x1024 .f32) (X1 : FVec Ideal S4096x512 .bf16) (X2 : FVec Ideal S4096x512 .bf16) (X3 : FVec Ideal S1024x1024 .bf16) (X4 : FVec Ideal S1x6x1024 .f32) (r : Fin 1024) (R : Fin 4096) (h0 : ∀ d, x0 (ix2 r d) = X0 (ix2 R d)) (h1 : ∀ d, x1 (ix2 r d) = X1 (ix2 R d)) (h2 : ∀ d, x2 (ix2 r d) = X2 (ix2 R d)) (h3 : x3 = X3) (h4 : x4 = X4) :
    resRow (fun d => x0 (ix2 r d)) (fun f => x1 (ix2 r f)) (fun f => x2 (ix2 r f)) (fun f d => x3 (ix2 f d)) (fun a d => x4 (ix3 0 a d)) = resRow (fun d => X0 (ix2 R d)) (fun f => X1 (ix2 R f)) (fun f => X2 (ix2 R f)) (fun f d => X3 (ix2 f d)) (fun a d => X4 (ix3 0 a d)) := by
  subst h3 h4
  rw [show (fun d => x0 (ix2 r d)) = fun d => X0 (ix2 R d) from funext h0, show (fun d => x1 (ix2 r d)) = fun d => X1 (ix2 R d) from funext h1, show (fun d => x2 (ix2 r d)) = fun d => X2 (ix2 R d) from funext h2]

theorem normRow_congr (x0 : Vec Ideal S1024x1024 .f32) (x1 : Vec Ideal S1024x512 .bf16) (x2 : Vec Ideal S1024x512 .bf16) (x3 : Vec Ideal S1024x1024 .bf16) (x4 : Vec Ideal S1x6x1024 .f32) (x5 : Vec Ideal S1x1024 .f32) (X0 : FVec Ideal S4096x1024 .f32) (X1 : FVec Ideal S4096x512 .bf16) (X2 : FVec Ideal S4096x512 .bf16) (X3 : FVec Ideal S1024x1024 .bf16) (X4 : FVec Ideal S1x6x1024 .f32) (X5 : FVec Ideal S1x1024 .f32) (r : Fin 1024) (R : Fin 4096) (h0 : ∀ d, x0 (ix2 r d) = X0 (ix2 R d)) (h1 : ∀ d, x1 (ix2 r d) = X1 (ix2 R d)) (h2 : ∀ d, x2 (ix2 r d) = X2 (ix2 R d)) (h3 : x3 = X3) (h4 : x4 = X4) (h5 : x5 = X5) :
    normRow (fun d => x0 (ix2 r d)) (fun f => x1 (ix2 r f)) (fun f => x2 (ix2 r f)) (fun f d => x3 (ix2 f d)) (fun a d => x4 (ix3 0 a d)) (fun d => x5 (ix2 0 d)) = normRow (fun d => X0 (ix2 R d)) (fun f => X1 (ix2 R f)) (fun f => X2 (ix2 R f)) (fun f d => X3 (ix2 f d)) (fun a d => X4 (ix3 0 a d)) (fun d => X5 (ix2 0 d)) := by
  subst h3 h4 h5
  rw [show (fun d => x0 (ix2 r d)) = fun d => X0 (ix2 R d) from funext h0, show (fun d => x1 (ix2 r d)) = fun d => X1 (ix2 R d) from funext h1, show (fun d => x2 (ix2 r d)) = fun d => X2 (ix2 R d) from funext h2]

theorem gateRow_congr (x0 : Vec Ideal S1024x1024 .f32) (x1 : Vec Ideal S1024x512 .bf16) (x2 : Vec Ideal S1024x512 .bf16) (x3 : Vec Ideal S1024x1024 .bf16) (x4 : Vec Ideal S1x6x1024 .f32) (x5 : Vec Ideal S1x1024 .f32) (x6 : Vec Ideal S1024x128 .bf16) (x7 : Vec Ideal S1024x128 .bf16) (X0 : FVec Ideal S4096x1024 .f32) (X1 : FVec Ideal S4096x512 .bf16) (X2 : FVec Ideal S4096x512 .bf16) (X3 : FVec Ideal S1024x1024 .bf16) (X4 : FVec Ideal S1x6x1024 .f32) (X5 : FVec Ideal S1x1024 .f32) (X6 : FVec Ideal S1024x128 .bf16) (X7 : FVec Ideal S1024x128 .bf16) (r : Fin 1024) (R : Fin 4096) (h0 : ∀ d, x0 (ix2 r d) = X0 (ix2 R d)) (h1 : ∀ d, x1 (ix2 r d) = X1 (ix2 R d)) (h2 : ∀ d, x2 (ix2 r d) = X2 (ix2 R d)) (h3 : x3 = X3) (h4 : x4 = X4) (h5 : x5 = X5) (h6 : x6 = X6) (h7 : x7 = X7) :
    gateRow (fun d => x0 (ix2 r d)) (fun f => x1 (ix2 r f)) (fun f => x2 (ix2 r f)) (fun f d => x3 (ix2 f d)) (fun a d => x4 (ix3 0 a d)) (fun d => x5 (ix2 0 d)) (fun d e => x6 (ix2 d e)) (fun d e => x7 (ix2 d e)) = gateRow (fun d => X0 (ix2 R d)) (fun f => X1 (ix2 R f)) (fun f => X2 (ix2 R f)) (fun f d => X3 (ix2 f d)) (fun a d => X4 (ix3 0 a d)) (fun d => X5 (ix2 0 d)) (fun d e => X6 (ix2 d e)) (fun d e => X7 (ix2 d e)) := by
  subst h3 h4 h5 h6 h7
  rw [show (fun d => x0 (ix2 r d)) = fun d => X0 (ix2 R d) from funext h0, show (fun d => x1 (ix2 r d)) = fun d => X1 (ix2 R d) from funext h1, show (fun d => x2 (ix2 r d)) = fun d => X2 (ix2 R d) from funext h2]

variable (m : (ℓ : Loc nD τ sig) → Buf (Elt Ideal) ℓ)

theorem lt4 (t : Fin cfg0.N) : t.val < 4 := t.isLt

theorem idx0 : ∀ t : Fin cfg0.N, win0_0.index t = ![(t.val : Nat), 0] := (by decide +kernel : ∀ t : Fin grid0.N, _)

theorem idx1 : ∀ t : Fin cfg0.N, win0_1.index t = ![(t.val : Nat), 0] := (by decide +kernel : ∀ t : Fin grid0.N, _)

theorem idx2 : ∀ t : Fin cfg0.N, win0_2.index t = ![(t.val : Nat), 0] := (by decide +kernel : ∀ t : Fin grid0.N, _)

theorem idx3 : ∀ t : Fin cfg0.N, win0_3.index t = ![0, 0] := (by decide +kernel : ∀ t : Fin grid0.N, _)

theorem idx4 : ∀ t : Fin cfg0.N, win0_4.index t = ![0, 0, 0] := (by decide +kernel : ∀ t : Fin grid0.N, _)

theorem idx5 : ∀ t : Fin cfg0.N, win0_5.index t = ![0, 0] := (by decide +kernel : ∀ t : Fin grid0.N, _)

theorem idx6 : ∀ t : Fin cfg0.N, win0_6.index t = ![0, 0] := (by decide +kernel : ∀ t : Fin grid0.N, _)

theorem idx7 : ∀ t : Fin cfg0.N, win0_7.index t = ![0, 0] := (by decide +kernel : ∀ t : Fin grid0.N, _)

theorem idx8 : ∀ t : Fin cfg0.N, win0_8.index t = ![(t.val : Nat), 0] := (by decide +kernel : ∀ t : Fin grid0.N, _)

theorem idx9 : ∀ t : Fin cfg0.N, win0_9.index t = ![(t.val : Nat), 0] := (by decide +kernel : ∀ t : Fin grid0.N, _)

theorem idx10 : ∀ t : Fin cfg0.N, win0_10.index t = ![(t.val : Nat), 0, 0] := (by decide +kernel : ∀ t : Fin grid0.N, _)

/-- The token of a grid point's row. -/
def place (t : Fin cfg0.N) (r : Fin 1024) : Fin 4096 := ⟨t.val * 1024 + r.val, by have := lt4 t; omega⟩

theorem blk0 (c : Dev nD) (t : Fin cfg0.N) (r : Fin 1024) (d : Fin 1024) :
    (iblk m c 0 t : Vec Ideal S1024x1024 .f32) (ix2 r d) = m ((c : Thread nD τ).loc main_arg0) (ix2 (place t r) d) := by
  have e := idx0 t
  unfold place
  blk_simp [iblk]
  rw [V_main_arg0 m c]
  refine congrArg _ ?_
  blk_ext [e]

theorem blk1 (c : Dev nD) (t : Fin cfg0.N) (r : Fin 1024) (d : Fin 512) :
    (iblk m c 1 t : Vec Ideal S1024x512 .bf16) (ix2 r d) = m ((c : Thread nD τ).loc main_arg1) (ix2 (place t r) d) := by
  have e := idx1 t
  unfold place
  blk_simp [iblk]
  rw [V_main_arg1 m c]
  refine congrArg _ ?_
  blk_ext [e]

theorem blk2 (c : Dev nD) (t : Fin cfg0.N) (r : Fin 1024) (d : Fin 512) :
    (iblk m c 2 t : Vec Ideal S1024x512 .bf16) (ix2 r d) = m ((c : Thread nD τ).loc main_arg2) (ix2 (place t r) d) := by
  have e := idx2 t
  unfold place
  blk_simp [iblk]
  rw [V_main_arg2 m c]
  refine congrArg _ ?_
  blk_ext [e]

theorem blk3 (c : Dev nD) (t : Fin cfg0.N) : (iblk m c 3 t : Vec Ideal S1024x1024 .bf16) = m ((c : Thread nD τ).loc main_arg3) := by
  have e := idx3 t
  funext y
  blk_simp [iblk]
  rw [V_main_arg3 m c]
  refine congrArg _ ?_
  blk_ext [e]

theorem blk4 (c : Dev nD) (t : Fin cfg0.N) : (iblk m c 4 t : Vec Ideal S1x6x1024 .f32) = m ((c : Thread nD τ).loc main_arg4) := by
  have e := idx4 t
  funext y
  blk_simp [iblk]
  rw [V_main_arg4 m c]
  refine congrArg _ ?_
  blk_ext [e]

theorem blk5 (c : Dev nD) (t : Fin cfg0.N) : (iblk m c 5 t : Vec Ideal S1x1024 .f32) = m ((c : Thread nD τ).loc main_arg5) := by
  have e := idx5 t
  funext y
  blk_simp [iblk]
  rw [V_main_arg5 m c]
  refine congrArg _ ?_
  blk_ext [e]

theorem blk6 (c : Dev nD) (t : Fin cfg0.N) : (iblk m c 6 t : Vec Ideal S1024x128 .bf16) = m ((c : Thread nD τ).loc main_arg6) := by
  have e := idx6 t
  funext y
  blk_simp [iblk]
  rw [V_main_arg6 m c]
  refine congrArg _ ?_
  blk_ext [e]

theorem blk7 (c : Dev nD) (t : Fin cfg0.N) : (iblk m c 7 t : Vec Ideal S1024x128 .bf16) = m ((c : Thread nD τ).loc main_arg7) := by
  have e := idx7 t
  funext y
  blk_simp [iblk]
  rw [V_main_arg7 m c]
  refine congrArg _ ?_
  blk_ext [e]

theorem outs8 (c : Dev nD) (t : Fin cfg0.N) : (outsAt0 m c t).1 = out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
    (iblk m c 0 t) (iblk m c 1 t) (iblk m c 2 t) (iblk m c 3 t) (iblk m c 4 t) (iblk m c 5 t) (iblk m c 6 t) (iblk m c 7 t) := by
  simp only [outsAt0]

theorem block8 (c : Dev nD) (t : Fin cfg0.N) (r d : Fin 1024) : (outsAt0 m c t).1 (ix2 r d) = arrRes (m ((c : Thread nD τ).loc main_arg0)) (m ((c : Thread nD τ).loc main_arg1)) (m ((c : Thread nD τ).loc main_arg2)) (m ((c : Thread nD τ).loc main_arg3)) (m ((c : Thread nD τ).loc main_arg4)) (ix2 (place t r) d) := by
  rw [outs8]
  refine (out8_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
    (iblk m c 0 t) (iblk m c 1 t) (iblk m c 2 t) (iblk m c 3 t) (iblk m c 4 t) (iblk m c 5 t) (iblk m c 6 t) (iblk m c 7 t) r d).trans ?_
  exact congrFun (resRow_congr (iblk m c 0 t) (iblk m c 1 t) (iblk m c 2 t) (iblk m c 3 t) (iblk m c 4 t) (m ((c : Thread nD τ).loc main_arg0)) (m ((c : Thread nD τ).loc main_arg1)) (m ((c : Thread nD τ).loc main_arg2)) (m ((c : Thread nD τ).loc main_arg3)) (m ((c : Thread nD τ).loc main_arg4)) r (place t r) (blk0 m c t r) (blk1 m c t r) (blk2 m c t r) (blk3 m c t) (blk4 m c t)) d

theorem final8 (c : Dev nD)  : (dats m 0 c).arrAt 8 cfg0.N =
    arrRes (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf y => ?_
  have e := idx8 t
  blk_simp
  rw [after0_8]
  have hy : y = (ix2 (y 0 : Fin 1024) (y 1 : Fin 1024) : S1024x1024.Idx) := by
    refine funext fun a => ?_
    match a with
    | ⟨0, _⟩ => rfl
    | ⟨1, _⟩ => rfl
  have he : (win0_8.blk t).view.emb y = (ix2 (place t (y 0 : Fin 1024)) (y 1 : Fin 1024) : S4096x1024.Idx) := by
    unfold place
    blk_ext [e]
  exact (congrArg (outsAt0 m c t).1 hy).trans ((block8 m c t (y 0) (y 1)).trans (congrArg (arrRes (m ((c : Thread nD τ).loc main_arg0)) (m ((c : Thread nD τ).loc main_arg1)) (m ((c : Thread nD τ).loc main_arg2)) (m ((c : Thread nD τ).loc main_arg3)) (m ((c : Thread nD τ).loc main_arg4))) he.symm))

theorem outs9 (c : Dev nD) (t : Fin cfg0.N) : (outsAt0 m c t).2.1 = out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
    (iblk m c 0 t) (iblk m c 1 t) (iblk m c 2 t) (iblk m c 3 t) (iblk m c 4 t) (iblk m c 5 t) (iblk m c 6 t) (iblk m c 7 t) := by
  simp only [outsAt0]

theorem block9 (c : Dev nD) (t : Fin cfg0.N) (hg : ∀ d, IsReal ((m ((c : Thread nD τ).loc main_arg5) : FVec Ideal S1x1024 .f32) (ix2 0 d))) (hs : ∀ d, IsReal ((m ((c : Thread nD τ).loc main_arg4) : FVec Ideal S1x6x1024 .f32) (ix3 0 3 d))) (hc : ∀ d, IsReal ((m ((c : Thread nD τ).loc main_arg4) : FVec Ideal S1x6x1024 .f32) (ix3 0 4 d)))
    (hu : ∀ d (e : Fin 16), IsReal ((m ((c : Thread nD τ).loc main_arg6) : FVec Ideal S1024x128 .bf16) (ix2 d ⟨e.val, by omega⟩))) (hv : ∀ d (e : Fin 16), IsReal ((m ((c : Thread nD τ).loc main_arg7) : FVec Ideal S1024x128 .bf16) (ix2 d ⟨e.val, by omega⟩))) (r : Fin 1024) (k : Fin 1152) : (outsAt0 m c t).2.1 (ix2 r k) = arrWide (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 (place t r) k) := by
  rw [outs9]
  refine (out9_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
    (iblk m c 0 t) (iblk m c 1 t) (iblk m c 2 t) (iblk m c 3 t) (iblk m c 4 t) (iblk m c 5 t) (iblk m c 6 t) (iblk m c 7 t) (fun d => Eq.mpr (congrArg IsReal (congrFun (blk5 m c t) (ix2 0 d))) (hg d)) (fun d => Eq.mpr (congrArg IsReal (congrFun (blk4 m c t) (ix3 0 3 d))) (hs d)) (fun d => Eq.mpr (congrArg IsReal (congrFun (blk4 m c t) (ix3 0 4 d))) (hc d))
    (fun d e => Eq.mpr (congrArg IsReal (congrFun (blk6 m c t) (ix2 d ⟨e.val, by omega⟩))) (hu d e)) (fun d e => Eq.mpr (congrArg IsReal (congrFun (blk7 m c t) (ix2 d ⟨e.val, by omega⟩))) (hv d e)) r k).trans ?_
  exact congrArg₂ (fun h g => wide h g k) (normRow_congr (iblk m c 0 t) (iblk m c 1 t) (iblk m c 2 t) (iblk m c 3 t) (iblk m c 4 t) (iblk m c 5 t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) r (place t r) (blk0 m c t r) (blk1 m c t r) (blk2 m c t r) (blk3 m c t) (blk4 m c t) (blk5 m c t)) (gateRow_congr (iblk m c 0 t) (iblk m c 1 t) (iblk m c 2 t) (iblk m c 3 t) (iblk m c 4 t) (iblk m c 5 t) (iblk m c 6 t) (iblk m c 7 t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) r (place t r) (blk0 m c t r) (blk1 m c t r) (blk2 m c t r) (blk3 m c t) (blk4 m c t) (blk5 m c t) (blk6 m c t) (blk7 m c t))

theorem final9 (c : Dev nD) (hg : ∀ d, IsReal ((m ((c : Thread nD τ).loc main_arg5) : FVec Ideal S1x1024 .f32) (ix2 0 d))) (hs : ∀ d, IsReal ((m ((c : Thread nD τ).loc main_arg4) : FVec Ideal S1x6x1024 .f32) (ix3 0 3 d))) (hc : ∀ d, IsReal ((m ((c : Thread nD τ).loc main_arg4) : FVec Ideal S1x6x1024 .f32) (ix3 0 4 d)))
    (hu : ∀ d (e : Fin 16), IsReal ((m ((c : Thread nD τ).loc main_arg6) : FVec Ideal S1024x128 .bf16) (ix2 d ⟨e.val, by omega⟩))) (hv : ∀ d (e : Fin 16), IsReal ((m ((c : Thread nD τ).loc main_arg7) : FVec Ideal S1024x128 .bf16) (ix2 d ⟨e.val, by omega⟩))) : (dats m 0 c).arrAt 9 cfg0.N =
    arrWide (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 9 _ (by decide +kernel) fun t hf y => ?_
  have e := idx9 t
  blk_simp
  rw [after0_9]
  have hy : y = (ix2 (y 0 : Fin 1024) (y 1 : Fin 1152) : S1024x1152.Idx) := by
    refine funext fun a => ?_
    match a with
    | ⟨0, _⟩ => rfl
    | ⟨1, _⟩ => rfl
  have he : (win0_9.blk t).view.emb y = (ix2 (place t (y 0 : Fin 1024)) (y 1 : Fin 1152) : S4096x1152.Idx) := by
    unfold place
    blk_ext [e]
  exact (congrArg (outsAt0 m c t).2.1 hy).trans ((block9 m c t hg hs hc hu hv (y 0) (y 1)).trans (congrArg (arrWide (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) he.symm))

theorem outs10 (c : Dev nD) (t : Fin cfg0.N) : (outsAt0 m c t).2.2 = out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
    (iblk m c 0 t) (iblk m c 1 t) (iblk m c 2 t) (iblk m c 3 t) (iblk m c 4 t) (iblk m c 5 t) (iblk m c 6 t) (iblk m c 7 t) := by
  simp only [outsAt0]

theorem block10 (c : Dev nD) (t : Fin cfg0.N) (hg : ∀ d, IsReal ((m ((c : Thread nD τ).loc main_arg5) : FVec Ideal S1x1024 .f32) (ix2 0 d))) (hs : ∀ d, IsReal ((m ((c : Thread nD τ).loc main_arg4) : FVec Ideal S1x6x1024 .f32) (ix3 0 3 d))) (hc : ∀ d, IsReal ((m ((c : Thread nD τ).loc main_arg4) : FVec Ideal S1x6x1024 .f32) (ix3 0 4 d)))
    (hu : ∀ d (e : Fin 16), IsReal ((m ((c : Thread nD τ).loc main_arg6) : FVec Ideal S1024x128 .bf16) (ix2 d ⟨e.val, by omega⟩))) (hv : ∀ d (e : Fin 16), IsReal ((m ((c : Thread nD τ).loc main_arg7) : FVec Ideal S1024x128 .bf16) (ix2 d ⟨e.val, by omega⟩))) (q : Fin 4) (e : Fin 16) (n : Fin 256) :
    (outsAt0 m c t).2.2 (ix3 q e n) = arrTurn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix3 (⟨t.val * 4 + q.val, by have := lt4 t; omega⟩ : Fin 16) e n) := by
  rw [outs10]
  refine (out10_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
    (iblk m c 0 t) (iblk m c 1 t) (iblk m c 2 t) (iblk m c 3 t) (iblk m c 4 t) (iblk m c 5 t) (iblk m c 6 t) (iblk m c 7 t) (fun d => Eq.mpr (congrArg IsReal (congrFun (blk5 m c t) (ix2 0 d))) (hg d)) (fun d => Eq.mpr (congrArg IsReal (congrFun (blk4 m c t) (ix3 0 3 d))) (hs d)) (fun d => Eq.mpr (congrArg IsReal (congrFun (blk4 m c t) (ix3 0 4 d))) (hc d))
    (fun d e => Eq.mpr (congrArg IsReal (congrFun (blk6 m c t) (ix2 d ⟨e.val, by omega⟩))) (hu d e)) (fun d e => Eq.mpr (congrArg IsReal (congrFun (blk7 m c t) (ix2 d ⟨e.val, by omega⟩))) (hv d e)) q e n).trans ?_
  have hp : place t ⟨q.val * 256 + n.val, by omega⟩ = token ⟨t.val * 4 + q.val, by have := lt4 t; omega⟩ n :=
    Fin.ext (by show t.val * 1024 + (q.val * 256 + n.val) = (t.val * 4 + q.val) * 256 + n.val; omega)
  refine (congrFun (gateRow_congr (iblk m c 0 t) (iblk m c 1 t) (iblk m c 2 t) (iblk m c 3 t) (iblk m c 4 t) (iblk m c 5 t) (iblk m c 6 t) (iblk m c 7 t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) ⟨q.val * 256 + n.val, by omega⟩ (place t ⟨q.val * 256 + n.val, by omega⟩) (blk0 m c t ⟨q.val * 256 + n.val, by omega⟩) (blk1 m c t ⟨q.val * 256 + n.val, by omega⟩) (blk2 m c t ⟨q.val * 256 + n.val, by omega⟩) (blk3 m c t) (blk4 m c t) (blk5 m c t) (blk6 m c t) (blk7 m c t)) e).trans ?_
  rw [hp]
  rfl

theorem final10 (c : Dev nD) (hg : ∀ d, IsReal ((m ((c : Thread nD τ).loc main_arg5) : FVec Ideal S1x1024 .f32) (ix2 0 d))) (hs : ∀ d, IsReal ((m ((c : Thread nD τ).loc main_arg4) : FVec Ideal S1x6x1024 .f32) (ix3 0 3 d))) (hc : ∀ d, IsReal ((m ((c : Thread nD τ).loc main_arg4) : FVec Ideal S1x6x1024 .f32) (ix3 0 4 d)))
    (hu : ∀ d (e : Fin 16), IsReal ((m ((c : Thread nD τ).loc main_arg6) : FVec Ideal S1024x128 .bf16) (ix2 d ⟨e.val, by omega⟩))) (hv : ∀ d (e : Fin 16), IsReal ((m ((c : Thread nD τ).loc main_arg7) : FVec Ideal S1024x128 .bf16) (ix2 d ⟨e.val, by omega⟩))) : (dats m 0 c).arrAt 10 cfg0.N =
    arrTurn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 10 _ (by decide +kernel) fun t hf y => ?_
  have e := idx10 t
  blk_simp
  rw [after0_10]
  have hy : y = (ix3 (y 0 : Fin 4) (y 1 : Fin 16) (y 2 : Fin 256) : S4x16x256.Idx) := by
    refine funext fun a => ?_
    match a with
    | ⟨0, _⟩ => rfl
    | ⟨1, _⟩ => rfl
    | ⟨2, _⟩ => rfl
  have h4 : (y 0 : Nat) < 4 := (y 0).isLt
  have he : (win0_10.blk t).view.emb y = (ix3 (⟨t.val * 4 + (y 0 : Nat), by have := lt4 t; omega⟩ : Fin 16) (y 1 : Fin 16) (y 2 : Fin 256) : S16x16x256.Idx) := by
    blk_ext [e]
  exact (congrArg (outsAt0 m c t).2.2 hy).trans ((block10 m c t hg hs hc hu hv (y 0) (y 1) (y 2)).trans (congrArg (arrTurn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) he.symm))

end Cert.Post
-- ==== Proof.Post.Ref.lean ====
module

public import proofs.«01_k».proof.Proof.Gen.Reference4Ideal.Run
public import proofs.«01_k».proof.Proof.Post.Spec
public import Idealize.ShloMosaic.Lib.Pointwise

/-! The reference of the call after attention, read at an index in stages. -/

@[expose] public section
noncomputable section
namespace Cert.Post
open Idealize.ShloMosaic Cert.Att Cert.Front Cert.Reference4Ideal Cert.Reference4Ideal.Gen Cert.Reference4Ideal.Value

/-- The residual. -/
def refRes (X0 : FVec Ideal S4096x1024 .f32) (X1 X2 : FVec Ideal S4096x512 .bf16) (X3 : FVec Ideal S1024x1024 .bf16) (X4 : FVec Ideal S1x6x1024 .f32) : FVec Ideal S4096x1024 .f32 :=
  addf X0 (mulf (broadcastInDim S4096x1024 ![0, 1] bcast_S1x1024_S4096x1024_0_1 (broadcastInDim S1x1024 ![1] bcast_S1024_S1x1024_1 (shapeCast _ (extractStridedSlice S1x1x1024 ![0, 2, 0] X4 slices_S1x6x1024_S1x1x1024_0_2_0) shapeCasts_S1x1x1024_S1024))) (Host.dotGeneral dot_S4096x1024_S1024x1024_S4096x1024_1_0_0_1_n_n none (extf .f32 (concatenate S4096x1024 1 [⟨S4096x512, X1⟩, ⟨S4096x512, X2⟩] concatenates_S4096x512_S4096x512_S4096x1024_d1) bitsLt_bf16_f32) (extf .f32 X3 bitsLt_bf16_f32)))

/-- The modulated norm. -/
def refNorm (Y : FVec Ideal S4096x1024 .f32) (X4 : FVec Ideal S1x6x1024 .f32) (X5 : FVec Ideal S1x1024 .f32) : FVec Ideal S4096x1024 .f32 :=
  addf (mulf (mulf (mulf Y (broadcastInDim S4096x1024 ![0, 1] bcast_S4096x1_S4096x1024_0_1 (Host.rsqrt (addf (Host.divf (broadcastInDim S4096x1 ![0] bcast_S4096_S4096x1_0 (Host.reduceAdd (mulf Y Y) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 (shapeCast _ X5 shapeCasts_S1x1024_S1024)))) (broadcastInDim S4096x1024 ![0, 1] bcast_S1x1024_S4096x1024_0_1 (broadcastInDim S1x1024 ![1] bcast_S1024_S1x1024_1 (addf (broadcastInDim S1024 ![] bcast_S_S1024 (constant S_ .f32 0x3F800000#32)) (shapeCast _ (extractStridedSlice S1x1x1024 ![0, 4, 0] X4 slices_S1x6x1024_S1x1x1024_0_4_0) shapeCasts_S1x1x1024_S1024))))) (broadcastInDim S4096x1024 ![0, 1] bcast_S1x1024_S4096x1024_0_1 (broadcastInDim S1x1024 ![1] bcast_S1024_S1x1024_1 (shapeCast _ (extractStridedSlice S1x1x1024 ![0, 3, 0] X4 slices_S1x6x1024_S1x1x1024_0_3_0) shapeCasts_S1x1x1024_S1024)))

/-- The router's logits. -/
def refLogit (H : FVec Ideal S4096x1024 .f32) (X6 X7 : FVec Ideal S1024x128 .bf16) : FVec Ideal S4096x16 .f32 :=
  Host.dotGeneral dot_S4096x1024_S1024x16_S4096x16_1_0_0_1_n_n none H (addf (extf .f32 (extractStridedSlice S1024x16 ![0, 0] X6 slices_S1024x128_S1024x16_0_0) bitsLt_bf16_f32) (extf .f32 (extractStridedSlice S1024x16 ![0, 0] X7 slices_S1024x128_S1024x16_0_0) bitsLt_bf16_f32))

/-- The softmax. -/
def refGate (L : FVec Ideal S4096x16 .f32) : FVec Ideal S4096x16 .f32 :=
  Host.divf (Host.exp (subf L (broadcastInDim S4096x16 ![0, 1] bcast_S4096x1_S4096x16_0_1 (broadcastInDim S4096x1 ![0] bcast_S4096_S4096x1_0 (maximumf (broadcastInDim S4096 ![] bcast_S_S4096 (constant S_ .f32 0xFF800000#32)) (Host.reduce FloatOps.maximumf L (constant S_ .f32 0xFF800000#32) reducesTo_S4096x16_S4096_d1 h_S_)))))) (broadcastInDim S4096x16 ![0, 1] bcast_S4096x1_S4096x16_0_1 (broadcastInDim S4096x1 ![0] bcast_S4096_S4096x1_0 (Host.reduceAdd (Host.exp (subf L (broadcastInDim S4096x16 ![0, 1] bcast_S4096x1_S4096x16_0_1 (broadcastInDim S4096x1 ![0] bcast_S4096_S4096x1_0 (maximumf (broadcastInDim S4096 ![] bcast_S_S4096 (constant S_ .f32 0xFF800000#32)) (Host.reduce FloatOps.maximumf L (constant S_ .f32 0xFF800000#32) reducesTo_S4096x16_S4096_d1 h_S_)))))) (constant S_ .f32 0x00000000#32) reducesTo_S4096x16_S4096_d1 h_S_)))

/-- The norm, the gates beside it and zeros. -/
def refRow (H : FVec Ideal S4096x1024 .f32) (A : FVec Ideal S4096x16 .f32) : FVec Ideal S4096x1152 .bf16 :=
  truncf .bf16 (concatenate S4096x1152 1 [⟨S4096x1024, (H)⟩, ⟨S4096x16, (A)⟩, ⟨S4096x112, ((broadcastInDim S4096x112 ![] bcast_S_S4096x112 (constant S_ .f32 0x00000000#32)))⟩] concatenates_S4096x1024_S4096x16_S4096x112_S4096x1152_d1) bitsLt_bf16_f32

/-- The gates with experts first. -/
def refTurn (A : FVec Ideal S4096x16 .f32) : FVec Ideal S16x16x256 .f32 :=
  transpose S16x16x256 [0, 2, 1] (shapeCast _ A shapeCasts_S4096x16_S16x256x16) transposes_S16x256x16_S16x16x256_0_2_1

set_option maxRecDepth 16384 in
theorem refRes_apply (X0 : FVec Ideal S4096x1024 .f32) (X1 X2 : FVec Ideal S4096x512 .bf16) (X3 : FVec Ideal S1024x1024 .bf16) (X4 : FVec Ideal S1x6x1024 .f32) (r : Fin 4096) (d : Fin 1024) :
    refRes X0 X1 X2 X3 X4 (ix2 r d) = resid (fun d => X0 (ix2 r d)) (fun f => X1 (ix2 r f)) (fun f => X2 (ix2 r f)) (fun f d => X3 (ix2 f d)) (fun d => X4 (ix3 0 2 d)) d := by
  have e : refRes X0 X1 X2 X3 X4 (ix2 r d) = X0 (ix2 r d) + X4 (ix3 0 2 d) * ∑ f : Fin 1024, (if h : f.val < 512 then X1 (ix2 r ⟨f.val, h⟩) else X2 (ix2 r ⟨f.val - 512, by omega⟩)) * X3 (ix2 f d) := by
    unfold refRes
    pointwise
  rw [e]
  unfold resid
  refine congrArg (fun z => X0 (ix2 r d) + X4 (ix3 0 2 d) * z) ?_
  rw [show (∑ f : Fin 1024, (if h : f.val < 512 then X1 (ix2 r ⟨f.val, h⟩) else X2 (ix2 r ⟨f.val - 512, by omega⟩)) * X3 (ix2 f d)) = ∑ f : Fin (512 + 512), (if h : f.val < 512 then X1 (ix2 r ⟨f.val, h⟩) else X2 (ix2 r ⟨f.val - 512, by omega⟩)) * X3 (ix2 f d) from rfl, Fin.sum_univ_add]
  refine congrArg₂ (· + ·) (Finset.sum_congr rfl fun f _ => ?_) (Finset.sum_congr rfl fun f _ => ?_)
  · rw [dif_pos (by simp)]; rfl
  · rw [dif_neg (by simp)]
    refine congrArg (fun k => X2 (ix2 r k) * X3 (ix2 (Fin.natAdd 512 f) d)) (Fin.ext ?_)
    show 512 + f.val - 512 = f.val
    omega

set_option maxRecDepth 16384 in
theorem refNorm_apply (Y : FVec Ideal S4096x1024 .f32) (X4 : FVec Ideal S1x6x1024 .f32) (X5 : FVec Ideal S1x1024 .f32) (r : Fin 4096) (d : Fin 1024) :
    refNorm Y X4 X5 (ix2 r d) = modNorm (fun d => Y (ix2 r d)) (fun d => X5 (ix2 0 d)) (fun d => X4 (ix3 0 3 d)) (fun d => X4 (ix3 0 4 d)) d := by
  unfold refNorm modNorm Cert.Front.inv Cert.Front.eps
  pointwise

theorem refLogit_apply (H : FVec Ideal S4096x1024 .f32) (X6 X7 : FVec Ideal S1024x128 .bf16) (r : Fin 4096) (e : Fin 16) :
    refLogit H X6 X7 (ix2 r e) = logit (fun d => H (ix2 r d)) (fun d e => X6 (ix2 d e)) (fun d e => X7 (ix2 d e)) e := by
  unfold refLogit logit
  pointwise

set_option maxRecDepth 16384 in
theorem refGate_apply (L : FVec Ideal S4096x16 .f32) (r : Fin 4096) (e : Fin 16) :
    refGate L (ix2 r e) = gate (fun e => L (ix2 r e)) e := by
  have q : refGate L (ix2 r e) = Ideal.div (Ideal.exp (L (ix2 r e) - max (⊥ : EReal) (Finset.univ.fold max ⊥ fun e => L (ix2 r e))))
      (∑ i, Ideal.exp (L (ix2 r i) - max (⊥ : EReal) (Finset.univ.fold max ⊥ fun e => L (ix2 r e)))) := by
    unfold refGate
    simp only [← negInf_eq]
    pointwise
  rw [q]
  simp only [max_eq_right bot_le]
  rfl

theorem refTurn_apply (A : FVec Ideal S4096x16 .f32) (b e : Fin 16) (n : Fin 256) :
    refTurn A (ix3 b e n) = A (ix2 ⟨b.val * 256 + n.val, by omega⟩ e) := by
  unfold refTurn
  pointwise

set_option maxRecDepth 16384 in
theorem refRow_apply (H : FVec Ideal S4096x1024 .f32) (A : FVec Ideal S4096x16 .f32) (r : Fin 4096) (k : Fin 1152) :
    refRow H A (ix2 r k) = if h : k.val < 1024 then H (ix2 r ⟨k.val, h⟩) else spread (fun e => A (ix2 r e)) ⟨k.val - 1024, by omega⟩ := by
  unfold refRow spread
  pointwise

end Cert.Post
-- ==== Proof.Post.Equal.lean ====
module

public import proofs.«01_k».proof.Proof.Post.Array
public import proofs.«01_k».proof.Proof.Post.Ref

/-! The call's outputs are the reference's. -/

@[expose] public section
noncomputable section
namespace Cert.Post
open Idealize.ShloMosaic Cert.Att Cert.Reference4Ideal Cert.Reference4Ideal.Value

theorem ext2 {α : Type} {a b : Nat} {f g : (⟨2, ![a, b]⟩ : Shape).Idx → α}
    (h : ∀ (x : Fin a) (y : Fin b), f (ix2 x y) = g (ix2 x y)) : f = g :=
  funext fun i => by
    have e : i = ix2 (i 0) (i 1) := by
      refine funext fun k => ?_
      match k with
      | ⟨0, _⟩ => rfl
      | ⟨1, _⟩ => rfl
    exact ((congrArg f e).trans (h (i 0) (i 1))).trans (congrArg g e.symm)

theorem ext3 {α : Type} {a b c : Nat} {f g : (⟨3, ![a, b, c]⟩ : Shape).Idx → α}
    (h : ∀ (x : Fin a) (y : Fin b) (z : Fin c), f (ix3 x y z) = g (ix3 x y z)) : f = g :=
  funext fun i => by
    have e : i = ix3 (i 0) (i 1) (i 2) := by
      refine funext fun k => ?_
      match k with
      | ⟨0, _⟩ => rfl
      | ⟨1, _⟩ => rfl
      | ⟨2, _⟩ => rfl
    exact ((congrArg f e).trans (h (i 0) (i 1) (i 2))).trans (congrArg g e.symm)

variable (m : (ℓ : Loc nD τ sig) → Buf (Elt Ideal) ℓ) (c : Dev nD)
variable (X0 : FVec Ideal S4096x1024 .f32) (X1 : FVec Ideal S4096x512 .bf16) (X2 : FVec Ideal S4096x512 .bf16) (X3 : FVec Ideal S1024x1024 .bf16) (X4 : FVec Ideal S1x6x1024 .f32) (X5 : FVec Ideal S1x1024 .f32) (X6 : FVec Ideal S1024x128 .bf16) (X7 : FVec Ideal S1024x128 .bf16)

theorem norm_eq (r : Fin 4096) : (fun d => refNorm (refRes X0 X1 X2 X3 X4) X4 X5 (ix2 r d)) = normRow (fun d => X0 (ix2 r d)) (fun f => X1 (ix2 r f)) (fun f => X2 (ix2 r f)) (fun f d => X3 (ix2 f d)) (fun a d => X4 (ix3 0 a d)) (fun d => X5 (ix2 0 d)) :=
  funext fun d => by
    rw [refNorm_apply, show (fun d => refRes X0 X1 X2 X3 X4 (ix2 r d)) = resRow (fun d => X0 (ix2 r d)) (fun f => X1 (ix2 r f)) (fun f => X2 (ix2 r f)) (fun f d => X3 (ix2 f d)) (fun a d => X4 (ix3 0 a d)) from funext fun d => refRes_apply X0 X1 X2 X3 X4 r d]
    rfl

theorem gate_eq (r : Fin 4096) : (fun e => refGate (refLogit (refNorm (refRes X0 X1 X2 X3 X4) X4 X5) X6 X7) (ix2 r e)) = gateRow (fun d => X0 (ix2 r d)) (fun f => X1 (ix2 r f)) (fun f => X2 (ix2 r f)) (fun f d => X3 (ix2 f d)) (fun a d => X4 (ix3 0 a d)) (fun d => X5 (ix2 0 d)) (fun d e => X6 (ix2 d e)) (fun d e => X7 (ix2 d e)) :=
  funext fun e => by
    rw [refGate_apply, show (fun e => refLogit (refNorm (refRes X0 X1 X2 X3 X4) X4 X5) X6 X7 (ix2 r e)) = logit (normRow (fun d => X0 (ix2 r d)) (fun f => X1 (ix2 r f)) (fun f => X2 (ix2 r f)) (fun f d => X3 (ix2 f d)) (fun a d => X4 (ix3 0 a d)) (fun d => X5 (ix2 0 d))) (fun d e => X6 (ix2 d e)) (fun d e => X7 (ix2 d e)) from
      funext fun e => by rw [refLogit_apply, norm_eq]]
    rfl

theorem arrRes_eq : arrRes X0 X1 X2 X3 X4 = refRes X0 X1 X2 X3 X4 :=
  ext2 fun r d => (refRes_apply X0 X1 X2 X3 X4 r d).symm

theorem arrWide_eq : arrWide X0 X1 X2 X3 X4 X5 X6 X7 = refRow (refNorm (refRes X0 X1 X2 X3 X4) X4 X5) (refGate (refLogit (refNorm (refRes X0 X1 X2 X3 X4) X4 X5) X6 X7)) :=
  ext2 fun r k => by
    rw [refRow_apply]
    exact (congrArg₂ (fun h g => wide h g k) (norm_eq X0 X1 X2 X3 X4 X5 r) (gate_eq X0 X1 X2 X3 X4 X5 X6 X7 r)).symm

theorem arrTurn_eq : arrTurn X0 X1 X2 X3 X4 X5 X6 X7 = refTurn (refGate (refLogit (refNorm (refRes X0 X1 X2 X3 X4) X4 X5) X6 X7)) :=
  ext3 fun b e n => by
    rw [refTurn_apply]
    exact (congrFun (gate_eq X0 X1 X2 X3 X4 X5 X6 X7 (token b n)) e).symm

theorem wide_res : res_main_v55 m c = refRow (refNorm (refRes (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg4)) (m ((c.tc : Thread nD τ).loc main_arg5))) (refGate (refLogit (refNorm (refRes (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg4)) (m ((c.tc : Thread nD τ).loc main_arg5))) (m ((c.tc : Thread nD τ).loc main_arg6)) (m ((c.tc : Thread nD τ).loc main_arg7)))) := rfl

theorem turn_res : res_main_v57 m c = refTurn (refGate (refLogit (refNorm (refRes (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg4)) (m ((c.tc : Thread nD τ).loc main_arg5))) (m ((c.tc : Thread nD τ).loc main_arg6)) (m ((c.tc : Thread nD τ).loc main_arg7)))) := rfl

end Cert.Post
-- ==== Proof.Post.Claims.lean ====
module

public import proofs.«01_k».proof.Defs
public import proofs.«01_k».proof.Proof.Gen.Reference4Ideal.Run
public import proofs.«01_k».proof.Proof.Post.Pre
public import proofs.«01_k».proof.Proof.Post.Equal

/-! The algebraic claim about the call after the attention, assembled. -/

@[expose] public section
noncomputable section
namespace Cert.Post
open Idealize.ShloMosaic Idealize.SL.Sem

theorem algebraic : Cert.algebraic_Kernel4Ideal_Reference4Ideal_pre_finite_norm_and_router (hKernel4Ideal := Cert.Kernel4Ideal.Gen.facts)
    (hReference4Ideal := Cert.Reference4Ideal.Gen.facts) (hPre_finite_norm_and_router := Cert.Pre_finite_norm_and_router.Gen.facts) := by
  intro m g m' g' hpre hargs
  refine ⟨fun c => arrRes (m ((c.tc : Thread _ _).loc Cert.Kernel4Ideal.main_arg0)) (m ((c.tc : Thread _ _).loc Cert.Kernel4Ideal.main_arg1)) (m ((c.tc : Thread _ _).loc Cert.Kernel4Ideal.main_arg2)) (m ((c.tc : Thread _ _).loc Cert.Kernel4Ideal.main_arg3)) (m ((c.tc : Thread _ _).loc Cert.Kernel4Ideal.main_arg4)),
    fun c => arrWide (m ((c.tc : Thread _ _).loc Cert.Kernel4Ideal.main_arg0)) (m ((c.tc : Thread _ _).loc Cert.Kernel4Ideal.main_arg1)) (m ((c.tc : Thread _ _).loc Cert.Kernel4Ideal.main_arg2)) (m ((c.tc : Thread _ _).loc Cert.Kernel4Ideal.main_arg3)) (m ((c.tc : Thread _ _).loc Cert.Kernel4Ideal.main_arg4)) (m ((c.tc : Thread _ _).loc Cert.Kernel4Ideal.main_arg5)) (m ((c.tc : Thread _ _).loc Cert.Kernel4Ideal.main_arg6)) (m ((c.tc : Thread _ _).loc Cert.Kernel4Ideal.main_arg7)),
    fun c => arrTurn (m ((c.tc : Thread _ _).loc Cert.Kernel4Ideal.main_arg0)) (m ((c.tc : Thread _ _).loc Cert.Kernel4Ideal.main_arg1)) (m ((c.tc : Thread _ _).loc Cert.Kernel4Ideal.main_arg2)) (m ((c.tc : Thread _ _).loc Cert.Kernel4Ideal.main_arg3)) (m ((c.tc : Thread _ _).loc Cert.Kernel4Ideal.main_arg4)) (m ((c.tc : Thread _ _).loc Cert.Kernel4Ideal.main_arg5)) (m ((c.tc : Thread _ _).loc Cert.Kernel4Ideal.main_arg6)) (m ((c.tc : Thread _ _).loc Cert.Kernel4Ideal.main_arg7)), ?_, ?_⟩
  · refine (θ_run (Cert.Kernel4Ideal.defs (F := Ideal)) _ _).mono (fun r h c => ?_) (Cert.Kernel4Ideal.Value.run_blocks m g)
    obtain ⟨h0, h1, h2, h⟩ := h c
    obtain ⟨hg, hs, hc, hu, hv⟩ := pre_elems _ _ _ _ _ _ _ _ (hpre c)
    exact ⟨h0.trans (final8 m c), h1.trans (final9 m c hg hs hc hu hv), h2.trans (final10 m c hg hs hc hu hv), h⟩
  · refine (θ_run (Cert.Reference4Ideal.defs (F := Ideal)) _ _).mono (fun r h c => ?_) (Cert.Reference4Ideal.Value.run (F := Ideal) m' g')
    obtain ⟨h0, h1, h2, h⟩ := h c
    obtain ⟨a0, a1, a2, a3, a4, a5, a6, a7⟩ := hargs c
    refine ⟨?_, ?_, ?_, h⟩
    · refine h0.trans ?_
      rw [a0, a1, a2, a3, a4]
      exact (arrRes_eq _ _ _ _ _).symm
    · refine (h1.trans (wide_res m' c)).trans ?_
      rw [a0, a1, a2, a3, a4, a5, a6, a7]
      exact (arrWide_eq _ _ _ _ _ _ _ _).symm
    · refine (h2.trans (turn_res m' c)).trans ?_
      rw [a0, a1, a2, a3, a4, a5, a6, a7]
      exact (arrTurn_eq _ _ _ _ _ _ _ _).symm

theorem no_sem (x : GSem Cert.Reference4Ideal.nD Cert.Reference4Ideal.τ Cert.Reference4Ideal.sig) : False := by
  obtain ⟨_, s⟩ := x
  rcases s with s | s <;> exact Nat.not_lt_zero _ s.2

theorem reference_frame (m : (ℓ : Loc Cert.Reference4Ideal.nD Cert.Reference4Ideal.τ Cert.Reference4Ideal.sig) → Buf (Elt Ideal) ℓ)
    (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0) :=
  (θ_run (Cert.Reference4Ideal.defs (F := Ideal)) _ _).mono (fun _ h => ⟨fun c => (h c).2.2.2, funext fun x => (no_sem x).elim⟩)
    (Cert.Reference4Ideal.Value.run (F := Ideal) m g)

end Cert.Post
-- ==== Proof.lean ====
module

public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Pre_finite_norm_and_router
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_with_ones_lane
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Loops
public import proofs.«01_k».proof.Proof.Gen.Kernel2.Launch
public import proofs.«01_k».proof.Proof.Gen.Kernel2Ideal
public import proofs.«01_k».proof.Proof.Gen.Kernel2Ideal.Skeleton
public import proofs.«01_k».proof.Proof.Gen.Kernel2Ideal.Loops
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Pre_rows_then_blanks
public import proofs.«01_k».proof.Proof.Att.Claims
public import proofs.«01_k».proof.Proof.Ffn.Claims
public import proofs.«01_k».proof.Proof.Front.Claims
public import proofs.«01_k».proof.Proof.Post.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Pre_finite_with_ones_lane.Gen.facts, Cert.Pre_rows_then_blanks.Gen.facts, Cert.Pre_finite_norm_and_router.Gen.facts,
  fun m ρ _ => Cert.Kernel.Gen.frame m ρ,
  fun m ρ _ => Cert.KernelIdeal.Gen.frame m ρ,
  fun m ρ _ => Cert.KernelIdeal.Gen.frame m ρ,
  fun m ρ _ => Cert.Att.reference_frame m ρ,
  fun m ρ _ => Cert.Att.reference_frame m ρ,
  Cert.Proof.Ffn.frame_bits,
  Cert.Proof.Ffn.frame_ideal,
  fun m ρ _ => Cert.Proof.Ffn.ref_frame m ρ,
  fun m ρ _ => Cert.Proof.Ffn.ref_frame m ρ,
  fun m ρ _ => Cert.Kernel3.Gen.frame m ρ,
  fun m ρ _ => Cert.Kernel3Ideal.Gen.frame m ρ,
  fun m ρ _ => Cert.Front.reference_frame m ρ,
  fun m ρ _ => Cert.Kernel4.Gen.frame m ρ,
  fun m ρ _ => Cert.Kernel4Ideal.Gen.frame m ρ,
  fun m ρ _ => Cert.Kernel4Ideal.Gen.frame m ρ,
  fun m ρ _ => Cert.Post.reference_frame m ρ,
  fun m ρ _ => Cert.Post.reference_frame m ρ,
  trivial,
  Cert.Att.algebraic,
  trivial,
  Cert.Proof.Ffn.algebraic,
  IdealRules.named_const.statement Cert.Kernel3Ideal.κ "one96th" .f32 0x3C2AAAAB#32 ((1 / 96 : ℝ) : EReal) rfl,
  Cert.Front.algebraic,
  trivial,
  Cert.Post.algebraic⟩

end Cert.Proof

end
